-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamBs (m : (ℓ : Loc Cert.AdamBs.nD Cert.AdamBs.τ Cert.AdamBs.sig) → Buf (Elt Bits) ℓ) : Prop :=
  True

def Pre_AdamBsIdeal (m : (ℓ : Loc Cert.AdamBsIdeal.nD Cert.AdamBsIdeal.τ Cert.AdamBsIdeal.sig) → Buf (Elt Ideal) ℓ) : Prop :=
  True

def Pre_AdamBsRefIdeal (m : (ℓ : Loc Cert.AdamBsRefIdeal.nD Cert.AdamBsRefIdeal.τ Cert.AdamBsRefIdeal.sig) → Buf (Elt Ideal) ℓ) : Prop :=
  True

def Pre_AdamBp (m : (ℓ : Loc Cert.AdamBp.nD Cert.AdamBp.τ Cert.AdamBp.sig) → Buf (Elt Bits) ℓ) : Prop :=
  True

def Pre_AdamBpIdeal (m : (ℓ : Loc Cert.AdamBpIdeal.nD Cert.AdamBpIdeal.τ Cert.AdamBpIdeal.sig) → Buf (Elt Ideal) ℓ) : Prop :=
  True

def Pre_AdamBpRefIdeal (m : (ℓ : Loc Cert.AdamBpRefIdeal.nD Cert.AdamBpRefIdeal.τ Cert.AdamBpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Totals (m : (ℓ : Loc Cert.Totals.nD Cert.Totals.τ Cert.Totals.sig) → Buf (Elt Bits) ℓ) : Prop :=
  True

def Pre_TotalsIdeal (m : (ℓ : Loc Cert.TotalsIdeal.nD Cert.TotalsIdeal.τ Cert.TotalsIdeal.sig) → Buf (Elt Ideal) ℓ) : Prop :=
  True

def Pre_TotalsRefIdeal (m : (ℓ : Loc Cert.TotalsRefIdeal.nD Cert.TotalsRefIdeal.τ Cert.TotalsRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_MidNorm (m : (ℓ : Loc Cert.MidNorm.nD Cert.MidNorm.τ Cert.MidNorm.sig) → Buf (Elt Bits) ℓ) : Prop :=
  True

def Pre_MidNormIdeal (m : (ℓ : Loc Cert.MidNormIdeal.nD Cert.MidNormIdeal.τ Cert.MidNormIdeal.sig) → Buf (Elt Ideal) ℓ) : Prop :=
  True

def Pre_MidNormRefIdeal (m : (ℓ : Loc Cert.MidNormRefIdeal.nD Cert.MidNormRefIdeal.τ Cert.MidNormRefIdeal.sig) → Buf (Elt Ideal) ℓ) : Prop :=
  True

def Pre_PostFfn (m : (ℓ : Loc Cert.PostFfn.nD Cert.PostFfn.τ Cert.PostFfn.sig) → Buf (Elt Bits) ℓ) : Prop :=
  True

def Pre_PostFfnIdeal (m : (ℓ : Loc Cert.PostFfnIdeal.nD Cert.PostFfnIdeal.τ Cert.PostFfnIdeal.sig) → Buf (Elt Ideal) ℓ) : Prop :=
  True

def Pre_PostFfnRefIdeal (m : (ℓ : Loc Cert.PostFfnRefIdeal.nD Cert.PostFfnRefIdeal.τ Cert.PostFfnRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3)
      ∧ r.2.mem ((c.tc : Thread Cert.Exchange.nD Cert.Exchange.τ).loc Cert.Exchange.main_arg4) = m ((c.tc : Thread Cert.Exchange.nD Cert.Exchange.τ).loc Cert.Exchange.main_arg4)
      ∧ r.2.mem ((c.tc : Thread Cert.Exchange.nD Cert.Exchange.τ).loc Cert.Exchange.main_arg5) = m ((c.tc : Thread Cert.Exchange.nD Cert.Exchange.τ).loc Cert.Exchange.main_arg5)
      ∧ r.2.mem ((c.tc : Thread Cert.Exchange.nD Cert.Exchange.τ).loc Cert.Exchange.main_arg6) = m ((c.tc : Thread Cert.Exchange.nD Cert.Exchange.τ).loc Cert.Exchange.main_arg6)
      ∧ r.2.mem ((c.tc : Thread Cert.Exchange.nD Cert.Exchange.τ).loc Cert.Exchange.main_arg7) = m ((c.tc : Thread Cert.Exchange.nD Cert.Exchange.τ).loc Cert.Exchange.main_arg7))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
      ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
      ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
      ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1)
      ∧ r.2.mem ((c.tc : Thread Cert.ExchangeRefIdeal.nD Cert.ExchangeRefIdeal.τ).loc Cert.ExchangeRefIdeal.main_arg2) = m ((c.tc : Thread Cert.ExchangeRefIdeal.nD Cert.ExchangeRefIdeal.τ).loc Cert.ExchangeRefIdeal.main_arg2)
      ∧ r.2.mem ((c.tc : Thread Cert.ExchangeRefIdeal.nD Cert.ExchangeRefIdeal.τ).loc Cert.ExchangeRefIdeal.main_arg3) = m ((c.tc : Thread Cert.ExchangeRefIdeal.nD Cert.ExchangeRefIdeal.τ).loc Cert.ExchangeRefIdeal.main_arg3)
      ∧ r.2.mem ((c.tc : Thread Cert.ExchangeRefIdeal.nD Cert.ExchangeRefIdeal.τ).loc Cert.ExchangeRefIdeal.main_arg4) = m ((c.tc : Thread Cert.ExchangeRefIdeal.nD Cert.ExchangeRefIdeal.τ).loc Cert.ExchangeRefIdeal.main_arg4)
      ∧ r.2.mem ((c.tc : Thread Cert.ExchangeRefIdeal.nD Cert.ExchangeRefIdeal.τ).loc Cert.ExchangeRefIdeal.main_arg5) = m ((c.tc : Thread Cert.ExchangeRefIdeal.nD Cert.ExchangeRefIdeal.τ).loc Cert.ExchangeRefIdeal.main_arg5)
      ∧ r.2.mem ((c.tc : Thread Cert.ExchangeRefIdeal.nD Cert.ExchangeRefIdeal.τ).loc Cert.ExchangeRefIdeal.main_arg6) = m ((c.tc : Thread Cert.ExchangeRefIdeal.nD Cert.ExchangeRefIdeal.τ).loc Cert.ExchangeRefIdeal.main_arg6)
      ∧ r.2.mem ((c.tc : Thread Cert.ExchangeRefIdeal.nD Cert.ExchangeRefIdeal.τ).loc Cert.ExchangeRefIdeal.main_arg7) = m ((c.tc : Thread Cert.ExchangeRefIdeal.nD Cert.ExchangeRefIdeal.τ).loc Cert.ExchangeRefIdeal.main_arg7))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1)
      ∧ r.2.mem ((c.tc : Thread Cert.ExchangeRef.nD Cert.ExchangeRef.τ).loc Cert.ExchangeRef.main_arg2) = m ((c.tc : Thread Cert.ExchangeRef.nD Cert.ExchangeRef.τ).loc Cert.ExchangeRef.main_arg2)
      ∧ r.2.mem ((c.tc : Thread Cert.ExchangeRef.nD Cert.ExchangeRef.τ).loc Cert.ExchangeRef.main_arg3) = m ((c.tc : Thread Cert.ExchangeRef.nD Cert.ExchangeRef.τ).loc Cert.ExchangeRef.main_arg3)
      ∧ r.2.mem ((c.tc : Thread Cert.ExchangeRef.nD Cert.ExchangeRef.τ).loc Cert.ExchangeRef.main_arg4) = m ((c.tc : Thread Cert.ExchangeRef.nD Cert.ExchangeRef.τ).loc Cert.ExchangeRef.main_arg4)
      ∧ r.2.mem ((c.tc : Thread Cert.ExchangeRef.nD Cert.ExchangeRef.τ).loc Cert.ExchangeRef.main_arg5) = m ((c.tc : Thread Cert.ExchangeRef.nD Cert.ExchangeRef.τ).loc Cert.ExchangeRef.main_arg5)
      ∧ r.2.mem ((c.tc : Thread Cert.ExchangeRef.nD Cert.ExchangeRef.τ).loc Cert.ExchangeRef.main_arg6) = m ((c.tc : Thread Cert.ExchangeRef.nD Cert.ExchangeRef.τ).loc Cert.ExchangeRef.main_arg6)
      ∧ r.2.mem ((c.tc : Thread Cert.ExchangeRef.nD Cert.ExchangeRef.τ).loc Cert.ExchangeRef.main_arg7) = m ((c.tc : Thread Cert.ExchangeRef.nD Cert.ExchangeRef.τ).loc Cert.ExchangeRef.main_arg7))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6)
      ∧ r.2.mem ((c.tc : Thread Cert.Weights.nD Cert.Weights.τ).loc Cert.Weights.main_arg7) = m ((c.tc : Thread Cert.Weights.nD Cert.Weights.τ).loc Cert.Weights.main_arg7)
      ∧ r.2.mem ((c.tc : Thread Cert.Weights.nD Cert.Weights.τ).loc Cert.Weights.main_arg8) = m ((c.tc : Thread Cert.Weights.nD Cert.Weights.τ).loc Cert.Weights.main_arg8)
      ∧ r.2.mem ((c.tc : Thread Cert.Weights.nD Cert.Weights.τ).loc Cert.Weights.main_arg9) = m ((c.tc : Thread Cert.Weights.nD Cert.Weights.τ).loc Cert.Weights.main_arg9))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
      ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
      ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
      ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5)
      ∧ r.2.mem ((c.tc : Thread Cert.WeightsRefIdeal.nD Cert.WeightsRefIdeal.τ).loc Cert.WeightsRefIdeal.main_arg6) = m ((c.tc : Thread Cert.WeightsRefIdeal.nD Cert.WeightsRefIdeal.τ).loc Cert.WeightsRefIdeal.main_arg6)
      ∧ r.2.mem ((c.tc : Thread Cert.WeightsRefIdeal.nD Cert.WeightsRefIdeal.τ).loc Cert.WeightsRefIdeal.main_arg7) = m ((c.tc : Thread Cert.WeightsRefIdeal.nD Cert.WeightsRefIdeal.τ).loc Cert.WeightsRefIdeal.main_arg7)
      ∧ r.2.mem ((c.tc : Thread Cert.WeightsRefIdeal.nD Cert.WeightsRefIdeal.τ).loc Cert.WeightsRefIdeal.main_arg8) = m ((c.tc : Thread Cert.WeightsRefIdeal.nD Cert.WeightsRefIdeal.τ).loc Cert.WeightsRefIdeal.main_arg8)
      ∧ r.2.mem ((c.tc : Thread Cert.WeightsRefIdeal.nD Cert.WeightsRefIdeal.τ).loc Cert.WeightsRefIdeal.main_arg9) = m ((c.tc : Thread Cert.WeightsRefIdeal.nD Cert.WeightsRefIdeal.τ).loc Cert.WeightsRefIdeal.main_arg9))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0)
      ∧ r.2.mem ((c.tc : Thread Cert.WeightsRef.nD Cert.WeightsRef.τ).loc Cert.WeightsRef.main_arg1) = m ((c.tc : Thread Cert.WeightsRef.nD Cert.WeightsRef.τ).loc Cert.WeightsRef.main_arg1)
      ∧ r.2.mem ((c.tc : Thread Cert.WeightsRef.nD Cert.WeightsRef.τ).loc Cert.WeightsRef.main_arg2) = m ((c.tc : Thread Cert.WeightsRef.nD Cert.WeightsRef.τ).loc Cert.WeightsRef.main_arg2)
      ∧ r.2.mem ((c.tc : Thread Cert.WeightsRef.nD Cert.WeightsRef.τ).loc Cert.WeightsRef.main_arg3) = m ((c.tc : Thread Cert.WeightsRef.nD Cert.WeightsRef.τ).loc Cert.WeightsRef.main_arg3)
      ∧ r.2.mem ((c.tc : Thread Cert.WeightsRef.nD Cert.WeightsRef.τ).loc Cert.WeightsRef.main_arg4) = m ((c.tc : Thread Cert.WeightsRef.nD Cert.WeightsRef.τ).loc Cert.WeightsRef.main_arg4)
      ∧ r.2.mem ((c.tc : Thread Cert.WeightsRef.nD Cert.WeightsRef.τ).loc Cert.WeightsRef.main_arg5) = m ((c.tc : Thread Cert.WeightsRef.nD Cert.WeightsRef.τ).loc Cert.WeightsRef.main_arg5)
      ∧ r.2.mem ((c.tc : Thread Cert.WeightsRef.nD Cert.WeightsRef.τ).loc Cert.WeightsRef.main_arg6) = m ((c.tc : Thread Cert.WeightsRef.nD Cert.WeightsRef.τ).loc Cert.WeightsRef.main_arg6)
      ∧ r.2.mem ((c.tc : Thread Cert.WeightsRef.nD Cert.WeightsRef.τ).loc Cert.WeightsRef.main_arg7) = m ((c.tc : Thread Cert.WeightsRef.nD Cert.WeightsRef.τ).loc Cert.WeightsRef.main_arg7)
      ∧ r.2.mem ((c.tc : Thread Cert.WeightsRef.nD Cert.WeightsRef.τ).loc Cert.WeightsRef.main_arg8) = m ((c.tc : Thread Cert.WeightsRef.nD Cert.WeightsRef.τ).loc Cert.WeightsRef.main_arg8)
      ∧ r.2.mem ((c.tc : Thread Cert.WeightsRef.nD Cert.WeightsRef.τ).loc Cert.WeightsRef.main_arg9) = m ((c.tc : Thread Cert.WeightsRef.nD Cert.WeightsRef.τ).loc Cert.WeightsRef.main_arg9))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamBs [hAdamBs : Cert.AdamBs.Facts] : Prop :=
  ∀ (m : (ℓ : Loc Cert.AdamBs.nD Cert.AdamBs.τ Cert.AdamBs.sig) → Buf (Elt Bits) ℓ) (g : Dev Cert.AdamBs.nD → PrngReg), Pre_AdamBs m →
    θ_run (Cert.AdamBs.defs (F := Bits)) (onTc (τ := Cert.AdamBs.τ) (Cert.AdamBs.main (F := Bits))) ⟨m, fun _ => 0, g⟩ (fun r => (∀ c : Dev Cert.AdamBs.nD,
      r.2.mem ((c.tc : Thread Cert.AdamBs.nD Cert.AdamBs.τ).loc Cert.AdamBs.main_arg0) = m ((c.tc : Thread Cert.AdamBs.nD Cert.AdamBs.τ).loc Cert.AdamBs.main_arg0)
      ∧ r.2.mem ((c.tc : Thread Cert.AdamBs.nD Cert.AdamBs.τ).loc Cert.AdamBs.main_arg1) = m ((c.tc : Thread Cert.AdamBs.nD Cert.AdamBs.τ).loc Cert.AdamBs.main_arg1)
      ∧ r.2.mem ((c.tc : Thread Cert.AdamBs.nD Cert.AdamBs.τ).loc Cert.AdamBs.main_arg2) = m ((c.tc : Thread Cert.AdamBs.nD Cert.AdamBs.τ).loc Cert.AdamBs.main_arg2)
      ∧ r.2.mem ((c.tc : Thread Cert.AdamBs.nD Cert.AdamBs.τ).loc Cert.AdamBs.main_arg3) = m ((c.tc : Thread Cert.AdamBs.nD Cert.AdamBs.τ).loc Cert.AdamBs.main_arg3))
      ∧ r.2.sem = fun _ => 0)

def quiescent_AdamBsIdeal [hAdamBsIdeal : Cert.AdamBsIdeal.Facts] : Prop :=
  ∀ (m : (ℓ : Loc Cert.AdamBsIdeal.nD Cert.AdamBsIdeal.τ Cert.AdamBsIdeal.sig) → Buf (Elt Ideal) ℓ) (g : Dev Cert.AdamBsIdeal.nD → PrngReg), Pre_AdamBsIdeal m →
    θ_run (Cert.AdamBsIdeal.defs (F := Ideal)) (onTc (τ := Cert.AdamBsIdeal.τ) (Cert.AdamBsIdeal.main (F := Ideal))) ⟨m, fun _ => 0, g⟩ (fun r => (∀ c : Dev Cert.AdamBsIdeal.nD,
      r.2.mem ((c.tc : Thread Cert.AdamBsIdeal.nD Cert.AdamBsIdeal.τ).loc Cert.AdamBsIdeal.main_arg0) = m ((c.tc : Thread Cert.AdamBsIdeal.nD Cert.AdamBsIdeal.τ).loc Cert.AdamBsIdeal.main_arg0)
      ∧ r.2.mem ((c.tc : Thread Cert.AdamBsIdeal.nD Cert.AdamBsIdeal.τ).loc Cert.AdamBsIdeal.main_arg1) = m ((c.tc : Thread Cert.AdamBsIdeal.nD Cert.AdamBsIdeal.τ).loc Cert.AdamBsIdeal.main_arg1)
      ∧ r.2.mem ((c.tc : Thread Cert.AdamBsIdeal.nD Cert.AdamBsIdeal.τ).loc Cert.AdamBsIdeal.main_arg2) = m ((c.tc : Thread Cert.AdamBsIdeal.nD Cert.AdamBsIdeal.τ).loc Cert.AdamBsIdeal.main_arg2)
      ∧ r.2.mem ((c.tc : Thread Cert.AdamBsIdeal.nD Cert.AdamBsIdeal.τ).loc Cert.AdamBsIdeal.main_arg3) = m ((c.tc : Thread Cert.AdamBsIdeal.nD Cert.AdamBsIdeal.τ).loc Cert.AdamBsIdeal.main_arg3))
      ∧ r.2.sem = fun _ => 0)

def quiescent_AdamBsRefIdeal [hAdamBsRefIdeal : Cert.AdamBsRefIdeal.Facts] : Prop :=
  ∀ (m : (ℓ : Loc Cert.AdamBsRefIdeal.nD Cert.AdamBsRefIdeal.τ Cert.AdamBsRefIdeal.sig) → Buf (Elt Ideal) ℓ) (g : Dev Cert.AdamBsRefIdeal.nD → PrngReg), Pre_AdamBsRefIdeal m →
    θ_run (Cert.AdamBsRefIdeal.defs (F := Ideal)) (onTc (τ := Cert.AdamBsRefIdeal.τ) (Cert.AdamBsRefIdeal.main (F := Ideal))) ⟨m, fun _ => 0, g⟩ (fun r => (∀ c : Dev Cert.AdamBsRefIdeal.nD,
      r.2.mem ((c.tc : Thread Cert.AdamBsRefIdeal.nD Cert.AdamBsRefIdeal.τ).loc Cert.AdamBsRefIdeal.main_arg0) = m ((c.tc : Thread Cert.AdamBsRefIdeal.nD Cert.AdamBsRefIdeal.τ).loc Cert.AdamBsRefIdeal.main_arg0)
      ∧ r.2.mem ((c.tc : Thread Cert.AdamBsRefIdeal.nD Cert.AdamBsRefIdeal.τ).loc Cert.AdamBsRefIdeal.main_arg1) = m ((c.tc : Thread Cert.AdamBsRefIdeal.nD Cert.AdamBsRefIdeal.τ).loc Cert.AdamBsRefIdeal.main_arg1)
      ∧ r.2.mem ((c.tc : Thread Cert.AdamBsRefIdeal.nD Cert.AdamBsRefIdeal.τ).loc Cert.AdamBsRefIdeal.main_arg2) = m ((c.tc : Thread Cert.AdamBsRefIdeal.nD Cert.AdamBsRefIdeal.τ).loc Cert.AdamBsRefIdeal.main_arg2)
      ∧ r.2.mem ((c.tc : Thread Cert.AdamBsRefIdeal.nD Cert.AdamBsRefIdeal.τ).loc Cert.AdamBsRefIdeal.main_arg3) = m ((c.tc : Thread Cert.AdamBsRefIdeal.nD Cert.AdamBsRefIdeal.τ).loc Cert.AdamBsRefIdeal.main_arg3))
      ∧ r.2.sem = fun _ => 0)

def quiescent_AdamBp [hAdamBp : Cert.AdamBp.Facts] : Prop :=
  ∀ (m : (ℓ : Loc Cert.AdamBp.nD Cert.AdamBp.τ Cert.AdamBp.sig) → Buf (Elt Bits) ℓ) (g : Dev Cert.AdamBp.nD → PrngReg), Pre_AdamBp m →
    θ_run (Cert.AdamBp.defs (F := Bits)) (onTc (τ := Cert.AdamBp.τ) (Cert.AdamBp.main (F := Bits))) ⟨m, fun _ => 0, g⟩ (fun r => (∀ c : Dev Cert.AdamBp.nD,
      r.2.mem ((c.tc : Thread Cert.AdamBp.nD Cert.AdamBp.τ).loc Cert.AdamBp.main_arg0) = m ((c.tc : Thread Cert.AdamBp.nD Cert.AdamBp.τ).loc Cert.AdamBp.main_arg0)
      ∧ r.2.mem ((c.tc : Thread Cert.AdamBp.nD Cert.AdamBp.τ).loc Cert.AdamBp.main_arg1) = m ((c.tc : Thread Cert.AdamBp.nD Cert.AdamBp.τ).loc Cert.AdamBp.main_arg1)
      ∧ r.2.mem ((c.tc : Thread Cert.AdamBp.nD Cert.AdamBp.τ).loc Cert.AdamBp.main_arg2) = m ((c.tc : Thread Cert.AdamBp.nD Cert.AdamBp.τ).loc Cert.AdamBp.main_arg2)
      ∧ r.2.mem ((c.tc : Thread Cert.AdamBp.nD Cert.AdamBp.τ).loc Cert.AdamBp.main_arg3) = m ((c.tc : Thread Cert.AdamBp.nD Cert.AdamBp.τ).loc Cert.AdamBp.main_arg3))
      ∧ r.2.sem = fun _ => 0)

def quiescent_AdamBpIdeal [hAdamBpIdeal : Cert.AdamBpIdeal.Facts] : Prop :=
  ∀ (m : (ℓ : Loc Cert.AdamBpIdeal.nD Cert.AdamBpIdeal.τ Cert.AdamBpIdeal.sig) → Buf (Elt Ideal) ℓ) (g : Dev Cert.AdamBpIdeal.nD → PrngReg), Pre_AdamBpIdeal m →
    θ_run (Cert.AdamBpIdeal.defs (F := Ideal)) (onTc (τ := Cert.AdamBpIdeal.τ) (Cert.AdamBpIdeal.main (F := Ideal))) ⟨m, fun _ => 0, g⟩ (fun r => (∀ c : Dev Cert.AdamBpIdeal.nD,
      r.2.mem ((c.tc : Thread Cert.AdamBpIdeal.nD Cert.AdamBpIdeal.τ).loc Cert.AdamBpIdeal.main_arg0) = m ((c.tc : Thread Cert.AdamBpIdeal.nD Cert.AdamBpIdeal.τ).loc Cert.AdamBpIdeal.main_arg0)
      ∧ r.2.mem ((c.tc : Thread Cert.AdamBpIdeal.nD Cert.AdamBpIdeal.τ).loc Cert.AdamBpIdeal.main_arg1) = m ((c.tc : Thread Cert.AdamBpIdeal.nD Cert.AdamBpIdeal.τ).loc Cert.AdamBpIdeal.main_arg1)
      ∧ r.2.mem ((c.tc : Thread Cert.AdamBpIdeal.nD Cert.AdamBpIdeal.τ).loc Cert.AdamBpIdeal.main_arg2) = m ((c.tc : Thread Cert.AdamBpIdeal.nD Cert.AdamBpIdeal.τ).loc Cert.AdamBpIdeal.main_arg2)
      ∧ r.2.mem ((c.tc : Thread Cert.AdamBpIdeal.nD Cert.AdamBpIdeal.τ).loc Cert.AdamBpIdeal.main_arg3) = m ((c.tc : Thread Cert.AdamBpIdeal.nD Cert.AdamBpIdeal.τ).loc Cert.AdamBpIdeal.main_arg3))
      ∧ r.2.sem = fun _ => 0)

def quiescent_AdamBpRefIdeal [hAdamBpRefIdeal : Cert.AdamBpRefIdeal.Facts] : Prop :=
  ∀ (m : (ℓ : Loc Cert.AdamBpRefIdeal.nD Cert.AdamBpRefIdeal.τ Cert.AdamBpRefIdeal.sig) → Buf (Elt Ideal) ℓ) (g : Dev Cert.AdamBpRefIdeal.nD → PrngReg), Pre_AdamBpRefIdeal m →
    θ_run (Cert.AdamBpRefIdeal.defs (F := Ideal)) (onTc (τ := Cert.AdamBpRefIdeal.τ) (Cert.AdamBpRefIdeal.main (F := Ideal))) ⟨m, fun _ => 0, g⟩ (fun r => (∀ c : Dev Cert.AdamBpRefIdeal.nD,
      r.2.mem ((c.tc : Thread Cert.AdamBpRefIdeal.nD Cert.AdamBpRefIdeal.τ).loc Cert.AdamBpRefIdeal.main_arg0) = m ((c.tc : Thread Cert.AdamBpRefIdeal.nD Cert.AdamBpRefIdeal.τ).loc Cert.AdamBpRefIdeal.main_arg0)
      ∧ r.2.mem ((c.tc : Thread Cert.AdamBpRefIdeal.nD Cert.AdamBpRefIdeal.τ).loc Cert.AdamBpRefIdeal.main_arg1) = m ((c.tc : Thread Cert.AdamBpRefIdeal.nD Cert.AdamBpRefIdeal.τ).loc Cert.AdamBpRefIdeal.main_arg1)
      ∧ r.2.mem ((c.tc : Thread Cert.AdamBpRefIdeal.nD Cert.AdamBpRefIdeal.τ).loc Cert.AdamBpRefIdeal.main_arg2) = m ((c.tc : Thread Cert.AdamBpRefIdeal.nD Cert.AdamBpRefIdeal.τ).loc Cert.AdamBpRefIdeal.main_arg2)
      ∧ r.2.mem ((c.tc : Thread Cert.AdamBpRefIdeal.nD Cert.AdamBpRefIdeal.τ).loc Cert.AdamBpRefIdeal.main_arg3) = m ((c.tc : Thread Cert.AdamBpRefIdeal.nD Cert.AdamBpRefIdeal.τ).loc Cert.AdamBpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Totals [hTotals : Cert.Totals.Facts] : Prop :=
  ∀ (m : (ℓ : Loc Cert.Totals.nD Cert.Totals.τ Cert.Totals.sig) → Buf (Elt Bits) ℓ) (g : Dev Cert.Totals.nD → PrngReg), Pre_Totals m →
    θ_run (Cert.Totals.defs (F := Bits)) (onTc (τ := Cert.Totals.τ) (Cert.Totals.main (F := Bits))) ⟨m, fun _ => 0, g⟩ (fun r => (∀ c : Dev Cert.Totals.nD,
      r.2.mem ((c.tc : Thread Cert.Totals.nD Cert.Totals.τ).loc Cert.Totals.main_arg0) = m ((c.tc : Thread Cert.Totals.nD Cert.Totals.τ).loc Cert.Totals.main_arg0))
      ∧ r.2.sem = fun _ => 0)

def quiescent_TotalsIdeal [hTotalsIdeal : Cert.TotalsIdeal.Facts] : Prop :=
  ∀ (m : (ℓ : Loc Cert.TotalsIdeal.nD Cert.TotalsIdeal.τ Cert.TotalsIdeal.sig) → Buf (Elt Ideal) ℓ) (g : Dev Cert.TotalsIdeal.nD → PrngReg), Pre_TotalsIdeal m →
    θ_run (Cert.TotalsIdeal.defs (F := Ideal)) (onTc (τ := Cert.TotalsIdeal.τ) (Cert.TotalsIdeal.main (F := Ideal))) ⟨m, fun _ => 0, g⟩ (fun r => (∀ c : Dev Cert.TotalsIdeal.nD,
      r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ r.2.sem = fun _ => 0)

def quiescent_TotalsRefIdeal [hTotalsRefIdeal : Cert.TotalsRefIdeal.Facts] : Prop :=
  ∀ (m : (ℓ : Loc Cert.TotalsRefIdeal.nD Cert.TotalsRefIdeal.τ Cert.TotalsRefIdeal.sig) → Buf (Elt Ideal) ℓ) (g : Dev Cert.TotalsRefIdeal.nD → PrngReg), Pre_TotalsRefIdeal m →
    θ_run (Cert.TotalsRefIdeal.defs (F := Ideal)) (onTc (τ := Cert.TotalsRefIdeal.τ) (Cert.TotalsRefIdeal.main (F := Ideal))) ⟨m, fun _ => 0, g⟩ (fun r => (∀ c : Dev Cert.TotalsRefIdeal.nD,
      r.2.mem ((c.tc : Thread Cert.TotalsRefIdeal.nD Cert.TotalsRefIdeal.τ).loc Cert.TotalsRefIdeal.main_arg0) = m ((c.tc : Thread Cert.TotalsRefIdeal.nD Cert.TotalsRefIdeal.τ).loc Cert.TotalsRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_MidNorm [hMidNorm : Cert.MidNorm.Facts] : Prop :=
  ∀ (m : (ℓ : Loc Cert.MidNorm.nD Cert.MidNorm.τ Cert.MidNorm.sig) → Buf (Elt Bits) ℓ) (g : Dev Cert.MidNorm.nD → PrngReg), Pre_MidNorm m →
    θ_run (Cert.MidNorm.defs (F := Bits)) (onTc (τ := Cert.MidNorm.τ) (Cert.MidNorm.main (F := Bits))) ⟨m, fun _ => 0, g⟩ (fun r => (∀ c : Dev Cert.MidNorm.nD,
      r.2.mem ((c.tc : Thread Cert.MidNorm.nD Cert.MidNorm.τ).loc Cert.MidNorm.main_arg0) = m ((c.tc : Thread Cert.MidNorm.nD Cert.MidNorm.τ).loc Cert.MidNorm.main_arg0)
      ∧ r.2.mem ((c.tc : Thread Cert.MidNorm.nD Cert.MidNorm.τ).loc Cert.MidNorm.main_arg1) = m ((c.tc : Thread Cert.MidNorm.nD Cert.MidNorm.τ).loc Cert.MidNorm.main_arg1)
      ∧ r.2.mem ((c.tc : Thread Cert.MidNorm.nD Cert.MidNorm.τ).loc Cert.MidNorm.main_arg2) = m ((c.tc : Thread Cert.MidNorm.nD Cert.MidNorm.τ).loc Cert.MidNorm.main_arg2)
      ∧ r.2.mem ((c.tc : Thread Cert.MidNorm.nD Cert.MidNorm.τ).loc Cert.MidNorm.main_arg3) = m ((c.tc : Thread Cert.MidNorm.nD Cert.MidNorm.τ).loc Cert.MidNorm.main_arg3))
      ∧ r.2.sem = fun _ => 0)

def quiescent_MidNormIdeal [hMidNormIdeal : Cert.MidNormIdeal.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3))
      ∧ r.2.sem = fun _ => 0)

def quiescent_MidNormRefIdeal [hMidNormRefIdeal : Cert.MidNormRefIdeal.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3))
      ∧ r.2.sem = fun _ => 0)

def quiescent_PostFfn [hPostFfn : Cert.PostFfn.Facts] : Prop :=
  ∀ (m : (ℓ : Loc Cert.PostFfn.nD Cert.PostFfn.τ Cert.PostFfn.sig) → Buf (Elt Bits) ℓ) (g : Dev Cert.PostFfn.nD → PrngReg), Pre_PostFfn m →
    θ_run (Cert.PostFfn.defs (F := Bits)) (onTc (τ := Cert.PostFfn.τ) (Cert.PostFfn.main (F := Bits))) ⟨m, fun _ => 0, g⟩ (fun r => (∀ c : Dev Cert.PostFfn.nD,
      r.2.mem ((c.tc : Thread Cert.PostFfn.nD Cert.PostFfn.τ).loc Cert.PostFfn.main_arg0) = m ((c.tc : Thread Cert.PostFfn.nD Cert.PostFfn.τ).loc Cert.PostFfn.main_arg0)
      ∧ r.2.mem ((c.tc : Thread Cert.PostFfn.nD Cert.PostFfn.τ).loc Cert.PostFfn.main_arg1) = m ((c.tc : Thread Cert.PostFfn.nD Cert.PostFfn.τ).loc Cert.PostFfn.main_arg1)
      ∧ r.2.mem ((c.tc : Thread Cert.PostFfn.nD Cert.PostFfn.τ).loc Cert.PostFfn.main_arg2) = m ((c.tc : Thread Cert.PostFfn.nD Cert.PostFfn.τ).loc Cert.PostFfn.main_arg2)
      ∧ r.2.mem ((c.tc : Thread Cert.PostFfn.nD Cert.PostFfn.τ).loc Cert.PostFfn.main_arg3) = m ((c.tc : Thread Cert.PostFfn.nD Cert.PostFfn.τ).loc Cert.PostFfn.main_arg3))
      ∧ r.2.sem = fun _ => 0)

def quiescent_PostFfnIdeal [hPostFfnIdeal : Cert.PostFfnIdeal.Facts] : Prop :=
  ∀ (m : (ℓ : Loc Cert.PostFfnIdeal.nD Cert.PostFfnIdeal.τ Cert.PostFfnIdeal.sig) → Buf (Elt Ideal) ℓ) (g : Dev Cert.PostFfnIdeal.nD → PrngReg), Pre_PostFfnIdeal m →
    θ_run (Cert.PostFfnIdeal.defs (F := Ideal)) (onTc (τ := Cert.PostFfnIdeal.τ) (Cert.PostFfnIdeal.main (F := Ideal))) ⟨m, fun _ => 0, g⟩ (fun r => (∀ c : Dev Cert.PostFfnIdeal.nD,
      r.2.mem ((c.tc : Thread Cert.PostFfnIdeal.nD Cert.PostFfnIdeal.τ).loc Cert.PostFfnIdeal.main_arg0) = m ((c.tc : Thread Cert.PostFfnIdeal.nD Cert.PostFfnIdeal.τ).loc Cert.PostFfnIdeal.main_arg0)
      ∧ r.2.mem ((c.tc : Thread Cert.PostFfnIdeal.nD Cert.PostFfnIdeal.τ).loc Cert.PostFfnIdeal.main_arg1) = m ((c.tc : Thread Cert.PostFfnIdeal.nD Cert.PostFfnIdeal.τ).loc Cert.PostFfnIdeal.main_arg1)
      ∧ r.2.mem ((c.tc : Thread Cert.PostFfnIdeal.nD Cert.PostFfnIdeal.τ).loc Cert.PostFfnIdeal.main_arg2) = m ((c.tc : Thread Cert.PostFfnIdeal.nD Cert.PostFfnIdeal.τ).loc Cert.PostFfnIdeal.main_arg2)
      ∧ r.2.mem ((c.tc : Thread Cert.PostFfnIdeal.nD Cert.PostFfnIdeal.τ).loc Cert.PostFfnIdeal.main_arg3) = m ((c.tc : Thread Cert.PostFfnIdeal.nD Cert.PostFfnIdeal.τ).loc Cert.PostFfnIdeal.main_arg3))
      ∧ r.2.sem = fun _ => 0)

def quiescent_PostFfnRefIdeal [hPostFfnRefIdeal : Cert.PostFfnRefIdeal.Facts] : Prop :=
  ∀ (m : (ℓ : Loc Cert.PostFfnRefIdeal.nD Cert.PostFfnRefIdeal.τ Cert.PostFfnRefIdeal.sig) → Buf (Elt Ideal) ℓ) (g : Dev Cert.PostFfnRefIdeal.nD → PrngReg), Pre_PostFfnRefIdeal m →
    θ_run (Cert.PostFfnRefIdeal.defs (F := Ideal)) (onTc (τ := Cert.PostFfnRefIdeal.τ) (Cert.PostFfnRefIdeal.main (F := Ideal))) ⟨m, fun _ => 0, g⟩ (fun r => (∀ c : Dev Cert.PostFfnRefIdeal.nD,
      r.2.mem ((c.tc : Thread Cert.PostFfnRefIdeal.nD Cert.PostFfnRefIdeal.τ).loc Cert.PostFfnRefIdeal.main_arg0) = m ((c.tc : Thread Cert.PostFfnRefIdeal.nD Cert.PostFfnRefIdeal.τ).loc Cert.PostFfnRefIdeal.main_arg0)
      ∧ r.2.mem ((c.tc : Thread Cert.PostFfnRefIdeal.nD Cert.PostFfnRefIdeal.τ).loc Cert.PostFfnRefIdeal.main_arg1) = m ((c.tc : Thread Cert.PostFfnRefIdeal.nD Cert.PostFfnRefIdeal.τ).loc Cert.PostFfnRefIdeal.main_arg1)
      ∧ r.2.mem ((c.tc : Thread Cert.PostFfnRefIdeal.nD Cert.PostFfnRefIdeal.τ).loc Cert.PostFfnRefIdeal.main_arg2) = m ((c.tc : Thread Cert.PostFfnRefIdeal.nD Cert.PostFfnRefIdeal.τ).loc Cert.PostFfnRefIdeal.main_arg2)
      ∧ r.2.mem ((c.tc : Thread Cert.PostFfnRefIdeal.nD Cert.PostFfnRefIdeal.τ).loc Cert.PostFfnRefIdeal.main_arg3) = m ((c.tc : Thread Cert.PostFfnRefIdeal.nD Cert.PostFfnRefIdeal.τ).loc Cert.PostFfnRefIdeal.main_arg3))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1)
      ∧ r.2.mem ((c.tc : Thread Cert.FfnUpDw.nD Cert.FfnUpDw.τ).loc Cert.FfnUpDw.main_arg2) = m ((c.tc : Thread Cert.FfnUpDw.nD Cert.FfnUpDw.τ).loc Cert.FfnUpDw.main_arg2))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1)
      ∧ r.2.mem ((c.tc : Thread Cert.FfnUpDwIdeal.nD Cert.FfnUpDwIdeal.τ).loc Cert.FfnUpDwIdeal.main_arg2) = m ((c.tc : Thread Cert.FfnUpDwIdeal.nD Cert.FfnUpDwIdeal.τ).loc Cert.FfnUpDwIdeal.main_arg2))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1)
      ∧ r.2.mem ((c.tc : Thread Cert.FfnUpDwRefIdeal.nD Cert.FfnUpDwRefIdeal.τ).loc Cert.FfnUpDwRefIdeal.main_arg2) = m ((c.tc : Thread Cert.FfnUpDwRefIdeal.nD Cert.FfnUpDwRefIdeal.τ).loc Cert.FfnUpDwRefIdeal.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![5152, 128]⟩ ⟨2, ![41216, 128]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![5152, 128]⟩ ⟨2, ![41216, 128]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_Exchange_ExchangeIdeal : Prop :=
  True

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![8, 4096, 1536]⟩ ⟨3, ![64, 4096, 1536]⟩ 0 8 c (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.block ⟨3, ![8, 256, 2048]⟩ ⟨3, ![64, 256, 2048]⟩ 0 8 c (m' (((0 : Dev Cert.ExchangeRef.nD).tc : Thread Cert.ExchangeRef.nD Cert.ExchangeRef.τ).loc Cert.ExchangeRef.main_arg1))
      ∧ m ((c.tc : Thread Cert.Exchange.nD Cert.Exchange.τ).loc Cert.Exchange.main_arg2) = Layout.block ⟨4, ![8, 4, 64, 512]⟩ ⟨4, ![64, 4, 64, 512]⟩ 0 8 c (m' (((0 : Dev Cert.ExchangeRef.nD).tc : Thread Cert.ExchangeRef.nD Cert.ExchangeRef.τ).loc Cert.ExchangeRef.main_arg2))
      ∧ m ((c.tc : Thread Cert.Exchange.nD Cert.Exchange.τ).loc Cert.Exchange.main_arg3) = Layout.block ⟨3, ![8, 2048, 512]⟩ ⟨3, ![64, 2048, 512]⟩ 0 8 c (m' (((0 : Dev Cert.ExchangeRef.nD).tc : Thread Cert.ExchangeRef.nD Cert.ExchangeRef.τ).loc Cert.ExchangeRef.main_arg3))
      ∧ m ((c.tc : Thread Cert.Exchange.nD Cert.Exchange.τ).loc Cert.Exchange.main_arg4) = Layout.block ⟨3, ![8, 2048, 512]⟩ ⟨3, ![64, 2048, 512]⟩ 0 8 c (m' (((0 : Dev Cert.ExchangeRef.nD).tc : Thread Cert.ExchangeRef.nD Cert.ExchangeRef.τ).loc Cert.ExchangeRef.main_arg4))
      ∧ m ((c.tc : Thread Cert.Exchange.nD Cert.Exchange.τ).loc Cert.Exchange.main_arg5) = Layout.block ⟨3, ![8, 512, 4096]⟩ ⟨3, ![64, 512, 4096]⟩ 0 8 c (m' (((0 : Dev Cert.ExchangeRef.nD).tc : Thread Cert.ExchangeRef.nD Cert.ExchangeRef.τ).loc Cert.ExchangeRef.main_arg5))
      ∧ m ((c.tc : Thread Cert.Exchange.nD Cert.Exchange.τ).loc Cert.Exchange.main_arg6) = Layout.block ⟨3, ![8, 4096, 2752]⟩ ⟨3, ![64, 4096, 2752]⟩ 0 8 c (m' (((0 : Dev Cert.ExchangeRef.nD).tc : Thread Cert.ExchangeRef.nD Cert.ExchangeRef.τ).loc Cert.ExchangeRef.main_arg6))
      ∧ m ((c.tc : Thread Cert.Exchange.nD Cert.Exchange.τ).loc Cert.Exchange.main_arg7) = Layout.block ⟨3, ![8, 1376, 4096]⟩ ⟨3, ![64, 1376, 4096]⟩ 0 8 c (m' (((0 : Dev Cert.ExchangeRef.nD).tc : Thread Cert.ExchangeRef.nD Cert.ExchangeRef.τ).loc Cert.ExchangeRef.main_arg7))) →
    ∃ (v0 : Buf (Elt Bits) (((0 : Dev Cert.ExchangeRef.nD).tc : Thread Cert.ExchangeRef.nD Cert.ExchangeRef.τ).loc Cert.ExchangeRef.main_v2)) (v1 : Buf (Elt Bits) (((0 : Dev Cert.ExchangeRef.nD).tc : Thread Cert.ExchangeRef.nD Cert.ExchangeRef.τ).loc Cert.ExchangeRef.main_v5)) (v2 : Buf (Elt Bits) (((0 : Dev Cert.ExchangeRef.nD).tc : Thread Cert.ExchangeRef.nD Cert.ExchangeRef.τ).loc Cert.ExchangeRef.main_v8)) (v3 : Buf (Elt Bits) (((0 : Dev Cert.ExchangeRef.nD).tc : Thread Cert.ExchangeRef.nD Cert.ExchangeRef.τ).loc Cert.ExchangeRef.main_v11)) (v4 : Buf (Elt Bits) (((0 : Dev Cert.ExchangeRef.nD).tc : Thread Cert.ExchangeRef.nD Cert.ExchangeRef.τ).loc Cert.ExchangeRef.main_v14)) (v5 : Buf (Elt Bits) (((0 : Dev Cert.ExchangeRef.nD).tc : Thread Cert.ExchangeRef.nD Cert.ExchangeRef.τ).loc Cert.ExchangeRef.main_v17)) (v6 : Buf (Elt Bits) (((0 : Dev Cert.ExchangeRef.nD).tc : Thread Cert.ExchangeRef.nD Cert.ExchangeRef.τ).loc Cert.ExchangeRef.main_v20)) (v7 : Buf (Elt Bits) (((0 : Dev Cert.ExchangeRef.nD).tc : Thread Cert.ExchangeRef.nD Cert.ExchangeRef.τ).loc Cert.ExchangeRef.main_v23)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![8, 4096, 1536]⟩ ⟨3, ![64, 4096, 1536]⟩ 0 8 c v0
          ∧ r.2.mem ((c.tc : Thread Cert.Exchange.nD Cert.Exchange.τ).loc Cert.Exchange.main_v1_1) = Layout.block ⟨3, ![8, 256, 2048]⟩ ⟨3, ![64, 256, 2048]⟩ 0 8 c v1
          ∧ r.2.mem ((c.tc : Thread Cert.Exchange.nD Cert.Exchange.τ).loc Cert.Exchange.main_v1_2) = Layout.block ⟨4, ![8, 4, 64, 512]⟩ ⟨4, ![64, 4, 64, 512]⟩ 0 8 c v2
          ∧ r.2.mem ((c.tc : Thread Cert.Exchange.nD Cert.Exchange.τ).loc Cert.Exchange.main_v1_3) = Layout.block ⟨3, ![8, 2048, 512]⟩ ⟨3, ![64, 2048, 512]⟩ 0 8 c v3
          ∧ r.2.mem ((c.tc : Thread Cert.Exchange.nD Cert.Exchange.τ).loc Cert.Exchange.main_v1_4) = Layout.block ⟨3, ![8, 2048, 512]⟩ ⟨3, ![64, 2048, 512]⟩ 0 8 c v4
          ∧ r.2.mem ((c.tc : Thread Cert.Exchange.nD Cert.Exchange.τ).loc Cert.Exchange.main_v1_5) = Layout.block ⟨3, ![8, 512, 4096]⟩ ⟨3, ![64, 512, 4096]⟩ 0 8 c v5
          ∧ r.2.mem ((c.tc : Thread Cert.Exchange.nD Cert.Exchange.τ).loc Cert.Exchange.main_v1_6) = Layout.block ⟨3, ![8, 4096, 2752]⟩ ⟨3, ![64, 4096, 2752]⟩ 0 8 c v6
          ∧ r.2.mem ((c.tc : Thread Cert.Exchange.nD Cert.Exchange.τ).loc Cert.Exchange.main_v1_7) = Layout.block ⟨3, ![8, 1376, 4096]⟩ ⟨3, ![64, 1376, 4096]⟩ 0 8 c v7
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2)
          ∧ r.2.mem ((c.tc : Thread Cert.Exchange.nD Cert.Exchange.τ).loc Cert.Exchange.main_arg3) = m ((c.tc : Thread Cert.Exchange.nD Cert.Exchange.τ).loc Cert.Exchange.main_arg3)
          ∧ r.2.mem ((c.tc : Thread Cert.Exchange.nD Cert.Exchange.τ).loc Cert.Exchange.main_arg4) = m ((c.tc : Thread Cert.Exchange.nD Cert.Exchange.τ).loc Cert.Exchange.main_arg4)
          ∧ r.2.mem ((c.tc : Thread Cert.Exchange.nD Cert.Exchange.τ).loc Cert.Exchange.main_arg5) = m ((c.tc : Thread Cert.Exchange.nD Cert.Exchange.τ).loc Cert.Exchange.main_arg5)
          ∧ r.2.mem ((c.tc : Thread Cert.Exchange.nD Cert.Exchange.τ).loc Cert.Exchange.main_arg6) = m ((c.tc : Thread Cert.Exchange.nD Cert.Exchange.τ).loc Cert.Exchange.main_arg6)
          ∧ r.2.mem ((c.tc : Thread Cert.Exchange.nD Cert.Exchange.τ).loc Cert.Exchange.main_arg7) = m ((c.tc : Thread Cert.Exchange.nD Cert.Exchange.τ).loc Cert.Exchange.main_arg7))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v2) = v0
          ∧ r.2.mem (((0 : Dev Cert.ExchangeRef.nD).tc : Thread Cert.ExchangeRef.nD Cert.ExchangeRef.τ).loc Cert.ExchangeRef.main_v5) = v1
          ∧ r.2.mem (((0 : Dev Cert.ExchangeRef.nD).tc : Thread Cert.ExchangeRef.nD Cert.ExchangeRef.τ).loc Cert.ExchangeRef.main_v8) = v2
          ∧ r.2.mem (((0 : Dev Cert.ExchangeRef.nD).tc : Thread Cert.ExchangeRef.nD Cert.ExchangeRef.τ).loc Cert.ExchangeRef.main_v11) = v3
          ∧ r.2.mem (((0 : Dev Cert.ExchangeRef.nD).tc : Thread Cert.ExchangeRef.nD Cert.ExchangeRef.τ).loc Cert.ExchangeRef.main_v14) = v4
          ∧ r.2.mem (((0 : Dev Cert.ExchangeRef.nD).tc : Thread Cert.ExchangeRef.nD Cert.ExchangeRef.τ).loc Cert.ExchangeRef.main_v17) = v5
          ∧ r.2.mem (((0 : Dev Cert.ExchangeRef.nD).tc : Thread Cert.ExchangeRef.nD Cert.ExchangeRef.τ).loc Cert.ExchangeRef.main_v20) = v6
          ∧ r.2.mem (((0 : Dev Cert.ExchangeRef.nD).tc : Thread Cert.ExchangeRef.nD Cert.ExchangeRef.τ).loc Cert.ExchangeRef.main_v23) = v7
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1)
          ∧ r.2.mem (((0 : Dev Cert.ExchangeRef.nD).tc : Thread Cert.ExchangeRef.nD Cert.ExchangeRef.τ).loc Cert.ExchangeRef.main_arg2) = m' (((0 : Dev Cert.ExchangeRef.nD).tc : Thread Cert.ExchangeRef.nD Cert.ExchangeRef.τ).loc Cert.ExchangeRef.main_arg2)
          ∧ r.2.mem (((0 : Dev Cert.ExchangeRef.nD).tc : Thread Cert.ExchangeRef.nD Cert.ExchangeRef.τ).loc Cert.ExchangeRef.main_arg3) = m' (((0 : Dev Cert.ExchangeRef.nD).tc : Thread Cert.ExchangeRef.nD Cert.ExchangeRef.τ).loc Cert.ExchangeRef.main_arg3)
          ∧ r.2.mem (((0 : Dev Cert.ExchangeRef.nD).tc : Thread Cert.ExchangeRef.nD Cert.ExchangeRef.τ).loc Cert.ExchangeRef.main_arg4) = m' (((0 : Dev Cert.ExchangeRef.nD).tc : Thread Cert.ExchangeRef.nD Cert.ExchangeRef.τ).loc Cert.ExchangeRef.main_arg4)
          ∧ r.2.mem (((0 : Dev Cert.ExchangeRef.nD).tc : Thread Cert.ExchangeRef.nD Cert.ExchangeRef.τ).loc Cert.ExchangeRef.main_arg5) = m' (((0 : Dev Cert.ExchangeRef.nD).tc : Thread Cert.ExchangeRef.nD Cert.ExchangeRef.τ).loc Cert.ExchangeRef.main_arg5)
          ∧ r.2.mem (((0 : Dev Cert.ExchangeRef.nD).tc : Thread Cert.ExchangeRef.nD Cert.ExchangeRef.τ).loc Cert.ExchangeRef.main_arg6) = m' (((0 : Dev Cert.ExchangeRef.nD).tc : Thread Cert.ExchangeRef.nD Cert.ExchangeRef.τ).loc Cert.ExchangeRef.main_arg6)
          ∧ r.2.mem (((0 : Dev Cert.ExchangeRef.nD).tc : Thread Cert.ExchangeRef.nD Cert.ExchangeRef.τ).loc Cert.ExchangeRef.main_arg7) = m' (((0 : Dev Cert.ExchangeRef.nD).tc : Thread Cert.ExchangeRef.nD Cert.ExchangeRef.τ).loc Cert.ExchangeRef.main_arg7))

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 4096, 1536]⟩ ⟨3, ![64, 4096, 1536]⟩ 0 8 c (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.block ⟨3, ![8, 256, 2048]⟩ ⟨3, ![64, 256, 2048]⟩ 0 8 c (m' (((0 : Dev Cert.ExchangeRefIdeal.nD).tc : Thread Cert.ExchangeRefIdeal.nD Cert.ExchangeRefIdeal.τ).loc Cert.ExchangeRefIdeal.main_arg1))
      ∧ m ((c.tc : Thread Cert.ExchangeIdeal.nD Cert.ExchangeIdeal.τ).loc Cert.ExchangeIdeal.main_arg2) = Layout.block ⟨4, ![8, 4, 64, 512]⟩ ⟨4, ![64, 4, 64, 512]⟩ 0 8 c (m' (((0 : Dev Cert.ExchangeRefIdeal.nD).tc : Thread Cert.ExchangeRefIdeal.nD Cert.ExchangeRefIdeal.τ).loc Cert.ExchangeRefIdeal.main_arg2))
      ∧ m ((c.tc : Thread Cert.ExchangeIdeal.nD Cert.ExchangeIdeal.τ).loc Cert.ExchangeIdeal.main_arg3) = Layout.block ⟨3, ![8, 2048, 512]⟩ ⟨3, ![64, 2048, 512]⟩ 0 8 c (m' (((0 : Dev Cert.ExchangeRefIdeal.nD).tc : Thread Cert.ExchangeRefIdeal.nD Cert.ExchangeRefIdeal.τ).loc Cert.ExchangeRefIdeal.main_arg3))
      ∧ m ((c.tc : Thread Cert.ExchangeIdeal.nD Cert.ExchangeIdeal.τ).loc Cert.ExchangeIdeal.main_arg4) = Layout.block ⟨3, ![8, 2048, 512]⟩ ⟨3, ![64, 2048, 512]⟩ 0 8 c (m' (((0 : Dev Cert.ExchangeRefIdeal.nD).tc : Thread Cert.ExchangeRefIdeal.nD Cert.ExchangeRefIdeal.τ).loc Cert.ExchangeRefIdeal.main_arg4))
      ∧ m ((c.tc : Thread Cert.ExchangeIdeal.nD Cert.ExchangeIdeal.τ).loc Cert.ExchangeIdeal.main_arg5) = Layout.block ⟨3, ![8, 512, 4096]⟩ ⟨3, ![64, 512, 4096]⟩ 0 8 c (m' (((0 : Dev Cert.ExchangeRefIdeal.nD).tc : Thread Cert.ExchangeRefIdeal.nD Cert.ExchangeRefIdeal.τ).loc Cert.ExchangeRefIdeal.main_arg5))
      ∧ m ((c.tc : Thread Cert.ExchangeIdeal.nD Cert.ExchangeIdeal.τ).loc Cert.ExchangeIdeal.main_arg6) = Layout.block ⟨3, ![8, 4096, 2752]⟩ ⟨3, ![64, 4096, 2752]⟩ 0 8 c (m' (((0 : Dev Cert.ExchangeRefIdeal.nD).tc : Thread Cert.ExchangeRefIdeal.nD Cert.ExchangeRefIdeal.τ).loc Cert.ExchangeRefIdeal.main_arg6))
      ∧ m ((c.tc : Thread Cert.ExchangeIdeal.nD Cert.ExchangeIdeal.τ).loc Cert.ExchangeIdeal.main_arg7) = Layout.block ⟨3, ![8, 1376, 4096]⟩ ⟨3, ![64, 1376, 4096]⟩ 0 8 c (m' (((0 : Dev Cert.ExchangeRefIdeal.nD).tc : Thread Cert.ExchangeRefIdeal.nD Cert.ExchangeRefIdeal.τ).loc Cert.ExchangeRefIdeal.main_arg7))) →
    ∃ (v0 : Buf (Elt Ideal) (((0 : Dev Cert.ExchangeRefIdeal.nD).tc : Thread Cert.ExchangeRefIdeal.nD Cert.ExchangeRefIdeal.τ).loc Cert.ExchangeRefIdeal.main_v2)) (v1 : Buf (Elt Ideal) (((0 : Dev Cert.ExchangeRefIdeal.nD).tc : Thread Cert.ExchangeRefIdeal.nD Cert.ExchangeRefIdeal.τ).loc Cert.ExchangeRefIdeal.main_v5)) (v2 : Buf (Elt Ideal) (((0 : Dev Cert.ExchangeRefIdeal.nD).tc : Thread Cert.ExchangeRefIdeal.nD Cert.ExchangeRefIdeal.τ).loc Cert.ExchangeRefIdeal.main_v8)) (v3 : Buf (Elt Ideal) (((0 : Dev Cert.ExchangeRefIdeal.nD).tc : Thread Cert.ExchangeRefIdeal.nD Cert.ExchangeRefIdeal.τ).loc Cert.ExchangeRefIdeal.main_v11)) (v4 : Buf (Elt Ideal) (((0 : Dev Cert.ExchangeRefIdeal.nD).tc : Thread Cert.ExchangeRefIdeal.nD Cert.ExchangeRefIdeal.τ).loc Cert.ExchangeRefIdeal.main_v14)) (v5 : Buf (Elt Ideal) (((0 : Dev Cert.ExchangeRefIdeal.nD).tc : Thread Cert.ExchangeRefIdeal.nD Cert.ExchangeRefIdeal.τ).loc Cert.ExchangeRefIdeal.main_v17)) (v6 : Buf (Elt Ideal) (((0 : Dev Cert.ExchangeRefIdeal.nD).tc : Thread Cert.ExchangeRefIdeal.nD Cert.ExchangeRefIdeal.τ).loc Cert.ExchangeRefIdeal.main_v20)) (v7 : Buf (Elt Ideal) (((0 : Dev Cert.ExchangeRefIdeal.nD).tc : Thread Cert.ExchangeRefIdeal.nD Cert.ExchangeRefIdeal.τ).loc Cert.ExchangeRefIdeal.main_v23)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![8, 4096, 1536]⟩ ⟨3, ![64, 4096, 1536]⟩ 0 8 c v0
          ∧ r.2.mem ((c.tc : Thread Cert.ExchangeIdeal.nD Cert.ExchangeIdeal.τ).loc Cert.ExchangeIdeal.main_v1_1) = Layout.block ⟨3, ![8, 256, 2048]⟩ ⟨3, ![64, 256, 2048]⟩ 0 8 c v1
          ∧ r.2.mem ((c.tc : Thread Cert.ExchangeIdeal.nD Cert.ExchangeIdeal.τ).loc Cert.ExchangeIdeal.main_v1_2) = Layout.block ⟨4, ![8, 4, 64, 512]⟩ ⟨4, ![64, 4, 64, 512]⟩ 0 8 c v2
          ∧ r.2.mem ((c.tc : Thread Cert.ExchangeIdeal.nD Cert.ExchangeIdeal.τ).loc Cert.ExchangeIdeal.main_v1_3) = Layout.block ⟨3, ![8, 2048, 512]⟩ ⟨3, ![64, 2048, 512]⟩ 0 8 c v3
          ∧ r.2.mem ((c.tc : Thread Cert.ExchangeIdeal.nD Cert.ExchangeIdeal.τ).loc Cert.ExchangeIdeal.main_v1_4) = Layout.block ⟨3, ![8, 2048, 512]⟩ ⟨3, ![64, 2048, 512]⟩ 0 8 c v4
          ∧ r.2.mem ((c.tc : Thread Cert.ExchangeIdeal.nD Cert.ExchangeIdeal.τ).loc Cert.ExchangeIdeal.main_v1_5) = Layout.block ⟨3, ![8, 512, 4096]⟩ ⟨3, ![64, 512, 4096]⟩ 0 8 c v5
          ∧ r.2.mem ((c.tc : Thread Cert.ExchangeIdeal.nD Cert.ExchangeIdeal.τ).loc Cert.ExchangeIdeal.main_v1_6) = Layout.block ⟨3, ![8, 4096, 2752]⟩ ⟨3, ![64, 4096, 2752]⟩ 0 8 c v6
          ∧ r.2.mem ((c.tc : Thread Cert.ExchangeIdeal.nD Cert.ExchangeIdeal.τ).loc Cert.ExchangeIdeal.main_v1_7) = Layout.block ⟨3, ![8, 1376, 4096]⟩ ⟨3, ![64, 1376, 4096]⟩ 0 8 c v7
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
          ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
          ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
          ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_v5) = v1
          ∧ r.2.mem (((0 : Dev Cert.ExchangeRefIdeal.nD).tc : Thread Cert.ExchangeRefIdeal.nD Cert.ExchangeRefIdeal.τ).loc Cert.ExchangeRefIdeal.main_v8) = v2
          ∧ r.2.mem (((0 : Dev Cert.ExchangeRefIdeal.nD).tc : Thread Cert.ExchangeRefIdeal.nD Cert.ExchangeRefIdeal.τ).loc Cert.ExchangeRefIdeal.main_v11) = v3
          ∧ r.2.mem (((0 : Dev Cert.ExchangeRefIdeal.nD).tc : Thread Cert.ExchangeRefIdeal.nD Cert.ExchangeRefIdeal.τ).loc Cert.ExchangeRefIdeal.main_v14) = v4
          ∧ r.2.mem (((0 : Dev Cert.ExchangeRefIdeal.nD).tc : Thread Cert.ExchangeRefIdeal.nD Cert.ExchangeRefIdeal.τ).loc Cert.ExchangeRefIdeal.main_v17) = v5
          ∧ r.2.mem (((0 : Dev Cert.ExchangeRefIdeal.nD).tc : Thread Cert.ExchangeRefIdeal.nD Cert.ExchangeRefIdeal.τ).loc Cert.ExchangeRefIdeal.main_v20) = v6
          ∧ r.2.mem (((0 : Dev Cert.ExchangeRefIdeal.nD).tc : Thread Cert.ExchangeRefIdeal.nD Cert.ExchangeRefIdeal.τ).loc Cert.ExchangeRefIdeal.main_v23) = v7
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1)
          ∧ r.2.mem (((0 : Dev Cert.ExchangeRefIdeal.nD).tc : Thread Cert.ExchangeRefIdeal.nD Cert.ExchangeRefIdeal.τ).loc Cert.ExchangeRefIdeal.main_arg2) = m' (((0 : Dev Cert.ExchangeRefIdeal.nD).tc : Thread Cert.ExchangeRefIdeal.nD Cert.ExchangeRefIdeal.τ).loc Cert.ExchangeRefIdeal.main_arg2)
          ∧ r.2.mem (((0 : Dev Cert.ExchangeRefIdeal.nD).tc : Thread Cert.ExchangeRefIdeal.nD Cert.ExchangeRefIdeal.τ).loc Cert.ExchangeRefIdeal.main_arg3) = m' (((0 : Dev Cert.ExchangeRefIdeal.nD).tc : Thread Cert.ExchangeRefIdeal.nD Cert.ExchangeRefIdeal.τ).loc Cert.ExchangeRefIdeal.main_arg3)
          ∧ r.2.mem (((0 : Dev Cert.ExchangeRefIdeal.nD).tc : Thread Cert.ExchangeRefIdeal.nD Cert.ExchangeRefIdeal.τ).loc Cert.ExchangeRefIdeal.main_arg4) = m' (((0 : Dev Cert.ExchangeRefIdeal.nD).tc : Thread Cert.ExchangeRefIdeal.nD Cert.ExchangeRefIdeal.τ).loc Cert.ExchangeRefIdeal.main_arg4)
          ∧ r.2.mem (((0 : Dev Cert.ExchangeRefIdeal.nD).tc : Thread Cert.ExchangeRefIdeal.nD Cert.ExchangeRefIdeal.τ).loc Cert.ExchangeRefIdeal.main_arg5) = m' (((0 : Dev Cert.ExchangeRefIdeal.nD).tc : Thread Cert.ExchangeRefIdeal.nD Cert.ExchangeRefIdeal.τ).loc Cert.ExchangeRefIdeal.main_arg5)
          ∧ r.2.mem (((0 : Dev Cert.ExchangeRefIdeal.nD).tc : Thread Cert.ExchangeRefIdeal.nD Cert.ExchangeRefIdeal.τ).loc Cert.ExchangeRefIdeal.main_arg6) = m' (((0 : Dev Cert.ExchangeRefIdeal.nD).tc : Thread Cert.ExchangeRefIdeal.nD Cert.ExchangeRefIdeal.τ).loc Cert.ExchangeRefIdeal.main_arg6)
          ∧ r.2.mem (((0 : Dev Cert.ExchangeRefIdeal.nD).tc : Thread Cert.ExchangeRefIdeal.nD Cert.ExchangeRefIdeal.τ).loc Cert.ExchangeRefIdeal.main_arg7) = m' (((0 : Dev Cert.ExchangeRefIdeal.nD).tc : Thread Cert.ExchangeRefIdeal.nD Cert.ExchangeRefIdeal.τ).loc Cert.ExchangeRefIdeal.main_arg7))

def preserves_Weights_WeightsIdeal : Prop :=
  True

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.block ⟨2, ![4096, 1536]⟩ ⟨2, ![4096, 12288]⟩ 1 8 c (m' (((0 : Dev Cert.WeightsRef.nD).tc : Thread Cert.WeightsRef.nD Cert.WeightsRef.τ).loc Cert.WeightsRef.main_arg0))
      ∧ m ((c.tc : Thread Cert.Weights.nD Cert.Weights.τ).loc Cert.Weights.main_arg1) = Layout.block ⟨2, ![256, 2048]⟩ ⟨2, ![2048, 2048]⟩ 0 8 c (m' (((0 : Dev Cert.WeightsRef.nD).tc : Thread Cert.WeightsRef.nD Cert.WeightsRef.τ).loc Cert.WeightsRef.main_arg1))
      ∧ m ((c.tc : Thread Cert.Weights.nD Cert.Weights.τ).loc Cert.Weights.main_arg2) = Layout.block ⟨3, ![4, 64, 512]⟩ ⟨3, ![4, 512, 512]⟩ 1 8 c (m' (((0 : Dev Cert.WeightsRef.nD).tc : Thread Cert.WeightsRef.nD Cert.WeightsRef.τ).loc Cert.WeightsRef.main_arg2))
      ∧ m ((c.tc : Thread Cert.Weights.nD Cert.Weights.τ).loc Cert.Weights.main_arg3) = Layout.block ⟨2, ![2048, 512]⟩ ⟨2, ![2048, 4096]⟩ 1 8 c (m' (((0 : Dev Cert.WeightsRef.nD).tc : Thread Cert.WeightsRef.nD Cert.WeightsRef.τ).loc Cert.WeightsRef.main_arg3))
      ∧ m ((c.tc : Thread Cert.Weights.nD Cert.Weights.τ).loc Cert.Weights.main_arg4) = Layout.block ⟨2, ![2048, 512]⟩ ⟨2, ![2048, 4096]⟩ 1 8 c (m' (((0 : Dev Cert.WeightsRef.nD).tc : Thread Cert.WeightsRef.nD Cert.WeightsRef.τ).loc Cert.WeightsRef.main_arg4))
      ∧ m ((c.tc : Thread Cert.Weights.nD Cert.Weights.τ).loc Cert.Weights.main_arg5) = Layout.block ⟨2, ![512, 4096]⟩ ⟨2, ![4096, 4096]⟩ 0 8 c (m' (((0 : Dev Cert.WeightsRef.nD).tc : Thread Cert.WeightsRef.nD Cert.WeightsRef.τ).loc Cert.WeightsRef.main_arg5))
      ∧ m ((c.tc : Thread Cert.Weights.nD Cert.Weights.τ).loc Cert.Weights.main_arg6) = Layout.block ⟨2, ![4096, 2752]⟩ ⟨2, ![4096, 22016]⟩ 1 8 c (m' (((0 : Dev Cert.WeightsRef.nD).tc : Thread Cert.WeightsRef.nD Cert.WeightsRef.τ).loc Cert.WeightsRef.main_arg6))
      ∧ m ((c.tc : Thread Cert.Weights.nD Cert.Weights.τ).loc Cert.Weights.main_arg7) = Layout.block ⟨2, ![1376, 4096]⟩ ⟨2, ![11008, 4096]⟩ 0 8 c (m' (((0 : Dev Cert.WeightsRef.nD).tc : Thread Cert.WeightsRef.nD Cert.WeightsRef.τ).loc Cert.WeightsRef.main_arg7))
      ∧ m ((c.tc : Thread Cert.Weights.nD Cert.Weights.τ).loc Cert.Weights.main_arg8) = Layout.block ⟨2, ![4, 64]⟩ ⟨2, ![4, 512]⟩ 1 8 c (m' (((0 : Dev Cert.WeightsRef.nD).tc : Thread Cert.WeightsRef.nD Cert.WeightsRef.τ).loc Cert.WeightsRef.main_arg8))
      ∧ m ((c.tc : Thread Cert.Weights.nD Cert.Weights.τ).loc Cert.Weights.main_arg9) = Layout.block ⟨2, ![3, 2752]⟩ ⟨2, ![3, 22016]⟩ 1 8 c (m' (((0 : Dev Cert.WeightsRef.nD).tc : Thread Cert.WeightsRef.nD Cert.WeightsRef.τ).loc Cert.WeightsRef.main_arg9))) →
    ∃ (v0 : Buf (Elt Bits) (((0 : Dev Cert.WeightsRef.nD).tc : Thread Cert.WeightsRef.nD Cert.WeightsRef.τ).loc Cert.WeightsRef.main_v1)) (v1 : Buf (Elt Bits) (((0 : Dev Cert.WeightsRef.nD).tc : Thread Cert.WeightsRef.nD Cert.WeightsRef.τ).loc Cert.WeightsRef.main_v2)) (v2 : Buf (Elt Bits) (((0 : Dev Cert.WeightsRef.nD).tc : Thread Cert.WeightsRef.nD Cert.WeightsRef.τ).loc Cert.WeightsRef.main_v4)) (v3 : Buf (Elt Bits) (((0 : Dev Cert.WeightsRef.nD).tc : Thread Cert.WeightsRef.nD Cert.WeightsRef.τ).loc Cert.WeightsRef.main_v6)) (v4 : Buf (Elt Bits) (((0 : Dev Cert.WeightsRef.nD).tc : Thread Cert.WeightsRef.nD Cert.WeightsRef.τ).loc Cert.WeightsRef.main_v8)) (v5 : Buf (Elt Bits) (((0 : Dev Cert.WeightsRef.nD).tc : Thread Cert.WeightsRef.nD Cert.WeightsRef.τ).loc Cert.WeightsRef.main_v9)) (v6 : Buf (Elt Bits) (((0 : Dev Cert.WeightsRef.nD).tc : Thread Cert.WeightsRef.nD Cert.WeightsRef.τ).loc Cert.WeightsRef.main_v11)) (v7 : Buf (Elt Bits) (((0 : Dev Cert.WeightsRef.nD).tc : Thread Cert.WeightsRef.nD Cert.WeightsRef.τ).loc Cert.WeightsRef.main_v12)) (v8 : Buf (Elt Bits) (((0 : Dev Cert.WeightsRef.nD).tc : Thread Cert.WeightsRef.nD Cert.WeightsRef.τ).loc Cert.WeightsRef.main_v14)) (v9 : Buf (Elt Bits) (((0 : Dev Cert.WeightsRef.nD).tc : Thread Cert.WeightsRef.nD Cert.WeightsRef.τ).loc Cert.WeightsRef.main_v16)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1_0) = v0
          ∧ r.2.mem ((c.tc : Thread Cert.Weights.nD Cert.Weights.τ).loc Cert.Weights.main_v1_1) = v1
          ∧ r.2.mem ((c.tc : Thread Cert.Weights.nD Cert.Weights.τ).loc Cert.Weights.main_v1_2) = v2
          ∧ r.2.mem ((c.tc : Thread Cert.Weights.nD Cert.Weights.τ).loc Cert.Weights.main_v1_3) = v3
          ∧ r.2.mem ((c.tc : Thread Cert.Weights.nD Cert.Weights.τ).loc Cert.Weights.main_v1_4) = v4
          ∧ r.2.mem ((c.tc : Thread Cert.Weights.nD Cert.Weights.τ).loc Cert.Weights.main_v1_5) = v5
          ∧ r.2.mem ((c.tc : Thread Cert.Weights.nD Cert.Weights.τ).loc Cert.Weights.main_v1_6) = v6
          ∧ r.2.mem ((c.tc : Thread Cert.Weights.nD Cert.Weights.τ).loc Cert.Weights.main_v1_7) = v7
          ∧ r.2.mem ((c.tc : Thread Cert.Weights.nD Cert.Weights.τ).loc Cert.Weights.main_v1_8) = v8
          ∧ r.2.mem ((c.tc : Thread Cert.Weights.nD Cert.Weights.τ).loc Cert.Weights.main_v1_9) = v9
          ∧ r.2.mem ((c.tc : Thread Cert.Weights.nD Cert.Weights.τ).loc Cert.Weights.main_arg0) = m ((c.tc : Thread Cert.Weights.nD Cert.Weights.τ).loc Cert.Weights.main_arg0)
          ∧ r.2.mem ((c.tc : Thread Cert.Weights.nD Cert.Weights.τ).loc Cert.Weights.main_arg1) = m ((c.tc : Thread Cert.Weights.nD Cert.Weights.τ).loc Cert.Weights.main_arg1)
          ∧ r.2.mem ((c.tc : Thread Cert.Weights.nD Cert.Weights.τ).loc Cert.Weights.main_arg2) = m ((c.tc : Thread Cert.Weights.nD Cert.Weights.τ).loc Cert.Weights.main_arg2)
          ∧ r.2.mem ((c.tc : Thread Cert.Weights.nD Cert.Weights.τ).loc Cert.Weights.main_arg3) = m ((c.tc : Thread Cert.Weights.nD Cert.Weights.τ).loc Cert.Weights.main_arg3)
          ∧ r.2.mem ((c.tc : Thread Cert.Weights.nD Cert.Weights.τ).loc Cert.Weights.main_arg4) = m ((c.tc : Thread Cert.Weights.nD Cert.Weights.τ).loc Cert.Weights.main_arg4)
          ∧ r.2.mem ((c.tc : Thread Cert.Weights.nD Cert.Weights.τ).loc Cert.Weights.main_arg5) = m ((c.tc : Thread Cert.Weights.nD Cert.Weights.τ).loc Cert.Weights.main_arg5)
          ∧ r.2.mem ((c.tc : Thread Cert.Weights.nD Cert.Weights.τ).loc Cert.Weights.main_arg6) = m ((c.tc : Thread Cert.Weights.nD Cert.Weights.τ).loc Cert.Weights.main_arg6)
          ∧ r.2.mem ((c.tc : Thread Cert.Weights.nD Cert.Weights.τ).loc Cert.Weights.main_arg7) = m ((c.tc : Thread Cert.Weights.nD Cert.Weights.τ).loc Cert.Weights.main_arg7)
          ∧ r.2.mem ((c.tc : Thread Cert.Weights.nD Cert.Weights.τ).loc Cert.Weights.main_arg8) = m ((c.tc : Thread Cert.Weights.nD Cert.Weights.τ).loc Cert.Weights.main_arg8)
          ∧ r.2.mem ((c.tc : Thread Cert.Weights.nD Cert.Weights.τ).loc Cert.Weights.main_arg9) = m ((c.tc : Thread Cert.Weights.nD Cert.Weights.τ).loc Cert.Weights.main_arg9))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_v1) = v0
          ∧ r.2.mem (((0 : Dev Cert.WeightsRef.nD).tc : Thread Cert.WeightsRef.nD Cert.WeightsRef.τ).loc Cert.WeightsRef.main_v2) = v1
          ∧ r.2.mem (((0 : Dev Cert.WeightsRef.nD).tc : Thread Cert.WeightsRef.nD Cert.WeightsRef.τ).loc Cert.WeightsRef.main_v4) = v2
          ∧ r.2.mem (((0 : Dev Cert.WeightsRef.nD).tc : Thread Cert.WeightsRef.nD Cert.WeightsRef.τ).loc Cert.WeightsRef.main_v6) = v3
          ∧ r.2.mem (((0 : Dev Cert.WeightsRef.nD).tc : Thread Cert.WeightsRef.nD Cert.WeightsRef.τ).loc Cert.WeightsRef.main_v8) = v4
          ∧ r.2.mem (((0 : Dev Cert.WeightsRef.nD).tc : Thread Cert.WeightsRef.nD Cert.WeightsRef.τ).loc Cert.WeightsRef.main_v9) = v5
          ∧ r.2.mem (((0 : Dev Cert.WeightsRef.nD).tc : Thread Cert.WeightsRef.nD Cert.WeightsRef.τ).loc Cert.WeightsRef.main_v11) = v6
          ∧ r.2.mem (((0 : Dev Cert.WeightsRef.nD).tc : Thread Cert.WeightsRef.nD Cert.WeightsRef.τ).loc Cert.WeightsRef.main_v12) = v7
          ∧ r.2.mem (((0 : Dev Cert.WeightsRef.nD).tc : Thread Cert.WeightsRef.nD Cert.WeightsRef.τ).loc Cert.WeightsRef.main_v14) = v8
          ∧ r.2.mem (((0 : Dev Cert.WeightsRef.nD).tc : Thread Cert.WeightsRef.nD Cert.WeightsRef.τ).loc Cert.WeightsRef.main_v16) = v9
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0)
          ∧ r.2.mem (((0 : Dev Cert.WeightsRef.nD).tc : Thread Cert.WeightsRef.nD Cert.WeightsRef.τ).loc Cert.WeightsRef.main_arg1) = m' (((0 : Dev Cert.WeightsRef.nD).tc : Thread Cert.WeightsRef.nD Cert.WeightsRef.τ).loc Cert.WeightsRef.main_arg1)
          ∧ r.2.mem (((0 : Dev Cert.WeightsRef.nD).tc : Thread Cert.WeightsRef.nD Cert.WeightsRef.τ).loc Cert.WeightsRef.main_arg2) = m' (((0 : Dev Cert.WeightsRef.nD).tc : Thread Cert.WeightsRef.nD Cert.WeightsRef.τ).loc Cert.WeightsRef.main_arg2)
          ∧ r.2.mem (((0 : Dev Cert.WeightsRef.nD).tc : Thread Cert.WeightsRef.nD Cert.WeightsRef.τ).loc Cert.WeightsRef.main_arg3) = m' (((0 : Dev Cert.WeightsRef.nD).tc : Thread Cert.WeightsRef.nD Cert.WeightsRef.τ).loc Cert.WeightsRef.main_arg3)
          ∧ r.2.mem (((0 : Dev Cert.WeightsRef.nD).tc : Thread Cert.WeightsRef.nD Cert.WeightsRef.τ).loc Cert.WeightsRef.main_arg4) = m' (((0 : Dev Cert.WeightsRef.nD).tc : Thread Cert.WeightsRef.nD Cert.WeightsRef.τ).loc Cert.WeightsRef.main_arg4)
          ∧ r.2.mem (((0 : Dev Cert.WeightsRef.nD).tc : Thread Cert.WeightsRef.nD Cert.WeightsRef.τ).loc Cert.WeightsRef.main_arg5) = m' (((0 : Dev Cert.WeightsRef.nD).tc : Thread Cert.WeightsRef.nD Cert.WeightsRef.τ).loc Cert.WeightsRef.main_arg5)
          ∧ r.2.mem (((0 : Dev Cert.WeightsRef.nD).tc : Thread Cert.WeightsRef.nD Cert.WeightsRef.τ).loc Cert.WeightsRef.main_arg6) = m' (((0 : Dev Cert.WeightsRef.nD).tc : Thread Cert.WeightsRef.nD Cert.WeightsRef.τ).loc Cert.WeightsRef.main_arg6)
          ∧ r.2.mem (((0 : Dev Cert.WeightsRef.nD).tc : Thread Cert.WeightsRef.nD Cert.WeightsRef.τ).loc Cert.WeightsRef.main_arg7) = m' (((0 : Dev Cert.WeightsRef.nD).tc : Thread Cert.WeightsRef.nD Cert.WeightsRef.τ).loc Cert.WeightsRef.main_arg7)
          ∧ r.2.mem (((0 : Dev Cert.WeightsRef.nD).tc : Thread Cert.WeightsRef.nD Cert.WeightsRef.τ).loc Cert.WeightsRef.main_arg8) = m' (((0 : Dev Cert.WeightsRef.nD).tc : Thread Cert.WeightsRef.nD Cert.WeightsRef.τ).loc Cert.WeightsRef.main_arg8)
          ∧ r.2.mem (((0 : Dev Cert.WeightsRef.nD).tc : Thread Cert.WeightsRef.nD Cert.WeightsRef.τ).loc Cert.WeightsRef.main_arg9) = m' (((0 : Dev Cert.WeightsRef.nD).tc : Thread Cert.WeightsRef.nD Cert.WeightsRef.τ).loc Cert.WeightsRef.main_arg9))

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![4096, 1536]⟩ ⟨2, ![4096, 12288]⟩ 1 8 c (m' (((0 : Dev Cert.WeightsRefIdeal.nD).tc : Thread Cert.WeightsRefIdeal.nD Cert.WeightsRefIdeal.τ).loc Cert.WeightsRefIdeal.main_arg0))
      ∧ m ((c.tc : Thread Cert.WeightsIdeal.nD Cert.WeightsIdeal.τ).loc Cert.WeightsIdeal.main_arg1) = Layout.block ⟨2, ![256, 2048]⟩ ⟨2, ![2048, 2048]⟩ 0 8 c (m' (((0 : Dev Cert.WeightsRefIdeal.nD).tc : Thread Cert.WeightsRefIdeal.nD Cert.WeightsRefIdeal.τ).loc Cert.WeightsRefIdeal.main_arg1))
      ∧ m ((c.tc : Thread Cert.WeightsIdeal.nD Cert.WeightsIdeal.τ).loc Cert.WeightsIdeal.main_arg2) = Layout.block ⟨3, ![4, 64, 512]⟩ ⟨3, ![4, 512, 512]⟩ 1 8 c (m' (((0 : Dev Cert.WeightsRefIdeal.nD).tc : Thread Cert.WeightsRefIdeal.nD Cert.WeightsRefIdeal.τ).loc Cert.WeightsRefIdeal.main_arg2))
      ∧ m ((c.tc : Thread Cert.WeightsIdeal.nD Cert.WeightsIdeal.τ).loc Cert.WeightsIdeal.main_arg3) = Layout.block ⟨2, ![2048, 512]⟩ ⟨2, ![2048, 4096]⟩ 1 8 c (m' (((0 : Dev Cert.WeightsRefIdeal.nD).tc : Thread Cert.WeightsRefIdeal.nD Cert.WeightsRefIdeal.τ).loc Cert.WeightsRefIdeal.main_arg3))
      ∧ m ((c.tc : Thread Cert.WeightsIdeal.nD Cert.WeightsIdeal.τ).loc Cert.WeightsIdeal.main_arg4) = Layout.block ⟨2, ![2048, 512]⟩ ⟨2, ![2048, 4096]⟩ 1 8 c (m' (((0 : Dev Cert.WeightsRefIdeal.nD).tc : Thread Cert.WeightsRefIdeal.nD Cert.WeightsRefIdeal.τ).loc Cert.WeightsRefIdeal.main_arg4))
      ∧ m ((c.tc : Thread Cert.WeightsIdeal.nD Cert.WeightsIdeal.τ).loc Cert.WeightsIdeal.main_arg5) = Layout.block ⟨2, ![512, 4096]⟩ ⟨2, ![4096, 4096]⟩ 0 8 c (m' (((0 : Dev Cert.WeightsRefIdeal.nD).tc : Thread Cert.WeightsRefIdeal.nD Cert.WeightsRefIdeal.τ).loc Cert.WeightsRefIdeal.main_arg5))
      ∧ m ((c.tc : Thread Cert.WeightsIdeal.nD Cert.WeightsIdeal.τ).loc Cert.WeightsIdeal.main_arg6) = Layout.block ⟨2, ![4096, 2752]⟩ ⟨2, ![4096, 22016]⟩ 1 8 c (m' (((0 : Dev Cert.WeightsRefIdeal.nD).tc : Thread Cert.WeightsRefIdeal.nD Cert.WeightsRefIdeal.τ).loc Cert.WeightsRefIdeal.main_arg6))
      ∧ m ((c.tc : Thread Cert.WeightsIdeal.nD Cert.WeightsIdeal.τ).loc Cert.WeightsIdeal.main_arg7) = Layout.block ⟨2, ![1376, 4096]⟩ ⟨2, ![11008, 4096]⟩ 0 8 c (m' (((0 : Dev Cert.WeightsRefIdeal.nD).tc : Thread Cert.WeightsRefIdeal.nD Cert.WeightsRefIdeal.τ).loc Cert.WeightsRefIdeal.main_arg7))
      ∧ m ((c.tc : Thread Cert.WeightsIdeal.nD Cert.WeightsIdeal.τ).loc Cert.WeightsIdeal.main_arg8) = Layout.block ⟨2, ![4, 64]⟩ ⟨2, ![4, 512]⟩ 1 8 c (m' (((0 : Dev Cert.WeightsRefIdeal.nD).tc : Thread Cert.WeightsRefIdeal.nD Cert.WeightsRefIdeal.τ).loc Cert.WeightsRefIdeal.main_arg8))
      ∧ m ((c.tc : Thread Cert.WeightsIdeal.nD Cert.WeightsIdeal.τ).loc Cert.WeightsIdeal.main_arg9) = Layout.block ⟨2, ![3, 2752]⟩ ⟨2, ![3, 22016]⟩ 1 8 c (m' (((0 : Dev Cert.WeightsRefIdeal.nD).tc : Thread Cert.WeightsRefIdeal.nD Cert.WeightsRefIdeal.τ).loc Cert.WeightsRefIdeal.main_arg9))) →
    ∃ (v0 : Buf (Elt Ideal) (((0 : Dev Cert.WeightsRefIdeal.nD).tc : Thread Cert.WeightsRefIdeal.nD Cert.WeightsRefIdeal.τ).loc Cert.WeightsRefIdeal.main_v1)) (v1 : Buf (Elt Ideal) (((0 : Dev Cert.WeightsRefIdeal.nD).tc : Thread Cert.WeightsRefIdeal.nD Cert.WeightsRefIdeal.τ).loc Cert.WeightsRefIdeal.main_v2)) (v2 : Buf (Elt Ideal) (((0 : Dev Cert.WeightsRefIdeal.nD).tc : Thread Cert.WeightsRefIdeal.nD Cert.WeightsRefIdeal.τ).loc Cert.WeightsRefIdeal.main_v4)) (v3 : Buf (Elt Ideal) (((0 : Dev Cert.WeightsRefIdeal.nD).tc : Thread Cert.WeightsRefIdeal.nD Cert.WeightsRefIdeal.τ).loc Cert.WeightsRefIdeal.main_v6)) (v4 : Buf (Elt Ideal) (((0 : Dev Cert.WeightsRefIdeal.nD).tc : Thread Cert.WeightsRefIdeal.nD Cert.WeightsRefIdeal.τ).loc Cert.WeightsRefIdeal.main_v8)) (v5 : Buf (Elt Ideal) (((0 : Dev Cert.WeightsRefIdeal.nD).tc : Thread Cert.WeightsRefIdeal.nD Cert.WeightsRefIdeal.τ).loc Cert.WeightsRefIdeal.main_v9)) (v6 : Buf (Elt Ideal) (((0 : Dev Cert.WeightsRefIdeal.nD).tc : Thread Cert.WeightsRefIdeal.nD Cert.WeightsRefIdeal.τ).loc Cert.WeightsRefIdeal.main_v11)) (v7 : Buf (Elt Ideal) (((0 : Dev Cert.WeightsRefIdeal.nD).tc : Thread Cert.WeightsRefIdeal.nD Cert.WeightsRefIdeal.τ).loc Cert.WeightsRefIdeal.main_v12)) (v8 : Buf (Elt Ideal) (((0 : Dev Cert.WeightsRefIdeal.nD).tc : Thread Cert.WeightsRefIdeal.nD Cert.WeightsRefIdeal.τ).loc Cert.WeightsRefIdeal.main_v14)) (v9 : Buf (Elt Ideal) (((0 : Dev Cert.WeightsRefIdeal.nD).tc : Thread Cert.WeightsRefIdeal.nD Cert.WeightsRefIdeal.τ).loc Cert.WeightsRefIdeal.main_v16)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_v1_3) = v3
          ∧ r.2.mem ((c.tc : Thread Cert.WeightsIdeal.nD Cert.WeightsIdeal.τ).loc Cert.WeightsIdeal.main_v1_4) = v4
          ∧ r.2.mem ((c.tc : Thread Cert.WeightsIdeal.nD Cert.WeightsIdeal.τ).loc Cert.WeightsIdeal.main_v1_5) = v5
          ∧ r.2.mem ((c.tc : Thread Cert.WeightsIdeal.nD Cert.WeightsIdeal.τ).loc Cert.WeightsIdeal.main_v1_6) = v6
          ∧ r.2.mem ((c.tc : Thread Cert.WeightsIdeal.nD Cert.WeightsIdeal.τ).loc Cert.WeightsIdeal.main_v1_7) = v7
          ∧ r.2.mem ((c.tc : Thread Cert.WeightsIdeal.nD Cert.WeightsIdeal.τ).loc Cert.WeightsIdeal.main_v1_8) = v8
          ∧ r.2.mem ((c.tc : Thread Cert.WeightsIdeal.nD Cert.WeightsIdeal.τ).loc Cert.WeightsIdeal.main_v1_9) = v9
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
          ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
          ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8)
          ∧ r.2.mem ((c.tc : Thread Cert.WeightsIdeal.nD Cert.WeightsIdeal.τ).loc Cert.WeightsIdeal.main_arg9) = m ((c.tc : Thread Cert.WeightsIdeal.nD Cert.WeightsIdeal.τ).loc Cert.WeightsIdeal.main_arg9))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v1) = v0
          ∧ r.2.mem (((0 : Dev Cert.WeightsRefIdeal.nD).tc : Thread Cert.WeightsRefIdeal.nD Cert.WeightsRefIdeal.τ).loc Cert.WeightsRefIdeal.main_v2) = v1
          ∧ r.2.mem (((0 : Dev Cert.WeightsRefIdeal.nD).tc : Thread Cert.WeightsRefIdeal.nD Cert.WeightsRefIdeal.τ).loc Cert.WeightsRefIdeal.main_v4) = v2
          ∧ r.2.mem (((0 : Dev Cert.WeightsRefIdeal.nD).tc : Thread Cert.WeightsRefIdeal.nD Cert.WeightsRefIdeal.τ).loc Cert.WeightsRefIdeal.main_v6) = v3
          ∧ r.2.mem (((0 : Dev Cert.WeightsRefIdeal.nD).tc : Thread Cert.WeightsRefIdeal.nD Cert.WeightsRefIdeal.τ).loc Cert.WeightsRefIdeal.main_v8) = v4
          ∧ r.2.mem (((0 : Dev Cert.WeightsRefIdeal.nD).tc : Thread Cert.WeightsRefIdeal.nD Cert.WeightsRefIdeal.τ).loc Cert.WeightsRefIdeal.main_v9) = v5
          ∧ r.2.mem (((0 : Dev Cert.WeightsRefIdeal.nD).tc : Thread Cert.WeightsRefIdeal.nD Cert.WeightsRefIdeal.τ).loc Cert.WeightsRefIdeal.main_v11) = v6
          ∧ r.2.mem (((0 : Dev Cert.WeightsRefIdeal.nD).tc : Thread Cert.WeightsRefIdeal.nD Cert.WeightsRefIdeal.τ).loc Cert.WeightsRefIdeal.main_v12) = v7
          ∧ r.2.mem (((0 : Dev Cert.WeightsRefIdeal.nD).tc : Thread Cert.WeightsRefIdeal.nD Cert.WeightsRefIdeal.τ).loc Cert.WeightsRefIdeal.main_v14) = v8
          ∧ r.2.mem (((0 : Dev Cert.WeightsRefIdeal.nD).tc : Thread Cert.WeightsRefIdeal.nD Cert.WeightsRefIdeal.τ).loc Cert.WeightsRefIdeal.main_v16) = v9
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0)
          ∧ r.2.mem (((0 : Dev Cert.WeightsRefIdeal.nD).tc : Thread Cert.WeightsRefIdeal.nD Cert.WeightsRefIdeal.τ).loc Cert.WeightsRefIdeal.main_arg1) = m' (((0 : Dev Cert.WeightsRefIdeal.nD).tc : Thread Cert.WeightsRefIdeal.nD Cert.WeightsRefIdeal.τ).loc Cert.WeightsRefIdeal.main_arg1)
          ∧ r.2.mem (((0 : Dev Cert.WeightsRefIdeal.nD).tc : Thread Cert.WeightsRefIdeal.nD Cert.WeightsRefIdeal.τ).loc Cert.WeightsRefIdeal.main_arg2) = m' (((0 : Dev Cert.WeightsRefIdeal.nD).tc : Thread Cert.WeightsRefIdeal.nD Cert.WeightsRefIdeal.τ).loc Cert.WeightsRefIdeal.main_arg2)
          ∧ r.2.mem (((0 : Dev Cert.WeightsRefIdeal.nD).tc : Thread Cert.WeightsRefIdeal.nD Cert.WeightsRefIdeal.τ).loc Cert.WeightsRefIdeal.main_arg3) = m' (((0 : Dev Cert.WeightsRefIdeal.nD).tc : Thread Cert.WeightsRefIdeal.nD Cert.WeightsRefIdeal.τ).loc Cert.WeightsRefIdeal.main_arg3)
          ∧ r.2.mem (((0 : Dev Cert.WeightsRefIdeal.nD).tc : Thread Cert.WeightsRefIdeal.nD Cert.WeightsRefIdeal.τ).loc Cert.WeightsRefIdeal.main_arg4) = m' (((0 : Dev Cert.WeightsRefIdeal.nD).tc : Thread Cert.WeightsRefIdeal.nD Cert.WeightsRefIdeal.τ).loc Cert.WeightsRefIdeal.main_arg4)
          ∧ r.2.mem (((0 : Dev Cert.WeightsRefIdeal.nD).tc : Thread Cert.WeightsRefIdeal.nD Cert.WeightsRefIdeal.τ).loc Cert.WeightsRefIdeal.main_arg5) = m' (((0 : Dev Cert.WeightsRefIdeal.nD).tc : Thread Cert.WeightsRefIdeal.nD Cert.WeightsRefIdeal.τ).loc Cert.WeightsRefIdeal.main_arg5)
          ∧ r.2.mem (((0 : Dev Cert.WeightsRefIdeal.nD).tc : Thread Cert.WeightsRefIdeal.nD Cert.WeightsRefIdeal.τ).loc Cert.WeightsRefIdeal.main_arg6) = m' (((0 : Dev Cert.WeightsRefIdeal.nD).tc : Thread Cert.WeightsRefIdeal.nD Cert.WeightsRefIdeal.τ).loc Cert.WeightsRefIdeal.main_arg6)
          ∧ r.2.mem (((0 : Dev Cert.WeightsRefIdeal.nD).tc : Thread Cert.WeightsRefIdeal.nD Cert.WeightsRefIdeal.τ).loc Cert.WeightsRefIdeal.main_arg7) = m' (((0 : Dev Cert.WeightsRefIdeal.nD).tc : Thread Cert.WeightsRefIdeal.nD Cert.WeightsRefIdeal.τ).loc Cert.WeightsRefIdeal.main_arg7)
          ∧ r.2.mem (((0 : Dev Cert.WeightsRefIdeal.nD).tc : Thread Cert.WeightsRefIdeal.nD Cert.WeightsRefIdeal.τ).loc Cert.WeightsRefIdeal.main_arg8) = m' (((0 : Dev Cert.WeightsRefIdeal.nD).tc : Thread Cert.WeightsRefIdeal.nD Cert.WeightsRefIdeal.τ).loc Cert.WeightsRefIdeal.main_arg8)
          ∧ r.2.mem (((0 : Dev Cert.WeightsRefIdeal.nD).tc : Thread Cert.WeightsRefIdeal.nD Cert.WeightsRefIdeal.τ).loc Cert.WeightsRefIdeal.main_arg9) = m' (((0 : Dev Cert.WeightsRefIdeal.nD).tc : Thread Cert.WeightsRefIdeal.nD Cert.WeightsRefIdeal.τ).loc Cert.WeightsRefIdeal.main_arg9))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v1) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v6) = v2 c
          ∧ r.2.mem ((c.tc : Thread Cert.AdamPoolRefIdeal.nD Cert.AdamPoolRefIdeal.τ).loc Cert.AdamPoolRefIdeal.main_v12) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamBs_AdamBsIdeal : Prop :=
  True

def algebraic_AdamBsIdeal_AdamBsRefIdeal [hAdamBsIdeal : Cert.AdamBsIdeal.Facts] [hAdamBsRefIdeal : Cert.AdamBsRefIdeal.Facts] : Prop :=
  ∀ (m : (ℓ : Loc Cert.AdamBsIdeal.nD Cert.AdamBsIdeal.τ Cert.AdamBsIdeal.sig) → Buf (Elt Ideal) ℓ) (g : Dev Cert.AdamBsIdeal.nD → PrngReg)
    (m' : (ℓ : Loc Cert.AdamBsRefIdeal.nD Cert.AdamBsRefIdeal.τ Cert.AdamBsRefIdeal.sig) → Buf (Elt Ideal) ℓ) (g' : Dev Cert.AdamBsRefIdeal.nD → PrngReg), Pre_AdamBsIdeal m →
    (∀ c : Dev Cert.AdamBsIdeal.nD,
      m' ((c.tc : Thread Cert.AdamBsRefIdeal.nD Cert.AdamBsRefIdeal.τ).loc Cert.AdamBsRefIdeal.main_arg0) = m ((c.tc : Thread Cert.AdamBsIdeal.nD Cert.AdamBsIdeal.τ).loc Cert.AdamBsIdeal.main_arg0)
      ∧ m' ((c.tc : Thread Cert.AdamBsRefIdeal.nD Cert.AdamBsRefIdeal.τ).loc Cert.AdamBsRefIdeal.main_arg1) = m ((c.tc : Thread Cert.AdamBsIdeal.nD Cert.AdamBsIdeal.τ).loc Cert.AdamBsIdeal.main_arg1)
      ∧ m' ((c.tc : Thread Cert.AdamBsRefIdeal.nD Cert.AdamBsRefIdeal.τ).loc Cert.AdamBsRefIdeal.main_arg2) = m ((c.tc : Thread Cert.AdamBsIdeal.nD Cert.AdamBsIdeal.τ).loc Cert.AdamBsIdeal.main_arg2)
      ∧ m' ((c.tc : Thread Cert.AdamBsRefIdeal.nD Cert.AdamBsRefIdeal.τ).loc Cert.AdamBsRefIdeal.main_arg3) = m ((c.tc : Thread Cert.AdamBsIdeal.nD Cert.AdamBsIdeal.τ).loc Cert.AdamBsIdeal.main_arg3)) →
    ∃ (v0 : (c : Dev Cert.AdamBsIdeal.nD) → Buf (Elt Ideal) ((c.tc : Thread Cert.AdamBsIdeal.nD Cert.AdamBsIdeal.τ).loc Cert.AdamBsIdeal.main_v0_0)) (v1 : (c : Dev Cert.AdamBsIdeal.nD) → Buf (Elt Ideal) ((c.tc : Thread Cert.AdamBsIdeal.nD Cert.AdamBsIdeal.τ).loc Cert.AdamBsIdeal.main_v0_1)) (v2 : (c : Dev Cert.AdamBsIdeal.nD) → Buf (Elt Ideal) ((c.tc : Thread Cert.AdamBsIdeal.nD Cert.AdamBsIdeal.τ).loc Cert.AdamBsIdeal.main_v0_2)) (v3 : (c : Dev Cert.AdamBsIdeal.nD) → Buf (Elt Ideal) ((c.tc : Thread Cert.AdamBsIdeal.nD Cert.AdamBsIdeal.τ).loc Cert.AdamBsIdeal.main_v0_3)),
      θ_run (Cert.AdamBsIdeal.defs (F := Ideal)) (onTc (τ := Cert.AdamBsIdeal.τ) (Cert.AdamBsIdeal.main (F := Ideal))) ⟨m, fun _ => 0, g⟩ (fun r => ∀ c : Dev Cert.AdamBsIdeal.nD,
          r.2.mem ((c.tc : Thread Cert.AdamBsIdeal.nD Cert.AdamBsIdeal.τ).loc Cert.AdamBsIdeal.main_v0_0) = v0 c
          ∧ r.2.mem ((c.tc : Thread Cert.AdamBsIdeal.nD Cert.AdamBsIdeal.τ).loc Cert.AdamBsIdeal.main_v0_1) = v1 c
          ∧ r.2.mem ((c.tc : Thread Cert.AdamBsIdeal.nD Cert.AdamBsIdeal.τ).loc Cert.AdamBsIdeal.main_v0_2) = v2 c
          ∧ r.2.mem ((c.tc : Thread Cert.AdamBsIdeal.nD Cert.AdamBsIdeal.τ).loc Cert.AdamBsIdeal.main_v0_3) = v3 c
          ∧ r.2.mem ((c.tc : Thread Cert.AdamBsIdeal.nD Cert.AdamBsIdeal.τ).loc Cert.AdamBsIdeal.main_arg0) = m ((c.tc : Thread Cert.AdamBsIdeal.nD Cert.AdamBsIdeal.τ).loc Cert.AdamBsIdeal.main_arg0)
          ∧ r.2.mem ((c.tc : Thread Cert.AdamBsIdeal.nD Cert.AdamBsIdeal.τ).loc Cert.AdamBsIdeal.main_arg1) = m ((c.tc : Thread Cert.AdamBsIdeal.nD Cert.AdamBsIdeal.τ).loc Cert.AdamBsIdeal.main_arg1)
          ∧ r.2.mem ((c.tc : Thread Cert.AdamBsIdeal.nD Cert.AdamBsIdeal.τ).loc Cert.AdamBsIdeal.main_arg2) = m ((c.tc : Thread Cert.AdamBsIdeal.nD Cert.AdamBsIdeal.τ).loc Cert.AdamBsIdeal.main_arg2)
          ∧ r.2.mem ((c.tc : Thread Cert.AdamBsIdeal.nD Cert.AdamBsIdeal.τ).loc Cert.AdamBsIdeal.main_arg3) = m ((c.tc : Thread Cert.AdamBsIdeal.nD Cert.AdamBsIdeal.τ).loc Cert.AdamBsIdeal.main_arg3))
      ∧ θ_run (Cert.AdamBsRefIdeal.defs (F := Ideal)) (onTc (τ := Cert.AdamBsRefIdeal.τ) (Cert.AdamBsRefIdeal.main (F := Ideal))) ⟨m', fun _ => 0, g'⟩ (fun r => ∀ c : Dev Cert.AdamBsRefIdeal.nD,
          r.2.mem ((c.tc : Thread Cert.AdamBsRefIdeal.nD Cert.AdamBsRefIdeal.τ).loc Cert.AdamBsRefIdeal.main_v1) = v0 c
          ∧ r.2.mem ((c.tc : Thread Cert.AdamBsRefIdeal.nD Cert.AdamBsRefIdeal.τ).loc Cert.AdamBsRefIdeal.main_v25) = v1 c
          ∧ r.2.mem ((c.tc : Thread Cert.AdamBsRefIdeal.nD Cert.AdamBsRefIdeal.τ).loc Cert.AdamBsRefIdeal.main_v6) = v2 c
          ∧ r.2.mem ((c.tc : Thread Cert.AdamBsRefIdeal.nD Cert.AdamBsRefIdeal.τ).loc Cert.AdamBsRefIdeal.main_v12) = v3 c
          ∧ r.2.mem ((c.tc : Thread Cert.AdamBsRefIdeal.nD Cert.AdamBsRefIdeal.τ).loc Cert.AdamBsRefIdeal.main_arg0) = m' ((c.tc : Thread Cert.AdamBsRefIdeal.nD Cert.AdamBsRefIdeal.τ).loc Cert.AdamBsRefIdeal.main_arg0)
          ∧ r.2.mem ((c.tc : Thread Cert.AdamBsRefIdeal.nD Cert.AdamBsRefIdeal.τ).loc Cert.AdamBsRefIdeal.main_arg1) = m' ((c.tc : Thread Cert.AdamBsRefIdeal.nD Cert.AdamBsRefIdeal.τ).loc Cert.AdamBsRefIdeal.main_arg1)
          ∧ r.2.mem ((c.tc : Thread Cert.AdamBsRefIdeal.nD Cert.AdamBsRefIdeal.τ).loc Cert.AdamBsRefIdeal.main_arg2) = m' ((c.tc : Thread Cert.AdamBsRefIdeal.nD Cert.AdamBsRefIdeal.τ).loc Cert.AdamBsRefIdeal.main_arg2)
          ∧ r.2.mem ((c.tc : Thread Cert.AdamBsRefIdeal.nD Cert.AdamBsRefIdeal.τ).loc Cert.AdamBsRefIdeal.main_arg3) = m' ((c.tc : Thread Cert.AdamBsRefIdeal.nD Cert.AdamBsRefIdeal.τ).loc Cert.AdamBsRefIdeal.main_arg3))

def preserves_AdamBp_AdamBpIdeal : Prop :=
  True

def algebraic_AdamBpIdeal_AdamBpRefIdeal [hAdamBpIdeal : Cert.AdamBpIdeal.Facts] [hAdamBpRefIdeal : Cert.AdamBpRefIdeal.Facts] : Prop :=
  ∀ (m : (ℓ : Loc Cert.AdamBpIdeal.nD Cert.AdamBpIdeal.τ Cert.AdamBpIdeal.sig) → Buf (Elt Ideal) ℓ) (g : Dev Cert.AdamBpIdeal.nD → PrngReg)
    (m' : (ℓ : Loc Cert.AdamBpRefIdeal.nD Cert.AdamBpRefIdeal.τ Cert.AdamBpRefIdeal.sig) → Buf (Elt Ideal) ℓ) (g' : Dev Cert.AdamBpRefIdeal.nD → PrngReg), Pre_AdamBpIdeal m →
    (∀ c : Dev Cert.AdamBpIdeal.nD,
      m' ((c.tc : Thread Cert.AdamBpRefIdeal.nD Cert.AdamBpRefIdeal.τ).loc Cert.AdamBpRefIdeal.main_arg0) = m ((c.tc : Thread Cert.AdamBpIdeal.nD Cert.AdamBpIdeal.τ).loc Cert.AdamBpIdeal.main_arg0)
      ∧ m' ((c.tc : Thread Cert.AdamBpRefIdeal.nD Cert.AdamBpRefIdeal.τ).loc Cert.AdamBpRefIdeal.main_arg1) = m ((c.tc : Thread Cert.AdamBpIdeal.nD Cert.AdamBpIdeal.τ).loc Cert.AdamBpIdeal.main_arg1)
      ∧ m' ((c.tc : Thread Cert.AdamBpRefIdeal.nD Cert.AdamBpRefIdeal.τ).loc Cert.AdamBpRefIdeal.main_arg2) = m ((c.tc : Thread Cert.AdamBpIdeal.nD Cert.AdamBpIdeal.τ).loc Cert.AdamBpIdeal.main_arg2)
      ∧ m' ((c.tc : Thread Cert.AdamBpRefIdeal.nD Cert.AdamBpRefIdeal.τ).loc Cert.AdamBpRefIdeal.main_arg3) = m ((c.tc : Thread Cert.AdamBpIdeal.nD Cert.AdamBpIdeal.τ).loc Cert.AdamBpIdeal.main_arg3)) →
    ∃ (v0 : (c : Dev Cert.AdamBpIdeal.nD) → Buf (Elt Ideal) ((c.tc : Thread Cert.AdamBpIdeal.nD Cert.AdamBpIdeal.τ).loc Cert.AdamBpIdeal.main_v0_0)) (v1 : (c : Dev Cert.AdamBpIdeal.nD) → Buf (Elt Ideal) ((c.tc : Thread Cert.AdamBpIdeal.nD Cert.AdamBpIdeal.τ).loc Cert.AdamBpIdeal.main_v0_1)) (v2 : (c : Dev Cert.AdamBpIdeal.nD) → Buf (Elt Ideal) ((c.tc : Thread Cert.AdamBpIdeal.nD Cert.AdamBpIdeal.τ).loc Cert.AdamBpIdeal.main_v0_2)) (v3 : (c : Dev Cert.AdamBpIdeal.nD) → Buf (Elt Ideal) ((c.tc : Thread Cert.AdamBpIdeal.nD Cert.AdamBpIdeal.τ).loc Cert.AdamBpIdeal.main_v0_3)),
      θ_run (Cert.AdamBpIdeal.defs (F := Ideal)) (onTc (τ := Cert.AdamBpIdeal.τ) (Cert.AdamBpIdeal.main (F := Ideal))) ⟨m, fun _ => 0, g⟩ (fun r => ∀ c : Dev Cert.AdamBpIdeal.nD,
          r.2.mem ((c.tc : Thread Cert.AdamBpIdeal.nD Cert.AdamBpIdeal.τ).loc Cert.AdamBpIdeal.main_v0_0) = v0 c
          ∧ r.2.mem ((c.tc : Thread Cert.AdamBpIdeal.nD Cert.AdamBpIdeal.τ).loc Cert.AdamBpIdeal.main_v0_1) = v1 c
          ∧ r.2.mem ((c.tc : Thread Cert.AdamBpIdeal.nD Cert.AdamBpIdeal.τ).loc Cert.AdamBpIdeal.main_v0_2) = v2 c
          ∧ r.2.mem ((c.tc : Thread Cert.AdamBpIdeal.nD Cert.AdamBpIdeal.τ).loc Cert.AdamBpIdeal.main_v0_3) = v3 c
          ∧ r.2.mem ((c.tc : Thread Cert.AdamBpIdeal.nD Cert.AdamBpIdeal.τ).loc Cert.AdamBpIdeal.main_arg0) = m ((c.tc : Thread Cert.AdamBpIdeal.nD Cert.AdamBpIdeal.τ).loc Cert.AdamBpIdeal.main_arg0)
          ∧ r.2.mem ((c.tc : Thread Cert.AdamBpIdeal.nD Cert.AdamBpIdeal.τ).loc Cert.AdamBpIdeal.main_arg1) = m ((c.tc : Thread Cert.AdamBpIdeal.nD Cert.AdamBpIdeal.τ).loc Cert.AdamBpIdeal.main_arg1)
          ∧ r.2.mem ((c.tc : Thread Cert.AdamBpIdeal.nD Cert.AdamBpIdeal.τ).loc Cert.AdamBpIdeal.main_arg2) = m ((c.tc : Thread Cert.AdamBpIdeal.nD Cert.AdamBpIdeal.τ).loc Cert.AdamBpIdeal.main_arg2)
          ∧ r.2.mem ((c.tc : Thread Cert.AdamBpIdeal.nD Cert.AdamBpIdeal.τ).loc Cert.AdamBpIdeal.main_arg3) = m ((c.tc : Thread Cert.AdamBpIdeal.nD Cert.AdamBpIdeal.τ).loc Cert.AdamBpIdeal.main_arg3))
      ∧ θ_run (Cert.AdamBpRefIdeal.defs (F := Ideal)) (onTc (τ := Cert.AdamBpRefIdeal.τ) (Cert.AdamBpRefIdeal.main (F := Ideal))) ⟨m', fun _ => 0, g'⟩ (fun r => ∀ c : Dev Cert.AdamBpRefIdeal.nD,
          r.2.mem ((c.tc : Thread Cert.AdamBpRefIdeal.nD Cert.AdamBpRefIdeal.τ).loc Cert.AdamBpRefIdeal.main_v1) = v0 c
          ∧ r.2.mem ((c.tc : Thread Cert.AdamBpRefIdeal.nD Cert.AdamBpRefIdeal.τ).loc Cert.AdamBpRefIdeal.main_v25) = v1 c
          ∧ r.2.mem ((c.tc : Thread Cert.AdamBpRefIdeal.nD Cert.AdamBpRefIdeal.τ).loc Cert.AdamBpRefIdeal.main_v6) = v2 c
          ∧ r.2.mem ((c.tc : Thread Cert.AdamBpRefIdeal.nD Cert.AdamBpRefIdeal.τ).loc Cert.AdamBpRefIdeal.main_v12) = v3 c
          ∧ r.2.mem ((c.tc : Thread Cert.AdamBpRefIdeal.nD Cert.AdamBpRefIdeal.τ).loc Cert.AdamBpRefIdeal.main_arg0) = m' ((c.tc : Thread Cert.AdamBpRefIdeal.nD Cert.AdamBpRefIdeal.τ).loc Cert.AdamBpRefIdeal.main_arg0)
          ∧ r.2.mem ((c.tc : Thread Cert.AdamBpRefIdeal.nD Cert.AdamBpRefIdeal.τ).loc Cert.AdamBpRefIdeal.main_arg1) = m' ((c.tc : Thread Cert.AdamBpRefIdeal.nD Cert.AdamBpRefIdeal.τ).loc Cert.AdamBpRefIdeal.main_arg1)
          ∧ r.2.mem ((c.tc : Thread Cert.AdamBpRefIdeal.nD Cert.AdamBpRefIdeal.τ).loc Cert.AdamBpRefIdeal.main_arg2) = m' ((c.tc : Thread Cert.AdamBpRefIdeal.nD Cert.AdamBpRefIdeal.τ).loc Cert.AdamBpRefIdeal.main_arg2)
          ∧ r.2.mem ((c.tc : Thread Cert.AdamBpRefIdeal.nD Cert.AdamBpRefIdeal.τ).loc Cert.AdamBpRefIdeal.main_arg3) = m' ((c.tc : Thread Cert.AdamBpRefIdeal.nD Cert.AdamBpRefIdeal.τ).loc Cert.AdamBpRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Totals_TotalsIdeal : Prop :=
  True

def algebraic_TotalsIdeal_TotalsRefIdeal [hTotalsIdeal : Cert.TotalsIdeal.Facts] [hTotalsRefIdeal : Cert.TotalsRefIdeal.Facts] : Prop :=
  ∀ (m : (ℓ : Loc Cert.TotalsIdeal.nD Cert.TotalsIdeal.τ Cert.TotalsIdeal.sig) → Buf (Elt Ideal) ℓ) (g : Dev Cert.TotalsIdeal.nD → PrngReg)
    (m' : (ℓ : Loc Cert.TotalsRefIdeal.nD Cert.TotalsRefIdeal.τ Cert.TotalsRefIdeal.sig) → Buf (Elt Ideal) ℓ) (g' : Dev Cert.TotalsRefIdeal.nD → PrngReg), Pre_TotalsIdeal m →
    (∀ c : Dev Cert.TotalsIdeal.nD,
      m' ((c.tc : Thread Cert.TotalsRefIdeal.nD Cert.TotalsRefIdeal.τ).loc Cert.TotalsRefIdeal.main_arg0) = m ((c.tc : Thread Cert.TotalsIdeal.nD Cert.TotalsIdeal.τ).loc Cert.TotalsIdeal.main_arg0)) →
    ∃ (v0 : (c : Dev Cert.TotalsIdeal.nD) → Buf (Elt Ideal) ((c.tc : Thread Cert.TotalsIdeal.nD Cert.TotalsIdeal.τ).loc Cert.TotalsIdeal.main_v0_0)) (v1 : (c : Dev Cert.TotalsIdeal.nD) → Buf (Elt Ideal) ((c.tc : Thread Cert.TotalsIdeal.nD Cert.TotalsIdeal.τ).loc Cert.TotalsIdeal.main_v0_1)),
      θ_run (Cert.TotalsIdeal.defs (F := Ideal)) (onTc (τ := Cert.TotalsIdeal.τ) (Cert.TotalsIdeal.main (F := Ideal))) ⟨m, fun _ => 0, g⟩ (fun r => ∀ c : Dev Cert.TotalsIdeal.nD,
          r.2.mem ((c.tc : Thread Cert.TotalsIdeal.nD Cert.TotalsIdeal.τ).loc Cert.TotalsIdeal.main_v0_0) = v0 c
          ∧ r.2.mem ((c.tc : Thread Cert.TotalsIdeal.nD Cert.TotalsIdeal.τ).loc Cert.TotalsIdeal.main_v0_1) = v1 c
          ∧ r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ θ_run (Cert.TotalsRefIdeal.defs (F := Ideal)) (onTc (τ := Cert.TotalsRefIdeal.τ) (Cert.TotalsRefIdeal.main (F := Ideal))) ⟨m', fun _ => 0, g'⟩ (fun r => ∀ c : Dev Cert.TotalsRefIdeal.nD,
          r.2.mem ((c.tc : Thread Cert.TotalsRefIdeal.nD Cert.TotalsRefIdeal.τ).loc Cert.TotalsRefIdeal.main_v0) = v0 c
          ∧ r.2.mem ((c.tc : Thread Cert.TotalsRefIdeal.nD Cert.TotalsRefIdeal.τ).loc Cert.TotalsRefIdeal.main_v5) = v1 c
          ∧ r.2.mem ((c.tc : Thread Cert.TotalsRefIdeal.nD Cert.TotalsRefIdeal.τ).loc Cert.TotalsRefIdeal.main_arg0) = m' ((c.tc : Thread Cert.TotalsRefIdeal.nD Cert.TotalsRefIdeal.τ).loc Cert.TotalsRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v22) = v0 c
          ∧ r.2.mem ((c.tc : Thread Cert.NormRefIdeal.nD Cert.NormRefIdeal.τ).loc Cert.NormRefIdeal.main_v25) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v12) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_MidNorm_MidNormIdeal : Prop :=
  True

def algebraic_MidNormIdeal_MidNormRefIdeal [hMidNormIdeal : Cert.MidNormIdeal.Facts] [hMidNormRefIdeal : Cert.MidNormRefIdeal.Facts] : Prop :=
  ∀ (m : (ℓ : Loc Cert.MidNormIdeal.nD Cert.MidNormIdeal.τ Cert.MidNormIdeal.sig) → Buf (Elt Ideal) ℓ) (g : Dev Cert.MidNormIdeal.nD → PrngReg)
    (m' : (ℓ : Loc Cert.MidNormRefIdeal.nD Cert.MidNormRefIdeal.τ Cert.MidNormRefIdeal.sig) → Buf (Elt Ideal) ℓ) (g' : Dev Cert.MidNormRefIdeal.nD → PrngReg), Pre_MidNormIdeal m →
    (∀ c : Dev Cert.MidNormIdeal.nD,
      m' ((c.tc : Thread Cert.MidNormRefIdeal.nD Cert.MidNormRefIdeal.τ).loc Cert.MidNormRefIdeal.main_arg0) = m ((c.tc : Thread Cert.MidNormIdeal.nD Cert.MidNormIdeal.τ).loc Cert.MidNormIdeal.main_arg0)
      ∧ m' ((c.tc : Thread Cert.MidNormRefIdeal.nD Cert.MidNormRefIdeal.τ).loc Cert.MidNormRefIdeal.main_arg1) = m ((c.tc : Thread Cert.MidNormIdeal.nD Cert.MidNormIdeal.τ).loc Cert.MidNormIdeal.main_arg1)
      ∧ m' ((c.tc : Thread Cert.MidNormRefIdeal.nD Cert.MidNormRefIdeal.τ).loc Cert.MidNormRefIdeal.main_arg2) = m ((c.tc : Thread Cert.MidNormIdeal.nD Cert.MidNormIdeal.τ).loc Cert.MidNormIdeal.main_arg2)
      ∧ m' ((c.tc : Thread Cert.MidNormRefIdeal.nD Cert.MidNormRefIdeal.τ).loc Cert.MidNormRefIdeal.main_arg3) = m ((c.tc : Thread Cert.MidNormIdeal.nD Cert.MidNormIdeal.τ).loc Cert.MidNormIdeal.main_arg3)) →
    ∃ (v0 : (c : Dev Cert.MidNormIdeal.nD) → Buf (Elt Ideal) ((c.tc : Thread Cert.MidNormIdeal.nD Cert.MidNormIdeal.τ).loc Cert.MidNormIdeal.main_v0_0)) (v1 : (c : Dev Cert.MidNormIdeal.nD) → Buf (Elt Ideal) ((c.tc : Thread Cert.MidNormIdeal.nD Cert.MidNormIdeal.τ).loc Cert.MidNormIdeal.main_v0_1)),
      θ_run (Cert.MidNormIdeal.defs (F := Ideal)) (onTc (τ := Cert.MidNormIdeal.τ) (Cert.MidNormIdeal.main (F := Ideal))) ⟨m, fun _ => 0, g⟩ (fun r => ∀ c : Dev Cert.MidNormIdeal.nD,
          r.2.mem ((c.tc : Thread Cert.MidNormIdeal.nD Cert.MidNormIdeal.τ).loc Cert.MidNormIdeal.main_v0_0) = v0 c
          ∧ r.2.mem ((c.tc : Thread Cert.MidNormIdeal.nD Cert.MidNormIdeal.τ).loc Cert.MidNormIdeal.main_v0_1) = v1 c
          ∧ r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
          ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
          ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
          ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3))
      ∧ θ_run (Cert.MidNormRefIdeal.defs (F := Ideal)) (onTc (τ := Cert.MidNormRefIdeal.τ) (Cert.MidNormRefIdeal.main (F := Ideal))) ⟨m', fun _ => 0, g'⟩ (fun r => ∀ c : Dev Cert.MidNormRefIdeal.nD,
          r.2.mem ((c.tc : Thread Cert.MidNormRefIdeal.nD Cert.MidNormRefIdeal.τ).loc Cert.MidNormRefIdeal.main_v12) = v0 c
          ∧ r.2.mem ((c.tc : Thread Cert.MidNormRefIdeal.nD Cert.MidNormRefIdeal.τ).loc Cert.MidNormRefIdeal.main_v25) = v1 c
          ∧ r.2.mem ((c.tc : Thread Cert.MidNormRefIdeal.nD Cert.MidNormRefIdeal.τ).loc Cert.MidNormRefIdeal.main_arg0) = m' ((c.tc : Thread Cert.MidNormRefIdeal.nD Cert.MidNormRefIdeal.τ).loc Cert.MidNormRefIdeal.main_arg0)
          ∧ r.2.mem ((c.tc : Thread Cert.MidNormRefIdeal.nD Cert.MidNormRefIdeal.τ).loc Cert.MidNormRefIdeal.main_arg1) = m' ((c.tc : Thread Cert.MidNormRefIdeal.nD Cert.MidNormRefIdeal.τ).loc Cert.MidNormRefIdeal.main_arg1)
          ∧ r.2.mem ((c.tc : Thread Cert.MidNormRefIdeal.nD Cert.MidNormRefIdeal.τ).loc Cert.MidNormRefIdeal.main_arg2) = m' ((c.tc : Thread Cert.MidNormRefIdeal.nD Cert.MidNormRefIdeal.τ).loc Cert.MidNormRefIdeal.main_arg2)
          ∧ r.2.mem ((c.tc : Thread Cert.MidNormRefIdeal.nD Cert.MidNormRefIdeal.τ).loc Cert.MidNormRefIdeal.main_arg3) = m' ((c.tc : Thread Cert.MidNormRefIdeal.nD Cert.MidNormRefIdeal.τ).loc Cert.MidNormRefIdeal.main_arg3))

def preserves_PostFfn_PostFfnIdeal : Prop :=
  True

def algebraic_PostFfnIdeal_PostFfnRefIdeal [hPostFfnIdeal : Cert.PostFfnIdeal.Facts] [hPostFfnRefIdeal : Cert.PostFfnRefIdeal.Facts] : Prop :=
  ∀ (m : (ℓ : Loc Cert.PostFfnIdeal.nD Cert.PostFfnIdeal.τ Cert.PostFfnIdeal.sig) → Buf (Elt Ideal) ℓ) (g : Dev Cert.PostFfnIdeal.nD → PrngReg)
    (m' : (ℓ : Loc Cert.PostFfnRefIdeal.nD Cert.PostFfnRefIdeal.τ Cert.PostFfnRefIdeal.sig) → Buf (Elt Ideal) ℓ) (g' : Dev Cert.PostFfnRefIdeal.nD → PrngReg), Pre_PostFfnIdeal m →
    (∀ c : Dev Cert.PostFfnIdeal.nD,
      m' ((c.tc : Thread Cert.PostFfnRefIdeal.nD Cert.PostFfnRefIdeal.τ).loc Cert.PostFfnRefIdeal.main_arg0) = m ((c.tc : Thread Cert.PostFfnIdeal.nD Cert.PostFfnIdeal.τ).loc Cert.PostFfnIdeal.main_arg0)
      ∧ m' ((c.tc : Thread Cert.PostFfnRefIdeal.nD Cert.PostFfnRefIdeal.τ).loc Cert.PostFfnRefIdeal.main_arg1) = m ((c.tc : Thread Cert.PostFfnIdeal.nD Cert.PostFfnIdeal.τ).loc Cert.PostFfnIdeal.main_arg1)
      ∧ m' ((c.tc : Thread Cert.PostFfnRefIdeal.nD Cert.PostFfnRefIdeal.τ).loc Cert.PostFfnRefIdeal.main_arg2) = m ((c.tc : Thread Cert.PostFfnIdeal.nD Cert.PostFfnIdeal.τ).loc Cert.PostFfnIdeal.main_arg2)
      ∧ m' ((c.tc : Thread Cert.PostFfnRefIdeal.nD Cert.PostFfnRefIdeal.τ).loc Cert.PostFfnRefIdeal.main_arg3) = m ((c.tc : Thread Cert.PostFfnIdeal.nD Cert.PostFfnIdeal.τ).loc Cert.PostFfnIdeal.main_arg3)) →
    ∃ (v0 : (c : Dev Cert.PostFfnIdeal.nD) → Buf (Elt Ideal) ((c.tc : Thread Cert.PostFfnIdeal.nD Cert.PostFfnIdeal.τ).loc Cert.PostFfnIdeal.main_v0_0)) (v1 : (c : Dev Cert.PostFfnIdeal.nD) → Buf (Elt Ideal) ((c.tc : Thread Cert.PostFfnIdeal.nD Cert.PostFfnIdeal.τ).loc Cert.PostFfnIdeal.main_v0_1)) (v2 : (c : Dev Cert.PostFfnIdeal.nD) → Buf (Elt Ideal) ((c.tc : Thread Cert.PostFfnIdeal.nD Cert.PostFfnIdeal.τ).loc Cert.PostFfnIdeal.main_v0_2)) (v3 : (c : Dev Cert.PostFfnIdeal.nD) → Buf (Elt Ideal) ((c.tc : Thread Cert.PostFfnIdeal.nD Cert.PostFfnIdeal.τ).loc Cert.PostFfnIdeal.main_v0_3)),
      θ_run (Cert.PostFfnIdeal.defs (F := Ideal)) (onTc (τ := Cert.PostFfnIdeal.τ) (Cert.PostFfnIdeal.main (F := Ideal))) ⟨m, fun _ => 0, g⟩ (fun r => ∀ c : Dev Cert.PostFfnIdeal.nD,
          r.2.mem ((c.tc : Thread Cert.PostFfnIdeal.nD Cert.PostFfnIdeal.τ).loc Cert.PostFfnIdeal.main_v0_0) = v0 c
          ∧ r.2.mem ((c.tc : Thread Cert.PostFfnIdeal.nD Cert.PostFfnIdeal.τ).loc Cert.PostFfnIdeal.main_v0_1) = v1 c
          ∧ r.2.mem ((c.tc : Thread Cert.PostFfnIdeal.nD Cert.PostFfnIdeal.τ).loc Cert.PostFfnIdeal.main_v0_2) = v2 c
          ∧ r.2.mem ((c.tc : Thread Cert.PostFfnIdeal.nD Cert.PostFfnIdeal.τ).loc Cert.PostFfnIdeal.main_v0_3) = v3 c
          ∧ r.2.mem ((c.tc : Thread Cert.PostFfnIdeal.nD Cert.PostFfnIdeal.τ).loc Cert.PostFfnIdeal.main_arg0) = m ((c.tc : Thread Cert.PostFfnIdeal.nD Cert.PostFfnIdeal.τ).loc Cert.PostFfnIdeal.main_arg0)
          ∧ r.2.mem ((c.tc : Thread Cert.PostFfnIdeal.nD Cert.PostFfnIdeal.τ).loc Cert.PostFfnIdeal.main_arg1) = m ((c.tc : Thread Cert.PostFfnIdeal.nD Cert.PostFfnIdeal.τ).loc Cert.PostFfnIdeal.main_arg1)
          ∧ r.2.mem ((c.tc : Thread Cert.PostFfnIdeal.nD Cert.PostFfnIdeal.τ).loc Cert.PostFfnIdeal.main_arg2) = m ((c.tc : Thread Cert.PostFfnIdeal.nD Cert.PostFfnIdeal.τ).loc Cert.PostFfnIdeal.main_arg2)
          ∧ r.2.mem ((c.tc : Thread Cert.PostFfnIdeal.nD Cert.PostFfnIdeal.τ).loc Cert.PostFfnIdeal.main_arg3) = m ((c.tc : Thread Cert.PostFfnIdeal.nD Cert.PostFfnIdeal.τ).loc Cert.PostFfnIdeal.main_arg3))
      ∧ θ_run (Cert.PostFfnRefIdeal.defs (F := Ideal)) (onTc (τ := Cert.PostFfnRefIdeal.τ) (Cert.PostFfnRefIdeal.main (F := Ideal))) ⟨m', fun _ => 0, g'⟩ (fun r => ∀ c : Dev Cert.PostFfnRefIdeal.nD,
          r.2.mem ((c.tc : Thread Cert.PostFfnRefIdeal.nD Cert.PostFfnRefIdeal.τ).loc Cert.PostFfnRefIdeal.main_v15) = v0 c
          ∧ r.2.mem ((c.tc : Thread Cert.PostFfnRefIdeal.nD Cert.PostFfnRefIdeal.τ).loc Cert.PostFfnRefIdeal.main_v28) = v1 c
          ∧ r.2.mem ((c.tc : Thread Cert.PostFfnRefIdeal.nD Cert.PostFfnRefIdeal.τ).loc Cert.PostFfnRefIdeal.main_v31) = v2 c
          ∧ r.2.mem ((c.tc : Thread Cert.PostFfnRefIdeal.nD Cert.PostFfnRefIdeal.τ).loc Cert.PostFfnRefIdeal.main_v34) = v3 c
          ∧ r.2.mem ((c.tc : Thread Cert.PostFfnRefIdeal.nD Cert.PostFfnRefIdeal.τ).loc Cert.PostFfnRefIdeal.main_arg0) = m' ((c.tc : Thread Cert.PostFfnRefIdeal.nD Cert.PostFfnRefIdeal.τ).loc Cert.PostFfnRefIdeal.main_arg0)
          ∧ r.2.mem ((c.tc : Thread Cert.PostFfnRefIdeal.nD Cert.PostFfnRefIdeal.τ).loc Cert.PostFfnRefIdeal.main_arg1) = m' ((c.tc : Thread Cert.PostFfnRefIdeal.nD Cert.PostFfnRefIdeal.τ).loc Cert.PostFfnRefIdeal.main_arg1)
          ∧ r.2.mem ((c.tc : Thread Cert.PostFfnRefIdeal.nD Cert.PostFfnRefIdeal.τ).loc Cert.PostFfnRefIdeal.main_arg2) = m' ((c.tc : Thread Cert.PostFfnRefIdeal.nD Cert.PostFfnRefIdeal.τ).loc Cert.PostFfnRefIdeal.main_arg2)
          ∧ r.2.mem ((c.tc : Thread Cert.PostFfnRefIdeal.nD Cert.PostFfnRefIdeal.τ).loc Cert.PostFfnRefIdeal.main_arg3) = m' ((c.tc : Thread Cert.PostFfnRefIdeal.nD Cert.PostFfnRefIdeal.τ).loc Cert.PostFfnRefIdeal.main_arg3))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v22) = v0 c
          ∧ r.2.mem ((c.tc : Thread Cert.MidBwdRefIdeal.nD Cert.MidBwdRefIdeal.τ).loc Cert.MidBwdRefIdeal.main_v45) = v1 c
          ∧ r.2.mem ((c.tc : Thread Cert.MidBwdRefIdeal.nD Cert.MidBwdRefIdeal.τ).loc Cert.MidBwdRefIdeal.main_v48) = v2 c
          ∧ r.2.mem ((c.tc : Thread Cert.MidBwdRefIdeal.nD Cert.MidBwdRefIdeal.τ).loc Cert.MidBwdRefIdeal.main_v51) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v2) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v5) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)
      ∧ m' ((c.tc : Thread Cert.FfnUpDxRefIdeal.nD Cert.FfnUpDxRefIdeal.τ).loc Cert.FfnUpDxRefIdeal.main_arg2) = m ((c.tc : Thread Cert.FfnUpDxIdeal.nD Cert.FfnUpDxIdeal.τ).loc Cert.FfnUpDxIdeal.main_arg2)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v4) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1)
          ∧ r.2.mem ((c.tc : Thread Cert.FfnUpDxRefIdeal.nD Cert.FfnUpDxRefIdeal.τ).loc Cert.FfnUpDxRefIdeal.main_arg2) = m' ((c.tc : Thread Cert.FfnUpDxRefIdeal.nD Cert.FfnUpDxRefIdeal.τ).loc Cert.FfnUpDxRefIdeal.main_arg2))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)
      ∧ m' ((c.tc : Thread Cert.FfnUpDwRefIdeal.nD Cert.FfnUpDwRefIdeal.τ).loc Cert.FfnUpDwRefIdeal.main_arg2) = m ((c.tc : Thread Cert.FfnUpDwIdeal.nD Cert.FfnUpDwIdeal.τ).loc Cert.FfnUpDwIdeal.main_arg2)) →
    ∃ (v0 : (c : Dev Cert.FfnUpDwIdeal.nD) → Buf (Elt Ideal) ((c.tc : Thread Cert.FfnUpDwIdeal.nD Cert.FfnUpDwIdeal.τ).loc Cert.FfnUpDwIdeal.main_v0_0)) (v1 : (c : Dev Cert.FfnUpDwIdeal.nD) → Buf (Elt Ideal) ((c.tc : Thread Cert.FfnUpDwIdeal.nD Cert.FfnUpDwIdeal.τ).loc Cert.FfnUpDwIdeal.main_v0_1)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0_0) = v0 c
          ∧ r.2.mem ((c.tc : Thread Cert.FfnUpDwIdeal.nD Cert.FfnUpDwIdeal.τ).loc Cert.FfnUpDwIdeal.main_v0_1) = v1 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1)
          ∧ r.2.mem ((c.tc : Thread Cert.FfnUpDwIdeal.nD Cert.FfnUpDwIdeal.τ).loc Cert.FfnUpDwIdeal.main_arg2) = m ((c.tc : Thread Cert.FfnUpDwIdeal.nD Cert.FfnUpDwIdeal.τ).loc Cert.FfnUpDwIdeal.main_arg2))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v10) = v0 c
          ∧ r.2.mem ((c.tc : Thread Cert.FfnUpDwRefIdeal.nD Cert.FfnUpDwRefIdeal.τ).loc Cert.FfnUpDwRefIdeal.main_v13) = v1 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1)
          ∧ r.2.mem ((c.tc : Thread Cert.FfnUpDwRefIdeal.nD Cert.FfnUpDwRefIdeal.τ).loc Cert.FfnUpDwRefIdeal.main_arg2) = m' ((c.tc : Thread Cert.FfnUpDwRefIdeal.nD Cert.FfnUpDwRefIdeal.τ).loc Cert.FfnUpDwRefIdeal.main_arg2))

def Claim : Prop :=
  ∃ (hKernel : Cert.Kernel.Facts) (hKernelIdeal : Cert.KernelIdeal.Facts) (hReferenceIdeal : Cert.ReferenceIdeal.Facts) (hReference : Cert.Reference.Facts) (hExchange : Cert.Exchange.Facts) (hExchangeIdeal : Cert.ExchangeIdeal.Facts) (hExchangeRefIdeal : Cert.ExchangeRefIdeal.Facts) (hExchangeRef : Cert.ExchangeRef.Facts) (hWeights : Cert.Weights.Facts) (hWeightsIdeal : Cert.WeightsIdeal.Facts) (hWeightsRefIdeal : Cert.WeightsRefIdeal.Facts) (hWeightsRef : Cert.WeightsRef.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamPool : Cert.AdamPool.Facts) (hAdamPoolIdeal : Cert.AdamPoolIdeal.Facts) (hAdamPoolRefIdeal : Cert.AdamPoolRefIdeal.Facts) (hAdamBs : Cert.AdamBs.Facts) (hAdamBsIdeal : Cert.AdamBsIdeal.Facts) (hAdamBsRefIdeal : Cert.AdamBsRefIdeal.Facts) (hAdamBp : Cert.AdamBp.Facts) (hAdamBpIdeal : Cert.AdamBpIdeal.Facts) (hAdamBpRefIdeal : Cert.AdamBpRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hTotals : Cert.Totals.Facts) (hTotalsIdeal : Cert.TotalsIdeal.Facts) (hTotalsRefIdeal : Cert.TotalsRefIdeal.Facts) (hNorm : Cert.Norm.Facts) (hNormIdeal : Cert.NormIdeal.Facts) (hNormRefIdeal : Cert.NormRefIdeal.Facts) (hPreNorm : Cert.PreNorm.Facts) (hPreNormIdeal : Cert.PreNormIdeal.Facts) (hPreNormRefIdeal : Cert.PreNormRefIdeal.Facts) (hMidNorm : Cert.MidNorm.Facts) (hMidNormIdeal : Cert.MidNormIdeal.Facts) (hMidNormRefIdeal : Cert.MidNormRefIdeal.Facts) (hPostFfn : Cert.PostFfn.Facts) (hPostFfnIdeal : Cert.PostFfnIdeal.Facts) (hPostFfnRefIdeal : Cert.PostFfnRefIdeal.Facts) (hMidBwd : Cert.MidBwd.Facts) (hMidBwdIdeal : Cert.MidBwdIdeal.Facts) (hMidBwdRefIdeal : Cert.MidBwdRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamBs (hAdamBs := hAdamBs)
    ∧ quiescent_AdamBsIdeal (hAdamBsIdeal := hAdamBsIdeal)
    ∧ quiescent_AdamBsRefIdeal (hAdamBsRefIdeal := hAdamBsRefIdeal)
    ∧ quiescent_AdamBp (hAdamBp := hAdamBp)
    ∧ quiescent_AdamBpIdeal (hAdamBpIdeal := hAdamBpIdeal)
    ∧ quiescent_AdamBpRefIdeal (hAdamBpRefIdeal := hAdamBpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Totals (hTotals := hTotals)
    ∧ quiescent_TotalsIdeal (hTotalsIdeal := hTotalsIdeal)
    ∧ quiescent_TotalsRefIdeal (hTotalsRefIdeal := hTotalsRefIdeal)
    ∧ quiescent_Norm (hNorm := hNorm)
    ∧ quiescent_NormIdeal (hNormIdeal := hNormIdeal)
    ∧ quiescent_NormRefIdeal (hNormRefIdeal := hNormRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_MidNorm (hMidNorm := hMidNorm)
    ∧ quiescent_MidNormIdeal (hMidNormIdeal := hMidNormIdeal)
    ∧ quiescent_MidNormRefIdeal (hMidNormRefIdeal := hMidNormRefIdeal)
    ∧ quiescent_PostFfn (hPostFfn := hPostFfn)
    ∧ quiescent_PostFfnIdeal (hPostFfnIdeal := hPostFfnIdeal)
    ∧ quiescent_PostFfnRefIdeal (hPostFfnRefIdeal := hPostFfnRefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Exchange_ExchangeIdeal
    ∧ bitexact_Exchange_ExchangeRef (hExchange := hExchange) (hExchangeRef := hExchangeRef)
    ∧ algebraic_ExchangeIdeal_ExchangeRefIdeal (hExchangeIdeal := hExchangeIdeal) (hExchangeRefIdeal := hExchangeRefIdeal)
    ∧ preserves_Weights_WeightsIdeal
    ∧ bitexact_Weights_WeightsRef (hWeights := hWeights) (hWeightsRef := hWeightsRef)
    ∧ algebraic_WeightsIdeal_WeightsRefIdeal (hWeightsIdeal := hWeightsIdeal) (hWeightsRefIdeal := hWeightsRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamBs_AdamBsIdeal
    ∧ algebraic_AdamBsIdeal_AdamBsRefIdeal (hAdamBsIdeal := hAdamBsIdeal) (hAdamBsRefIdeal := hAdamBsRefIdeal)
    ∧ preserves_AdamBp_AdamBpIdeal
    ∧ algebraic_AdamBpIdeal_AdamBpRefIdeal (hAdamBpIdeal := hAdamBpIdeal) (hAdamBpRefIdeal := hAdamBpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Totals_TotalsIdeal
    ∧ algebraic_TotalsIdeal_TotalsRefIdeal (hTotalsIdeal := hTotalsIdeal) (hTotalsRefIdeal := hTotalsRefIdeal)
    ∧ preserves_Norm_NormIdeal
    ∧ algebraic_NormIdeal_NormRefIdeal (hNormIdeal := hNormIdeal) (hNormRefIdeal := hNormRefIdeal)
    ∧ preserves_PreNorm_PreNormIdeal
    ∧ algebraic_PreNormIdeal_PreNormRefIdeal (hPreNormIdeal := hPreNormIdeal) (hPreNormRefIdeal := hPreNormRefIdeal)
    ∧ preserves_MidNorm_MidNormIdeal
    ∧ algebraic_MidNormIdeal_MidNormRefIdeal (hMidNormIdeal := hMidNormIdeal) (hMidNormRefIdeal := hMidNormRefIdeal)
    ∧ preserves_PostFfn_PostFfnIdeal
    ∧ algebraic_PostFfnIdeal_PostFfnRefIdeal (hPostFfnIdeal := hPostFfnIdeal) (hPostFfnRefIdeal := hPostFfnRefIdeal)
    ∧ preserves_MidBwd_MidBwdIdeal
    ∧ algebraic_MidBwdIdeal_MidBwdRefIdeal (hMidBwdIdeal := hMidBwdIdeal) (hMidBwdRefIdeal := hMidBwdRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
-- ==== Kernel.lean ====
abbrev S5152x128 : Shape := ⟨2, ![5152, 128]⟩
abbrev S8x5152x128 : Shape := ⟨3, ![8, 5152, 128]⟩
abbrev S1x7 : Shape := ⟨2, ![1, 7]⟩
abbrev S1 : Shape := ⟨1, ![1]⟩
abbrev S_ : Shape := ⟨0, ![]⟩
abbrev S1x5152x128 : Shape := ⟨3, ![1, 5152, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S5152x128, .f32⟩
  | .hbm, ⟨1, _⟩ => ⟨S8x5152x128, .f32⟩
  | _, _ => ⟨S5152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_65 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v98 : BitVec 32 := Scalar.muli c4_i32_65 v10
  let c2_i32_66 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.muli c2_i32_66 v5
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v101 : BitVec 32 := Scalar.addi v100 v8
  let c0_i32_75 : BitVec 32 := 0#32
  let c0_i32_76 : BitVec 32 := 0#32
  ![v101.toNat, 0, 0]
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v114 : BitVec 32 := Scalar.muli v2 c4_i32_83
  let v115 : BitVec 32 := Scalar.addi c0_i32_84 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v116 : BitVec 32 := Scalar.muli v5 c2_i32_85
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v118 : BitVec 32 := Scalar.muli v9 c1_i32_86
  let v119 : BitVec 32 := Scalar.addi v117 v118
  v119.toNat
def k0_off3 (d0 : Dev nD) : Fin 3 → Nat :=
  let c4_i32_91 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_91 v2
  let c2_i32_92 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v129 : BitVec 32 := Scalar.muli c2_i32_92 v11
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c0_i32_101 : BitVec 32 := 0#32
  let c0_i32_102 : BitVec 32 := 0#32
  ![v131.toNat, 0, 0]
def k0_dev6 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v144 : BitVec 32 := Scalar.muli v2 c4_i32_108
  let v145 : BitVec 32 := Scalar.addi c0_i32_109 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v146 : BitVec 32 := Scalar.muli v5 c2_i32_110
  let v147 : BitVec 32 := Scalar.addi v145 v146
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_111 : BitVec 32 := 1#32
  let v148 : BitVec 32 := Scalar.muli v9 c1_i32_111
  let v149 : BitVec 32 := Scalar.addi v147 v148
  v149.toNat
def k0_off4 (d0 : Dev nD) : Fin 3 → Nat :=
  let c4_i32_116 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v158 : BitVec 32 := Scalar.muli c4_i32_116 v12
  let c2_i32_117 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v159 : BitVec 32 := Scalar.muli c2_i32_117 v13
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v161 : BitVec 32 := Scalar.addi v160 v8
  let c0_i32_126 : BitVec 32 := 0#32
  let c0_i32_127 : BitVec 32 := 0#32
  ![v161.toNat, 0, 0]
def k0_dev7 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v174 : BitVec 32 := Scalar.muli v2 c4_i32_133
  let v175 : BitVec 32 := Scalar.addi c0_i32_134 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v176 : BitVec 32 := Scalar.muli v5 c2_i32_135
  let v177 : BitVec 32 := Scalar.addi v175 v176
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_136 : BitVec 32 := 1#32
  let v178 : BitVec 32 := Scalar.muli v9 c1_i32_136
  let v179 : BitVec 32 := Scalar.addi v177 v178
  v179.toNat
def k0_off5 (d0 : Dev nD) : Fin 3 → Nat :=
  let c4_i32_141 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v188 : BitVec 32 := Scalar.muli c4_i32_141 v2
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v189 : BitVec 32 := Scalar.muli c2_i32_142 v5
  let v190 : BitVec 32 := Scalar.addi v188 v189
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v191 : BitVec 32 := Scalar.addi v190 v9
  let c0_i32_151 : BitVec 32 := 0#32
  let c0_i32_152 : BitVec 32 := 0#32
  ![v191.toNat, 0, 0]
def k0_off6 (d0 : Dev nD) : Fin 3 → Nat :=
  let c4_i32_156 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v205 : BitVec 32 := Scalar.muli c4_i32_156 v10
  let c2_i32_157 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v206 : BitVec 32 := Scalar.muli c2_i32_157 v5
  let v207 : BitVec 32 := Scalar.addi v205 v206
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_155 v8
  let v208 : BitVec 32 := Scalar.addi v207 v204
  let c0_i32_166 : BitVec 32 := 0#32
  let c0_i32_167 : BitVec 32 := 0#32
  ![v208.toNat, 0, 0]
def k0_off7 (d0 : Dev nD) : Fin 3 → Nat :=
  let c4_i32_171 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.muli c4_i32_171 v2
  let c2_i32_172 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v223 : BitVec 32 := Scalar.muli c2_i32_172 v11
  let v224 : BitVec 32 := Scalar.addi v222 v223
  let c1_i32_170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.subi c1_i32_170 v8
  let v225 : BitVec 32 := Scalar.addi v224 v221
  let c0_i32_181 : BitVec 32 := 0#32
  let c0_i32_182 : BitVec 32 := 0#32
  ![v225.toNat, 0, 0]
def k0_off8 (d0 : Dev nD) : Fin 3 → Nat :=
  let c4_i32_186 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v239 : BitVec 32 := Scalar.muli c4_i32_186 v12
  let c2_i32_187 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v240 : BitVec 32 := Scalar.muli c2_i32_187 v13
  let v241 : BitVec 32 := Scalar.addi v239 v240
  let c1_i32_185 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v238 : BitVec 32 := Scalar.subi c1_i32_185 v8
  let v242 : BitVec 32 := Scalar.addi v241 v238
  let c0_i32_196 : BitVec 32 := 0#32
  let c0_i32_197 : BitVec 32 := 0#32
  ![v242.toNat, 0, 0]
-- ==== Reference.lean ====
abbrev S41216x128 : Shape := ⟨2, ![41216, 128]⟩
abbrev S8x5152x128 : Shape := ⟨3, ![8, 5152, 128]⟩

abbrev nBuf : Space → Nat
  | .hbm => 2
  | .vmem => 0
  | .smem => 0
  | _ => 0

abbrev bufTy : (tb : Table) → Fin (tcTables nBuf tb) → BufTy
  | .hbm, ⟨0, _⟩ => ⟨S41216x128, .f32⟩
  | .hbm, ⟨1, _⟩ => ⟨S8x5152x128, .f32⟩
  | _, _ => ⟨S41216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Exchange.lean ====
abbrev S8x4096x1536 : Shape := ⟨3, ![8, 4096, 1536]⟩
abbrev S8x256x2048 : Shape := ⟨3, ![8, 256, 2048]⟩
abbrev S8x4x64x512 : Shape := ⟨4, ![8, 4, 64, 512]⟩
abbrev S8x2048x512 : Shape := ⟨3, ![8, 2048, 512]⟩
abbrev S8x512x4096 : Shape := ⟨3, ![8, 512, 4096]⟩
abbrev S8x4096x2752 : Shape := ⟨3, ![8, 4096, 2752]⟩
abbrev S8x1376x4096 : Shape := ⟨3, ![8, 1376, 4096]⟩
abbrev S8x7 : Shape := ⟨2, ![8, 7]⟩
abbrev S8 : Shape := ⟨1, ![8]⟩
abbrev S1 : Shape := ⟨1, ![1]⟩
abbrev S_ : Shape := ⟨0, ![]⟩
abbrev S1x4096x1536 : Shape := ⟨3, ![1, 4096, 1536]⟩
abbrev S4096x1536 : Shape := ⟨2, ![4096, 1536]⟩
abbrev S1x1 : Shape := ⟨2, ![1, 1]⟩
abbrev S1x256x2048 : Shape := ⟨3, ![1, 256, 2048]⟩
abbrev S256x2048 : Shape := ⟨2, ![256, 2048]⟩
abbrev S1x4x64x512 : Shape := ⟨4, ![1, 4, 64, 512]⟩
abbrev S4x64x512 : Shape := ⟨3, ![4, 64, 512]⟩
abbrev S1x2048x512 : Shape := ⟨3, ![1, 2048, 512]⟩
abbrev S2048x512 : Shape := ⟨2, ![2048, 512]⟩
abbrev S1x512x4096 : Shape := ⟨3, ![1, 512, 4096]⟩
abbrev S512x4096 : Shape := ⟨2, ![512, 4096]⟩
abbrev S1x4096x2752 : Shape := ⟨3, ![1, 4096, 2752]⟩
abbrev S4096x2752 : Shape := ⟨2, ![4096, 2752]⟩
abbrev S1x1376x4096 : Shape := ⟨3, ![1, 1376, 4096]⟩
abbrev S1376x4096 : Shape := ⟨2, ![1376, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S8x256x2048, .bf16⟩
  | .hbm, ⟨2, _⟩ => ⟨S8x4x64x512, .bf16⟩
  | .hbm, ⟨3, _⟩ => ⟨S8x2048x512, .bf16⟩
  | .hbm, ⟨4, _⟩ => ⟨S8x2048x512, .bf16⟩
  | .hbm, ⟨5, _⟩ => ⟨S8x512x4096, .bf16⟩
  | .hbm, ⟨6, _⟩ => ⟨S8x4096x2752, .bf16⟩
  | .hbm, ⟨7, _⟩ => ⟨S8x1376x4096, .bf16⟩
  | .hbm, ⟨8, _⟩ => ⟨S8x4096x1536, .bf16⟩
  | .hbm, ⟨9, _⟩ => ⟨S8x256x2048, .bf16⟩
  | .hbm, ⟨10, _⟩ => ⟨S8x4x64x512, .bf16⟩
  | .hbm, ⟨11, _⟩ => ⟨S8x2048x512, .bf16⟩
  | .hbm, ⟨12, _⟩ => ⟨S8x2048x512, .bf16⟩
  | .hbm, ⟨13, _⟩ => ⟨S8x512x4096, .bf16⟩
  | .hbm, ⟨14, _⟩ => ⟨S8x4096x2752, .bf16⟩
  | .hbm, ⟨15, _⟩ => ⟨S8x1376x4096, .bf16⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_17 v2
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.muli c2_i32_18 v5
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.addi v27 v8
  let c0_i32_19 : BitVec 32 := 0#32
  let c0_i32_20 : BitVec 32 := 0#32
  ![v28.toNat, 0, 0]
def k0_off2 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_23 v2
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_24 v5
  let v37 : BitVec 32 := Scalar.addi v35 v36
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v38 : BitVec 32 := Scalar.addi v37 v9
  let c0_i32_37 : BitVec 32 := 0#32
  let c0_i32_38 : BitVec 32 := 0#32
  ![v38.toNat, 0, 0]
def k0_dev1 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v43 : BitVec 32 := Scalar.muli v2 c4_i32_31
  let v44 : BitVec 32 := Scalar.addi c0_i32_32 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v45 : BitVec 32 := Scalar.muli v5 c2_i32_33
  let v46 : BitVec 32 := Scalar.addi v44 v45
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v47 : BitVec 32 := Scalar.muli v9 c1_i32_34
  let v48 : BitVec 32 := Scalar.addi v46 v47
  v48.toNat
def k0_off3 (d0 : Dev nD) : Fin 3 → Nat :=
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.muli c4_i32_39 v2
  let c2_i32_40 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v58 : BitVec 32 := Scalar.muli c2_i32_40 v10
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v60 : BitVec 32 := Scalar.addi v59 v8
  let c0_i32_53 : BitVec 32 := 0#32
  let c0_i32_54 : BitVec 32 := 0#32
  ![v60.toNat, 0, 0]
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v65 : BitVec 32 := Scalar.muli v2 c4_i32_47
  let v66 : BitVec 32 := Scalar.addi c0_i32_48 v65
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_49 : BitVec 32 := 2#32
  let v67 : BitVec 32 := Scalar.muli v10 c2_i32_49
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v69 : BitVec 32 := Scalar.muli v8 c1_i32_50
  let v70 : BitVec 32 := Scalar.addi v68 v69
  v70.toNat
def k0_off4 (d0 : Dev nD) : Fin 3 → Nat :=
  let c4_i32_55 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v79 : BitVec 32 := Scalar.muli c4_i32_55 v2
  let c2_i32_56 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v80 : BitVec 32 := Scalar.muli c2_i32_56 v11
  let v81 : BitVec 32 := Scalar.addi v79 v80
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v82 : BitVec 32 := Scalar.addi v81 v12
  let c0_i32_69 : BitVec 32 := 0#32
  let c0_i32_70 : BitVec 32 := 0#32
  ![v82.toNat, 0, 0]
def k0_dev3 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v87 : BitVec 32 := Scalar.muli v2 c4_i32_63
  let v88 : BitVec 32 := Scalar.addi c0_i32_64 v87
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_65 : BitVec 32 := 2#32
  let v89 : BitVec 32 := Scalar.muli v11 c2_i32_65
  let v90 : BitVec 32 := Scalar.addi v88 v89
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_66 : BitVec 32 := 1#32
  let v91 : BitVec 32 := Scalar.muli v12 c1_i32_66
  let v92 : BitVec 32 := Scalar.addi v90 v91
  v92.toNat
def k0_off5 (d0 : Dev nD) : Fin 3 → Nat :=
  let c4_i32_71 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v101 : BitVec 32 := Scalar.muli c4_i32_71 v13
  let c2_i32_72 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v102 : BitVec 32 := Scalar.muli c2_i32_72 v5
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v104 : BitVec 32 := Scalar.addi v103 v8
  let c0_i32_84 : BitVec 32 := 0#32
  let c0_i32_85 : BitVec 32 := 0#32
  ![v104.toNat, 0, 0]
def k0_dev4 (d0 : Dev nD) : Nat :=
  let c0_i32_79 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_78 : BitVec 32 := 4#32
  let v109 : BitVec 32 := Scalar.muli v13 c4_i32_78
  let v110 : BitVec 32 := Scalar.addi c0_i32_79 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v111 : BitVec 32 := Scalar.muli v5 c2_i32_80
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v113 : BitVec 32 := Scalar.muli v8 c1_i32_81
  let v114 : BitVec 32 := Scalar.addi v112 v113
  v114.toNat
def k0_off6 (d0 : Dev nD) : Fin 3 → Nat :=
  let c4_i32_86 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v123 : BitVec 32 := Scalar.muli c4_i32_86 v14
  let c2_i32_87 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v124 : BitVec 32 := Scalar.muli c2_i32_87 v5
  let v125 : BitVec 32 := Scalar.addi v123 v124
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v126 : BitVec 32 := Scalar.addi v125 v15
  let c0_i32_100 : BitVec 32 := 0#32
  let c0_i32_101 : BitVec 32 := 0#32
  ![v126.toNat, 0, 0]
def k0_dev5 (d0 : Dev nD) : Nat :=
  let c0_i32_95 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_94 : BitVec 32 := 4#32
  let v131 : BitVec 32 := Scalar.muli v14 c4_i32_94
  let v132 : BitVec 32 := Scalar.addi c0_i32_95 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v133 : BitVec 32 := Scalar.muli v5 c2_i32_96
  let v134 : BitVec 32 := Scalar.addi v132 v133
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_97 : BitVec 32 := 1#32
  let v135 : BitVec 32 := Scalar.muli v15 c1_i32_97
  let v136 : BitVec 32 := Scalar.addi v134 v135
  v136.toNat
def k0_off7 (d0 : Dev nD) : Fin 3 → Nat :=
  let c4_i32_102 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v145 : BitVec 32 := Scalar.muli c4_i32_102 v16
  let c2_i32_103 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v146 : BitVec 32 := Scalar.muli c2_i32_103 v17
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v148 : BitVec 32 := Scalar.addi v147 v8
  let c0_i32_115 : BitVec 32 := 0#32
  let c0_i32_116 : BitVec 32 := 0#32
  ![v148.toNat, 0, 0]
def k0_dev6 (d0 : Dev nD) : Nat :=
  let c0_i32_110 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_109 : BitVec 32 := 4#32
  let v153 : BitVec 32 := Scalar.muli v16 c4_i32_109
  let v154 : BitVec 32 := Scalar.addi c0_i32_110 v153
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_111 : BitVec 32 := 2#32
  let v155 : BitVec 32 := Scalar.muli v17 c2_i32_111
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v157 : BitVec 32 := Scalar.muli v8 c1_i32_112
  let v158 : BitVec 32 := Scalar.addi v156 v157
  v158.toNat
def k0_off8 (d0 : Dev nD) : Fin 3 → Nat :=
  let c4_i32_117 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v167 : BitVec 32 := Scalar.muli c4_i32_117 v18
  let c2_i32_118 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v168 : BitVec 32 := Scalar.muli c2_i32_118 v19
  let v169 : BitVec 32 := Scalar.addi v167 v168
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v170 : BitVec 32 := Scalar.addi v169 v20
  let c0_i32_130 : BitVec 32 := 0#32
  let c0_i32_131 : BitVec 32 := 0#32
  ![v170.toNat, 0, 0]
def k0_dev7 (d0 : Dev nD) : Nat :=
  let c0_i32_125 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_124 : BitVec 32 := 4#32
  let v175 : BitVec 32 := Scalar.muli v18 c4_i32_124
  let v176 : BitVec 32 := Scalar.addi c0_i32_125 v175
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_126 : BitVec 32 := 2#32
  let v177 : BitVec 32 := Scalar.muli v19 c2_i32_126
  let v178 : BitVec 32 := Scalar.addi v176 v177
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_127 : BitVec 32 := 1#32
  let v179 : BitVec 32 := Scalar.muli v20 c1_i32_127
  let v180 : BitVec 32 := Scalar.addi v178 v179
  v180.toNat
def k0_off9 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v193 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v194 : BitVec 32 := Scalar.muli c2_i32_135 v5
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v196 : BitVec 32 := Scalar.addi v195 v8
  let c0_i32_137 : BitVec 32 := 0#32
  let c0_i32_138 : BitVec 32 := 0#32
  ![v196.toNat, 0, 0]
def k0_off10 (d0 : Dev nD) : Fin 3 → Nat :=
  let c4_i32_141 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.muli c4_i32_141 v2
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v204 : BitVec 32 := Scalar.muli c2_i32_142 v5
  let v205 : BitVec 32 := Scalar.addi v203 v204
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v206 : BitVec 32 := Scalar.addi v205 v9
  let c0_i32_155 : BitVec 32 := 0#32
  let c0_i32_156 : BitVec 32 := 0#32
  ![v206.toNat, 0, 0]
def k0_dev8 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v211 : BitVec 32 := Scalar.muli v2 c4_i32_149
  let v212 : BitVec 32 := Scalar.addi c0_i32_150 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v213 : BitVec 32 := Scalar.muli v5 c2_i32_151
  let v214 : BitVec 32 := Scalar.addi v212 v213
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_152 : BitVec 32 := 1#32
  let v215 : BitVec 32 := Scalar.muli v9 c1_i32_152
  let v216 : BitVec 32 := Scalar.addi v214 v215
  v216.toNat
def k0_off11 (d0 : Dev nD) : Fin 3 → Nat :=
  let c4_i32_157 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v225 : BitVec 32 := Scalar.muli c4_i32_157 v2
  let c2_i32_158 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v226 : BitVec 32 := Scalar.muli c2_i32_158 v10
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.addi v227 v8
  let c0_i32_171 : BitVec 32 := 0#32
  let c0_i32_172 : BitVec 32 := 0#32
  ![v228.toNat, 0, 0]
def k0_dev9 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v233 : BitVec 32 := Scalar.muli v2 c4_i32_165
  let v234 : BitVec 32 := Scalar.addi c0_i32_166 v233
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_167 : BitVec 32 := 2#32
  let v235 : BitVec 32 := Scalar.muli v10 c2_i32_167
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v237 : BitVec 32 := Scalar.muli v8 c1_i32_168
  let v238 : BitVec 32 := Scalar.addi v236 v237
  v238.toNat
def k0_off12 (d0 : Dev nD) : Fin 3 → Nat :=
  let c4_i32_173 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.muli c4_i32_173 v2
  let c2_i32_174 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v248 : BitVec 32 := Scalar.muli c2_i32_174 v11
  let v249 : BitVec 32 := Scalar.addi v247 v248
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v250 : BitVec 32 := Scalar.addi v249 v12
  let c0_i32_187 : BitVec 32 := 0#32
  let c0_i32_188 : BitVec 32 := 0#32
  ![v250.toNat, 0, 0]
def k0_dev10 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v255 : BitVec 32 := Scalar.muli v2 c4_i32_181
  let v256 : BitVec 32 := Scalar.addi c0_i32_182 v255
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_183 : BitVec 32 := 2#32
  let v257 : BitVec 32 := Scalar.muli v11 c2_i32_183
  let v258 : BitVec 32 := Scalar.addi v256 v257
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_184 : BitVec 32 := 1#32
  let v259 : BitVec 32 := Scalar.muli v12 c1_i32_184
  let v260 : BitVec 32 := Scalar.addi v258 v259
  v260.toNat
def k0_off13 (d0 : Dev nD) : Fin 3 → Nat :=
  let c4_i32_189 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v269 : BitVec 32 := Scalar.muli c4_i32_189 v13
  let c2_i32_190 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v270 : BitVec 32 := Scalar.muli c2_i32_190 v5
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.addi v271 v8
  let c0_i32_203 : BitVec 32 := 0#32
  let c0_i32_204 : BitVec 32 := 0#32
  ![v272.toNat, 0, 0]
def k0_dev11 (d0 : Dev nD) : Nat :=
  let c0_i32_198 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_197 : BitVec 32 := 4#32
  let v277 : BitVec 32 := Scalar.muli v13 c4_i32_197
  let v278 : BitVec 32 := Scalar.addi c0_i32_198 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v279 : BitVec 32 := Scalar.muli v5 c2_i32_199
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v281 : BitVec 32 := Scalar.muli v8 c1_i32_200
  let v282 : BitVec 32 := Scalar.addi v280 v281
  v282.toNat
def k0_off14 (d0 : Dev nD) : Fin 3 → Nat :=
  let c4_i32_205 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v291 : BitVec 32 := Scalar.muli c4_i32_205 v14
  let c2_i32_206 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v292 : BitVec 32 := Scalar.muli c2_i32_206 v5
  let v293 : BitVec 32 := Scalar.addi v291 v292
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v294 : BitVec 32 := Scalar.addi v293 v15
  let c0_i32_219 : BitVec 32 := 0#32
  let c0_i32_220 : BitVec 32 := 0#32
  ![v294.toNat, 0, 0]
def k0_dev12 (d0 : Dev nD) : Nat :=
  let c0_i32_214 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_213 : BitVec 32 := 4#32
  let v299 : BitVec 32 := Scalar.muli v14 c4_i32_213
  let v300 : BitVec 32 := Scalar.addi c0_i32_214 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v301 : BitVec 32 := Scalar.muli v5 c2_i32_215
  let v302 : BitVec 32 := Scalar.addi v300 v301
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_216 : BitVec 32 := 1#32
  let v303 : BitVec 32 := Scalar.muli v15 c1_i32_216
  let v304 : BitVec 32 := Scalar.addi v302 v303
  v304.toNat
def k0_off15 (d0 : Dev nD) : Fin 3 → Nat :=
  let c4_i32_221 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v313 : BitVec 32 := Scalar.muli c4_i32_221 v16
  let c2_i32_222 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v314 : BitVec 32 := Scalar.muli c2_i32_222 v17
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.addi v315 v8
  let c0_i32_235 : BitVec 32 := 0#32
  let c0_i32_236 : BitVec 32 := 0#32
  ![v316.toNat, 0, 0]
def k0_dev13 (d0 : Dev nD) : Nat :=
  let c0_i32_230 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_229 : BitVec 32 := 4#32
  let v321 : BitVec 32 := Scalar.muli v16 c4_i32_229
  let v322 : BitVec 32 := Scalar.addi c0_i32_230 v321
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_231 : BitVec 32 := 2#32
  let v323 : BitVec 32 := Scalar.muli v17 c2_i32_231
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v325 : BitVec 32 := Scalar.muli v8 c1_i32_232
  let v326 : BitVec 32 := Scalar.addi v324 v325
  v326.toNat
def k0_off16 (d0 : Dev nD) : Fin 3 → Nat :=
  let c4_i32_237 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v335 : BitVec 32 := Scalar.muli c4_i32_237 v18
  let c2_i32_238 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v336 : BitVec 32 := Scalar.muli c2_i32_238 v19
  let v337 : BitVec 32 := Scalar.addi v335 v336
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v338 : BitVec 32 := Scalar.addi v337 v20
  let c0_i32_251 : BitVec 32 := 0#32
  let c0_i32_252 : BitVec 32 := 0#32
  ![v338.toNat, 0, 0]
def k0_dev14 (d0 : Dev nD) : Nat :=
  let c0_i32_246 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_245 : BitVec 32 := 4#32
  let v343 : BitVec 32 := Scalar.muli v18 c4_i32_245
  let v344 : BitVec 32 := Scalar.addi c0_i32_246 v343
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_247 : BitVec 32 := 2#32
  let v345 : BitVec 32 := Scalar.muli v19 c2_i32_247
  let v346 : BitVec 32 := Scalar.addi v344 v345
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_248 : BitVec 32 := 1#32
  let v347 : BitVec 32 := Scalar.muli v20 c1_i32_248
  let v348 : BitVec 32 := Scalar.addi v346 v347
  v348.toNat
def k0_off17 (d0 : Dev nD) : Fin 4 → Nat :=
  let c4_i32_255 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v361 : BitVec 32 := Scalar.muli c4_i32_255 v2
  let c2_i32_256 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v362 : BitVec 32 := Scalar.muli c2_i32_256 v5
  let v363 : BitVec 32 := Scalar.addi v361 v362
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v364 : BitVec 32 := Scalar.addi v363 v8
  let c0_i32_258 : BitVec 32 := 0#32
  let c0_i32_259 : BitVec 32 := 0#32
  let c0_i32_260 : BitVec 32 := 0#32
  ![v364.toNat, 0, 0, 0]
def k0_off18 (d0 : Dev nD) : Fin 4 → Nat :=
  let c4_i32_264 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v371 : BitVec 32 := Scalar.muli c4_i32_264 v2
  let c2_i32_265 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v372 : BitVec 32 := Scalar.muli c2_i32_265 v5
  let v373 : BitVec 32 := Scalar.addi v371 v372
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v374 : BitVec 32 := Scalar.addi v373 v9
  let c0_i32_279 : BitVec 32 := 0#32
  let c0_i32_280 : BitVec 32 := 0#32
  let c0_i32_281 : BitVec 32 := 0#32
  ![v374.toNat, 0, 0, 0]
def k0_dev15 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v379 : BitVec 32 := Scalar.muli v2 c4_i32_272
  let v380 : BitVec 32 := Scalar.addi c0_i32_273 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v381 : BitVec 32 := Scalar.muli v5 c2_i32_274
  let v382 : BitVec 32 := Scalar.addi v380 v381
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_275 : BitVec 32 := 1#32
  let v383 : BitVec 32 := Scalar.muli v9 c1_i32_275
  let v384 : BitVec 32 := Scalar.addi v382 v383
  v384.toNat
def k0_off19 (d0 : Dev nD) : Fin 4 → Nat :=
  let c4_i32_282 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v393 : BitVec 32 := Scalar.muli c4_i32_282 v2
  let c2_i32_283 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v394 : BitVec 32 := Scalar.muli c2_i32_283 v10
  let v395 : BitVec 32 := Scalar.addi v393 v394
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v396 : BitVec 32 := Scalar.addi v395 v8
  let c0_i32_297 : BitVec 32 := 0#32
  let c0_i32_298 : BitVec 32 := 0#32
  let c0_i32_299 : BitVec 32 := 0#32
  ![v396.toNat, 0, 0, 0]
def k0_dev16 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v401 : BitVec 32 := Scalar.muli v2 c4_i32_290
  let v402 : BitVec 32 := Scalar.addi c0_i32_291 v401
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_292 : BitVec 32 := 2#32
  let v403 : BitVec 32 := Scalar.muli v10 c2_i32_292
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_293 : BitVec 32 := 1#32
  let v405 : BitVec 32 := Scalar.muli v8 c1_i32_293
  let v406 : BitVec 32 := Scalar.addi v404 v405
  v406.toNat
def k0_off20 (d0 : Dev nD) : Fin 4 → Nat :=
  let c4_i32_300 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v415 : BitVec 32 := Scalar.muli c4_i32_300 v2
  let c2_i32_301 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v416 : BitVec 32 := Scalar.muli c2_i32_301 v11
  let v417 : BitVec 32 := Scalar.addi v415 v416
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v418 : BitVec 32 := Scalar.addi v417 v12
  let c0_i32_315 : BitVec 32 := 0#32
  let c0_i32_316 : BitVec 32 := 0#32
  let c0_i32_317 : BitVec 32 := 0#32
  ![v418.toNat, 0, 0, 0]
def k0_dev17 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_308 : BitVec 32 := 4#32
  let v423 : BitVec 32 := Scalar.muli v2 c4_i32_308
  let v424 : BitVec 32 := Scalar.addi c0_i32_309 v423
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_310 : BitVec 32 := 2#32
  let v425 : BitVec 32 := Scalar.muli v11 c2_i32_310
  let v426 : BitVec 32 := Scalar.addi v424 v425
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_311 : BitVec 32 := 1#32
  let v427 : BitVec 32 := Scalar.muli v12 c1_i32_311
  let v428 : BitVec 32 := Scalar.addi v426 v427
  v428.toNat
def k0_off21 (d0 : Dev nD) : Fin 4 → Nat :=
  let c4_i32_318 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v437 : BitVec 32 := Scalar.muli c4_i32_318 v13
  let c2_i32_319 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v438 : BitVec 32 := Scalar.muli c2_i32_319 v5
  let v439 : BitVec 32 := Scalar.addi v437 v438
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v440 : BitVec 32 := Scalar.addi v439 v8
  let c0_i32_333 : BitVec 32 := 0#32
  let c0_i32_334 : BitVec 32 := 0#32
  let c0_i32_335 : BitVec 32 := 0#32
  ![v440.toNat, 0, 0, 0]
def k0_dev18 (d0 : Dev nD) : Nat :=
  let c0_i32_327 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_326 : BitVec 32 := 4#32
  let v445 : BitVec 32 := Scalar.muli v13 c4_i32_326
  let v446 : BitVec 32 := Scalar.addi c0_i32_327 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v447 : BitVec 32 := Scalar.muli v5 c2_i32_328
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v449 : BitVec 32 := Scalar.muli v8 c1_i32_329
  let v450 : BitVec 32 := Scalar.addi v448 v449
  v450.toNat
def k0_off22 (d0 : Dev nD) : Fin 4 → Nat :=
  let c4_i32_336 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v459 : BitVec 32 := Scalar.muli c4_i32_336 v14
  let c2_i32_337 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v460 : BitVec 32 := Scalar.muli c2_i32_337 v5
  let v461 : BitVec 32 := Scalar.addi v459 v460
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v462 : BitVec 32 := Scalar.addi v461 v15
  let c0_i32_351 : BitVec 32 := 0#32
  let c0_i32_352 : BitVec 32 := 0#32
  let c0_i32_353 : BitVec 32 := 0#32
  ![v462.toNat, 0, 0, 0]
def k0_dev19 (d0 : Dev nD) : Nat :=
  let c0_i32_345 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_344 : BitVec 32 := 4#32
  let v467 : BitVec 32 := Scalar.muli v14 c4_i32_344
  let v468 : BitVec 32 := Scalar.addi c0_i32_345 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_346 : BitVec 32 := 2#32
  let v469 : BitVec 32 := Scalar.muli v5 c2_i32_346
  let v470 : BitVec 32 := Scalar.addi v468 v469
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_347 : BitVec 32 := 1#32
  let v471 : BitVec 32 := Scalar.muli v15 c1_i32_347
  let v472 : BitVec 32 := Scalar.addi v470 v471
  v472.toNat
def k0_off23 (d0 : Dev nD) : Fin 4 → Nat :=
  let c4_i32_354 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v481 : BitVec 32 := Scalar.muli c4_i32_354 v16
  let c2_i32_355 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v482 : BitVec 32 := Scalar.muli c2_i32_355 v17
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.addi v483 v8
  let c0_i32_369 : BitVec 32 := 0#32
  let c0_i32_370 : BitVec 32 := 0#32
  let c0_i32_371 : BitVec 32 := 0#32
  ![v484.toNat, 0, 0, 0]
def k0_dev20 (d0 : Dev nD) : Nat :=
  let c0_i32_363 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_362 : BitVec 32 := 4#32
  let v489 : BitVec 32 := Scalar.muli v16 c4_i32_362
  let v490 : BitVec 32 := Scalar.addi c0_i32_363 v489
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_364 : BitVec 32 := 2#32
  let v491 : BitVec 32 := Scalar.muli v17 c2_i32_364
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v493 : BitVec 32 := Scalar.muli v8 c1_i32_365
  let v494 : BitVec 32 := Scalar.addi v492 v493
  v494.toNat
def k0_off24 (d0 : Dev nD) : Fin 4 → Nat :=
  let c4_i32_372 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v503 : BitVec 32 := Scalar.muli c4_i32_372 v18
  let c2_i32_373 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v504 : BitVec 32 := Scalar.muli c2_i32_373 v19
  let v505 : BitVec 32 := Scalar.addi v503 v504
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v506 : BitVec 32 := Scalar.addi v505 v20
  let c0_i32_387 : BitVec 32 := 0#32
  let c0_i32_388 : BitVec 32 := 0#32
  let c0_i32_389 : BitVec 32 := 0#32
  ![v506.toNat, 0, 0, 0]
def k0_dev21 (d0 : Dev nD) : Nat :=
  let c0_i32_381 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_380 : BitVec 32 := 4#32
  let v511 : BitVec 32 := Scalar.muli v18 c4_i32_380
  let v512 : BitVec 32 := Scalar.addi c0_i32_381 v511
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_382 : BitVec 32 := 2#32
  let v513 : BitVec 32 := Scalar.muli v19 c2_i32_382
  let v514 : BitVec 32 := Scalar.addi v512 v513
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_383 : BitVec 32 := 1#32
  let v515 : BitVec 32 := Scalar.muli v20 c1_i32_383
  let v516 : BitVec 32 := Scalar.addi v514 v515
  v516.toNat
def k0_off25 (d0 : Dev nD) : Fin 3 → Nat :=
  let c4_i32_392 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v529 : BitVec 32 := Scalar.muli c4_i32_392 v2
  let c2_i32_393 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v530 : BitVec 32 := Scalar.muli c2_i32_393 v5
  let v531 : BitVec 32 := Scalar.addi v529 v530
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v532 : BitVec 32 := Scalar.addi v531 v8
  let c0_i32_395 : BitVec 32 := 0#32
  let c0_i32_396 : BitVec 32 := 0#32
  ![v532.toNat, 0, 0]
def k0_off26 (d0 : Dev nD) : Fin 3 → Nat :=
  let c4_i32_399 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v539 : BitVec 32 := Scalar.muli c4_i32_399 v2
  let c2_i32_400 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v540 : BitVec 32 := Scalar.muli c2_i32_400 v5
  let v541 : BitVec 32 := Scalar.addi v539 v540
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v542 : BitVec 32 := Scalar.addi v541 v9
  let c0_i32_413 : BitVec 32 := 0#32
  let c0_i32_414 : BitVec 32 := 0#32
  ![v542.toNat, 0, 0]
def k0_dev22 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v547 : BitVec 32 := Scalar.muli v2 c4_i32_407
  let v548 : BitVec 32 := Scalar.addi c0_i32_408 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v549 : BitVec 32 := Scalar.muli v5 c2_i32_409
  let v550 : BitVec 32 := Scalar.addi v548 v549
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_410 : BitVec 32 := 1#32
  let v551 : BitVec 32 := Scalar.muli v9 c1_i32_410
  let v552 : BitVec 32 := Scalar.addi v550 v551
  v552.toNat
def k0_off27 (d0 : Dev nD) : Fin 3 → Nat :=
  let c4_i32_415 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v561 : BitVec 32 := Scalar.muli c4_i32_415 v2
  let c2_i32_416 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v562 : BitVec 32 := Scalar.muli c2_i32_416 v10
  let v563 : BitVec 32 := Scalar.addi v561 v562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v564 : BitVec 32 := Scalar.addi v563 v8
  let c0_i32_429 : BitVec 32 := 0#32
  let c0_i32_430 : BitVec 32 := 0#32
  ![v564.toNat, 0, 0]
def k0_dev23 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v569 : BitVec 32 := Scalar.muli v2 c4_i32_423
  let v570 : BitVec 32 := Scalar.addi c0_i32_424 v569
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_425 : BitVec 32 := 2#32
  let v571 : BitVec 32 := Scalar.muli v10 c2_i32_425
  let v572 : BitVec 32 := Scalar.addi v570 v571
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_426 : BitVec 32 := 1#32
  let v573 : BitVec 32 := Scalar.muli v8 c1_i32_426
  let v574 : BitVec 32 := Scalar.addi v572 v573
  v574.toNat
def k0_off28 (d0 : Dev nD) : Fin 3 → Nat :=
  let c4_i32_431 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v583 : BitVec 32 := Scalar.muli c4_i32_431 v2
  let c2_i32_432 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v584 : BitVec 32 := Scalar.muli c2_i32_432 v11
  let v585 : BitVec 32 := Scalar.addi v583 v584
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v586 : BitVec 32 := Scalar.addi v585 v12
  let c0_i32_445 : BitVec 32 := 0#32
  let c0_i32_446 : BitVec 32 := 0#32
  ![v586.toNat, 0, 0]
def k0_dev24 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v591 : BitVec 32 := Scalar.muli v2 c4_i32_439
  let v592 : BitVec 32 := Scalar.addi c0_i32_440 v591
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_441 : BitVec 32 := 2#32
  let v593 : BitVec 32 := Scalar.muli v11 c2_i32_441
  let v594 : BitVec 32 := Scalar.addi v592 v593
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_442 : BitVec 32 := 1#32
  let v595 : BitVec 32 := Scalar.muli v12 c1_i32_442
  let v596 : BitVec 32 := Scalar.addi v594 v595
  v596.toNat
def k0_off29 (d0 : Dev nD) : Fin 3 → Nat :=
  let c4_i32_447 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v605 : BitVec 32 := Scalar.muli c4_i32_447 v13
  let c2_i32_448 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v606 : BitVec 32 := Scalar.muli c2_i32_448 v5
  let v607 : BitVec 32 := Scalar.addi v605 v606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v608 : BitVec 32 := Scalar.addi v607 v8
  let c0_i32_461 : BitVec 32 := 0#32
  let c0_i32_462 : BitVec 32 := 0#32
  ![v608.toNat, 0, 0]
def k0_dev25 (d0 : Dev nD) : Nat :=
  let c0_i32_456 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_455 : BitVec 32 := 4#32
  let v613 : BitVec 32 := Scalar.muli v13 c4_i32_455
  let v614 : BitVec 32 := Scalar.addi c0_i32_456 v613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v615 : BitVec 32 := Scalar.muli v5 c2_i32_457
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_458 : BitVec 32 := 1#32
  let v617 : BitVec 32 := Scalar.muli v8 c1_i32_458
  let v618 : BitVec 32 := Scalar.addi v616 v617
  v618.toNat
def k0_off30 (d0 : Dev nD) : Fin 3 → Nat :=
  let c4_i32_463 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v627 : BitVec 32 := Scalar.muli c4_i32_463 v14
  let c2_i32_464 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v628 : BitVec 32 := Scalar.muli c2_i32_464 v5
  let v629 : BitVec 32 := Scalar.addi v627 v628
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v630 : BitVec 32 := Scalar.addi v629 v15
  let c0_i32_477 : BitVec 32 := 0#32
  let c0_i32_478 : BitVec 32 := 0#32
  ![v630.toNat, 0, 0]
def k0_dev26 (d0 : Dev nD) : Nat :=
  let c0_i32_472 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_471 : BitVec 32 := 4#32
  let v635 : BitVec 32 := Scalar.muli v14 c4_i32_471
  let v636 : BitVec 32 := Scalar.addi c0_i32_472 v635
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_473 : BitVec 32 := 2#32
  let v637 : BitVec 32 := Scalar.muli v5 c2_i32_473
  let v638 : BitVec 32 := Scalar.addi v636 v637
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_474 : BitVec 32 := 1#32
  let v639 : BitVec 32 := Scalar.muli v15 c1_i32_474
  let v640 : BitVec 32 := Scalar.addi v638 v639
  v640.toNat
def k0_off31 (d0 : Dev nD) : Fin 3 → Nat :=
  let c4_i32_479 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v649 : BitVec 32 := Scalar.muli c4_i32_479 v16
  let c2_i32_480 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v650 : BitVec 32 := Scalar.muli c2_i32_480 v17
  let v651 : BitVec 32 := Scalar.addi v649 v650
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v652 : BitVec 32 := Scalar.addi v651 v8
  let c0_i32_493 : BitVec 32 := 0#32
  let c0_i32_494 : BitVec 32 := 0#32
  ![v652.toNat, 0, 0]
def k0_dev27 (d0 : Dev nD) : Nat :=
  let c0_i32_488 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_487 : BitVec 32 := 4#32
  let v657 : BitVec 32 := Scalar.muli v16 c4_i32_487
  let v658 : BitVec 32 := Scalar.addi c0_i32_488 v657
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_489 : BitVec 32 := 2#32
  let v659 : BitVec 32 := Scalar.muli v17 c2_i32_489
  let v660 : BitVec 32 := Scalar.addi v658 v659
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_490 : BitVec 32 := 1#32
  let v661 : BitVec 32 := Scalar.muli v8 c1_i32_490
  let v662 : BitVec 32 := Scalar.addi v660 v661
  v662.toNat
def k0_off32 (d0 : Dev nD) : Fin 3 → Nat :=
  let c4_i32_495 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v671 : BitVec 32 := Scalar.muli c4_i32_495 v18
  let c2_i32_496 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v672 : BitVec 32 := Scalar.muli c2_i32_496 v19
  let v673 : BitVec 32 := Scalar.addi v671 v672
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v674 : BitVec 32 := Scalar.addi v673 v20
  let c0_i32_509 : BitVec 32 := 0#32
  let c0_i32_510 : BitVec 32 := 0#32
  ![v674.toNat, 0, 0]
def k0_dev28 (d0 : Dev nD) : Nat :=
  let c0_i32_504 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_503 : BitVec 32 := 4#32
  let v679 : BitVec 32 := Scalar.muli v18 c4_i32_503
  let v680 : BitVec 32 := Scalar.addi c0_i32_504 v679
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_505 : BitVec 32 := 2#32
  let v681 : BitVec 32 := Scalar.muli v19 c2_i32_505
  let v682 : BitVec 32 := Scalar.addi v680 v681
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_506 : BitVec 32 := 1#32
  let v683 : BitVec 32 := Scalar.muli v20 c1_i32_506
  let v684 : BitVec 32 := Scalar.addi v682 v683
  v684.toNat
def k0_dev29 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v715 : BitVec 32 := Scalar.muli v2 c4_i32_528
  let v716 : BitVec 32 := Scalar.addi c0_i32_529 v715
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v717 : BitVec 32 := Scalar.muli v5 c2_i32_530
  let v718 : BitVec 32 := Scalar.addi v716 v717
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_531 : BitVec 32 := 1#32
  let v719 : BitVec 32 := Scalar.muli v9 c1_i32_531
  let v720 : BitVec 32 := Scalar.addi v718 v719
  v720.toNat
def k0_dev30 (d0 : Dev nD) : Nat :=
  let c0_i32_545 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_544 : BitVec 32 := 4#32
  let v737 : BitVec 32 := Scalar.muli v2 c4_i32_544
  let v738 : BitVec 32 := Scalar.addi c0_i32_545 v737
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_546 : BitVec 32 := 2#32
  let v739 : BitVec 32 := Scalar.muli v10 c2_i32_546
  let v740 : BitVec 32 := Scalar.addi v738 v739
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_547 : BitVec 32 := 1#32
  let v741 : BitVec 32 := Scalar.muli v8 c1_i32_547
  let v742 : BitVec 32 := Scalar.addi v740 v741
  v742.toNat
def k0_dev31 (d0 : Dev nD) : Nat :=
  let c0_i32_561 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_560 : BitVec 32 := 4#32
  let v759 : BitVec 32 := Scalar.muli v2 c4_i32_560
  let v760 : BitVec 32 := Scalar.addi c0_i32_561 v759
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_562 : BitVec 32 := 2#32
  let v761 : BitVec 32 := Scalar.muli v11 c2_i32_562
  let v762 : BitVec 32 := Scalar.addi v760 v761
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_563 : BitVec 32 := 1#32
  let v763 : BitVec 32 := Scalar.muli v12 c1_i32_563
  let v764 : BitVec 32 := Scalar.addi v762 v763
  v764.toNat
def k0_dev32 (d0 : Dev nD) : Nat :=
  let c0_i32_577 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_576 : BitVec 32 := 4#32
  let v781 : BitVec 32 := Scalar.muli v13 c4_i32_576
  let v782 : BitVec 32 := Scalar.addi c0_i32_577 v781
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_578 : BitVec 32 := 2#32
  let v783 : BitVec 32 := Scalar.muli v5 c2_i32_578
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_579 : BitVec 32 := 1#32
  let v785 : BitVec 32 := Scalar.muli v8 c1_i32_579
  let v786 : BitVec 32 := Scalar.addi v784 v785
  v786.toNat
def k0_dev33 (d0 : Dev nD) : Nat :=
  let c0_i32_593 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_592 : BitVec 32 := 4#32
  let v803 : BitVec 32 := Scalar.muli v14 c4_i32_592
  let v804 : BitVec 32 := Scalar.addi c0_i32_593 v803
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_594 : BitVec 32 := 2#32
  let v805 : BitVec 32 := Scalar.muli v5 c2_i32_594
  let v806 : BitVec 32 := Scalar.addi v804 v805
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_595 : BitVec 32 := 1#32
  let v807 : BitVec 32 := Scalar.muli v15 c1_i32_595
  let v808 : BitVec 32 := Scalar.addi v806 v807
  v808.toNat
def k0_dev34 (d0 : Dev nD) : Nat :=
  let c0_i32_609 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_608 : BitVec 32 := 4#32
  let v825 : BitVec 32 := Scalar.muli v16 c4_i32_608
  let v826 : BitVec 32 := Scalar.addi c0_i32_609 v825
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_610 : BitVec 32 := 2#32
  let v827 : BitVec 32 := Scalar.muli v17 c2_i32_610
  let v828 : BitVec 32 := Scalar.addi v826 v827
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_611 : BitVec 32 := 1#32
  let v829 : BitVec 32 := Scalar.muli v8 c1_i32_611
  let v830 : BitVec 32 := Scalar.addi v828 v829
  v830.toNat
def k0_dev35 (d0 : Dev nD) : Nat :=
  let c0_i32_625 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_624 : BitVec 32 := 4#32
  let v847 : BitVec 32 := Scalar.muli v18 c4_i32_624
  let v848 : BitVec 32 := Scalar.addi c0_i32_625 v847
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_626 : BitVec 32 := 2#32
  let v849 : BitVec 32 := Scalar.muli v19 c2_i32_626
  let v850 : BitVec 32 := Scalar.addi v848 v849
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_627 : BitVec 32 := 1#32
  let v851 : BitVec 32 := Scalar.muli v20 c1_i32_627
  let v852 : BitVec 32 := Scalar.addi v850 v851
  v852.toNat
def k0_off33 (d0 : Dev nD) : Fin 3 → Nat :=
  let c4_i32_634 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v865 : BitVec 32 := Scalar.muli c4_i32_634 v2
  let c2_i32_635 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v866 : BitVec 32 := Scalar.muli c2_i32_635 v5
  let v867 : BitVec 32 := Scalar.addi v865 v866
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v868 : BitVec 32 := Scalar.addi v867 v8
  let c0_i32_637 : BitVec 32 := 0#32
  let c0_i32_638 : BitVec 32 := 0#32
  ![v868.toNat, 0, 0]
def k0_off34 (d0 : Dev nD) : Fin 3 → Nat :=
  let c4_i32_641 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v875 : BitVec 32 := Scalar.muli c4_i32_641 v2
  let c2_i32_642 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v876 : BitVec 32 := Scalar.muli c2_i32_642 v5
  let v877 : BitVec 32 := Scalar.addi v875 v876
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v878 : BitVec 32 := Scalar.addi v877 v9
  let c0_i32_655 : BitVec 32 := 0#32
  let c0_i32_656 : BitVec 32 := 0#32
  ![v878.toNat, 0, 0]
def k0_dev36 (d0 : Dev nD) : Nat :=
  let c0_i32_650 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_649 : BitVec 32 := 4#32
  let v883 : BitVec 32 := Scalar.muli v2 c4_i32_649
  let v884 : BitVec 32 := Scalar.addi c0_i32_650 v883
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v885 : BitVec 32 := Scalar.muli v5 c2_i32_651
  let v886 : BitVec 32 := Scalar.addi v884 v885
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_652 : BitVec 32 := 1#32
  let v887 : BitVec 32 := Scalar.muli v9 c1_i32_652
  let v888 : BitVec 32 := Scalar.addi v886 v887
  v888.toNat
def k0_off35 (d0 : Dev nD) : Fin 3 → Nat :=
  let c4_i32_657 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v897 : BitVec 32 := Scalar.muli c4_i32_657 v2
  let c2_i32_658 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v898 : BitVec 32 := Scalar.muli c2_i32_658 v10
  let v899 : BitVec 32 := Scalar.addi v897 v898
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v900 : BitVec 32 := Scalar.addi v899 v8
  let c0_i32_671 : BitVec 32 := 0#32
  let c0_i32_672 : BitVec 32 := 0#32
  ![v900.toNat, 0, 0]
def k0_dev37 (d0 : Dev nD) : Nat :=
  let c0_i32_666 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_665 : BitVec 32 := 4#32
  let v905 : BitVec 32 := Scalar.muli v2 c4_i32_665
  let v906 : BitVec 32 := Scalar.addi c0_i32_666 v905
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_667 : BitVec 32 := 2#32
  let v907 : BitVec 32 := Scalar.muli v10 c2_i32_667
  let v908 : BitVec 32 := Scalar.addi v906 v907
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_668 : BitVec 32 := 1#32
  let v909 : BitVec 32 := Scalar.muli v8 c1_i32_668
  let v910 : BitVec 32 := Scalar.addi v908 v909
  v910.toNat
def k0_off36 (d0 : Dev nD) : Fin 3 → Nat :=
  let c4_i32_673 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v919 : BitVec 32 := Scalar.muli c4_i32_673 v2
  let c2_i32_674 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v920 : BitVec 32 := Scalar.muli c2_i32_674 v11
  let v921 : BitVec 32 := Scalar.addi v919 v920
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v922 : BitVec 32 := Scalar.addi v921 v12
  let c0_i32_687 : BitVec 32 := 0#32
  let c0_i32_688 : BitVec 32 := 0#32
  ![v922.toNat, 0, 0]
def k0_dev38 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_681 : BitVec 32 := 4#32
  let v927 : BitVec 32 := Scalar.muli v2 c4_i32_681
  let v928 : BitVec 32 := Scalar.addi c0_i32_682 v927
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_683 : BitVec 32 := 2#32
  let v929 : BitVec 32 := Scalar.muli v11 c2_i32_683
  let v930 : BitVec 32 := Scalar.addi v928 v929
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_684 : BitVec 32 := 1#32
  let v931 : BitVec 32 := Scalar.muli v12 c1_i32_684
  let v932 : BitVec 32 := Scalar.addi v930 v931
  v932.toNat
def k0_off37 (d0 : Dev nD) : Fin 3 → Nat :=
  let c4_i32_689 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v941 : BitVec 32 := Scalar.muli c4_i32_689 v13
  let c2_i32_690 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v942 : BitVec 32 := Scalar.muli c2_i32_690 v5
  let v943 : BitVec 32 := Scalar.addi v941 v942
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v944 : BitVec 32 := Scalar.addi v943 v8
  let c0_i32_703 : BitVec 32 := 0#32
  let c0_i32_704 : BitVec 32 := 0#32
  ![v944.toNat, 0, 0]
def k0_dev39 (d0 : Dev nD) : Nat :=
  let c0_i32_698 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_697 : BitVec 32 := 4#32
  let v949 : BitVec 32 := Scalar.muli v13 c4_i32_697
  let v950 : BitVec 32 := Scalar.addi c0_i32_698 v949
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_699 : BitVec 32 := 2#32
  let v951 : BitVec 32 := Scalar.muli v5 c2_i32_699
  let v952 : BitVec 32 := Scalar.addi v950 v951
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_700 : BitVec 32 := 1#32
  let v953 : BitVec 32 := Scalar.muli v8 c1_i32_700
  let v954 : BitVec 32 := Scalar.addi v952 v953
  v954.toNat
def k0_off38 (d0 : Dev nD) : Fin 3 → Nat :=
  let c4_i32_705 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v963 : BitVec 32 := Scalar.muli c4_i32_705 v14
  let c2_i32_706 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v964 : BitVec 32 := Scalar.muli c2_i32_706 v5
  let v965 : BitVec 32 := Scalar.addi v963 v964
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v966 : BitVec 32 := Scalar.addi v965 v15
  let c0_i32_719 : BitVec 32 := 0#32
  let c0_i32_720 : BitVec 32 := 0#32
  ![v966.toNat, 0, 0]
def k0_dev40 (d0 : Dev nD) : Nat :=
  let c0_i32_714 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_713 : BitVec 32 := 4#32
  let v971 : BitVec 32 := Scalar.muli v14 c4_i32_713
  let v972 : BitVec 32 := Scalar.addi c0_i32_714 v971
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_715 : BitVec 32 := 2#32
  let v973 : BitVec 32 := Scalar.muli v5 c2_i32_715
  let v974 : BitVec 32 := Scalar.addi v972 v973
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_716 : BitVec 32 := 1#32
  let v975 : BitVec 32 := Scalar.muli v15 c1_i32_716
  let v976 : BitVec 32 := Scalar.addi v974 v975
  v976.toNat
def k0_off39 (d0 : Dev nD) : Fin 3 → Nat :=
  let c4_i32_721 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v985 : BitVec 32 := Scalar.muli c4_i32_721 v16
  let c2_i32_722 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v986 : BitVec 32 := Scalar.muli c2_i32_722 v17
  let v987 : BitVec 32 := Scalar.addi v985 v986
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v988 : BitVec 32 := Scalar.addi v987 v8
  let c0_i32_735 : BitVec 32 := 0#32
  let c0_i32_736 : BitVec 32 := 0#32
  ![v988.toNat, 0, 0]
def k0_dev41 (d0 : Dev nD) : Nat :=
  let c0_i32_730 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_729 : BitVec 32 := 4#32
  let v993 : BitVec 32 := Scalar.muli v16 c4_i32_729
  let v994 : BitVec 32 := Scalar.addi c0_i32_730 v993
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_731 : BitVec 32 := 2#32
  let v995 : BitVec 32 := Scalar.muli v17 c2_i32_731
  let v996 : BitVec 32 := Scalar.addi v994 v995
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_732 : BitVec 32 := 1#32
  let v997 : BitVec 32 := Scalar.muli v8 c1_i32_732
  let v998 : BitVec 32 := Scalar.addi v996 v997
  v998.toNat
def k0_off40 (d0 : Dev nD) : Fin 3 → Nat :=
  let c4_i32_737 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v1007 : BitVec 32 := Scalar.muli c4_i32_737 v18
  let c2_i32_738 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v1008 : BitVec 32 := Scalar.muli c2_i32_738 v19
  let v1009 : BitVec 32 := Scalar.addi v1007 v1008
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v1010 : BitVec 32 := Scalar.addi v1009 v20
  let c0_i32_751 : BitVec 32 := 0#32
  let c0_i32_752 : BitVec 32 := 0#32
  ![v1010.toNat, 0, 0]
def k0_dev42 (d0 : Dev nD) : Nat :=
  let c0_i32_746 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_745 : BitVec 32 := 4#32
  let v1015 : BitVec 32 := Scalar.muli v18 c4_i32_745
  let v1016 : BitVec 32 := Scalar.addi c0_i32_746 v1015
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_747 : BitVec 32 := 2#32
  let v1017 : BitVec 32 := Scalar.muli v19 c2_i32_747
  let v1018 : BitVec 32 := Scalar.addi v1016 v1017
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_748 : BitVec 32 := 1#32
  let v1019 : BitVec 32 := Scalar.muli v20 c1_i32_748
  let v1020 : BitVec 32 := Scalar.addi v1018 v1019
  v1020.toNat
def k0_off41 (d0 : Dev nD) : Fin 3 → Nat :=
  let c4_i32_755 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1033 : BitVec 32 := Scalar.muli c4_i32_755 v2
  let c2_i32_756 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1034 : BitVec 32 := Scalar.muli c2_i32_756 v5
  let v1035 : BitVec 32 := Scalar.addi v1033 v1034
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1036 : BitVec 32 := Scalar.addi v1035 v8
  let c0_i32_758 : BitVec 32 := 0#32
  let c0_i32_759 : BitVec 32 := 0#32
  ![v1036.toNat, 0, 0]
def k0_off42 (d0 : Dev nD) : Fin 3 → Nat :=
  let c4_i32_762 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1043 : BitVec 32 := Scalar.muli c4_i32_762 v2
  let c2_i32_763 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1044 : BitVec 32 := Scalar.muli c2_i32_763 v5
  let v1045 : BitVec 32 := Scalar.addi v1043 v1044
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1046 : BitVec 32 := Scalar.addi v1045 v9
  let c0_i32_776 : BitVec 32 := 0#32
  let c0_i32_777 : BitVec 32 := 0#32
  ![v1046.toNat, 0, 0]
def k0_dev43 (d0 : Dev nD) : Nat :=
  let c0_i32_771 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_770 : BitVec 32 := 4#32
  let v1051 : BitVec 32 := Scalar.muli v2 c4_i32_770
  let v1052 : BitVec 32 := Scalar.addi c0_i32_771 v1051
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_772 : BitVec 32 := 2#32
  let v1053 : BitVec 32 := Scalar.muli v5 c2_i32_772
  let v1054 : BitVec 32 := Scalar.addi v1052 v1053
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_773 : BitVec 32 := 1#32
  let v1055 : BitVec 32 := Scalar.muli v9 c1_i32_773
  let v1056 : BitVec 32 := Scalar.addi v1054 v1055
  v1056.toNat
def k0_off43 (d0 : Dev nD) : Fin 3 → Nat :=
  let c4_i32_778 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1065 : BitVec 32 := Scalar.muli c4_i32_778 v2
  let c2_i32_779 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1066 : BitVec 32 := Scalar.muli c2_i32_779 v10
  let v1067 : BitVec 32 := Scalar.addi v1065 v1066
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.addi v1067 v8
  let c0_i32_792 : BitVec 32 := 0#32
  let c0_i32_793 : BitVec 32 := 0#32
  ![v1068.toNat, 0, 0]
def k0_dev44 (d0 : Dev nD) : Nat :=
  let c0_i32_787 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_786 : BitVec 32 := 4#32
  let v1073 : BitVec 32 := Scalar.muli v2 c4_i32_786
  let v1074 : BitVec 32 := Scalar.addi c0_i32_787 v1073
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_788 : BitVec 32 := 2#32
  let v1075 : BitVec 32 := Scalar.muli v10 c2_i32_788
  let v1076 : BitVec 32 := Scalar.addi v1074 v1075
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_789 : BitVec 32 := 1#32
  let v1077 : BitVec 32 := Scalar.muli v8 c1_i32_789
  let v1078 : BitVec 32 := Scalar.addi v1076 v1077
  v1078.toNat
def k0_off44 (d0 : Dev nD) : Fin 3 → Nat :=
  let c4_i32_794 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1087 : BitVec 32 := Scalar.muli c4_i32_794 v2
  let c2_i32_795 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1088 : BitVec 32 := Scalar.muli c2_i32_795 v11
  let v1089 : BitVec 32 := Scalar.addi v1087 v1088
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v1090 : BitVec 32 := Scalar.addi v1089 v12
  let c0_i32_808 : BitVec 32 := 0#32
  let c0_i32_809 : BitVec 32 := 0#32
  ![v1090.toNat, 0, 0]
def k0_dev45 (d0 : Dev nD) : Nat :=
  let c0_i32_803 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_802 : BitVec 32 := 4#32
  let v1095 : BitVec 32 := Scalar.muli v2 c4_i32_802
  let v1096 : BitVec 32 := Scalar.addi c0_i32_803 v1095
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_804 : BitVec 32 := 2#32
  let v1097 : BitVec 32 := Scalar.muli v11 c2_i32_804
  let v1098 : BitVec 32 := Scalar.addi v1096 v1097
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_805 : BitVec 32 := 1#32
  let v1099 : BitVec 32 := Scalar.muli v12 c1_i32_805
  let v1100 : BitVec 32 := Scalar.addi v1098 v1099
  v1100.toNat
def k0_off45 (d0 : Dev nD) : Fin 3 → Nat :=
  let c4_i32_810 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v1109 : BitVec 32 := Scalar.muli c4_i32_810 v13
  let c2_i32_811 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1110 : BitVec 32 := Scalar.muli c2_i32_811 v5
  let v1111 : BitVec 32 := Scalar.addi v1109 v1110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1112 : BitVec 32 := Scalar.addi v1111 v8
  let c0_i32_824 : BitVec 32 := 0#32
  let c0_i32_825 : BitVec 32 := 0#32
  ![v1112.toNat, 0, 0]
def k0_dev46 (d0 : Dev nD) : Nat :=
  let c0_i32_819 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_818 : BitVec 32 := 4#32
  let v1117 : BitVec 32 := Scalar.muli v13 c4_i32_818
  let v1118 : BitVec 32 := Scalar.addi c0_i32_819 v1117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_820 : BitVec 32 := 2#32
  let v1119 : BitVec 32 := Scalar.muli v5 c2_i32_820
  let v1120 : BitVec 32 := Scalar.addi v1118 v1119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_821 : BitVec 32 := 1#32
  let v1121 : BitVec 32 := Scalar.muli v8 c1_i32_821
  let v1122 : BitVec 32 := Scalar.addi v1120 v1121
  v1122.toNat
def k0_off46 (d0 : Dev nD) : Fin 3 → Nat :=
  let c4_i32_826 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v1131 : BitVec 32 := Scalar.muli c4_i32_826 v14
  let c2_i32_827 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1132 : BitVec 32 := Scalar.muli c2_i32_827 v5
  let v1133 : BitVec 32 := Scalar.addi v1131 v1132
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v1134 : BitVec 32 := Scalar.addi v1133 v15
  let c0_i32_840 : BitVec 32 := 0#32
  let c0_i32_841 : BitVec 32 := 0#32
  ![v1134.toNat, 0, 0]
def k0_dev47 (d0 : Dev nD) : Nat :=
  let c0_i32_835 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_834 : BitVec 32 := 4#32
  let v1139 : BitVec 32 := Scalar.muli v14 c4_i32_834
  let v1140 : BitVec 32 := Scalar.addi c0_i32_835 v1139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_836 : BitVec 32 := 2#32
  let v1141 : BitVec 32 := Scalar.muli v5 c2_i32_836
  let v1142 : BitVec 32 := Scalar.addi v1140 v1141
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_837 : BitVec 32 := 1#32
  let v1143 : BitVec 32 := Scalar.muli v15 c1_i32_837
  let v1144 : BitVec 32 := Scalar.addi v1142 v1143
  v1144.toNat
def k0_off47 (d0 : Dev nD) : Fin 3 → Nat :=
  let c4_i32_842 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v1153 : BitVec 32 := Scalar.muli c4_i32_842 v16
  let c2_i32_843 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v1154 : BitVec 32 := Scalar.muli c2_i32_843 v17
  let v1155 : BitVec 32 := Scalar.addi v1153 v1154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1156 : BitVec 32 := Scalar.addi v1155 v8
  let c0_i32_856 : BitVec 32 := 0#32
  let c0_i32_857 : BitVec 32 := 0#32
  ![v1156.toNat, 0, 0]
def k0_dev48 (d0 : Dev nD) : Nat :=
  let c0_i32_851 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_850 : BitVec 32 := 4#32
  let v1161 : BitVec 32 := Scalar.muli v16 c4_i32_850
  let v1162 : BitVec 32 := Scalar.addi c0_i32_851 v1161
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_852 : BitVec 32 := 2#32
  let v1163 : BitVec 32 := Scalar.muli v17 c2_i32_852
  let v1164 : BitVec 32 := Scalar.addi v1162 v1163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_853 : BitVec 32 := 1#32
  let v1165 : BitVec 32 := Scalar.muli v8 c1_i32_853
  let v1166 : BitVec 32 := Scalar.addi v1164 v1165
  v1166.toNat
def k0_off48 (d0 : Dev nD) : Fin 3 → Nat :=
  let c4_i32_858 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v1175 : BitVec 32 := Scalar.muli c4_i32_858 v18
  let c2_i32_859 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v1176 : BitVec 32 := Scalar.muli c2_i32_859 v19
  let v1177 : BitVec 32 := Scalar.addi v1175 v1176
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v1178 : BitVec 32 := Scalar.addi v1177 v20
  let c0_i32_872 : BitVec 32 := 0#32
  let c0_i32_873 : BitVec 32 := 0#32
  ![v1178.toNat, 0, 0]
def k0_dev49 (d0 : Dev nD) : Nat :=
  let c0_i32_867 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_866 : BitVec 32 := 4#32
  let v1183 : BitVec 32 := Scalar.muli v18 c4_i32_866
  let v1184 : BitVec 32 := Scalar.addi c0_i32_867 v1183
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_868 : BitVec 32 := 2#32
  let v1185 : BitVec 32 := Scalar.muli v19 c2_i32_868
  let v1186 : BitVec 32 := Scalar.addi v1184 v1185
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_869 : BitVec 32 := 1#32
  let v1187 : BitVec 32 := Scalar.muli v20 c1_i32_869
  let v1188 : BitVec 32 := Scalar.addi v1186 v1187
  v1188.toNat
def k0_off49 (d0 : Dev nD) : Fin 3 → Nat :=
  let c4_i32_876 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1201 : BitVec 32 := Scalar.muli c4_i32_876 v2
  let c2_i32_877 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1202 : BitVec 32 := Scalar.muli c2_i32_877 v5
  let v1203 : BitVec 32 := Scalar.addi v1201 v1202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1204 : BitVec 32 := Scalar.addi v1203 v8
  let c0_i32_878 : BitVec 32 := 0#32
  let c0_i32_879 : BitVec 32 := 0#32
  ![v1204.toNat, 0, 0]
def k0_off50 (d0 : Dev nD) : Fin 3 → Nat :=
  let c4_i32_882 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1211 : BitVec 32 := Scalar.muli c4_i32_882 v2
  let c2_i32_883 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1212 : BitVec 32 := Scalar.muli c2_i32_883 v5
  let v1213 : BitVec 32 := Scalar.addi v1211 v1212
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1214 : BitVec 32 := Scalar.addi v1213 v9
  let c0_i32_896 : BitVec 32 := 0#32
  let c0_i32_897 : BitVec 32 := 0#32
  ![v1214.toNat, 0, 0]
def k0_dev50 (d0 : Dev nD) : Nat :=
  let c0_i32_891 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_890 : BitVec 32 := 4#32
  let v1219 : BitVec 32 := Scalar.muli v2 c4_i32_890
  let v1220 : BitVec 32 := Scalar.addi c0_i32_891 v1219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_892 : BitVec 32 := 2#32
  let v1221 : BitVec 32 := Scalar.muli v5 c2_i32_892
  let v1222 : BitVec 32 := Scalar.addi v1220 v1221
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_893 : BitVec 32 := 1#32
  let v1223 : BitVec 32 := Scalar.muli v9 c1_i32_893
  let v1224 : BitVec 32 := Scalar.addi v1222 v1223
  v1224.toNat
def k0_off51 (d0 : Dev nD) : Fin 3 → Nat :=
  let c4_i32_898 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1233 : BitVec 32 := Scalar.muli c4_i32_898 v2
  let c2_i32_899 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1234 : BitVec 32 := Scalar.muli c2_i32_899 v10
  let v1235 : BitVec 32 := Scalar.addi v1233 v1234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1236 : BitVec 32 := Scalar.addi v1235 v8
  let c0_i32_912 : BitVec 32 := 0#32
  let c0_i32_913 : BitVec 32 := 0#32
  ![v1236.toNat, 0, 0]
def k0_dev51 (d0 : Dev nD) : Nat :=
  let c0_i32_907 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_906 : BitVec 32 := 4#32
  let v1241 : BitVec 32 := Scalar.muli v2 c4_i32_906
  let v1242 : BitVec 32 := Scalar.addi c0_i32_907 v1241
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_908 : BitVec 32 := 2#32
  let v1243 : BitVec 32 := Scalar.muli v10 c2_i32_908
  let v1244 : BitVec 32 := Scalar.addi v1242 v1243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_909 : BitVec 32 := 1#32
  let v1245 : BitVec 32 := Scalar.muli v8 c1_i32_909
  let v1246 : BitVec 32 := Scalar.addi v1244 v1245
  v1246.toNat
def k0_off52 (d0 : Dev nD) : Fin 3 → Nat :=
  let c4_i32_914 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1255 : BitVec 32 := Scalar.muli c4_i32_914 v2
  let c2_i32_915 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1256 : BitVec 32 := Scalar.muli c2_i32_915 v11
  let v1257 : BitVec 32 := Scalar.addi v1255 v1256
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let v1258 : BitVec 32 := Scalar.addi v1257 v12
  let c0_i32_928 : BitVec 32 := 0#32
  let c0_i32_929 : BitVec 32 := 0#32
  ![v1258.toNat, 0, 0]
def k0_dev52 (d0 : Dev nD) : Nat :=
  let c0_i32_923 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_922 : BitVec 32 := 4#32
  let v1263 : BitVec 32 := Scalar.muli v2 c4_i32_922
  let v1264 : BitVec 32 := Scalar.addi c0_i32_923 v1263
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_924 : BitVec 32 := 2#32
  let v1265 : BitVec 32 := Scalar.muli v11 c2_i32_924
  let v1266 : BitVec 32 := Scalar.addi v1264 v1265
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_925 : BitVec 32 := 1#32
  let v1267 : BitVec 32 := Scalar.muli v12 c1_i32_925
  let v1268 : BitVec 32 := Scalar.addi v1266 v1267
  v1268.toNat
def k0_off53 (d0 : Dev nD) : Fin 3 → Nat :=
  let c4_i32_930 : BitVec 32 := 4#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let v1277 : BitVec 32 := Scalar.muli c4_i32_930 v13
  let c2_i32_931 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1278 : BitVec 32 := Scalar.muli c2_i32_931 v5
  let v1279 : BitVec 32 := Scalar.addi v1277 v1278
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1280 : BitVec 32 := Scalar.addi v1279 v8
  let c0_i32_944 : BitVec 32 := 0#32
  let c0_i32_945 : BitVec 32 := 0#32
  ![v1280.toNat, 0, 0]
def k0_dev53 (d0 : Dev nD) : Nat :=
  let c0_i32_939 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_938 : BitVec 32 := 4#32
  let v1285 : BitVec 32 := Scalar.muli v13 c4_i32_938
  let v1286 : BitVec 32 := Scalar.addi c0_i32_939 v1285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_940 : BitVec 32 := 2#32
  let v1287 : BitVec 32 := Scalar.muli v5 c2_i32_940
  let v1288 : BitVec 32 := Scalar.addi v1286 v1287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_941 : BitVec 32 := 1#32
  let v1289 : BitVec 32 := Scalar.muli v8 c1_i32_941
  let v1290 : BitVec 32 := Scalar.addi v1288 v1289
  v1290.toNat
def k0_off54 (d0 : Dev nD) : Fin 3 → Nat :=
  let c4_i32_946 : BitVec 32 := 4#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let v1299 : BitVec 32 := Scalar.muli c4_i32_946 v14
  let c2_i32_947 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1300 : BitVec 32 := Scalar.muli c2_i32_947 v5
  let v1301 : BitVec 32 := Scalar.addi v1299 v1300
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let v1302 : BitVec 32 := Scalar.addi v1301 v15
  let c0_i32_960 : BitVec 32 := 0#32
  let c0_i32_961 : BitVec 32 := 0#32
  ![v1302.toNat, 0, 0]
def k0_dev54 (d0 : Dev nD) : Nat :=
  let c0_i32_955 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_954 : BitVec 32 := 4#32
  let v1307 : BitVec 32 := Scalar.muli v14 c4_i32_954
  let v1308 : BitVec 32 := Scalar.addi c0_i32_955 v1307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_956 : BitVec 32 := 2#32
  let v1309 : BitVec 32 := Scalar.muli v5 c2_i32_956
  let v1310 : BitVec 32 := Scalar.addi v1308 v1309
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_957 : BitVec 32 := 1#32
  let v1311 : BitVec 32 := Scalar.muli v15 c1_i32_957
  let v1312 : BitVec 32 := Scalar.addi v1310 v1311
  v1312.toNat
def k0_off55 (d0 : Dev nD) : Fin 3 → Nat :=
  let c4_i32_962 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let v1321 : BitVec 32 := Scalar.muli c4_i32_962 v16
  let c2_i32_963 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let v1322 : BitVec 32 := Scalar.muli c2_i32_963 v17
  let v1323 : BitVec 32 := Scalar.addi v1321 v1322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1324 : BitVec 32 := Scalar.addi v1323 v8
  let c0_i32_976 : BitVec 32 := 0#32
  let c0_i32_977 : BitVec 32 := 0#32
  ![v1324.toNat, 0, 0]
def k0_dev55 (d0 : Dev nD) : Nat :=
  let c0_i32_971 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_970 : BitVec 32 := 4#32
  let v1329 : BitVec 32 := Scalar.muli v16 c4_i32_970
  let v1330 : BitVec 32 := Scalar.addi c0_i32_971 v1329
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_972 : BitVec 32 := 2#32
  let v1331 : BitVec 32 := Scalar.muli v17 c2_i32_972
  let v1332 : BitVec 32 := Scalar.addi v1330 v1331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_973 : BitVec 32 := 1#32
  let v1333 : BitVec 32 := Scalar.muli v8 c1_i32_973
  let v1334 : BitVec 32 := Scalar.addi v1332 v1333
  v1334.toNat
def k0_off56 (d0 : Dev nD) : Fin 3 → Nat :=
  let c4_i32_978 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let v1343 : BitVec 32 := Scalar.muli c4_i32_978 v18
  let c2_i32_979 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let v1344 : BitVec 32 := Scalar.muli c2_i32_979 v19
  let v1345 : BitVec 32 := Scalar.addi v1343 v1344
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let v1346 : BitVec 32 := Scalar.addi v1345 v20
  let c0_i32_992 : BitVec 32 := 0#32
  let c0_i32_993 : BitVec 32 := 0#32
  ![v1346.toNat, 0, 0]
def k0_dev56 (d0 : Dev nD) : Nat :=
  let c0_i32_987 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_986 : BitVec 32 := 4#32
  let v1351 : BitVec 32 := Scalar.muli v18 c4_i32_986
  let v1352 : BitVec 32 := Scalar.addi c0_i32_987 v1351
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_988 : BitVec 32 := 2#32
  let v1353 : BitVec 32 := Scalar.muli v19 c2_i32_988
  let v1354 : BitVec 32 := Scalar.addi v1352 v1353
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_989 : BitVec 32 := 1#32
  let v1355 : BitVec 32 := Scalar.muli v20 c1_i32_989
  let v1356 : BitVec 32 := Scalar.addi v1354 v1355
  v1356.toNat
-- ==== ExchangeRef.lean ====
abbrev S64x4096x1536 : Shape := ⟨3, ![64, 4096, 1536]⟩
abbrev S64x256x2048 : Shape := ⟨3, ![64, 256, 2048]⟩
abbrev S64x4x64x512 : Shape := ⟨4, ![64, 4, 64, 512]⟩
abbrev S64x2048x512 : Shape := ⟨3, ![64, 2048, 512]⟩
abbrev S64x512x4096 : Shape := ⟨3, ![64, 512, 4096]⟩
abbrev S64x4096x2752 : Shape := ⟨3, ![64, 4096, 2752]⟩
abbrev S64x1376x4096 : Shape := ⟨3, ![64, 1376, 4096]⟩
abbrev S8x8x4096x1536 : Shape := ⟨4, ![8, 8, 4096, 1536]⟩
abbrev S8x8x256x2048 : Shape := ⟨4, ![8, 8, 256, 2048]⟩
abbrev S8x8x4x64x512 : Shape := ⟨5, ![8, 8, 4, 64, 512]⟩
abbrev S8x8x2048x512 : Shape := ⟨4, ![8, 8, 2048, 512]⟩
abbrev S8x8x512x4096 : Shape := ⟨4, ![8, 8, 512, 4096]⟩
abbrev S8x8x4096x2752 : Shape := ⟨4, ![8, 8, 4096, 2752]⟩
abbrev S8x8x1376x4096 : Shape := ⟨4, ![8, 8, 1376, 4096]⟩

abbrev nBuf : Space → Nat
  | .hbm => 32
  | .vmem => 0
  | .smem => 0
  | _ => 0

abbrev bufTy : (tb : Table) → Fin (tcTables nBuf tb) → BufTy
  | .hbm, ⟨0, _⟩ => ⟨S64x4096x1536, .bf16⟩
  | .hbm, ⟨1, _⟩ => ⟨S64x256x2048, .bf16⟩
  | .hbm, ⟨2, _⟩ => ⟨S64x4x64x512, .bf16⟩
  | .hbm, ⟨3, _⟩ => ⟨S64x2048x512, .bf16⟩
  | .hbm, ⟨4, _⟩ => ⟨S64x2048x512, .bf16⟩
  | .hbm, ⟨5, _⟩ => ⟨S64x512x4096, .bf16⟩
  | .hbm, ⟨6, _⟩ => ⟨S64x4096x2752, .bf16⟩
  | .hbm, ⟨7, _⟩ => ⟨S64x1376x4096, .bf16⟩
  | .hbm, ⟨8, _⟩ => ⟨S8x8x4096x1536, .bf16⟩
  | .hbm, ⟨9, _⟩ => ⟨S8x8x4096x1536, .bf16⟩
  | .hbm, ⟨10, _⟩ => ⟨S64x4096x1536, .bf16⟩
  | .hbm, ⟨11, _⟩ => ⟨S8x8x256x2048, .bf16⟩
  | .hbm, ⟨12, _⟩ => ⟨S8x8x256x2048, .bf16⟩
  | .hbm, ⟨13, _⟩ => ⟨S64x256x2048, .bf16⟩
  | .hbm, ⟨14, _⟩ => ⟨S8x8x4x64x512, .bf16⟩
  | .hbm, ⟨15, _⟩ => ⟨S8x8x4x64x512, .bf16⟩
  | .hbm, ⟨16, _⟩ => ⟨S64x4x64x512, .bf16⟩
  | .hbm, ⟨17, _⟩ => ⟨S8x8x2048x512, .bf16⟩
  | .hbm, ⟨18, _⟩ => ⟨S8x8x2048x512, .bf16⟩
  | .hbm, ⟨19, _⟩ => ⟨S64x2048x512, .bf16⟩
  | .hbm, ⟨20, _⟩ => ⟨S8x8x2048x512, .bf16⟩
  | .hbm, ⟨21, _⟩ => ⟨S8x8x2048x512, .bf16⟩
  | .hbm, ⟨22, _⟩ => ⟨S64x2048x512, .bf16⟩
  | .hbm, ⟨23, _⟩ => ⟨S8x8x512x4096, .bf16⟩
  | .hbm, ⟨24, _⟩ => ⟨S8x8x512x4096, .bf16⟩
  | .hbm, ⟨25, _⟩ => ⟨S64x512x4096, .bf16⟩
  | .hbm, ⟨26, _⟩ => ⟨S8x8x4096x2752, .bf16⟩
  | .hbm, ⟨27, _⟩ => ⟨S8x8x4096x2752, .bf16⟩
  | .hbm, ⟨28, _⟩ => ⟨S64x4096x2752, .bf16⟩
  | .hbm, ⟨29, _⟩ => ⟨S8x8x1376x4096, .bf16⟩
  | .hbm, ⟨30, _⟩ => ⟨S8x8x1376x4096, .bf16⟩
  | .hbm, ⟨31, _⟩ => ⟨S64x1376x4096, .bf16⟩
  | _, _ => ⟨S64x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Weights.lean ====
abbrev S4096x1536 : Shape := ⟨2, ![4096, 1536]⟩
abbrev S256x2048 : Shape := ⟨2, ![256, 2048]⟩
abbrev S4x64x512 : Shape := ⟨3, ![4, 64, 512]⟩
abbrev S2048x512 : Shape := ⟨2, ![2048, 512]⟩
abbrev S512x4096 : Shape := ⟨2, ![512, 4096]⟩
abbrev S4096x2752 : Shape := ⟨2, ![4096, 2752]⟩
abbrev S1376x4096 : Shape := ⟨2, ![1376, 4096]⟩
abbrev S4x64 : Shape := ⟨2, ![4, 64]⟩
abbrev S3x2752 : Shape := ⟨2, ![3, 2752]⟩
abbrev S8x4096x1536 : Shape := ⟨3, ![8, 4096, 1536]⟩
abbrev S8x256x2048 : Shape := ⟨3, ![8, 256, 2048]⟩
abbrev S8x4x64x512 : Shape := ⟨4, ![8, 4, 64, 512]⟩
abbrev S8x2048x512 : Shape := ⟨3, ![8, 2048, 512]⟩
abbrev S8x512x4096 : Shape := ⟨3, ![8, 512, 4096]⟩
abbrev S8x4096x2752 : Shape := ⟨3, ![8, 4096, 2752]⟩
abbrev S8x1376x4096 : Shape := ⟨3, ![8, 1376, 4096]⟩
abbrev S8x4x64 : Shape := ⟨3, ![8, 4, 64]⟩
abbrev S8x3x2752 : Shape := ⟨3, ![8, 3, 2752]⟩
abbrev S10x7 : Shape := ⟨2, ![10, 7]⟩
abbrev S10 : Shape := ⟨1, ![10]⟩
abbrev S1 : Shape := ⟨1, ![1]⟩
abbrev S_ : Shape := ⟨0, ![]⟩
abbrev S1x4096x1536 : Shape := ⟨3, ![1, 4096, 1536]⟩
abbrev S1x1 : Shape := ⟨2, ![1, 1]⟩
abbrev S1x256x2048 : Shape := ⟨3, ![1, 256, 2048]⟩
abbrev S1x4x64x512 : Shape := ⟨4, ![1, 4, 64, 512]⟩
abbrev S1x2048x512 : Shape := ⟨3, ![1, 2048, 512]⟩
abbrev S1x512x4096 : Shape := ⟨3, ![1, 512, 4096]⟩
abbrev S1x4096x2752 : Shape := ⟨3, ![1, 4096, 2752]⟩
abbrev S1x1376x4096 : Shape := ⟨3, ![1, 1376, 4096]⟩
abbrev S1x4x64 : Shape := ⟨3, ![1, 4, 64]⟩
abbrev S1x3x2752 : Shape := ⟨3, ![1, 3, 2752]⟩

abbrev nBuf : Space → Nat
  | .hbm => 20
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S256x2048, .bf16⟩
  | .hbm, ⟨2, _⟩ => ⟨S4x64x512, .bf16⟩
  | .hbm, ⟨3, _⟩ => ⟨S2048x512, .bf16⟩
  | .hbm, ⟨4, _⟩ => ⟨S2048x512, .bf16⟩
  | .hbm, ⟨5, _⟩ => ⟨S512x4096, .bf16⟩
  | .hbm, ⟨6, _⟩ => ⟨S4096x2752, .bf16⟩
  | .hbm, ⟨7, _⟩ => ⟨S1376x4096, .bf16⟩
  | .hbm, ⟨8, _⟩ => ⟨S4x64, .f32⟩
  | .hbm, ⟨9, _⟩ => ⟨S3x2752, .f32⟩
  | .hbm, ⟨10, _⟩ => ⟨S8x4096x1536, .bf16⟩
  | .hbm, ⟨11, _⟩ => ⟨S8x256x2048, .bf16⟩
  | .hbm, ⟨12, _⟩ => ⟨S8x4x64x512, .bf16⟩
  | .hbm, ⟨13, _⟩ => ⟨S8x2048x512, .bf16⟩
  | .hbm, ⟨14, _⟩ => ⟨S8x2048x512, .bf16⟩
  | .hbm, ⟨15, _⟩ => ⟨S8x512x4096, .bf16⟩
  | .hbm, ⟨16, _⟩ => ⟨S8x4096x2752, .bf16⟩
  | .hbm, ⟨17, _⟩ => ⟨S8x1376x4096, .bf16⟩
  | .hbm, ⟨18, _⟩ => ⟨S8x4x64, .f32⟩
  | .hbm, ⟨19, _⟩ => ⟨S8x3x2752, .f32⟩
  | _, _ => ⟨S4096x1536, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_59 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.muli c4_i32_59 v2
  let c2_i32_60 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.muli c2_i32_60 v5
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c0_i32_62 : BitVec 32 := 0#32
  let c0_i32_63 : BitVec 32 := 0#32
  ![v89.toNat, 0, 0]
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v110 : BitVec 32 := Scalar.muli v2 c4_i32_76
  let v111 : BitVec 32 := Scalar.addi c0_i32_77 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v112 : BitVec 32 := Scalar.muli v5 c2_i32_78
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_79 : BitVec 32 := 1#32
  let v114 : BitVec 32 := Scalar.muli v9 c1_i32_79
  let v115 : BitVec 32 := Scalar.addi v113 v114
  v115.toNat
def k0_dev6 (d0 : Dev nD) : Nat :=
  let c0_i32_87 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_86 : BitVec 32 := 4#32
  let v122 : BitVec 32 := Scalar.muli v10 c4_i32_86
  let v123 : BitVec 32 := Scalar.addi c0_i32_87 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v124 : BitVec 32 := Scalar.muli v5 c2_i32_88
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v126 : BitVec 32 := Scalar.muli v8 c1_i32_89
  let v127 : BitVec 32 := Scalar.addi v125 v126
  v127.toNat
def k0_dev7 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v134 : BitVec 32 := Scalar.muli v2 c4_i32_96
  let v135 : BitVec 32 := Scalar.addi c0_i32_97 v134
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_98 : BitVec 32 := 2#32
  let v136 : BitVec 32 := Scalar.muli v11 c2_i32_98
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v138 : BitVec 32 := Scalar.muli v8 c1_i32_99
  let v139 : BitVec 32 := Scalar.addi v137 v138
  v139.toNat
def k0_dev8 (d0 : Dev nD) : Nat :=
  let c0_i32_107 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_106 : BitVec 32 := 4#32
  let v146 : BitVec 32 := Scalar.muli v12 c4_i32_106
  let v147 : BitVec 32 := Scalar.addi c0_i32_107 v146
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_108 : BitVec 32 := 2#32
  let v148 : BitVec 32 := Scalar.muli v13 c2_i32_108
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v150 : BitVec 32 := Scalar.muli v8 c1_i32_109
  let v151 : BitVec 32 := Scalar.addi v149 v150
  v151.toNat
def k0_off3 (d0 : Dev nD) : Fin 4 → Nat :=
  let c4_i32_112 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.muli c4_i32_112 v2
  let c2_i32_113 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v159 : BitVec 32 := Scalar.muli c2_i32_113 v5
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v161 : BitVec 32 := Scalar.addi v160 v8
  let c0_i32_115 : BitVec 32 := 0#32
  let c0_i32_116 : BitVec 32 := 0#32
  let c0_i32_117 : BitVec 32 := 0#32
  ![v161.toNat, 0, 0, 0]
def k0_dev9 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v182 : BitVec 32 := Scalar.muli v2 c4_i32_130
  let v183 : BitVec 32 := Scalar.addi c0_i32_131 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v184 : BitVec 32 := Scalar.muli v5 c2_i32_132
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_133 : BitVec 32 := 1#32
  let v186 : BitVec 32 := Scalar.muli v9 c1_i32_133
  let v187 : BitVec 32 := Scalar.addi v185 v186
  v187.toNat
def k0_dev10 (d0 : Dev nD) : Nat :=
  let c0_i32_142 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_141 : BitVec 32 := 4#32
  let v194 : BitVec 32 := Scalar.muli v10 c4_i32_141
  let v195 : BitVec 32 := Scalar.addi c0_i32_142 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v196 : BitVec 32 := Scalar.muli v5 c2_i32_143
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v198 : BitVec 32 := Scalar.muli v8 c1_i32_144
  let v199 : BitVec 32 := Scalar.addi v197 v198
  v199.toNat
def k0_dev11 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_152 : BitVec 32 := 4#32
  let v206 : BitVec 32 := Scalar.muli v2 c4_i32_152
  let v207 : BitVec 32 := Scalar.addi c0_i32_153 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_154 : BitVec 32 := 2#32
  let v208 : BitVec 32 := Scalar.muli v11 c2_i32_154
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v210 : BitVec 32 := Scalar.muli v8 c1_i32_155
  let v211 : BitVec 32 := Scalar.addi v209 v210
  v211.toNat
def k0_dev12 (d0 : Dev nD) : Nat :=
  let c0_i32_164 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_163 : BitVec 32 := 4#32
  let v218 : BitVec 32 := Scalar.muli v12 c4_i32_163
  let v219 : BitVec 32 := Scalar.addi c0_i32_164 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_165 : BitVec 32 := 2#32
  let v220 : BitVec 32 := Scalar.muli v13 c2_i32_165
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v222 : BitVec 32 := Scalar.muli v8 c1_i32_166
  let v223 : BitVec 32 := Scalar.addi v221 v222
  v223.toNat
def k0_off4 (d0 : Dev nD) : Fin 3 → Nat :=
  let c4_i32_170 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v230 : BitVec 32 := Scalar.muli c4_i32_170 v2
  let c2_i32_171 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v231 : BitVec 32 := Scalar.muli c2_i32_171 v5
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v232 v8
  let c0_i32_173 : BitVec 32 := 0#32
  let c0_i32_174 : BitVec 32 := 0#32
  ![v233.toNat, 0, 0]
def k0_dev13 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v254 : BitVec 32 := Scalar.muli v2 c4_i32_187
  let v255 : BitVec 32 := Scalar.addi c0_i32_188 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v256 : BitVec 32 := Scalar.muli v5 c2_i32_189
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_190 : BitVec 32 := 1#32
  let v258 : BitVec 32 := Scalar.muli v9 c1_i32_190
  let v259 : BitVec 32 := Scalar.addi v257 v258
  v259.toNat
def k0_dev14 (d0 : Dev nD) : Nat :=
  let c0_i32_198 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_197 : BitVec 32 := 4#32
  let v266 : BitVec 32 := Scalar.muli v10 c4_i32_197
  let v267 : BitVec 32 := Scalar.addi c0_i32_198 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v268 : BitVec 32 := Scalar.muli v5 c2_i32_199
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v270 : BitVec 32 := Scalar.muli v8 c1_i32_200
  let v271 : BitVec 32 := Scalar.addi v269 v270
  v271.toNat
def k0_dev15 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v278 : BitVec 32 := Scalar.muli v2 c4_i32_207
  let v279 : BitVec 32 := Scalar.addi c0_i32_208 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_209 : BitVec 32 := 2#32
  let v280 : BitVec 32 := Scalar.muli v11 c2_i32_209
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v282 : BitVec 32 := Scalar.muli v8 c1_i32_210
  let v283 : BitVec 32 := Scalar.addi v281 v282
  v283.toNat
def k0_dev16 (d0 : Dev nD) : Nat :=
  let c0_i32_218 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_217 : BitVec 32 := 4#32
  let v290 : BitVec 32 := Scalar.muli v12 c4_i32_217
  let v291 : BitVec 32 := Scalar.addi c0_i32_218 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_219 : BitVec 32 := 2#32
  let v292 : BitVec 32 := Scalar.muli v13 c2_i32_219
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v294 : BitVec 32 := Scalar.muli v8 c1_i32_220
  let v295 : BitVec 32 := Scalar.addi v293 v294
  v295.toNat
def k0_dev17 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v326 : BitVec 32 := Scalar.muli v2 c4_i32_240
  let v327 : BitVec 32 := Scalar.addi c0_i32_241 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_242 : BitVec 32 := 2#32
  let v328 : BitVec 32 := Scalar.muli v5 c2_i32_242
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_243 : BitVec 32 := 1#32
  let v330 : BitVec 32 := Scalar.muli v9 c1_i32_243
  let v331 : BitVec 32 := Scalar.addi v329 v330
  v331.toNat
def k0_dev18 (d0 : Dev nD) : Nat :=
  let c0_i32_251 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_250 : BitVec 32 := 4#32
  let v338 : BitVec 32 := Scalar.muli v10 c4_i32_250
  let v339 : BitVec 32 := Scalar.addi c0_i32_251 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v340 : BitVec 32 := Scalar.muli v5 c2_i32_252
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v342 : BitVec 32 := Scalar.muli v8 c1_i32_253
  let v343 : BitVec 32 := Scalar.addi v341 v342
  v343.toNat
def k0_dev19 (d0 : Dev nD) : Nat :=
  let c0_i32_261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_260 : BitVec 32 := 4#32
  let v350 : BitVec 32 := Scalar.muli v2 c4_i32_260
  let v351 : BitVec 32 := Scalar.addi c0_i32_261 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_262 : BitVec 32 := 2#32
  let v352 : BitVec 32 := Scalar.muli v11 c2_i32_262
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_263 : BitVec 32 := 1#32
  let v354 : BitVec 32 := Scalar.muli v8 c1_i32_263
  let v355 : BitVec 32 := Scalar.addi v353 v354
  v355.toNat
def k0_dev20 (d0 : Dev nD) : Nat :=
  let c0_i32_271 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_270 : BitVec 32 := 4#32
  let v362 : BitVec 32 := Scalar.muli v12 c4_i32_270
  let v363 : BitVec 32 := Scalar.addi c0_i32_271 v362
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_272 : BitVec 32 := 2#32
  let v364 : BitVec 32 := Scalar.muli v13 c2_i32_272
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_273 : BitVec 32 := 1#32
  let v366 : BitVec 32 := Scalar.muli v8 c1_i32_273
  let v367 : BitVec 32 := Scalar.addi v365 v366
  v367.toNat
def k0_off5 (d0 : Dev nD) : Fin 3 → Nat :=
  let c4_i32_276 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v374 : BitVec 32 := Scalar.muli c4_i32_276 v2
  let c2_i32_277 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v375 : BitVec 32 := Scalar.muli c2_i32_277 v5
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c0_i32_278 : BitVec 32 := 0#32
  let c0_i32_279 : BitVec 32 := 0#32
  ![v377.toNat, 0, 0]
def k0_dev21 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v398 : BitVec 32 := Scalar.muli v2 c4_i32_292
  let v399 : BitVec 32 := Scalar.addi c0_i32_293 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v400 : BitVec 32 := Scalar.muli v5 c2_i32_294
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_295 : BitVec 32 := 1#32
  let v402 : BitVec 32 := Scalar.muli v9 c1_i32_295
  let v403 : BitVec 32 := Scalar.addi v401 v402
  v403.toNat
def k0_dev22 (d0 : Dev nD) : Nat :=
  let c0_i32_303 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_302 : BitVec 32 := 4#32
  let v410 : BitVec 32 := Scalar.muli v10 c4_i32_302
  let v411 : BitVec 32 := Scalar.addi c0_i32_303 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_304 : BitVec 32 := 2#32
  let v412 : BitVec 32 := Scalar.muli v5 c2_i32_304
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v414 : BitVec 32 := Scalar.muli v8 c1_i32_305
  let v415 : BitVec 32 := Scalar.addi v413 v414
  v415.toNat
def k0_dev23 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v422 : BitVec 32 := Scalar.muli v2 c4_i32_312
  let v423 : BitVec 32 := Scalar.addi c0_i32_313 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_314 : BitVec 32 := 2#32
  let v424 : BitVec 32 := Scalar.muli v11 c2_i32_314
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v426 : BitVec 32 := Scalar.muli v8 c1_i32_315
  let v427 : BitVec 32 := Scalar.addi v425 v426
  v427.toNat
def k0_dev24 (d0 : Dev nD) : Nat :=
  let c0_i32_323 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_322 : BitVec 32 := 4#32
  let v434 : BitVec 32 := Scalar.muli v12 c4_i32_322
  let v435 : BitVec 32 := Scalar.addi c0_i32_323 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_324 : BitVec 32 := 2#32
  let v436 : BitVec 32 := Scalar.muli v13 c2_i32_324
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v438 : BitVec 32 := Scalar.muli v8 c1_i32_325
  let v439 : BitVec 32 := Scalar.addi v437 v438
  v439.toNat
def k0_off6 (d0 : Dev nD) : Fin 3 → Nat :=
  let c4_i32_328 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v446 : BitVec 32 := Scalar.muli c4_i32_328 v2
  let c2_i32_329 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v447 : BitVec 32 := Scalar.muli c2_i32_329 v5
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v449 : BitVec 32 := Scalar.addi v448 v8
  let c0_i32_330 : BitVec 32 := 0#32
  let c0_i32_331 : BitVec 32 := 0#32
  ![v449.toNat, 0, 0]
def k0_dev25 (d0 : Dev nD) : Nat :=
  let c0_i32_345 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_344 : BitVec 32 := 4#32
  let v470 : BitVec 32 := Scalar.muli v2 c4_i32_344
  let v471 : BitVec 32 := Scalar.addi c0_i32_345 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_346 : BitVec 32 := 2#32
  let v472 : BitVec 32 := Scalar.muli v5 c2_i32_346
  let v473 : BitVec 32 := Scalar.addi v471 v472
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_347 : BitVec 32 := 1#32
  let v474 : BitVec 32 := Scalar.muli v9 c1_i32_347
  let v475 : BitVec 32 := Scalar.addi v473 v474
  v475.toNat
def k0_dev26 (d0 : Dev nD) : Nat :=
  let c0_i32_355 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_354 : BitVec 32 := 4#32
  let v482 : BitVec 32 := Scalar.muli v10 c4_i32_354
  let v483 : BitVec 32 := Scalar.addi c0_i32_355 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v484 : BitVec 32 := Scalar.muli v5 c2_i32_356
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v486 : BitVec 32 := Scalar.muli v8 c1_i32_357
  let v487 : BitVec 32 := Scalar.addi v485 v486
  v487.toNat
def k0_dev27 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_364 : BitVec 32 := 4#32
  let v494 : BitVec 32 := Scalar.muli v2 c4_i32_364
  let v495 : BitVec 32 := Scalar.addi c0_i32_365 v494
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_366 : BitVec 32 := 2#32
  let v496 : BitVec 32 := Scalar.muli v11 c2_i32_366
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v498 : BitVec 32 := Scalar.muli v8 c1_i32_367
  let v499 : BitVec 32 := Scalar.addi v497 v498
  v499.toNat
def k0_dev28 (d0 : Dev nD) : Nat :=
  let c0_i32_375 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_374 : BitVec 32 := 4#32
  let v506 : BitVec 32 := Scalar.muli v12 c4_i32_374
  let v507 : BitVec 32 := Scalar.addi c0_i32_375 v506
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_376 : BitVec 32 := 2#32
  let v508 : BitVec 32 := Scalar.muli v13 c2_i32_376
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_377 : BitVec 32 := 1#32
  let v510 : BitVec 32 := Scalar.muli v8 c1_i32_377
  let v511 : BitVec 32 := Scalar.addi v509 v510
  v511.toNat
def k0_off7 (d0 : Dev nD) : Fin 3 → Nat :=
  let c4_i32_380 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v518 : BitVec 32 := Scalar.muli c4_i32_380 v2
  let c2_i32_381 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.muli c2_i32_381 v5
  let v520 : BitVec 32 := Scalar.addi v518 v519
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v521 : BitVec 32 := Scalar.addi v520 v8
  let c0_i32_382 : BitVec 32 := 0#32
  let c0_i32_383 : BitVec 32 := 0#32
  ![v521.toNat, 0, 0]
def k0_dev29 (d0 : Dev nD) : Nat :=
  let c0_i32_397 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_396 : BitVec 32 := 4#32
  let v542 : BitVec 32 := Scalar.muli v2 c4_i32_396
  let v543 : BitVec 32 := Scalar.addi c0_i32_397 v542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_398 : BitVec 32 := 2#32
  let v544 : BitVec 32 := Scalar.muli v5 c2_i32_398
  let v545 : BitVec 32 := Scalar.addi v543 v544
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_399 : BitVec 32 := 1#32
  let v546 : BitVec 32 := Scalar.muli v9 c1_i32_399
  let v547 : BitVec 32 := Scalar.addi v545 v546
  v547.toNat
def k0_dev30 (d0 : Dev nD) : Nat :=
  let c0_i32_407 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_406 : BitVec 32 := 4#32
  let v554 : BitVec 32 := Scalar.muli v10 c4_i32_406
  let v555 : BitVec 32 := Scalar.addi c0_i32_407 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_408 : BitVec 32 := 2#32
  let v556 : BitVec 32 := Scalar.muli v5 c2_i32_408
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_409 : BitVec 32 := 1#32
  let v558 : BitVec 32 := Scalar.muli v8 c1_i32_409
  let v559 : BitVec 32 := Scalar.addi v557 v558
  v559.toNat
def k0_dev31 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v566 : BitVec 32 := Scalar.muli v2 c4_i32_416
  let v567 : BitVec 32 := Scalar.addi c0_i32_417 v566
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_418 : BitVec 32 := 2#32
  let v568 : BitVec 32 := Scalar.muli v11 c2_i32_418
  let v569 : BitVec 32 := Scalar.addi v567 v568
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v570 : BitVec 32 := Scalar.muli v8 c1_i32_419
  let v571 : BitVec 32 := Scalar.addi v569 v570
  v571.toNat
def k0_dev32 (d0 : Dev nD) : Nat :=
  let c0_i32_427 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_426 : BitVec 32 := 4#32
  let v578 : BitVec 32 := Scalar.muli v12 c4_i32_426
  let v579 : BitVec 32 := Scalar.addi c0_i32_427 v578
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_428 : BitVec 32 := 2#32
  let v580 : BitVec 32 := Scalar.muli v13 c2_i32_428
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_429 : BitVec 32 := 1#32
  let v582 : BitVec 32 := Scalar.muli v8 c1_i32_429
  let v583 : BitVec 32 := Scalar.addi v581 v582
  v583.toNat
def k0_off8 (d0 : Dev nD) : Fin 3 → Nat :=
  let c4_i32_432 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v590 : BitVec 32 := Scalar.muli c4_i32_432 v2
  let c2_i32_433 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v591 : BitVec 32 := Scalar.muli c2_i32_433 v5
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v593 : BitVec 32 := Scalar.addi v592 v8
  let c0_i32_434 : BitVec 32 := 0#32
  let c0_i32_435 : BitVec 32 := 0#32
  ![v593.toNat, 0, 0]
def k0_dev33 (d0 : Dev nD) : Nat :=
  let c0_i32_449 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_448 : BitVec 32 := 4#32
  let v614 : BitVec 32 := Scalar.muli v2 c4_i32_448
  let v615 : BitVec 32 := Scalar.addi c0_i32_449 v614
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_450 : BitVec 32 := 2#32
  let v616 : BitVec 32 := Scalar.muli v5 c2_i32_450
  let v617 : BitVec 32 := Scalar.addi v615 v616
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_451 : BitVec 32 := 1#32
  let v618 : BitVec 32 := Scalar.muli v9 c1_i32_451
  let v619 : BitVec 32 := Scalar.addi v617 v618
  v619.toNat
def k0_dev34 (d0 : Dev nD) : Nat :=
  let c0_i32_459 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_458 : BitVec 32 := 4#32
  let v626 : BitVec 32 := Scalar.muli v10 c4_i32_458
  let v627 : BitVec 32 := Scalar.addi c0_i32_459 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v628 : BitVec 32 := Scalar.muli v5 c2_i32_460
  let v629 : BitVec 32 := Scalar.addi v627 v628
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_461 : BitVec 32 := 1#32
  let v630 : BitVec 32 := Scalar.muli v8 c1_i32_461
  let v631 : BitVec 32 := Scalar.addi v629 v630
  v631.toNat
def k0_dev35 (d0 : Dev nD) : Nat :=
  let c0_i32_469 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_468 : BitVec 32 := 4#32
  let v638 : BitVec 32 := Scalar.muli v2 c4_i32_468
  let v639 : BitVec 32 := Scalar.addi c0_i32_469 v638
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_470 : BitVec 32 := 2#32
  let v640 : BitVec 32 := Scalar.muli v11 c2_i32_470
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_471 : BitVec 32 := 1#32
  let v642 : BitVec 32 := Scalar.muli v8 c1_i32_471
  let v643 : BitVec 32 := Scalar.addi v641 v642
  v643.toNat
def k0_dev36 (d0 : Dev nD) : Nat :=
  let c0_i32_479 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_478 : BitVec 32 := 4#32
  let v650 : BitVec 32 := Scalar.muli v12 c4_i32_478
  let v651 : BitVec 32 := Scalar.addi c0_i32_479 v650
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_480 : BitVec 32 := 2#32
  let v652 : BitVec 32 := Scalar.muli v13 c2_i32_480
  let v653 : BitVec 32 := Scalar.addi v651 v652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v654 : BitVec 32 := Scalar.muli v8 c1_i32_481
  let v655 : BitVec 32 := Scalar.addi v653 v654
  v655.toNat
def k0_off9 (d0 : Dev nD) : Fin 3 → Nat :=
  let c4_i32_484 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v662 : BitVec 32 := Scalar.muli c4_i32_484 v2
  let c2_i32_485 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v663 : BitVec 32 := Scalar.muli c2_i32_485 v5
  let v664 : BitVec 32 := Scalar.addi v662 v663
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v665 : BitVec 32 := Scalar.addi v664 v8
  let c0_i32_486 : BitVec 32 := 0#32
  let c0_i32_487 : BitVec 32 := 0#32
  ![v665.toNat, 0, 0]
def k0_dev37 (d0 : Dev nD) : Nat :=
  let c0_i32_501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_500 : BitVec 32 := 4#32
  let v686 : BitVec 32 := Scalar.muli v2 c4_i32_500
  let v687 : BitVec 32 := Scalar.addi c0_i32_501 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_502 : BitVec 32 := 2#32
  let v688 : BitVec 32 := Scalar.muli v5 c2_i32_502
  let v689 : BitVec 32 := Scalar.addi v687 v688
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_503 : BitVec 32 := 1#32
  let v690 : BitVec 32 := Scalar.muli v9 c1_i32_503
  let v691 : BitVec 32 := Scalar.addi v689 v690
  v691.toNat
def k0_dev38 (d0 : Dev nD) : Nat :=
  let c0_i32_511 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_510 : BitVec 32 := 4#32
  let v698 : BitVec 32 := Scalar.muli v10 c4_i32_510
  let v699 : BitVec 32 := Scalar.addi c0_i32_511 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_512 : BitVec 32 := 2#32
  let v700 : BitVec 32 := Scalar.muli v5 c2_i32_512
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_513 : BitVec 32 := 1#32
  let v702 : BitVec 32 := Scalar.muli v8 c1_i32_513
  let v703 : BitVec 32 := Scalar.addi v701 v702
  v703.toNat
def k0_dev39 (d0 : Dev nD) : Nat :=
  let c0_i32_521 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_520 : BitVec 32 := 4#32
  let v710 : BitVec 32 := Scalar.muli v2 c4_i32_520
  let v711 : BitVec 32 := Scalar.addi c0_i32_521 v710
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_522 : BitVec 32 := 2#32
  let v712 : BitVec 32 := Scalar.muli v11 c2_i32_522
  let v713 : BitVec 32 := Scalar.addi v711 v712
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_523 : BitVec 32 := 1#32
  let v714 : BitVec 32 := Scalar.muli v8 c1_i32_523
  let v715 : BitVec 32 := Scalar.addi v713 v714
  v715.toNat
def k0_dev40 (d0 : Dev nD) : Nat :=
  let c0_i32_531 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_530 : BitVec 32 := 4#32
  let v722 : BitVec 32 := Scalar.muli v12 c4_i32_530
  let v723 : BitVec 32 := Scalar.addi c0_i32_531 v722
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_532 : BitVec 32 := 2#32
  let v724 : BitVec 32 := Scalar.muli v13 c2_i32_532
  let v725 : BitVec 32 := Scalar.addi v723 v724
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_533 : BitVec 32 := 1#32
  let v726 : BitVec 32 := Scalar.muli v8 c1_i32_533
  let v727 : BitVec 32 := Scalar.addi v725 v726
  v727.toNat
def k0_off10 (d0 : Dev nD) : Fin 3 → Nat :=
  let c4_i32_542 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v746 : BitVec 32 := Scalar.muli c4_i32_542 v10
  let c2_i32_543 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v747 : BitVec 32 := Scalar.muli c2_i32_543 v5
  let v748 : BitVec 32 := Scalar.addi v746 v747
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v749 : BitVec 32 := Scalar.addi v748 v8
  let c0_i32_552 : BitVec 32 := 0#32
  let c0_i32_553 : BitVec 32 := 0#32
  ![v749.toNat, 0, 0]
def k0_dev41 (d0 : Dev nD) : Nat :=
  let c0_i32_561 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_560 : BitVec 32 := 4#32
  let v762 : BitVec 32 := Scalar.muli v2 c4_i32_560
  let v763 : BitVec 32 := Scalar.addi c0_i32_561 v762
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_562 : BitVec 32 := 2#32
  let v764 : BitVec 32 := Scalar.muli v5 c2_i32_562
  let v765 : BitVec 32 := Scalar.addi v763 v764
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_563 : BitVec 32 := 1#32
  let v766 : BitVec 32 := Scalar.muli v9 c1_i32_563
  let v767 : BitVec 32 := Scalar.addi v765 v766
  v767.toNat
def k0_off11 (d0 : Dev nD) : Fin 3 → Nat :=
  let c4_i32_568 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v776 : BitVec 32 := Scalar.muli c4_i32_568 v2
  let c2_i32_569 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v777 : BitVec 32 := Scalar.muli c2_i32_569 v11
  let v778 : BitVec 32 := Scalar.addi v776 v777
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v779 : BitVec 32 := Scalar.addi v778 v8
  let c0_i32_578 : BitVec 32 := 0#32
  let c0_i32_579 : BitVec 32 := 0#32
  ![v779.toNat, 0, 0]
def k0_dev42 (d0 : Dev nD) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v792 : BitVec 32 := Scalar.muli v2 c4_i32_586
  let v793 : BitVec 32 := Scalar.addi c0_i32_587 v792
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_588 : BitVec 32 := 2#32
  let v794 : BitVec 32 := Scalar.muli v5 c2_i32_588
  let v795 : BitVec 32 := Scalar.addi v793 v794
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_589 : BitVec 32 := 1#32
  let v796 : BitVec 32 := Scalar.muli v9 c1_i32_589
  let v797 : BitVec 32 := Scalar.addi v795 v796
  v797.toNat
def k0_off12 (d0 : Dev nD) : Fin 3 → Nat :=
  let c4_i32_594 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v806 : BitVec 32 := Scalar.muli c4_i32_594 v12
  let c2_i32_595 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v807 : BitVec 32 := Scalar.muli c2_i32_595 v13
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v809 : BitVec 32 := Scalar.addi v808 v8
  let c0_i32_604 : BitVec 32 := 0#32
  let c0_i32_605 : BitVec 32 := 0#32
  ![v809.toNat, 0, 0]
def k0_dev43 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v822 : BitVec 32 := Scalar.muli v2 c4_i32_612
  let v823 : BitVec 32 := Scalar.addi c0_i32_613 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_614 : BitVec 32 := 2#32
  let v824 : BitVec 32 := Scalar.muli v5 c2_i32_614
  let v825 : BitVec 32 := Scalar.addi v823 v824
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_615 : BitVec 32 := 1#32
  let v826 : BitVec 32 := Scalar.muli v9 c1_i32_615
  let v827 : BitVec 32 := Scalar.addi v825 v826
  v827.toNat
def k0_off13 (d0 : Dev nD) : Fin 3 → Nat :=
  let c4_i32_626 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v848 : BitVec 32 := Scalar.muli c4_i32_626 v10
  let c2_i32_627 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v849 : BitVec 32 := Scalar.muli c2_i32_627 v5
  let v850 : BitVec 32 := Scalar.addi v848 v849
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v851 : BitVec 32 := Scalar.addi v850 v8
  let c0_i32_636 : BitVec 32 := 0#32
  let c0_i32_637 : BitVec 32 := 0#32
  ![v851.toNat, 0, 0]
def k0_dev44 (d0 : Dev nD) : Nat :=
  let c0_i32_645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_644 : BitVec 32 := 4#32
  let v864 : BitVec 32 := Scalar.muli v2 c4_i32_644
  let v865 : BitVec 32 := Scalar.addi c0_i32_645 v864
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_646 : BitVec 32 := 2#32
  let v866 : BitVec 32 := Scalar.muli v5 c2_i32_646
  let v867 : BitVec 32 := Scalar.addi v865 v866
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_647 : BitVec 32 := 1#32
  let v868 : BitVec 32 := Scalar.muli v9 c1_i32_647
  let v869 : BitVec 32 := Scalar.addi v867 v868
  v869.toNat
def k0_off14 (d0 : Dev nD) : Fin 3 → Nat :=
  let c4_i32_652 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v878 : BitVec 32 := Scalar.muli c4_i32_652 v2
  let c2_i32_653 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v879 : BitVec 32 := Scalar.muli c2_i32_653 v11
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v881 : BitVec 32 := Scalar.addi v880 v8
  let c0_i32_662 : BitVec 32 := 0#32
  let c0_i32_663 : BitVec 32 := 0#32
  ![v881.toNat, 0, 0]
def k0_dev45 (d0 : Dev nD) : Nat :=
  let c0_i32_671 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_670 : BitVec 32 := 4#32
  let v894 : BitVec 32 := Scalar.muli v2 c4_i32_670
  let v895 : BitVec 32 := Scalar.addi c0_i32_671 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_672 : BitVec 32 := 2#32
  let v896 : BitVec 32 := Scalar.muli v5 c2_i32_672
  let v897 : BitVec 32 := Scalar.addi v895 v896
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_673 : BitVec 32 := 1#32
  let v898 : BitVec 32 := Scalar.muli v9 c1_i32_673
  let v899 : BitVec 32 := Scalar.addi v897 v898
  v899.toNat
def k0_off15 (d0 : Dev nD) : Fin 3 → Nat :=
  let c4_i32_678 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v908 : BitVec 32 := Scalar.muli c4_i32_678 v12
  let c2_i32_679 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v909 : BitVec 32 := Scalar.muli c2_i32_679 v13
  let v910 : BitVec 32 := Scalar.addi v908 v909
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v911 : BitVec 32 := Scalar.addi v910 v8
  let c0_i32_688 : BitVec 32 := 0#32
  let c0_i32_689 : BitVec 32 := 0#32
  ![v911.toNat, 0, 0]
def k0_dev46 (d0 : Dev nD) : Nat :=
  let c0_i32_697 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_696 : BitVec 32 := 4#32
  let v924 : BitVec 32 := Scalar.muli v2 c4_i32_696
  let v925 : BitVec 32 := Scalar.addi c0_i32_697 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_698 : BitVec 32 := 2#32
  let v926 : BitVec 32 := Scalar.muli v5 c2_i32_698
  let v927 : BitVec 32 := Scalar.addi v925 v926
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_699 : BitVec 32 := 1#32
  let v928 : BitVec 32 := Scalar.muli v9 c1_i32_699
  let v929 : BitVec 32 := Scalar.addi v927 v928
  v929.toNat
def k0_off16 (d0 : Dev nD) : Fin 4 → Nat :=
  let c4_i32_710 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v950 : BitVec 32 := Scalar.muli c4_i32_710 v10
  let c2_i32_711 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v951 : BitVec 32 := Scalar.muli c2_i32_711 v5
  let v952 : BitVec 32 := Scalar.addi v950 v951
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v953 : BitVec 32 := Scalar.addi v952 v8
  let c0_i32_720 : BitVec 32 := 0#32
  let c0_i32_721 : BitVec 32 := 0#32
  let c0_i32_722 : BitVec 32 := 0#32
  ![v953.toNat, 0, 0, 0]
def k0_dev47 (d0 : Dev nD) : Nat :=
  let c0_i32_731 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_730 : BitVec 32 := 4#32
  let v966 : BitVec 32 := Scalar.muli v2 c4_i32_730
  let v967 : BitVec 32 := Scalar.addi c0_i32_731 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_732 : BitVec 32 := 2#32
  let v968 : BitVec 32 := Scalar.muli v5 c2_i32_732
  let v969 : BitVec 32 := Scalar.addi v967 v968
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_733 : BitVec 32 := 1#32
  let v970 : BitVec 32 := Scalar.muli v9 c1_i32_733
  let v971 : BitVec 32 := Scalar.addi v969 v970
  v971.toNat
def k0_off17 (d0 : Dev nD) : Fin 4 → Nat :=
  let c4_i32_740 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v980 : BitVec 32 := Scalar.muli c4_i32_740 v2
  let c2_i32_741 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v981 : BitVec 32 := Scalar.muli c2_i32_741 v11
  let v982 : BitVec 32 := Scalar.addi v980 v981
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v983 : BitVec 32 := Scalar.addi v982 v8
  let c0_i32_750 : BitVec 32 := 0#32
  let c0_i32_751 : BitVec 32 := 0#32
  let c0_i32_752 : BitVec 32 := 0#32
  ![v983.toNat, 0, 0, 0]
def k0_dev48 (d0 : Dev nD) : Nat :=
  let c0_i32_761 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_760 : BitVec 32 := 4#32
  let v996 : BitVec 32 := Scalar.muli v2 c4_i32_760
  let v997 : BitVec 32 := Scalar.addi c0_i32_761 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_762 : BitVec 32 := 2#32
  let v998 : BitVec 32 := Scalar.muli v5 c2_i32_762
  let v999 : BitVec 32 := Scalar.addi v997 v998
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_763 : BitVec 32 := 1#32
  let v1000 : BitVec 32 := Scalar.muli v9 c1_i32_763
  let v1001 : BitVec 32 := Scalar.addi v999 v1000
  v1001.toNat
def k0_off18 (d0 : Dev nD) : Fin 4 → Nat :=
  let c4_i32_770 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1010 : BitVec 32 := Scalar.muli c4_i32_770 v12
  let c2_i32_771 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1011 : BitVec 32 := Scalar.muli c2_i32_771 v13
  let v1012 : BitVec 32 := Scalar.addi v1010 v1011
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1013 : BitVec 32 := Scalar.addi v1012 v8
  let c0_i32_780 : BitVec 32 := 0#32
  let c0_i32_781 : BitVec 32 := 0#32
  let c0_i32_782 : BitVec 32 := 0#32
  ![v1013.toNat, 0, 0, 0]
def k0_dev49 (d0 : Dev nD) : Nat :=
  let c0_i32_791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_790 : BitVec 32 := 4#32
  let v1026 : BitVec 32 := Scalar.muli v2 c4_i32_790
  let v1027 : BitVec 32 := Scalar.addi c0_i32_791 v1026
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_792 : BitVec 32 := 2#32
  let v1028 : BitVec 32 := Scalar.muli v5 c2_i32_792
  let v1029 : BitVec 32 := Scalar.addi v1027 v1028
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_793 : BitVec 32 := 1#32
  let v1030 : BitVec 32 := Scalar.muli v9 c1_i32_793
  let v1031 : BitVec 32 := Scalar.addi v1029 v1030
  v1031.toNat
def k0_off19 (d0 : Dev nD) : Fin 3 → Nat :=
  let c4_i32_806 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1052 : BitVec 32 := Scalar.muli c4_i32_806 v10
  let c2_i32_807 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1053 : BitVec 32 := Scalar.muli c2_i32_807 v5
  let v1054 : BitVec 32 := Scalar.addi v1052 v1053
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1055 : BitVec 32 := Scalar.addi v1054 v8
  let c0_i32_816 : BitVec 32 := 0#32
  let c0_i32_817 : BitVec 32 := 0#32
  ![v1055.toNat, 0, 0]
def k0_dev50 (d0 : Dev nD) : Nat :=
  let c0_i32_825 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_824 : BitVec 32 := 4#32
  let v1068 : BitVec 32 := Scalar.muli v2 c4_i32_824
  let v1069 : BitVec 32 := Scalar.addi c0_i32_825 v1068
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_826 : BitVec 32 := 2#32
  let v1070 : BitVec 32 := Scalar.muli v5 c2_i32_826
  let v1071 : BitVec 32 := Scalar.addi v1069 v1070
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_827 : BitVec 32 := 1#32
  let v1072 : BitVec 32 := Scalar.muli v9 c1_i32_827
  let v1073 : BitVec 32 := Scalar.addi v1071 v1072
  v1073.toNat
def k0_off20 (d0 : Dev nD) : Fin 3 → Nat :=
  let c4_i32_832 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1082 : BitVec 32 := Scalar.muli c4_i32_832 v2
  let c2_i32_833 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1083 : BitVec 32 := Scalar.muli c2_i32_833 v11
  let v1084 : BitVec 32 := Scalar.addi v1082 v1083
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1085 : BitVec 32 := Scalar.addi v1084 v8
  let c0_i32_842 : BitVec 32 := 0#32
  let c0_i32_843 : BitVec 32 := 0#32
  ![v1085.toNat, 0, 0]
def k0_dev51 (d0 : Dev nD) : Nat :=
  let c0_i32_851 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_850 : BitVec 32 := 4#32
  let v1098 : BitVec 32 := Scalar.muli v2 c4_i32_850
  let v1099 : BitVec 32 := Scalar.addi c0_i32_851 v1098
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_852 : BitVec 32 := 2#32
  let v1100 : BitVec 32 := Scalar.muli v5 c2_i32_852
  let v1101 : BitVec 32 := Scalar.addi v1099 v1100
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_853 : BitVec 32 := 1#32
  let v1102 : BitVec 32 := Scalar.muli v9 c1_i32_853
  let v1103 : BitVec 32 := Scalar.addi v1101 v1102
  v1103.toNat
def k0_off21 (d0 : Dev nD) : Fin 3 → Nat :=
  let c4_i32_858 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1112 : BitVec 32 := Scalar.muli c4_i32_858 v12
  let c2_i32_859 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1113 : BitVec 32 := Scalar.muli c2_i32_859 v13
  let v1114 : BitVec 32 := Scalar.addi v1112 v1113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1115 : BitVec 32 := Scalar.addi v1114 v8
  let c0_i32_868 : BitVec 32 := 0#32
  let c0_i32_869 : BitVec 32 := 0#32
  ![v1115.toNat, 0, 0]
def k0_dev52 (d0 : Dev nD) : Nat :=
  let c0_i32_877 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_876 : BitVec 32 := 4#32
  let v1128 : BitVec 32 := Scalar.muli v2 c4_i32_876
  let v1129 : BitVec 32 := Scalar.addi c0_i32_877 v1128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_878 : BitVec 32 := 2#32
  let v1130 : BitVec 32 := Scalar.muli v5 c2_i32_878
  let v1131 : BitVec 32 := Scalar.addi v1129 v1130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_879 : BitVec 32 := 1#32
  let v1132 : BitVec 32 := Scalar.muli v9 c1_i32_879
  let v1133 : BitVec 32 := Scalar.addi v1131 v1132
  v1133.toNat
def k0_dev53 (d0 : Dev nD) : Nat :=
  let c0_i32_909 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_908 : BitVec 32 := 4#32
  let v1170 : BitVec 32 := Scalar.muli v2 c4_i32_908
  let v1171 : BitVec 32 := Scalar.addi c0_i32_909 v1170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_910 : BitVec 32 := 2#32
  let v1172 : BitVec 32 := Scalar.muli v5 c2_i32_910
  let v1173 : BitVec 32 := Scalar.addi v1171 v1172
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_911 : BitVec 32 := 1#32
  let v1174 : BitVec 32 := Scalar.muli v9 c1_i32_911
  let v1175 : BitVec 32 := Scalar.addi v1173 v1174
  v1175.toNat
def k0_dev54 (d0 : Dev nD) : Nat :=
  let c0_i32_935 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_934 : BitVec 32 := 4#32
  let v1200 : BitVec 32 := Scalar.muli v2 c4_i32_934
  let v1201 : BitVec 32 := Scalar.addi c0_i32_935 v1200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_936 : BitVec 32 := 2#32
  let v1202 : BitVec 32 := Scalar.muli v5 c2_i32_936
  let v1203 : BitVec 32 := Scalar.addi v1201 v1202
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_937 : BitVec 32 := 1#32
  let v1204 : BitVec 32 := Scalar.muli v9 c1_i32_937
  let v1205 : BitVec 32 := Scalar.addi v1203 v1204
  v1205.toNat
def k0_dev55 (d0 : Dev nD) : Nat :=
  let c0_i32_961 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_960 : BitVec 32 := 4#32
  let v1230 : BitVec 32 := Scalar.muli v2 c4_i32_960
  let v1231 : BitVec 32 := Scalar.addi c0_i32_961 v1230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_962 : BitVec 32 := 2#32
  let v1232 : BitVec 32 := Scalar.muli v5 c2_i32_962
  let v1233 : BitVec 32 := Scalar.addi v1231 v1232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_963 : BitVec 32 := 1#32
  let v1234 : BitVec 32 := Scalar.muli v9 c1_i32_963
  let v1235 : BitVec 32 := Scalar.addi v1233 v1234
  v1235.toNat
def k0_off22 (d0 : Dev nD) : Fin 3 → Nat :=
  let c4_i32_974 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1256 : BitVec 32 := Scalar.muli c4_i32_974 v10
  let c2_i32_975 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1257 : BitVec 32 := Scalar.muli c2_i32_975 v5
  let v1258 : BitVec 32 := Scalar.addi v1256 v1257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1259 : BitVec 32 := Scalar.addi v1258 v8
  let c0_i32_984 : BitVec 32 := 0#32
  let c0_i32_985 : BitVec 32 := 0#32
  ![v1259.toNat, 0, 0]
def k0_dev56 (d0 : Dev nD) : Nat :=
  let c0_i32_993 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_992 : BitVec 32 := 4#32
  let v1272 : BitVec 32 := Scalar.muli v2 c4_i32_992
  let v1273 : BitVec 32 := Scalar.addi c0_i32_993 v1272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_994 : BitVec 32 := 2#32
  let v1274 : BitVec 32 := Scalar.muli v5 c2_i32_994
  let v1275 : BitVec 32 := Scalar.addi v1273 v1274
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_995 : BitVec 32 := 1#32
  let v1276 : BitVec 32 := Scalar.muli v9 c1_i32_995
  let v1277 : BitVec 32 := Scalar.addi v1275 v1276
  v1277.toNat
def k0_off23 (d0 : Dev nD) : Fin 3 → Nat :=
  let c4_i32_1000 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1286 : BitVec 32 := Scalar.muli c4_i32_1000 v2
  let c2_i32_1001 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1287 : BitVec 32 := Scalar.muli c2_i32_1001 v11
  let v1288 : BitVec 32 := Scalar.addi v1286 v1287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1289 : BitVec 32 := Scalar.addi v1288 v8
  let c0_i32_1010 : BitVec 32 := 0#32
  let c0_i32_1011 : BitVec 32 := 0#32
  ![v1289.toNat, 0, 0]
def k0_dev57 (d0 : Dev nD) : Nat :=
  let c0_i32_1019 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1018 : BitVec 32 := 4#32
  let v1302 : BitVec 32 := Scalar.muli v2 c4_i32_1018
  let v1303 : BitVec 32 := Scalar.addi c0_i32_1019 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1020 : BitVec 32 := 2#32
  let v1304 : BitVec 32 := Scalar.muli v5 c2_i32_1020
  let v1305 : BitVec 32 := Scalar.addi v1303 v1304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1021 : BitVec 32 := 1#32
  let v1306 : BitVec 32 := Scalar.muli v9 c1_i32_1021
  let v1307 : BitVec 32 := Scalar.addi v1305 v1306
  v1307.toNat
def k0_off24 (d0 : Dev nD) : Fin 3 → Nat :=
  let c4_i32_1026 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1316 : BitVec 32 := Scalar.muli c4_i32_1026 v12
  let c2_i32_1027 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1317 : BitVec 32 := Scalar.muli c2_i32_1027 v13
  let v1318 : BitVec 32 := Scalar.addi v1316 v1317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1319 : BitVec 32 := Scalar.addi v1318 v8
  let c0_i32_1036 : BitVec 32 := 0#32
  let c0_i32_1037 : BitVec 32 := 0#32
  ![v1319.toNat, 0, 0]
def k0_dev58 (d0 : Dev nD) : Nat :=
  let c0_i32_1045 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1044 : BitVec 32 := 4#32
  let v1332 : BitVec 32 := Scalar.muli v2 c4_i32_1044
  let v1333 : BitVec 32 := Scalar.addi c0_i32_1045 v1332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1046 : BitVec 32 := 2#32
  let v1334 : BitVec 32 := Scalar.muli v5 c2_i32_1046
  let v1335 : BitVec 32 := Scalar.addi v1333 v1334
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1047 : BitVec 32 := 1#32
  let v1336 : BitVec 32 := Scalar.muli v9 c1_i32_1047
  let v1337 : BitVec 32 := Scalar.addi v1335 v1336
  v1337.toNat
def k0_off25 (d0 : Dev nD) : Fin 3 → Nat :=
  let c4_i32_1058 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1358 : BitVec 32 := Scalar.muli c4_i32_1058 v10
  let c2_i32_1059 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1359 : BitVec 32 := Scalar.muli c2_i32_1059 v5
  let v1360 : BitVec 32 := Scalar.addi v1358 v1359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1361 : BitVec 32 := Scalar.addi v1360 v8
  let c0_i32_1068 : BitVec 32 := 0#32
  let c0_i32_1069 : BitVec 32 := 0#32
  ![v1361.toNat, 0, 0]
def k0_dev59 (d0 : Dev nD) : Nat :=
  let c0_i32_1077 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1076 : BitVec 32 := 4#32
  let v1374 : BitVec 32 := Scalar.muli v2 c4_i32_1076
  let v1375 : BitVec 32 := Scalar.addi c0_i32_1077 v1374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1078 : BitVec 32 := 2#32
  let v1376 : BitVec 32 := Scalar.muli v5 c2_i32_1078
  let v1377 : BitVec 32 := Scalar.addi v1375 v1376
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1079 : BitVec 32 := 1#32
  let v1378 : BitVec 32 := Scalar.muli v9 c1_i32_1079
  let v1379 : BitVec 32 := Scalar.addi v1377 v1378
  v1379.toNat
def k0_off26 (d0 : Dev nD) : Fin 3 → Nat :=
  let c4_i32_1084 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1388 : BitVec 32 := Scalar.muli c4_i32_1084 v2
  let c2_i32_1085 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1389 : BitVec 32 := Scalar.muli c2_i32_1085 v11
  let v1390 : BitVec 32 := Scalar.addi v1388 v1389
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1391 : BitVec 32 := Scalar.addi v1390 v8
  let c0_i32_1094 : BitVec 32 := 0#32
  let c0_i32_1095 : BitVec 32 := 0#32
  ![v1391.toNat, 0, 0]
def k0_dev60 (d0 : Dev nD) : Nat :=
  let c0_i32_1103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1102 : BitVec 32 := 4#32
  let v1404 : BitVec 32 := Scalar.muli v2 c4_i32_1102
  let v1405 : BitVec 32 := Scalar.addi c0_i32_1103 v1404
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1104 : BitVec 32 := 2#32
  let v1406 : BitVec 32 := Scalar.muli v5 c2_i32_1104
  let v1407 : BitVec 32 := Scalar.addi v1405 v1406
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1105 : BitVec 32 := 1#32
  let v1408 : BitVec 32 := Scalar.muli v9 c1_i32_1105
  let v1409 : BitVec 32 := Scalar.addi v1407 v1408
  v1409.toNat
def k0_off27 (d0 : Dev nD) : Fin 3 → Nat :=
  let c4_i32_1110 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1418 : BitVec 32 := Scalar.muli c4_i32_1110 v12
  let c2_i32_1111 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1419 : BitVec 32 := Scalar.muli c2_i32_1111 v13
  let v1420 : BitVec 32 := Scalar.addi v1418 v1419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1421 : BitVec 32 := Scalar.addi v1420 v8
  let c0_i32_1120 : BitVec 32 := 0#32
  let c0_i32_1121 : BitVec 32 := 0#32
  ![v1421.toNat, 0, 0]
def k0_dev61 (d0 : Dev nD) : Nat :=
  let c0_i32_1129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1128 : BitVec 32 := 4#32
  let v1434 : BitVec 32 := Scalar.muli v2 c4_i32_1128
  let v1435 : BitVec 32 := Scalar.addi c0_i32_1129 v1434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1130 : BitVec 32 := 2#32
  let v1436 : BitVec 32 := Scalar.muli v5 c2_i32_1130
  let v1437 : BitVec 32 := Scalar.addi v1435 v1436
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1131 : BitVec 32 := 1#32
  let v1438 : BitVec 32 := Scalar.muli v9 c1_i32_1131
  let v1439 : BitVec 32 := Scalar.addi v1437 v1438
  v1439.toNat
def k0_off28 (d0 : Dev nD) : Fin 3 → Nat :=
  let c4_i32_1142 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1460 : BitVec 32 := Scalar.muli c4_i32_1142 v10
  let c2_i32_1143 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1461 : BitVec 32 := Scalar.muli c2_i32_1143 v5
  let v1462 : BitVec 32 := Scalar.addi v1460 v1461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1463 : BitVec 32 := Scalar.addi v1462 v8
  let c0_i32_1152 : BitVec 32 := 0#32
  let c0_i32_1153 : BitVec 32 := 0#32
  ![v1463.toNat, 0, 0]
def k0_dev62 (d0 : Dev nD) : Nat :=
  let c0_i32_1161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1160 : BitVec 32 := 4#32
  let v1476 : BitVec 32 := Scalar.muli v2 c4_i32_1160
  let v1477 : BitVec 32 := Scalar.addi c0_i32_1161 v1476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1162 : BitVec 32 := 2#32
  let v1478 : BitVec 32 := Scalar.muli v5 c2_i32_1162
  let v1479 : BitVec 32 := Scalar.addi v1477 v1478
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1163 : BitVec 32 := 1#32
  let v1480 : BitVec 32 := Scalar.muli v9 c1_i32_1163
  let v1481 : BitVec 32 := Scalar.addi v1479 v1480
  v1481.toNat
def k0_off29 (d0 : Dev nD) : Fin 3 → Nat :=
  let c4_i32_1168 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1490 : BitVec 32 := Scalar.muli c4_i32_1168 v2
  let c2_i32_1169 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1491 : BitVec 32 := Scalar.muli c2_i32_1169 v11
  let v1492 : BitVec 32 := Scalar.addi v1490 v1491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1493 : BitVec 32 := Scalar.addi v1492 v8
  let c0_i32_1178 : BitVec 32 := 0#32
  let c0_i32_1179 : BitVec 32 := 0#32
  ![v1493.toNat, 0, 0]
def k0_dev63 (d0 : Dev nD) : Nat :=
  let c0_i32_1187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1186 : BitVec 32 := 4#32
  let v1506 : BitVec 32 := Scalar.muli v2 c4_i32_1186
  let v1507 : BitVec 32 := Scalar.addi c0_i32_1187 v1506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1188 : BitVec 32 := 2#32
  let v1508 : BitVec 32 := Scalar.muli v5 c2_i32_1188
  let v1509 : BitVec 32 := Scalar.addi v1507 v1508
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1189 : BitVec 32 := 1#32
  let v1510 : BitVec 32 := Scalar.muli v9 c1_i32_1189
  let v1511 : BitVec 32 := Scalar.addi v1509 v1510
  v1511.toNat
def k0_off30 (d0 : Dev nD) : Fin 3 → Nat :=
  let c4_i32_1194 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1520 : BitVec 32 := Scalar.muli c4_i32_1194 v12
  let c2_i32_1195 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1521 : BitVec 32 := Scalar.muli c2_i32_1195 v13
  let v1522 : BitVec 32 := Scalar.addi v1520 v1521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1523 : BitVec 32 := Scalar.addi v1522 v8
  let c0_i32_1204 : BitVec 32 := 0#32
  let c0_i32_1205 : BitVec 32 := 0#32
  ![v1523.toNat, 0, 0]
def k0_dev64 (d0 : Dev nD) : Nat :=
  let c0_i32_1213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1212 : BitVec 32 := 4#32
  let v1536 : BitVec 32 := Scalar.muli v2 c4_i32_1212
  let v1537 : BitVec 32 := Scalar.addi c0_i32_1213 v1536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1214 : BitVec 32 := 2#32
  let v1538 : BitVec 32 := Scalar.muli v5 c2_i32_1214
  let v1539 : BitVec 32 := Scalar.addi v1537 v1538
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1215 : BitVec 32 := 1#32
  let v1540 : BitVec 32 := Scalar.muli v9 c1_i32_1215
  let v1541 : BitVec 32 := Scalar.addi v1539 v1540
  v1541.toNat
def k0_off31 (d0 : Dev nD) : Fin 3 → Nat :=
  let c4_i32_1226 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1562 : BitVec 32 := Scalar.muli c4_i32_1226 v10
  let c2_i32_1227 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1563 : BitVec 32 := Scalar.muli c2_i32_1227 v5
  let v1564 : BitVec 32 := Scalar.addi v1562 v1563
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1565 : BitVec 32 := Scalar.addi v1564 v8
  let c0_i32_1236 : BitVec 32 := 0#32
  let c0_i32_1237 : BitVec 32 := 0#32
  ![v1565.toNat, 0, 0]
def k0_dev65 (d0 : Dev nD) : Nat :=
  let c0_i32_1245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1244 : BitVec 32 := 4#32
  let v1578 : BitVec 32 := Scalar.muli v2 c4_i32_1244
  let v1579 : BitVec 32 := Scalar.addi c0_i32_1245 v1578
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1246 : BitVec 32 := 2#32
  let v1580 : BitVec 32 := Scalar.muli v5 c2_i32_1246
  let v1581 : BitVec 32 := Scalar.addi v1579 v1580
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1247 : BitVec 32 := 1#32
  let v1582 : BitVec 32 := Scalar.muli v9 c1_i32_1247
  let v1583 : BitVec 32 := Scalar.addi v1581 v1582
  v1583.toNat
def k0_off32 (d0 : Dev nD) : Fin 3 → Nat :=
  let c4_i32_1252 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1592 : BitVec 32 := Scalar.muli c4_i32_1252 v2
  let c2_i32_1253 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1593 : BitVec 32 := Scalar.muli c2_i32_1253 v11
  let v1594 : BitVec 32 := Scalar.addi v1592 v1593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1595 : BitVec 32 := Scalar.addi v1594 v8
  let c0_i32_1262 : BitVec 32 := 0#32
  let c0_i32_1263 : BitVec 32 := 0#32
  ![v1595.toNat, 0, 0]
def k0_dev66 (d0 : Dev nD) : Nat :=
  let c0_i32_1271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1270 : BitVec 32 := 4#32
  let v1608 : BitVec 32 := Scalar.muli v2 c4_i32_1270
  let v1609 : BitVec 32 := Scalar.addi c0_i32_1271 v1608
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1272 : BitVec 32 := 2#32
  let v1610 : BitVec 32 := Scalar.muli v5 c2_i32_1272
  let v1611 : BitVec 32 := Scalar.addi v1609 v1610
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1273 : BitVec 32 := 1#32
  let v1612 : BitVec 32 := Scalar.muli v9 c1_i32_1273
  let v1613 : BitVec 32 := Scalar.addi v1611 v1612
  v1613.toNat
def k0_off33 (d0 : Dev nD) : Fin 3 → Nat :=
  let c4_i32_1278 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1622 : BitVec 32 := Scalar.muli c4_i32_1278 v12
  let c2_i32_1279 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1623 : BitVec 32 := Scalar.muli c2_i32_1279 v13
  let v1624 : BitVec 32 := Scalar.addi v1622 v1623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1625 : BitVec 32 := Scalar.addi v1624 v8
  let c0_i32_1288 : BitVec 32 := 0#32
  let c0_i32_1289 : BitVec 32 := 0#32
  ![v1625.toNat, 0, 0]
def k0_dev67 (d0 : Dev nD) : Nat :=
  let c0_i32_1297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1296 : BitVec 32 := 4#32
  let v1638 : BitVec 32 := Scalar.muli v2 c4_i32_1296
  let v1639 : BitVec 32 := Scalar.addi c0_i32_1297 v1638
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1298 : BitVec 32 := 2#32
  let v1640 : BitVec 32 := Scalar.muli v5 c2_i32_1298
  let v1641 : BitVec 32 := Scalar.addi v1639 v1640
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1299 : BitVec 32 := 1#32
  let v1642 : BitVec 32 := Scalar.muli v9 c1_i32_1299
  let v1643 : BitVec 32 := Scalar.addi v1641 v1642
  v1643.toNat
def k0_off34 (d0 : Dev nD) : Fin 3 → Nat :=
  let c4_i32_1310 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1664 : BitVec 32 := Scalar.muli c4_i32_1310 v10
  let c2_i32_1311 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1665 : BitVec 32 := Scalar.muli c2_i32_1311 v5
  let v1666 : BitVec 32 := Scalar.addi v1664 v1665
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1667 : BitVec 32 := Scalar.addi v1666 v8
  let c0_i32_1320 : BitVec 32 := 0#32
  let c0_i32_1321 : BitVec 32 := 0#32
  ![v1667.toNat, 0, 0]
def k0_dev68 (d0 : Dev nD) : Nat :=
  let c0_i32_1329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1328 : BitVec 32 := 4#32
  let v1680 : BitVec 32 := Scalar.muli v2 c4_i32_1328
  let v1681 : BitVec 32 := Scalar.addi c0_i32_1329 v1680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1330 : BitVec 32 := 2#32
  let v1682 : BitVec 32 := Scalar.muli v5 c2_i32_1330
  let v1683 : BitVec 32 := Scalar.addi v1681 v1682
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1331 : BitVec 32 := 1#32
  let v1684 : BitVec 32 := Scalar.muli v9 c1_i32_1331
  let v1685 : BitVec 32 := Scalar.addi v1683 v1684
  v1685.toNat
def k0_off35 (d0 : Dev nD) : Fin 3 → Nat :=
  let c4_i32_1336 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1694 : BitVec 32 := Scalar.muli c4_i32_1336 v2
  let c2_i32_1337 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1695 : BitVec 32 := Scalar.muli c2_i32_1337 v11
  let v1696 : BitVec 32 := Scalar.addi v1694 v1695
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1697 : BitVec 32 := Scalar.addi v1696 v8
  let c0_i32_1346 : BitVec 32 := 0#32
  let c0_i32_1347 : BitVec 32 := 0#32
  ![v1697.toNat, 0, 0]
def k0_dev69 (d0 : Dev nD) : Nat :=
  let c0_i32_1355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1354 : BitVec 32 := 4#32
  let v1710 : BitVec 32 := Scalar.muli v2 c4_i32_1354
  let v1711 : BitVec 32 := Scalar.addi c0_i32_1355 v1710
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1356 : BitVec 32 := 2#32
  let v1712 : BitVec 32 := Scalar.muli v5 c2_i32_1356
  let v1713 : BitVec 32 := Scalar.addi v1711 v1712
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1357 : BitVec 32 := 1#32
  let v1714 : BitVec 32 := Scalar.muli v9 c1_i32_1357
  let v1715 : BitVec 32 := Scalar.addi v1713 v1714
  v1715.toNat
def k0_off36 (d0 : Dev nD) : Fin 3 → Nat :=
  let c4_i32_1362 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1724 : BitVec 32 := Scalar.muli c4_i32_1362 v12
  let c2_i32_1363 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1725 : BitVec 32 := Scalar.muli c2_i32_1363 v13
  let v1726 : BitVec 32 := Scalar.addi v1724 v1725
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1727 : BitVec 32 := Scalar.addi v1726 v8
  let c0_i32_1372 : BitVec 32 := 0#32
  let c0_i32_1373 : BitVec 32 := 0#32
  ![v1727.toNat, 0, 0]
def k0_dev70 (d0 : Dev nD) : Nat :=
  let c0_i32_1381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1380 : BitVec 32 := 4#32
  let v1740 : BitVec 32 := Scalar.muli v2 c4_i32_1380
  let v1741 : BitVec 32 := Scalar.addi c0_i32_1381 v1740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1382 : BitVec 32 := 2#32
  let v1742 : BitVec 32 := Scalar.muli v5 c2_i32_1382
  let v1743 : BitVec 32 := Scalar.addi v1741 v1742
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1383 : BitVec 32 := 1#32
  let v1744 : BitVec 32 := Scalar.muli v9 c1_i32_1383
  let v1745 : BitVec 32 := Scalar.addi v1743 v1744
  v1745.toNat
def k0_off37 (d0 : Dev nD) : Fin 3 → Nat :=
  let c4_i32_1388 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1754 : BitVec 32 := Scalar.muli c4_i32_1388 v2
  let c2_i32_1389 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1755 : BitVec 32 := Scalar.muli c2_i32_1389 v5
  let v1756 : BitVec 32 := Scalar.addi v1754 v1755
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1757 : BitVec 32 := Scalar.addi v1756 v9
  let c0_i32_1398 : BitVec 32 := 0#32
  let c0_i32_1399 : BitVec 32 := 0#32
  ![v1757.toNat, 0, 0]
def k0_off38 (d0 : Dev nD) : Fin 3 → Nat :=
  let c4_i32_1403 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1771 : BitVec 32 := Scalar.muli c4_i32_1403 v10
  let c2_i32_1404 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1772 : BitVec 32 := Scalar.muli c2_i32_1404 v5
  let v1773 : BitVec 32 := Scalar.addi v1771 v1772
  let c1_i32_1402 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1770 : BitVec 32 := Scalar.subi c1_i32_1402 v8
  let v1774 : BitVec 32 := Scalar.addi v1773 v1770
  let c0_i32_1413 : BitVec 32 := 0#32
  let c0_i32_1414 : BitVec 32 := 0#32
  ![v1774.toNat, 0, 0]
def k0_off39 (d0 : Dev nD) : Fin 3 → Nat :=
  let c4_i32_1418 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1788 : BitVec 32 := Scalar.muli c4_i32_1418 v2
  let c2_i32_1419 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1789 : BitVec 32 := Scalar.muli c2_i32_1419 v11
  let v1790 : BitVec 32 := Scalar.addi v1788 v1789
  let c1_i32_1417 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1787 : BitVec 32 := Scalar.subi c1_i32_1417 v8
  let v1791 : BitVec 32 := Scalar.addi v1790 v1787
  let c0_i32_1428 : BitVec 32 := 0#32
  let c0_i32_1429 : BitVec 32 := 0#32
  ![v1791.toNat, 0, 0]
def k0_off40 (d0 : Dev nD) : Fin 3 → Nat :=
  let c4_i32_1433 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1805 : BitVec 32 := Scalar.muli c4_i32_1433 v12
  let c2_i32_1434 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1806 : BitVec 32 := Scalar.muli c2_i32_1434 v13
  let v1807 : BitVec 32 := Scalar.addi v1805 v1806
  let c1_i32_1432 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1804 : BitVec 32 := Scalar.subi c1_i32_1432 v8
  let v1808 : BitVec 32 := Scalar.addi v1807 v1804
  let c0_i32_1443 : BitVec 32 := 0#32
  let c0_i32_1444 : BitVec 32 := 0#32
  ![v1808.toNat, 0, 0]
def k0_off41 (d0 : Dev nD) : Fin 3 → Nat :=
  let c4_i32_1505 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1859 : BitVec 32 := Scalar.muli c4_i32_1505 v2
  let c2_i32_1506 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1860 : BitVec 32 := Scalar.muli c2_i32_1506 v5
  let v1861 : BitVec 32 := Scalar.addi v1859 v1860
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1862 : BitVec 32 := Scalar.addi v1861 v9
  let c0_i32_1515 : BitVec 32 := 0#32
  let c0_i32_1516 : BitVec 32 := 0#32
  ![v1862.toNat, 0, 0]
def k0_off42 (d0 : Dev nD) : Fin 3 → Nat :=
  let c4_i32_1520 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1876 : BitVec 32 := Scalar.muli c4_i32_1520 v10
  let c2_i32_1521 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1877 : BitVec 32 := Scalar.muli c2_i32_1521 v5
  let v1878 : BitVec 32 := Scalar.addi v1876 v1877
  let c1_i32_1519 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1875 : BitVec 32 := Scalar.subi c1_i32_1519 v8
  let v1879 : BitVec 32 := Scalar.addi v1878 v1875
  let c0_i32_1530 : BitVec 32 := 0#32
  let c0_i32_1531 : BitVec 32 := 0#32
  ![v1879.toNat, 0, 0]
def k0_off43 (d0 : Dev nD) : Fin 3 → Nat :=
  let c4_i32_1535 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1893 : BitVec 32 := Scalar.muli c4_i32_1535 v2
  let c2_i32_1536 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1894 : BitVec 32 := Scalar.muli c2_i32_1536 v11
  let v1895 : BitVec 32 := Scalar.addi v1893 v1894
  let c1_i32_1534 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1892 : BitVec 32 := Scalar.subi c1_i32_1534 v8
  let v1896 : BitVec 32 := Scalar.addi v1895 v1892
  let c0_i32_1545 : BitVec 32 := 0#32
  let c0_i32_1546 : BitVec 32 := 0#32
  ![v1896.toNat, 0, 0]
def k0_off44 (d0 : Dev nD) : Fin 3 → Nat :=
  let c4_i32_1550 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1910 : BitVec 32 := Scalar.muli c4_i32_1550 v12
  let c2_i32_1551 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1911 : BitVec 32 := Scalar.muli c2_i32_1551 v13
  let v1912 : BitVec 32 := Scalar.addi v1910 v1911
  let c1_i32_1549 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1909 : BitVec 32 := Scalar.subi c1_i32_1549 v8
  let v1913 : BitVec 32 := Scalar.addi v1912 v1909
  let c0_i32_1560 : BitVec 32 := 0#32
  let c0_i32_1561 : BitVec 32 := 0#32
  ![v1913.toNat, 0, 0]
def k0_off45 (d0 : Dev nD) : Fin 4 → Nat :=
  let c4_i32_1622 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1964 : BitVec 32 := Scalar.muli c4_i32_1622 v2
  let c2_i32_1623 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1965 : BitVec 32 := Scalar.muli c2_i32_1623 v5
  let v1966 : BitVec 32 := Scalar.addi v1964 v1965
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1967 : BitVec 32 := Scalar.addi v1966 v9
  let c0_i32_1632 : BitVec 32 := 0#32
  let c0_i32_1633 : BitVec 32 := 0#32
  let c0_i32_1634 : BitVec 32 := 0#32
  ![v1967.toNat, 0, 0, 0]
def k0_off46 (d0 : Dev nD) : Fin 4 → Nat :=
  let c4_i32_1639 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1981 : BitVec 32 := Scalar.muli c4_i32_1639 v10
  let c2_i32_1640 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1982 : BitVec 32 := Scalar.muli c2_i32_1640 v5
  let v1983 : BitVec 32 := Scalar.addi v1981 v1982
  let c1_i32_1638 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1980 : BitVec 32 := Scalar.subi c1_i32_1638 v8
  let v1984 : BitVec 32 := Scalar.addi v1983 v1980
  let c0_i32_1649 : BitVec 32 := 0#32
  let c0_i32_1650 : BitVec 32 := 0#32
  let c0_i32_1651 : BitVec 32 := 0#32
  ![v1984.toNat, 0, 0, 0]
def k0_off47 (d0 : Dev nD) : Fin 4 → Nat :=
  let c4_i32_1656 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1998 : BitVec 32 := Scalar.muli c4_i32_1656 v2
  let c2_i32_1657 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1999 : BitVec 32 := Scalar.muli c2_i32_1657 v11
  let v2000 : BitVec 32 := Scalar.addi v1998 v1999
  let c1_i32_1655 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1997 : BitVec 32 := Scalar.subi c1_i32_1655 v8
  let v2001 : BitVec 32 := Scalar.addi v2000 v1997
  let c0_i32_1666 : BitVec 32 := 0#32
  let c0_i32_1667 : BitVec 32 := 0#32
  let c0_i32_1668 : BitVec 32 := 0#32
  ![v2001.toNat, 0, 0, 0]
def k0_off48 (d0 : Dev nD) : Fin 4 → Nat :=
  let c4_i32_1673 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2015 : BitVec 32 := Scalar.muli c4_i32_1673 v12
  let c2_i32_1674 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2016 : BitVec 32 := Scalar.muli c2_i32_1674 v13
  let v2017 : BitVec 32 := Scalar.addi v2015 v2016
  let c1_i32_1672 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2014 : BitVec 32 := Scalar.subi c1_i32_1672 v8
  let v2018 : BitVec 32 := Scalar.addi v2017 v2014
  let c0_i32_1683 : BitVec 32 := 0#32
  let c0_i32_1684 : BitVec 32 := 0#32
  let c0_i32_1685 : BitVec 32 := 0#32
  ![v2018.toNat, 0, 0, 0]
def k0_off49 (d0 : Dev nD) : Fin 3 → Nat :=
  let c4_i32_1758 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2069 : BitVec 32 := Scalar.muli c4_i32_1758 v2
  let c2_i32_1759 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2070 : BitVec 32 := Scalar.muli c2_i32_1759 v5
  let v2071 : BitVec 32 := Scalar.addi v2069 v2070
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2072 : BitVec 32 := Scalar.addi v2071 v9
  let c0_i32_1768 : BitVec 32 := 0#32
  let c0_i32_1769 : BitVec 32 := 0#32
  ![v2072.toNat, 0, 0]
def k0_off50 (d0 : Dev nD) : Fin 3 → Nat :=
  let c4_i32_1773 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2086 : BitVec 32 := Scalar.muli c4_i32_1773 v10
  let c2_i32_1774 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2087 : BitVec 32 := Scalar.muli c2_i32_1774 v5
  let v2088 : BitVec 32 := Scalar.addi v2086 v2087
  let c1_i32_1772 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2085 : BitVec 32 := Scalar.subi c1_i32_1772 v8
  let v2089 : BitVec 32 := Scalar.addi v2088 v2085
  let c0_i32_1783 : BitVec 32 := 0#32
  let c0_i32_1784 : BitVec 32 := 0#32
  ![v2089.toNat, 0, 0]
def k0_off51 (d0 : Dev nD) : Fin 3 → Nat :=
  let c4_i32_1788 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2103 : BitVec 32 := Scalar.muli c4_i32_1788 v2
  let c2_i32_1789 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2104 : BitVec 32 := Scalar.muli c2_i32_1789 v11
  let v2105 : BitVec 32 := Scalar.addi v2103 v2104
  let c1_i32_1787 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2102 : BitVec 32 := Scalar.subi c1_i32_1787 v8
  let v2106 : BitVec 32 := Scalar.addi v2105 v2102
  let c0_i32_1798 : BitVec 32 := 0#32
  let c0_i32_1799 : BitVec 32 := 0#32
  ![v2106.toNat, 0, 0]
def k0_off52 (d0 : Dev nD) : Fin 3 → Nat :=
  let c4_i32_1803 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2120 : BitVec 32 := Scalar.muli c4_i32_1803 v12
  let c2_i32_1804 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2121 : BitVec 32 := Scalar.muli c2_i32_1804 v13
  let v2122 : BitVec 32 := Scalar.addi v2120 v2121
  let c1_i32_1802 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2119 : BitVec 32 := Scalar.subi c1_i32_1802 v8
  let v2123 : BitVec 32 := Scalar.addi v2122 v2119
  let c0_i32_1813 : BitVec 32 := 0#32
  let c0_i32_1814 : BitVec 32 := 0#32
  ![v2123.toNat, 0, 0]
def k0_off53 (d0 : Dev nD) : Fin 3 → Nat :=
  let c4_i32_1992 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2279 : BitVec 32 := Scalar.muli c4_i32_1992 v2
  let c2_i32_1993 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2280 : BitVec 32 := Scalar.muli c2_i32_1993 v5
  let v2281 : BitVec 32 := Scalar.addi v2279 v2280
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2282 : BitVec 32 := Scalar.addi v2281 v9
  let c0_i32_2002 : BitVec 32 := 0#32
  let c0_i32_2003 : BitVec 32 := 0#32
  ![v2282.toNat, 0, 0]
def k0_off54 (d0 : Dev nD) : Fin 3 → Nat :=
  let c4_i32_2007 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2296 : BitVec 32 := Scalar.muli c4_i32_2007 v10
  let c2_i32_2008 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2297 : BitVec 32 := Scalar.muli c2_i32_2008 v5
  let v2298 : BitVec 32 := Scalar.addi v2296 v2297
  let c1_i32_2006 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2295 : BitVec 32 := Scalar.subi c1_i32_2006 v8
  let v2299 : BitVec 32 := Scalar.addi v2298 v2295
  let c0_i32_2017 : BitVec 32 := 0#32
  let c0_i32_2018 : BitVec 32 := 0#32
  ![v2299.toNat, 0, 0]
def k0_off55 (d0 : Dev nD) : Fin 3 → Nat :=
  let c4_i32_2022 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2313 : BitVec 32 := Scalar.muli c4_i32_2022 v2
  let c2_i32_2023 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2314 : BitVec 32 := Scalar.muli c2_i32_2023 v11
  let v2315 : BitVec 32 := Scalar.addi v2313 v2314
  let c1_i32_2021 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2312 : BitVec 32 := Scalar.subi c1_i32_2021 v8
  let v2316 : BitVec 32 := Scalar.addi v2315 v2312
  let c0_i32_2032 : BitVec 32 := 0#32
  let c0_i32_2033 : BitVec 32 := 0#32
  ![v2316.toNat, 0, 0]
def k0_off56 (d0 : Dev nD) : Fin 3 → Nat :=
  let c4_i32_2037 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2330 : BitVec 32 := Scalar.muli c4_i32_2037 v12
  let c2_i32_2038 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2331 : BitVec 32 := Scalar.muli c2_i32_2038 v13
  let v2332 : BitVec 32 := Scalar.addi v2330 v2331
  let c1_i32_2036 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2329 : BitVec 32 := Scalar.subi c1_i32_2036 v8
  let v2333 : BitVec 32 := Scalar.addi v2332 v2329
  let c0_i32_2047 : BitVec 32 := 0#32
  let c0_i32_2048 : BitVec 32 := 0#32
  ![v2333.toNat, 0, 0]
def k0_off57 (d0 : Dev nD) : Fin 3 → Nat :=
  let c4_i32_2109 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2384 : BitVec 32 := Scalar.muli c4_i32_2109 v2
  let c2_i32_2110 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2385 : BitVec 32 := Scalar.muli c2_i32_2110 v5
  let v2386 : BitVec 32 := Scalar.addi v2384 v2385
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2387 : BitVec 32 := Scalar.addi v2386 v9
  let c0_i32_2119 : BitVec 32 := 0#32
  let c0_i32_2120 : BitVec 32 := 0#32
  ![v2387.toNat, 0, 0]
def k0_off58 (d0 : Dev nD) : Fin 3 → Nat :=
  let c4_i32_2124 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2401 : BitVec 32 := Scalar.muli c4_i32_2124 v10
  let c2_i32_2125 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2402 : BitVec 32 := Scalar.muli c2_i32_2125 v5
  let v2403 : BitVec 32 := Scalar.addi v2401 v2402
  let c1_i32_2123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2400 : BitVec 32 := Scalar.subi c1_i32_2123 v8
  let v2404 : BitVec 32 := Scalar.addi v2403 v2400
  let c0_i32_2134 : BitVec 32 := 0#32
  let c0_i32_2135 : BitVec 32 := 0#32
  ![v2404.toNat, 0, 0]
def k0_off59 (d0 : Dev nD) : Fin 3 → Nat :=
  let c4_i32_2139 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2418 : BitVec 32 := Scalar.muli c4_i32_2139 v2
  let c2_i32_2140 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2419 : BitVec 32 := Scalar.muli c2_i32_2140 v11
  let v2420 : BitVec 32 := Scalar.addi v2418 v2419
  let c1_i32_2138 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2417 : BitVec 32 := Scalar.subi c1_i32_2138 v8
  let v2421 : BitVec 32 := Scalar.addi v2420 v2417
  let c0_i32_2149 : BitVec 32 := 0#32
  let c0_i32_2150 : BitVec 32 := 0#32
  ![v2421.toNat, 0, 0]
def k0_off60 (d0 : Dev nD) : Fin 3 → Nat :=
  let c4_i32_2154 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2435 : BitVec 32 := Scalar.muli c4_i32_2154 v12
  let c2_i32_2155 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2436 : BitVec 32 := Scalar.muli c2_i32_2155 v13
  let v2437 : BitVec 32 := Scalar.addi v2435 v2436
  let c1_i32_2153 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2434 : BitVec 32 := Scalar.subi c1_i32_2153 v8
  let v2438 : BitVec 32 := Scalar.addi v2437 v2434
  let c0_i32_2164 : BitVec 32 := 0#32
  let c0_i32_2165 : BitVec 32 := 0#32
  ![v2438.toNat, 0, 0]
def k0_off61 (d0 : Dev nD) : Fin 3 → Nat :=
  let c4_i32_2226 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2489 : BitVec 32 := Scalar.muli c4_i32_2226 v2
  let c2_i32_2227 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2490 : BitVec 32 := Scalar.muli c2_i32_2227 v5
  let v2491 : BitVec 32 := Scalar.addi v2489 v2490
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2492 : BitVec 32 := Scalar.addi v2491 v9
  let c0_i32_2236 : BitVec 32 := 0#32
  let c0_i32_2237 : BitVec 32 := 0#32
  ![v2492.toNat, 0, 0]
def k0_off62 (d0 : Dev nD) : Fin 3 → Nat :=
  let c4_i32_2241 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2506 : BitVec 32 := Scalar.muli c4_i32_2241 v10
  let c2_i32_2242 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2507 : BitVec 32 := Scalar.muli c2_i32_2242 v5
  let v2508 : BitVec 32 := Scalar.addi v2506 v2507
  let c1_i32_2240 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2505 : BitVec 32 := Scalar.subi c1_i32_2240 v8
  let v2509 : BitVec 32 := Scalar.addi v2508 v2505
  let c0_i32_2251 : BitVec 32 := 0#32
  let c0_i32_2252 : BitVec 32 := 0#32
  ![v2509.toNat, 0, 0]
def k0_off63 (d0 : Dev nD) : Fin 3 → Nat :=
  let c4_i32_2256 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2523 : BitVec 32 := Scalar.muli c4_i32_2256 v2
  let c2_i32_2257 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2524 : BitVec 32 := Scalar.muli c2_i32_2257 v11
  let v2525 : BitVec 32 := Scalar.addi v2523 v2524
  let c1_i32_2255 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2522 : BitVec 32 := Scalar.subi c1_i32_2255 v8
  let v2526 : BitVec 32 := Scalar.addi v2525 v2522
  let c0_i32_2266 : BitVec 32 := 0#32
  let c0_i32_2267 : BitVec 32 := 0#32
  ![v2526.toNat, 0, 0]
def k0_off64 (d0 : Dev nD) : Fin 3 → Nat :=
  let c4_i32_2271 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2540 : BitVec 32 := Scalar.muli c4_i32_2271 v12
  let c2_i32_2272 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2541 : BitVec 32 := Scalar.muli c2_i32_2272 v13
  let v2542 : BitVec 32 := Scalar.addi v2540 v2541
  let c1_i32_2270 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2539 : BitVec 32 := Scalar.subi c1_i32_2270 v8
  let v2543 : BitVec 32 := Scalar.addi v2542 v2539
  let c0_i32_2281 : BitVec 32 := 0#32
  let c0_i32_2282 : BitVec 32 := 0#32
  ![v2543.toNat, 0, 0]
def k0_off65 (d0 : Dev nD) : Fin 3 → Nat :=
  let c4_i32_2343 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2594 : BitVec 32 := Scalar.muli c4_i32_2343 v2
  let c2_i32_2344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2595 : BitVec 32 := Scalar.muli c2_i32_2344 v5
  let v2596 : BitVec 32 := Scalar.addi v2594 v2595
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2597 : BitVec 32 := Scalar.addi v2596 v9
  let c0_i32_2353 : BitVec 32 := 0#32
  let c0_i32_2354 : BitVec 32 := 0#32
  ![v2597.toNat, 0, 0]
def k0_off66 (d0 : Dev nD) : Fin 3 → Nat :=
  let c4_i32_2358 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2611 : BitVec 32 := Scalar.muli c4_i32_2358 v10
  let c2_i32_2359 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2612 : BitVec 32 := Scalar.muli c2_i32_2359 v5
  let v2613 : BitVec 32 := Scalar.addi v2611 v2612
  let c1_i32_2357 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2610 : BitVec 32 := Scalar.subi c1_i32_2357 v8
  let v2614 : BitVec 32 := Scalar.addi v2613 v2610
  let c0_i32_2368 : BitVec 32 := 0#32
  let c0_i32_2369 : BitVec 32 := 0#32
  ![v2614.toNat, 0, 0]
def k0_off67 (d0 : Dev nD) : Fin 3 → Nat :=
  let c4_i32_2373 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2628 : BitVec 32 := Scalar.muli c4_i32_2373 v2
  let c2_i32_2374 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2629 : BitVec 32 := Scalar.muli c2_i32_2374 v11
  let v2630 : BitVec 32 := Scalar.addi v2628 v2629
  let c1_i32_2372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2627 : BitVec 32 := Scalar.subi c1_i32_2372 v8
  let v2631 : BitVec 32 := Scalar.addi v2630 v2627
  let c0_i32_2383 : BitVec 32 := 0#32
  let c0_i32_2384 : BitVec 32 := 0#32
  ![v2631.toNat, 0, 0]
def k0_off68 (d0 : Dev nD) : Fin 3 → Nat :=
  let c4_i32_2388 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2645 : BitVec 32 := Scalar.muli c4_i32_2388 v12
  let c2_i32_2389 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2646 : BitVec 32 := Scalar.muli c2_i32_2389 v13
  let v2647 : BitVec 32 := Scalar.addi v2645 v2646
  let c1_i32_2387 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2644 : BitVec 32 := Scalar.subi c1_i32_2387 v8
  let v2648 : BitVec 32 := Scalar.addi v2647 v2644
  let c0_i32_2398 : BitVec 32 := 0#32
  let c0_i32_2399 : BitVec 32 := 0#32
  ![v2648.toNat, 0, 0]
def k0_off69 (d0 : Dev nD) : Fin 3 → Nat :=
  let c4_i32_2460 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2699 : BitVec 32 := Scalar.muli c4_i32_2460 v2
  let c2_i32_2461 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2700 : BitVec 32 := Scalar.muli c2_i32_2461 v5
  let v2701 : BitVec 32 := Scalar.addi v2699 v2700
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v2702 : BitVec 32 := Scalar.addi v2701 v9
  let c0_i32_2470 : BitVec 32 := 0#32
  let c0_i32_2471 : BitVec 32 := 0#32
  ![v2702.toNat, 0, 0]
def k0_off70 (d0 : Dev nD) : Fin 3 → Nat :=
  let c4_i32_2475 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2716 : BitVec 32 := Scalar.muli c4_i32_2475 v10
  let c2_i32_2476 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2717 : BitVec 32 := Scalar.muli c2_i32_2476 v5
  let v2718 : BitVec 32 := Scalar.addi v2716 v2717
  let c1_i32_2474 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2715 : BitVec 32 := Scalar.subi c1_i32_2474 v8
  let v2719 : BitVec 32 := Scalar.addi v2718 v2715
  let c0_i32_2485 : BitVec 32 := 0#32
  let c0_i32_2486 : BitVec 32 := 0#32
  ![v2719.toNat, 0, 0]
def k0_off71 (d0 : Dev nD) : Fin 3 → Nat :=
  let c4_i32_2490 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2733 : BitVec 32 := Scalar.muli c4_i32_2490 v2
  let c2_i32_2491 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2734 : BitVec 32 := Scalar.muli c2_i32_2491 v11
  let v2735 : BitVec 32 := Scalar.addi v2733 v2734
  let c1_i32_2489 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2732 : BitVec 32 := Scalar.subi c1_i32_2489 v8
  let v2736 : BitVec 32 := Scalar.addi v2735 v2732
  let c0_i32_2500 : BitVec 32 := 0#32
  let c0_i32_2501 : BitVec 32 := 0#32
  ![v2736.toNat, 0, 0]
def k0_off72 (d0 : Dev nD) : Fin 3 → Nat :=
  let c4_i32_2505 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2750 : BitVec 32 := Scalar.muli c4_i32_2505 v12
  let c2_i32_2506 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2751 : BitVec 32 := Scalar.muli c2_i32_2506 v13
  let v2752 : BitVec 32 := Scalar.addi v2750 v2751
  let c1_i32_2504 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2749 : BitVec 32 := Scalar.subi c1_i32_2504 v8
  let v2753 : BitVec 32 := Scalar.addi v2752 v2749
  let c0_i32_2515 : BitVec 32 := 0#32
  let c0_i32_2516 : BitVec 32 := 0#32
  ![v2753.toNat, 0, 0]
-- ==== WeightsRef.lean ====
abbrev S4096x12288 : Shape := ⟨2, ![4096, 12288]⟩
abbrev S2048x2048 : Shape := ⟨2, ![2048, 2048]⟩
abbrev S4x512x512 : Shape := ⟨3, ![4, 512, 512]⟩
abbrev S2048x4096 : Shape := ⟨2, ![2048, 4096]⟩
abbrev S4096x4096 : Shape := ⟨2, ![4096, 4096]⟩
abbrev S4096x22016 : Shape := ⟨2, ![4096, 22016]⟩
abbrev S11008x4096 : Shape := ⟨2, ![11008, 4096]⟩
abbrev S4x512 : Shape := ⟨2, ![4, 512]⟩
abbrev S3x22016 : Shape := ⟨2, ![3, 22016]⟩
abbrev S4096x8x1536 : Shape := ⟨3, ![4096, 8, 1536]⟩
abbrev S8x4096x1536 : Shape := ⟨3, ![8, 4096, 1536]⟩
abbrev S8x256x2048 : Shape := ⟨3, ![8, 256, 2048]⟩
abbrev S4x8x64x512 : Shape := ⟨4, ![4, 8, 64, 512]⟩
abbrev S8x4x64x512 : Shape := ⟨4, ![8, 4, 64, 512]⟩
abbrev S2048x8x512 : Shape := ⟨3, ![2048, 8, 512]⟩
abbrev S8x2048x512 : Shape := ⟨3, ![8, 2048, 512]⟩
abbrev S8x512x4096 : Shape := ⟨3, ![8, 512, 4096]⟩
abbrev S4096x8x2752 : Shape := ⟨3, ![4096, 8, 2752]⟩
abbrev S8x4096x2752 : Shape := ⟨3, ![8, 4096, 2752]⟩
abbrev S8x1376x4096 : Shape := ⟨3, ![8, 1376, 4096]⟩
abbrev S4x8x64 : Shape := ⟨3, ![4, 8, 64]⟩
abbrev S8x4x64 : Shape := ⟨3, ![8, 4, 64]⟩
abbrev S3x8x2752 : Shape := ⟨3, ![3, 8, 2752]⟩
abbrev S8x3x2752 : Shape := ⟨3, ![8, 3, 2752]⟩

abbrev nBuf : Space → Nat
  | .hbm => 27
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S2048x2048, .bf16⟩
  | .hbm, ⟨2, _⟩ => ⟨S4x512x512, .bf16⟩
  | .hbm, ⟨3, _⟩ => ⟨S2048x4096, .bf16⟩
  | .hbm, ⟨4, _⟩ => ⟨S2048x4096, .bf16⟩
  | .hbm, ⟨5, _⟩ => ⟨S4096x4096, .bf16⟩
  | .hbm, ⟨6, _⟩ => ⟨S4096x22016, .bf16⟩
  | .hbm, ⟨7, _⟩ => ⟨S11008x4096, .bf16⟩
  | .hbm, ⟨8, _⟩ => ⟨S4x512, .f32⟩
  | .hbm, ⟨9, _⟩ => ⟨S3x22016, .f32⟩
  | .hbm, ⟨10, _⟩ => ⟨S4096x8x1536, .bf16⟩
  | .hbm, ⟨11, _⟩ => ⟨S8x4096x1536, .bf16⟩
  | .hbm, ⟨12, _⟩ => ⟨S8x256x2048, .bf16⟩
  | .hbm, ⟨13, _⟩ => ⟨S4x8x64x512, .bf16⟩
  | .hbm, ⟨14, _⟩ => ⟨S8x4x64x512, .bf16⟩
  | .hbm, ⟨15, _⟩ => ⟨S2048x8x512, .bf16⟩
  | .hbm, ⟨16, _⟩ => ⟨S8x2048x512, .bf16⟩
  | .hbm, ⟨17, _⟩ => ⟨S2048x8x512, .bf16⟩
  | .hbm, ⟨18, _⟩ => ⟨S8x2048x512, .bf16⟩
  | .hbm, ⟨19, _⟩ => ⟨S8x512x4096, .bf16⟩
  | .hbm, ⟨20, _⟩ => ⟨S4096x8x2752, .bf16⟩
  | .hbm, ⟨21, _⟩ => ⟨S8x4096x2752, .bf16⟩
  | .hbm, ⟨22, _⟩ => ⟨S8x1376x4096, .bf16⟩
  | .hbm, ⟨23, _⟩ => ⟨S4x8x64, .f32⟩
  | .hbm, ⟨24, _⟩ => ⟨S8x4x64, .f32⟩
  | .hbm, ⟨25, _⟩ => ⟨S3x8x2752, .f32⟩
  | .hbm, ⟨26, _⟩ => ⟨S8x3x2752, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== AdamIn.lean ====
abbrev S4096x1536 : Shape := ⟨2, ![4096, 1536]⟩
abbrev S8x4096x1536 : Shape := ⟨3, ![8, 4096, 1536]⟩
abbrev S128x1536 : Shape := ⟨2, ![128, 1536]⟩
abbrev S8x128x1536 : Shape := ⟨3, ![8, 128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S8x4096x1536, .bf16⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S8x128x1536, .bf16⟩
  | .local _ .vmem, ⟨7, _⟩ => ⟨S8x128x1536, .bf16⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4096x1536 : Shape := ⟨2, ![4096, 1536]⟩
abbrev S8x4096x1536 : Shape := ⟨3, ![8, 4096, 1536]⟩
abbrev S128x1536 : Shape := ⟨2, ![128, 1536]⟩
abbrev S8x128x1536 : Shape := ⟨3, ![8, 128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S8x4096x1536, .bf16⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S8x128x1536, .bf16⟩
  | .local _ .vmem, ⟨7, _⟩ => ⟨S8x128x1536, .bf16⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4096x1536 : Shape := ⟨2, ![4096, 1536]⟩
abbrev S8x4096x1536 : Shape := ⟨3, ![8, 4096, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S8x4096x1536, .bf16⟩
  | .hbm, ⟨4, _⟩ => ⟨S8x4096x1536, .f32⟩
  | .hbm, ⟨5, _⟩ => ⟨S_, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S_, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S_, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S_, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S_, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGluIdeal.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGluRefIdeal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPool.lean ====
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S8x256x512, .bf16⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolIdeal.lean ====
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S8x256x512, .bf16⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S256x512 : Shape := ⟨2, ![256, 512]⟩
abbrev S8x256x512 : Shape := ⟨3, ![8, 256, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S8x256x512, .bf16⟩
  | .hbm, ⟨4, _⟩ => ⟨S8x256x512, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBs.lean ====
abbrev S2048x512 : Shape := ⟨2, ![2048, 512]⟩
abbrev S8x2048x512 : Shape := ⟨3, ![8, 2048, 512]⟩
abbrev S512x512 : Shape := ⟨2, ![512, 512]⟩
abbrev S8x512x512 : Shape := ⟨3, ![8, 512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512x512, .bf16⟩
  | .local _ .vmem, ⟨7, _⟩ => ⟨S8x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBsIdeal.lean ====
abbrev S2048x512 : Shape := ⟨2, ![2048, 512]⟩
abbrev S8x2048x512 : Shape := ⟨3, ![8, 2048, 512]⟩
abbrev S512x512 : Shape := ⟨2, ![512, 512]⟩
abbrev S8x512x512 : Shape := ⟨3, ![8, 512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512x512, .bf16⟩
  | .local _ .vmem, ⟨7, _⟩ => ⟨S8x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBsRefIdeal.lean ====
abbrev S2048x512 : Shape := ⟨2, ![2048, 512]⟩
abbrev S8x2048x512 : Shape := ⟨3, ![8, 2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBp.lean ====
abbrev S2048x512 : Shape := ⟨2, ![2048, 512]⟩
abbrev S8x2048x512 : Shape := ⟨3, ![8, 2048, 512]⟩
abbrev S512x512 : Shape := ⟨2, ![512, 512]⟩
abbrev S8x512x512 : Shape := ⟨3, ![8, 512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512x512, .bf16⟩
  | .local _ .vmem, ⟨7, _⟩ => ⟨S8x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBpIdeal.lean ====
abbrev S2048x512 : Shape := ⟨2, ![2048, 512]⟩
abbrev S8x2048x512 : Shape := ⟨3, ![8, 2048, 512]⟩
abbrev S512x512 : Shape := ⟨2, ![512, 512]⟩
abbrev S8x512x512 : Shape := ⟨3, ![8, 512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512x512, .bf16⟩
  | .local _ .vmem, ⟨7, _⟩ => ⟨S8x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBpRefIdeal.lean ====
abbrev S2048x512 : Shape := ⟨2, ![2048, 512]⟩
abbrev S8x2048x512 : Shape := ⟨3, ![8, 2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S512x4096 : Shape := ⟨2, ![512, 4096]⟩
abbrev S8x512x4096 : Shape := ⟨3, ![8, 512, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x64x4096, .bf16⟩
  | .local _ .vmem, ⟨7, _⟩ => ⟨S8x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x4096 : Shape := ⟨2, ![512, 4096]⟩
abbrev S8x512x4096 : Shape := ⟨3, ![8, 512, 4096]⟩
abbrev S64x4096 : Shape := ⟨2, ![64, 4096]⟩
abbrev S8x64x4096 : Shape := ⟨3, ![8, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S8x64x4096, .bf16⟩
  | .local _ .vmem, ⟨7, _⟩ => ⟨S8x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x4096 : Shape := ⟨2, ![512, 4096]⟩
abbrev S8x512x4096 : Shape := ⟨3, ![8, 512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S8x512x4096, .bf16⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4096x2752 : Shape := ⟨2, ![4096, 2752]⟩
abbrev S8x4096x2752 : Shape := ⟨3, ![8, 4096, 2752]⟩
abbrev S64x2752 : Shape := ⟨2, ![64, 2752]⟩
abbrev S8x64x2752 : Shape := ⟨3, ![8, 64, 2752]⟩
abbrev S1x64x2752 : Shape := ⟨3, ![1, 64, 2752]⟩

abbrev nBuf : Space → Nat
  | .hbm => 8
  | .vmem => 16
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S8x4096x2752, .bf16⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S4096x2752, .f32⟩
  | .local _ .vmem, ⟨0, _⟩ => ⟨S64x2752, .f32⟩
  | .local _ .vmem, ⟨1, _⟩ => ⟨S64x2752, .f32⟩
  | .local _ .vmem, ⟨2, _⟩ => ⟨S64x2752, .f32⟩
  | .local _ .vmem, ⟨3, _⟩ => ⟨S64x2752, .f32⟩
  | .local _ .vmem, ⟨4, _⟩ => ⟨S64x2752, .f32⟩
  | .local _ .vmem, ⟨5, _⟩ => ⟨S64x2752, .f32⟩
  | .local _ .vmem, ⟨6, _⟩ => ⟨S8x64x2752, .bf16⟩
  | .local _ .vmem, ⟨7, _⟩ => ⟨S8x64x2752, .bf16⟩
  | .local _ .vmem, ⟨8, _⟩ => ⟨S64x2752, .f32⟩
  | .local _ .vmem, ⟨9, _⟩ => ⟨S64x2752, .f32⟩
  | .local _ .vmem, ⟨10, _⟩ => ⟨S64x2752, .f32⟩
  | .local _ .vmem, ⟨11, _⟩ => ⟨S64x2752, .f32⟩
  | .local _ .vmem, ⟨12, _⟩ => ⟨S64x2752, .f32⟩
  | .local _ .vmem, ⟨13, _⟩ => ⟨S64x2752, .f32⟩
  | .local _ .vmem, ⟨14, _⟩ => ⟨S64x2752, .f32⟩
  | .local _ .vmem, ⟨15, _⟩ => ⟨S64x2752, .f32⟩
  | _, _ => ⟨S4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2752 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S4096x2752 : Shape := ⟨2, ![4096, 2752]⟩
abbrev S8x4096x2752 : Shape := ⟨3, ![8, 4096, 2752]⟩
abbrev S64x2752 : Shape := ⟨2, ![64, 2752]⟩
abbrev S8x64x2752 : Shape := ⟨3, ![8, 64, 2752]⟩
abbrev S1x64x2752 : Shape := ⟨3, ![1, 64, 2752]⟩

abbrev nBuf : Space → Nat
  | .hbm => 8
  | .vmem => 16
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S8x4096x2752, .bf16⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S4096x2752, .f32⟩
  | .local _ .vmem, ⟨0, _⟩ => ⟨S64x2752, .f32⟩
  | .local _ .vmem, ⟨1, _⟩ => ⟨S64x2752, .f32⟩
  | .local _ .vmem, ⟨2, _⟩ => ⟨S64x2752, .f32⟩
  | .local _ .vmem, ⟨3, _⟩ => ⟨S64x2752, .f32⟩
  | .local _ .vmem, ⟨4, _⟩ => ⟨S64x2752, .f32⟩
  | .local _ .vmem, ⟨5, _⟩ => ⟨S64x2752, .f32⟩
  | .local _ .vmem, ⟨6, _⟩ => ⟨S8x64x2752, .bf16⟩
  | .local _ .vmem, ⟨7, _⟩ => ⟨S8x64x2752, .bf16⟩
  | .local _ .vmem, ⟨8, _⟩ => ⟨S64x2752, .f32⟩
  | .local _ .vmem, ⟨9, _⟩ => ⟨S64x2752, .f32⟩
  | .local _ .vmem, ⟨10, _⟩ => ⟨S64x2752, .f32⟩
  | .local _ .vmem, ⟨11, _⟩ => ⟨S64x2752, .f32⟩
  | .local _ .vmem, ⟨12, _⟩ => ⟨S64x2752, .f32⟩
  | .local _ .vmem, ⟨13, _⟩ => ⟨S64x2752, .f32⟩
  | .local _ .vmem, ⟨14, _⟩ => ⟨S64x2752, .f32⟩
  | .local _ .vmem, ⟨15, _⟩ => ⟨S64x2752, .f32⟩
  | _, _ => ⟨S4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2752 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4096x2752 : Shape := ⟨2, ![4096, 2752]⟩
abbrev S8x4096x2752 : Shape := ⟨3, ![8, 4096, 2752]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S8x4096x2752, .bf16⟩
  | .hbm, ⟨4, _⟩ => ⟨S8x4096x2752, .f32⟩
  | .hbm, ⟨5, _⟩ => ⟨S_, .f32⟩
  | .hbm, ⟨6, _⟩ => ⟨S4096x2752, .f32⟩
  | .hbm, ⟨7, _⟩ => ⟨S_, .f32⟩
  | .hbm, ⟨8, _⟩ => ⟨S4096x2752, .f32⟩
  | .hbm, ⟨9, _⟩ => ⟨S4096x2752, .f32⟩
  | .hbm, ⟨10, _⟩ => ⟨S_, .f32⟩
  | .hbm, ⟨11, _⟩ => ⟨S4096x2752, .f32⟩
  | .hbm, ⟨12, _⟩ => ⟨S4096x2752, .f32⟩
  | .hbm, ⟨13, _⟩ => ⟨S4096x2752, .f32⟩
  | .hbm, ⟨14, _⟩ => ⟨S_, .f32⟩
  | .hbm, ⟨15, _⟩ => ⟨S4096x2752, .f32⟩
  | .hbm, ⟨16, _⟩ => ⟨S4096x2752, .f32⟩
  | .hbm, ⟨17, _⟩ => ⟨S4096x2752, .f32⟩
  | .hbm, ⟨18, _⟩ => ⟨S_, .f32⟩
  | .hbm, ⟨19, _⟩ => ⟨S4096x2752, .f32⟩
  | .hbm, ⟨20, _⟩ => ⟨S4096x2752, .f32⟩
  | .hbm, ⟨21, _⟩ => ⟨S4096x2752, .f32⟩
  | .hbm, ⟨22, _⟩ => ⟨S_, .f32⟩
  | .hbm, ⟨23, _⟩ => ⟨S4096x2752, .f32⟩
  | .hbm, ⟨24, _⟩ => ⟨S4096x2752, .f32⟩
  | .hbm, ⟨25, _⟩ => ⟨S_, .f32⟩
  | .hbm, ⟨26, _⟩ => ⟨S4096x2752, .f32⟩
  | .hbm, ⟨27, _⟩ => ⟨S4096x2752, .f32⟩
  | .hbm, ⟨28, _⟩ => ⟨S4096x2752, .f32⟩
  | .hbm, ⟨29, _⟩ => ⟨S_, .f32⟩
  | .hbm, ⟨30, _⟩ => ⟨S4096x2752, .f32⟩
  | .hbm, ⟨31, _⟩ => ⟨S4096x2752, .f32⟩
  | .hbm, ⟨32, _⟩ => ⟨S4096x2752, .f32⟩
  | .hbm, ⟨33, _⟩ => ⟨S_, .f32⟩
  | .hbm, ⟨34, _⟩ => ⟨S4096x2752, .f32⟩
  | .hbm, ⟨35, _⟩ => ⟨S4096x2752, .f32⟩
  | .hbm, ⟨36, _⟩ => ⟨S4096x2752, .f32⟩
  | .hbm, ⟨37, _⟩ => ⟨S_, .f32⟩
  | .hbm, ⟨38, _⟩ => ⟨S4096x2752, .f32⟩
  | .hbm, ⟨39, _⟩ => ⟨S4096x2752, .f32⟩
  | _, _ => ⟨S4096x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S1376x4096 : Shape := ⟨2, ![1376, 4096]⟩
abbrev S8x1376x4096 : Shape := ⟨3, ![8, 1376, 4096]⟩
abbrev S32x4096 : Shape := ⟨2, ![32, 4096]⟩
abbrev S8x32x4096 : Shape := ⟨3, ![8, 32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1376x4096, .f32⟩
  | .hbm, ⟨1, _⟩ => ⟨S1376x4096, .f32⟩
  | .hbm, ⟨2, _⟩ => ⟨S1376x4096, .f32⟩
  | .hbm, ⟨3, _⟩ => ⟨S8x1376x4096, .bf16⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S8x32x4096, .bf16⟩
  | .local _ .vmem, ⟨7, _⟩ => ⟨S8x32x4096, .bf16⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S1376x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1376x4096 : Shape := ⟨2, ![1376, 4096]⟩
abbrev S8x1376x4096 : Shape := ⟨3, ![8, 1376, 4096]⟩
abbrev S32x4096 : Shape := ⟨2, ![32, 4096]⟩
abbrev S8x32x4096 : Shape := ⟨3, ![8, 32, 4096]⟩
abbrev S1x32x4096 : Shape := ⟨3, ![1, 32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1376x4096, .f32⟩
  | .hbm, ⟨1, _⟩ => ⟨S1376x4096, .f32⟩
  | .hbm, ⟨2, _⟩ => ⟨S1376x4096, .f32⟩
  | .hbm, ⟨3, _⟩ => ⟨S8x1376x4096, .bf16⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S8x32x4096, .bf16⟩
  | .local _ .vmem, ⟨7, _⟩ => ⟨S8x32x4096, .bf16⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | _, _ => ⟨S1376x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1376x4096 : Shape := ⟨2, ![1376, 4096]⟩
abbrev S8x1376x4096 : Shape := ⟨3, ![8, 1376, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1376x4096, .f32⟩
  | .hbm, ⟨1, _⟩ => ⟨S1376x4096, .f32⟩
  | .hbm, ⟨2, _⟩ => ⟨S1376x4096, .f32⟩
  | .hbm, ⟨3, _⟩ => ⟨S8x1376x4096, .bf16⟩
  | .hbm, ⟨4, _⟩ => ⟨S8x1376x4096, .f32⟩
  | .hbm, ⟨5, _⟩ => ⟨S_, .f32⟩
  | .hbm, ⟨6, _⟩ => ⟨S1376x4096, .f32⟩
  | .hbm, ⟨7, _⟩ => ⟨S_, .f32⟩
  | .hbm, ⟨8, _⟩ => ⟨S1376x4096, .f32⟩
  | .hbm, ⟨9, _⟩ => ⟨S1376x4096, .f32⟩
  | .hbm, ⟨10, _⟩ => ⟨S_, .f32⟩
  | .hbm, ⟨11, _⟩ => ⟨S1376x4096, .f32⟩
  | .hbm, ⟨12, _⟩ => ⟨S1376x4096, .f32⟩
  | .hbm, ⟨13, _⟩ => ⟨S1376x4096, .f32⟩
  | .hbm, ⟨14, _⟩ => ⟨S_, .f32⟩
  | .hbm, ⟨15, _⟩ => ⟨S1376x4096, .f32⟩
  | .hbm, ⟨16, _⟩ => ⟨S1376x4096, .f32⟩
  | .hbm, ⟨17, _⟩ => ⟨S1376x4096, .f32⟩
  | .hbm, ⟨18, _⟩ => ⟨S_, .f32⟩
  | .hbm, ⟨19, _⟩ => ⟨S1376x4096, .f32⟩
  | .hbm, ⟨20, _⟩ => ⟨S1376x4096, .f32⟩
  | .hbm, ⟨21, _⟩ => ⟨S1376x4096, .f32⟩
  | .hbm, ⟨22, _⟩ => ⟨S_, .f32⟩
  | .hbm, ⟨23, _⟩ => ⟨S1376x4096, .f32⟩
  | .hbm, ⟨24, _⟩ => ⟨S1376x4096, .f32⟩
  | .hbm, ⟨25, _⟩ => ⟨S_, .f32⟩
  | .hbm, ⟨26, _⟩ => ⟨S1376x4096, .f32⟩
  | .hbm, ⟨27, _⟩ => ⟨S1376x4096, .f32⟩
  | .hbm, ⟨28, _⟩ => ⟨S1376x4096, .f32⟩
  | .hbm, ⟨29, _⟩ => ⟨S_, .f32⟩
  | .hbm, ⟨30, _⟩ => ⟨S1376x4096, .f32⟩
  | .hbm, ⟨31, _⟩ => ⟨S1376x4096, .f32⟩
  | .hbm, ⟨32, _⟩ => ⟨S1376x4096, .f32⟩
  | .hbm, ⟨33, _⟩ => ⟨S_, .f32⟩
  | .hbm, ⟨34, _⟩ => ⟨S1376x4096, .f32⟩
  | .hbm, ⟨35, _⟩ => ⟨S1376x4096, .f32⟩
  | .hbm, ⟨36, _⟩ => ⟨S1376x4096, .f32⟩
  | .hbm, ⟨37, _⟩ => ⟨S_, .f32⟩
  | .hbm, ⟨38, _⟩ => ⟨S1376x4096, .f32⟩
  | .hbm, ⟨39, _⟩ => ⟨S1376x4096, .f32⟩
  | _, _ => ⟨S1376x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S4664x128 : Shape := ⟨2, ![4664, 128]⟩
abbrev S1x4664x128 : Shape := ⟨3, ![1, 4664, 128]⟩
abbrev S424x128 : Shape := ⟨2, ![424, 128]⟩
abbrev S1x424x128 : Shape := ⟨3, ![1, 424, 128]⟩

abbrev nBuf : Space → Nat
  | .hbm => 8
  | .vmem => 16
  | .smem => 0
  | _ => 0

abbrev bufTy : (tb : Table) → Fin (tcTables nBuf tb) → BufTy
  | .hbm, ⟨0, _⟩ => ⟨S4664x128, .f32⟩
  | .hbm, ⟨1, _⟩ => ⟨S4664x128, .f32⟩
  | .hbm, ⟨2, _⟩ => ⟨S4664x128, .f32⟩
  | .hbm, ⟨3, _⟩ => ⟨S1x4664x128, .f32⟩
  | .hbm, ⟨4, _⟩ => ⟨S4664x128, .f32⟩
  | .hbm, ⟨5, _⟩ => ⟨S4664x128, .f32⟩
  | .hbm, ⟨6, _⟩ => ⟨S4664x128, .f32⟩
  | .hbm, ⟨7, _⟩ => ⟨S4664x128, .f32⟩
  | .local _ .vmem, ⟨0, _⟩ => ⟨S424x128, .f32⟩
  | .local _ .vmem, ⟨1, _⟩ => ⟨S424x128, .f32⟩
  | .local _ .vmem, ⟨2, _⟩ => ⟨S424x128, .f32⟩
  | .local _ .vmem, ⟨3, _⟩ => ⟨S424x128, .f32⟩
  | .local _ .vmem, ⟨4, _⟩ => ⟨S424x128, .f32⟩
  | .local _ .vmem, ⟨5, _⟩ => ⟨S424x128, .f32⟩
  | .local _ .vmem, ⟨6, _⟩ => ⟨S1x424x128, .f32⟩
  | .local _ .vmem, ⟨7, _⟩ => ⟨S1x424x128, .f32⟩
  | .local _ .vmem, ⟨8, _⟩ => ⟨S424x128, .f32⟩
  | .local _ .vmem, ⟨9, _⟩ => ⟨S424x128, .f32⟩
  | .local _ .vmem, ⟨10, _⟩ => ⟨S424x128, .f32⟩
  | .local _ .vmem, ⟨11, _⟩ => ⟨S424x128, .f32⟩
  | .local _ .vmem, ⟨12, _⟩ => ⟨S424x128, .f32⟩
  | .local _ .vmem, ⟨13, _⟩ => ⟨S424x128, .f32⟩
  | .local _ .vmem, ⟨14, _⟩ => ⟨S424x128, .f32⟩
  | .local _ .vmem, ⟨15, _⟩ => ⟨S424x128, .f32⟩
  | _, _ => ⟨S4664x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S424x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S424x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S424x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x424x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S424x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S424x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S424x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S424x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S4664x128 : Shape := ⟨2, ![4664, 128]⟩
abbrev S1x4664x128 : Shape := ⟨3, ![1, 4664, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4664x128, .f32⟩
  | .hbm, ⟨1, _⟩ => ⟨S4664x128, .f32⟩
  | .hbm, ⟨2, _⟩ => ⟨S4664x128, .f32⟩
  | .hbm, ⟨3, _⟩ => ⟨S1x4664x128, .f32⟩
  | .hbm, ⟨4, _⟩ => ⟨S_, .f32⟩
  | .hbm, ⟨5, _⟩ => ⟨S4664x128, .f32⟩
  | .hbm, ⟨6, _⟩ => ⟨S_, .f32⟩
  | .hbm, ⟨7, _⟩ => ⟨S4664x128, .f32⟩
  | .hbm, ⟨8, _⟩ => ⟨S4664x128, .f32⟩
  | .hbm, ⟨9, _⟩ => ⟨S_, .f32⟩
  | .hbm, ⟨10, _⟩ => ⟨S4664x128, .f32⟩
  | .hbm, ⟨11, _⟩ => ⟨S4664x128, .f32⟩
  | .hbm, ⟨12, _⟩ => ⟨S4664x128, .f32⟩
  | .hbm, ⟨13, _⟩ => ⟨S_, .f32⟩
  | .hbm, ⟨14, _⟩ => ⟨S4664x128, .f32⟩
  | .hbm, ⟨15, _⟩ => ⟨S4664x128, .f32⟩
  | .hbm, ⟨16, _⟩ => ⟨S4664x128, .f32⟩
  | .hbm, ⟨17, _⟩ => ⟨S_, .f32⟩
  | .hbm, ⟨18, _⟩ => ⟨S4664x128, .f32⟩
  | .hbm, ⟨19, _⟩ => ⟨S4664x128, .f32⟩
  | .hbm, ⟨20, _⟩ => ⟨S4664x128, .f32⟩
  | .hbm, ⟨21, _⟩ => ⟨S_, .f32⟩
  | .hbm, ⟨22, _⟩ => ⟨S4664x128, .f32⟩
  | .hbm, ⟨23, _⟩ => ⟨S4664x128, .f32⟩
  | .hbm, ⟨24, _⟩ => ⟨S_, .f32⟩
  | .hbm, ⟨25, _⟩ => ⟨S4664x128, .f32⟩
  | .hbm, ⟨26, _⟩ => ⟨S4664x128, .f32⟩
  | .hbm, ⟨27, _⟩ => ⟨S4664x128, .f32⟩
  | .hbm, ⟨28, _⟩ => ⟨S_, .f32⟩
  | .hbm, ⟨29, _⟩ => ⟨S4664x128, .f32⟩
  | .hbm, ⟨30, _⟩ => ⟨S4664x128, .f32⟩
  | .hbm, ⟨31, _⟩ => ⟨S4664x128, .f32⟩
  | .hbm, ⟨32, _⟩ => ⟨S_, .f32⟩
  | .hbm, ⟨33, _⟩ => ⟨S4664x128, .f32⟩
  | .hbm, ⟨34, _⟩ => ⟨S4664x128, .f32⟩
  | .hbm, ⟨35, _⟩ => ⟨S4664x128, .f32⟩
  | .hbm, ⟨36, _⟩ => ⟨S_, .f32⟩
  | .hbm, ⟨37, _⟩ => ⟨S4664x128, .f32⟩
  | .hbm, ⟨38, _⟩ => ⟨S4664x128, .f32⟩
  | _, _ => ⟨S4664x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Totals.lean ====
abbrev S8x5152x128 : Shape := ⟨3, ![8, 5152, 128]⟩
abbrev S5152x128 : Shape := ⟨2, ![5152, 128]⟩
abbrev S1x1 : Shape := ⟨2, ![1, 1]⟩
abbrev S1x5152x128 : Shape := ⟨3, ![1, 5152, 128]⟩
abbrev S32x128 : Shape := ⟨2, ![32, 128]⟩
abbrev S1x32x128 : Shape := ⟨3, ![1, 32, 128]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S8x5152x128, .f32⟩
  | .hbm, ⟨1, _⟩ => ⟨S5152x128, .f32⟩
  | .hbm, ⟨2, _⟩ => ⟨S1x1, .f32⟩
  | .local _ .vmem, ⟨0, _⟩ => ⟨S8x5152x128, .f32⟩
  | .local _ .vmem, ⟨1, _⟩ => ⟨S5152x128, .f32⟩
  | .local _ .vmem, ⟨2, _⟩ => ⟨S1x1, .f32⟩
  | _, _ => ⟨S8x5152x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x5152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TotalsRefIdeal.lean ====
abbrev S8x5152x128 : Shape := ⟨3, ![8, 5152, 128]⟩
abbrev S_ : Shape := ⟨0, ![]⟩
abbrev S5152x128 : Shape := ⟨2, ![5152, 128]⟩
abbrev S32x128 : Shape := ⟨2, ![32, 128]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S8x5152x128, .f32⟩
  | .hbm, ⟨1, _⟩ => ⟨S_, .f32⟩
  | .hbm, ⟨2, _⟩ => ⟨S5152x128, .f32⟩
  | .hbm, ⟨3, _⟩ => ⟨S32x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | _, _ => ⟨S8x5152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Norm.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== PreNorm.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MidNorm.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidNormRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== PostFfn.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | .local _ .vmem, ⟨12, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v39 : BitVec 32 := Scalar.extui v0
  let c0_i32_17 : BitVec 32 := 0#32
  let v40 : BitVec 1 := Scalar.cmpi .ne v39 c0_i32_17
  v40

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v41 : BitVec 1 := Scalar.xori v0 v_true
  let v42 : BitVec 32 := Scalar.extui v41
  let c0_i32_18 : BitVec 32 := 0#32
  let v43 : BitVec 1 := Scalar.cmpi .ne v42 c0_i32_18
  v43

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_20 : BitVec 32 := 0#32
  let v48 : BitVec 1 := Scalar.cmpi .ne v47 c0_i32_20
  v48

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v49 : BitVec 1 := Scalar.xori v0 true_21
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PostFfnRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MidBwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1x4096, .f32⟩
  | .local _ .vmem, ⟨15, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v68 : BitVec 1 := Scalar.xori v0 true_29
  let v69 : BitVec 32 := Scalar.extui v68
  let c0_i32_30 : BitVec 32 := 0#32
  let v70 : BitVec 1 := Scalar.cmpi .ne v69 c0_i32_30
  v70

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v58 : BitVec 32 := Scalar.extui v0
  let c0_i32_25 : BitVec 32 := 0#32
  let v59 : BitVec 1 := Scalar.cmpi .ne v58 c0_i32_25
  v59

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v60 : BitVec 1 := Scalar.xori v0 v_true
  let v61 : BitVec 32 := Scalar.extui v60
  let c0_i32_26 : BitVec 32 := 0#32
  let v62 : BitVec 1 := Scalar.cmpi .ne v61 c0_i32_26
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidBwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .bf16⟩
  | .hbm, ⟨62, _⟩ => ⟨S4096x4096, .f32⟩
  | .hbm, ⟨63, _⟩ => ⟨S_, .f32⟩
  | .hbm, ⟨64, _⟩ => ⟨S4096, .f32⟩
  | .hbm, ⟨65, _⟩ => ⟨S1x4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== InProj.lean ====
abbrev S4096x4096 : Shape := ⟨2, ![4096, 4096]⟩
abbrev S8x4096x1536 : Shape := ⟨3, ![8, 4096, 1536]⟩
abbrev S4096x12288 : Shape := ⟨2, ![4096, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x1536, .bf16⟩
  | .hbm, ⟨2, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 24, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x4096 : Shape := ⟨2, ![4096, 4096]⟩
abbrev S8x4096x1536 : Shape := ⟨3, ![8, 4096, 1536]⟩
abbrev S4096x8x1536 : Shape := ⟨3, ![4096, 8, 1536]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1536, .bf16⟩
  | .hbm, ⟨2, _⟩ => ⟨S4096x8x1536, .bf16⟩
  | .hbm, ⟨3, _⟩ => ⟨S4096x12288, .bf16⟩
  | .hbm, ⟨4, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDx.lean ====
abbrev S4096x12288 : Shape := ⟨2, ![4096, 12288]⟩
abbrev S8x4096x1536 : Shape := ⟨3, ![8, 4096, 1536]⟩
abbrev S4096x4096 : Shape := ⟨2, ![4096, 4096]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S8x4096x1536, .bf16⟩
  | .hbm, ⟨2, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 24], ![false, false, false]⟩

def k0_cond2 (i : grid0.Coords) : BitVec 1 :=
  let arg2 : BitVec 32 := BitVec.ofNat 32 (i 2).val
  let c23_i32 : BitVec 32 := 23#32
  let v12 : BitVec 1 := Scalar.cmpi .eq arg2 c23_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x12288 : Shape := ⟨2, ![4096, 12288]⟩
abbrev S8x4096x1536 : Shape := ⟨3, ![8, 4096, 1536]⟩
abbrev S4096x8x1536 : Shape := ⟨3, ![4096, 8, 1536]⟩
abbrev S12288x4096 : Shape := ⟨2, ![12288, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S8x4096x1536, .bf16⟩
  | .hbm, ⟨2, _⟩ => ⟨S4096x8x1536, .bf16⟩
  | .hbm, ⟨3, _⟩ => ⟨S4096x12288, .bf16⟩
  | .hbm, ⟨4, _⟩ => ⟨S12288x4096, .bf16⟩
  | .hbm, ⟨5, _⟩ => ⟨S4096x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDw.lean ====
abbrev S4096x4096 : Shape := ⟨2, ![4096, 4096]⟩
abbrev S4096x12288 : Shape := ⟨2, ![4096, 12288]⟩
abbrev S8x4096x1536 : Shape := ⟨3, ![8, 4096, 1536]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S8x4096x1536, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x4096 : Shape := ⟨2, ![4096, 4096]⟩
abbrev S4096x12288 : Shape := ⟨2, ![4096, 12288]⟩
abbrev S4096x8x1536 : Shape := ⟨3, ![4096, 8, 1536]⟩
abbrev S8x4096x1536 : Shape := ⟨3, ![8, 4096, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x4096, .bf16⟩
  | .hbm, ⟨3, _⟩ => ⟨S4096x12288, .f32⟩
  | .hbm, ⟨4, _⟩ => ⟨S4096x8x1536, .f32⟩
  | .hbm, ⟨5, _⟩ => ⟨S8x4096x1536, .f32⟩
  | .hbm, ⟨6, _⟩ => ⟨S8x4096x1536, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutDw.lean ====
abbrev S4096x4096 : Shape := ⟨2, ![4096, 4096]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .f32⟩
  | .hbm, ⟨4, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S4096x4096 : Shape := ⟨2, ![4096, 4096]⟩
abbrev S8x4096x2752 : Shape := ⟨3, ![8, 4096, 2752]⟩
abbrev S512x1024 : Shape := ⟨2, ![512, 1024]⟩
abbrev S1x1024x2752 : Shape := ⟨3, ![1, 1024, 2752]⟩
abbrev S1x512x2752 : Shape := ⟨3, ![1, 512, 2752]⟩
abbrev S512x2752 : Shape := ⟨2, ![512, 2752]⟩
abbrev S1024x2752 : Shape := ⟨2, ![1024, 2752]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x2752, .bf16⟩
  | .hbm, ⟨2, _⟩ => ⟨S8x4096x2752, .f32⟩
  | .local _ .vmem, ⟨0, _⟩ => ⟨S512x1024, .bf16⟩
  | .local _ .vmem, ⟨1, _⟩ => ⟨S512x1024, .bf16⟩
  | .local _ .vmem, ⟨2, _⟩ => ⟨S1x1024x2752, .bf16⟩
  | .local _ .vmem, ⟨3, _⟩ => ⟨S1x1024x2752, .bf16⟩
  | .local _ .vmem, ⟨4, _⟩ => ⟨S1x512x2752, .f32⟩
  | .local _ .vmem, ⟨5, _⟩ => ⟨S1x512x2752, .f32⟩
  | .local _ .vmem, ⟨6, _⟩ => ⟨S512x2752, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x4096 : Shape := ⟨2, ![4096, 4096]⟩
abbrev S8x4096x2752 : Shape := ⟨3, ![8, 4096, 2752]⟩
abbrev S4096x8x2752 : Shape := ⟨3, ![4096, 8, 2752]⟩
abbrev S4096x22016 : Shape := ⟨2, ![4096, 22016]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2752, .bf16⟩
  | .hbm, ⟨2, _⟩ => ⟨S4096x8x2752, .bf16⟩
  | .hbm, ⟨3, _⟩ => ⟨S4096x22016, .bf16⟩
  | .hbm, ⟨4, _⟩ => ⟨S4096x22016, .f32⟩
  | .hbm, ⟨5, _⟩ => ⟨S4096x8x2752, .f32⟩
  | .hbm, ⟨6, _⟩ => ⟨S8x4096x2752, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnDown.lean ====
abbrev S4x4096x2752 : Shape := ⟨3, ![4, 4096, 2752]⟩
abbrev S4x2752x4096 : Shape := ⟨3, ![4, 2752, 4096]⟩
abbrev S4096x4096 : Shape := ⟨2, ![4096, 4096]⟩
abbrev S1x512x2752 : Shape := ⟨3, ![1, 512, 2752]⟩
abbrev S1x2752x1024 : Shape := ⟨3, ![1, 2752, 1024]⟩
abbrev S512x1024 : Shape := ⟨2, ![512, 1024]⟩
abbrev S512x2752 : Shape := ⟨2, ![512, 2752]⟩
abbrev S2752x1024 : Shape := ⟨2, ![2752, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x2752, .bf16⟩
  | .hbm, ⟨1, _⟩ => ⟨S4x2752x4096, .bf16⟩
  | .hbm, ⟨2, _⟩ => ⟨S4096x4096, .f32⟩
  | .local _ .vmem, ⟨0, _⟩ => ⟨S1x512x2752, .bf16⟩
  | .local _ .vmem, ⟨1, _⟩ => ⟨S1x512x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S4x4096x2752 : Shape := ⟨3, ![4, 4096, 2752]⟩
abbrev S4x2752x4096 : Shape := ⟨3, ![4, 2752, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x2752, .bf16⟩
  | .hbm, ⟨1, _⟩ => ⟨S4x2752x4096, .bf16⟩
  | .hbm, ⟨2, _⟩ => ⟨S4096x4096, .f32⟩
  | _, _ => ⟨S4x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnDownDx.lean ====
abbrev S4096x4096 : Shape := ⟨2, ![4096, 4096]⟩
abbrev S4x2752x4096 : Shape := ⟨3, ![4, 2752, 4096]⟩
abbrev S4x4096x2752 : Shape := ⟨3, ![4, 4096, 2752]⟩
abbrev S512x1024 : Shape := ⟨2, ![512, 1024]⟩
abbrev S1x2752x1024 : Shape := ⟨3, ![1, 2752, 1024]⟩
abbrev S1x512x2752 : Shape := ⟨3, ![1, 512, 2752]⟩
abbrev S512x2752 : Shape := ⟨2, ![512, 2752]⟩
abbrev S2752x1024 : Shape := ⟨2, ![2752, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2752x4096, .bf16⟩
  | .hbm, ⟨2, _⟩ => ⟨S4x4096x2752, .bf16⟩
  | .local _ .vmem, ⟨0, _⟩ => ⟨S512x1024, .bf16⟩
  | .local _ .vmem, ⟨1, _⟩ => ⟨S512x1024, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x512x2752, .bf16⟩
  | .local _ .vmem, ⟨5, _⟩ => ⟨S1x512x2752, .bf16⟩
  | .local _ .vmem, ⟨6, _⟩ => ⟨S512x2752, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S4096x4096 : Shape := ⟨2, ![4096, 4096]⟩
abbrev S4x2752x4096 : Shape := ⟨3, ![4, 2752, 4096]⟩
abbrev S4x4096x2752 : Shape := ⟨3, ![4, 4096, 2752]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2752x4096, .bf16⟩
  | .hbm, ⟨2, _⟩ => ⟨S4x2752x4096, .f32⟩
  | .hbm, ⟨3, _⟩ => ⟨S4x4096x2752, .f32⟩
  | .hbm, ⟨4, _⟩ => ⟨S4x4096x2752, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDw.lean ====
abbrev S4x4096x2752 : Shape := ⟨3, ![4, 4096, 2752]⟩
abbrev S4096x4096 : Shape := ⟨2, ![4096, 4096]⟩
abbrev S4x2752x4096 : Shape := ⟨3, ![4, 2752, 4096]⟩
abbrev S1x1024x2752 : Shape := ⟨3, ![1, 1024, 2752]⟩
abbrev S1024x512 : Shape := ⟨2, ![1024, 512]⟩
abbrev S1x2752x512 : Shape := ⟨3, ![1, 2752, 512]⟩
abbrev S2752x512 : Shape := ⟨2, ![2752, 512]⟩
abbrev S1024x2752 : Shape := ⟨2, ![1024, 2752]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x2752, .bf16⟩
  | .hbm, ⟨1, _⟩ => ⟨S4096x4096, .bf16⟩
  | .hbm, ⟨2, _⟩ => ⟨S4x2752x4096, .bf16⟩
  | .local _ .vmem, ⟨0, _⟩ => ⟨S1x1024x2752, .bf16⟩
  | .local _ .vmem, ⟨1, _⟩ => ⟨S1x1024x2752, .bf16⟩
  | .local _ .vmem, ⟨2, _⟩ => ⟨S1024x512, .bf16⟩
  | .local _ .vmem, ⟨3, _⟩ => ⟨S1024x512, .bf16⟩
  | .local _ .vmem, ⟨4, _⟩ => ⟨S1x2752x512, .bf16⟩
  | .local _ .vmem, ⟨5, _⟩ => ⟨S1x2752x512, .bf16⟩
  | .local _ .vmem, ⟨6, _⟩ => ⟨S2752x512, .f32⟩
  | _, _ => ⟨S4x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4x4096x2752 : Shape := ⟨3, ![4, 4096, 2752]⟩
abbrev S4096x4096 : Shape := ⟨2, ![4096, 4096]⟩
abbrev S4096x4x2752 : Shape := ⟨3, ![4096, 4, 2752]⟩
abbrev S4096x11008 : Shape := ⟨2, ![4096, 11008]⟩
abbrev S11008x4096 : Shape := ⟨2, ![11008, 4096]⟩
abbrev S4x2752x4096 : Shape := ⟨3, ![4, 2752, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2752, .bf16⟩
  | .hbm, ⟨1, _⟩ => ⟨S4096x4096, .bf16⟩
  | .hbm, ⟨2, _⟩ => ⟨S4096x4x2752, .bf16⟩
  | .hbm, ⟨3, _⟩ => ⟨S4096x11008, .bf16⟩
  | .hbm, ⟨4, _⟩ => ⟨S11008x4096, .bf16⟩
  | .hbm, ⟨5, _⟩ => ⟨S11008x4096, .f32⟩
  | .hbm, ⟨6, _⟩ => ⟨S4x2752x4096, .f32⟩
  | .hbm, ⟨7, _⟩ => ⟨S4x2752x4096, .bf16⟩
  | _, _ => ⟨S4x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUpDx.lean ====
abbrev S4x4096x2752 : Shape := ⟨3, ![4, 4096, 2752]⟩
abbrev S8x4096x2752 : Shape := ⟨3, ![8, 4096, 2752]⟩
abbrev S4096x4096 : Shape := ⟨2, ![4096, 4096]⟩
abbrev S1x512x2752 : Shape := ⟨3, ![1, 512, 2752]⟩
abbrev S512x512 : Shape := ⟨2, ![512, 512]⟩
abbrev S512x2752 : Shape := ⟨2, ![512, 2752]⟩

abbrev nBuf : Space → Nat
  | .hbm => 4
  | .vmem => 11
  | .smem => 0
  | _ => 0

abbrev bufTy : (tb : Table) → Fin (tcTables nBuf tb) → BufTy
  | .hbm, ⟨0, _⟩ => ⟨S4x4096x2752, .bf16⟩
  | .hbm, ⟨1, _⟩ => ⟨S4x4096x2752, .bf16⟩
  | .hbm, ⟨2, _⟩ => ⟨S8x4096x2752, .bf16⟩
  | .hbm, ⟨3, _⟩ => ⟨S4096x4096, .f32⟩
  | .local _ .vmem, ⟨0, _⟩ => ⟨S1x512x2752, .bf16⟩
  | .local _ .vmem, ⟨1, _⟩ => ⟨S1x512x2752, .bf16⟩
  | .local _ .vmem, ⟨2, _⟩ => ⟨S1x512x2752, .bf16⟩
  | .local _ .vmem, ⟨3, _⟩ => ⟨S1x512x2752, .bf16⟩
  | .local _ .vmem, ⟨4, _⟩ => ⟨S1x512x2752, .bf16⟩
  | .local _ .vmem, ⟨5, _⟩ => ⟨S1x512x2752, .bf16⟩
  | .local _ .vmem, ⟨6, _⟩ => ⟨S1x512x2752, .bf16⟩
  | .local _ .vmem, ⟨7, _⟩ => ⟨S1x512x2752, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S4x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![v0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnUpDxRefIdeal.lean ====
abbrev S4x4096x2752 : Shape := ⟨3, ![4, 4096, 2752]⟩
abbrev S8x4096x2752 : Shape := ⟨3, ![8, 4096, 2752]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2752, .bf16⟩
  | .hbm, ⟨1, _⟩ => ⟨S4x4096x2752, .bf16⟩
  | .hbm, ⟨2, _⟩ => ⟨S8x4096x2752, .bf16⟩
  | .hbm, ⟨3, _⟩ => ⟨S4x4096x2752, .bf16⟩
  | .hbm, ⟨4, _⟩ => ⟨S4096x4096, .f32⟩
  | .hbm, ⟨5, _⟩ => ⟨S4x4096x2752, .bf16⟩
  | .hbm, ⟨6, _⟩ => ⟨S4096x4096, .f32⟩
  | .hbm, ⟨7, _⟩ => ⟨S4096x4096, .f32⟩
  | _, _ => ⟨S4x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUpDw.lean ====
abbrev S4096x4096 : Shape := ⟨2, ![4096, 4096]⟩
abbrev S4x4096x2752 : Shape := ⟨3, ![4, 4096, 2752]⟩
abbrev S512x512 : Shape := ⟨2, ![512, 512]⟩
abbrev S1x512x2752 : Shape := ⟨3, ![1, 512, 2752]⟩
abbrev S512x2752 : Shape := ⟨2, ![512, 2752]⟩

abbrev nBuf : Space → Nat
  | .hbm => 5
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4x4096x2752, .bf16⟩
  | .hbm, ⟨2, _⟩ => ⟨S4x4096x2752, .bf16⟩
  | .hbm, ⟨3, _⟩ => ⟨S4x4096x2752, .bf16⟩
  | .hbm, ⟨4, _⟩ => ⟨S4x4096x2752, .bf16⟩
  | .local _ .vmem, ⟨0, _⟩ => ⟨S512x512, .bf16⟩
  | .local _ .vmem, ⟨1, _⟩ => ⟨S512x512, .bf16⟩
  | .local _ .vmem, ⟨2, _⟩ => ⟨S1x512x2752, .bf16⟩
  | .local _ .vmem, ⟨3, _⟩ => ⟨S1x512x2752, .bf16⟩
  | .local _ .vmem, ⟨4, _⟩ => ⟨S512x512, .bf16⟩
  | .local _ .vmem, ⟨5, _⟩ => ⟨S512x512, .bf16⟩
  | .local _ .vmem, ⟨6, _⟩ => ⟨S1x512x2752, .bf16⟩
  | .local _ .vmem, ⟨7, _⟩ => ⟨S1x512x2752, .bf16⟩
  | .local _ .vmem, ⟨8, _⟩ => ⟨S1x512x2752, .bf16⟩
  | .local _ .vmem, ⟨9, _⟩ => ⟨S1x512x2752, .bf16⟩
  | .local _ .vmem, ⟨10, _⟩ => ⟨S1x512x2752, .bf16⟩
  | .local _ .vmem, ⟨11, _⟩ => ⟨S1x512x2752, .bf16⟩
  | .local _ .vmem, ⟨12, _⟩ => ⟨S512x2752, .f32⟩
  | .local _ .vmem, ⟨13, _⟩ => ⟨S512x2752, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2752 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x2752 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnUpDwRefIdeal.lean ====
abbrev S4096x4096 : Shape := ⟨2, ![4096, 4096]⟩
abbrev S4x4096x2752 : Shape := ⟨3, ![4, 4096, 2752]⟩
abbrev S4096x4x2752 : Shape := ⟨3, ![4096, 4, 2752]⟩
abbrev S4096x11008 : Shape := ⟨2, ![4096, 11008]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x2752, .bf16⟩
  | .hbm, ⟨2, _⟩ => ⟨S4x4096x2752, .bf16⟩
  | .hbm, ⟨3, _⟩ => ⟨S4096x4096, .bf16⟩
  | .hbm, ⟨4, _⟩ => ⟨S4096x4x2752, .bf16⟩
  | .hbm, ⟨5, _⟩ => ⟨S4096x11008, .bf16⟩
  | .hbm, ⟨6, _⟩ => ⟨S4096x11008, .f32⟩
  | .hbm, ⟨7, _⟩ => ⟨S4096x4096, .bf16⟩
  | .hbm, ⟨8, _⟩ => ⟨S4096x4x2752, .bf16⟩
  | .hbm, ⟨9, _⟩ => ⟨S4096x11008, .bf16⟩
  | .hbm, ⟨10, _⟩ => ⟨S4096x11008, .f32⟩
  | .hbm, ⟨11, _⟩ => ⟨S4096x4x2752, .f32⟩
  | .hbm, ⟨12, _⟩ => ⟨S4x4096x2752, .f32⟩
  | .hbm, ⟨13, _⟩ => ⟨S4x4096x2752, .bf16⟩
  | .hbm, ⟨14, _⟩ => ⟨S4096x4x2752, .f32⟩
  | .hbm, ⟨15, _⟩ => ⟨S4x4096x2752, .f32⟩
  | .hbm, ⟨16, _⟩ => ⟨S4x4096x2752, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.Comm.Deal.lean ====
/-
# A launch that deals every device's arrays before any device runs

A kernel that opens with no handshake writes at once into the result arrays of the other devices. The right to
write them must then be dealt to the writer at the launch, before any device takes its first step. `run_dealt`
is adequacy in that form: one update, over all the devices together, turns everything the launch hands out into
what each device starts from. `wp_call` is the call of a kernel none of whose operands is staged: the kernel
starts from a caller's resource and leaves another.
-/
module

public import Idealize.ShloMosaic.Lib.Pipeline.Launch
public import Idealize.ShloMosaic.Lib.Pipeline.Kit
public import Idealize.ShloMosaic.Lib.Tactic

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {U : Type} [URA U]

local notation "𝕄" => MT nD τ sig Unit Val ℕ U ℕ

/-- What the launch hands the TensorCore of device `c`: its scoped storage, its arrays as launched, its unscoped
    semaphores at zero, what it owes, its generator register and its launch credit. -/
def dealt (O₀ : Dev nD → CellTallies nD τ sig Unit) (m : (ℓ : Loc nD τ sig) → Buf Val ℓ) (g : Dev nD → PrngReg)
    (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ prngReg c (g c) ∗ launchCred O₀ c)

/-- The rights to assign levels, one thread after the other, make every level fact of the machine: the threads
    other than the TensorCores have no index with a level. -/
theorem levels_assigned (L : GSem nD τ sig → Finset Unit) (lv : GSem nD τ sig → Unit → ℕ)
    (hL : ∀ g : GSem nD τ sig, g.1.2 ≠ .tc → L g = ∅) :
    (bigSep Finset.univ fun c : Dev nD => levels0 c : sProp 𝕄) ⊢ |==> levAts L lv := by
  refine (bigSep_mono fun c _ => lev_assign_cells (c.tc : Thread nD τ) L lv).trans <|
    (BI.bigSep_bupd _ _).trans <| BI.bupd_mono ?_
  have hnone : (bigSep Finset.univ fun d : Dev nD => bigSep (Finset.univ.erase Proc.tc) fun p : Proc τ =>
      (coreLevAts ((d, p) : Thread nD τ) L lv : sProp 𝕄)) = BI.emp := by
    have h1 (d : Dev nD) : (bigSep (Finset.univ.erase Proc.tc) fun p : Proc τ =>
        (coreLevAts ((d, p) : Thread nD τ) L lv : sProp 𝕄)) = BI.emp := by
      refine (bigSep_congr (Ψ := fun _ : Proc τ => (BI.emp : sProp 𝕄)) fun p hp => ?_).trans (BI.bigSep_emp_const _)
      unfold coreLevAts
      refine (bigSep_congr (Ψ := fun _ : SemLoc sig => (BI.emp : sProp 𝕄)) fun sm _ => ?_).trans (BI.bigSep_emp_const _)
      rw [hL (((d, p) : Thread nD τ), sm) (Finset.ne_of_mem_erase hp), BI.bigSep_empty]
    exact (bigSep_congr fun d _ => h1 d).trans (BI.bigSep_emp_const _)
  have hall : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p : Proc τ =>
              (coreLevAts ((d, p) : Thread nD τ) L lv : sProp 𝕄)) := by
    rw [hnone, bigSep_sep']
    iintro ⟨-, H⟩
    isplitl [H]; · iexact H
    iempintro
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  exact hall

/-- The run of a program from a launch memory, every counter at zero: one update over all the devices turns what
    the launch hands out, the level facts and the launch element into what each device starts from (`pre`); each
    device's @main runs from it to `fin`, its scoped counters at zero and nothing owed; what `fin` says of the
    final memory is read off it. -/
theorem run_dealt {Λ : Labels} (𝔻 : Defs nD τ sig Val Λ) (𝕍 : Variants)
    (m : (ℓ : Loc nD τ sig) → Buf Val ℓ) (g : Dev nD → PrngReg)
    (main : Dev nD → Prog (TpuEff nD τ sig Val Λ .tc) PUnit)
    (O₀ : Dev nD → CellTallies nD τ sig Unit) (L : GSem nD τ sig → Finset Unit) (lv : GSem nD τ sig → Unit → ℕ)
    (hL : ∀ g : GSem nD τ sig, g.1.2 ≠ .tc → L g = ∅) (u₀ : U) (pre fin : Dev nD → sProp 𝕄)
    (hdeal : iprop(bigSep Finset.univ (dealt O₀ m g) ∗ levAts L lv ∗ ownU u₀) ⊢ |={Set.univ}=> bigSep Finset.univ pre)
    (hcore : ∀ c, pre c ⊢ wp frame (wpE 𝔻 𝕍 (c.tc : Thread nD τ) none) Set.univ (main c) fun _ =>
      iprop((fin c ∗ scopedSems0 (c.tc : Thread nD τ)) ∗ ∃ W, owes (c.tc : Thread nD τ) (0 : CellTallies nD τ sig Unit) W))
    (QY : Dev nD → MemSt nD τ sig Val → Prop)
    (hY : ∀ c (s' : Phys nD τ sig Val), iprop(fin c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let done : Dev nD → sProp 𝕄 := fun c => iprop(fin c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu 𝔻 _ _ _ (reflect_intro_fupd_tc_sems (X := Unit) 𝕍 (owing O₀) 0 (noBookings fun _ => le_rfl)
      (owing_of_ne O₀) u₀ (fun _ => pre) (fun _ => done) (fun _ => iprop(emp)) Set.univ ?_ (fun _ c => ?_) fun _ => ?_))
  · have hone (c : Dev nD) : coreInit (Ix := Unit) (Name := ℕ) (U := U) (Lvl := ℕ) (owing O₀) 0
          (⟨m, fun _ => 0, g⟩ : MemSt nD τ sig Val) (c.tc : Thread nD τ) ⊢ iprop(dealt O₀ m g c ∗ levels0 c) :=
      (coreInit_boundary_owing O₀ m g c).trans (by
        unfold dealt
        iintro ⟨Hb, Hub, Hus, HL, Hlv, Hpr, Hcr⟩
        isplitr [Hlv]
        · isplitl [Hb]; · iexact Hb
          isplitl [Hub]; · iexact Hub
          isplitl [Hus]; · iexact Hus
          isplitl [HL]; · iexact HL
          isplitl [Hpr] <;> iassumption
        · iexact Hlv)
    have hall : (bigSep Finset.univ fun d : Dev nD => coreInit (Ix := Unit) (Name := ℕ) (U := U) (Lvl := ℕ) (owing O₀) 0
          (⟨m, fun _ => 0, g⟩ : MemSt nD τ sig Val) (d.tc : Thread nD τ))
        ⊢ iprop(bigSep Finset.univ (dealt O₀ m g) ∗ bigSep Finset.univ fun c : Dev nD => levels0 c : sProp 𝕄) := by
      refine (bigSep_mono fun c _ => hone c).trans ?_
      rw [bigSep_sep']
      exact BI.Entails.refl _
    iintro ⟨Hc, Hu⟩
    ihave H := hall $$ Hc
    icases H with ⟨Hd, Hlv⟩
    imod (levels_assigned L lv hL) $$ Hlv with Hla
    imod hdeal $$ [Hd Hla Hu] with Hp
    · isplitl [Hd]; · iexact Hd
      isplitl [Hla] <;> iassumption
    imodintro
    iexists ()
    isplitl [Hp]; · iexact Hp
    iempintro
  · refine (hcore c).trans (wp_mono _ _ _ fun _ => ?_)
    unfold post
    simp only [liftTc_tc]
    exact BI.Entails.refl _
  · have hread (c : Dev nD) (s' : Phys nD τ sig Val) : iprop(done c ∗ SI s') ⊢ |={Set.univ}=>
        iprop(⌜QY c s'.mem ∧ ∀ sm : SemLoc sig, sm.isScoped .tc = true → s'.mem.sem ((c.tc : Thread nD τ), sm) = 0⌝ ∗ SI s') := by
      iintro ⟨⟨HF, Hss⟩, HSI⟩
      ihave %hz := (tcScoped_read_pers c s') $$ [Hss HSI]
      · isplitl [Hss] <;> iassumption
      imod (hY c s') $$ [HF HSI] with ⟨%hy, HSI⟩
      · isplitl [HF] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

section Call

variable {Λ₀ : Labels} {P : Type} [Fintype P] [DecidableEq P] (pcs : P → PCfg sig Λ₀ Val) (a : (p : P) → (pcs p).Adm)
  (phinj : Function.Injective (cellOf (nD := nD) (τ := τ) (pin pcs a))) (p : P)
  {K : Type} [Fintype K] {osem : K → SemLoc sig} (hw : WinFacts₀ (pcs p).spec) (ho : OwnSemFacts (pcs p).spec osem)
  (EP : Emb (URounds (GSem nD τ sig) Unit) (MT nD τ sig Unit Val ℕ U ℕ))
  (defs₀ : Defs nD τ sig Val Λ₀) (𝒱₀ : Variants)

/-- The proof data of a call with no staged operand: before its one point the caller's `A`, after it `B`, what
    the core owes going from `O` to nothing. -/
def callDat [∀ e, Nonempty (Val e)] (A B : Dev nD → sProp 𝕄) (O : Dev nD → CellTallies nD τ sig Unit) (p : P)
    (c : Dev nD) : RDat τ Val Unit ℕ U ℕ (pin pcs a p) c where
  A _ := Classical.arbitrary _
  after _ _ _ _ := True
  Φ t := if t.val = 0 then A c else B c
  q _ := fullShare
  owed t := if t.val = 0 then O c else 0

include phinj hw EP in
/-- The call of a kernel whose operands all stay where they are, at one grid point: the body runs from the caller's
    `X` and what the core owes to `Y`, the kernel's own counters at zero and nothing owed. -/
theorem wp_call [∀ e, Nonempty (Val e)] [hE : IsEmpty (Fin (pin pcs a p).W)] [hK : IsEmpty (Fin (pcs p).pre.K)]
    (hN : (pin pcs a p).N = 1) (X Y : Dev nD → sProp 𝕄) (O : Dev nD → CellTallies nD τ sig Unit) (c : Dev nD)
    (hbody : ∀ (t : Fin (pin pcs a p).N) (W : Finset (SemLoc sig × Unit)),
      iprop(X c ∗ owes (c.tc : Thread nD τ) (O c) W)
        ⊢ wp frame (wpE defs₀ 𝒱₀ (c.tc : Thread nD τ) none) Set.univ
            (defs₀ .tc (pin pcs a p).body ((pin pcs a p).bodyArgs t ((pin pcs a p).slots t)))
            fun _ => iprop((Y c ∗ ownSems0 osem c) ∗ ∃ W', owes (c.tc : Thread nD τ) (0 : CellTallies nD τ sig Unit) W'))
    {α : Type} {k : PUnit → Prog (TpuEff nD τ sig Val (Sig Λ₀ P fun p => (pcs p).Adm) Proc.tc) α} {Q : α → sProp 𝕄}
    (W : Finset (SemLoc sig × Unit)) :
    iprop(X c ∗ owes (c.tc : Thread nD τ) (O c) W ∗ idleSems0 (pin pcs a) phinj p ho c ∗ scopedBufs (c.tc : Thread nD τ))
      ⊢ iprop(((Y c ∗ (∃ W', owes (c.tc : Thread nD τ) (0 : CellTallies nD τ sig Unit) W')
              ∗ scopedSems0 (c.tc : Thread nD τ) ∗ scopedBufs (c.tc : Thread nD τ))
            -∗ wp frame (wpE (Pipeline.defs pcs defs₀) (Variants.lift 𝒱₀) (c.tc : Thread nD τ) none) Set.univ (k ⟨⟩) Q)
          -∗ wp frame (wpE (Pipeline.defs pcs defs₀) (Variants.lift 𝒱₀) (c.tc : Thread nD τ) none) Set.univ
              (.op (.customCall (entry p) ()) k) Q) := by
  classical
  let A : Dev nD → sProp 𝕄 := fun c => iprop(X c ∗ scopedBufs (c.tc : Thread nD τ))
  let B : Dev nD → sProp 𝕄 := fun c => iprop((Y c ∗ ownSems0 osem c) ∗ scopedBufs (c.tc : Thread nD τ))
  let rd := callDat (U := U) pcs a A B O
  have hemp {n : ℕ} [IsEmpty (Fin n)] (f : Fin n → sProp 𝕄) : (bigSep Finset.univ f : sProp 𝕄) = BI.emp := by
    rw [Finset.univ_eq_empty, BI.bigSep_empty]
  have hsp : (scopedSems0 (c.tc : Thread nD τ) : sProp 𝕄)
      = iprop((BI.emp ∗ ownSems0 osem c) ∗ idleSems0 (pin pcs a) phinj p ho c) := by
    rw [scopedSems0_split (pin pcs a) phinj p hw ho c]
    unfold cellsSems0 PerCore.cellsSems0
    rw [hemp]
  have hst : (Dat.staging (τ := τ) (Val := Val) (Ix := Unit) (Name := ℕ) (U := U) (Lvl := ℕ) (pin pcs a p) c) = BI.emp := by
    unfold Dat.staging
    rw [hemp]
  have hpre : (prefHeld (pcs p).pre c (fun _ => fullShare) (a p).1 : sProp 𝕄) = BI.emp := by
    unfold prefHeld
    rw [hemp]
  have hlast : (Fin.last (pin pcs a p).N).val ≠ 0 := by simp [hN]
  have hb : (rd p c).BodyObligation defs₀ 𝒱₀ () Set.univ := by
    intro t Yw _
    have ht : t.val = 0 := by have := t.isLt; omega
    have h0 : (rd p c).Φ t.castSucc = A c := show (if t.castSucc.val = 0 then A c else B c) = A c from if_pos (show t.castSucc.val = 0 by simpa using ht)
    have h1 : (rd p c).Φ t.succ = B c := show (if t.succ.val = 0 then A c else B c) = B c from if_neg (show t.succ.val ≠ 0 by simp)
    have h2 : (rd p c).owed t.castSucc = O c := show (if t.castSucc.val = 0 then O c else 0) = O c from if_pos (show t.castSucc.val = 0 by simpa using ht)
    have h3 : (rd p c).owed t.succ = 0 := show (if t.succ.val = 0 then O c else 0) = 0 from if_neg (show t.succ.val ≠ 0 by simp)
    have hstart (W : Finset (SemLoc sig × Unit)) : iprop((X c ∗ owes (c.tc : Thread nD τ) (O c) W) ∗ scopedBufs (c.tc : Thread nD τ))
        ⊢ wp frame (wpE defs₀ 𝒱₀ (c.tc : Thread nD τ) none) Set.univ
          (defs₀ .tc (pin pcs a p).body ((pin pcs a p).bodyArgs t ((pin pcs a p).slots t))) fun _ =>
            iprop(((Y c ∗ ownSems0 osem c) ∗ ∃ W', owes (c.tc : Thread nD τ) (0 : CellTallies nD τ sig Unit) W')
              ∗ scopedBufs (c.tc : Thread nD τ)) :=
      (sep_mono (hbody t W) .rfl).trans (wp_frame_r frame _ _)
    have hopen : iprop(A c ∗ owesWithin c (O c) ((rd p c).bound () t.castSucc) ∗ BI.emp)
        ⊢ iprop(∃ W, ((X c ∗ owes (c.tc : Thread nD τ) (O c) W) ∗ scopedBufs (c.tc : Thread nD τ))) := by
      unfold owesWithin
      iintro ⟨⟨HX, Hsb⟩, ⟨%W, -, HO⟩, -⟩
      iexists W
      isplitl [HX HO]
      · isplitl [HX] <;> iassumption
      · iexact Hsb
    have hclose : iprop(((Y c ∗ ownSems0 osem c) ∗ ∃ W', owes (c.tc : Thread nD τ) (0 : CellTallies nD τ sig Unit) W')
          ∗ scopedBufs (c.tc : Thread nD τ))
        ⊢ iprop(B c ∗ owesWithin c 0 ((rd p c).bound () t.succ) ∗ BI.emp) := by
      unfold owesWithin
      iintro ⟨⟨HY, %W', HO⟩, Hsb⟩
      isplitl [HY Hsb]
      · isplitl [HY] <;> iassumption
      isplitl [HO]
      · iexists W'
        isplitr
        · ipureintro; exact fun _ _ => Or.inl trivial
        · iexact HO
      iempintro
    simp only [hemp, RDat.owesAt, h0, h1, h2, h3]
    exact hopen.trans ((exists_elim fun W => hstart W).trans (wp_mono _ _ _ fun _ => hclose))
  have hin : iprop(X c ∗ prefHeld (pcs p).pre c (fun _ => fullShare) (a p).1 ∗ scopedBufs (c.tc : Thread nD τ)) ⊢ (rd p c).Φ 0 := by
    rw [hpre, show (rd p c).Φ 0 = A c from
      show (if (0 : Fin ((pin pcs a p).N + 1)).val = 0 then A c else B c) = A c from if_pos rfl]
    iintro ⟨H1, -, H2⟩
    isplitl [H1] <;> iassumption
  have hout : iprop((rd p c).Φ (Fin.last (pin pcs a p).N) ∗ cellsSems0 (pin pcs a) p c ∗ Dat.staging (pin pcs a p) c
      ∗ idleSems0 (pin pcs a) phinj p ho c)
      ⊢ iprop(Y c ∗ scopedSems0 (c.tc : Thread nD τ) ∗ scopedBufs (c.tc : Thread nD τ)) := by
    rw [hst, hsp, show (rd p c).Φ (Fin.last (pin pcs a p).N) = B c from show (if (Fin.last (pin pcs a p).N).val = 0 then A c else B c) = B c from if_neg hlast]
    iintro ⟨⟨⟨HY, Hos⟩, Hsb⟩, -, -, Hi⟩
    isplitl [HY]; · iexact HY
    isplitr [Hsb]
    · isplitl [Hos]
      · isplitr; · iempintro
        iexact Hos
      · iexact Hi
    · iexact Hsb
  have hbufs : (scopedBufs (c.tc : Thread nD τ) : sProp 𝕄)
      ⊢ iprop(Dat.staging (pin pcs a p) c ∗ scopedBufs (c.tc : Thread nD τ)) := by
    rw [hst]
    iintro H
    isplitr; · iempintro
    iexact H
  have hcall := RDat.wp_customCall_entry_frame (U := U) (Name := ℕ) (Lvl := ℕ) pcs a rd () EP (fun _ => 0) phinj p defs₀ 𝒱₀
    (fun _ => fullShare) c Set.univ (fun w => (hE.false w).elim) hb
    (fun w => (hE.false w).elim) none (fun u hu => absurd hu (by simp)) hbufs hin hout (k := k) (Q := Q)
  have hO0 : (owes (c.tc : Thread nD τ) (O c) W : sProp 𝕄) ⊢ RDat.owesAt (rd p c) () 0 := by
    show _ ⊢ owesWithin c (if (0 : Fin ((pin pcs a p).N + 1)).val = 0 then O c else 0) _
    rw [if_pos (show (0 : Fin ((pin pcs a p).N + 1)).val = 0 from rfl)]
    unfold owesWithin
    iintro HO
    iexists W
    isplitr
    · ipureintro; exact fun _ _ => Or.inl trivial
    · iexact HO
  have hO1 : RDat.owesAt (rd p c) () (Fin.last _)
      ⊢ (iprop(∃ W', owes (c.tc : Thread nD τ) (0 : CellTallies nD τ sig Unit) W') : sProp 𝕄) := by
    show owesWithin c (if (Fin.last (pin pcs a p).N).val = 0 then O c else 0) _ ⊢ _
    rw [if_neg hlast]
    unfold owesWithin
    iintro ⟨%W', -, HO⟩
    iexists W'
    iexact HO
  have hpre' : (owes (c.tc : Thread nD τ) (O c) W : sProp 𝕄) ⊢ RDat.EntryPre (pin pcs a) rd () EP (fun _ => 0) p c := by
    unfold RDat.EntryPre PerCore.RDat.EntryPre PerCore.RDat.cellsWaits PerCore.RDat.cellsInit PerCore.toksInit RDat.arrays
    simp only [hemp]
    iintro HO
    isplitr; · iempintro
    isplitl [HO]
    · iapply hO0 $$ HO
    isplitr; · iempintro
    isplitr <;> iempintro
  have hpost' : RDat.EntryPost (pin pcs a) rd () p c
      ⊢ (iprop(∃ W', owes (c.tc : Thread nD τ) (0 : CellTallies nD τ sig Unit) W') : sProp 𝕄) := by
    unfold RDat.EntryPost PerCore.RDat.EntryPost
    iintro ⟨-, HO⟩
    iapply hO1 $$ HO
  iintro ⟨HX, HO, Hi, Hsb⟩ Hk
  iapply hcall $$ [HX HO Hi Hsb]
  · isplitl [HO]
    · iapply hpre' $$ HO
    isplitr
    · rw [hpre]; iempintro
    isplitl [HX]; · iexact HX
    isplitl [Hi] <;> iassumption
  · iintro ⟨Hpost, HY, Hss, Hsb⟩
    iapply Hk
    isplitl [HY]; · iexact HY
    isplitl [Hpost]
    · iapply hpost' $$ Hpost
    isplitl [Hss] <;> iassumption

end Call

end Cert.Comm

end
-- ==== Proof.Comm.Plan.lean ====
/-
# A plan of copies between the devices of a mesh

A kernel that moves `n` arrays, every one by one copy on the device and seven copies to other devices, each copy
with its own semaphores. `Plan` says what is copied where and with what result; `sched` is the protocol: every
semaphore carries one round of one duty, whose payload is what the waiter gets back. The rules at the end run one
operation of such a kernel.
-/
module

public import proofs.«01_k».proof.Proof.Comm.Deal

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-! ## Separating conjunctions over lists -/

section SepL

variable {M : Type} [URA M] {A : Type}

/-- The separating conjunction of `Φ` over a list. -/
def sepL (l : List A) (Φ : A → sProp M) : sProp M :=
  match l with
  | [] => iprop(emp)
  | a :: l => iprop(Φ a ∗ sepL l Φ)

theorem sepL_nil (Φ : A → sProp M) : sepL [] Φ = iprop(emp) := rfl
theorem sepL_cons (a : A) (l : List A) (Φ : A → sProp M) : sepL (a :: l) Φ = iprop(Φ a ∗ sepL l Φ) := rfl

/-- The conjuncts may be exchanged. -/
theorem sep_swap (P Q R : sProp M) : iprop(P ∗ Q ∗ R) = iprop(Q ∗ P ∗ R) := by
  have h (P Q R : sProp M) : iprop(P ∗ Q ∗ R) ⊢ iprop(Q ∗ P ∗ R) := by
    iintro ⟨H1, H2, H3⟩; isplitl [H2]; · iexact H2
    isplitl [H1]; · iexact H1
    iexact H3
  exact Entails.antisymm (h P Q R) (h Q P R)

/-- Two pairs may be regrouped. -/
theorem sep_four (P Q R S : sProp M) : iprop((P ∗ Q) ∗ R ∗ S) = iprop((P ∗ R) ∗ Q ∗ S) := by
  have h (P Q R S : sProp M) : iprop((P ∗ Q) ∗ R ∗ S) ⊢ iprop((P ∗ R) ∗ Q ∗ S) := by
    iintro ⟨⟨H1, H2⟩, H3, H4⟩
    isplitl [H1 H3]
    · isplitl [H1] <;> iassumption
    · isplitl [H2] <;> iassumption
  exact Entails.antisymm (h P Q R S) (h P R Q S)

/-- Nothing, twice. -/
theorem emp_emp : (iprop(emp) : sProp M) = iprop(emp ∗ emp) := by
  have h1 : (iprop(emp) : sProp M) ⊢ iprop(emp ∗ emp) := by
    iintro -; isplitl <;> iempintro
  have h2 : iprop(emp ∗ emp) ⊢ (iprop(emp) : sProp M) := by
    iintro -; iempintro
  exact Entails.antisymm h1 h2

/-- A permuted list has the same conjunction. -/
theorem sepL_perm {l l' : List A} (h : l.Perm l') (Φ : A → sProp M) : sepL l Φ = sepL l' Φ := by
  induction h with
  | nil => rfl
  | cons a _ ih => rw [sepL_cons, sepL_cons, ih]
  | swap a b l => rw [sepL_cons, sepL_cons, sepL_cons, sepL_cons, sep_swap]
  | trans _ _ ih₁ ih₂ => exact ih₁.trans ih₂

/-- Pointwise implication. -/
theorem sepL_mono {Φ Ψ : A → sProp M} (l : List A) (h : ∀ a ∈ l, Φ a ⊢ Ψ a) : sepL l Φ ⊢ sepL l Ψ := by
  induction l with
  | nil => exact Entails.rfl
  | cons a l ih => exact BI.sep_mono (h a (List.mem_cons_self ..)) (ih fun b hb => h b (List.mem_cons_of_mem _ hb))

/-- A conjunction over a finite set is the one over a list of its members. -/
theorem bigSep_eq_sepL [DecidableEq A] (l : List A) (hl : l.Nodup) (Φ : A → sProp M) :
    bigSep l.toFinset Φ = sepL l Φ := by
  induction l with
  | nil => rw [List.toFinset_nil, BI.bigSep_empty]; rfl
  | cons a l ih =>
    rw [List.toFinset_cons, BI.bigSep_insert (by simpa using (List.nodup_cons.mp hl).1), ih (List.nodup_cons.mp hl).2]
    rfl

/-- Over a finite type, along a list of all its members. -/
theorem bigSep_univ_eq_sepL [Fintype A] [DecidableEq A] (l : List A) (hl : l.Nodup) (hu : ∀ a, a ∈ l)
    (Φ : A → sProp M) : bigSep Finset.univ Φ = sepL l Φ := by
  rw [← bigSep_eq_sepL l hl, show l.toFinset = Finset.univ from Finset.eq_univ_iff_forall.mpr fun a => List.mem_toFinset.mpr (hu a)]

/-- A conjunction of conjunctions. -/
theorem sepL_sep (l : List A) (Φ Ψ : A → sProp M) : sepL l (fun a => iprop(Φ a ∗ Ψ a)) = iprop(sepL l Φ ∗ sepL l Ψ) := by
  induction l with
  | nil => exact emp_emp
  | cons a l ih => simp only [sepL_cons, ih]; exact sep_four _ _ _ _

end SepL

/-! ## The plan -/

/-- The copies of one array: on the device (`none`) or the `i`-th one to another device. -/
abbrev Cp := Option (Fin 7)
/-- The semaphores of one array: the device's own copy's, a copy's at the sender, a copy's at the receiver. -/
abbrev Jx := Option (Fin 7 ⊕ Fin 7)
/-- The semaphore of the copy on the device. -/
abbrev jl : Jx := none
/-- The sender's semaphore of copy `i`. -/
abbrev js (i : Fin 7) : Jx := some (.inl i)
/-- The receiver's semaphore of copy `i`. -/
abbrev jr (i : Fin 7) : Jx := some (.inr i)
/-- The semaphore on the copying device. -/
def jown : Cp → Jx
  | none => jl
  | some i => js i

/-- The device a copy goes to. -/
def tgt {D : Type} (peer : Fin 7 → Equiv.Perm D) : Cp → D → D
  | none, c => c
  | some i, c => peer i c

/-- What is copied, from where to where, with what result. `S`, `e` are an array block's shape and element type,
    `sem` the semaphores, `peer i c` the device copy `i` of device `c` goes to, `C` what a source holds, `D` what
    the destination holds afterwards, `rx` what the receiver gets. -/
structure Plan (nD : ℕ) (τ : Topo) (sig : RefSig) (Val : EltTy → Type) (U : Type) [URA U] (n : ℕ) where
  S : Fin n → Shape
  e : Fin n → EltTy
  sem : Fin n × Jx → DmaSem sig
  sem_inj : Function.Injective sem
  peer : Fin 7 → Equiv.Perm (Dev nD)
  lvl : Fin 7 → ℕ
  q : Fin n → Cp → PosShare TreeShare
  src : (r : Fin n) → Cp → Dev nD → Memref sig .tc .hbm (S r) (e r)
  dst : (r : Fin n) → Cp → Dev nD → Memref sig .tc .hbm (S r) (e r)
  C : (r : Fin n) → (j : Cp) → (c : Dev nD) → Buf Val ((src r j c).view.loc (c.tc : Thread nD τ))
  D : (r : Fin n) → (j : Cp) → (c : Dev nD) → Buf Val ((dst r j c).view.loc ((tgt peer j c).tc : Thread nD τ))
  land : ∀ r j c, (src r j c).view.read Val (C r j c) = (dst r j c).view.read Val (D r j c)
  amt : Fin n → ℕ
  hamt : ∀ r j c, (dst r j c).view.dmaCredit = amt r
  amt_pos : ∀ r, 0 < amt r
  rx : Fin n → Fin 7 → Dev nD → sProp (MT nD τ sig Unit Val ℕ U ℕ)
  rxS : ∀ r i c, BI.Storable (upEmb : UEmb _ (MT nD τ sig Unit Val ℕ U ℕ)) (rx r i c)
  rx_of : ∀ r i c, (((dst r (some i) c).view.loc ((tgt peer (some i) c).tc : Thread nD τ)
      ↦[(dst r (some i) c).view.set]{fullShare} D r (some i) c : sProp (MT nD τ sig Unit Val ℕ U ℕ))) ⊢ rx r i (peer i c)

namespace Plan

variable {nD : ℕ} {τ : Topo} {sig : RefSig} {Val : EltTy → Type} {U : Type} [URA U] {n : ℕ}

local notation "𝕄" => MT nD τ sig Unit Val ℕ U ℕ

variable (P : Plan nD τ sig Val U n)

/-- The semaphore `k` of device `c`. -/
def cell (c : Dev nD) (k : Fin n × Jx) : GSem nD τ sig := ((c.tc : Thread nD τ), .dma (P.sem k))

open Classical in
/-- Which of the plan's semaphores a semaphore of the machine is. -/
def keyOf (g : GSem nD τ sig) : Option (Fin n × Jx) :=
  if h : g.1.2 = .tc ∧ ∃ k, g.2 = .dma (P.sem k) then some h.2.choose else none

theorem keyOf_cell (c : Dev nD) (k : Fin n × Jx) : P.keyOf (P.cell c k) = some k := by
  have h : (P.cell c k).1.2 = .tc ∧ ∃ k', (P.cell c k).2 = .dma (P.sem k') := ⟨rfl, k, rfl⟩
  unfold keyOf
  rw [dif_pos h]
  have := h.2.choose_spec
  exact congrArg some (P.sem_inj (SemLoc.dma.inj this)).symm

theorem cell_inj {c c' : Dev nD} {k k' : Fin n × Jx} (h : P.cell c k = P.cell c' k') : c = c' ∧ k = k' := by
  unfold cell at h
  have h1 := (Prod.mk.inj h).1
  have h2 := (Prod.mk.inj h).2
  exact ⟨(Prod.mk.inj h1).1, P.sem_inj (SemLoc.dma.inj h2)⟩

/-- The source of copy `j` of array `r`, as device `c` holds it. -/
def srcp (r : Fin n) (j : Cp) (c : Dev nD) : sProp 𝕄 :=
  (P.src r j c).view.loc (c.tc : Thread nD τ) ↦[(P.src r j c).view.set]{P.q r j} P.C r j c
/-- The destination of a copy once it has landed. -/
def landed (r : Fin n) (j : Cp) (c : Dev nD) : sProp 𝕄 :=
  (P.dst r j c).view.loc ((tgt P.peer j c).tc : Thread nD τ) ↦[(P.dst r j c).view.set]{fullShare} P.D r j c
/-- The destination of a copy before, whatever it holds. -/
def openp (r : Fin n) (j : Cp) (c : Dev nD) : sProp 𝕄 :=
  iprop(∃ fd, (P.dst r j c).view.loc ((tgt P.peer j c).tc : Thread nD τ) ↦[(P.dst r j c).view.set]{fullShare} fd)

instance (r : Fin n) (j : Cp) (c : Dev nD) : BI.Storable (upEmb : UEmb _ 𝕄) (P.srcp r j c) := by
  unfold srcp; infer_instance
instance (r : Fin n) (j : Cp) (c : Dev nD) : BI.Storable (upEmb : UEmb _ 𝕄) (P.landed r j c) := by
  unfold landed; infer_instance

/-- What the waiter on semaphore `k` gets. -/
def pay (c : Dev nD) : Fin n × Jx → sProp 𝕄
  | (r, none) => iprop(P.landed r none c ∗ P.srcp r none c)
  | (r, some (.inl i)) => P.srcp r (some i) c
  | (r, some (.inr i)) => P.rx r i c

instance (c : Dev nD) (k : Fin n × Jx) : BI.Storable (upEmb : UEmb _ 𝕄) (P.pay c k) := by
  rcases k with ⟨r, _ | i | i⟩
  · show BI.Storable _ iprop(P.landed r none c ∗ P.srcp r none c); infer_instance
  · show BI.Storable _ (P.srcp r (some i) c); infer_instance
  · exact P.rxS r i c

/-- The protocol: one round, one duty, on each of the plan's semaphores. -/
def sched : Schedule (GSem nD τ sig) Unit 𝕄 where
  duties g r := if r = 0 ∧ (P.keyOf g).isSome = true then {()} else ∅
  amount g _ _ := match P.keyOf g with
    | some k => P.amt k.1
    | none => 1
  payload g _ _ := match P.keyOf g with
    | some k => P.pay g.1.1 k
    | none => iprop(emp)
  amount_pos g r d _ := by
    split
    · exact P.amt_pos _
    · exact Nat.one_pos

instance (g : GSem nD τ sig) (r : ℕ) (d : Unit) : BI.Storable (upEmb : UEmb _ 𝕄) (P.sched.payload g r d) := by
  show BI.Storable _ (match P.keyOf g with
    | some k => P.pay g.1.1 k
    | none => iprop(emp))
  split <;> infer_instance

theorem duties_cell (c : Dev nD) (k : Fin n × Jx) : P.sched.duties (P.cell c k) 0 = {()} := by
  show (if (0 : ℕ) = 0 ∧ (P.keyOf (P.cell c k)).isSome = true then ({()} : Finset Unit) else ∅) = _
  rw [keyOf_cell, if_pos ⟨rfl, rfl⟩]

theorem mem_duties (c : Dev nD) (k : Fin n × Jx) : () ∈ P.sched.duties (P.cell c k) 0 := by
  rw [duties_cell]; exact Finset.mem_singleton_self _

theorem duties_later (g : GSem nD τ sig) {r : ℕ} (hr : 1 ≤ r) : P.sched.duties g r = ∅ := by
  show (if r = 0 ∧ (P.keyOf g).isSome = true then ({()} : Finset Unit) else ∅) = _
  rw [if_neg (by omega)]

theorem amount_cell (c : Dev nD) (k : Fin n × Jx) (r : ℕ) (d : Unit) : P.sched.amount (P.cell c k) r d = P.amt k.1 := by
  show (match P.keyOf (P.cell c k) with
    | some k => P.amt k.1
    | none => 1) = _
  rw [keyOf_cell]

theorem payload_cell (c : Dev nD) (k : Fin n × Jx) (r : ℕ) (d : Unit) : P.sched.payload (P.cell c k) r d = P.pay c k := by
  show (match P.keyOf (P.cell c k) with
    | some k => P.pay (P.cell c k).1.1 k
    | none => iprop(emp)) = _
  rw [keyOf_cell]; rfl

theorem expect_cell (c : Dev nD) (k : Fin n × Jx) : P.sched.expect (P.cell c k) 0 = P.amt k.1 := by
  show (∑ d ∈ P.sched.duties (P.cell c k) 0, P.sched.amount (P.cell c k) 0 d) = _
  rw [duties_cell, Finset.sum_singleton, amount_cell]

/-! ## Levels and debts -/

/-- A semaphore's level: a receiver's is its copy's, the others are below. -/
def klvl : Jx → ℕ
  | some (.inr i) => P.lvl i
  | _ => 0

/-- The levels. -/
def lev (g : GSem nD τ sig) (_ : Unit) : ℕ := match P.keyOf g with
  | some k => P.klvl k.2
  | none => 0

/-- The indices with a level: those of the TensorCores. -/
def lix (g : GSem nD τ sig) : Finset Unit := if g.1.2 = .tc then {()} else ∅

theorem lix_ne (g : GSem nD τ sig) (h : g.1.2 ≠ .tc) : lix g = ∅ := if_neg h

theorem lev_cell (c : Dev nD) (k : Fin n × Jx) (u : Unit) : P.lev (P.cell c k) u = P.klvl k.2 := by
  unfold lev; rw [keyOf_cell]

/-- What one copy to another device owes. -/
def due (c : Dev nD) (x : Fin n × Fin 7) : CellTallies nD τ sig Unit :=
  tallyAt (P.cell (P.peer x.2 c) (x.1, jr x.2)) () (P.amt x.1)

/-- What a device still owes: a landing for each copy it has yet to start. -/
def debt (c : Dev nD) : List (Fin n × Fin 7) → CellTallies nD τ sig Unit
  | [] => 0
  | x :: l => debt c l + P.due c x

theorem debt_pos (c : Dev nD) (l : List (Fin n × Fin 7)) (g : GSem nD τ sig) (u : Unit) (h : 0 < P.debt c l g u) :
    ∃ x ∈ l, g = P.cell (P.peer x.2 c) (x.1, jr x.2) := by
  induction l with
  | nil => exact absurd h (Nat.lt_irrefl 0)
  | cons x l ih =>
    rcases add_pos_cases h with h | h
    · obtain ⟨y, hy, e⟩ := ih h
      exact ⟨y, List.mem_cons_of_mem _ hy, e⟩
    · exact ⟨x, List.mem_cons_self .., (tallyAt_pos h).1⟩

/-- The wait on semaphore `k` is below all that is owed. -/
theorem mayWait (c : Dev nD) (k : Fin n × Jx) (l : List (Fin n × Fin 7)) (h : ∀ x ∈ l, P.klvl k.2 < P.lvl x.2) :
    (levAts lix P.lev : sProp 𝕄) ⊢ MayWait (c.tc : Thread nD τ) (.dma (P.sem k)) () (P.debt c l) := by
  refine mayWait_of_levAts (by unfold lix; rw [if_pos rfl]; exact Finset.mem_singleton_self _) fun g u hg => ?_
  obtain ⟨x, hx, rfl⟩ := P.debt_pos c l g u hg
  refine ⟨?_, ?_⟩
  · show () ∈ lix (P.cell _ _)
    unfold lix cell; rw [if_pos rfl]; exact Finset.mem_singleton_self _
  show P.lev (P.cell c k) () < _
  rw [lev_cell, lev_cell]
  exact h x hx

/-! ## The state of a device between two operations -/

variable (E : Emb (URounds (GSem nD τ sig) Unit) (MT nD τ sig Unit Val ℕ U ℕ))

/-- All the plan's semaphores. -/
def cells : Finset (GSem nD τ sig) :=
  (Finset.univ : Finset (Dev nD × (Fin n × Jx))).map ⟨fun x => P.cell x.1 x.2, fun x y h =>
    Prod.ext (P.cell_inj h).1 (P.cell_inj h).2⟩

theorem mem_cells (c : Dev nD) (k : Fin n × Jx) : P.cell c k ∈ P.cells :=
  Finset.mem_map.mpr ⟨(c, k), Finset.mem_univ _, rfl⟩

/-- The invariants of all the semaphores, that their round is open, and the levels. -/
def env (κ : GSem nD τ sig → ℕ) : sProp 𝕄 :=
  iprop(bigSep P.cells (fun g => cellInv E P.sched (κ g) g) ∗ bigSep P.cells (fun g => reached E g 0) ∗ levAts lix P.lev)

instance env_persistent (κ : GSem nD τ sig → ℕ) : BI.Persistent (P.env E κ) := by unfold env; infer_instance

theorem env_inv (κ : GSem nD τ sig → ℕ) (c : Dev nD) (k : Fin n × Jx) :
    P.env E κ ⊢ cellInv E P.sched (κ (P.cell c k)) (P.cell c k) := by
  have h : bigSep P.cells (fun g => cellInv E P.sched (κ g) g) ⊢ cellInv E P.sched (κ (P.cell c k)) (P.cell c k) :=
    BI.bigSep_elim (Φ := fun g => cellInv E P.sched (κ g) g) (P.mem_cells c k)
  unfold env
  iintro ⟨H, -, -⟩
  iapply h $$ H

theorem env_reached (κ : GSem nD τ sig → ℕ) (c : Dev nD) (k : Fin n × Jx) : P.env E κ ⊢ reached E (P.cell c k) 0 := by
  have h : bigSep P.cells (fun g => (reached E g 0 : sProp 𝕄)) ⊢ reached E (P.cell c k) 0 :=
    BI.bigSep_elim (Φ := fun g => (reached E g 0 : sProp 𝕄)) (P.mem_cells c k)
  unfold env
  iintro ⟨-, H, -⟩
  iapply h $$ H

theorem env_lev (κ : GSem nD τ sig → ℕ) : P.env E κ ⊢ levAts lix P.lev := by
  unfold env
  iintro ⟨-, -, H⟩
  iexact H

/-- A receiver's duty, which the sender of copy `j` performs. -/
def far (r : Fin n) (c : Dev nD) : Cp → sProp 𝕄
  | none => iprop(emp)
  | some i => dutyTok E (P.cell (P.peer i c) (r, jr i)) 0 ()

/-- A copy yet to be started, but for its source. -/
def todo (r : Fin n) (j : Cp) (c : Dev nD) : sProp 𝕄 :=
  iprop(P.openp r j c ∗ dutyTok E (P.cell c (r, jown j)) 0 () ∗ P.far E r c j ∗ atPos E (P.cell c (r, jown j)) 0 ∅ 0)

/-- The right to wait on a semaphore. -/
def hold (c : Dev nD) (k : Fin n × Jx) : sProp 𝕄 :=
  iprop(atPos E (P.cell c k) 0 ∅ 0 ∗ cred (tallyAt (P.cell c k) () (P.amt k.1)))

/-- A semaphore waited on. -/
def past (c : Dev nD) (k : Fin n × Jx) : sProp 𝕄 := atPos E (P.cell c k) 1 ∅ 0

/-- Where one array stands: the copies to start that have their source, those that have not, the semaphores to be
    waited on, those whose payload is at hand, those waited on. -/
structure Stand where
  T : List Cp
  T2 : List Cp
  W : List Jx
  G : List Jx
  Z : List Jx

/-- What device `c` holds of array `r`. -/
def held (r : Fin n) (c : Dev nD) (b : Stand) : sProp 𝕄 :=
  iprop(sepL b.T (fun j => iprop(P.todo E r j c ∗ P.srcp r j c)) ∗ sepL b.T2 (fun j => P.todo E r j c)
    ∗ sepL b.W (fun k => P.hold E c (r, k)) ∗ sepL b.G (fun k => P.pay c (r, k)) ∗ sepL b.Z (fun k => P.past E c (r, k)))

/-- What device `c` holds of all arrays. -/
def helds (c : Dev nD) (bs : List (Fin n × Stand)) : sProp 𝕄 := sepL bs fun x => P.held E x.1 c x.2

/-- The state of a device: the invariants, the copies it owes, and what it holds of every array. -/
def St (κ : GSem nD τ sig → ℕ) (c : Dev nD) (l : List (Fin n × Fin 7)) (bs : List (Fin n × Stand)) : sProp 𝕄 :=
  iprop(P.env E κ ∗ (∃ W, owes (c.tc : Thread nD τ) (P.debt c l) W) ∗ P.helds E c bs)

/-- A landed copy makes the destination hold what the plan says. -/
theorem landing (r : Fin n) (j : Cp) (c : Dev nD) (fd : Buf Val ((P.dst r j c).view.loc ((tgt P.peer j c).tc : Thread nD τ))) :
    ((P.dst r j c).view.loc ((tgt P.peer j c).tc : Thread nD τ) ↦[(P.dst r j c).view.set]{fullShare}
        ((P.dst r j c).view.write Val fd ((P.src r j c).view.read Val (P.C r j c)) Finset.univ) : sProp 𝕄)
      ⊢ P.landed r j c := by
  unfold landed
  rw [P.land r j c]
  refine Entails.of_eq (pointsTo_congr fun i hi => ?_)
  have h := View.write_read_eq_piecewise (v := (P.dst r j c).view) fd (P.D r j c) Finset.univ
  refine (congrFun h i).trans ?_
  unfold Finset.piecewise
  split
  · rfl
  · next hn => exact absurd hi hn

section Rules

variable {Λ : Labels} {α : Type} (defs : Defs nD τ sig Val Λ) (𝒱 : Variants)
variable {κ : GSem nD τ sig → ℕ} {c : Dev nD} {l : List (Fin n × Fin 7)} {bs : List (Fin n × Stand)}
  {r : Fin n} {T T2 : List Cp} {W G Z : List Jx} {Q : α → sProp (MT nD τ sig Unit Val ℕ U ℕ)}

/-- Starting the copy on the device. -/
theorem start_local {src dst : Memref sig .tc .hbm (P.S r) (P.e r)} {sm : DmaSem sig}
    (h1 : src = P.src r none c) (h2 : dst = P.dst r none c) (h3 : sm = P.sem (r, jl))
    {hsrc : src.view.WordExact} {hdst : dst.view.WordExact}
    {hsem : DmaTarget.Typed (nD := nD) .hbm (.dma sm) (.here (τ := τ) (p := .tc) dst)}
    {k : PUnit → Prog (TpuEff nD τ sig Val Λ .tc) α}
    (h : P.St E κ c l ((r, ⟨T, T2, jl :: W, G, Z⟩) :: bs) ⊢ wp frame (wpE defs 𝒱 (c.tc : Thread nD τ) none) Set.univ (k ⟨⟩) Q) :
    P.St E κ c l ((r, ⟨none :: T, T2, W, G, Z⟩) :: bs)
      ⊢ wp frame (wpE defs 𝒱 (c.tc : Thread nD τ) none) Set.univ
          (.op (.enqueueDma src (.here dst) (.dma sm) hsrc hdst hsem) k) Q := by
  subst h1 h2 h3
  have hpay (fd : Buf Val ((P.dst r none c).view.loc (c.tc : Thread nD τ))) :
      iprop(((P.dst r none c).view.loc (c.tc : Thread nD τ) ↦[(P.dst r none c).view.set]{fullShare}
          ((P.dst r none c).view.write Val fd ((P.src r none c).view.read Val (P.C r none c)) Finset.univ))
        ∗ ((P.src r none c).view.loc (c.tc : Thread nD τ) ↦[(P.src r none c).view.set]{P.q r none} P.C r none c))
      ⊢ P.sched.payload (P.cell c (r, jl)) 0 () := by
    rw [payload_cell]
    exact sep_mono (P.landing r none c fd) .rfl
  have hs : P.srcp r none c ⊢ ((P.src r none c).view.loc (c.tc : Thread nD τ) ↦[(P.src r none c).view.set]{P.q r none} P.C r none c : sProp 𝕄) := .rfl
  have hinv := P.env_inv E κ c (r, jl)
  have hre := P.env_reached E κ c (r, jl)
  have hop (fd : Buf Val ((P.dst r none c).view.loc (c.tc : Thread nD τ))) :=
    wp_copy_pointsTo (defs := defs) (Γ := .empty) (Q := Q) (hsrc := hsrc) (hdst := hdst) (hsem := hsem) (k := k) 𝒱 E P.sched (c.tc : Thread nD τ) none
      (κ := κ (P.cell c (r, jl))) (P.mem_duties c (r, jl)) () (P.amt r) (P.hamt r none c) (P.amount_cell c (r, jl) 0 ()) (hpay fd) (Es := Set.univ)
  unfold St helds
  simp only [sepL_cons, held]
  unfold todo openp far
  iintro ⟨#He, Ho, ⟨⟨⟨⟨⟨%fd, Hd⟩, Ht, -, Ha⟩, Hs⟩, HT⟩, HT2, HW, HG, HZ⟩, Hbs⟩
  ihave Hs := hs $$ Hs
  ihave #Hi := hinv $$ He
  ihave #Hr := hre $$ He
  iapply (hop fd) $$ [Hs Hd Ht]
  · isplitr; · iexact Hi
    isplitl [Hs]; · iexact Hs
    isplitl [Hd]; · iexact Hd
    isplitl [Ht]; · iexact Ht
    iexact Hr
  iintro Hc
  iapply h
  unfold St helds
  simp only [sepL_cons, held]
  unfold hold
  isplitr; · iexact He
  isplitl [Ho]; · iexact Ho
  isplitr [Hbs]
  · isplitl [HT]; · iexact HT
    isplitl [HT2]; · iexact HT2
    isplitl [HW Ha Hc]
    · isplitl [Ha Hc]
      · isplitl [Ha]; · iexact Ha
        iexact Hc
      · iexact HW
    isplitl [HG]; · iexact HG
    iexact HZ
  · iexact Hbs

/-- A copy to another device, from its source and its right to be started. -/
theorem send_core {i : Fin 7} {c' : Dev nD} {src dst : Memref sig .tc .hbm (P.S r) (P.e r)} {sS sR : DmaSem sig}
    (h0 : c' = P.peer i c) (h1 : src = P.src r (some i) c) (h2 : dst = P.dst r (some i) c)
    (h3 : sS = P.sem (r, js i)) (h4 : sR = P.sem (r, jr i))
    {hsc : dst.view.ref.isScScratch = false} {hsrc : src.view.WordExact} {hdst : dst.view.WordExact}
    {hsem : DmaTarget.Typed (nD := nD) .hbm (.dma sR) (.remote (τ := τ) (p := .tc) (c'.tc : Thread nD τ) dst (.dma sS) hsc)}
    {k : PUnit → Prog (TpuEff nD τ sig Val Λ .tc) α} :
    iprop(P.env E κ ∗ (∃ W, owes (c.tc : Thread nD τ) (P.debt c ((r, i) :: l)) W) ∗ P.todo E r (some i) c ∗ P.srcp r (some i) c)
      ⊢ iprop(((∃ W, owes (c.tc : Thread nD τ) (P.debt c l) W) ∗ P.hold E c (r, js i)
            -∗ wp frame (wpE defs 𝒱 (c.tc : Thread nD τ) none) Set.univ (k ⟨⟩) Q)
          -∗ wp frame (wpE defs 𝒱 (c.tc : Thread nD τ) none) Set.univ
          (.op (.enqueueDma src (.remote (c'.tc : Thread nD τ) dst (.dma sS) hsc) (.dma sR) hsrc hdst hsem) k) Q) := by
  subst h0 h1 h2 h3 h4
  have hpay1 : ((P.src r (some i) c).view.loc (c.tc : Thread nD τ) ↦[(P.src r (some i) c).view.set]{P.q r (some i)} P.C r (some i) c : sProp 𝕄)
      ⊢ P.sched.payload (P.cell c (r, js i)) 0 () := by
    rw [payload_cell]; exact .rfl
  have hpay2 (fd : Buf Val ((P.dst r (some i) c).view.loc ((P.peer i c).tc : Thread nD τ))) :
      ((P.dst r (some i) c).view.loc ((P.peer i c).tc : Thread nD τ) ↦[(P.dst r (some i) c).view.set]{fullShare}
          ((P.dst r (some i) c).view.write Val fd ((P.src r (some i) c).view.read Val (P.C r (some i) c)) Finset.univ) : sProp 𝕄)
      ⊢ P.sched.payload (P.cell (P.peer i c) (r, jr i)) 0 () := by
    rw [payload_cell]
    exact (P.landing r (some i) c fd).trans (P.rx_of r i c)
  have hs : P.srcp r (some i) c ⊢ ((P.src r (some i) c).view.loc (c.tc : Thread nD τ) ↦[(P.src r (some i) c).view.set]{P.q r (some i)} P.C r (some i) c : sProp 𝕄) := .rfl
  have hinv1 := P.env_inv E κ c (r, js i)
  have hre1 := P.env_reached E κ c (r, js i)
  have hinv2 := P.env_inv E κ (P.peer i c) (r, jr i)
  have hre2 := P.env_reached E κ (P.peer i c) (r, jr i)
  have hop (fd : Buf Val ((P.dst r (some i) c).view.loc ((P.peer i c).tc : Thread nD τ))) (W) :=
    wp_send_pointsTo (defs := defs) (Γ := .empty) (Q := Q) (hsrc := hsrc) (hdst := hdst) (hsem := hsem) (k := k) 𝒱 E P.sched (c.tc : Thread nD τ) none
      (κ₁ := κ (P.cell c (r, js i))) (κ₂ := κ (P.cell (P.peer i c) (r, jr i)))
      (P.mem_duties c (r, js i)) (P.mem_duties (P.peer i c) (r, jr i)) () () (P.amt r) (P.hamt r (some i) c)
      (P.amount_cell c (r, js i) 0 ()) (P.amount_cell (P.peer i c) (r, jr i) 0 ()) (P.debt c l) (rfl : P.debt c ((r, i) :: l) = _) (W := W)
      hpay1 (hpay2 fd) (Es := Set.univ)
  unfold todo openp far hold
  iintro ⟨#He, ⟨%W, Ho⟩, ⟨⟨%fd, Hd⟩, Ht, Hf, Ha⟩, Hs⟩ Hk
  ihave Hs := hs $$ Hs
  ihave #Hi1 := hinv1 $$ He
  ihave #Hr1 := hre1 $$ He
  ihave #Hi2 := hinv2 $$ He
  ihave #Hr2 := hre2 $$ He
  iapply (hop fd W) $$ [Hs Hd Ht Hf Ho]
  · isplitr; · iexact Hi1
    isplitr; · iexact Hi2
    isplitl [Hs]; · iexact Hs
    isplitl [Hd]; · iexact Hd
    isplitl [Ho]; · iexact Ho
    isplitl [Ht]; · iexact Ht
    isplitr; · iexact Hr1
    isplitl [Hf]; · iexact Hf
    iexact Hr2
  iintro ⟨Hc, Ho⟩
  iapply Hk
  isplitl [Ho]
  · iexists W; iexact Ho
  isplitl [Ha]; · iexact Ha
  iexact Hc

/-- Starting a copy to another device whose source is at hand. -/
theorem start_send (i : Fin 7) {c' : Dev nD} {src dst : Memref sig .tc .hbm (P.S r) (P.e r)} {sS sR : DmaSem sig}
    (h0 : c' = P.peer i c) (h1 : src = P.src r (some i) c) (h2 : dst = P.dst r (some i) c)
    (h3 : sS = P.sem (r, js i)) (h4 : sR = P.sem (r, jr i))
    {hsc : dst.view.ref.isScScratch = false} {hsrc : src.view.WordExact} {hdst : dst.view.WordExact}
    {hsem : DmaTarget.Typed (nD := nD) .hbm (.dma sR) (.remote (τ := τ) (p := .tc) (c'.tc : Thread nD τ) dst (.dma sS) hsc)}
    {k : PUnit → Prog (TpuEff nD τ sig Val Λ .tc) α}
    (h : P.St E κ c l ((r, ⟨T, T2, js i :: W, G, Z⟩) :: bs) ⊢ wp frame (wpE defs 𝒱 (c.tc : Thread nD τ) none) Set.univ (k ⟨⟩) Q) :
    P.St E κ c ((r, i) :: l) ((r, ⟨some i :: T, T2, W, G, Z⟩) :: bs)
      ⊢ wp frame (wpE defs 𝒱 (c.tc : Thread nD τ) none) Set.univ
          (.op (.enqueueDma src (.remote (c'.tc : Thread nD τ) dst (.dma sS) hsc) (.dma sR) hsrc hdst hsem) k) Q := by
  have hc := P.send_core E defs 𝒱 (κ := κ) (l := l) (Q := Q) h0 h1 h2 h3 h4 (hsc := hsc) (hsrc := hsrc) (hdst := hdst) (hsem := hsem) (k := k)
  unfold St helds
  simp only [sepL_cons, held]
  iintro ⟨#He, Ho, ⟨⟨⟨Ht, Hs⟩, HT⟩, HT2, HW, HG, HZ⟩, Hbs⟩
  iapply hc $$ [Ho Ht Hs]
  · isplitr; · iexact He
    isplitl [Ho]; · iexact Ho
    isplitl [Ht]; · iexact Ht
    iexact Hs
  iintro ⟨Ho, Hh⟩
  iapply h
  unfold St helds
  simp only [sepL_cons, held]
  isplitr; · iexact He
  isplitl [Ho]; · iexact Ho
  isplitr [Hbs]
  · isplitl [HT]; · iexact HT
    isplitl [HT2]; · iexact HT2
    isplitl [HW Hh]
    · isplitl [Hh] <;> iassumption
    isplitl [HG]; · iexact HG
    iexact HZ
  · iexact Hbs

/-- Starting a copy to another device that passes on what a landed copy brought. -/
theorem start_fwd (i a : Fin 7) {G' : List Jx} (hG : G.Perm (jr a :: G')) (hrx : P.rx r a c ⊢ P.srcp r (some i) c)
    {c' : Dev nD} {src dst : Memref sig .tc .hbm (P.S r) (P.e r)} {sS sR : DmaSem sig}
    (h0 : c' = P.peer i c) (h1 : src = P.src r (some i) c) (h2 : dst = P.dst r (some i) c)
    (h3 : sS = P.sem (r, js i)) (h4 : sR = P.sem (r, jr i))
    {hsc : dst.view.ref.isScScratch = false} {hsrc : src.view.WordExact} {hdst : dst.view.WordExact}
    {hsem : DmaTarget.Typed (nD := nD) .hbm (.dma sR) (.remote (τ := τ) (p := .tc) (c'.tc : Thread nD τ) dst (.dma sS) hsc)}
    {k : PUnit → Prog (TpuEff nD τ sig Val Λ .tc) α}
    (h : P.St E κ c l ((r, ⟨T, T2, js i :: W, G', Z⟩) :: bs) ⊢ wp frame (wpE defs 𝒱 (c.tc : Thread nD τ) none) Set.univ (k ⟨⟩) Q) :
    P.St E κ c ((r, i) :: l) ((r, ⟨T, some i :: T2, W, G, Z⟩) :: bs)
      ⊢ wp frame (wpE defs 𝒱 (c.tc : Thread nD τ) none) Set.univ
          (.op (.enqueueDma src (.remote (c'.tc : Thread nD τ) dst (.dma sS) hsc) (.dma sR) hsrc hdst hsem) k) Q := by
  have hc := P.send_core E defs 𝒱 (κ := κ) (l := l) (Q := Q) h0 h1 h2 h3 h4 (hsc := hsc) (hsrc := hsrc) (hdst := hdst) (hsem := hsem) (k := k)
  have hp : P.pay c (r, jr a) ⊢ P.srcp r (some i) c := hrx
  unfold St helds
  simp only [sepL_cons, held]
  rw [sepL_perm hG]
  simp only [sepL_cons]
  iintro ⟨#He, Ho, ⟨HT, ⟨Ht, HT2⟩, HW, ⟨Hs, HG⟩, HZ⟩, Hbs⟩
  ihave Hs' := hp $$ Hs
  iapply hc $$ [Ho Ht Hs']
  · isplitr; · iexact He
    isplitl [Ho]; · iexact Ho
    isplitl [Ht]; · iexact Ht
    iexact Hs'
  iintro ⟨Ho, Hh⟩
  iapply h
  unfold St helds
  simp only [sepL_cons, held]
  isplitr; · iexact He
  isplitl [Ho]; · iexact Ho
  isplitr [Hbs]
  · isplitl [HT]; · iexact HT
    isplitl [HT2]; · iexact HT2
    isplitl [HW Hh]
    · isplitl [Hh] <;> iassumption
    isplitl [HG]; · iexact HG
    iexact HZ
  · iexact Hbs

/-- Waiting on one of the semaphores. -/
theorem wait (j : Jx) {W' : List Jx} (hW : W.Perm (j :: W')) (hl : ∀ x ∈ l, P.klvl j < P.lvl x.2)
    {sp sp' : Space} {s : Shape} {e : EltTy} {src : Memref sig .tc sp s e} {dst : Memref sig .tc sp' s e} {sm : DmaSem sig}
    (h1 : sm = P.sem (r, j)) (h2 : dst.view.dmaCredit = P.amt r)
    {hsrc : src.view.WordExact} {hdst : dst.view.WordExact}
    {k : PUnit → Prog (TpuEff nD τ sig Val Λ .tc) α}
    (h : P.St E κ c l ((r, ⟨T, T2, W', j :: G, j :: Z⟩) :: bs) ⊢ wp frame (wpE defs 𝒱 (c.tc : Thread nD τ) none) Set.univ (k ⟨⟩) Q) :
    P.St E κ c l ((r, ⟨T, T2, W, G, Z⟩) :: bs)
      ⊢ wp frame (wpE defs 𝒱 (c.tc : Thread nD τ) none) Set.univ (.op (.waitDma2 sm src dst hsrc hdst) k) Q := by
  subst h1
  have hinv := P.env_inv E κ c (r, j)
  have hlv := P.env_lev E κ
  have hmw := P.mayWait c (r, j) l hl
  have hop (W) := wp_wait_rest_token (defs := defs) (Γ := .empty) (Q := Q) (k := k) 𝒱 E P.sched (c.tc : Thread nD τ) none
      (w := .waitDma2 (P.sem (r, j)) src dst hsrc hdst) (sm := .dma (P.sem (r, j)))
      (κ := κ (P.cell c (r, j))) (wpE_waitDma2_eq 𝒱 (c.tc : Thread nD τ) none Set.univ) (Set.mem_univ _) () (O := P.debt c l) (W := W)
      (R := 0) (m := 0) (T := ∅) (show 0 + dst.view.dmaCredit = P.sched.expect (P.cell c (r, j)) 0 by rw [expect_cell, h2, Nat.zero_add])
  have hpay : bigSep (P.sched.duties (P.cell c (r, j)) 0 \ ∅) (fun d => P.sched.payload (P.cell c (r, j)) 0 d) = P.pay c (r, j) := by
    rw [duties_cell, Finset.sdiff_empty, BI.bigSep_singleton, payload_cell]
  rw [h2] at hop
  unfold St helds
  simp only [sepL_cons, held]
  rw [sepL_perm hW]
  simp only [sepL_cons]
  unfold hold
  iintro ⟨#He, ⟨%Wt, Ho⟩, ⟨HT, HT2, ⟨⟨Ha, Hc⟩, HW⟩, HG, HZ⟩, Hbs⟩
  ihave #Hi := hinv $$ He
  ihave #Hlv := hlv $$ He
  ihave Hmw := hmw $$ Hlv
  iapply (hop Wt) $$ [Ha Hc Ho Hmw]
  · isplitr; · iexact Hi
    isplitl [Hc]; · iexact Hc
    isplitl [Ho]; · iexact Ho
    isplitl [Hmw]; · iexact Hmw
    iexact Ha
  iintro ⟨Ho, Ha, -, Hp⟩
  iapply h
  unfold St helds
  simp only [sepL_cons, held]
  unfold hold past
  isplitr; · iexact He
  isplitl [Ho]; · iexists _; iexact Ho
  isplitr [Hbs]
  · isplitl [HT]; · iexact HT
    isplitl [HT2]; · iexact HT2
    isplitl [HW]; · iexact HW
    isplitl [HG Hp]
    · isplitl [Hp]
      · rw [← hpay]; iexact Hp
      · iexact HG
    isplitl [Ha]; · iexact Ha
    iexact HZ
  · iexact Hbs

/-- Turning to the next array. -/
theorem next {b : Fin n × Stand} {X : sProp 𝕄} (h : P.St E κ c l (bs ++ [b]) ⊢ X) : P.St E κ c l (b :: bs) ⊢ X := by
  unfold St helds at *
  rw [sepL_perm (List.perm_append_singleton b bs).symm]
  exact h

end Rules

end Plan

end Cert.Comm
-- ==== Proof.Comm.PlanLaunch.lean ====
/-
# Launching a plan of copies

What the launch hands out, dealt over the devices so that every device starts with the destinations of its own
copies, wherever they lie, the duties it performs, and the right to wait on its own semaphores; and what is left
when every semaphore has been waited on.
-/
module

public import proofs.«01_k».proof.Proof.Comm.Plan

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section SepL

variable {M : Type} [URA M] {A B : Type}

theorem sep_emp_left (P : sProp M) : iprop(emp ∗ P) = P := by
  have h1 : iprop(emp ∗ P) ⊢ P := by
    iintro ⟨-, H⟩; iexact H
  have h2 : P ⊢ iprop(emp ∗ P) := by
    iintro H; isplitr; · iempintro
    iexact H
  exact Entails.antisymm h1 h2

theorem sep_group (P Q R : sProp M) : iprop((P ∗ Q) ∗ R) = iprop(P ∗ Q ∗ R) := by
  have h1 : iprop((P ∗ Q) ∗ R) ⊢ iprop(P ∗ Q ∗ R) := by
    iintro ⟨⟨H1, H2⟩, H3⟩; isplitl [H1]; · iexact H1
    isplitl [H2] <;> iassumption
  have h2 : iprop(P ∗ Q ∗ R) ⊢ iprop((P ∗ Q) ∗ R) := by
    iintro ⟨H1, H2, H3⟩; isplitl [H1 H2]
    · isplitl [H1] <;> iassumption
    · iexact H3
  exact Entails.antisymm h1 h2

theorem sep_shuffle (P Q R S : sProp M) : iprop((P ∗ Q) ∗ R ∗ S) = iprop(((P ∗ R) ∗ Q) ∗ S) := by
  rw [sep_group, sep_group, sep_group, sep_swap Q]

/-- Over an appended list. -/
theorem sepL_append (l l' : List A) (Φ : A → sProp M) : sepL (l ++ l') Φ = iprop(sepL l Φ ∗ sepL l' Φ) := by
  induction l with
  | nil => rw [sepL_nil, sep_emp_left]; rfl
  | cons a l ih => rw [List.cons_append, sepL_cons, sepL_cons, ih, sep_group]

/-- Over a mapped list. -/
theorem sepL_map (f : B → A) (l : List B) (Φ : A → sProp M) : sepL (l.map f) Φ = sepL l (fun b => Φ (f b)) := by
  induction l with
  | nil => rfl
  | cons a l ih => rw [List.map_cons, sepL_cons, sepL_cons, ih]

/-- Over lists laid end to end. -/
theorem sepL_flatMap (f : B → List A) (l : List B) (Φ : A → sProp M) :
    sepL (l.flatMap f) Φ = sepL l (fun b => sepL (f b) Φ) := by
  induction l with
  | nil => rfl
  | cons a l ih => rw [List.flatMap_cons, sepL_append, sepL_cons, ih]

/-- Pointwise equality. -/
theorem sepL_congr {Φ Ψ : A → sProp M} (l : List A) (h : ∀ a, Φ a = Ψ a) : sepL l Φ = sepL l Ψ := by
  rw [show Φ = Ψ from funext h]

/-- A finite conjunction and one over a list commute. -/
theorem bigSep_sepL [DecidableEq B] (s : Finset B) (l : List A) (Φ : B → A → sProp M) :
    bigSep s (fun b => sepL l (Φ b)) = sepL l (fun a => bigSep s (fun b => Φ b a)) := by
  induction l with
  | nil => exact BI.bigSep_emp_const s
  | cons a l ih => simp only [sepL_cons]; rw [bigSep_sep', ih]

/-- What is persistent goes to every conjunct. -/
theorem bigSep_persistent [DecidableEq B] (s : Finset B) {R : sProp M} [BI.Persistent R] {Φ Ψ : B → sProp M}
    (h : ∀ i, iprop(R ∗ Φ i) ⊢ Ψ i) : iprop(R ∗ bigSep s Φ) ⊢ bigSep s Ψ :=
  (sep_mono_left (BI.bigSep_of_persistent s R)).trans (by rw [← bigSep_sep']; exact BI.bigSep_mono fun i _ => h i)

end SepL

/-- The copies to other devices, in order. -/
def allI : List (Fin 7) := [0, 1, 2, 3, 4, 5, 6]
/-- All copies of an array. -/
def allCp : List Cp := none :: allI.map some
/-- All semaphores of an array: those at the copying device, those at the receiver. -/
def allJx : List Jx := allCp.map jown ++ allI.map jr

theorem allJx_nodup : allJx.Nodup := by decide
theorem mem_allJx : ∀ k : Jx, k ∈ allJx := by
  rintro (_ | i | i)
  · exact List.mem_cons_self ..
  · exact List.mem_append_left _ (List.mem_map.mpr ⟨some i, List.mem_cons_of_mem _ (List.mem_map.mpr ⟨i, by fin_cases i <;> simp [allI], rfl⟩), rfl⟩)
  · exact List.mem_append_right _ (List.mem_map.mpr ⟨i, by fin_cases i <;> simp [allI], rfl⟩)

namespace Plan

variable {nD : ℕ} {τ : Topo} {sig : RefSig} {Val : EltTy → Type} {U : Type} [URA U] {n : ℕ}

local notation "𝕄" => MT nD τ sig Unit Val ℕ U ℕ

variable (P : Plan nD τ sig Val U n)
variable (E : Emb (URounds (GSem nD τ sig) Unit) (MT nD τ sig Unit Val ℕ U ℕ))

/-- All copies of all arrays to other devices. -/
def allSends (n : ℕ) : List (Fin n × Fin 7) := (List.finRange n).flatMap fun r => allI.map fun i => (r, i)

/-- A conjunction over a device's semaphores, array by array. -/
theorem over_keys (Φ : Fin n × Jx → sProp 𝕄) :
    bigSep Finset.univ Φ = sepL (List.finRange n) fun r =>
      iprop(sepL allCp (fun j => Φ (r, jown j)) ∗ sepL allI (fun i => Φ (r, jr i))) := by
  rw [BI.bigSep_univ_prod, bigSep_univ_eq_sepL (List.finRange n) (List.nodup_finRange n) List.mem_finRange]
  refine sepL_congr _ fun r => ?_
  rw [bigSep_univ_eq_sepL allJx allJx_nodup mem_allJx, allJx, sepL_append, sepL_map, sepL_map]

/-- The tokens as minted: one per semaphore. -/
def minted : Finset (GSem nD τ sig × ℕ × Unit) :=
  P.cells.map ⟨fun g => (g, 0, ()), fun _ _ h => (Prod.mk.inj h).1⟩

/-- A conjunction over all semaphores, device by device. -/
theorem over_cells (Φ : GSem nD τ sig → sProp 𝕄) :
    bigSep P.cells Φ = bigSep Finset.univ fun c : Dev nD => bigSep Finset.univ fun k => Φ (P.cell c k) := by
  unfold cells
  rw [BI.bigSep_map, BI.bigSep_univ_prod]
  rfl

/-- The tokens dealt to the devices that perform the duties. -/
theorem tokens_dealt :
    (bigSep Finset.univ fun c : Dev nD => bigSep Finset.univ fun k => (dutyTok E (P.cell c k) 0 () : sProp 𝕄))
      = bigSep Finset.univ fun c : Dev nD => sepL (List.finRange n) fun r =>
          iprop(sepL allCp (fun j => dutyTok E (P.cell c (r, jown j)) 0 ()) ∗ sepL allCp (fun j => P.far E r c j)) := by
  have h1 : (bigSep Finset.univ fun c : Dev nD => bigSep Finset.univ fun k => (dutyTok E (P.cell c k) 0 () : sProp 𝕄))
      = bigSep Finset.univ fun c : Dev nD => sepL (List.finRange n) fun r =>
          iprop(sepL allCp (fun j => dutyTok E (P.cell c (r, jown j)) 0 ()) ∗ sepL allI (fun i => dutyTok E (P.cell c (r, jr i)) 0 ())) :=
    BI.bigSep_congr fun c _ => over_keys _
  have h2 (c : Dev nD) (r : Fin n) : sepL allCp (fun j => P.far E r c j)
      = sepL allI (fun i => (dutyTok E (P.cell (P.peer i c) (r, jr i)) 0 () : sProp 𝕄)) := by
    rw [allCp, sepL_cons, sepL_map]
    exact sep_emp_left _
  rw [h1]
  simp only [h2, sepL_sep, bigSep_sep', bigSep_sepL]
  congr 1
  refine sepL_congr _ fun r => sepL_congr _ fun i => ?_
  exact BI.bigSep_univ_equiv (P.peer i) (fun c : Dev nD => (dutyTok E (P.cell c (r, jr i)) 0 () : sProp 𝕄))

/-- The launch's credit is one for each copy to arrive. -/
theorem credit_dealt (l : List (Fin n × Fin 7)) (c : Dev nD) :
    (launchCred (fun d => P.debt d l) c : sProp 𝕄)
      ⊢ sepL l fun x => cred (tallyAt (P.cell c (x.1, jr x.2)) () (P.amt x.1)) := by
  induction l with
  | nil =>
    refine (Entails.of_eq (launchCred_zero c)).trans ?_
    exact .rfl
  | cons x l ih =>
    have h := launchCred_add (Ix := Unit) (Val := Val) (Name := ℕ) (U := U) (Lvl := ℕ) (fun d => P.debt d l) (fun d => P.due d x) c
    refine (Entails.of_eq h).trans ?_
    have h2 : (launchCred (fun d => P.due d x) c : sProp 𝕄) ⊢ cred (tallyAt (P.cell c (x.1, jr x.2)) () (P.amt x.1)) :=
      launchCred_tallyAt (.dma (P.sem (x.1, jr x.2))) (P.peer x.2) (P.peer x.2).symm (fun c => (P.peer x.2).apply_symm_apply c)
        (fun d => (P.peer x.2).symm_apply_apply d) () (P.amt x.1) c
    rw [sepL_cons]
    iintro ⟨H1, H2⟩
    isplitl [H2]
    · iapply h2 $$ H2
    · iapply ih $$ H1

/-- How every array stands at the start. -/
def stand0 (T T2 : List Cp) : Stand := ⟨T, T2, allI.map jr, [], []⟩
/-- All arrays. -/
def stands (n : ℕ) (b : Stand) : List (Fin n × Stand) := (List.finRange n).map fun r => (r, b)

/-- From the pieces dealt to one device to what it starts with. -/
theorem device_start (T T2 : List Cp) (hT : (T ++ T2).Perm allCp) (l : List (Fin n × Fin 7)) (hl : l.Perm (allSends n)) (c : Dev nD) :
    iprop((bigSep Finset.univ fun k => (atPos E (P.cell c k) 0 ∅ 0 : sProp 𝕄))
        ∗ (sepL (List.finRange n) fun r =>
            iprop(sepL allCp (fun j => dutyTok E (P.cell c (r, jown j)) 0 ()) ∗ sepL allCp (fun j => P.far E r c j)))
        ∗ launchCred (fun d => P.debt d l) c
        ∗ sepL (List.finRange n) fun r => iprop(sepL allCp (fun j => P.openp r j c) ∗ sepL T (fun j => P.srcp r j c)))
      ⊢ P.helds E c (stands n (stand0 T T2)) := by
  have hcr : (launchCred (fun d => P.debt d l) c : sProp 𝕄)
      ⊢ sepL (List.finRange n) fun r => sepL allI fun i => cred (tallyAt (P.cell c (r, jr i)) () (P.amt r)) := by
    refine (P.credit_dealt l c).trans (Entails.of_eq ?_)
    rw [sepL_perm hl, allSends, sepL_flatMap]
    exact sepL_congr _ fun r => sepL_map _ _ _
  have hheld (r : Fin n) : P.held E r c (stand0 T T2)
      = iprop(((sepL allCp (fun j => P.openp r j c) ∗ sepL allCp (fun j => dutyTok E (P.cell c (r, jown j)) 0 ())
          ∗ sepL allCp (fun j => P.far E r c j) ∗ sepL allCp (fun j => atPos E (P.cell c (r, jown j)) 0 ∅ 0))
          ∗ sepL T (fun j => P.srcp r j c))
        ∗ (sepL allI (fun i => atPos E (P.cell c (r, jr i)) 0 ∅ 0) ∗ sepL allI (fun i => cred (tallyAt (P.cell c (r, jr i)) () (P.amt r))))
        ∗ (emp ∗ emp)) := by
    have ht : sepL allCp (fun j => P.todo E r j c) = iprop(sepL T (fun j => P.todo E r j c) ∗ sepL T2 (fun j => P.todo E r j c)) := by
      rw [← sepL_perm hT, sepL_append]
    have ht' : sepL allCp (fun j => P.todo E r j c) = iprop(sepL allCp (fun j => P.openp r j c) ∗ sepL allCp (fun j => dutyTok E (P.cell c (r, jown j)) 0 ())
          ∗ sepL allCp (fun j => P.far E r c j) ∗ sepL allCp (fun j => atPos E (P.cell c (r, jown j)) 0 ∅ 0)) := by
      rw [← sepL_sep, ← sepL_sep, ← sepL_sep]
      rfl
    have hw : sepL (allI.map jr) (fun k => P.hold E c (r, k))
        = iprop(sepL allI (fun i => atPos E (P.cell c (r, jr i)) 0 ∅ 0) ∗ sepL allI (fun i => cred (tallyAt (P.cell c (r, jr i)) () (P.amt r)))) := by
      rw [sepL_map, ← sepL_sep]
      rfl
    unfold held stand0
    simp only [sepL_nil]
    rw [hw, ← ht', ht, sepL_sep]
    exact sep_shuffle _ _ _ _
  unfold helds stands
  rw [sepL_map]
  simp only [hheld, sepL_sep, over_keys]
  iintro ⟨⟨Ha1, Ha2⟩, ⟨Ht, Hf⟩, Hc, Ho, Hs⟩
  ihave Hc := hcr $$ Hc
  isplitl [Ha1 Ht Hf Ho Hs]
  · isplitr [Hs]
    · isplitl [Ho]; · iexact Ho
      isplitl [Ht]; · iexact Ht
      isplitl [Hf]; · iexact Hf
      iexact Ha1
    · iexact Hs
  isplitl [Ha2 Hc]
  · isplitl [Ha2] <;> iassumption
  · rw [show sepL (List.finRange n) (fun _ => (iprop(emp) : sProp 𝕄)) = iprop(emp) from by
      induction (List.finRange n) with
      | nil => rfl
      | cons a l ih => rw [sepL_cons, ih]; exact sep_emp_left _]
    isplitl <;> iempintro

/-- The launch: from the semaphores at zero, the ghost state, the levels, the credit, and for every device the
    destinations of its copies and the sources at hand, to the devices' starting states. -/
theorem fund_plan [E.LandsIn (upEmb : UEmb _ (MT nD τ sig Unit Val ℕ U ℕ))] (T T2 : List Cp) (hT : (T ++ T2).Perm allCp)
    (l : List (Fin n × Fin 7)) (hl : l.Perm (allSends n)) :
    iprop((bigSep Finset.univ fun c : Dev nD => bigSep Finset.univ fun k => (semVal (P.cell c k) 0 : sProp 𝕄))
        ∗ BI.own (E (launchOf P.cells ∅ P.minted)) ∗ levAts lix P.lev
        ∗ (bigSep Finset.univ fun c : Dev nD => launchCred (fun d => P.debt d l) c)
        ∗ bigSep Finset.univ fun c : Dev nD => sepL (List.finRange n) fun r =>
            iprop(sepL allCp (fun j => P.openp r j c) ∗ sepL T (fun j => P.srcp r j c)))
      ⊢ |={Set.univ}=> bigSep Finset.univ fun c : Dev nD =>
          iprop(∃ κ, P.env E κ ∗ P.helds E c (stands n (stand0 T T2))) := by
  have hsv : (bigSep Finset.univ fun c : Dev nD => bigSep Finset.univ fun k => (semVal (P.cell c k) 0 : sProp 𝕄))
      ⊢ bigSep P.cells fun g => (semVal g 0 : sProp 𝕄) := Entails.of_eq (P.over_cells fun g => semVal g 0).symm
  have hat : (bigSep P.cells fun g => (atPos E g 0 ∅ 0 : sProp 𝕄))
      ⊢ bigSep Finset.univ fun c : Dev nD => bigSep Finset.univ fun k => atPos E (P.cell c k) 0 ∅ 0 := Entails.of_eq (P.over_cells fun g => atPos E g 0 ∅ 0)
  have htk : (bigSep P.minted fun x => (dutyTok E x.1 x.2.1 x.2.2 : sProp 𝕄))
      ⊢ bigSep Finset.univ fun c : Dev nD => sepL (List.finRange n) fun r =>
          iprop(sepL allCp (fun j => dutyTok E (P.cell c (r, jown j)) 0 ()) ∗ sepL allCp (fun j => P.far E r c j)) := by
    refine Entails.of_eq ?_
    rw [← tokens_dealt]
    unfold minted
    rw [BI.bigSep_map]
    exact P.over_cells fun g => dutyTok E g 0 ()
  have hf := fund_launch E P.sched (Lvl := ℕ) (S := P.cells) (Sd := ∅) (Finset.disjoint_empty_right _) (fun g hg => absurd hg (Finset.notMem_empty g))
    P.minted (avoid := ∅) (Es := Set.univ)
  rw [Finset.union_empty] at hf
  have hdev (κ : GSem nD τ sig → ℕ) :
      iprop(P.env E κ ∗ (bigSep Finset.univ fun c : Dev nD => bigSep Finset.univ fun k => (atPos E (P.cell c k) 0 ∅ 0 : sProp 𝕄))
        ∗ (bigSep Finset.univ fun c : Dev nD => sepL (List.finRange n) fun r =>
            iprop(sepL allCp (fun j => dutyTok E (P.cell c (r, jown j)) 0 ()) ∗ sepL allCp (fun j => P.far E r c j)))
        ∗ (bigSep Finset.univ fun c : Dev nD => launchCred (fun d => P.debt d l) c)
        ∗ bigSep Finset.univ fun c : Dev nD => sepL (List.finRange n) fun r =>
            iprop(sepL allCp (fun j => P.openp r j c) ∗ sepL T (fun j => P.srcp r j c)))
      ⊢ bigSep Finset.univ fun c : Dev nD => iprop(∃ κ, P.env E κ ∗ P.helds E c (stands n (stand0 T T2))) := by
    rw [← bigSep_sep', ← bigSep_sep', ← bigSep_sep']
    refine bigSep_persistent _ fun c => ?_
    have h := P.device_start E T T2 hT l hl c
    iintro ⟨He, H⟩
    iexists κ
    isplitl [He]; · iexact He
    iapply h $$ H
  iintro ⟨Hsv, Hu, Hlv, Hcr, Hd⟩
  ihave Hsv := hsv $$ Hsv
  imod hf $$ [Hsv Hu] with ⟨%κ, -, Hinv, Hr, Ha, -, Ht⟩
  · isplitl [Hsv] <;> iassumption
  imodintro
  ihave Ha := hat $$ Ha
  ihave Ht := htk $$ Ht
  iapply (hdev κ)
  isplitl [Hinv Hr Hlv]
  · unfold env
    isplitl [Hinv]; · iexact Hinv
    isplitl [Hr] <;> iassumption
  isplitl [Ha]; · iexact Ha
  isplitl [Ht]; · iexact Ht
  isplitl [Hcr] <;> iassumption

/-! ## The end -/

/-- A semaphore waited on reads zero again and is the device's own. -/
theorem close_one (κ : GSem nD τ sig → ℕ) (c : Dev nD) (k : Fin n × Jx) :
    iprop(P.env E κ ∗ P.past E c k) ⊢ |={Set.univ}=> semVal (P.cell c k) 0 := by
  have h := cell_close E P.sched (g := P.cell c k) (κ := κ (P.cell c k)) (Es := Set.univ) (Lvl := ℕ) (Set.mem_univ _) (fun h => h) (R := 1)
    fun r hr => P.duties_later (P.cell c k) hr
  have hi := P.env_inv E κ c k
  unfold past
  iintro ⟨He, Ha⟩
  ihave Hi := hi $$ He
  iapply h
  isplitl [Hi] <;> iassumption

/-- All those of a list. -/
theorem close_list {A : Type} (κ : GSem nD τ sig → ℕ) (c : Dev nD) (l : List A) (f : A → Fin n × Jx) :
    iprop(P.env E κ ∗ sepL l fun a => P.past E c (f a)) ⊢ |={Set.univ}=> sepL l fun a => semVal (P.cell c (f a)) 0 := by
  induction l with
  | nil =>
    simp only [sepL_nil]
    iintro -
    imodintro
    iempintro
  | cons a l ih =>
    simp only [sepL_cons]
    have h1 := P.close_one E κ c (f a)
    iintro ⟨#He, Ha, Hl⟩
    imod h1 $$ [Ha] with Ha
    · isplitr; · iexact He
      iexact Ha
    imod ih $$ [Hl] with Hl
    · isplitr; · iexact He
      iexact Hl
    imodintro
    isplitl [Ha] <;> iassumption

/-- When every copy has been made and every semaphore waited on, the payloads are at hand and the semaphores are
    the device's own, at zero. -/
theorem finish (κ : GSem nD τ sig → ℕ) (c : Dev nD) (G Z : List Jx) (hZ : Z.Perm allJx) :
    P.St E κ c [] (stands n ⟨[], [], [], G, Z⟩)
      ⊢ |={Set.univ}=> iprop((sepL (List.finRange n) fun r => sepL G fun k => P.pay c (r, k))
          ∗ (bigSep Finset.univ fun k => semVal (P.cell c k) 0) ∗ ∃ W, owes (c.tc : Thread nD τ) 0 W) := by
  have hcl := P.close_list E κ c ((List.finRange n).flatMap fun r => Z.map fun k => (r, k)) id
  have hz : (bigSep Finset.univ fun k => (semVal (P.cell c k) 0 : sProp 𝕄))
      = sepL ((List.finRange n).flatMap fun r => Z.map fun k => (r, k)) fun k => semVal (P.cell c k) 0 := by
    rw [sepL_flatMap, BI.bigSep_univ_prod, bigSep_univ_eq_sepL (List.finRange n) (List.nodup_finRange n) List.mem_finRange]
    refine sepL_congr _ fun r => ?_
    rw [sepL_map, bigSep_univ_eq_sepL allJx allJx_nodup mem_allJx, sepL_perm hZ]
  have hp : (sepL (List.finRange n) fun r => sepL Z fun k => P.past E c (r, k))
      ⊢ sepL ((List.finRange n).flatMap fun r => Z.map fun k => (r, k)) fun k => P.past E c k := by
    refine Entails.of_eq ?_
    rw [sepL_flatMap]
    exact sepL_congr _ fun r => (sepL_map _ _ _).symm
  rw [hz]
  unfold St helds stands
  rw [sepL_map]
  unfold held
  simp only [sepL_sep]
  iintro ⟨#He, Ho, -, -, -, HG, HZ⟩
  ihave HZ := hp $$ HZ
  imod hcl $$ [HZ] with HZ
  · isplitr; · iexact He
    iexact HZ
  imodintro
  isplitl [HG]; · iexact HG
  isplitl [HZ]; · iexact HZ
  iexact Ho

end Plan

end Cert.Comm
-- ==== Proof.Comm.Whole.lean ====
/-
# The run of a program that makes a plan's copies in one call

From the launch: the arrays are dealt out as the plan says, every device makes its call, and goes on with what its
copies brought back.
-/
module

public import proofs.«01_k».proof.Proof.Comm.PlanLaunch

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {U : Type} [URA U] {n : ℕ}
variable {Λ₀ : Labels} {P : Type} [Fintype P] [DecidableEq P] (pcs : P → PCfg sig Λ₀ Val) (a : (p : P) → (pcs p).Adm)
  (phinj : Function.Injective (cellOf (nD := nD) (τ := τ) (pin pcs a))) (p : P)
  (hw : WinFacts₀ (pcs p).spec)
  (EP : Emb (URounds (GSem nD τ sig) Unit) (MT nD τ sig Unit Val ℕ U ℕ))
  (defs₀ : Defs nD τ sig Val Λ₀) (𝒱₀ : Variants)

local notation "𝕄" => MT nD τ sig Unit Val ℕ U ℕ

include phinj hw EP in
/-- A program whose @main begins with the call that makes the plan's copies. -/
theorem plan_run [∀ e, Nonempty (Val e)] [hE0 : IsEmpty (Fin (pin pcs a p).W)] [hK : IsEmpty (Fin (pcs p).pre.K)]
    (hN : (pin pcs a p).N = 1) (pl : Plan nD τ sig Val U n)
    (ho : OwnSemFacts (pcs p).spec (fun k : Fin n × Jx => .dma (pl.sem k)))
    (E : Emb (URounds (GSem nD τ sig) Unit) (MT nD τ sig Unit Val ℕ U ℕ)) [E.LandsIn (upEmb : UEmb _ (MT nD τ sig Unit Val ℕ U ℕ))]
    (u₀ : U) (hu : (ownU u₀ : sProp 𝕄) ⊢ BI.own (E (launchOf pl.cells ∅ pl.minted)))
    (T T2 : List Cp) (hT : (T ++ T2).Perm allCp) (l : List (Fin n × Fin 7)) (hl : l.Perm (Plan.allSends n))
    (G Z : List Jx) (hZ : Z.Perm allJx)
    (m : (ℓ : Loc nD τ sig) → Buf Val ℓ) (g : Dev nD → PrngReg)
    (rest : Dev nD → sProp 𝕄)
    (hstart : (bigSep Finset.univ fun c : Dev nD => (unscopedBufs c (fun b => m ((c.tc : Thread nD τ).loc b)) : sProp 𝕄))
      ⊢ bigSep Finset.univ fun c : Dev nD => iprop((sepL (List.finRange n) fun r =>
            iprop(sepL allCp (fun j => pl.openp r j c) ∗ sepL T (fun j => pl.srcp r j c))) ∗ rest c))
    (hbody : ∀ (c : Dev nD) (κ : GSem nD τ sig → ℕ) (t : Fin (pin pcs a p).N),
      pl.St E κ c l (Plan.stands n (Plan.stand0 T T2))
        ⊢ wp frame (wpE defs₀ 𝒱₀ (c.tc : Thread nD τ) none) Set.univ
            (defs₀ .tc (pin pcs a p).body ((pin pcs a p).bodyArgs t ((pin pcs a p).slots t)))
            fun _ => pl.St E κ c [] (Plan.stands n ⟨[], [], [], G, Z⟩))
    (main : Dev nD → Prog (TpuEff nD τ sig Val (Sig Λ₀ P fun p => (pcs p).Adm) Proc.tc) PUnit)
    (k : Dev nD → PUnit → Prog (TpuEff nD τ sig Val (Sig Λ₀ P fun p => (pcs p).Adm) Proc.tc) PUnit)
    (hmain : ∀ c, main c = .op (.customCall (entry p) ()) (k c))
    (fin : Dev nD → sProp 𝕄)
    (hk : ∀ c, iprop((sepL (List.finRange n) fun r => sepL G fun j => pl.pay c (r, j)) ∗ rest c ∗ boundary (c.tc : Thread nD τ)
          ∗ ∃ W, owes (c.tc : Thread nD τ) (0 : CellTallies nD τ sig Unit) W)
        ⊢ wp frame (wpE (Pipeline.defs pcs defs₀) (Variants.lift 𝒱₀) (c.tc : Thread nD τ) none) Set.univ (k c ⟨⟩) fun _ =>
          iprop((fin c ∗ scopedSems0 (c.tc : Thread nD τ)) ∗ ∃ W, owes (c.tc : Thread nD τ) (0 : CellTallies nD τ sig Unit) W))
    (QY : Dev nD → MemSt nD τ sig Val → Prop)
    (hY : ∀ c (s' : Phys nD τ sig Val), iprop(fin c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let osem : Fin n × Jx → SemLoc sig := fun k => .dma (pl.sem k)
  let O : Dev nD → CellTallies nD τ sig Unit := fun d => pl.debt d l
  let S : Dev nD → sProp 𝕄 := fun c => iprop(∃ κ, pl.env E κ ∗ pl.helds E c (Plan.stands n (Plan.stand0 T T2)))
  let pre : Dev nD → sProp 𝕄 := fun c => iprop(S c ∗ owes (c.tc : Thread nD τ) (O c) ∅ ∗ idleSems0 (pin pcs a) phinj p ho c
    ∗ scopedBufs (c.tc : Thread nD τ) ∗ opIdle (c.tc : Thread nD τ) ∗ rest c)
  have hemp {n : ℕ} [IsEmpty (Fin n)] (f : Fin n → sProp 𝕄) : (bigSep Finset.univ f : sProp 𝕄) = BI.emp := by
    rw [Finset.univ_eq_empty, BI.bigSep_empty]
  have hos (c : Dev nD) : (ownSems0 osem c : sProp 𝕄) = bigSep Finset.univ fun k => semVal (pl.cell c k) 0 := rfl
  have hsp (c : Dev nD) : (scopedSems0 (c.tc : Thread nD τ) : sProp 𝕄)
      ⊢ iprop((bigSep Finset.univ fun k => semVal (pl.cell c k) 0) ∗ idleSems0 (pin pcs a) phinj p ho c) := by
    rw [scopedSems0_split (pin pcs a) phinj p hw ho c]
    unfold cellsSems0 PerCore.cellsSems0
    rw [hemp]
    have h1 : (ownSems0 (fun k : Fin n × Jx => (.dma (pl.sem k) : SemLoc sig)) c : sProp 𝕄) ⊢ _ := Entails.of_eq (hos c)
    iintro ⟨⟨-, H⟩, Hi⟩
    isplitl [H]
    · iapply h1 $$ H
    · iexact Hi
  have hone (c : Dev nD) : (dealt O m g c : sProp 𝕄) ⊢ iprop((bigSep Finset.univ fun k => semVal (pl.cell c k) 0)
      ∗ launchCred O c ∗ unscopedBufs c (fun b => m ((c.tc : Thread nD τ).loc b))
      ∗ (owes (c.tc : Thread nD τ) (O c) ∅ ∗ idleSems0 (pin pcs a) phinj p ho c ∗ scopedBufs (c.tc : Thread nD τ) ∗ opIdle (c.tc : Thread nD τ))) := by
    have h := hsp c
    unfold dealt boundary
    iintro ⟨⟨Hsb, Hss, Hop⟩, Hub, -, HO, -, Hcr⟩
    ihave H := h $$ Hss
    icases H with ⟨Hs, Hi⟩
    isplitl [Hs]; · iexact Hs
    isplitl [Hcr]; · iexact Hcr
    isplitl [Hub]; · iexact Hub
    isplitl [HO]; · iexact HO
    isplitl [Hi]; · iexact Hi
    isplitl [Hsb] <;> iassumption
  have hall : (bigSep Finset.univ (dealt O m g) : sProp 𝕄) ⊢ iprop((bigSep Finset.univ fun c : Dev nD => bigSep Finset.univ fun k => semVal (pl.cell c k) 0)
      ∗ (bigSep Finset.univ fun c : Dev nD => launchCred O c)
      ∗ (bigSep Finset.univ fun c : Dev nD => unscopedBufs c (fun b => m ((c.tc : Thread nD τ).loc b)))
      ∗ bigSep Finset.univ fun c : Dev nD => iprop(owes (c.tc : Thread nD τ) (O c) ∅
        ∗ idleSems0 (pin pcs a) phinj p ho c ∗ scopedBufs (c.tc : Thread nD τ) ∗ opIdle (c.tc : Thread nD τ))) := by
    rw [← bigSep_sep', ← bigSep_sep', ← bigSep_sep']
    exact BI.bigSep_mono fun c _ => hone c
  have hf := pl.fund_plan E T T2 hT l hl
  have hst := hstart
  rw [bigSep_sep'] at hst
  have hpre : iprop(bigSep Finset.univ S ∗ (bigSep Finset.univ fun c : Dev nD => iprop(owes (c.tc : Thread nD τ) (O c) ∅
      ∗ idleSems0 (pin pcs a) phinj p ho c ∗ scopedBufs (c.tc : Thread nD τ) ∗ opIdle (c.tc : Thread nD τ))) ∗ bigSep Finset.univ rest)
      ⊢ bigSep Finset.univ pre := by
    rw [← bigSep_sep', ← bigSep_sep']
    refine BI.bigSep_mono fun c _ => ?_
    show _ ⊢ iprop(S c ∗ owes (c.tc : Thread nD τ) (O c) ∅ ∗ idleSems0 (pin pcs a) phinj p ho c
      ∗ scopedBufs (c.tc : Thread nD τ) ∗ opIdle (c.tc : Thread nD τ) ∗ rest c)
    iintro ⟨HS, ⟨HO, Hi, Hsb, Hop⟩, HR⟩
    isplitl [HS]; · iexact HS
    isplitl [HO]; · iexact HO
    isplitl [Hi]; · iexact Hi
    isplitl [Hsb]; · iexact Hsb
    isplitl [Hop] <;> iassumption
  refine run_dealt (Pipeline.defs pcs defs₀) (Variants.lift 𝒱₀) m g main O Plan.lix pl.lev ?_ u₀ pre fin ?_ (fun c => ?_) QY hY hQ
  · intro g hg
    unfold Plan.lix
    rw [if_neg]
    exact hg
  · iintro ⟨Hd, Hlv, Hu⟩
    ihave H := hall $$ Hd
    icases H with ⟨Hs, Hcr, Hub, Hr⟩
    ihave Hu := hu $$ Hu
    ihave Hb := hst $$ Hub
    icases Hb with ⟨Hb, Hrest⟩
    imod hf $$ [Hs Hu Hlv Hcr Hb] with HS
    · isplitl [Hs]; · iexact Hs
      isplitl [Hu]; · iexact Hu
      isplitl [Hlv]; · iexact Hlv
      isplitl [Hcr]; · iexact Hcr
      iexact Hb
    imodintro
    iapply hpre
    isplitl [HS]; · iexact HS
    isplitl [Hr] <;> iassumption
  · rw [hmain c]
    have hb (t : Fin (pin pcs a p).N) (W : Finset (SemLoc sig × Unit)) : iprop(S c ∗ owes (c.tc : Thread nD τ) (O c) W)
        ⊢ wp frame (wpE defs₀ 𝒱₀ (c.tc : Thread nD τ) none) Set.univ
            (defs₀ .tc (pin pcs a p).body ((pin pcs a p).bodyArgs t ((pin pcs a p).slots t)))
            fun _ => iprop(((sepL (List.finRange n) fun r => sepL G fun j => pl.pay c (r, j)) ∗ ownSems0 osem c)
              ∗ ∃ W', owes (c.tc : Thread nD τ) (0 : CellTallies nD τ sig Unit) W') := by
      have hr (X Y Z : sProp 𝕄) : iprop(X ∗ Y ∗ Z) ⊢ iprop((X ∗ Y) ∗ Z) := by
        iintro ⟨HX, HY, HZ⟩
        isplitr [HZ]
        · isplitl [HX] <;> iassumption
        · iexact HZ
      have h1 (κ : GSem nD τ sig → ℕ) : pl.St E κ c l (Plan.stands n (Plan.stand0 T T2)) ⊢ _ :=
        (hbody c κ t).trans ((wp_mono _ _ _ fun _ => (pl.finish E κ c G Z hZ).trans (BI.fupd_mono (hr _ _ _))).trans (wp_fupd _ _ _ _ _))
      unfold Plan.St at h1
      rw [hos]
      iintro ⟨⟨%κ, He, Hh⟩, HO⟩
      iapply (h1 κ)
      isplitl [He]; · iexact He
      isplitl [HO]
      · iexists W; iexact HO
      · iexact Hh
    have hc := wp_call pcs a phinj p hw ho EP defs₀ 𝒱₀ hN S (fun c => iprop(sepL (List.finRange n) fun r => sepL G fun j => pl.pay c (r, j))) O c hb
      (k := k c) (Q := fun _ => iprop((fin c ∗ scopedSems0 (c.tc : Thread nD τ)) ∗ ∃ W, owes (c.tc : Thread nD τ) (0 : CellTallies nD τ sig Unit) W)) ∅
    show iprop(S c ∗ owes (c.tc : Thread nD τ) (O c) ∅ ∗ idleSems0 (pin pcs a) phinj p ho c
      ∗ scopedBufs (c.tc : Thread nD τ) ∗ opIdle (c.tc : Thread nD τ) ∗ rest c) ⊢ _
    have hkc := hk c
    unfold boundary at hkc
    iintro ⟨HS, HO, Hi, Hsb, Hop, HR⟩
    iapply hc $$ [HS HO Hi Hsb]
    · isplitl [HS]; · iexact HS
      isplitl [HO]; · iexact HO
      isplitl [Hi] <;> iassumption
    iintro ⟨HY, HO, Hss, Hsb⟩
    iapply hkc
    isplitl [HY]; · iexact HY
    isplitl [HR]; · iexact HR
    isplitr [HO]
    · isplitl [Hsb]; · iexact Hsb
      isplitl [Hss] <;> iassumption
    iexact HO

end Cert.Comm

end
-- ==== Proof.Comm.Slots.lean ====
/-
# The eight slots of a buffer

A buffer whose leading axis is the device axis, one slot per device. `Slots` is the printed form of a slot (offsets,
sizes, the squeeze of the leading axis); the slots of a whole buffer are disjoint and fill it.
-/
module

public import proofs.«01_k».proof.Proof.Comm.PlanLaunch

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- How the eight slots of shape `S` lie in an array of shape `O`. -/
structure Slots (S O : Shape) where
  off : Fin 8 → Fin O.rank → ℕ
  sz : Fin O.rank → ℕ
  inb : ∀ s a, off s a + sz a ≤ O.size a
  sq : (⟨O.rank, sz⟩ : Shape).Squeezes S
  ax : Fin O.rank
  off_ax : ∀ s, off s ax = s.val
  sz_ax : sz ax = 1
  size_ax : O.size ax = 8
  off_ne : ∀ s a, a ≠ ax → off s a = 0
  sz_ne : ∀ a, a ≠ ax → sz a = O.size a

section Slot

variable {sig : RefSig} {S O : Shape} {e : EltTy} (L : Slots S O) (m : Memref sig .tc .hbm O e)

/-- The slot `s` of an array. -/
def slot (s : Fin 8) : Memref sig .tc .hbm S e :=
  (m.slice (Rect.unit (L.off s) L.sz (L.inb s)) (fun _ => rfl)).squeeze S L.sq

/-- A slot as a program prints it, at offsets that are the slot's. -/
theorem slot_eq (s : Fin 8) {off : Fin O.rank → ℕ} (h : off = L.off s) (inb : ∀ a, off a + L.sz a ≤ O.size a)
    (sq : (⟨O.rank, L.sz⟩ : Shape).Squeezes S) :
    (m.slice (Rect.unit off L.sz inb) (fun _ => rfl)).squeeze S sq = slot L m s := by
  subst h; rfl

/-- The elements of a slot, as elements of the array. -/
def sset (s : Fin 8) : Finset m.view.ty.Idx := (Rect.unit (L.off s) L.sz (L.inb s)).set.map m.view.emb

theorem slot_set (s : Fin 8) : (slot L m s).view.set = sset L m s := by
  unfold slot sset
  refine (View.set_reshape (v := m.view.slice (Rect.unit (L.off s) L.sz (L.inb s))) _).trans ?_
  exact View.set_slice _ _

theorem mem_slot_rect (s : Fin 8) (i : O.Idx) :
    i ∈ (Rect.unit (L.off s) L.sz (L.inb s)).set ↔ (i L.ax : ℕ) = s.val := by
  rw [Rect.mem_set_unit]
  constructor
  · intro h
    have := h L.ax
    rw [L.off_ax, L.sz_ax] at this
    omega
  · intro h a
    by_cases ha : a = L.ax
    · subst ha
      rw [L.off_ax, L.sz_ax]; omega
    · rw [L.off_ne s a ha, L.sz_ne a ha]
      exact ⟨Nat.zero_le _, by have := (i a).isLt; omega⟩

theorem slot_disjoint {s s' : Fin 8} (h : s ≠ s') : Disjoint (sset L m s) (sset L m s') := by
  unfold sset
  rw [Finset.disjoint_map, Finset.disjoint_left]
  intro i h1 h2
  rw [mem_slot_rect] at h1 h2
  exact h (Fin.ext (h1.symm.trans h2))

theorem slot_cover : (Finset.univ : Finset (Fin 8)).biUnion (sset L m) = m.view.set := by
  ext x
  rw [Finset.mem_biUnion]
  constructor
  · rintro ⟨s, -, h⟩
    unfold sset at h
    exact Finset.map_subset_map.mpr (Finset.subset_univ _) h
  · intro h
    obtain ⟨i, -, rfl⟩ := Finset.mem_map.mp h
    refine ⟨⟨(i L.ax).val, by have := (i L.ax).isLt; have := L.size_ax; omega⟩, Finset.mem_univ _, ?_⟩
    unfold sset
    exact Finset.mem_map_of_mem _ ((mem_slot_rect L _ i).mpr rfl)

variable {nD : ℕ} {τ : Topo} {Val : EltTy → Type} {U : Type} [URA U]
local notation "𝕄" => MT nD τ sig Unit Val ℕ U ℕ

/-- Owning the array is owning its slots. -/
theorem slots_split (d : Dev nD) (q : PosShare TreeShare) (hm : m.IsWhole)
    (f : Buf Val ((m.view).loc (d.tc : Thread nD τ))) (l : List (Fin 8)) (hl : l.Perm (List.finRange 8)) :
    (m.view.loc (d.tc : Thread nD τ) ↦{q} f : sProp (MT nD τ sig Unit Val ℕ U ℕ))
      = sepL l fun s => ((slot L m s).view.loc (d.tc : Thread nD τ) ↦[(slot L m s).view.set]{q} f) := by
  have h1 := pointsTo_biUnion (ℓ := m.view.loc (d.tc : Thread nD τ)) (q := q) (f := f) (Ix := Unit) (Name := ℕ) (U := U) (Lvl := ℕ)
      (Finset.univ : Finset (Fin 8)) (sset L m) (fun s _ s' _ hs => slot_disjoint L m hs)
  rw [show (Finset.univ : Finset (Fin 8)).biUnion (sset L m) = Finset.univ from (slot_cover L m).trans hm.set_eq_univ] at h1
  refine h1.trans ?_
  rw [bigSep_univ_eq_sepL (List.finRange 8) (List.nodup_finRange 8) List.mem_finRange, ← sepL_perm hl]
  refine sepL_congr _ fun s => ?_
  have h2 := slot_set L m s
  exact congrArg (fun I => (m.view.loc (d.tc : Thread nD τ) ↦[I]{q} f : sProp (MT nD τ sig Unit Val ℕ U ℕ))) h2.symm

end Slot

/-! ## Slots along a leading axis of eight -/

section Lead

variable {k : ℕ} (d : Fin k → ℕ)

/-- The slots of an array whose leading axis is the device axis. -/
def lead (sq : (⟨k + 1, Matrix.vecCons 1 d⟩ : Shape).Squeezes ⟨k, d⟩) : Slots ⟨k, d⟩ ⟨k + 1, Matrix.vecCons 8 d⟩ where
  off s := Matrix.vecCons s.val fun _ => 0
  sz := Matrix.vecCons 1 d
  inb s a := by
    refine Fin.cases ?_ (fun b => ?_) a
    · show s.val + 1 ≤ 8
      omega
    · show 0 + d b ≤ d b
      omega
  sq := sq
  ax := 0
  off_ax _ := rfl
  sz_ax := rfl
  size_ax := rfl
  off_ne s a ha := by
    revert ha
    refine Fin.cases (fun h => absurd rfl h) (fun b _ => rfl) a
  sz_ne a ha := by
    revert ha
    refine Fin.cases (fun h => absurd rfl h) (fun b _ => rfl) a

variable {sig : RefSig} {e : EltTy} {Val : EltTy → Type}

/-- Reading a slot is reading the array at the slot's number. -/
theorem lead_read (sq : (⟨k + 1, Matrix.vecCons 1 d⟩ : Shape).Squeezes ⟨k, d⟩)
    (m : Memref sig .tc .hbm ⟨k + 1, Matrix.vecCons 8 d⟩ e) (s : Fin 8) (f : m.view.ty.Contents Val) :
    (slot (lead d sq) m s).view.read Val f
      = fun j => m.view.read Val f (Fin.cons (α := fun a => Fin (Matrix.vecCons 8 d a)) s j) := by
  funext j
  show m.view.read Val f ((Rect.unit ((lead d sq).off s) (lead d sq).sz ((lead d sq).inb s)).emb (Shape.reshapeEquiv _ j)) = _
  refine congrArg (m.view.read Val f) ?_
  have h := Shape.reshapeEquiv_cons_one (d := d) sq.numel_eq j
  funext a
  refine Fin.ext ?_
  refine (congrArg (fun x => ((Rect.unit ((lead d sq).off s) (lead d sq).sz ((lead d sq).inb s)).emb x a : ℕ)) h).trans ?_
  refine Fin.cases ?_ (fun b => ?_) a
  · show s.val + 1 * 0 = s.val
    omega
  · show 0 + 1 * (j b).val = (j b).val
    omega

/-- Eight blocks, one after the other. -/
def gcat {α : Type} (A : Fin 8 → (⟨k, d⟩ : Shape).Idx → α) : (⟨k + 1, Matrix.vecCons 8 d⟩ : Shape).Idx → α :=
  fun i => A (i 0) fun a => i a.succ

/-- Block `c` of the result on device `s` is block `s` of device `c`. -/
def gswap {α : Type} (A : Fin 8 → (⟨k + 1, Matrix.vecCons 8 d⟩ : Shape).Idx → α) (s : Fin 8) :
    (⟨k + 1, Matrix.vecCons 8 d⟩ : Shape).Idx → α :=
  fun i => A (i 0) (Fin.cons (α := fun a => Fin (Matrix.vecCons 8 d a)) s fun a => i a.succ)

end Lead

/-! ## Flips of the device's coordinates -/

/-- The device whose coordinates differ where `k` has a one. -/
def flip (k : Fin 8) : Equiv.Perm (Dev 8) where
  toFun c := c ^^^ k
  invFun c := c ^^^ k
  left_inv := by revert k; decide
  right_inv := by revert k; decide

theorem flip_flip (k c : Fin 8) : flip k (flip k c) = c := by revert k c; decide

end Cert.Comm

end
-- ==== Proof.Comm.Routes.lean ====
/-
# The gather and the exchange as plans of copies

Both over arrays given as memrefs. Every device's array of eight slots is cut into its slots, each the destination of
exactly one copy of some device; at the end the slots, at their final contents, are put together again.
-/
module

public import proofs.«01_k».proof.Proof.Comm.Slots

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The arrays received into: `S` a block, `O` the array of eight blocks, `o` the array, `D` what it holds at the end. -/
structure Data (τ : Topo) (sig : RefSig) (Val : EltTy → Type) (n : ℕ) where
  S : Fin n → Shape
  O : Fin n → Shape
  e : Fin n → EltTy
  lay : (r : Fin n) → Slots (S r) (O r)
  sem : Fin n × Jx → DmaSem sig
  sem_inj : Function.Injective sem
  o : (r : Fin n) → Memref sig .tc .hbm (O r) (e r)
  wo : ∀ r, (o r).IsWhole
  D : (r : Fin n) → (d : Dev 8) → Buf Val ((o r).view.loc (d.tc : Thread 8 τ))
  amt : Fin n → ℕ
  hamt : ∀ r s, (slot (lay r) (o r) s).view.dmaCredit = amt r
  amt_pos : ∀ r, 0 < amt r

/-- The number of a semaphore: seven per array at the sender, then seven per array at the receiver, then one per array. -/
def semNo (n : ℕ) : Fin n × Jx → ℕ
  | (r, none) => 14 * n + r.val
  | (r, some (.inl i)) => 7 * r.val + i.val
  | (r, some (.inr i)) => 7 * n + (7 * r.val + i.val)

theorem semNo_lt (n : ℕ) (k : Fin n × Jx) : semNo n k < 15 * n := by
  obtain ⟨r, _ | i | i⟩ := k
  · show 14 * n + r.val < 15 * n; omega
  · show 7 * r.val + i.val < 15 * n; omega
  · show 7 * n + (7 * r.val + i.val) < 15 * n; omega

theorem semNo_inj (n : ℕ) : Function.Injective (semNo n) := by
  have key (r r' : Fin n) (i i' : Fin 7) (h : 7 * r.val + i.val = 7 * r'.val + i'.val) : r = r' ∧ i = i' :=
    ⟨Fin.ext (by omega), Fin.ext (by omega)⟩
  rintro ⟨r, _ | i | i⟩ ⟨r', _ | i' | i'⟩ h
  · have h : 14 * n + r.val = 14 * n + r'.val := h
    obtain rfl : r = r' := Fin.ext (by omega)
    rfl
  · have h : 14 * n + r.val = 7 * r'.val + i'.val := h
    omega
  · have h : 14 * n + r.val = 7 * n + (7 * r'.val + i'.val) := h
    omega
  · have h : 7 * r.val + i.val = 14 * n + r'.val := h
    omega
  · have h : 7 * r.val + i.val = 7 * r'.val + i'.val := h
    obtain ⟨rfl, rfl⟩ := key r r' i i' h
    rfl
  · have h : 7 * r.val + i.val = 7 * n + (7 * r'.val + i'.val) := h
    omega
  · have h : 7 * n + (7 * r.val + i.val) = 14 * n + r'.val := h
    omega
  · have h : 7 * n + (7 * r.val + i.val) = 7 * r'.val + i'.val := h
    omega
  · have h : 7 * n + (7 * r.val + i.val) = 7 * n + (7 * r'.val + i'.val) := h
    obtain ⟨rfl, rfl⟩ := key r r' i i' (by omega)
    rfl

section Hops

variable (kk : Fin 7 → Fin 8) (blk : Cp → Fin 8 → Fin 8)

/-- Copy `i` goes to the device whose coordinates differ as `kk i` says. -/
def hop : Fin 7 → Equiv.Perm (Dev 8) := fun i => flip (kk i)

/-- The device a copy goes to, as a permutation. -/
def hopJ (j : Cp) : Equiv.Perm (Dev 8) :=
  match j with
  | none => Equiv.refl _
  | some i => flip (kk i)

theorem tgt_hopJ (j : Cp) (c : Dev 8) : tgt (hop kk) j c = hopJ kk j c := by cases j <;> rfl
theorem tgt_tgt (j : Cp) (c : Dev 8) : tgt (hop kk) j (tgt (hop kk) j c) = c := by
  cases j with
  | none => rfl
  | some i => exact flip_flip _ _

/-- The slot that copy `j` fills on device `d`. -/
def slotAt (d : Dev 8) (j : Cp) : Fin 8 := blk j (tgt (hop kk) j d)

variable {τ : Topo} {sig : RefSig} {Val : EltTy → Type} {U : Type} [URA U] {n : ℕ} (X : Data τ sig Val n)

/-- Slot `s` of array `r` on device `d`, at its final contents. -/
def full (r : Fin n) (s : Fin 8) (d : Dev 8) : sProp (MT 8 τ sig Unit Val ℕ U ℕ) :=
  (slot (X.lay r) (X.o r) s).view.loc (d.tc : Thread 8 τ) ↦[(slot (X.lay r) (X.o r) s).view.set]{fullShare} X.D r d

/-- Buffer ownership may lie under a semaphore's invariant. -/
theorem storable_pts {ℓ : Loc 8 τ sig} {I : Finset (Idx ℓ)} {q : PosShare TreeShare} {f : Buf Val ℓ} :
    BI.Storable (upEmb : UEmb _ (MT 8 τ sig Unit Val ℕ U ℕ)) (ℓ ↦[I]{q} f : sProp (MT 8 τ sig Unit Val ℕ U ℕ)) := inferInstance
theorem storable_full (r : Fin n) (s : Fin 8) (d : Dev 8) :
    BI.Storable (upEmb : UEmb _ (MT 8 τ sig Unit Val ℕ U ℕ)) (full X r s d : sProp (MT 8 τ sig Unit Val ℕ U ℕ)) := storable_pts

/-- The slots of an array at their final contents are the array. -/
theorem full_join (r : Fin n) (d : Dev 8) (l : List (Fin 8)) (hl : l.Perm (List.finRange 8)) :
    (sepL l fun s => full X r s d)
      = ((X.o r).view.loc (d.tc : Thread 8 τ) ↦{fullShare} X.D r d : sProp (MT 8 τ sig Unit Val ℕ U ℕ)) :=
  (slots_split (X.lay r) (X.o r) d fullShare (X.wo r) (X.D r d) l hl).symm

/-- Slot `s` of array `r` on device `d`, whatever it holds. -/
def free (r : Fin n) (s : Fin 8) (d : Dev 8) : sProp (MT 8 τ sig Unit Val ℕ U ℕ) :=
  iprop(∃ fd, (slot (X.lay r) (X.o r) s).view.loc (d.tc : Thread 8 τ) ↦[(slot (X.lay r) (X.o r) s).view.set]{fullShare} fd)

theorem sepL_mono' {M : Type} [URA M] {A : Type} {Φ Ψ : A → sProp M} (l : List A) (h : ∀ a, Φ a ⊢ Ψ a) : sepL l Φ ⊢ sepL l Ψ := by
  induction l with
  | nil => exact .rfl
  | cons a l ih => rw [sepL_cons, sepL_cons]; exact BIClass.sep_mono (h a) ih

/-- The second conjunct changed and put first. -/
theorem swap_left {M : Type} [URA M] {A B C : sProp M} (h : B ⊢ C) : iprop(A ∗ B) ⊢ iprop(C ∗ A) := by
  iintro ⟨HA, HB⟩
  isplitl [HB]
  · iapply h $$ HB
  · iexact HA

/-- An array whatever it holds is its slots, whatever they hold. -/
theorem free_split (r : Fin n) (d : Dev 8) (l : List (Fin 8)) (hl : l.Perm (List.finRange 8)) :
    (iprop(∃ f, (X.o r).view.loc (d.tc : Thread 8 τ) ↦{fullShare} f) : sProp (MT 8 τ sig Unit Val ℕ U ℕ))
      ⊢ sepL l fun s => free X r s d := by
  refine exists_elim fun f => ?_
  rw [slots_split (X.lay r) (X.o r) d fullShare (X.wo r) f l hl]
  refine sepL_mono' l fun s => ?_
  unfold free
  exact BIClass.exists_intro (Φ := fun fd => ((slot (X.lay r) (X.o r) s).view.loc (d.tc : Thread 8 τ)
    ↦[(slot (X.lay r) (X.o r) s).view.set]{fullShare} fd : sProp (MT 8 τ sig Unit Val ℕ U ℕ))) f

/-- The arrays of all devices, dealt as the destinations of all devices' copies. -/
theorem free_deal (hp : ∀ d, (allCp.map (slotAt kk blk d)).Perm (List.finRange 8)) (r : Fin n) :
    (bigSep Finset.univ fun d : Dev 8 =>
        (iprop(∃ f, (X.o r).view.loc (d.tc : Thread 8 τ) ↦{fullShare} f) : sProp (MT 8 τ sig Unit Val ℕ U ℕ)))
      ⊢ bigSep Finset.univ fun c : Dev 8 => sepL allCp fun j => free X r (blk j c) (tgt (hop kk) j c) := by
  have h : (bigSep Finset.univ fun d : Dev 8 => sepL allCp fun j => (free X r (slotAt kk blk d j) d : sProp (MT 8 τ sig Unit Val ℕ U ℕ)))
      = bigSep Finset.univ fun c : Dev 8 => sepL allCp fun j => free X r (blk j c) (tgt (hop kk) j c) := by
    rw [bigSep_sepL, bigSep_sepL]
    refine sepL_congr _ fun j => ?_
    rw [BI.bigSep_univ_equiv (hopJ kk j) fun d => (free X r (slotAt kk blk d j) d : sProp (MT 8 τ sig Unit Val ℕ U ℕ))]
    refine BI.bigSep_congr fun c _ => ?_
    rw [← tgt_hopJ]
    unfold slotAt
    rw [tgt_tgt]
  have hm : (bigSep Finset.univ fun d : Dev 8 =>
        (iprop(∃ f, (X.o r).view.loc (d.tc : Thread 8 τ) ↦{fullShare} f) : sProp (MT 8 τ sig Unit Val ℕ U ℕ)))
      ⊢ bigSep Finset.univ fun d : Dev 8 => sepL allCp fun j => (free X r (slotAt kk blk d j) d : sProp (MT 8 τ sig Unit Val ℕ U ℕ)) := by
    refine BI.bigSep_mono fun d _ => ?_
    refine (free_split X r d _ (hp d)).trans (Entails.of_eq ?_)
    rw [sepL_map]
  exact hm.trans (Entails.of_eq h)

end Hops

/-! ## The gather -/

section Gather

/-- The block goes to the sibling and, on the same core, to the three other chips; what came from these goes on to
    the sibling. -/
def gk : Fin 7 → Fin 8 := ![1, 4, 2, 6, 1, 1, 1]
/-- When a copy may start: the forwards after the first four. -/
def glvl : Fin 7 → ℕ := ![1, 1, 1, 1, 2, 2, 2]
/-- Whose block a copy carries. -/
def gblk (j : Cp) (c : Fin 8) : Fin 8 :=
  match j with
  | none => c
  | some 4 => flip 4 c
  | some 5 => flip 2 c
  | some 6 => flip 6 c
  | some _ => c
/-- Whether a copy forwards a slot. -/
def gfwd (j : Cp) : Bool :=
  match j with
  | some 4 => true
  | some 5 => true
  | some 6 => true
  | _ => false
/-- The share of its source a copy holds: the own block is read by five copies. -/
def gq (j : Cp) : PosShare TreeShare :=
  match j with
  | none => fullShare.left
  | some 0 => fullShare.right.left
  | some 1 => fullShare.right.right.left
  | some 2 => fullShare.right.right.right.left
  | some 3 => fullShare.right.right.right.right
  | some _ => fullShare

theorem gfwd_blk (j : Cp) (c : Fin 8) (h : gfwd j = false) : gblk j c = c := by
  revert j c; decide
theorem gslots (d : Dev 8) : (allCp.map (slotAt gk gblk d)).Perm (List.finRange 8) := by
  revert d; decide

theorem gblk4 : ∀ c, gblk (some 4) c = slotAt gk gblk c (some 1) := by decide
theorem gblk5 : ∀ c, gblk (some 5) c = slotAt gk gblk c (some 2) := by decide
theorem gblk6 : ∀ c, gblk (some 6) c = slotAt gk gblk c (some 3) := by decide

/-- A gather: `a` the own blocks, `A` what they hold; every device ends with every block. -/
structure GData (τ : Topo) (sig : RefSig) (Val : EltTy → Type) (n : ℕ) extends Data τ sig Val n where
  a : (r : Fin n) → Memref sig .tc .hbm (S r) (e r)
  wa : ∀ r, (a r).IsWhole
  A : (r : Fin n) → (d : Dev 8) → Buf Val ((a r).view.loc (d.tc : Thread 8 τ))
  hD : ∀ r s d, (a r).view.read Val (A r s) = (slot (lay r) (o r) s).view.read Val (D r d)

variable {τ : Topo} {sig : RefSig} {Val : EltTy → Type} {U : Type} [URA U] {n : ℕ} (X : GData τ sig Val n)

/-- The source of a copy: a slot when it forwards, else the own block. -/
def gsrc (r : Fin n) (b : Bool) (s : Fin 8) : Memref sig .tc .hbm (X.S r) (X.e r) :=
  match b with
  | true => slot (X.lay r) (X.o r) s
  | false => X.a r

/-- What a source holds. -/
def gC (r : Fin n) (b : Bool) (s : Fin 8) (c : Dev 8) : Buf Val ((gsrc X r b s).view.loc (c.tc : Thread 8 τ)) :=
  match b with
  | true => X.D r c
  | false => X.A r c

theorem gland (r : Fin n) (b : Bool) (s : Fin 8) (c d : Dev 8) (h : b = false → s = c) :
    (gsrc X r b s).view.read Val (gC X r b s c) = (slot (X.lay r) (X.o r) s).view.read Val (X.D r d) := by
  cases b with
  | false =>
    obtain rfl := h rfl
    exact X.hD r s d
  | true => exact (X.hD r s c).symm.trans (X.hD r s d)

/-- The gather's plan. -/
def gatherPlan : Plan 8 τ sig Val U n where
  S := X.S
  e := X.e
  sem := X.sem
  sem_inj := X.sem_inj
  peer := hop gk
  lvl := glvl
  q _ := gq
  src r j c := gsrc X r (gfwd j) (gblk j c)
  dst r j c := slot (X.lay r) (X.o r) (gblk j c)
  C r j c := gC X r (gfwd j) (gblk j c) c
  D r j c := X.D r (tgt (hop gk) j c)
  land r j c := gland X r _ _ c _ (gfwd_blk j c)
  amt := X.amt
  hamt r j c := X.hamt r _
  amt_pos := X.amt_pos
  rx r i d := full X.toData r (slotAt gk gblk d (some i)) d
  rxS r i d := storable_full _ _ _ _
  rx_of r i c := by
    have h : slotAt gk gblk (hop gk i c) (some i) = gblk (some i) c := congrArg (gblk (some i)) (flip_flip _ _)
    rw [h]
    exact .rfl

/-- The own blocks, read by five copies. -/
theorem own_shares (r : Fin n) (c : Dev 8) :
    ((X.a r).view.loc (c.tc : Thread 8 τ) ↦{fullShare} X.A r c : sProp (MT 8 τ sig Unit Val ℕ U ℕ))
      = sepL [none, some 0, some 1, some 2, some 3] fun j => (gatherPlan (U := U) X).srcp r j c := by
  have hw : (X.a r).view.set = Finset.univ := (X.wa r).set_eq_univ
  have h (q : PosShare TreeShare) : ((X.a r).view.loc (c.tc : Thread 8 τ) ↦{q} X.A r c : sProp (MT 8 τ sig Unit Val ℕ U ℕ))
      = iprop(((X.a r).view.loc (c.tc : Thread 8 τ) ↦{q.left} X.A r c) ∗ ((X.a r).view.loc (c.tc : Thread 8 τ) ↦{q.right} X.A r c)) :=
    BI.Entails.antisymm (pointsTo_share (PosShare.mem_left_op_right q)).1 (pointsTo_share (PosShare.mem_left_op_right q)).2
  have hs (j : Cp) (hj : gfwd j = false) (q : PosShare TreeShare) (hq : gq j = q) :
      (gatherPlan (U := U) X).srcp r j c = ((X.a r).view.loc (c.tc : Thread 8 τ) ↦{q} X.A r c : sProp (MT 8 τ sig Unit Val ℕ U ℕ)) := by
    unfold Plan.srcp
    subst hq
    show ((gsrc X r (gfwd j) (gblk j c)).view.loc (c.tc : Thread 8 τ) ↦[(gsrc X r (gfwd j) (gblk j c)).view.set]{gq j}
      gC X r (gfwd j) (gblk j c) c : sProp (MT 8 τ sig Unit Val ℕ U ℕ)) = _
    rw [hj]
    exact congrArg (fun I => ((X.a r).view.loc (c.tc : Thread 8 τ) ↦[I]{gq j} X.A r c : sProp (MT 8 τ sig Unit Val ℕ U ℕ))) hw
  simp only [sepL_cons, sepL_nil]
  rw [hs none rfl fullShare.left rfl, hs (some 0) rfl fullShare.right.left rfl,
    hs (some 1) rfl fullShare.right.right.left rfl, hs (some 2) rfl fullShare.right.right.right.left rfl,
    hs (some 3) rfl fullShare.right.right.right.right rfl,
    h fullShare, h fullShare.right, h fullShare.right.right, h fullShare.right.right.right]
  have he (P Q : sProp (MT 8 τ sig Unit Val ℕ U ℕ)) : iprop(P ∗ Q) = iprop(P ∗ Q ∗ emp) := by
    have h1 : iprop(P ∗ Q) ⊢ iprop(P ∗ Q ∗ emp) := by
      iintro ⟨H1, H2⟩; isplitl [H1]; · iexact H1
      isplitl [H2]; · iexact H2
      iempintro
    have h2 : iprop(P ∗ Q ∗ emp) ⊢ iprop(P ∗ Q) := by
      iintro ⟨H1, H2, -⟩; isplitl [H1] <;> iassumption
    exact BI.Entails.antisymm h1 h2
  rw [← he]

/-- From the arrays to what the launch deals out. -/
theorem gather_start :
    (bigSep Finset.univ fun c : Dev 8 => sepL (List.finRange n) fun r =>
        (iprop(((X.a r).view.loc (c.tc : Thread 8 τ) ↦{fullShare} X.A r c) ∗ ∃ f, (X.o r).view.loc (c.tc : Thread 8 τ) ↦{fullShare} f)
          : sProp (MT 8 τ sig Unit Val ℕ U ℕ)))
      ⊢ bigSep Finset.univ fun c : Dev 8 => sepL (List.finRange n) fun r =>
          iprop(sepL allCp (fun j => (gatherPlan (U := U) X).openp r j c)
            ∗ sepL [none, some 0, some 1, some 2, some 3] (fun j => (gatherPlan (U := U) X).srcp r j c)) := by
  rw [bigSep_sepL, bigSep_sepL]
  refine sepL_mono' _ fun r => ?_
  rw [bigSep_sep', bigSep_sep']
  simp only [own_shares]
  refine swap_left ?_
  exact free_deal gk gblk X.toData gslots r

/-- What is left of an array when all its copies are through. -/
theorem gather_end (r : Fin n) (c : Dev 8) (G : List Jx)
    (hG : G.Perm [jl, js 0, js 1, js 2, js 3, js 4, js 5, js 6, jr 0, jr 4, jr 5, jr 6]) :
    (sepL G fun k => (gatherPlan (U := U) X).pay c (r, k))
      ⊢ (iprop(((X.a r).view.loc (c.tc : Thread 8 τ) ↦{fullShare} X.A r c)
          ∗ (X.o r).view.loc (c.tc : Thread 8 τ) ↦{fullShare} X.D r c) : sProp (MT 8 τ sig Unit Val ℕ U ℕ)) := by
  rw [sepL_perm hG, own_shares, ← full_join X.toData r c (allCp.map (slotAt gk gblk c)) (gslots c), sepL_map]
  have hf (i i' : Fin 7) (h1 : gfwd (some i) = true) (h2 : gblk (some i) c = slotAt gk gblk c (some i')) (h3 : gq (some i) = fullShare) :
      (gatherPlan (U := U) X).srcp r (some i) c ⊢ full X.toData r (slotAt gk gblk c (some i')) c := by
    rw [← h2]
    unfold Plan.srcp
    show ((gsrc X r (gfwd (some i)) (gblk (some i) c)).view.loc (c.tc : Thread 8 τ) ↦[(gsrc X r (gfwd (some i)) (gblk (some i) c)).view.set]{gq (some i)}
      gC X r (gfwd (some i)) (gblk (some i) c) c : sProp (MT 8 τ sig Unit Val ℕ U ℕ)) ⊢ _
    rw [h1, h3]
    exact .rfl
  have hl : (gatherPlan (U := U) X).pay c (r, jl)
      ⊢ iprop(full X.toData r (slotAt gk gblk c none) c ∗ (gatherPlan (U := U) X).srcp r none c) := .rfl
  have hrx (i : Fin 7) : (gatherPlan (U := U) X).pay c (r, jr i) ⊢ full X.toData r (slotAt gk gblk c (some i)) c := .rfl
  have hsx (i : Fin 7) : (gatherPlan (U := U) X).pay c (r, js i) ⊢ (gatherPlan (U := U) X).srcp r (some i) c := .rfl
  have h4 := hf 4 1 rfl (gblk4 c) rfl
  have h5 := hf 5 2 rfl (gblk5 c) rfl
  have h6 := hf 6 3 rfl (gblk6 c) rfl
  simp only [sepL_cons, sepL_nil, allCp, allI, List.map_cons, List.map_nil]
  iintro ⟨H, S0, S1, S2, S3, S4, S5, S6, R0, R4, R5, R6, -⟩
  ihave H' := hl $$ H
  icases H' with ⟨HL, HS⟩
  isplitl [HS S0 S1 S2 S3]
  · isplitl [HS]; · iexact HS
    isplitl [S0]; · iapply (hsx 0) $$ S0
    isplitl [S1]; · iapply (hsx 1) $$ S1
    isplitl [S2]; · iapply (hsx 2) $$ S2
    isplitl [S3]; · iapply (hsx 3) $$ S3
    iempintro
  · isplitl [HL]; · iexact HL
    isplitl [R0]; · iapply (hrx 0) $$ R0
    isplitl [S4]; · iapply ((hsx 4).trans h4) $$ S4
    isplitl [S5]; · iapply ((hsx 5).trans h5) $$ S5
    isplitl [S6]; · iapply ((hsx 6).trans h6) $$ S6
    isplitl [R4]; · iapply (hrx 4) $$ R4
    isplitl [R5]; · iapply (hrx 5) $$ R5
    isplitl [R6]; · iapply (hrx 6) $$ R6
    iempintro

/-- A slot that came from another chip is what its forward sends. -/
theorem gather_fwd (r : Fin n) (c : Dev 8) (i a : Fin 7) (h1 : gfwd (some i) = true) (h2 : ∀ c, gblk (some i) c = slotAt gk gblk c (some a))
    (h3 : gq (some i) = fullShare) : (gatherPlan (U := U) X).rx r a c ⊢ (gatherPlan (U := U) X).srcp r (some i) c := by
  show full X.toData r (slotAt gk gblk c (some a)) c ⊢ _
  rw [← h2]
  unfold Plan.srcp
  show _ ⊢ ((gsrc X r (gfwd (some i)) (gblk (some i) c)).view.loc (c.tc : Thread 8 τ) ↦[(gsrc X r (gfwd (some i)) (gblk (some i) c)).view.set]{gq (some i)}
      gC X r (gfwd (some i)) (gblk (some i) c) c : sProp (MT 8 τ sig Unit Val ℕ U ℕ))
  rw [h1, h3]
  exact .rfl

end Gather

/-! ## The exchange -/

section Exchange

/-- The seven other devices. -/
def xk : Fin 7 → Fin 8 := ![1, 2, 3, 4, 5, 6, 7]
/-- A device's copies fill the slot of its number. -/
def xblk (j : Cp) (c : Fin 8) : Fin 8 := c
theorem xslots (d : Dev 8) : (allCp.map (slotAt xk xblk d)).Perm (List.finRange 8) := by
  revert d; decide
theorem xtgts (d : Dev 8) : (allCp.map fun j => tgt (hop xk) j d).Perm (List.finRange 8) := xslots d

/-- An exchange: slot `s` of device `d`'s array goes to slot `d` of device `s`'s. -/
structure XData (τ : Topo) (sig : RefSig) (Val : EltTy → Type) (n : ℕ) extends Data τ sig Val n where
  a : (r : Fin n) → Memref sig .tc .hbm (O r) (e r)
  wa : ∀ r, (a r).IsWhole
  A : (r : Fin n) → (d : Dev 8) → Buf Val ((a r).view.loc (d.tc : Thread 8 τ))
  hD : ∀ r (c d : Dev 8), (slot (lay r) (a r) d).view.read Val (A r c) = (slot (lay r) (o r) c).view.read Val (D r d)

variable {τ : Topo} {sig : RefSig} {Val : EltTy → Type} {U : Type} [URA U] {n : ℕ} (X : XData τ sig Val n)

/-- The exchange's plan. -/
def exchPlan : Plan 8 τ sig Val U n where
  S := X.S
  e := X.e
  sem := X.sem
  sem_inj := X.sem_inj
  peer := hop xk
  lvl _ := 1
  q _ _ := fullShare
  src r j c := slot (X.lay r) (X.a r) (tgt (hop xk) j c)
  dst r j c := slot (X.lay r) (X.o r) c
  C r j c := X.A r c
  D r j c := X.D r (tgt (hop xk) j c)
  land r j c := X.hD r c _
  amt := X.amt
  hamt r j c := X.hamt r _
  amt_pos := X.amt_pos
  rx r i d := full X.toData r (slotAt xk xblk d (some i)) d
  rxS r i d := storable_full _ _ _ _
  rx_of r i c := by
    have h : slotAt xk xblk (hop xk i c) (some i) = c := flip_flip _ _
    rw [h]
    exact .rfl

/-- The array sent, slot by slot. -/
theorem sent_slots (r : Fin n) (c : Dev 8) :
    ((X.a r).view.loc (c.tc : Thread 8 τ) ↦{fullShare} X.A r c : sProp (MT 8 τ sig Unit Val ℕ U ℕ))
      = sepL allCp fun j => (exchPlan (U := U) X).srcp r j c := by
  rw [slots_split (X.lay r) (X.a r) c fullShare (X.wa r) (X.A r c) _ (xtgts c), sepL_map]
  rfl

/-- From the arrays to what the launch deals out. -/
theorem exch_start :
    (bigSep Finset.univ fun c : Dev 8 => sepL (List.finRange n) fun r =>
        (iprop(((X.a r).view.loc (c.tc : Thread 8 τ) ↦{fullShare} X.A r c) ∗ ∃ f, (X.o r).view.loc (c.tc : Thread 8 τ) ↦{fullShare} f)
          : sProp (MT 8 τ sig Unit Val ℕ U ℕ)))
      ⊢ bigSep Finset.univ fun c : Dev 8 => sepL (List.finRange n) fun r =>
          iprop(sepL allCp (fun j => (exchPlan (U := U) X).openp r j c) ∗ sepL allCp (fun j => (exchPlan (U := U) X).srcp r j c)) := by
  rw [bigSep_sepL, bigSep_sepL]
  refine sepL_mono' _ fun r => ?_
  rw [bigSep_sep', bigSep_sep']
  simp only [sent_slots]
  refine swap_left ?_
  exact free_deal xk xblk X.toData xslots r

/-- What is left of an array when all its copies are through. -/
theorem exch_end (r : Fin n) (c : Dev 8) (G : List Jx) (hG : G.Perm allJx) :
    (sepL G fun k => (exchPlan (U := U) X).pay c (r, k))
      ⊢ (iprop(((X.a r).view.loc (c.tc : Thread 8 τ) ↦{fullShare} X.A r c)
          ∗ (X.o r).view.loc (c.tc : Thread 8 τ) ↦{fullShare} X.D r c) : sProp (MT 8 τ sig Unit Val ℕ U ℕ)) := by
  rw [sepL_perm hG, sent_slots, ← full_join X.toData r c (allCp.map (slotAt xk xblk c)) (xslots c), sepL_map]
  have hl : (exchPlan (U := U) X).pay c (r, jl)
      ⊢ iprop(full X.toData r (slotAt xk xblk c none) c ∗ (exchPlan (U := U) X).srcp r none c) := .rfl
  have hrx (i : Fin 7) : (exchPlan (U := U) X).pay c (r, jr i) ⊢ full X.toData r (slotAt xk xblk c (some i)) c := .rfl
  have hsx (i : Fin 7) : (exchPlan (U := U) X).pay c (r, jown (some i)) ⊢ (exchPlan (U := U) X).srcp r (some i) c := .rfl
  unfold allJx
  rw [sepL_append, sepL_map, sepL_map]
  unfold allCp
  rw [sepL_cons, sepL_cons, sepL_cons, sepL_map, sepL_map, sepL_map]
  have h1 := sepL_mono' allI hrx
  have h2 := sepL_mono' allI hsx
  have hj : (exchPlan (U := U) X).pay c (r, jown none)
      ⊢ iprop(full X.toData r (slotAt xk xblk c none) c ∗ (exchPlan (U := U) X).srcp r none c) := hl
  iintro ⟨⟨H, HS⟩, HR⟩
  ihave H' := hj $$ H
  icases H' with ⟨HL, HN⟩
  isplitl [HN HS]
  · isplitl [HN]; · iexact HN
    iapply h2 $$ HS
  · isplitl [HL]; · iexact HL
    iapply h1 $$ HR

end Exchange

end Cert.Comm

end
-- ==== Proof.Comm.Order.lean ====
/-
# The stages of an array

What a device holds of one array after each operation of the gather, and of the exchange, in the kernels' order.
-/
module

public import proofs.«01_k».proof.Proof.Comm.Routes

@[expose] public section

noncomputable section

namespace Cert.Comm

open Idealize.ShloMosaic Idealize.SL Idealize.SL.RA

/-! ## The gather -/

def g0 : Plan.Stand := ⟨[none, some 0, some 1, some 2, some 3], [some 4, some 5, some 6], [jr 0, jr 1, jr 2, jr 3, jr 4, jr 5, jr 6], [], []⟩
def g1 : Plan.Stand := ⟨[some 0, some 1, some 2, some 3], [some 4, some 5, some 6], [jl, jr 0, jr 1, jr 2, jr 3, jr 4, jr 5, jr 6], [], []⟩
def g2 : Plan.Stand := ⟨[some 1, some 2, some 3], [some 4, some 5, some 6], [js 0, jl, jr 0, jr 1, jr 2, jr 3, jr 4, jr 5, jr 6], [], []⟩
def g3 : Plan.Stand := ⟨[some 2, some 3], [some 4, some 5, some 6], [js 1, js 0, jl, jr 0, jr 1, jr 2, jr 3, jr 4, jr 5, jr 6], [], []⟩
def g4 : Plan.Stand := ⟨[some 3], [some 4, some 5, some 6], [js 2, js 1, js 0, jl, jr 0, jr 1, jr 2, jr 3, jr 4, jr 5, jr 6], [], []⟩
def g5 : Plan.Stand := ⟨[], [some 4, some 5, some 6], [js 3, js 2, js 1, js 0, jl, jr 0, jr 1, jr 2, jr 3, jr 4, jr 5, jr 6], [], []⟩
def g6 : Plan.Stand := ⟨[], [some 4, some 5, some 6], [js 3, js 2, js 1, js 0, jl, jr 0, jr 2, jr 3, jr 4, jr 5, jr 6], [jr 1], [jr 1]⟩
def g7 : Plan.Stand := ⟨[], [some 5, some 6], [js 4, js 3, js 2, js 1, js 0, jl, jr 0, jr 2, jr 3, jr 4, jr 5, jr 6], [], [jr 1]⟩
def g8 : Plan.Stand := ⟨[], [some 5, some 6], [js 4, js 3, js 2, js 1, js 0, jl, jr 0, jr 3, jr 4, jr 5, jr 6], [jr 2], [jr 2, jr 1]⟩
def g9 : Plan.Stand := ⟨[], [some 6], [js 5, js 4, js 3, js 2, js 1, js 0, jl, jr 0, jr 3, jr 4, jr 5, jr 6], [], [jr 2, jr 1]⟩
def g10 : Plan.Stand := ⟨[], [some 6], [js 5, js 4, js 3, js 2, js 1, js 0, jl, jr 0, jr 4, jr 5, jr 6], [jr 3], [jr 3, jr 2, jr 1]⟩
def g11 : Plan.Stand := ⟨[], [], [js 6, js 5, js 4, js 3, js 2, js 1, js 0, jl, jr 0, jr 4, jr 5, jr 6], [], [jr 3, jr 2, jr 1]⟩
def g12 : Plan.Stand := ⟨[], [], [js 6, js 5, js 4, js 3, js 2, js 1, js 0, jl, jr 4, jr 5, jr 6], [jr 0], [jr 0, jr 3, jr 2, jr 1]⟩
def g13 : Plan.Stand := ⟨[], [], [js 6, js 5, js 4, js 3, js 2, js 1, js 0, jl, jr 5, jr 6], [jr 4, jr 0], [jr 4, jr 0, jr 3, jr 2, jr 1]⟩
def g14 : Plan.Stand := ⟨[], [], [js 6, js 5, js 4, js 3, js 2, js 1, js 0, jl, jr 6], [jr 5, jr 4, jr 0], [jr 5, jr 4, jr 0, jr 3, jr 2, jr 1]⟩
def g15 : Plan.Stand := ⟨[], [], [js 6, js 5, js 4, js 3, js 2, js 1, js 0, jl], [jr 6, jr 5, jr 4, jr 0], [jr 6, jr 5, jr 4, jr 0, jr 3, jr 2, jr 1]⟩
def g16 : Plan.Stand := ⟨[], [], [js 6, js 5, js 4, js 3, js 2, js 1, jl], [js 0, jr 6, jr 5, jr 4, jr 0], [js 0, jr 6, jr 5, jr 4, jr 0, jr 3, jr 2, jr 1]⟩
def g17 : Plan.Stand := ⟨[], [], [js 6, js 5, js 4, js 3, js 2, jl], [js 1, js 0, jr 6, jr 5, jr 4, jr 0], [js 1, js 0, jr 6, jr 5, jr 4, jr 0, jr 3, jr 2, jr 1]⟩
def g18 : Plan.Stand := ⟨[], [], [js 6, js 5, js 4, js 3, jl], [js 2, js 1, js 0, jr 6, jr 5, jr 4, jr 0], [js 2, js 1, js 0, jr 6, jr 5, jr 4, jr 0, jr 3, jr 2, jr 1]⟩
def g19 : Plan.Stand := ⟨[], [], [js 6, js 5, js 4, jl], [js 3, js 2, js 1, js 0, jr 6, jr 5, jr 4, jr 0], [js 3, js 2, js 1, js 0, jr 6, jr 5, jr 4, jr 0, jr 3, jr 2, jr 1]⟩
def g20 : Plan.Stand := ⟨[], [], [js 6, js 5, jl], [js 4, js 3, js 2, js 1, js 0, jr 6, jr 5, jr 4, jr 0], [js 4, js 3, js 2, js 1, js 0, jr 6, jr 5, jr 4, jr 0, jr 3, jr 2, jr 1]⟩
def g21 : Plan.Stand := ⟨[], [], [js 6, jl], [js 5, js 4, js 3, js 2, js 1, js 0, jr 6, jr 5, jr 4, jr 0], [js 5, js 4, js 3, js 2, js 1, js 0, jr 6, jr 5, jr 4, jr 0, jr 3, jr 2, jr 1]⟩
def g22 : Plan.Stand := ⟨[], [], [jl], [js 6, js 5, js 4, js 3, js 2, js 1, js 0, jr 6, jr 5, jr 4, jr 0], [js 6, js 5, js 4, js 3, js 2, js 1, js 0, jr 6, jr 5, jr 4, jr 0, jr 3, jr 2, jr 1]⟩
def g23 : Plan.Stand := ⟨[], [], [], [jl, js 6, js 5, js 4, js 3, js 2, js 1, js 0, jr 6, jr 5, jr 4, jr 0], [jl, js 6, js 5, js 4, js 3, js 2, js 1, js 0, jr 6, jr 5, jr 4, jr 0, jr 3, jr 2, jr 1]⟩

/-! ## The exchange -/

def x0 : Plan.Stand := ⟨[none, some 0, some 1, some 2, some 3, some 4, some 5, some 6], [], [jr 0, jr 1, jr 2, jr 3, jr 4, jr 5, jr 6], [], []⟩
def x1 : Plan.Stand := ⟨[some 0, some 1, some 2, some 3, some 4, some 5, some 6], [], [jl, jr 0, jr 1, jr 2, jr 3, jr 4, jr 5, jr 6], [], []⟩
def x2 : Plan.Stand := ⟨[some 1, some 2, some 3, some 4, some 5, some 6], [], [js 0, jl, jr 0, jr 1, jr 2, jr 3, jr 4, jr 5, jr 6], [], []⟩
def x3 : Plan.Stand := ⟨[some 2, some 3, some 4, some 5, some 6], [], [js 1, js 0, jl, jr 0, jr 1, jr 2, jr 3, jr 4, jr 5, jr 6], [], []⟩
def x4 : Plan.Stand := ⟨[some 3, some 4, some 5, some 6], [], [js 2, js 1, js 0, jl, jr 0, jr 1, jr 2, jr 3, jr 4, jr 5, jr 6], [], []⟩
def x5 : Plan.Stand := ⟨[some 4, some 5, some 6], [], [js 3, js 2, js 1, js 0, jl, jr 0, jr 1, jr 2, jr 3, jr 4, jr 5, jr 6], [], []⟩
def x6 : Plan.Stand := ⟨[some 5, some 6], [], [js 4, js 3, js 2, js 1, js 0, jl, jr 0, jr 1, jr 2, jr 3, jr 4, jr 5, jr 6], [], []⟩
def x7 : Plan.Stand := ⟨[some 6], [], [js 5, js 4, js 3, js 2, js 1, js 0, jl, jr 0, jr 1, jr 2, jr 3, jr 4, jr 5, jr 6], [], []⟩
def x8 : Plan.Stand := ⟨[], [], [js 6, js 5, js 4, js 3, js 2, js 1, js 0, jl, jr 0, jr 1, jr 2, jr 3, jr 4, jr 5, jr 6], [], []⟩
def x9 : Plan.Stand := ⟨[], [], [js 6, js 5, js 4, js 3, js 2, js 1, js 0, jl, jr 1, jr 2, jr 3, jr 4, jr 5, jr 6], [jr 0], [jr 0]⟩
def x10 : Plan.Stand := ⟨[], [], [js 6, js 5, js 4, js 3, js 2, js 1, js 0, jl, jr 2, jr 3, jr 4, jr 5, jr 6], [jr 1, jr 0], [jr 1, jr 0]⟩
def x11 : Plan.Stand := ⟨[], [], [js 6, js 5, js 4, js 3, js 2, js 1, js 0, jl, jr 3, jr 4, jr 5, jr 6], [jr 2, jr 1, jr 0], [jr 2, jr 1, jr 0]⟩
def x12 : Plan.Stand := ⟨[], [], [js 6, js 5, js 4, js 3, js 2, js 1, js 0, jl, jr 4, jr 5, jr 6], [jr 3, jr 2, jr 1, jr 0], [jr 3, jr 2, jr 1, jr 0]⟩
def x13 : Plan.Stand := ⟨[], [], [js 6, js 5, js 4, js 3, js 2, js 1, js 0, jl, jr 5, jr 6], [jr 4, jr 3, jr 2, jr 1, jr 0], [jr 4, jr 3, jr 2, jr 1, jr 0]⟩
def x14 : Plan.Stand := ⟨[], [], [js 6, js 5, js 4, js 3, js 2, js 1, js 0, jl, jr 6], [jr 5, jr 4, jr 3, jr 2, jr 1, jr 0], [jr 5, jr 4, jr 3, jr 2, jr 1, jr 0]⟩
def x15 : Plan.Stand := ⟨[], [], [js 6, js 5, js 4, js 3, js 2, js 1, js 0, jl], [jr 6, jr 5, jr 4, jr 3, jr 2, jr 1, jr 0], [jr 6, jr 5, jr 4, jr 3, jr 2, jr 1, jr 0]⟩
def x16 : Plan.Stand := ⟨[], [], [js 6, js 5, js 4, js 3, js 2, js 1, js 0], [jl, jr 6, jr 5, jr 4, jr 3, jr 2, jr 1, jr 0], [jl, jr 6, jr 5, jr 4, jr 3, jr 2, jr 1, jr 0]⟩
def x17 : Plan.Stand := ⟨[], [], [js 6, js 5, js 4, js 3, js 2, js 1], [js 0, jl, jr 6, jr 5, jr 4, jr 3, jr 2, jr 1, jr 0], [js 0, jl, jr 6, jr 5, jr 4, jr 3, jr 2, jr 1, jr 0]⟩
def x18 : Plan.Stand := ⟨[], [], [js 6, js 5, js 4, js 3, js 2], [js 1, js 0, jl, jr 6, jr 5, jr 4, jr 3, jr 2, jr 1, jr 0], [js 1, js 0, jl, jr 6, jr 5, jr 4, jr 3, jr 2, jr 1, jr 0]⟩
def x19 : Plan.Stand := ⟨[], [], [js 6, js 5, js 4, js 3], [js 2, js 1, js 0, jl, jr 6, jr 5, jr 4, jr 3, jr 2, jr 1, jr 0], [js 2, js 1, js 0, jl, jr 6, jr 5, jr 4, jr 3, jr 2, jr 1, jr 0]⟩
def x20 : Plan.Stand := ⟨[], [], [js 6, js 5, js 4], [js 3, js 2, js 1, js 0, jl, jr 6, jr 5, jr 4, jr 3, jr 2, jr 1, jr 0], [js 3, js 2, js 1, js 0, jl, jr 6, jr 5, jr 4, jr 3, jr 2, jr 1, jr 0]⟩
def x21 : Plan.Stand := ⟨[], [], [js 6, js 5], [js 4, js 3, js 2, js 1, js 0, jl, jr 6, jr 5, jr 4, jr 3, jr 2, jr 1, jr 0], [js 4, js 3, js 2, js 1, js 0, jl, jr 6, jr 5, jr 4, jr 3, jr 2, jr 1, jr 0]⟩
def x22 : Plan.Stand := ⟨[], [], [js 6], [js 5, js 4, js 3, js 2, js 1, js 0, jl, jr 6, jr 5, jr 4, jr 3, jr 2, jr 1, jr 0], [js 5, js 4, js 3, js 2, js 1, js 0, jl, jr 6, jr 5, jr 4, jr 3, jr 2, jr 1, jr 0]⟩
def x23 : Plan.Stand := ⟨[], [], [], [js 6, js 5, js 4, js 3, js 2, js 1, js 0, jl, jr 6, jr 5, jr 4, jr 3, jr 2, jr 1, jr 0], [js 6, js 5, js 4, js 3, js 2, js 1, js 0, jl, jr 6, jr 5, jr 4, jr 3, jr 2, jr 1, jr 0]⟩

variable {τ : Topo} {sig : RefSig} {Val : EltTy → Type} {U : Type} [URA U] {n : ℕ}

/-- A device may wait for one of the first three blocks from afar while it owes blocks that it passes on. -/
theorem gather_low (X : GData τ sig Val n) (a : Fin 3) {l : List (Fin n × Fin 7)} (h : ∀ x ∈ l, 1 < glvl x.2) :
    ∀ x ∈ l, (gatherPlan (U := U) X).klvl (jr a.succ.castSucc.castSucc.castSucc) < (gatherPlan (U := U) X).lvl x.2 := by
  intro x hx
  have h1 : (gatherPlan (U := U) X).klvl (jr a.succ.castSucc.castSucc.castSucc) = 1 := by
    show glvl a.succ.castSucc.castSucc.castSucc = 1
    revert a; decide
  rw [h1]
  exact h x hx

end Cert.Comm

end
-- ==== Proof.Small.Data.lean ====
/-
# The gather of one array: its plan

The kernel gathers the blocks of one array. Its semaphores, arrays and contents as a plan of copies, and what its
printed offsets and device numbers are.
-/
module

public import proofs.«01_k».proof.Proof.Comm.Routes
public import proofs.«01_k».proof.Proof.Gen.KernelIdeal.Skeleton
public import proofs.«01_k».proof.Proof.Gen.KernelIdeal.Launch

@[expose] public section

noncomputable section

namespace Cert.Small

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.KernelIdeal Cert.KernelIdeal.Gen

variable {F : FTy → Type} [FloatOps F]

/-- The semaphores: seven at the sender, seven at the receiver, one for the local copy. -/
def semOf (k : Fin 1 × Jx) : DmaSem sig := ⟨semNo 1 k, semNo_lt 1 k⟩

theorem semOf_inj : Function.Injective semOf := fun k k' h => semNo_inj 1 (congrArg Fin.val h)

/-- The slots of the gathered array. -/
def lay : Slots S5152x128 S8x5152x128 := lead ![5152, 128] squeezes_S1x5152x128_S5152x128

/-- What the kernel reads and what it leaves, from a launch memory. -/
def data (m : (ℓ : Loc nD τ sig) → Buf (Elt F) ℓ) : GData τ sig (Elt F) 1 where
  S _ := S5152x128
  O _ := S8x5152x128
  e _ := .f32
  lay _ := lay
  sem := semOf
  sem_inj := semOf_inj
  o _ := Memref.whole main_v1
  wo _ := Memref.isWhole_whole _
  D _ _ := gcat ![5152, 128] fun s : Fin 8 => m ((Dev.tc (nD := nD) s : Thread nD τ).loc main_arg0)
  amt _ := (Memref.whole main_arg0).view.dmaCredit
  hamt _ _ := rfl
  amt_pos _ := sig.dmaCredit_pos _ _ _ _ _ (by decide)
  a _ := Memref.whole main_arg0
  wa _ := Memref.isWhole_whole _
  A _ d := m ((d.tc : Thread nD τ).loc main_arg0)
  hD r s d := by
    refine Eq.trans ?_ (lead_read ![5152, 128] squeezes_S1x5152x128_S5152x128 (Memref.whole main_v1) s _).symm
    rfl

/-- The plan. -/
abbrev plan (U : Type) [URA U] (m : (ℓ : Loc nD τ sig) → Buf (Elt F) ℓ) : Plan nD τ sig (Elt F) U 1 := gatherPlan (data m)

end Cert.Small

end
-- ==== Proof.Small.Body.lean ====
/-
# The gather of one array: the body

What a device holds after each part of the kernel.
-/
module

public import proofs.«01_k».proof.Proof.Comm.Order
public import proofs.«01_k».proof.Proof.Comm.PlanLaunch
public import proofs.«01_k».proof.Proof.Small.Data

@[expose] public section

set_option maxRecDepth 65536

noncomputable section

namespace Cert.Small

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.KernelIdeal Cert.KernelIdeal.Gen

variable {F : FTy → Type} [FloatOps F] {U : Type} [URA U]
variable (E : Emb (URounds (GSem nD τ sig) Unit) (MT nD τ sig Unit (Elt F) ℕ U ℕ)) (m : (ℓ : Loc nD τ sig) → Buf (Elt F) ℓ)

/-- No loop of the kernels needs a variant. -/
abbrev 𝒱₀ : Variants := Variants.none

/-- The copies in the order in which they are started. -/
def order : List (Fin 1 × Fin 7) :=
  [(0, 0), (0, 1), (0, 2), (0, 3), (0, 4), (0, 5), (0, 6)]

theorem order_perm : order.Perm (Plan.allSends 1) := by decide

theorem to1 : ∀ c : Dev nD, (⟨k0_dev1 c, k0_dev1_lt c⟩ : Dev nD) = hop gk 0 c := by decide +kernel
theorem to2 : ∀ c : Dev nD, (⟨k0_dev2 c, k0_dev2_lt c⟩ : Dev nD) = hop gk 1 c := by decide +kernel
theorem to3 : ∀ c : Dev nD, (⟨k0_dev3 c, k0_dev3_lt c⟩ : Dev nD) = hop gk 2 c := by decide +kernel
theorem to4 : ∀ c : Dev nD, (⟨k0_dev4 c, k0_dev4_lt c⟩ : Dev nD) = hop gk 3 c := by decide +kernel
theorem to5 : ∀ c : Dev nD, (⟨k0_dev5 c, k0_dev5_lt c⟩ : Dev nD) = hop gk 4 c := by decide +kernel
theorem to6 : ∀ c : Dev nD, (⟨k0_dev6 c, k0_dev6_lt c⟩ : Dev nD) = hop gk 5 c := by decide +kernel
theorem to7 : ∀ c : Dev nD, (⟨k0_dev7 c, k0_dev7_lt c⟩ : Dev nD) = hop gk 6 c := by decide +kernel

theorem at1 : ∀ c : Dev nD, k0_off1 c = lay.off (gblk none c) := by decide +kernel
theorem at2 : ∀ c : Dev nD, k0_off1 c = lay.off (gblk (some 0) c) := by decide +kernel
theorem at3 : ∀ c : Dev nD, k0_off1 c = lay.off (gblk (some 1) c) := by decide +kernel
theorem at4 : ∀ c : Dev nD, k0_off1 c = lay.off (gblk (some 2) c) := by decide +kernel
theorem at5 : ∀ c : Dev nD, k0_off1 c = lay.off (gblk (some 3) c) := by decide +kernel
theorem at6 : ∀ c : Dev nD, k0_off2 c = lay.off (gblk (some 4) c) := by decide +kernel
theorem at7 : ∀ c : Dev nD, k0_off3 c = lay.off (gblk (some 5) c) := by decide +kernel
theorem at8 : ∀ c : Dev nD, k0_off4 c = lay.off (gblk (some 6) c) := by decide +kernel

/-- The statements of part 1. -/
theorem part1 (c : Dev nD) {κ : GSem nD τ sig → ℕ} {Q : _ → sProp (MT nD τ sig Unit (Elt F) ℕ U ℕ)}
    (h : ∀ x, x.1 = c → (plan U m).St E κ c order [(0, g1)] ⊢ Q x) :
    (plan U m).St E κ c order [(0, g0)]
      ⊢ wp frame (wpE defs₀ 𝒱₀ (c.tc : Thread nD τ) none) Set.univ
        (k0_part1 (F := F) (Memref.whole main_arg0) (Memref.isWhole_whole _) (Memref.whole main_v1) (Memref.isWhole_whole _) cc0_scratch0 cc0_scratch1 cc0_scratch2) Q := by
  rw [k0_part1_eq_skeleton]
  unfold k0_part1_skel
  simp only [Prog.lift, Prog.bind_op, Prog.bind_ret, Prog.pure_eq_ret, wp_deviceId]
  refine Plan.start_local _ E defs₀ 𝒱₀ rfl (slot_eq (lay) _ _ (at1 c) _ _) rfl ?_
  rw [wp_ret]
  exact (h _ rfl).trans fupd_intro

/-- The statements of part 2. -/
theorem part2 (c : Dev nD) (v2 v5 v8 v9 v10 v11 v34 : BitVec 32) {κ : GSem nD τ sig → ℕ} {Q : _ → sProp (MT nD τ sig Unit (Elt F) ℕ U ℕ)}
    (h : ∀ x, (plan U m).St E κ c (order.drop 2) [(0, g3)] ⊢ Q x) :
    (plan U m).St E κ c order [(0, g1)]
      ⊢ wp frame (wpE defs₀ 𝒱₀ (c.tc : Thread nD τ) none) Set.univ
        (k0_part2 (F := F) (Memref.whole main_arg0) (Memref.isWhole_whole _) (Memref.whole main_v1) (Memref.isWhole_whole _) cc0_scratch0 cc0_scratch1 cc0_scratch2 c v2 v5 v8 v9 v10 v11 v34) Q := by
  rw [k0_part2_eq_skeleton]
  unfold k0_part2_skel
  simp only [Prog.lift, Prog.bind_op, Prog.bind_ret, Prog.pure_eq_ret]
  refine Plan.start_send _ E defs₀ 𝒱₀ 0 (to1 c) rfl (slot_eq (lay) _ _ (at2 c) _ _) rfl rfl ?_
  refine Plan.start_send _ E defs₀ 𝒱₀ 1 (to2 c) rfl (slot_eq (lay) _ _ (at3 c) _ _) rfl rfl ?_
  rw [wp_ret]
  exact (h _).trans fupd_intro

/-- The statements of part 3. -/
theorem part3 (c : Dev nD) (v2 v5 v8 v10 v11 v12 v13 v63 v64 : BitVec 32) {κ : GSem nD τ sig → ℕ} {Q : _ → sProp (MT nD τ sig Unit (Elt F) ℕ U ℕ)}
    (h : ∀ x, (plan U m).St E κ c (order.drop 4) [(0, g5)] ⊢ Q x) :
    (plan U m).St E κ c (order.drop 2) [(0, g3)]
      ⊢ wp frame (wpE defs₀ 𝒱₀ (c.tc : Thread nD τ) none) Set.univ
        (k0_part3 (F := F) (Memref.whole main_arg0) (Memref.isWhole_whole _) (Memref.whole main_v1) (Memref.isWhole_whole _) cc0_scratch0 cc0_scratch1 cc0_scratch2 c v2 v5 v8 v10 v11 v12 v13 v63 v64) Q := by
  rw [k0_part3_eq_skeleton]
  unfold k0_part3_skel
  simp only [Prog.lift, Prog.bind_op, Prog.bind_ret, Prog.pure_eq_ret]
  refine Plan.start_send _ E defs₀ 𝒱₀ 2 (to3 c) rfl (slot_eq (lay) _ _ (at4 c) _ _) rfl rfl ?_
  refine Plan.start_send _ E defs₀ 𝒱₀ 3 (to4 c) rfl (slot_eq (lay) _ _ (at5 c) _ _) rfl rfl ?_
  rw [wp_ret]
  exact (h _).trans fupd_intro

/-- The statements of part 4. -/
theorem part4 (c : Dev nD) (v2 v5 v8 v9 v11 : BitVec 32) {κ : GSem nD τ sig → ℕ} {Q : _ → sProp (MT nD τ sig Unit (Elt F) ℕ U ℕ)}
    (h : ∀ x, (plan U m).St E κ c (order.drop 5) [(0, g7)] ⊢ Q x) :
    (plan U m).St E κ c (order.drop 4) [(0, g5)]
      ⊢ wp frame (wpE defs₀ 𝒱₀ (c.tc : Thread nD τ) none) Set.univ
        (k0_part4 (F := F) (Memref.whole main_arg0) (Memref.isWhole_whole _) (Memref.whole main_v1) (Memref.isWhole_whole _) cc0_scratch0 cc0_scratch1 cc0_scratch2 c v2 v5 v8 v9 v11) Q := by
  rw [k0_part4_eq_skeleton]
  unfold k0_part4_skel
  simp only [Prog.lift, Prog.bind_op, Prog.bind_ret, Prog.pure_eq_ret]
  refine Plan.wait _ E defs₀ 𝒱₀ (jr 1) (W' := [js 3, js 2, js 1, js 0, jl, jr 0, jr 2, jr 3, jr 4, jr 5, jr 6]) (by decide) (gather_low _ 0 (by decide)) rfl rfl ?_
  refine Plan.start_fwd _ E defs₀ 𝒱₀ 4 1 (G' := []) (by decide) (gather_fwd _ _ c 4 1 rfl gblk4 rfl) (to5 c) (slot_eq (lay) _ _ (at6 c) _ _) (slot_eq (lay) _ _ (at6 c) _ _) rfl rfl ?_
  rw [wp_ret]
  exact (h _).trans fupd_intro

/-- The statements of part 5. -/
theorem part5 (c : Dev nD) (v2 v5 v8 v9 v12 v13 : BitVec 32) {κ : GSem nD τ sig → ℕ} {Q : _ → sProp (MT nD τ sig Unit (Elt F) ℕ U ℕ)}
    (h : ∀ x, (plan U m).St E κ c (order.drop 6) [(0, g9)] ⊢ Q x) :
    (plan U m).St E κ c (order.drop 5) [(0, g7)]
      ⊢ wp frame (wpE defs₀ 𝒱₀ (c.tc : Thread nD τ) none) Set.univ
        (k0_part5 (F := F) (Memref.whole main_arg0) (Memref.isWhole_whole _) (Memref.whole main_v1) (Memref.isWhole_whole _) cc0_scratch0 cc0_scratch1 cc0_scratch2 c v2 v5 v8 v9 v12 v13) Q := by
  rw [k0_part5_eq_skeleton]
  unfold k0_part5_skel
  simp only [Prog.lift, Prog.bind_op, Prog.bind_ret, Prog.pure_eq_ret]
  refine Plan.wait _ E defs₀ 𝒱₀ (jr 2) (W' := [js 4, js 3, js 2, js 1, js 0, jl, jr 0, jr 3, jr 4, jr 5, jr 6]) (by decide) (gather_low _ 1 (by decide)) rfl rfl ?_
  refine Plan.start_fwd _ E defs₀ 𝒱₀ 5 2 (G' := []) (by decide) (gather_fwd _ _ c 5 2 rfl gblk5 rfl) (to6 c) (slot_eq (lay) _ _ (at7 c) _ _) (slot_eq (lay) _ _ (at7 c) _ _) rfl rfl ?_
  rw [wp_ret]
  exact (h _).trans fupd_intro

/-- The statements of part 6. -/
theorem part6 (c : Dev nD) (v2 v5 v8 v9 : BitVec 32) {κ : GSem nD τ sig → ℕ} {Q : _ → sProp (MT nD τ sig Unit (Elt F) ℕ U ℕ)}
    (h : ∀ x, (plan U m).St E κ c (order.drop 7) [(0, g11)] ⊢ Q x) :
    (plan U m).St E κ c (order.drop 6) [(0, g9)]
      ⊢ wp frame (wpE defs₀ 𝒱₀ (c.tc : Thread nD τ) none) Set.univ
        (k0_part6 (F := F) (Memref.whole main_arg0) (Memref.isWhole_whole _) (Memref.whole main_v1) (Memref.isWhole_whole _) cc0_scratch0 cc0_scratch1 cc0_scratch2 c v2 v5 v8 v9) Q := by
  rw [k0_part6_eq_skeleton]
  unfold k0_part6_skel
  simp only [Prog.lift, Prog.bind_op, Prog.bind_ret, Prog.pure_eq_ret]
  refine Plan.wait _ E defs₀ 𝒱₀ (jr 3) (W' := [js 5, js 4, js 3, js 2, js 1, js 0, jl, jr 0, jr 4, jr 5, jr 6]) (by decide) (gather_low _ 2 (by decide)) rfl rfl ?_
  refine Plan.start_fwd _ E defs₀ 𝒱₀ 6 3 (G' := []) (by decide) (gather_fwd _ _ c 6 3 rfl gblk6 rfl) (to7 c) (slot_eq (lay) _ _ (at8 c) _ _) (slot_eq (lay) _ _ (at8 c) _ _) rfl rfl ?_
  rw [wp_ret]
  exact (h _).trans fupd_intro

/-- The statements of part 7. -/
theorem part7 (c : Dev nD) (v2 v5 v8 v10 v11 v192 : BitVec 32) {κ : GSem nD τ sig → ℕ} {Q : _ → sProp (MT nD τ sig Unit (Elt F) ℕ U ℕ)}
    (h : ∀ x, (plan U m).St E κ c (order.drop 7) [(0, g13)] ⊢ Q x) :
    (plan U m).St E κ c (order.drop 7) [(0, g11)]
      ⊢ wp frame (wpE defs₀ 𝒱₀ (c.tc : Thread nD τ) none) Set.univ
        (k0_part7 (F := F) (Memref.whole main_arg0) (Memref.isWhole_whole _) (Memref.whole main_v1) (Memref.isWhole_whole _) cc0_scratch0 cc0_scratch1 cc0_scratch2 c v2 v5 v8 v10 v11 v192) Q := by
  rw [k0_part7_eq_skeleton]
  unfold k0_part7_skel
  simp only [Prog.lift, Prog.bind_op, Prog.bind_ret, Prog.pure_eq_ret]
  refine Plan.wait _ E defs₀ 𝒱₀ (jr 0) (W' := [js 6, js 5, js 4, js 3, js 2, js 1, js 0, jl, jr 4, jr 5, jr 6]) (by decide) (fun _ h => absurd h List.not_mem_nil) rfl rfl ?_
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 8. -/
theorem part8 (c : Dev nD) (v2 v5 v8 v12 v13 : BitVec 32) {κ : GSem nD τ sig → ℕ} {Q : _ → sProp (MT nD τ sig Unit (Elt F) ℕ U ℕ)}
    (h : ∀ x, (plan U m).St E κ c (order.drop 7) [(0, g15)] ⊢ Q x) :
    (plan U m).St E κ c (order.drop 7) [(0, g13)]
      ⊢ wp frame (wpE defs₀ 𝒱₀ (c.tc : Thread nD τ) none) Set.univ
        (k0_part8 (F := F) (Memref.whole main_arg0) (Memref.isWhole_whole _) (Memref.whole main_v1) (Memref.isWhole_whole _) cc0_scratch0 cc0_scratch1 cc0_scratch2 c v2 v5 v8 v12 v13) Q := by
  rw [k0_part8_eq_skeleton]
  unfold k0_part8_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  rw [wp_ret]
  exact (h _).trans fupd_intro

/-- The statements of part 9. -/
theorem part9 (c : Dev nD) {κ : GSem nD τ sig → ℕ} {Q : _ → sProp (MT nD τ sig Unit (Elt F) ℕ U ℕ)}
    (h : ∀ x, (plan U m).St E κ c (order.drop 7) [(0, g19)] ⊢ Q x) :
    (plan U m).St E κ c (order.drop 7) [(0, g15)]
      ⊢ wp frame (wpE defs₀ 𝒱₀ (c.tc : Thread nD τ) none) Set.univ
        (k0_part9 (F := F) (Memref.whole main_arg0) (Memref.isWhole_whole _) (Memref.whole main_v1) (Memref.isWhole_whole _) cc0_scratch0 cc0_scratch1 cc0_scratch2 c) Q := by
  rw [k0_part9_eq_skeleton]
  unfold k0_part9_skel
  simp only [Prog.lift, Prog.bind_op, Prog.bind_ret, Prog.pure_eq_ret]
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  rw [wp_ret]
  exact (h _).trans fupd_intro

/-- The kernel on one device: it ends with nothing owed, holding what its copies brought back. -/
theorem body (c : Dev nD) {κ : GSem nD τ sig → ℕ} :
    (plan U m).St E κ c order [(0, g0)]
      ⊢ wp frame (wpE defs₀ 𝒱₀ (c.tc : Thread nD τ) none) Set.univ
        (cc0_comm_gather_small (F := F) (Memref.whole main_arg0) (Memref.isWhole_whole _) (Memref.whole main_v1) (Memref.isWhole_whole _) cc0_scratch0 cc0_scratch1 cc0_scratch2)
        fun _ => (plan U m).St E κ c [] [(0, g23)] := by
  rw [cc0_comm_gather_small_eq_skeleton]
  unfold cc0_comm_gather_small_skel
  rw [wp_bind]
  refine part1 E m c fun x hx => ?_
  obtain ⟨d0, v2, v5, v8, v9, v10, v11, v12, v13, v34⟩ := x
  subst hx
  dsimp only
  rw [wp_bind]
  refine part2 E m _ _ _ _ _ _ _ _ fun x => ?_
  rw [wp_bind]
  refine part3 E m _ _ _ _ _ _ _ _ _ _ fun x => ?_
  rw [wp_bind]
  refine part4 E m _ _ _ _ _ _ fun x => ?_
  rw [wp_bind]
  refine part5 E m _ _ _ _ _ _ _ fun x => ?_
  rw [wp_bind]
  refine part6 E m _ _ _ _ _ fun x => ?_
  rw [wp_bind]
  refine part7 E m _ _ _ _ _ _ _ fun x => ?_
  rw [wp_bind]
  refine part8 E m _ _ _ _ _ _ fun x => ?_
  rw [wp_bind]
  refine part9 E m _ fun x => ?_
  simp only [Prog.lift, Prog.bind_op, Prog.bind_ret, Prog.pure_eq_ret]
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  rw [wp_ret]
  exact fupd_intro

end Cert.Small

end
-- ==== Proof.Small.Run.lean ====
/-
# The gather of one array: the run

The program runs to its end with every semaphore at zero, its argument as it was, and its result the eight
devices' blocks one after the other, on every device.
-/
module

public import proofs.«01_k».proof.Proof.Comm.Whole
public import proofs.«01_k».proof.Proof.Small.Body

@[expose] public section

set_option maxRecDepth 65536

noncomputable section

namespace Cert.Small

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.KernelIdeal Cert.KernelIdeal.Gen

variable {F : FTy → Type} [FloatOps F]

/-- The ghost state: the launch's own part, and the copies' rounds. -/
abbrev UU := UR sig nD τ × URounds (GSem nD τ sig) Unit

/-- Where the copies' rounds live. -/
abbrev ER : Emb (URounds (GSem nD τ sig) Unit) (MT nD τ sig Unit (Elt F) ℕ UU ℕ) := embR

variable (m : (ℓ : Loc nD τ sig) → Buf (Elt F) ℓ) (ρ : Dev nD → PrngReg)

/-- What the launch's ghost state is. -/
def u₀ : UU := (initOf (Pipeline.cells cfgs cellOf_inj) (Pipeline.launchToks cfgs cellOf_inj), launchOf (plan UU m).cells ∅ (plan UU m).minted)

theorem ownSemFacts : OwnSemFacts cfg0.spec (fun k : Fin 1 × Jx => (.dma (semOf k) : SemLoc sig)) :=
  ⟨fun k => by revert k; decide, fun k k' h => semOf_inj (SemLoc.dma.inj h), fun k w => w.elim0⟩

theorem all_scoped : ∀ sm : SemLoc sig, sm.isScoped .tc = true := by decide

/-- The arrays of a device. -/
theorem arrays (c : Dev nD) (V : (b : Ref sig .tc) → Buf (Elt F) ((c.tc : Thread nD τ).loc b)) :
    (unscopedBufs c V : sProp (MT nD τ sig Unit (Elt F) ℕ UU ℕ))
      = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

/-- The gathered array. -/
def out (c : Dev nD) : Buf (Elt F) ((c : Thread nD τ).loc main_v1) := gcat ![5152, 128] fun s : Fin 8 => m ((Dev.tc (nD := nD) s : Thread nD τ).loc main_arg0)

/-- What a device ends with. -/
def fin (c : Dev nD) : sProp (MT nD τ sig Unit (Elt F) ℕ UU ℕ) :=
  iprop((((c : Thread nD τ).loc main_arg0) ↦{fullShare} m ((c : Thread nD τ).loc main_arg0))
    ∗ (((c : Thread nD τ).loc main_v1) ↦{fullShare} out m c))

/-- The arrays of a device as the gather takes them. -/
theorem split_arrays (c : Dev nD) : (unscopedBufs c (fun b => m ((c.tc : Thread nD τ).loc b)) : sProp (MT nD τ sig Unit (Elt F) ℕ UU ℕ))
    ⊢ sepL (List.finRange 1) fun r => iprop((((data m).a r).view.loc (c.tc : Thread nD τ) ↦{fullShare} (data m).A r c)
        ∗ ∃ f, ((data m).o r).view.loc (c.tc : Thread nD τ) ↦{fullShare} f) := by
  rw [arrays, show List.finRange 1 = [0] from rfl, sepL_cons, sepL_nil]
  iintro ⟨H1, H2⟩
  isplitl
  · isplitl [H1]; · iexact H1
    iexists _; iexact H2
  · iempintro

/-- What is read off the final memory. -/
def Ends (c : Dev nD) (s : MemSt nD τ sig (Elt F)) : Prop :=
  s.mem ((c : Thread nD τ).loc main_arg0) = m ((c : Thread nD τ).loc main_arg0) ∧ s.mem ((c : Thread nD τ).loc main_v1) = out m c

/-- The whole run. -/
theorem run_main : θ_run defs (onTc (τ := τ) (main (F := F))) ⟨m, fun _ => 0, ρ⟩ (fun r => (∀ c, Ends m c r.2) ∧ r.2.sem = fun _ => 0) := by
  haveI h1 : IsEmpty (Fin (pin (pcfgs (F := F)) (fun p => (cfgs p).toPCfg_adm) 0).W) := inferInstanceAs (IsEmpty (Fin 0))
  haveI h2 : IsEmpty (Fin (pcfgs (F := F) 0).pre.K) := inferInstanceAs (IsEmpty (Fin 0))
  refine plan_run (pcfgs (F := F)) (fun p => (cfgs p).toPCfg_adm) cellOf_inj 0 winFacts0.to₀ ER defs₀ 𝒱₀ N_0 (plan UU m) ownSemFacts ER
    (u₀ m) ?_ [none, some 0, some 1, some 2, some 3] [some 4, some 5, some 6] (by decide) order order_perm g23.G g23.Z (by decide)
    m ρ (fun _ => iprop(emp)) ?_ (fun c κ t => body ER m c) main (fun _ => Prog.ret) (fun _ => rfl) (fin m) (fun c => ?_) (Ends m) (fun c s' => ?_)
    (fun s h1 h2 => ⟨h1, ?_⟩)
  · unfold u₀
    iintro Hu
    ihave H := (ownU_pair _ _) $$ Hu
    icases H with ⟨-, H⟩
    iexact H
  · have h (X : sProp (MT nD τ sig Unit (Elt F) ℕ UU ℕ)) : X ⊢ iprop(X ∗ emp) := by
      iintro H
      isplitl
      · iexact H
      · iempintro
    exact BI.Entails.trans (BI.bigSep_mono fun c _ => split_arrays m c) (BI.Entails.trans (gather_start (U := UU) (data m)) (BI.bigSep_mono fun c _ => h _))
  · have he := gather_end (U := UU) (data m) 0 c g23.G (by decide)
    have he' : (sepL g23.G fun j => (plan UU m).pay c (0, j)) ⊢ fin m c := he
    rw [wp_ret]
    unfold boundary
    rw [show List.finRange 1 = [0] from rfl, sepL_cons, sepL_nil]
    iintro ⟨⟨HG, -⟩, -, ⟨-, Hss, -⟩, HO⟩
    ihave H := he' $$ HG
    imodintro
    isplitr [HO]
    · isplitl [H]
      · iexact H
      · iexact Hss
    · iexact HO
  · unfold fin
    iintro ⟨⟨H1, H2⟩, HSI⟩
    icombine HSI H1 gives %h1
    icombine HSI H2 gives %h2
    imodintro
    isplitr
    · ipureintro
      exact ⟨Buf.eq_of_forall_mem_univ h1, Buf.eq_of_forall_mem_univ h2⟩
    · iexact HSI
  · funext g
    by_cases h : g.1.2 = .tc
    · exact h2 g (Or.inr (all_scoped g.2))
    · exact h2 g (Or.inl h)

end Cert.Small

end
-- ==== Proof.Comm.Values.lean ====
/-
# What the references compute, block by block

The blocks of an array cut over the eight devices, one after the other, are the array reshaped.
-/
module

public import proofs.«01_k».proof.Proof.Comm.Slots
public import Idealize.ShloMosaic.Lib.Layout
public import Idealize.ShloMosaic.Lib.Pipeline.Value

@[expose] public section

noncomputable section

namespace Cert.Comm

open Idealize.ShloMosaic

/-- Blocks cut along the leading axis, one after the other: the whole array with its leading axis split. -/
theorem gcat_block {α : Type} {k : ℕ} (a b : ℕ) (r : Fin k → ℕ) (hb : b = 8 * a)
    (h : Layout.Tiles ⟨k + 1, Matrix.vecCons a r⟩ ⟨k + 1, Matrix.vecCons b r⟩ 0 8)
    (hc : (⟨k + 1, Matrix.vecCons b r⟩ : Shape).ShapeCasts ⟨k + 2, Matrix.vecCons 8 (Matrix.vecCons a r)⟩)
    (v : (⟨k + 1, Matrix.vecCons b r⟩ : Shape).Idx → α) :
    (gcat (Matrix.vecCons a r) fun s => Layout.block ⟨k + 1, Matrix.vecCons a r⟩ ⟨k + 1, Matrix.vecCons b r⟩ 0 8 s v h)
      = shapeCast ⟨k + 2, Matrix.vecCons 8 (Matrix.vecCons a r)⟩ v hc := by
  funext i
  show v (h.idx (i 0) fun a => i a.succ) = v (Shape.reshapeEquiv hc i)
  refine congrArg v (Shape.reshapeEquiv_eq_of_rowMajor hc ?_).symm
  show (Shape.rowMajorPi (Matrix.vecCons b r) (h.idx (i 0) fun a => i a.succ)).val
    = (Shape.rowMajorPi (Matrix.vecCons 8 (Matrix.vecCons a r)) i).val
  rw [Shape.rowMajorPi_succ_val, Shape.rowMajorPi_succ_val, Shape.rowMajorPi_succ_val, Fin.prod_univ_succ]
  show ((i 0).val * a + (i 1).val) * (∏ x : Fin k, r x) + (Shape.rowMajorPi r fun x => i x.succ.succ).val
    = (i 0).val * (a * ∏ x : Fin k, r x) + ((i 1).val * (∏ x : Fin k, r x) + (Shape.rowMajorPi r fun x => i x.succ.succ).val)
  rw [Nat.add_mul, Nat.mul_assoc, Nat.add_assoc]

/-- The same, of arrays that are the blocks of a whole array. -/
theorem gcat_of {α : Type} {k : ℕ} (a b : ℕ) (r : Fin k → ℕ) (hb : b = 8 * a)
    (h : Layout.Tiles ⟨k + 1, Matrix.vecCons a r⟩ ⟨k + 1, Matrix.vecCons b r⟩ 0 8)
    (hc : (⟨k + 1, Matrix.vecCons b r⟩ : Shape).ShapeCasts ⟨k + 2, Matrix.vecCons 8 (Matrix.vecCons a r)⟩)
    (v : (⟨k + 1, Matrix.vecCons b r⟩ : Shape).Idx → α) (A : Fin 8 → (⟨k + 1, Matrix.vecCons a r⟩ : Shape).Idx → α)
    (hA : ∀ s, A s = Layout.block ⟨k + 1, Matrix.vecCons a r⟩ ⟨k + 1, Matrix.vecCons b r⟩ 0 8 s v h) :
    gcat (Matrix.vecCons a r) A = shapeCast ⟨k + 2, Matrix.vecCons 8 (Matrix.vecCons a r)⟩ v hc :=
  (congrArg (gcat _) (funext hA)).trans (gcat_block a b r hb h hc v)

/-- The first two axes change places, the others stay. -/
def flip01 (k : ℕ) : Fin (k + 2) → Fin (k + 2) := Fin.cons 1 (Fin.cons 0 fun a => a.succ.succ)

/-- An array whose first two axes are swapped, read at an index: the array at the index with those coordinates swapped. -/
theorem transpose_flip {α : Type} {k : ℕ} (p q : ℕ) (r : Fin k → ℕ)
    (perm : List (Fin (⟨k + 2, Matrix.vecCons p (Matrix.vecCons q r)⟩ : Shape).rank))
    (ht : (⟨k + 2, Matrix.vecCons p (Matrix.vecCons q r)⟩ : Shape).Transposes perm ⟨k + 2, Matrix.vecCons q (Matrix.vecCons p r)⟩)
    (hp : ∀ i : Fin (k + 2), perm[i.cast ht.2.1] = flip01 k i)
    (x : (⟨k + 2, Matrix.vecCons p (Matrix.vecCons q r)⟩ : Shape).Idx → α) (j : (⟨k + 2, Matrix.vecCons q (Matrix.vecCons p r)⟩ : Shape).Idx) :
    transpose ⟨k + 2, Matrix.vecCons q (Matrix.vecCons p r)⟩ perm x ht j
      = x (Fin.cons (α := fun a => Fin (Matrix.vecCons p (Matrix.vecCons q r) a)) (j 1)
          (Fin.cons (α := fun a => Fin (Matrix.vecCons q r a)) (j 0) fun a => j a.succ.succ)) := by
  refine transpose_apply perm x ht j _ fun b => ?_
  have e := hp b
  revert e
  generalize perm[b.cast ht.2.1] = i
  intro e
  subst e
  exact Fin.cases rfl (fun b => Fin.cases rfl (fun b => rfl) b) b

/-- Blocks cut along the second axis, one after the other: the whole array with that axis split, its device part moved to
the front. -/
theorem gcat_cols {α : Type} {k : ℕ} (p a b : ℕ) (r : Fin k → ℕ) (hb : b = 8 * a)
    (h : Layout.Tiles ⟨k + 2, Matrix.vecCons p (Matrix.vecCons a r)⟩ ⟨k + 2, Matrix.vecCons p (Matrix.vecCons b r)⟩ 1 8)
    (hc : (⟨k + 2, Matrix.vecCons p (Matrix.vecCons b r)⟩ : Shape).ShapeCasts ⟨k + 3, Matrix.vecCons p (Matrix.vecCons 8 (Matrix.vecCons a r))⟩)
    (perm : List (Fin (⟨k + 3, Matrix.vecCons p (Matrix.vecCons 8 (Matrix.vecCons a r))⟩ : Shape).rank))
    (ht : (⟨k + 3, Matrix.vecCons p (Matrix.vecCons 8 (Matrix.vecCons a r))⟩ : Shape).Transposes perm
      ⟨k + 3, Matrix.vecCons 8 (Matrix.vecCons p (Matrix.vecCons a r))⟩)
    (hp : ∀ i : Fin (k + 3), perm[i.cast ht.2.1] = flip01 (k + 1) i)
    (v : (⟨k + 2, Matrix.vecCons p (Matrix.vecCons b r)⟩ : Shape).Idx → α) :
    (gcat (Matrix.vecCons p (Matrix.vecCons a r)) fun s =>
        Layout.block ⟨k + 2, Matrix.vecCons p (Matrix.vecCons a r)⟩ ⟨k + 2, Matrix.vecCons p (Matrix.vecCons b r)⟩ 1 8 s v h)
      = transpose ⟨k + 3, Matrix.vecCons 8 (Matrix.vecCons p (Matrix.vecCons a r))⟩ perm
          (shapeCast ⟨k + 3, Matrix.vecCons p (Matrix.vecCons 8 (Matrix.vecCons a r))⟩ v hc) ht := by
  funext i
  rw [transpose_flip p 8 (Matrix.vecCons a r) perm ht hp]
  show v (h.idx (i 0) fun a => i a.succ) = v (Shape.reshapeEquiv hc _)
  refine congrArg v (Shape.reshapeEquiv_eq_of_rowMajor hc ?_).symm
  show (Shape.rowMajorPi (Matrix.vecCons p (Matrix.vecCons b r)) (h.idx (i 0) fun a => i a.succ)).val
    = (Shape.rowMajorPi (Matrix.vecCons p (Matrix.vecCons 8 (Matrix.vecCons a r))) _).val
  rw [Shape.rowMajorPi_succ_val, Shape.rowMajorPi_succ_val, Shape.rowMajorPi_succ_val, Shape.rowMajorPi_succ_val, Shape.rowMajorPi_succ_val,
    Fin.prod_univ_succ, Fin.prod_univ_succ, Fin.prod_univ_succ]
  show (i 1).val * (b * ∏ x : Fin k, r x) + (((i 0).val * a + (i 2).val) * (∏ x : Fin k, r x) + (Shape.rowMajorPi r fun x => i x.succ.succ.succ).val)
    = (i 1).val * (8 * (a * ∏ x : Fin k, r x))
      + ((i 0).val * (a * ∏ x : Fin k, r x) + ((i 2).val * (∏ x : Fin k, r x) + (Shape.rowMajorPi r fun x => i x.succ.succ.succ).val))
  rw [hb, Nat.add_mul, Nat.mul_assoc, Nat.mul_assoc, Nat.add_assoc]

/-- The same, of arrays that are the blocks of a whole array. -/
theorem gcat_cols_of {α : Type} {k : ℕ} (p a b : ℕ) (r : Fin k → ℕ) (hb : b = 8 * a)
    (h : Layout.Tiles ⟨k + 2, Matrix.vecCons p (Matrix.vecCons a r)⟩ ⟨k + 2, Matrix.vecCons p (Matrix.vecCons b r)⟩ 1 8)
    (hc : (⟨k + 2, Matrix.vecCons p (Matrix.vecCons b r)⟩ : Shape).ShapeCasts ⟨k + 3, Matrix.vecCons p (Matrix.vecCons 8 (Matrix.vecCons a r))⟩)
    (perm : List (Fin (⟨k + 3, Matrix.vecCons p (Matrix.vecCons 8 (Matrix.vecCons a r))⟩ : Shape).rank))
    (ht : (⟨k + 3, Matrix.vecCons p (Matrix.vecCons 8 (Matrix.vecCons a r))⟩ : Shape).Transposes perm
      ⟨k + 3, Matrix.vecCons 8 (Matrix.vecCons p (Matrix.vecCons a r))⟩)
    (hp : ∀ i : Fin (k + 3), perm[i.cast ht.2.1] = flip01 (k + 1) i)
    (v : (⟨k + 2, Matrix.vecCons p (Matrix.vecCons b r)⟩ : Shape).Idx → α)
    (A : Fin 8 → (⟨k + 2, Matrix.vecCons p (Matrix.vecCons a r)⟩ : Shape).Idx → α)
    (hA : ∀ s, A s = Layout.block ⟨k + 2, Matrix.vecCons p (Matrix.vecCons a r)⟩ ⟨k + 2, Matrix.vecCons p (Matrix.vecCons b r)⟩ 1 8 s v h) :
    gcat (Matrix.vecCons p (Matrix.vecCons a r)) A
      = transpose ⟨k + 3, Matrix.vecCons 8 (Matrix.vecCons p (Matrix.vecCons a r))⟩ perm
          (shapeCast ⟨k + 3, Matrix.vecCons p (Matrix.vecCons 8 (Matrix.vecCons a r))⟩ v hc) ht :=
  (congrArg (gcat _) (funext hA)).trans (gcat_cols p a b r hb h hc perm ht hp v)

/-- Splitting a leading axis of 64 into 8 times 8: the reshaped array at `(s, t, …)` is the array at `(8 s + t, …)`. -/
theorem split_apply {α : Type} {k : ℕ} (d : Fin k → ℕ)
    (h : Layout.Tiles ⟨k + 1, Matrix.vecCons 8 d⟩ ⟨k + 1, Matrix.vecCons 64 d⟩ 0 8)
    (h1 : (⟨k + 1, Matrix.vecCons 64 d⟩ : Shape).ShapeCasts ⟨k + 2, Matrix.vecCons 8 (Matrix.vecCons 8 d)⟩)
    (v : (⟨k + 1, Matrix.vecCons 64 d⟩ : Shape).Idx → α) (i : (⟨k + 2, Matrix.vecCons 8 (Matrix.vecCons 8 d)⟩ : Shape).Idx) :
    shapeCast ⟨k + 2, Matrix.vecCons 8 (Matrix.vecCons 8 d)⟩ v h1 i = v (h.idx (i 0) fun a => i a.succ) :=
  (congrFun (gcat_block 8 64 d rfl h h1 v) i).symm

/-- Joining two leading axes of 8: the array at `(8 s + t, …)` is the array before at `(s, t, …)`. -/
theorem join_apply {α : Type} {k : ℕ} (d : Fin k → ℕ)
    (h : Layout.Tiles ⟨k + 1, Matrix.vecCons 8 d⟩ ⟨k + 1, Matrix.vecCons 64 d⟩ 0 8)
    (h2 : (⟨k + 2, Matrix.vecCons 8 (Matrix.vecCons 8 d)⟩ : Shape).ShapeCasts ⟨k + 1, Matrix.vecCons 64 d⟩)
    (w : (⟨k + 2, Matrix.vecCons 8 (Matrix.vecCons 8 d)⟩ : Shape).Idx → α) (c : Fin 8) (i : (⟨k + 1, Matrix.vecCons 8 d⟩ : Shape).Idx) :
    shapeCast ⟨k + 1, Matrix.vecCons 64 d⟩ w h2 (h.idx c i)
      = w (Fin.cons (α := fun a => Fin (Matrix.vecCons 8 (Matrix.vecCons 8 d) a)) c i) := by
  refine congrArg w (Shape.reshapeEquiv_eq_of_rowMajor h2 ?_)
  show (Shape.rowMajorPi (Matrix.vecCons 8 (Matrix.vecCons 8 d)) _).val = (Shape.rowMajorPi (Matrix.vecCons 64 d) (h.idx c i)).val
  rw [Shape.rowMajorPi_succ_val, Shape.rowMajorPi_succ_val, Shape.rowMajorPi_succ_val, Fin.prod_univ_succ]
  show c.val * (8 * ∏ x : Fin k, d x) + ((i 0).val * (∏ x : Fin k, d x) + (Shape.rowMajorPi d fun x => i x.succ).val)
    = (c.val * 8 + (i 0).val) * (∏ x : Fin k, d x) + (Shape.rowMajorPi d fun x => i x.succ).val
  rw [Nat.add_mul, Nat.mul_assoc, Nat.add_assoc]

/-- Every device's blocks exchanged: the whole array with its leading axis split in two and the two halves swapped. -/
theorem gswap_block {α : Type} {k : ℕ} (d : Fin k → ℕ)
    (h : Layout.Tiles ⟨k + 1, Matrix.vecCons 8 d⟩ ⟨k + 1, Matrix.vecCons 64 d⟩ 0 8)
    (h1 : (⟨k + 1, Matrix.vecCons 64 d⟩ : Shape).ShapeCasts ⟨k + 2, Matrix.vecCons 8 (Matrix.vecCons 8 d)⟩)
    (h2 : (⟨k + 2, Matrix.vecCons 8 (Matrix.vecCons 8 d)⟩ : Shape).ShapeCasts ⟨k + 1, Matrix.vecCons 64 d⟩)
    (perm : List (Fin (⟨k + 2, Matrix.vecCons 8 (Matrix.vecCons 8 d)⟩ : Shape).rank))
    (ht : (⟨k + 2, Matrix.vecCons 8 (Matrix.vecCons 8 d)⟩ : Shape).Transposes perm ⟨k + 2, Matrix.vecCons 8 (Matrix.vecCons 8 d)⟩)
    (hp : ∀ i : Fin (k + 2), perm[i.cast ht.2.1] = flip01 k i)
    (v : (⟨k + 1, Matrix.vecCons 64 d⟩ : Shape).Idx → α) (c : Fin 8) :
    gswap d (fun s => Layout.block ⟨k + 1, Matrix.vecCons 8 d⟩ ⟨k + 1, Matrix.vecCons 64 d⟩ 0 8 s v h) c
      = Layout.block ⟨k + 1, Matrix.vecCons 8 d⟩ ⟨k + 1, Matrix.vecCons 64 d⟩ 0 8 c
          (shapeCast ⟨k + 1, Matrix.vecCons 64 d⟩ (transpose ⟨k + 2, Matrix.vecCons 8 (Matrix.vecCons 8 d)⟩ perm
            (shapeCast ⟨k + 2, Matrix.vecCons 8 (Matrix.vecCons 8 d)⟩ v h1) ht) h2) h := by
  funext i
  show v (h.idx (i 0) _) = shapeCast ⟨k + 1, Matrix.vecCons 64 d⟩ _ h2 (h.idx c i)
  rw [join_apply d h h2, transpose_flip 8 8 d perm ht hp, split_apply d h h1]
  refine congrArg (fun j => v (h.idx (i 0) j)) (funext fun a => ?_)
  exact Fin.cases rfl (fun a => rfl) a

/-- The same, of arrays that are the blocks of a whole array. -/
theorem gswap_of {α : Type} {k : ℕ} (d : Fin k → ℕ)
    (h : Layout.Tiles ⟨k + 1, Matrix.vecCons 8 d⟩ ⟨k + 1, Matrix.vecCons 64 d⟩ 0 8)
    (h1 : (⟨k + 1, Matrix.vecCons 64 d⟩ : Shape).ShapeCasts ⟨k + 2, Matrix.vecCons 8 (Matrix.vecCons 8 d)⟩)
    (h2 : (⟨k + 2, Matrix.vecCons 8 (Matrix.vecCons 8 d)⟩ : Shape).ShapeCasts ⟨k + 1, Matrix.vecCons 64 d⟩)
    (perm : List (Fin (⟨k + 2, Matrix.vecCons 8 (Matrix.vecCons 8 d)⟩ : Shape).rank))
    (ht : (⟨k + 2, Matrix.vecCons 8 (Matrix.vecCons 8 d)⟩ : Shape).Transposes perm ⟨k + 2, Matrix.vecCons 8 (Matrix.vecCons 8 d)⟩)
    (hp : ∀ i : Fin (k + 2), perm[i.cast ht.2.1] = flip01 k i)
    (v : (⟨k + 1, Matrix.vecCons 64 d⟩ : Shape).Idx → α) (c : Fin 8) (A : Fin 8 → (⟨k + 1, Matrix.vecCons 8 d⟩ : Shape).Idx → α)
    (hA : ∀ s, A s = Layout.block ⟨k + 1, Matrix.vecCons 8 d⟩ ⟨k + 1, Matrix.vecCons 64 d⟩ 0 8 s v h) :
    gswap d A c
      = Layout.block ⟨k + 1, Matrix.vecCons 8 d⟩ ⟨k + 1, Matrix.vecCons 64 d⟩ 0 8 c
          (shapeCast ⟨k + 1, Matrix.vecCons 64 d⟩ (transpose ⟨k + 2, Matrix.vecCons 8 (Matrix.vecCons 8 d)⟩ perm
            (shapeCast ⟨k + 2, Matrix.vecCons 8 (Matrix.vecCons 8 d)⟩ v h1) ht) h2) h :=
  (congrArg (fun A => gswap d A c) (funext hA)).trans (gswap_block d h h1 h2 perm ht hp v c)

end Cert.Comm

end
-- ==== Proof.Comm.Alone.lean ====
/-
# The run of a program that is one call of a plan

Its @main makes the call and nothing else. Read off the final memory: per array and device, the array that was read as
it was, and the array that was filled at its final contents.
-/
module

public import proofs.«01_k».proof.Proof.Comm.Whole
public import proofs.«01_k».proof.Proof.Comm.Routes

@[expose] public section

noncomputable section

namespace Cert.Comm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Reads

variable {nD : ℕ} {τ : Topo} {sig : RefSig} {Val : EltTy → Type} {U : Type} [URA U] {A : Type}

/-- Two buffers per index, owned whole: the memory holds their contents. -/
theorem read_pairs (la lo : A → Loc nD τ sig) (fa : (r : A) → Buf Val (la r)) (fo : (r : A) → Buf Val (lo r)) (s' : Phys nD τ sig Val) (l : List A) :
    (iprop((sepL l fun r => iprop((la r ↦{fullShare} fa r) ∗ (lo r ↦{fullShare} fo r))) ∗ SI s') : sProp (MT nD τ sig Unit Val ℕ U ℕ))
      ⊢ iprop(⌜∀ r ∈ l, s'.mem.mem (la r) = fa r ∧ s'.mem.mem (lo r) = fo r⌝ ∗ SI s') := by
  induction l with
  | nil =>
    iintro ⟨-, HSI⟩
    isplitr
    · ipureintro
      exact fun r h => absurd h List.not_mem_nil
    · iexact HSI
  | cons r l ih =>
    rw [sepL_cons]
    iintro ⟨⟨⟨H1, H2⟩, Hl⟩, HSI⟩
    icombine HSI H1 gives %h1
    icombine HSI H2 gives %h2
    ihave H := ih $$ [Hl HSI]
    · isplitl [Hl]
      · iexact Hl
      · iexact HSI
    icases H with ⟨%h, HSI⟩
    isplitr
    · ipureintro
      intro r' hr'
      rcases List.mem_cons.mp hr' with rfl | hr'
      · exact ⟨Buf.eq_of_forall_mem_univ h1, Buf.eq_of_forall_mem_univ h2⟩
      · exact h r' hr'
    · iexact HSI

/-- A pair of buffers put at the head of a list of pairs, the second whatever it holds. -/
theorem pair_cons {M : Type} [URA M] {B : Type} (Φ Ψ : B → sProp M) (r : B) (l : List B) {X Y R : sProp M} (h1 : X ⊢ Φ r) (h2 : Y ⊢ Ψ r)
    (h3 : R ⊢ sepL l fun r => iprop(Φ r ∗ Ψ r)) : iprop(X ∗ Y ∗ R) ⊢ sepL (r :: l) fun r => iprop(Φ r ∗ Ψ r) := by
  rw [sepL_cons]
  iintro ⟨HX, HY, HR⟩
  isplitl [HX HY]
  · isplitl [HX]
    · iapply h1 $$ HX
    · iapply h2 $$ HY
  · iapply h3 $$ HR

/-- The last pair. -/
theorem pair_last {M : Type} [URA M] {B : Type} (Φ Ψ : B → sProp M) (r : B) {X Y : sProp M} (h1 : X ⊢ Φ r) (h2 : Y ⊢ Ψ r) :
    iprop(X ∗ Y) ⊢ sepL [r] fun r => iprop(Φ r ∗ Ψ r) := by
  rw [sepL_cons, sepL_nil]
  iintro ⟨HX, HY⟩
  isplitl [HX HY]
  · isplitl [HX]
    · iapply h1 $$ HX
    · iapply h2 $$ HY
  · iempintro

end Reads

variable {nD : ℕ} {τ : Topo} {sig : RefSig} {Val : EltTy → Type} {U : Type} [URA U] {n : ℕ}
variable {Λ₀ : Labels} {P : Type} [Fintype P] [DecidableEq P] (pcs : P → PCfg sig Λ₀ Val) (a : (p : P) → (pcs p).Adm)
  (phinj : Function.Injective (cellOf (nD := nD) (τ := τ) (pin pcs a))) (p : P)
  (hw : WinFacts₀ (pcs p).spec)
  (EP : Emb (URounds (GSem nD τ sig) Unit) (MT nD τ sig Unit Val ℕ U ℕ))
  (defs₀ : Defs nD τ sig Val Λ₀) (𝒱₀ : Variants)

local notation "𝕄" => MT nD τ sig Unit Val ℕ U ℕ

include phinj hw EP in
/-- A program whose @main is the call that makes the plan's copies. -/
theorem plan_alone [∀ e, Nonempty (Val e)] [hE0 : IsEmpty (Fin (pin pcs a p).W)] [hK : IsEmpty (Fin (pcs p).pre.K)]
    (hN : (pin pcs a p).N = 1) (pl : Plan nD τ sig Val U n)
    (ho : OwnSemFacts (pcs p).spec (fun k : Fin n × Jx => .dma (pl.sem k)))
    (E : Emb (URounds (GSem nD τ sig) Unit) (MT nD τ sig Unit Val ℕ U ℕ)) [E.LandsIn (upEmb : UEmb _ (MT nD τ sig Unit Val ℕ U ℕ))]
    (u₀ : U) (hu : (ownU u₀ : sProp 𝕄) ⊢ BI.own (E (launchOf pl.cells ∅ pl.minted)))
    (T T2 : List Cp) (hT : (T ++ T2).Perm allCp) (l : List (Fin n × Fin 7)) (hl : l.Perm (Plan.allSends n))
    (G Z : List Jx) (hZ : Z.Perm allJx)
    (m : (ℓ : Loc nD τ sig) → Buf Val ℓ) (g : Dev nD → PrngReg)
    (la lo : Fin n → Dev nD → Loc nD τ sig) (fa : (r : Fin n) → (c : Dev nD) → Buf Val (la r c)) (fo : (r : Fin n) → (c : Dev nD) → Buf Val (lo r c))
    (harr : ∀ c : Dev nD, (unscopedBufs c (fun b => m ((c.tc : Thread nD τ).loc b)) : sProp 𝕄)
      ⊢ sepL (List.finRange n) fun r => iprop((la r c ↦{fullShare} fa r c) ∗ ∃ f, lo r c ↦{fullShare} f))
    (hstart : (bigSep Finset.univ fun c : Dev nD => (sepL (List.finRange n) fun r => iprop((la r c ↦{fullShare} fa r c) ∗ ∃ f, lo r c ↦{fullShare} f) : sProp 𝕄))
      ⊢ bigSep Finset.univ fun c : Dev nD => sepL (List.finRange n) fun r =>
            iprop(sepL allCp (fun j => pl.openp r j c) ∗ sepL T (fun j => pl.srcp r j c)))
    (hbody : ∀ (c : Dev nD) (κ : GSem nD τ sig → ℕ) (t : Fin (pin pcs a p).N),
      pl.St E κ c l (Plan.stands n (Plan.stand0 T T2))
        ⊢ wp frame (wpE defs₀ 𝒱₀ (c.tc : Thread nD τ) none) Set.univ
            (defs₀ .tc (pin pcs a p).body ((pin pcs a p).bodyArgs t ((pin pcs a p).slots t)))
            fun _ => pl.St E κ c [] (Plan.stands n ⟨[], [], [], G, Z⟩))
    (hend : ∀ (r : Fin n) (c : Dev nD), (sepL G fun j => pl.pay c (r, j))
      ⊢ (iprop((la r c ↦{fullShare} fa r c) ∗ (lo r c ↦{fullShare} fo r c)) : sProp 𝕄))
    (main : Dev nD → Prog (TpuEff nD τ sig Val (Sig Λ₀ P fun p => (pcs p).Adm) Proc.tc) PUnit)
    (hmain : ∀ c, main c = .op (.customCall (entry p) ()) fun _ => .ret ⟨⟩)
    (hs : ∀ sm : SemLoc sig, sm.isScoped .tc = true) :
    θ_run (Pipeline.defs pcs defs₀) (onTc main) ⟨m, fun _ => 0, g⟩ fun r =>
      (∀ c k, r.2.mem (la k c) = fa k c ∧ r.2.mem (lo k c) = fo k c) ∧ r.2.sem = fun _ => 0 := by
  refine plan_run pcs a phinj p hw EP defs₀ 𝒱₀ hN pl ho E u₀ hu T T2 hT l hl G Z hZ m g (fun _ => iprop(emp)) ?_ hbody main
    (fun _ _ => Prog.ret ⟨⟩) hmain
    (fun c => sepL (List.finRange n) fun r => iprop((la r c ↦{fullShare} fa r c) ∗ (lo r c ↦{fullShare} fo r c))) (fun c => ?_)
    (fun c s => ∀ k, s.mem (la k c) = fa k c ∧ s.mem (lo k c) = fo k c) (fun c s' => ?_) (fun s h1 h2 => ⟨h1, ?_⟩)
  · have h (X : sProp 𝕄) : X ⊢ iprop(X ∗ emp) := by
      iintro H
      isplitl
      · iexact H
      · iempintro
    exact BI.Entails.trans (BI.bigSep_mono fun c _ => harr c) (BI.Entails.trans hstart (BI.bigSep_mono fun c _ => h _))
  · have he : (sepL (List.finRange n) fun r => sepL G fun j => pl.pay c (r, j))
        ⊢ (sepL (List.finRange n) fun r => iprop((la r c ↦{fullShare} fa r c) ∗ (lo r c ↦{fullShare} fo r c)) : sProp 𝕄) :=
      sepL_mono' _ fun r => hend r c
    rw [wp_ret]
    unfold boundary
    iintro ⟨HG, -, ⟨-, Hss, -⟩, HO⟩
    ihave H := he $$ HG
    imodintro
    isplitr [HO]
    · isplitl [H]
      · iexact H
      · iexact Hss
    · iexact HO
  · have h := read_pairs (U := U) (fun r => la r c) (fun r => lo r c) (fun r => fa r c) (fun r => fo r c) s' (List.finRange n)
    iintro H
    ihave H := h $$ H
    icases H with ⟨%h, HSI⟩
    imodintro
    isplitr
    · ipureintro
      exact fun k => h k (List.mem_finRange k)
    · iexact HSI
  · funext g
    by_cases h : g.1.2 = .tc
    · exact h2 g (Or.inr (hs g.2))
    · exact h2 g (Or.inl h)

end Cert.Comm

end
-- ==== Proof.Grads.Data.lean ====
/-
# The exchange of the gradients: its plan

Every device sends block `d` of each of its eight arrays to device `d`.
-/
module

public import proofs.«01_k».proof.Proof.Comm.Routes
public import proofs.«01_k».proof.Proof.Gen.ExchangeIdeal.Skeleton
public import proofs.«01_k».proof.Proof.Gen.ExchangeIdeal.Launch

@[expose] public section

noncomputable section

namespace Cert.Grads

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.ExchangeIdeal Cert.ExchangeIdeal.Gen

variable {F : FTy → Type} [FloatOps F]

/-- The semaphores: per array seven at the sender, seven at the receiver, one for the local copy. -/
def semOf (k : Fin 8 × Jx) : DmaSem sig := ⟨semNo 8 k, semNo_lt 8 k⟩

/-- No two duties share a semaphore. -/
theorem semOf_inj : Function.Injective semOf := fun k k' h => semNo_inj 8 (congrArg Fin.val h)

/-- A block of array `r`. -/
def S : Fin 8 → Shape
  | 0 => S4096x1536
  | 1 => S256x2048
  | 2 => S4x64x512
  | 3 => S2048x512
  | 4 => S2048x512
  | 5 => S512x4096
  | 6 => S4096x2752
  | 7 => S1376x4096

/-- Eight blocks of array `r`. -/
def O : Fin 8 → Shape
  | 0 => S8x4096x1536
  | 1 => S8x256x2048
  | 2 => S8x4x64x512
  | 3 => S8x2048x512
  | 4 => S8x2048x512
  | 5 => S8x512x4096
  | 6 => S8x4096x2752
  | 7 => S8x1376x4096

/-- The elements of array `r`. -/
def el : Fin 8 → EltTy
  | 0 => .bf16
  | 1 => .bf16
  | 2 => .bf16
  | 3 => .bf16
  | 4 => .bf16
  | 5 => .bf16
  | 6 => .bf16
  | 7 => .bf16

/-- The arrays that the call reads. -/
def a : (r : Fin 8) → Memref sig .tc .hbm (O r) (el r)
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7

/-- The arrays that the call fills. -/
def o : (r : Fin 8) → Memref sig .tc .hbm (O r) (el r)
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7

/-- The slots of array 0. -/
def lay0 : Slots S4096x1536 S8x4096x1536 := lead ![4096, 1536] squeezes_S1x4096x1536_S4096x1536
/-- The slots of array 1. -/
def lay1 : Slots S256x2048 S8x256x2048 := lead ![256, 2048] squeezes_S1x256x2048_S256x2048
/-- The slots of array 2. -/
def lay2 : Slots S4x64x512 S8x4x64x512 := lead ![4, 64, 512] squeezes_S1x4x64x512_S4x64x512
/-- The slots of array 3. -/
def lay3 : Slots S2048x512 S8x2048x512 := lead ![2048, 512] squeezes_S1x2048x512_S2048x512
/-- The slots of array 4. -/
def lay4 : Slots S2048x512 S8x2048x512 := lead ![2048, 512] squeezes_S1x2048x512_S2048x512
/-- The slots of array 5. -/
def lay5 : Slots S512x4096 S8x512x4096 := lead ![512, 4096] squeezes_S1x512x4096_S512x4096
/-- The slots of array 6. -/
def lay6 : Slots S4096x2752 S8x4096x2752 := lead ![4096, 2752] squeezes_S1x4096x2752_S4096x2752
/-- The slots of array 7. -/
def lay7 : Slots S1376x4096 S8x1376x4096 := lead ![1376, 4096] squeezes_S1x1376x4096_S1376x4096

/-- The slots of every array. -/
def lay : (r : Fin 8) → Slots (S r) (O r)
  | 0 => lay0
  | 1 => lay1
  | 2 => lay2
  | 3 => lay3
  | 4 => lay4
  | 5 => lay5
  | 6 => lay6
  | 7 => lay7

variable (m : (ℓ : Loc nD τ sig) → Buf (Elt F) ℓ)

/-- What the call reads. -/
def A : (r : Fin 8) → (d : Dev 8) → Buf (Elt F) ((a r).view.loc (d.tc : Thread nD τ))
  | 0, d => m ((d.tc : Thread nD τ).loc main_arg0)
  | 1, d => m ((d.tc : Thread nD τ).loc main_arg1)
  | 2, d => m ((d.tc : Thread nD τ).loc main_arg2)
  | 3, d => m ((d.tc : Thread nD τ).loc main_arg3)
  | 4, d => m ((d.tc : Thread nD τ).loc main_arg4)
  | 5, d => m ((d.tc : Thread nD τ).loc main_arg5)
  | 6, d => m ((d.tc : Thread nD τ).loc main_arg6)
  | 7, d => m ((d.tc : Thread nD τ).loc main_arg7)

/-- What the call leaves. -/
def D : (r : Fin 8) → (d : Dev 8) → Buf (Elt F) ((o r).view.loc (d.tc : Thread nD τ))
  | 0, d => gswap ![4096, 1536] (fun s : Fin 8 => m ((Dev.tc (nD := nD) s : Thread nD τ).loc main_arg0)) d
  | 1, d => gswap ![256, 2048] (fun s : Fin 8 => m ((Dev.tc (nD := nD) s : Thread nD τ).loc main_arg1)) d
  | 2, d => gswap ![4, 64, 512] (fun s : Fin 8 => m ((Dev.tc (nD := nD) s : Thread nD τ).loc main_arg2)) d
  | 3, d => gswap ![2048, 512] (fun s : Fin 8 => m ((Dev.tc (nD := nD) s : Thread nD τ).loc main_arg3)) d
  | 4, d => gswap ![2048, 512] (fun s : Fin 8 => m ((Dev.tc (nD := nD) s : Thread nD τ).loc main_arg4)) d
  | 5, d => gswap ![512, 4096] (fun s : Fin 8 => m ((Dev.tc (nD := nD) s : Thread nD τ).loc main_arg5)) d
  | 6, d => gswap ![4096, 2752] (fun s : Fin 8 => m ((Dev.tc (nD := nD) s : Thread nD τ).loc main_arg6)) d
  | 7, d => gswap ![1376, 4096] (fun s : Fin 8 => m ((Dev.tc (nD := nD) s : Thread nD τ).loc main_arg7)) d

/-- A block that is sent is the block that arrives. -/
theorem hD : ∀ (r : Fin 8) (c d : Dev 8), (slot (lay r) (a r) d).view.read (Elt F) (A m r c) = (slot (lay r) (o r) c).view.read (Elt F) (D m r d)
  | 0, c, d => (lead_read ![4096, 1536] squeezes_S1x4096x1536_S4096x1536 (Memref.whole main_arg0) d _).trans (Eq.trans (by rfl) (lead_read ![4096, 1536] squeezes_S1x4096x1536_S4096x1536 (Memref.whole main_v1_0) c _).symm)
  | 1, c, d => (lead_read ![256, 2048] squeezes_S1x256x2048_S256x2048 (Memref.whole main_arg1) d _).trans (Eq.trans (by rfl) (lead_read ![256, 2048] squeezes_S1x256x2048_S256x2048 (Memref.whole main_v1_1) c _).symm)
  | 2, c, d => (lead_read ![4, 64, 512] squeezes_S1x4x64x512_S4x64x512 (Memref.whole main_arg2) d _).trans (Eq.trans (by rfl) (lead_read ![4, 64, 512] squeezes_S1x4x64x512_S4x64x512 (Memref.whole main_v1_2) c _).symm)
  | 3, c, d => (lead_read ![2048, 512] squeezes_S1x2048x512_S2048x512 (Memref.whole main_arg3) d _).trans (Eq.trans (by rfl) (lead_read ![2048, 512] squeezes_S1x2048x512_S2048x512 (Memref.whole main_v1_3) c _).symm)
  | 4, c, d => (lead_read ![2048, 512] squeezes_S1x2048x512_S2048x512 (Memref.whole main_arg4) d _).trans (Eq.trans (by rfl) (lead_read ![2048, 512] squeezes_S1x2048x512_S2048x512 (Memref.whole main_v1_4) c _).symm)
  | 5, c, d => (lead_read ![512, 4096] squeezes_S1x512x4096_S512x4096 (Memref.whole main_arg5) d _).trans (Eq.trans (by rfl) (lead_read ![512, 4096] squeezes_S1x512x4096_S512x4096 (Memref.whole main_v1_5) c _).symm)
  | 6, c, d => (lead_read ![4096, 2752] squeezes_S1x4096x2752_S4096x2752 (Memref.whole main_arg6) d _).trans (Eq.trans (by rfl) (lead_read ![4096, 2752] squeezes_S1x4096x2752_S4096x2752 (Memref.whole main_v1_6) c _).symm)
  | 7, c, d => (lead_read ![1376, 4096] squeezes_S1x1376x4096_S1376x4096 (Memref.whole main_arg7) d _).trans (Eq.trans (by rfl) (lead_read ![1376, 4096] squeezes_S1x1376x4096_S1376x4096 (Memref.whole main_v1_7) c _).symm)

/-- The units that a copy of array `r` is worth. -/
def amt : Fin 8 → ℕ
  | 0 => (slot lay0 (Memref.whole main_arg0) 0).view.dmaCredit
  | 1 => (slot lay1 (Memref.whole main_arg1) 0).view.dmaCredit
  | 2 => (slot lay2 (Memref.whole main_arg2) 0).view.dmaCredit
  | 3 => (slot lay3 (Memref.whole main_arg3) 0).view.dmaCredit
  | 4 => (slot lay4 (Memref.whole main_arg4) 0).view.dmaCredit
  | 5 => (slot lay5 (Memref.whole main_arg5) 0).view.dmaCredit
  | 6 => (slot lay6 (Memref.whole main_arg6) 0).view.dmaCredit
  | 7 => (slot lay7 (Memref.whole main_arg7) 0).view.dmaCredit

/-- Every copy is worth at least one unit. -/
theorem amt_pos : ∀ r, 0 < amt r
  | 0 => sig.dmaCredit_pos _ _ _ _ _ (by decide)
  | 1 => sig.dmaCredit_pos _ _ _ _ _ (by decide)
  | 2 => sig.dmaCredit_pos _ _ _ _ _ (by decide)
  | 3 => sig.dmaCredit_pos _ _ _ _ _ (by decide)
  | 4 => sig.dmaCredit_pos _ _ _ _ _ (by decide)
  | 5 => sig.dmaCredit_pos _ _ _ _ _ (by decide)
  | 6 => sig.dmaCredit_pos _ _ _ _ _ (by decide)
  | 7 => sig.dmaCredit_pos _ _ _ _ _ (by decide)

/-- What the kernel reads and what it leaves, from a launch memory. -/
def data : XData τ sig (Elt F) 8 where
  S := S
  O := O
  e := el
  lay := lay
  sem := semOf
  sem_inj := semOf_inj
  o := o
  wo r := match r with
    | 0 => Memref.isWhole_whole _
    | 1 => Memref.isWhole_whole _
    | 2 => Memref.isWhole_whole _
    | 3 => Memref.isWhole_whole _
    | 4 => Memref.isWhole_whole _
    | 5 => Memref.isWhole_whole _
    | 6 => Memref.isWhole_whole _
    | 7 => Memref.isWhole_whole _
  D := D m
  amt := amt
  hamt r s := match r with
    | 0 => rfl
    | 1 => rfl
    | 2 => rfl
    | 3 => rfl
    | 4 => rfl
    | 5 => rfl
    | 6 => rfl
    | 7 => rfl
  amt_pos := amt_pos
  a := a
  wa r := match r with
    | 0 => Memref.isWhole_whole _
    | 1 => Memref.isWhole_whole _
    | 2 => Memref.isWhole_whole _
    | 3 => Memref.isWhole_whole _
    | 4 => Memref.isWhole_whole _
    | 5 => Memref.isWhole_whole _
    | 6 => Memref.isWhole_whole _
    | 7 => Memref.isWhole_whole _
  A := A m
  hD := hD m

/-- The plan. -/
abbrev plan (U : Type) [URA U] (m : (ℓ : Loc nD τ sig) → Buf (Elt F) ℓ) : Plan nD τ sig (Elt F) U 8 := exchPlan (data m)

/-- A part of the kernel, on the call's arrays and semaphores. -/
abbrev onCall {β : Type 1} (f : (arg0 : Memref sig .tc .hbm S8x4096x1536 .bf16) → (harg0 : arg0.IsWhole) → (arg1 : Memref sig .tc .hbm S8x256x2048 .bf16) → (harg1 : arg1.IsWhole) → (arg2 : Memref sig .tc .hbm S8x4x64x512 .bf16) → (harg2 : arg2.IsWhole) → (arg3 : Memref sig .tc .hbm S8x2048x512 .bf16) → (harg3 : arg3.IsWhole) → (arg4 : Memref sig .tc .hbm S8x2048x512 .bf16) → (harg4 : arg4.IsWhole) → (arg5 : Memref sig .tc .hbm S8x512x4096 .bf16) → (harg5 : arg5.IsWhole) → (arg6 : Memref sig .tc .hbm S8x4096x2752 .bf16) → (harg6 : arg6.IsWhole) → (arg7 : Memref sig .tc .hbm S8x1376x4096 .bf16) → (harg7 : arg7.IsWhole) → (arg8 : Memref sig .tc .hbm S8x4096x1536 .bf16) → (harg8 : arg8.IsWhole) → (arg9 : Memref sig .tc .hbm S8x256x2048 .bf16) → (harg9 : arg9.IsWhole) → (arg10 : Memref sig .tc .hbm S8x4x64x512 .bf16) → (harg10 : arg10.IsWhole) → (arg11 : Memref sig .tc .hbm S8x2048x512 .bf16) → (harg11 : arg11.IsWhole) → (arg12 : Memref sig .tc .hbm S8x2048x512 .bf16) → (harg12 : arg12.IsWhole) → (arg13 : Memref sig .tc .hbm S8x512x4096 .bf16) → (harg13 : arg13.IsWhole) → (arg14 : Memref sig .tc .hbm S8x4096x2752 .bf16) → (harg14 : arg14.IsWhole) → (arg15 : Memref sig .tc .hbm S8x1376x4096 .bf16) → (harg15 : arg15.IsWhole) → (arg16 : DmaSems sig S8x7) → (arg17 : DmaSems sig S8x7) → (arg18 : DmaSems sig S8) → β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) cc0_scratch0 cc0_scratch1 cc0_scratch2

end Cert.Grads

end
-- ==== Proof.Grads.Body.lean ====
/-
# The exchange of the gradients: the body

What a device holds after each part of the kernel.
-/
module

public import proofs.«01_k».proof.Proof.Comm.Order
public import proofs.«01_k».proof.Proof.Comm.PlanLaunch
public import proofs.«01_k».proof.Proof.Grads.Data

@[expose] public section

set_option maxRecDepth 65536

noncomputable section

namespace Cert.Grads

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.ExchangeIdeal Cert.ExchangeIdeal.Gen

variable {F : FTy → Type} [FloatOps F] {U : Type} [URA U]
variable (E : Emb (URounds (GSem nD τ sig) Unit) (MT nD τ sig Unit (Elt F) ℕ U ℕ)) (m : (ℓ : Loc nD τ sig) → Buf (Elt F) ℓ)

/-- No loop of the kernels needs a variant. -/
abbrev 𝒱₀ : Variants := Variants.none

/-- The copies in the order in which they are started. -/
def order : List (Fin 8 × Fin 7) :=
  [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6), (4, 0), (4, 1), (4, 2), (4, 3), (4, 4), (4, 5), (4, 6), (5, 0), (5, 1), (5, 2), (5, 3), (5, 4), (5, 5), (5, 6), (6, 0), (6, 1), (6, 2), (6, 3), (6, 4), (6, 5), (6, 6), (7, 0), (7, 1), (7, 2), (7, 3), (7, 4), (7, 5), (7, 6)]

theorem order_perm : order.Perm (Plan.allSends 8) := by decide

theorem to1 : ∀ c : Dev nD, (⟨k0_dev1 c, k0_dev1_lt c⟩ : Dev nD) = hop xk 0 c := by decide +kernel
theorem to2 : ∀ c : Dev nD, (⟨k0_dev2 c, k0_dev2_lt c⟩ : Dev nD) = hop xk 1 c := by decide +kernel
theorem to3 : ∀ c : Dev nD, (⟨k0_dev3 c, k0_dev3_lt c⟩ : Dev nD) = hop xk 2 c := by decide +kernel
theorem to4 : ∀ c : Dev nD, (⟨k0_dev4 c, k0_dev4_lt c⟩ : Dev nD) = hop xk 3 c := by decide +kernel
theorem to5 : ∀ c : Dev nD, (⟨k0_dev5 c, k0_dev5_lt c⟩ : Dev nD) = hop xk 4 c := by decide +kernel
theorem to6 : ∀ c : Dev nD, (⟨k0_dev6 c, k0_dev6_lt c⟩ : Dev nD) = hop xk 5 c := by decide +kernel
theorem to7 : ∀ c : Dev nD, (⟨k0_dev7 c, k0_dev7_lt c⟩ : Dev nD) = hop xk 6 c := by decide +kernel
theorem to8 : ∀ c : Dev nD, (⟨k0_dev8 c, k0_dev8_lt c⟩ : Dev nD) = hop xk 0 c := by decide +kernel
theorem to9 : ∀ c : Dev nD, (⟨k0_dev9 c, k0_dev9_lt c⟩ : Dev nD) = hop xk 1 c := by decide +kernel
theorem to10 : ∀ c : Dev nD, (⟨k0_dev10 c, k0_dev10_lt c⟩ : Dev nD) = hop xk 2 c := by decide +kernel
theorem to11 : ∀ c : Dev nD, (⟨k0_dev11 c, k0_dev11_lt c⟩ : Dev nD) = hop xk 3 c := by decide +kernel
theorem to12 : ∀ c : Dev nD, (⟨k0_dev12 c, k0_dev12_lt c⟩ : Dev nD) = hop xk 4 c := by decide +kernel
theorem to13 : ∀ c : Dev nD, (⟨k0_dev13 c, k0_dev13_lt c⟩ : Dev nD) = hop xk 5 c := by decide +kernel
theorem to14 : ∀ c : Dev nD, (⟨k0_dev14 c, k0_dev14_lt c⟩ : Dev nD) = hop xk 6 c := by decide +kernel
theorem to15 : ∀ c : Dev nD, (⟨k0_dev15 c, k0_dev15_lt c⟩ : Dev nD) = hop xk 0 c := by decide +kernel
theorem to16 : ∀ c : Dev nD, (⟨k0_dev16 c, k0_dev16_lt c⟩ : Dev nD) = hop xk 1 c := by decide +kernel
theorem to17 : ∀ c : Dev nD, (⟨k0_dev17 c, k0_dev17_lt c⟩ : Dev nD) = hop xk 2 c := by decide +kernel
theorem to18 : ∀ c : Dev nD, (⟨k0_dev18 c, k0_dev18_lt c⟩ : Dev nD) = hop xk 3 c := by decide +kernel
theorem to19 : ∀ c : Dev nD, (⟨k0_dev19 c, k0_dev19_lt c⟩ : Dev nD) = hop xk 4 c := by decide +kernel
theorem to20 : ∀ c : Dev nD, (⟨k0_dev20 c, k0_dev20_lt c⟩ : Dev nD) = hop xk 5 c := by decide +kernel
theorem to21 : ∀ c : Dev nD, (⟨k0_dev21 c, k0_dev21_lt c⟩ : Dev nD) = hop xk 6 c := by decide +kernel
theorem to22 : ∀ c : Dev nD, (⟨k0_dev22 c, k0_dev22_lt c⟩ : Dev nD) = hop xk 0 c := by decide +kernel
theorem to23 : ∀ c : Dev nD, (⟨k0_dev23 c, k0_dev23_lt c⟩ : Dev nD) = hop xk 1 c := by decide +kernel
theorem to24 : ∀ c : Dev nD, (⟨k0_dev24 c, k0_dev24_lt c⟩ : Dev nD) = hop xk 2 c := by decide +kernel
theorem to25 : ∀ c : Dev nD, (⟨k0_dev25 c, k0_dev25_lt c⟩ : Dev nD) = hop xk 3 c := by decide +kernel
theorem to26 : ∀ c : Dev nD, (⟨k0_dev26 c, k0_dev26_lt c⟩ : Dev nD) = hop xk 4 c := by decide +kernel
theorem to27 : ∀ c : Dev nD, (⟨k0_dev27 c, k0_dev27_lt c⟩ : Dev nD) = hop xk 5 c := by decide +kernel
theorem to28 : ∀ c : Dev nD, (⟨k0_dev28 c, k0_dev28_lt c⟩ : Dev nD) = hop xk 6 c := by decide +kernel
theorem to29 : ∀ c : Dev nD, (⟨k0_dev29 c, k0_dev29_lt c⟩ : Dev nD) = hop xk 0 c := by decide +kernel
theorem to30 : ∀ c : Dev nD, (⟨k0_dev30 c, k0_dev30_lt c⟩ : Dev nD) = hop xk 1 c := by decide +kernel
theorem to31 : ∀ c : Dev nD, (⟨k0_dev31 c, k0_dev31_lt c⟩ : Dev nD) = hop xk 2 c := by decide +kernel
theorem to32 : ∀ c : Dev nD, (⟨k0_dev32 c, k0_dev32_lt c⟩ : Dev nD) = hop xk 3 c := by decide +kernel
theorem to33 : ∀ c : Dev nD, (⟨k0_dev33 c, k0_dev33_lt c⟩ : Dev nD) = hop xk 4 c := by decide +kernel
theorem to34 : ∀ c : Dev nD, (⟨k0_dev34 c, k0_dev34_lt c⟩ : Dev nD) = hop xk 5 c := by decide +kernel
theorem to35 : ∀ c : Dev nD, (⟨k0_dev35 c, k0_dev35_lt c⟩ : Dev nD) = hop xk 6 c := by decide +kernel
theorem to36 : ∀ c : Dev nD, (⟨k0_dev36 c, k0_dev36_lt c⟩ : Dev nD) = hop xk 0 c := by decide +kernel
theorem to37 : ∀ c : Dev nD, (⟨k0_dev37 c, k0_dev37_lt c⟩ : Dev nD) = hop xk 1 c := by decide +kernel
theorem to38 : ∀ c : Dev nD, (⟨k0_dev38 c, k0_dev38_lt c⟩ : Dev nD) = hop xk 2 c := by decide +kernel
theorem to39 : ∀ c : Dev nD, (⟨k0_dev39 c, k0_dev39_lt c⟩ : Dev nD) = hop xk 3 c := by decide +kernel
theorem to40 : ∀ c : Dev nD, (⟨k0_dev40 c, k0_dev40_lt c⟩ : Dev nD) = hop xk 4 c := by decide +kernel
theorem to41 : ∀ c : Dev nD, (⟨k0_dev41 c, k0_dev41_lt c⟩ : Dev nD) = hop xk 5 c := by decide +kernel
theorem to42 : ∀ c : Dev nD, (⟨k0_dev42 c, k0_dev42_lt c⟩ : Dev nD) = hop xk 6 c := by decide +kernel
theorem to43 : ∀ c : Dev nD, (⟨k0_dev43 c, k0_dev43_lt c⟩ : Dev nD) = hop xk 0 c := by decide +kernel
theorem to44 : ∀ c : Dev nD, (⟨k0_dev44 c, k0_dev44_lt c⟩ : Dev nD) = hop xk 1 c := by decide +kernel
theorem to45 : ∀ c : Dev nD, (⟨k0_dev45 c, k0_dev45_lt c⟩ : Dev nD) = hop xk 2 c := by decide +kernel
theorem to46 : ∀ c : Dev nD, (⟨k0_dev46 c, k0_dev46_lt c⟩ : Dev nD) = hop xk 3 c := by decide +kernel
theorem to47 : ∀ c : Dev nD, (⟨k0_dev47 c, k0_dev47_lt c⟩ : Dev nD) = hop xk 4 c := by decide +kernel
theorem to48 : ∀ c : Dev nD, (⟨k0_dev48 c, k0_dev48_lt c⟩ : Dev nD) = hop xk 5 c := by decide +kernel
theorem to49 : ∀ c : Dev nD, (⟨k0_dev49 c, k0_dev49_lt c⟩ : Dev nD) = hop xk 6 c := by decide +kernel
theorem to50 : ∀ c : Dev nD, (⟨k0_dev50 c, k0_dev50_lt c⟩ : Dev nD) = hop xk 0 c := by decide +kernel
theorem to51 : ∀ c : Dev nD, (⟨k0_dev51 c, k0_dev51_lt c⟩ : Dev nD) = hop xk 1 c := by decide +kernel
theorem to52 : ∀ c : Dev nD, (⟨k0_dev52 c, k0_dev52_lt c⟩ : Dev nD) = hop xk 2 c := by decide +kernel
theorem to53 : ∀ c : Dev nD, (⟨k0_dev53 c, k0_dev53_lt c⟩ : Dev nD) = hop xk 3 c := by decide +kernel
theorem to54 : ∀ c : Dev nD, (⟨k0_dev54 c, k0_dev54_lt c⟩ : Dev nD) = hop xk 4 c := by decide +kernel
theorem to55 : ∀ c : Dev nD, (⟨k0_dev55 c, k0_dev55_lt c⟩ : Dev nD) = hop xk 5 c := by decide +kernel
theorem to56 : ∀ c : Dev nD, (⟨k0_dev56 c, k0_dev56_lt c⟩ : Dev nD) = hop xk 6 c := by decide +kernel

theorem at1 : ∀ c : Dev nD, k0_off1 c = lay0.off (xblk none c) := by decide +kernel
theorem at2 : ∀ c : Dev nD, k0_off2 c = lay0.off (hop xk 0 c) := by decide +kernel
theorem at3 : ∀ c : Dev nD, k0_off1 c = lay0.off (xblk (some 0) c) := by decide +kernel
theorem at4 : ∀ c : Dev nD, k0_off3 c = lay0.off (hop xk 1 c) := by decide +kernel
theorem at5 : ∀ c : Dev nD, k0_off1 c = lay0.off (xblk (some 1) c) := by decide +kernel
theorem at6 : ∀ c : Dev nD, k0_off4 c = lay0.off (hop xk 2 c) := by decide +kernel
theorem at7 : ∀ c : Dev nD, k0_off1 c = lay0.off (xblk (some 2) c) := by decide +kernel
theorem at8 : ∀ c : Dev nD, k0_off5 c = lay0.off (hop xk 3 c) := by decide +kernel
theorem at9 : ∀ c : Dev nD, k0_off1 c = lay0.off (xblk (some 3) c) := by decide +kernel
theorem at10 : ∀ c : Dev nD, k0_off6 c = lay0.off (hop xk 4 c) := by decide +kernel
theorem at11 : ∀ c : Dev nD, k0_off1 c = lay0.off (xblk (some 4) c) := by decide +kernel
theorem at12 : ∀ c : Dev nD, k0_off7 c = lay0.off (hop xk 5 c) := by decide +kernel
theorem at13 : ∀ c : Dev nD, k0_off1 c = lay0.off (xblk (some 5) c) := by decide +kernel
theorem at14 : ∀ c : Dev nD, k0_off8 c = lay0.off (hop xk 6 c) := by decide +kernel
theorem at15 : ∀ c : Dev nD, k0_off1 c = lay0.off (xblk (some 6) c) := by decide +kernel
theorem at16 : ∀ c : Dev nD, k0_off9 c = lay1.off (xblk none c) := by decide +kernel
theorem at17 : ∀ c : Dev nD, k0_off10 c = lay1.off (hop xk 0 c) := by decide +kernel
theorem at18 : ∀ c : Dev nD, k0_off9 c = lay1.off (xblk (some 0) c) := by decide +kernel
theorem at19 : ∀ c : Dev nD, k0_off11 c = lay1.off (hop xk 1 c) := by decide +kernel
theorem at20 : ∀ c : Dev nD, k0_off9 c = lay1.off (xblk (some 1) c) := by decide +kernel
theorem at21 : ∀ c : Dev nD, k0_off12 c = lay1.off (hop xk 2 c) := by decide +kernel
theorem at22 : ∀ c : Dev nD, k0_off9 c = lay1.off (xblk (some 2) c) := by decide +kernel
theorem at23 : ∀ c : Dev nD, k0_off13 c = lay1.off (hop xk 3 c) := by decide +kernel
theorem at24 : ∀ c : Dev nD, k0_off9 c = lay1.off (xblk (some 3) c) := by decide +kernel
theorem at25 : ∀ c : Dev nD, k0_off14 c = lay1.off (hop xk 4 c) := by decide +kernel
theorem at26 : ∀ c : Dev nD, k0_off9 c = lay1.off (xblk (some 4) c) := by decide +kernel
theorem at27 : ∀ c : Dev nD, k0_off15 c = lay1.off (hop xk 5 c) := by decide +kernel
theorem at28 : ∀ c : Dev nD, k0_off9 c = lay1.off (xblk (some 5) c) := by decide +kernel
theorem at29 : ∀ c : Dev nD, k0_off16 c = lay1.off (hop xk 6 c) := by decide +kernel
theorem at30 : ∀ c : Dev nD, k0_off9 c = lay1.off (xblk (some 6) c) := by decide +kernel
theorem at31 : ∀ c : Dev nD, k0_off17 c = lay2.off (xblk none c) := by decide +kernel
theorem at32 : ∀ c : Dev nD, k0_off18 c = lay2.off (hop xk 0 c) := by decide +kernel
theorem at33 : ∀ c : Dev nD, k0_off17 c = lay2.off (xblk (some 0) c) := by decide +kernel
theorem at34 : ∀ c : Dev nD, k0_off19 c = lay2.off (hop xk 1 c) := by decide +kernel
theorem at35 : ∀ c : Dev nD, k0_off17 c = lay2.off (xblk (some 1) c) := by decide +kernel
theorem at36 : ∀ c : Dev nD, k0_off20 c = lay2.off (hop xk 2 c) := by decide +kernel
theorem at37 : ∀ c : Dev nD, k0_off17 c = lay2.off (xblk (some 2) c) := by decide +kernel
theorem at38 : ∀ c : Dev nD, k0_off21 c = lay2.off (hop xk 3 c) := by decide +kernel
theorem at39 : ∀ c : Dev nD, k0_off17 c = lay2.off (xblk (some 3) c) := by decide +kernel
theorem at40 : ∀ c : Dev nD, k0_off22 c = lay2.off (hop xk 4 c) := by decide +kernel
theorem at41 : ∀ c : Dev nD, k0_off17 c = lay2.off (xblk (some 4) c) := by decide +kernel
theorem at42 : ∀ c : Dev nD, k0_off23 c = lay2.off (hop xk 5 c) := by decide +kernel
theorem at43 : ∀ c : Dev nD, k0_off17 c = lay2.off (xblk (some 5) c) := by decide +kernel
theorem at44 : ∀ c : Dev nD, k0_off24 c = lay2.off (hop xk 6 c) := by decide +kernel
theorem at45 : ∀ c : Dev nD, k0_off17 c = lay2.off (xblk (some 6) c) := by decide +kernel
theorem at46 : ∀ c : Dev nD, k0_off25 c = lay3.off (xblk none c) := by decide +kernel
theorem at47 : ∀ c : Dev nD, k0_off26 c = lay3.off (hop xk 0 c) := by decide +kernel
theorem at48 : ∀ c : Dev nD, k0_off25 c = lay3.off (xblk (some 0) c) := by decide +kernel
theorem at49 : ∀ c : Dev nD, k0_off27 c = lay3.off (hop xk 1 c) := by decide +kernel
theorem at50 : ∀ c : Dev nD, k0_off25 c = lay3.off (xblk (some 1) c) := by decide +kernel
theorem at51 : ∀ c : Dev nD, k0_off28 c = lay3.off (hop xk 2 c) := by decide +kernel
theorem at52 : ∀ c : Dev nD, k0_off25 c = lay3.off (xblk (some 2) c) := by decide +kernel
theorem at53 : ∀ c : Dev nD, k0_off29 c = lay3.off (hop xk 3 c) := by decide +kernel
theorem at54 : ∀ c : Dev nD, k0_off25 c = lay3.off (xblk (some 3) c) := by decide +kernel
theorem at55 : ∀ c : Dev nD, k0_off30 c = lay3.off (hop xk 4 c) := by decide +kernel
theorem at56 : ∀ c : Dev nD, k0_off25 c = lay3.off (xblk (some 4) c) := by decide +kernel
theorem at57 : ∀ c : Dev nD, k0_off31 c = lay3.off (hop xk 5 c) := by decide +kernel
theorem at58 : ∀ c : Dev nD, k0_off25 c = lay3.off (xblk (some 5) c) := by decide +kernel
theorem at59 : ∀ c : Dev nD, k0_off32 c = lay3.off (hop xk 6 c) := by decide +kernel
theorem at60 : ∀ c : Dev nD, k0_off25 c = lay3.off (xblk (some 6) c) := by decide +kernel
theorem at61 : ∀ c : Dev nD, k0_off25 c = lay4.off (xblk none c) := by decide +kernel
theorem at62 : ∀ c : Dev nD, k0_off26 c = lay4.off (hop xk 0 c) := by decide +kernel
theorem at63 : ∀ c : Dev nD, k0_off25 c = lay4.off (xblk (some 0) c) := by decide +kernel
theorem at64 : ∀ c : Dev nD, k0_off27 c = lay4.off (hop xk 1 c) := by decide +kernel
theorem at65 : ∀ c : Dev nD, k0_off25 c = lay4.off (xblk (some 1) c) := by decide +kernel
theorem at66 : ∀ c : Dev nD, k0_off28 c = lay4.off (hop xk 2 c) := by decide +kernel
theorem at67 : ∀ c : Dev nD, k0_off25 c = lay4.off (xblk (some 2) c) := by decide +kernel
theorem at68 : ∀ c : Dev nD, k0_off29 c = lay4.off (hop xk 3 c) := by decide +kernel
theorem at69 : ∀ c : Dev nD, k0_off25 c = lay4.off (xblk (some 3) c) := by decide +kernel
theorem at70 : ∀ c : Dev nD, k0_off30 c = lay4.off (hop xk 4 c) := by decide +kernel
theorem at71 : ∀ c : Dev nD, k0_off25 c = lay4.off (xblk (some 4) c) := by decide +kernel
theorem at72 : ∀ c : Dev nD, k0_off31 c = lay4.off (hop xk 5 c) := by decide +kernel
theorem at73 : ∀ c : Dev nD, k0_off25 c = lay4.off (xblk (some 5) c) := by decide +kernel
theorem at74 : ∀ c : Dev nD, k0_off32 c = lay4.off (hop xk 6 c) := by decide +kernel
theorem at75 : ∀ c : Dev nD, k0_off25 c = lay4.off (xblk (some 6) c) := by decide +kernel
theorem at76 : ∀ c : Dev nD, k0_off33 c = lay5.off (xblk none c) := by decide +kernel
theorem at77 : ∀ c : Dev nD, k0_off34 c = lay5.off (hop xk 0 c) := by decide +kernel
theorem at78 : ∀ c : Dev nD, k0_off33 c = lay5.off (xblk (some 0) c) := by decide +kernel
theorem at79 : ∀ c : Dev nD, k0_off35 c = lay5.off (hop xk 1 c) := by decide +kernel
theorem at80 : ∀ c : Dev nD, k0_off33 c = lay5.off (xblk (some 1) c) := by decide +kernel
theorem at81 : ∀ c : Dev nD, k0_off36 c = lay5.off (hop xk 2 c) := by decide +kernel
theorem at82 : ∀ c : Dev nD, k0_off33 c = lay5.off (xblk (some 2) c) := by decide +kernel
theorem at83 : ∀ c : Dev nD, k0_off37 c = lay5.off (hop xk 3 c) := by decide +kernel
theorem at84 : ∀ c : Dev nD, k0_off33 c = lay5.off (xblk (some 3) c) := by decide +kernel
theorem at85 : ∀ c : Dev nD, k0_off38 c = lay5.off (hop xk 4 c) := by decide +kernel
theorem at86 : ∀ c : Dev nD, k0_off33 c = lay5.off (xblk (some 4) c) := by decide +kernel
theorem at87 : ∀ c : Dev nD, k0_off39 c = lay5.off (hop xk 5 c) := by decide +kernel
theorem at88 : ∀ c : Dev nD, k0_off33 c = lay5.off (xblk (some 5) c) := by decide +kernel
theorem at89 : ∀ c : Dev nD, k0_off40 c = lay5.off (hop xk 6 c) := by decide +kernel
theorem at90 : ∀ c : Dev nD, k0_off33 c = lay5.off (xblk (some 6) c) := by decide +kernel
theorem at91 : ∀ c : Dev nD, k0_off41 c = lay6.off (xblk none c) := by decide +kernel
theorem at92 : ∀ c : Dev nD, k0_off42 c = lay6.off (hop xk 0 c) := by decide +kernel
theorem at93 : ∀ c : Dev nD, k0_off41 c = lay6.off (xblk (some 0) c) := by decide +kernel
theorem at94 : ∀ c : Dev nD, k0_off43 c = lay6.off (hop xk 1 c) := by decide +kernel
theorem at95 : ∀ c : Dev nD, k0_off41 c = lay6.off (xblk (some 1) c) := by decide +kernel
theorem at96 : ∀ c : Dev nD, k0_off44 c = lay6.off (hop xk 2 c) := by decide +kernel
theorem at97 : ∀ c : Dev nD, k0_off41 c = lay6.off (xblk (some 2) c) := by decide +kernel
theorem at98 : ∀ c : Dev nD, k0_off45 c = lay6.off (hop xk 3 c) := by decide +kernel
theorem at99 : ∀ c : Dev nD, k0_off41 c = lay6.off (xblk (some 3) c) := by decide +kernel
theorem at100 : ∀ c : Dev nD, k0_off46 c = lay6.off (hop xk 4 c) := by decide +kernel
theorem at101 : ∀ c : Dev nD, k0_off41 c = lay6.off (xblk (some 4) c) := by decide +kernel
theorem at102 : ∀ c : Dev nD, k0_off47 c = lay6.off (hop xk 5 c) := by decide +kernel
theorem at103 : ∀ c : Dev nD, k0_off41 c = lay6.off (xblk (some 5) c) := by decide +kernel
theorem at104 : ∀ c : Dev nD, k0_off48 c = lay6.off (hop xk 6 c) := by decide +kernel
theorem at105 : ∀ c : Dev nD, k0_off41 c = lay6.off (xblk (some 6) c) := by decide +kernel
theorem at106 : ∀ c : Dev nD, k0_off49 c = lay7.off (xblk none c) := by decide +kernel
theorem at107 : ∀ c : Dev nD, k0_off50 c = lay7.off (hop xk 0 c) := by decide +kernel
theorem at108 : ∀ c : Dev nD, k0_off49 c = lay7.off (xblk (some 0) c) := by decide +kernel
theorem at109 : ∀ c : Dev nD, k0_off51 c = lay7.off (hop xk 1 c) := by decide +kernel
theorem at110 : ∀ c : Dev nD, k0_off49 c = lay7.off (xblk (some 1) c) := by decide +kernel
theorem at111 : ∀ c : Dev nD, k0_off52 c = lay7.off (hop xk 2 c) := by decide +kernel
theorem at112 : ∀ c : Dev nD, k0_off49 c = lay7.off (xblk (some 2) c) := by decide +kernel
theorem at113 : ∀ c : Dev nD, k0_off53 c = lay7.off (hop xk 3 c) := by decide +kernel
theorem at114 : ∀ c : Dev nD, k0_off49 c = lay7.off (xblk (some 3) c) := by decide +kernel
theorem at115 : ∀ c : Dev nD, k0_off54 c = lay7.off (hop xk 4 c) := by decide +kernel
theorem at116 : ∀ c : Dev nD, k0_off49 c = lay7.off (xblk (some 4) c) := by decide +kernel
theorem at117 : ∀ c : Dev nD, k0_off55 c = lay7.off (hop xk 5 c) := by decide +kernel
theorem at118 : ∀ c : Dev nD, k0_off49 c = lay7.off (xblk (some 5) c) := by decide +kernel
theorem at119 : ∀ c : Dev nD, k0_off56 c = lay7.off (hop xk 6 c) := by decide +kernel
theorem at120 : ∀ c : Dev nD, k0_off49 c = lay7.off (xblk (some 6) c) := by decide +kernel

/-- The statements of part 1. -/
theorem part1 (c : Dev nD) {κ : GSem nD τ sig → ℕ} {Q : _ → sProp (MT nD τ sig Unit (Elt F) ℕ U ℕ)}
    (h : ∀ x, x.1 = c → (plan U m).St E κ c order [(0, x0), (1, x0), (2, x0), (3, x0), (4, x0), (5, x0), (6, x0), (7, x0)] ⊢ Q x) :
    (plan U m).St E κ c order [(0, x0), (1, x0), (2, x0), (3, x0), (4, x0), (5, x0), (6, x0), (7, x0)]
      ⊢ wp frame (wpE defs₀ 𝒱₀ (c.tc : Thread nD τ) none) Set.univ
        (onCall (k0_part1 (F := F))) Q := by
  unfold onCall
  rw [k0_part1_eq_skeleton]
  unfold k0_part1_skel
  simp only [Prog.lift, Prog.bind_op, Prog.bind_ret, Prog.pure_eq_ret, wp_deviceId]
  rw [wp_ret]
  exact (h _ rfl).trans fupd_intro

/-- The statements of part 2. -/
theorem part2 (c : Dev nD) (v2 v5 v8 v9 v10 : BitVec 32) {κ : GSem nD τ sig → ℕ} {Q : _ → sProp (MT nD τ sig Unit (Elt F) ℕ U ℕ)}
    (h : ∀ x, (plan U m).St E κ c (order.drop 1) [(0, x2), (1, x0), (2, x0), (3, x0), (4, x0), (5, x0), (6, x0), (7, x0)] ⊢ Q x) :
    (plan U m).St E κ c order [(0, x0), (1, x0), (2, x0), (3, x0), (4, x0), (5, x0), (6, x0), (7, x0)]
      ⊢ wp frame (wpE defs₀ 𝒱₀ (c.tc : Thread nD τ) none) Set.univ
        (onCall (k0_part2 (F := F)) c v2 v5 v8 v9 v10) Q := by
  unfold onCall
  rw [k0_part2_eq_skeleton]
  unfold k0_part2_skel
  simp only [Prog.lift, Prog.bind_op, Prog.bind_ret, Prog.pure_eq_ret]
  refine Plan.start_local _ E defs₀ 𝒱₀ (slot_eq (lay0) _ _ (at1 c) _ _) (slot_eq (lay0) _ _ (at1 c) _ _) rfl ?_
  refine Plan.start_send _ E defs₀ 𝒱₀ 0 (to1 c) (slot_eq (lay0) _ _ (at2 c) _ _) (slot_eq (lay0) _ _ (at3 c) _ _) rfl rfl ?_
  rw [wp_ret]
  exact (h _).trans fupd_intro

/-- The statements of part 3. -/
theorem part3 (c : Dev nD) (v2 v5 v8 v10 v11 v12 c4_i32_47 : BitVec 32) {κ : GSem nD τ sig → ℕ} {Q : _ → sProp (MT nD τ sig Unit (Elt F) ℕ U ℕ)}
    (h : ∀ x, (plan U m).St E κ c (order.drop 2) [(0, x3), (1, x0), (2, x0), (3, x0), (4, x0), (5, x0), (6, x0), (7, x0)] ⊢ Q x) :
    (plan U m).St E κ c (order.drop 1) [(0, x2), (1, x0), (2, x0), (3, x0), (4, x0), (5, x0), (6, x0), (7, x0)]
      ⊢ wp frame (wpE defs₀ 𝒱₀ (c.tc : Thread nD τ) none) Set.univ
        (onCall (k0_part3 (F := F)) c v2 v5 v8 v10 v11 v12 c4_i32_47) Q := by
  unfold onCall
  rw [k0_part3_eq_skeleton]
  unfold k0_part3_skel
  simp only [Prog.lift, Prog.bind_op, Prog.bind_ret, Prog.pure_eq_ret]
  refine Plan.start_send _ E defs₀ 𝒱₀ 1 (to2 c) (slot_eq (lay0) _ _ (at4 c) _ _) (slot_eq (lay0) _ _ (at5 c) _ _) rfl rfl ?_
  rw [wp_ret]
  exact (h _).trans fupd_intro

/-- The statements of part 4. -/
theorem part4 (c : Dev nD) (v2 v5 v8 v13 v14 v15 : BitVec 32) {κ : GSem nD τ sig → ℕ} {Q : _ → sProp (MT nD τ sig Unit (Elt F) ℕ U ℕ)}
    (h : ∀ x, (plan U m).St E κ c (order.drop 4) [(0, x5), (1, x0), (2, x0), (3, x0), (4, x0), (5, x0), (6, x0), (7, x0)] ⊢ Q x) :
    (plan U m).St E κ c (order.drop 2) [(0, x3), (1, x0), (2, x0), (3, x0), (4, x0), (5, x0), (6, x0), (7, x0)]
      ⊢ wp frame (wpE defs₀ 𝒱₀ (c.tc : Thread nD τ) none) Set.univ
        (onCall (k0_part4 (F := F)) c v2 v5 v8 v13 v14 v15) Q := by
  unfold onCall
  rw [k0_part4_eq_skeleton]
  unfold k0_part4_skel
  simp only [Prog.lift, Prog.bind_op, Prog.bind_ret, Prog.pure_eq_ret]
  refine Plan.start_send _ E defs₀ 𝒱₀ 2 (to3 c) (slot_eq (lay0) _ _ (at6 c) _ _) (slot_eq (lay0) _ _ (at7 c) _ _) rfl rfl ?_
  refine Plan.start_send _ E defs₀ 𝒱₀ 3 (to4 c) (slot_eq (lay0) _ _ (at8 c) _ _) (slot_eq (lay0) _ _ (at9 c) _ _) rfl rfl ?_
  rw [wp_ret]
  exact (h _).trans fupd_intro

/-- The statements of part 5. -/
theorem part5 (c : Dev nD) (v2 v5 v8 v15 v16 v17 v18 v132 : BitVec 32) {κ : GSem nD τ sig → ℕ} {Q : _ → sProp (MT nD τ sig Unit (Elt F) ℕ U ℕ)}
    (h : ∀ x, (plan U m).St E κ c (order.drop 6) [(0, x7), (1, x0), (2, x0), (3, x0), (4, x0), (5, x0), (6, x0), (7, x0)] ⊢ Q x) :
    (plan U m).St E κ c (order.drop 4) [(0, x5), (1, x0), (2, x0), (3, x0), (4, x0), (5, x0), (6, x0), (7, x0)]
      ⊢ wp frame (wpE defs₀ 𝒱₀ (c.tc : Thread nD τ) none) Set.univ
        (onCall (k0_part5 (F := F)) c v2 v5 v8 v15 v16 v17 v18 v132) Q := by
  unfold onCall
  rw [k0_part5_eq_skeleton]
  unfold k0_part5_skel
  simp only [Prog.lift, Prog.bind_op, Prog.bind_ret, Prog.pure_eq_ret]
  refine Plan.start_send _ E defs₀ 𝒱₀ 4 (to5 c) (slot_eq (lay0) _ _ (at10 c) _ _) (slot_eq (lay0) _ _ (at11 c) _ _) rfl rfl ?_
  refine Plan.start_send _ E defs₀ 𝒱₀ 5 (to6 c) (slot_eq (lay0) _ _ (at12 c) _ _) (slot_eq (lay0) _ _ (at13 c) _ _) rfl rfl ?_
  rw [wp_ret]
  exact (h _).trans fupd_intro

/-- The statements of part 6. -/
theorem part6 (c : Dev nD) (v2 v5 v8 v18 v19 v20 v167 : BitVec 32) {κ : GSem nD τ sig → ℕ} {Q : _ → sProp (MT nD τ sig Unit (Elt F) ℕ U ℕ)}
    (h : ∀ x, (plan U m).St E κ c (order.drop 7) [(0, x8), (1, x0), (2, x0), (3, x0), (4, x0), (5, x0), (6, x0), (7, x0)] ⊢ Q x) :
    (plan U m).St E κ c (order.drop 6) [(0, x7), (1, x0), (2, x0), (3, x0), (4, x0), (5, x0), (6, x0), (7, x0)]
      ⊢ wp frame (wpE defs₀ 𝒱₀ (c.tc : Thread nD τ) none) Set.univ
        (onCall (k0_part6 (F := F)) c v2 v5 v8 v18 v19 v20 v167) Q := by
  unfold onCall
  rw [k0_part6_eq_skeleton]
  unfold k0_part6_skel
  simp only [Prog.lift, Prog.bind_op, Prog.bind_ret, Prog.pure_eq_ret]
  refine Plan.start_send _ E defs₀ 𝒱₀ 6 (to7 c) (slot_eq (lay0) _ _ (at14 c) _ _) (slot_eq (lay0) _ _ (at15 c) _ _) rfl rfl ?_
  rw [wp_ret]
  exact (h _).trans fupd_intro

/-- The statements of part 7. -/
theorem part7 (c : Dev nD) (v2 v5 v8 v9 v10 : BitVec 32) {κ : GSem nD τ sig → ℕ} {Q : _ → sProp (MT nD τ sig Unit (Elt F) ℕ U ℕ)}
    (h : ∀ x, (plan U m).St E κ c (order.drop 8) [(1, x2), (2, x0), (3, x0), (4, x0), (5, x0), (6, x0), (7, x0), (0, x8)] ⊢ Q x) :
    (plan U m).St E κ c (order.drop 7) [(0, x8), (1, x0), (2, x0), (3, x0), (4, x0), (5, x0), (6, x0), (7, x0)]
      ⊢ wp frame (wpE defs₀ 𝒱₀ (c.tc : Thread nD τ) none) Set.univ
        (onCall (k0_part7 (F := F)) c v2 v5 v8 v9 v10) Q := by
  unfold onCall
  rw [k0_part7_eq_skeleton]
  unfold k0_part7_skel
  simp only [Prog.lift, Prog.bind_op, Prog.bind_ret, Prog.pure_eq_ret]
  refine Plan.next _ E ?_
  simp only [List.cons_append, List.nil_append]
  refine Plan.start_local _ E defs₀ 𝒱₀ (slot_eq (lay1) _ _ (at16 c) _ _) (slot_eq (lay1) _ _ (at16 c) _ _) rfl ?_
  refine Plan.start_send _ E defs₀ 𝒱₀ 0 (to8 c) (slot_eq (lay1) _ _ (at17 c) _ _) (slot_eq (lay1) _ _ (at18 c) _ _) rfl rfl ?_
  rw [wp_ret]
  exact (h _).trans fupd_intro

/-- The statements of part 8. -/
theorem part8 (c : Dev nD) (v2 v5 v8 v10 v11 v12 v13 v234 : BitVec 32) {κ : GSem nD τ sig → ℕ} {Q : _ → sProp (MT nD τ sig Unit (Elt F) ℕ U ℕ)}
    (h : ∀ x, (plan U m).St E κ c (order.drop 10) [(1, x4), (2, x0), (3, x0), (4, x0), (5, x0), (6, x0), (7, x0), (0, x8)] ⊢ Q x) :
    (plan U m).St E κ c (order.drop 8) [(1, x2), (2, x0), (3, x0), (4, x0), (5, x0), (6, x0), (7, x0), (0, x8)]
      ⊢ wp frame (wpE defs₀ 𝒱₀ (c.tc : Thread nD τ) none) Set.univ
        (onCall (k0_part8 (F := F)) c v2 v5 v8 v10 v11 v12 v13 v234) Q := by
  unfold onCall
  rw [k0_part8_eq_skeleton]
  unfold k0_part8_skel
  simp only [Prog.lift, Prog.bind_op, Prog.bind_ret, Prog.pure_eq_ret]
  refine Plan.start_send _ E defs₀ 𝒱₀ 1 (to9 c) (slot_eq (lay1) _ _ (at19 c) _ _) (slot_eq (lay1) _ _ (at20 c) _ _) rfl rfl ?_
  refine Plan.start_send _ E defs₀ 𝒱₀ 2 (to10 c) (slot_eq (lay1) _ _ (at21 c) _ _) (slot_eq (lay1) _ _ (at22 c) _ _) rfl rfl ?_
  rw [wp_ret]
  exact (h _).trans fupd_intro

/-- The statements of part 9. -/
theorem part9 (c : Dev nD) (v2 v5 v8 v13 v14 v15 v269 : BitVec 32) {κ : GSem nD τ sig → ℕ} {Q : _ → sProp (MT nD τ sig Unit (Elt F) ℕ U ℕ)}
    (h : ∀ x, (plan U m).St E κ c (order.drop 11) [(1, x5), (2, x0), (3, x0), (4, x0), (5, x0), (6, x0), (7, x0), (0, x8)] ⊢ Q x) :
    (plan U m).St E κ c (order.drop 10) [(1, x4), (2, x0), (3, x0), (4, x0), (5, x0), (6, x0), (7, x0), (0, x8)]
      ⊢ wp frame (wpE defs₀ 𝒱₀ (c.tc : Thread nD τ) none) Set.univ
        (onCall (k0_part9 (F := F)) c v2 v5 v8 v13 v14 v15 v269) Q := by
  unfold onCall
  rw [k0_part9_eq_skeleton]
  unfold k0_part9_skel
  simp only [Prog.lift, Prog.bind_op, Prog.bind_ret, Prog.pure_eq_ret]
  refine Plan.start_send _ E defs₀ 𝒱₀ 3 (to11 c) (slot_eq (lay1) _ _ (at23 c) _ _) (slot_eq (lay1) _ _ (at24 c) _ _) rfl rfl ?_
  rw [wp_ret]
  exact (h _).trans fupd_intro

/-- The statements of part 10. -/
theorem part10 (c : Dev nD) (v2 v5 v8 v15 v16 v17 v18 v19 v302 : BitVec 32) {κ : GSem nD τ sig → ℕ} {Q : _ → sProp (MT nD τ sig Unit (Elt F) ℕ U ℕ)}
    (h : ∀ x, (plan U m).St E κ c (order.drop 13) [(1, x7), (2, x0), (3, x0), (4, x0), (5, x0), (6, x0), (7, x0), (0, x8)] ⊢ Q x) :
    (plan U m).St E κ c (order.drop 11) [(1, x5), (2, x0), (3, x0), (4, x0), (5, x0), (6, x0), (7, x0), (0, x8)]
      ⊢ wp frame (wpE defs₀ 𝒱₀ (c.tc : Thread nD τ) none) Set.univ
        (onCall (k0_part10 (F := F)) c v2 v5 v8 v15 v16 v17 v18 v19 v302) Q := by
  unfold onCall
  rw [k0_part10_eq_skeleton]
  unfold k0_part10_skel
  simp only [Prog.lift, Prog.bind_op, Prog.bind_ret, Prog.pure_eq_ret]
  refine Plan.start_send _ E defs₀ 𝒱₀ 4 (to12 c) (slot_eq (lay1) _ _ (at25 c) _ _) (slot_eq (lay1) _ _ (at26 c) _ _) rfl rfl ?_
  refine Plan.start_send _ E defs₀ 𝒱₀ 5 (to13 c) (slot_eq (lay1) _ _ (at27 c) _ _) (slot_eq (lay1) _ _ (at28 c) _ _) rfl rfl ?_
  rw [wp_ret]
  exact (h _).trans fupd_intro

/-- The statements of part 11. -/
theorem part11 (c : Dev nD) (v2 v5 v8 v18 v19 v20 v337 : BitVec 32) {κ : GSem nD τ sig → ℕ} {Q : _ → sProp (MT nD τ sig Unit (Elt F) ℕ U ℕ)}
    (h : ∀ x, (plan U m).St E κ c (order.drop 14) [(2, x1), (3, x0), (4, x0), (5, x0), (6, x0), (7, x0), (0, x8), (1, x8)] ⊢ Q x) :
    (plan U m).St E κ c (order.drop 13) [(1, x7), (2, x0), (3, x0), (4, x0), (5, x0), (6, x0), (7, x0), (0, x8)]
      ⊢ wp frame (wpE defs₀ 𝒱₀ (c.tc : Thread nD τ) none) Set.univ
        (onCall (k0_part11 (F := F)) c v2 v5 v8 v18 v19 v20 v337) Q := by
  unfold onCall
  rw [k0_part11_eq_skeleton]
  unfold k0_part11_skel
  simp only [Prog.lift, Prog.bind_op, Prog.bind_ret, Prog.pure_eq_ret]
  refine Plan.start_send _ E defs₀ 𝒱₀ 6 (to14 c) (slot_eq (lay1) _ _ (at29 c) _ _) (slot_eq (lay1) _ _ (at30 c) _ _) rfl rfl ?_
  refine Plan.next _ E ?_
  simp only [List.cons_append, List.nil_append]
  refine Plan.start_local _ E defs₀ 𝒱₀ (slot_eq (lay2) _ _ (at31 c) _ _) (slot_eq (lay2) _ _ (at31 c) _ _) rfl ?_
  rw [wp_ret]
  exact (h _).trans fupd_intro

/-- The statements of part 12. -/
theorem part12 (c : Dev nD) (v2 v5 v8 v9 v10 : BitVec 32) {κ : GSem nD τ sig → ℕ} {Q : _ → sProp (MT nD τ sig Unit (Elt F) ℕ U ℕ)}
    (h : ∀ x, (plan U m).St E κ c (order.drop 15) [(2, x2), (3, x0), (4, x0), (5, x0), (6, x0), (7, x0), (0, x8), (1, x8)] ⊢ Q x) :
    (plan U m).St E κ c (order.drop 14) [(2, x1), (3, x0), (4, x0), (5, x0), (6, x0), (7, x0), (0, x8), (1, x8)]
      ⊢ wp frame (wpE defs₀ 𝒱₀ (c.tc : Thread nD τ) none) Set.univ
        (onCall (k0_part12 (F := F)) c v2 v5 v8 v9 v10) Q := by
  unfold onCall
  rw [k0_part12_eq_skeleton]
  unfold k0_part12_skel
  simp only [Prog.lift, Prog.bind_op, Prog.bind_ret, Prog.pure_eq_ret]
  refine Plan.start_send _ E defs₀ 𝒱₀ 0 (to15 c) (slot_eq (lay2) _ _ (at32 c) _ _) (slot_eq (lay2) _ _ (at33 c) _ _) rfl rfl ?_
  rw [wp_ret]
  exact (h _).trans fupd_intro

/-- The statements of part 13. -/
theorem part13 (c : Dev nD) (v2 v5 v8 v10 v11 v12 v401 c0_i32_291 : BitVec 32) {κ : GSem nD τ sig → ℕ} {Q : _ → sProp (MT nD τ sig Unit (Elt F) ℕ U ℕ)}
    (h : ∀ x, (plan U m).St E κ c (order.drop 16) [(2, x3), (3, x0), (4, x0), (5, x0), (6, x0), (7, x0), (0, x8), (1, x8)] ⊢ Q x) :
    (plan U m).St E κ c (order.drop 15) [(2, x2), (3, x0), (4, x0), (5, x0), (6, x0), (7, x0), (0, x8), (1, x8)]
      ⊢ wp frame (wpE defs₀ 𝒱₀ (c.tc : Thread nD τ) none) Set.univ
        (onCall (k0_part13 (F := F)) c v2 v5 v8 v10 v11 v12 v401 c0_i32_291) Q := by
  unfold onCall
  rw [k0_part13_eq_skeleton]
  unfold k0_part13_skel
  simp only [Prog.lift, Prog.bind_op, Prog.bind_ret, Prog.pure_eq_ret]
  refine Plan.start_send _ E defs₀ 𝒱₀ 1 (to16 c) (slot_eq (lay2) _ _ (at34 c) _ _) (slot_eq (lay2) _ _ (at35 c) _ _) rfl rfl ?_
  rw [wp_ret]
  exact (h _).trans fupd_intro

/-- The statements of part 14. -/
theorem part14 (c : Dev nD) (v2 v5 v8 v13 v14 v15 : BitVec 32) {κ : GSem nD τ sig → ℕ} {Q : _ → sProp (MT nD τ sig Unit (Elt F) ℕ U ℕ)}
    (h : ∀ x, (plan U m).St E κ c (order.drop 18) [(2, x5), (3, x0), (4, x0), (5, x0), (6, x0), (7, x0), (0, x8), (1, x8)] ⊢ Q x) :
    (plan U m).St E κ c (order.drop 16) [(2, x3), (3, x0), (4, x0), (5, x0), (6, x0), (7, x0), (0, x8), (1, x8)]
      ⊢ wp frame (wpE defs₀ 𝒱₀ (c.tc : Thread nD τ) none) Set.univ
        (onCall (k0_part14 (F := F)) c v2 v5 v8 v13 v14 v15) Q := by
  unfold onCall
  rw [k0_part14_eq_skeleton]
  unfold k0_part14_skel
  simp only [Prog.lift, Prog.bind_op, Prog.bind_ret, Prog.pure_eq_ret]
  refine Plan.start_send _ E defs₀ 𝒱₀ 2 (to17 c) (slot_eq (lay2) _ _ (at36 c) _ _) (slot_eq (lay2) _ _ (at37 c) _ _) rfl rfl ?_
  refine Plan.start_send _ E defs₀ 𝒱₀ 3 (to18 c) (slot_eq (lay2) _ _ (at38 c) _ _) (slot_eq (lay2) _ _ (at39 c) _ _) rfl rfl ?_
  rw [wp_ret]
  exact (h _).trans fupd_intro

/-- The statements of part 15. -/
theorem part15 (c : Dev nD) (v2 v5 v8 v14 v15 v16 v17 : BitVec 32) {κ : GSem nD τ sig → ℕ} {Q : _ → sProp (MT nD τ sig Unit (Elt F) ℕ U ℕ)}
    (h : ∀ x, (plan U m).St E κ c (order.drop 19) [(2, x6), (3, x0), (4, x0), (5, x0), (6, x0), (7, x0), (0, x8), (1, x8)] ⊢ Q x) :
    (plan U m).St E κ c (order.drop 18) [(2, x5), (3, x0), (4, x0), (5, x0), (6, x0), (7, x0), (0, x8), (1, x8)]
      ⊢ wp frame (wpE defs₀ 𝒱₀ (c.tc : Thread nD τ) none) Set.univ
        (onCall (k0_part15 (F := F)) c v2 v5 v8 v14 v15 v16 v17) Q := by
  unfold onCall
  rw [k0_part15_eq_skeleton]
  unfold k0_part15_skel
  simp only [Prog.lift, Prog.bind_op, Prog.bind_ret, Prog.pure_eq_ret]
  refine Plan.start_send _ E defs₀ 𝒱₀ 4 (to19 c) (slot_eq (lay2) _ _ (at40 c) _ _) (slot_eq (lay2) _ _ (at41 c) _ _) rfl rfl ?_
  rw [wp_ret]
  exact (h _).trans fupd_intro

/-- The statements of part 16. -/
theorem part16 (c : Dev nD) (v2 v5 v8 v18 v19 v20 : BitVec 32) {κ : GSem nD τ sig → ℕ} {Q : _ → sProp (MT nD τ sig Unit (Elt F) ℕ U ℕ)}
    (h : ∀ x, (plan U m).St E κ c (order.drop 21) [(2, x8), (3, x0), (4, x0), (5, x0), (6, x0), (7, x0), (0, x8), (1, x8)] ⊢ Q x) :
    (plan U m).St E κ c (order.drop 19) [(2, x6), (3, x0), (4, x0), (5, x0), (6, x0), (7, x0), (0, x8), (1, x8)]
      ⊢ wp frame (wpE defs₀ 𝒱₀ (c.tc : Thread nD τ) none) Set.univ
        (onCall (k0_part16 (F := F)) c v2 v5 v8 v18 v19 v20) Q := by
  unfold onCall
  rw [k0_part16_eq_skeleton]
  unfold k0_part16_skel
  simp only [Prog.lift, Prog.bind_op, Prog.bind_ret, Prog.pure_eq_ret]
  refine Plan.start_send _ E defs₀ 𝒱₀ 5 (to20 c) (slot_eq (lay2) _ _ (at42 c) _ _) (slot_eq (lay2) _ _ (at43 c) _ _) rfl rfl ?_
  refine Plan.start_send _ E defs₀ 𝒱₀ 6 (to21 c) (slot_eq (lay2) _ _ (at44 c) _ _) (slot_eq (lay2) _ _ (at45 c) _ _) rfl rfl ?_
  rw [wp_ret]
  exact (h _).trans fupd_intro

/-- The statements of part 17. -/
theorem part17 (c : Dev nD) (v2 v5 v8 v9 v10 : BitVec 32) {κ : GSem nD τ sig → ℕ} {Q : _ → sProp (MT nD τ sig Unit (Elt F) ℕ U ℕ)}
    (h : ∀ x, (plan U m).St E κ c (order.drop 22) [(3, x2), (4, x0), (5, x0), (6, x0), (7, x0), (0, x8), (1, x8), (2, x8)] ⊢ Q x) :
    (plan U m).St E κ c (order.drop 21) [(2, x8), (3, x0), (4, x0), (5, x0), (6, x0), (7, x0), (0, x8), (1, x8)]
      ⊢ wp frame (wpE defs₀ 𝒱₀ (c.tc : Thread nD τ) none) Set.univ
        (onCall (k0_part17 (F := F)) c v2 v5 v8 v9 v10) Q := by
  unfold onCall
  rw [k0_part17_eq_skeleton]
  unfold k0_part17_skel
  simp only [Prog.lift, Prog.bind_op, Prog.bind_ret, Prog.pure_eq_ret]
  refine Plan.next _ E ?_
  simp only [List.cons_append, List.nil_append]
  refine Plan.start_local _ E defs₀ 𝒱₀ (slot_eq (lay3) _ _ (at46 c) _ _) (slot_eq (lay3) _ _ (at46 c) _ _) rfl ?_
  refine Plan.start_send _ E defs₀ 𝒱₀ 0 (to22 c) (slot_eq (lay3) _ _ (at47 c) _ _) (slot_eq (lay3) _ _ (at48 c) _ _) rfl rfl ?_
  rw [wp_ret]
  exact (h _).trans fupd_intro

/-- The statements of part 18. -/
theorem part18 (c : Dev nD) (v2 v5 v8 v10 v11 v12 v565 v566 : BitVec 32) {κ : GSem nD τ sig → ℕ} {Q : _ → sProp (MT nD τ sig Unit (Elt F) ℕ U ℕ)}
    (h : ∀ x, (plan U m).St E κ c (order.drop 23) [(3, x3), (4, x0), (5, x0), (6, x0), (7, x0), (0, x8), (1, x8), (2, x8)] ⊢ Q x) :
    (plan U m).St E κ c (order.drop 22) [(3, x2), (4, x0), (5, x0), (6, x0), (7, x0), (0, x8), (1, x8), (2, x8)]
      ⊢ wp frame (wpE defs₀ 𝒱₀ (c.tc : Thread nD τ) none) Set.univ
        (onCall (k0_part18 (F := F)) c v2 v5 v8 v10 v11 v12 v565 v566) Q := by
  unfold onCall
  rw [k0_part18_eq_skeleton]
  unfold k0_part18_skel
  simp only [Prog.lift, Prog.bind_op, Prog.bind_ret, Prog.pure_eq_ret]
  refine Plan.start_send _ E defs₀ 𝒱₀ 1 (to23 c) (slot_eq (lay3) _ _ (at49 c) _ _) (slot_eq (lay3) _ _ (at50 c) _ _) rfl rfl ?_
  rw [wp_ret]
  exact (h _).trans fupd_intro

/-- The statements of part 19. -/
theorem part19 (c : Dev nD) (v2 v5 v8 v13 v14 v15 : BitVec 32) {κ : GSem nD τ sig → ℕ} {Q : _ → sProp (MT nD τ sig Unit (Elt F) ℕ U ℕ)}
    (h : ∀ x, (plan U m).St E κ c (order.drop 25) [(3, x5), (4, x0), (5, x0), (6, x0), (7, x0), (0, x8), (1, x8), (2, x8)] ⊢ Q x) :
    (plan U m).St E κ c (order.drop 23) [(3, x3), (4, x0), (5, x0), (6, x0), (7, x0), (0, x8), (1, x8), (2, x8)]
      ⊢ wp frame (wpE defs₀ 𝒱₀ (c.tc : Thread nD τ) none) Set.univ
        (onCall (k0_part19 (F := F)) c v2 v5 v8 v13 v14 v15) Q := by
  unfold onCall
  rw [k0_part19_eq_skeleton]
  unfold k0_part19_skel
  simp only [Prog.lift, Prog.bind_op, Prog.bind_ret, Prog.pure_eq_ret]
  refine Plan.start_send _ E defs₀ 𝒱₀ 2 (to24 c) (slot_eq (lay3) _ _ (at51 c) _ _) (slot_eq (lay3) _ _ (at52 c) _ _) rfl rfl ?_
  refine Plan.start_send _ E defs₀ 𝒱₀ 3 (to25 c) (slot_eq (lay3) _ _ (at53 c) _ _) (slot_eq (lay3) _ _ (at54 c) _ _) rfl rfl ?_
  rw [wp_ret]
  exact (h _).trans fupd_intro

/-- The statements of part 20. -/
theorem part20 (c : Dev nD) (v2 v5 v8 v14 v15 v16 v17 : BitVec 32) {κ : GSem nD τ sig → ℕ} {Q : _ → sProp (MT nD τ sig Unit (Elt F) ℕ U ℕ)}
    (h : ∀ x, (plan U m).St E κ c (order.drop 26) [(3, x6), (4, x0), (5, x0), (6, x0), (7, x0), (0, x8), (1, x8), (2, x8)] ⊢ Q x) :
    (plan U m).St E κ c (order.drop 25) [(3, x5), (4, x0), (5, x0), (6, x0), (7, x0), (0, x8), (1, x8), (2, x8)]
      ⊢ wp frame (wpE defs₀ 𝒱₀ (c.tc : Thread nD τ) none) Set.univ
        (onCall (k0_part20 (F := F)) c v2 v5 v8 v14 v15 v16 v17) Q := by
  unfold onCall
  rw [k0_part20_eq_skeleton]
  unfold k0_part20_skel
  simp only [Prog.lift, Prog.bind_op, Prog.bind_ret, Prog.pure_eq_ret]
  refine Plan.start_send _ E defs₀ 𝒱₀ 4 (to26 c) (slot_eq (lay3) _ _ (at55 c) _ _) (slot_eq (lay3) _ _ (at56 c) _ _) rfl rfl ?_
  rw [wp_ret]
  exact (h _).trans fupd_intro

/-- The statements of part 21. -/
theorem part21 (c : Dev nD) (v2 v5 v8 v18 v19 v20 : BitVec 32) {κ : GSem nD τ sig → ℕ} {Q : _ → sProp (MT nD τ sig Unit (Elt F) ℕ U ℕ)}
    (h : ∀ x, (plan U m).St E κ c (order.drop 28) [(3, x8), (4, x0), (5, x0), (6, x0), (7, x0), (0, x8), (1, x8), (2, x8)] ⊢ Q x) :
    (plan U m).St E κ c (order.drop 26) [(3, x6), (4, x0), (5, x0), (6, x0), (7, x0), (0, x8), (1, x8), (2, x8)]
      ⊢ wp frame (wpE defs₀ 𝒱₀ (c.tc : Thread nD τ) none) Set.univ
        (onCall (k0_part21 (F := F)) c v2 v5 v8 v18 v19 v20) Q := by
  unfold onCall
  rw [k0_part21_eq_skeleton]
  unfold k0_part21_skel
  simp only [Prog.lift, Prog.bind_op, Prog.bind_ret, Prog.pure_eq_ret]
  refine Plan.start_send _ E defs₀ 𝒱₀ 5 (to27 c) (slot_eq (lay3) _ _ (at57 c) _ _) (slot_eq (lay3) _ _ (at58 c) _ _) rfl rfl ?_
  refine Plan.start_send _ E defs₀ 𝒱₀ 6 (to28 c) (slot_eq (lay3) _ _ (at59 c) _ _) (slot_eq (lay3) _ _ (at60 c) _ _) rfl rfl ?_
  rw [wp_ret]
  exact (h _).trans fupd_intro

/-- The statements of part 22. -/
theorem part22 (c : Dev nD) (v2 v5 v8 v9 v10 : BitVec 32) {κ : GSem nD τ sig → ℕ} {Q : _ → sProp (MT nD τ sig Unit (Elt F) ℕ U ℕ)}
    (h : ∀ x, (plan U m).St E κ c (order.drop 29) [(4, x2), (5, x0), (6, x0), (7, x0), (0, x8), (1, x8), (2, x8), (3, x8)] ⊢ Q x) :
    (plan U m).St E κ c (order.drop 28) [(3, x8), (4, x0), (5, x0), (6, x0), (7, x0), (0, x8), (1, x8), (2, x8)]
      ⊢ wp frame (wpE defs₀ 𝒱₀ (c.tc : Thread nD τ) none) Set.univ
        (onCall (k0_part22 (F := F)) c v2 v5 v8 v9 v10) Q := by
  unfold onCall
  rw [k0_part22_eq_skeleton]
  unfold k0_part22_skel
  simp only [Prog.lift, Prog.bind_op, Prog.bind_ret, Prog.pure_eq_ret]
  refine Plan.next _ E ?_
  simp only [List.cons_append, List.nil_append]
  refine Plan.start_local _ E defs₀ 𝒱₀ (slot_eq (lay4) _ _ (at61 c) _ _) (slot_eq (lay4) _ _ (at61 c) _ _) rfl ?_
  refine Plan.start_send _ E defs₀ 𝒱₀ 0 (to29 c) (slot_eq (lay4) _ _ (at62 c) _ _) (slot_eq (lay4) _ _ (at63 c) _ _) rfl rfl ?_
  rw [wp_ret]
  exact (h _).trans fupd_intro

/-- The statements of part 23. -/
theorem part23 (c : Dev nD) (v2 v5 v8 v10 v11 v12 : BitVec 32) {κ : GSem nD τ sig → ℕ} {Q : _ → sProp (MT nD τ sig Unit (Elt F) ℕ U ℕ)}
    (h : ∀ x, (plan U m).St E κ c (order.drop 30) [(4, x3), (5, x0), (6, x0), (7, x0), (0, x8), (1, x8), (2, x8), (3, x8)] ⊢ Q x) :
    (plan U m).St E κ c (order.drop 29) [(4, x2), (5, x0), (6, x0), (7, x0), (0, x8), (1, x8), (2, x8), (3, x8)]
      ⊢ wp frame (wpE defs₀ 𝒱₀ (c.tc : Thread nD τ) none) Set.univ
        (onCall (k0_part23 (F := F)) c v2 v5 v8 v10 v11 v12) Q := by
  unfold onCall
  rw [k0_part23_eq_skeleton]
  unfold k0_part23_skel
  simp only [Prog.lift, Prog.bind_op, Prog.bind_ret, Prog.pure_eq_ret]
  refine Plan.start_send _ E defs₀ 𝒱₀ 1 (to30 c) (slot_eq (lay4) _ _ (at64 c) _ _) (slot_eq (lay4) _ _ (at65 c) _ _) rfl rfl ?_
  rw [wp_ret]
  exact (h _).trans fupd_intro

/-- The statements of part 24. -/
theorem part24 (c : Dev nD) (v2 v5 v8 v13 v14 v15 : BitVec 32) {κ : GSem nD τ sig → ℕ} {Q : _ → sProp (MT nD τ sig Unit (Elt F) ℕ U ℕ)}
    (h : ∀ x, (plan U m).St E κ c (order.drop 32) [(4, x5), (5, x0), (6, x0), (7, x0), (0, x8), (1, x8), (2, x8), (3, x8)] ⊢ Q x) :
    (plan U m).St E κ c (order.drop 30) [(4, x3), (5, x0), (6, x0), (7, x0), (0, x8), (1, x8), (2, x8), (3, x8)]
      ⊢ wp frame (wpE defs₀ 𝒱₀ (c.tc : Thread nD τ) none) Set.univ
        (onCall (k0_part24 (F := F)) c v2 v5 v8 v13 v14 v15) Q := by
  unfold onCall
  rw [k0_part24_eq_skeleton]
  unfold k0_part24_skel
  simp only [Prog.lift, Prog.bind_op, Prog.bind_ret, Prog.pure_eq_ret]
  refine Plan.start_send _ E defs₀ 𝒱₀ 2 (to31 c) (slot_eq (lay4) _ _ (at66 c) _ _) (slot_eq (lay4) _ _ (at67 c) _ _) rfl rfl ?_
  refine Plan.start_send _ E defs₀ 𝒱₀ 3 (to32 c) (slot_eq (lay4) _ _ (at68 c) _ _) (slot_eq (lay4) _ _ (at69 c) _ _) rfl rfl ?_
  rw [wp_ret]
  exact (h _).trans fupd_intro

/-- The statements of part 25. -/
theorem part25 (c : Dev nD) (v2 v5 v8 v14 v15 v16 v17 : BitVec 32) {κ : GSem nD τ sig → ℕ} {Q : _ → sProp (MT nD τ sig Unit (Elt F) ℕ U ℕ)}
    (h : ∀ x, (plan U m).St E κ c (order.drop 33) [(4, x6), (5, x0), (6, x0), (7, x0), (0, x8), (1, x8), (2, x8), (3, x8)] ⊢ Q x) :
    (plan U m).St E κ c (order.drop 32) [(4, x5), (5, x0), (6, x0), (7, x0), (0, x8), (1, x8), (2, x8), (3, x8)]
      ⊢ wp frame (wpE defs₀ 𝒱₀ (c.tc : Thread nD τ) none) Set.univ
        (onCall (k0_part25 (F := F)) c v2 v5 v8 v14 v15 v16 v17) Q := by
  unfold onCall
  rw [k0_part25_eq_skeleton]
  unfold k0_part25_skel
  simp only [Prog.lift, Prog.bind_op, Prog.bind_ret, Prog.pure_eq_ret]
  refine Plan.start_send _ E defs₀ 𝒱₀ 4 (to33 c) (slot_eq (lay4) _ _ (at70 c) _ _) (slot_eq (lay4) _ _ (at71 c) _ _) rfl rfl ?_
  rw [wp_ret]
  exact (h _).trans fupd_intro

/-- The statements of part 26. -/
theorem part26 (c : Dev nD) (v2 v5 v8 v18 v19 v20 : BitVec 32) {κ : GSem nD τ sig → ℕ} {Q : _ → sProp (MT nD τ sig Unit (Elt F) ℕ U ℕ)}
    (h : ∀ x, (plan U m).St E κ c (order.drop 35) [(4, x8), (5, x0), (6, x0), (7, x0), (0, x8), (1, x8), (2, x8), (3, x8)] ⊢ Q x) :
    (plan U m).St E κ c (order.drop 33) [(4, x6), (5, x0), (6, x0), (7, x0), (0, x8), (1, x8), (2, x8), (3, x8)]
      ⊢ wp frame (wpE defs₀ 𝒱₀ (c.tc : Thread nD τ) none) Set.univ
        (onCall (k0_part26 (F := F)) c v2 v5 v8 v18 v19 v20) Q := by
  unfold onCall
  rw [k0_part26_eq_skeleton]
  unfold k0_part26_skel
  simp only [Prog.lift, Prog.bind_op, Prog.bind_ret, Prog.pure_eq_ret]
  refine Plan.start_send _ E defs₀ 𝒱₀ 5 (to34 c) (slot_eq (lay4) _ _ (at72 c) _ _) (slot_eq (lay4) _ _ (at73 c) _ _) rfl rfl ?_
  refine Plan.start_send _ E defs₀ 𝒱₀ 6 (to35 c) (slot_eq (lay4) _ _ (at74 c) _ _) (slot_eq (lay4) _ _ (at75 c) _ _) rfl rfl ?_
  rw [wp_ret]
  exact (h _).trans fupd_intro

/-- The statements of part 27. -/
theorem part27 (c : Dev nD) (v2 v5 v8 v9 v10 : BitVec 32) {κ : GSem nD τ sig → ℕ} {Q : _ → sProp (MT nD τ sig Unit (Elt F) ℕ U ℕ)}
    (h : ∀ x, (plan U m).St E κ c (order.drop 36) [(5, x2), (6, x0), (7, x0), (0, x8), (1, x8), (2, x8), (3, x8), (4, x8)] ⊢ Q x) :
    (plan U m).St E κ c (order.drop 35) [(4, x8), (5, x0), (6, x0), (7, x0), (0, x8), (1, x8), (2, x8), (3, x8)]
      ⊢ wp frame (wpE defs₀ 𝒱₀ (c.tc : Thread nD τ) none) Set.univ
        (onCall (k0_part27 (F := F)) c v2 v5 v8 v9 v10) Q := by
  unfold onCall
  rw [k0_part27_eq_skeleton]
  unfold k0_part27_skel
  simp only [Prog.lift, Prog.bind_op, Prog.bind_ret, Prog.pure_eq_ret]
  refine Plan.next _ E ?_
  simp only [List.cons_append, List.nil_append]
  refine Plan.start_local _ E defs₀ 𝒱₀ (slot_eq (lay5) _ _ (at76 c) _ _) (slot_eq (lay5) _ _ (at76 c) _ _) rfl ?_
  refine Plan.start_send _ E defs₀ 𝒱₀ 0 (to36 c) (slot_eq (lay5) _ _ (at77 c) _ _) (slot_eq (lay5) _ _ (at78 c) _ _) rfl rfl ?_
  rw [wp_ret]
  exact (h _).trans fupd_intro

/-- The statements of part 28. -/
theorem part28 (c : Dev nD) (v2 v5 v8 v10 v11 v12 : BitVec 32) {κ : GSem nD τ sig → ℕ} {Q : _ → sProp (MT nD τ sig Unit (Elt F) ℕ U ℕ)}
    (h : ∀ x, (plan U m).St E κ c (order.drop 37) [(5, x3), (6, x0), (7, x0), (0, x8), (1, x8), (2, x8), (3, x8), (4, x8)] ⊢ Q x) :
    (plan U m).St E κ c (order.drop 36) [(5, x2), (6, x0), (7, x0), (0, x8), (1, x8), (2, x8), (3, x8), (4, x8)]
      ⊢ wp frame (wpE defs₀ 𝒱₀ (c.tc : Thread nD τ) none) Set.univ
        (onCall (k0_part28 (F := F)) c v2 v5 v8 v10 v11 v12) Q := by
  unfold onCall
  rw [k0_part28_eq_skeleton]
  unfold k0_part28_skel
  simp only [Prog.lift, Prog.bind_op, Prog.bind_ret, Prog.pure_eq_ret]
  refine Plan.start_send _ E defs₀ 𝒱₀ 1 (to37 c) (slot_eq (lay5) _ _ (at79 c) _ _) (slot_eq (lay5) _ _ (at80 c) _ _) rfl rfl ?_
  rw [wp_ret]
  exact (h _).trans fupd_intro

/-- The statements of part 29. -/
theorem part29 (c : Dev nD) (v2 v5 v8 v13 v14 v15 : BitVec 32) {κ : GSem nD τ sig → ℕ} {Q : _ → sProp (MT nD τ sig Unit (Elt F) ℕ U ℕ)}
    (h : ∀ x, (plan U m).St E κ c (order.drop 39) [(5, x5), (6, x0), (7, x0), (0, x8), (1, x8), (2, x8), (3, x8), (4, x8)] ⊢ Q x) :
    (plan U m).St E κ c (order.drop 37) [(5, x3), (6, x0), (7, x0), (0, x8), (1, x8), (2, x8), (3, x8), (4, x8)]
      ⊢ wp frame (wpE defs₀ 𝒱₀ (c.tc : Thread nD τ) none) Set.univ
        (onCall (k0_part29 (F := F)) c v2 v5 v8 v13 v14 v15) Q := by
  unfold onCall
  rw [k0_part29_eq_skeleton]
  unfold k0_part29_skel
  simp only [Prog.lift, Prog.bind_op, Prog.bind_ret, Prog.pure_eq_ret]
  refine Plan.start_send _ E defs₀ 𝒱₀ 2 (to38 c) (slot_eq (lay5) _ _ (at81 c) _ _) (slot_eq (lay5) _ _ (at82 c) _ _) rfl rfl ?_
  refine Plan.start_send _ E defs₀ 𝒱₀ 3 (to39 c) (slot_eq (lay5) _ _ (at83 c) _ _) (slot_eq (lay5) _ _ (at84 c) _ _) rfl rfl ?_
  rw [wp_ret]
  exact (h _).trans fupd_intro

/-- The statements of part 30. -/
theorem part30 (c : Dev nD) (v2 v5 v8 v15 v16 v17 v971 c0_i32_714 : BitVec 32) {κ : GSem nD τ sig → ℕ} {Q : _ → sProp (MT nD τ sig Unit (Elt F) ℕ U ℕ)}
    (h : ∀ x, (plan U m).St E κ c (order.drop 41) [(5, x7), (6, x0), (7, x0), (0, x8), (1, x8), (2, x8), (3, x8), (4, x8)] ⊢ Q x) :
    (plan U m).St E κ c (order.drop 39) [(5, x5), (6, x0), (7, x0), (0, x8), (1, x8), (2, x8), (3, x8), (4, x8)]
      ⊢ wp frame (wpE defs₀ 𝒱₀ (c.tc : Thread nD τ) none) Set.univ
        (onCall (k0_part30 (F := F)) c v2 v5 v8 v15 v16 v17 v971 c0_i32_714) Q := by
  unfold onCall
  rw [k0_part30_eq_skeleton]
  unfold k0_part30_skel
  simp only [Prog.lift, Prog.bind_op, Prog.bind_ret, Prog.pure_eq_ret]
  refine Plan.start_send _ E defs₀ 𝒱₀ 4 (to40 c) (slot_eq (lay5) _ _ (at85 c) _ _) (slot_eq (lay5) _ _ (at86 c) _ _) rfl rfl ?_
  refine Plan.start_send _ E defs₀ 𝒱₀ 5 (to41 c) (slot_eq (lay5) _ _ (at87 c) _ _) (slot_eq (lay5) _ _ (at88 c) _ _) rfl rfl ?_
  rw [wp_ret]
  exact (h _).trans fupd_intro

/-- The statements of part 31. -/
theorem part31 (c : Dev nD) (v2 v5 v8 v18 v19 v20 c4_i32_737 : BitVec 32) {κ : GSem nD τ sig → ℕ} {Q : _ → sProp (MT nD τ sig Unit (Elt F) ℕ U ℕ)}
    (h : ∀ x, (plan U m).St E κ c (order.drop 42) [(5, x8), (6, x0), (7, x0), (0, x8), (1, x8), (2, x8), (3, x8), (4, x8)] ⊢ Q x) :
    (plan U m).St E κ c (order.drop 41) [(5, x7), (6, x0), (7, x0), (0, x8), (1, x8), (2, x8), (3, x8), (4, x8)]
      ⊢ wp frame (wpE defs₀ 𝒱₀ (c.tc : Thread nD τ) none) Set.univ
        (onCall (k0_part31 (F := F)) c v2 v5 v8 v18 v19 v20 c4_i32_737) Q := by
  unfold onCall
  rw [k0_part31_eq_skeleton]
  unfold k0_part31_skel
  simp only [Prog.lift, Prog.bind_op, Prog.bind_ret, Prog.pure_eq_ret]
  refine Plan.start_send _ E defs₀ 𝒱₀ 6 (to42 c) (slot_eq (lay5) _ _ (at89 c) _ _) (slot_eq (lay5) _ _ (at90 c) _ _) rfl rfl ?_
  rw [wp_ret]
  exact (h _).trans fupd_intro

/-- The statements of part 32. -/
theorem part32 (c : Dev nD) (v2 v5 v8 v9 v10 : BitVec 32) {κ : GSem nD τ sig → ℕ} {Q : _ → sProp (MT nD τ sig Unit (Elt F) ℕ U ℕ)}
    (h : ∀ x, (plan U m).St E κ c (order.drop 43) [(6, x2), (7, x0), (0, x8), (1, x8), (2, x8), (3, x8), (4, x8), (5, x8)] ⊢ Q x) :
    (plan U m).St E κ c (order.drop 42) [(5, x8), (6, x0), (7, x0), (0, x8), (1, x8), (2, x8), (3, x8), (4, x8)]
      ⊢ wp frame (wpE defs₀ 𝒱₀ (c.tc : Thread nD τ) none) Set.univ
        (onCall (k0_part32 (F := F)) c v2 v5 v8 v9 v10) Q := by
  unfold onCall
  rw [k0_part32_eq_skeleton]
  unfold k0_part32_skel
  simp only [Prog.lift, Prog.bind_op, Prog.bind_ret, Prog.pure_eq_ret]
  refine Plan.next _ E ?_
  simp only [List.cons_append, List.nil_append]
  refine Plan.start_local _ E defs₀ 𝒱₀ (slot_eq (lay6) _ _ (at91 c) _ _) (slot_eq (lay6) _ _ (at91 c) _ _) rfl ?_
  refine Plan.start_send _ E defs₀ 𝒱₀ 0 (to43 c) (slot_eq (lay6) _ _ (at92 c) _ _) (slot_eq (lay6) _ _ (at93 c) _ _) rfl rfl ?_
  rw [wp_ret]
  exact (h _).trans fupd_intro

/-- The statements of part 33. -/
theorem part33 (c : Dev nD) (v2 v5 v8 v10 v11 v12 v1073 c0_i32_787 : BitVec 32) {κ : GSem nD τ sig → ℕ} {Q : _ → sProp (MT nD τ sig Unit (Elt F) ℕ U ℕ)}
    (h : ∀ x, (plan U m).St E κ c (order.drop 45) [(6, x4), (7, x0), (0, x8), (1, x8), (2, x8), (3, x8), (4, x8), (5, x8)] ⊢ Q x) :
    (plan U m).St E κ c (order.drop 43) [(6, x2), (7, x0), (0, x8), (1, x8), (2, x8), (3, x8), (4, x8), (5, x8)]
      ⊢ wp frame (wpE defs₀ 𝒱₀ (c.tc : Thread nD τ) none) Set.univ
        (onCall (k0_part33 (F := F)) c v2 v5 v8 v10 v11 v12 v1073 c0_i32_787) Q := by
  unfold onCall
  rw [k0_part33_eq_skeleton]
  unfold k0_part33_skel
  simp only [Prog.lift, Prog.bind_op, Prog.bind_ret, Prog.pure_eq_ret]
  refine Plan.start_send _ E defs₀ 𝒱₀ 1 (to44 c) (slot_eq (lay6) _ _ (at94 c) _ _) (slot_eq (lay6) _ _ (at95 c) _ _) rfl rfl ?_
  refine Plan.start_send _ E defs₀ 𝒱₀ 2 (to45 c) (slot_eq (lay6) _ _ (at96 c) _ _) (slot_eq (lay6) _ _ (at97 c) _ _) rfl rfl ?_
  rw [wp_ret]
  exact (h _).trans fupd_intro

/-- The statements of part 34. -/
theorem part34 (c : Dev nD) (v2 v5 v8 v13 v14 v15 c4_i32_810 : BitVec 32) {κ : GSem nD τ sig → ℕ} {Q : _ → sProp (MT nD τ sig Unit (Elt F) ℕ U ℕ)}
    (h : ∀ x, (plan U m).St E κ c (order.drop 46) [(6, x5), (7, x0), (0, x8), (1, x8), (2, x8), (3, x8), (4, x8), (5, x8)] ⊢ Q x) :
    (plan U m).St E κ c (order.drop 45) [(6, x4), (7, x0), (0, x8), (1, x8), (2, x8), (3, x8), (4, x8), (5, x8)]
      ⊢ wp frame (wpE defs₀ 𝒱₀ (c.tc : Thread nD τ) none) Set.univ
        (onCall (k0_part34 (F := F)) c v2 v5 v8 v13 v14 v15 c4_i32_810) Q := by
  unfold onCall
  rw [k0_part34_eq_skeleton]
  unfold k0_part34_skel
  simp only [Prog.lift, Prog.bind_op, Prog.bind_ret, Prog.pure_eq_ret]
  refine Plan.start_send _ E defs₀ 𝒱₀ 3 (to46 c) (slot_eq (lay6) _ _ (at98 c) _ _) (slot_eq (lay6) _ _ (at99 c) _ _) rfl rfl ?_
  rw [wp_ret]
  exact (h _).trans fupd_intro

/-- The statements of part 35. -/
theorem part35 (c : Dev nD) (v2 v5 v8 v15 v16 v17 v18 v19 v1140 v1141 : BitVec 32) {κ : GSem nD τ sig → ℕ} {Q : _ → sProp (MT nD τ sig Unit (Elt F) ℕ U ℕ)}
    (h : ∀ x, (plan U m).St E κ c (order.drop 48) [(6, x7), (7, x0), (0, x8), (1, x8), (2, x8), (3, x8), (4, x8), (5, x8)] ⊢ Q x) :
    (plan U m).St E κ c (order.drop 46) [(6, x5), (7, x0), (0, x8), (1, x8), (2, x8), (3, x8), (4, x8), (5, x8)]
      ⊢ wp frame (wpE defs₀ 𝒱₀ (c.tc : Thread nD τ) none) Set.univ
        (onCall (k0_part35 (F := F)) c v2 v5 v8 v15 v16 v17 v18 v19 v1140 v1141) Q := by
  unfold onCall
  rw [k0_part35_eq_skeleton]
  unfold k0_part35_skel
  simp only [Prog.lift, Prog.bind_op, Prog.bind_ret, Prog.pure_eq_ret]
  refine Plan.start_send _ E defs₀ 𝒱₀ 4 (to47 c) (slot_eq (lay6) _ _ (at100 c) _ _) (slot_eq (lay6) _ _ (at101 c) _ _) rfl rfl ?_
  refine Plan.start_send _ E defs₀ 𝒱₀ 5 (to48 c) (slot_eq (lay6) _ _ (at102 c) _ _) (slot_eq (lay6) _ _ (at103 c) _ _) rfl rfl ?_
  rw [wp_ret]
  exact (h _).trans fupd_intro

/-- The statements of part 36. -/
theorem part36 (c : Dev nD) (v2 v5 v8 v18 v19 v20 v1175 v1176 : BitVec 32) {κ : GSem nD τ sig → ℕ} {Q : _ → sProp (MT nD τ sig Unit (Elt F) ℕ U ℕ)}
    (h : ∀ x, (plan U m).St E κ c (order.drop 49) [(7, x1), (0, x8), (1, x8), (2, x8), (3, x8), (4, x8), (5, x8), (6, x8)] ⊢ Q x) :
    (plan U m).St E κ c (order.drop 48) [(6, x7), (7, x0), (0, x8), (1, x8), (2, x8), (3, x8), (4, x8), (5, x8)]
      ⊢ wp frame (wpE defs₀ 𝒱₀ (c.tc : Thread nD τ) none) Set.univ
        (onCall (k0_part36 (F := F)) c v2 v5 v8 v18 v19 v20 v1175 v1176) Q := by
  unfold onCall
  rw [k0_part36_eq_skeleton]
  unfold k0_part36_skel
  simp only [Prog.lift, Prog.bind_op, Prog.bind_ret, Prog.pure_eq_ret]
  refine Plan.start_send _ E defs₀ 𝒱₀ 6 (to49 c) (slot_eq (lay6) _ _ (at104 c) _ _) (slot_eq (lay6) _ _ (at105 c) _ _) rfl rfl ?_
  refine Plan.next _ E ?_
  simp only [List.cons_append, List.nil_append]
  refine Plan.start_local _ E defs₀ 𝒱₀ (slot_eq (lay7) _ _ (at106 c) _ _) (slot_eq (lay7) _ _ (at106 c) _ _) rfl ?_
  rw [wp_ret]
  exact (h _).trans fupd_intro

/-- The statements of part 37. -/
theorem part37 (c : Dev nD) (v2 v5 v8 v9 v10 c4_i32_882 : BitVec 32) {κ : GSem nD τ sig → ℕ} {Q : _ → sProp (MT nD τ sig Unit (Elt F) ℕ U ℕ)}
    (h : ∀ x, (plan U m).St E κ c (order.drop 50) [(7, x2), (0, x8), (1, x8), (2, x8), (3, x8), (4, x8), (5, x8), (6, x8)] ⊢ Q x) :
    (plan U m).St E κ c (order.drop 49) [(7, x1), (0, x8), (1, x8), (2, x8), (3, x8), (4, x8), (5, x8), (6, x8)]
      ⊢ wp frame (wpE defs₀ 𝒱₀ (c.tc : Thread nD τ) none) Set.univ
        (onCall (k0_part37 (F := F)) c v2 v5 v8 v9 v10 c4_i32_882) Q := by
  unfold onCall
  rw [k0_part37_eq_skeleton]
  unfold k0_part37_skel
  simp only [Prog.lift, Prog.bind_op, Prog.bind_ret, Prog.pure_eq_ret]
  refine Plan.start_send _ E defs₀ 𝒱₀ 0 (to50 c) (slot_eq (lay7) _ _ (at107 c) _ _) (slot_eq (lay7) _ _ (at108 c) _ _) rfl rfl ?_
  rw [wp_ret]
  exact (h _).trans fupd_intro

/-- The statements of part 38. -/
theorem part38 (c : Dev nD) (v2 v5 v8 v11 v12 v13 v1242 v1243 : BitVec 32) {κ : GSem nD τ sig → ℕ} {Q : _ → sProp (MT nD τ sig Unit (Elt F) ℕ U ℕ)}
    (h : ∀ x, (plan U m).St E κ c (order.drop 52) [(7, x4), (0, x8), (1, x8), (2, x8), (3, x8), (4, x8), (5, x8), (6, x8)] ⊢ Q x) :
    (plan U m).St E κ c (order.drop 50) [(7, x2), (0, x8), (1, x8), (2, x8), (3, x8), (4, x8), (5, x8), (6, x8)]
      ⊢ wp frame (wpE defs₀ 𝒱₀ (c.tc : Thread nD τ) none) Set.univ
        (onCall (k0_part38 (F := F)) c v2 v5 v8 v11 v12 v13 v1242 v1243) Q := by
  unfold onCall
  rw [k0_part38_eq_skeleton]
  unfold k0_part38_skel
  simp only [Prog.lift, Prog.bind_op, Prog.bind_ret, Prog.pure_eq_ret]
  refine Plan.start_send _ E defs₀ 𝒱₀ 1 (to51 c) (slot_eq (lay7) _ _ (at109 c) _ _) (slot_eq (lay7) _ _ (at110 c) _ _) rfl rfl ?_
  refine Plan.start_send _ E defs₀ 𝒱₀ 2 (to52 c) (slot_eq (lay7) _ _ (at111 c) _ _) (slot_eq (lay7) _ _ (at112 c) _ _) rfl rfl ?_
  rw [wp_ret]
  exact (h _).trans fupd_intro

/-- The statements of part 39. -/
theorem part39 (c : Dev nD) (v2 v5 v8 v13 v14 v15 v1277 v1278 : BitVec 32) {κ : GSem nD τ sig → ℕ} {Q : _ → sProp (MT nD τ sig Unit (Elt F) ℕ U ℕ)}
    (h : ∀ x, (plan U m).St E κ c (order.drop 53) [(7, x5), (0, x8), (1, x8), (2, x8), (3, x8), (4, x8), (5, x8), (6, x8)] ⊢ Q x) :
    (plan U m).St E κ c (order.drop 52) [(7, x4), (0, x8), (1, x8), (2, x8), (3, x8), (4, x8), (5, x8), (6, x8)]
      ⊢ wp frame (wpE defs₀ 𝒱₀ (c.tc : Thread nD τ) none) Set.univ
        (onCall (k0_part39 (F := F)) c v2 v5 v8 v13 v14 v15 v1277 v1278) Q := by
  unfold onCall
  rw [k0_part39_eq_skeleton]
  unfold k0_part39_skel
  simp only [Prog.lift, Prog.bind_op, Prog.bind_ret, Prog.pure_eq_ret]
  refine Plan.start_send _ E defs₀ 𝒱₀ 3 (to53 c) (slot_eq (lay7) _ _ (at113 c) _ _) (slot_eq (lay7) _ _ (at114 c) _ _) rfl rfl ?_
  rw [wp_ret]
  exact (h _).trans fupd_intro

/-- The statements of part 40. -/
theorem part40 (c : Dev nD) (v2 v5 v8 v16 v17 v18 v19 v20 v1310 v1311 : BitVec 32) {κ : GSem nD τ sig → ℕ} {Q : _ → sProp (MT nD τ sig Unit (Elt F) ℕ U ℕ)}
    (h : ∀ x, (plan U m).St E κ c (order.drop 55) [(7, x7), (0, x8), (1, x8), (2, x8), (3, x8), (4, x8), (5, x8), (6, x8)] ⊢ Q x) :
    (plan U m).St E κ c (order.drop 53) [(7, x5), (0, x8), (1, x8), (2, x8), (3, x8), (4, x8), (5, x8), (6, x8)]
      ⊢ wp frame (wpE defs₀ 𝒱₀ (c.tc : Thread nD τ) none) Set.univ
        (onCall (k0_part40 (F := F)) c v2 v5 v8 v16 v17 v18 v19 v20 v1310 v1311) Q := by
  unfold onCall
  rw [k0_part40_eq_skeleton]
  unfold k0_part40_skel
  simp only [Prog.lift, Prog.bind_op, Prog.bind_ret, Prog.pure_eq_ret]
  refine Plan.start_send _ E defs₀ 𝒱₀ 4 (to54 c) (slot_eq (lay7) _ _ (at115 c) _ _) (slot_eq (lay7) _ _ (at116 c) _ _) rfl rfl ?_
  refine Plan.start_send _ E defs₀ 𝒱₀ 5 (to55 c) (slot_eq (lay7) _ _ (at117 c) _ _) (slot_eq (lay7) _ _ (at118 c) _ _) rfl rfl ?_
  rw [wp_ret]
  exact (h _).trans fupd_intro

/-- The statements of part 41. -/
theorem part41 (c : Dev nD) (v2 v5 v8 v9 v18 v19 v20 c4_i32_980 : BitVec 32) {κ : GSem nD τ sig → ℕ} {Q : _ → sProp (MT nD τ sig Unit (Elt F) ℕ U ℕ)}
    (h : ∀ x, (plan U m).St E κ c (order.drop 56) [(7, x8), (0, x8), (1, x8), (2, x8), (3, x8), (4, x8), (5, x8), (6, x8)] ⊢ Q x) :
    (plan U m).St E κ c (order.drop 55) [(7, x7), (0, x8), (1, x8), (2, x8), (3, x8), (4, x8), (5, x8), (6, x8)]
      ⊢ wp frame (wpE defs₀ 𝒱₀ (c.tc : Thread nD τ) none) Set.univ
        (onCall (k0_part41 (F := F)) c v2 v5 v8 v9 v18 v19 v20 c4_i32_980) Q := by
  unfold onCall
  rw [k0_part41_eq_skeleton]
  unfold k0_part41_skel
  simp only [Prog.lift, Prog.bind_op, Prog.bind_ret, Prog.pure_eq_ret]
  refine Plan.start_send _ E defs₀ 𝒱₀ 6 (to56 c) (slot_eq (lay7) _ _ (at119 c) _ _) (slot_eq (lay7) _ _ (at120 c) _ _) rfl rfl ?_
  rw [wp_ret]
  exact (h _).trans fupd_intro

/-- The statements of part 42. -/
theorem part42 (c : Dev nD) (v2 v5 v8 v10 v11 v12 : BitVec 32) {κ : GSem nD τ sig → ℕ} {Q : _ → sProp (MT nD τ sig Unit (Elt F) ℕ U ℕ)}
    (h : ∀ x, (plan U m).St E κ c (order.drop 56) [(0, x10), (1, x8), (2, x8), (3, x8), (4, x8), (5, x8), (6, x8), (7, x8)] ⊢ Q x) :
    (plan U m).St E κ c (order.drop 56) [(7, x8), (0, x8), (1, x8), (2, x8), (3, x8), (4, x8), (5, x8), (6, x8)]
      ⊢ wp frame (wpE defs₀ 𝒱₀ (c.tc : Thread nD τ) none) Set.univ
        (onCall (k0_part42 (F := F)) c v2 v5 v8 v10 v11 v12) Q := by
  unfold onCall
  rw [k0_part42_eq_skeleton]
  unfold k0_part42_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  rw [wp_ret]
  exact (h _).trans fupd_intro

/-- The statements of part 43. -/
theorem part43 (c : Dev nD) (v2 v5 v8 v11 v12 v13 : BitVec 32) {κ : GSem nD τ sig → ℕ} {Q : _ → sProp (MT nD τ sig Unit (Elt F) ℕ U ℕ)}
    (h : ∀ x, (plan U m).St E κ c (order.drop 56) [(0, x12), (1, x8), (2, x8), (3, x8), (4, x8), (5, x8), (6, x8), (7, x8)] ⊢ Q x) :
    (plan U m).St E κ c (order.drop 56) [(0, x10), (1, x8), (2, x8), (3, x8), (4, x8), (5, x8), (6, x8), (7, x8)]
      ⊢ wp frame (wpE defs₀ 𝒱₀ (c.tc : Thread nD τ) none) Set.univ
        (onCall (k0_part43 (F := F)) c v2 v5 v8 v11 v12 v13) Q := by
  unfold onCall
  rw [k0_part43_eq_skeleton]
  unfold k0_part43_skel
  simp only [Prog.lift, Prog.bind_op, Prog.bind_ret, Prog.pure_eq_ret]
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  refine Plan.wait _ E defs₀ 𝒱₀ (jr 3) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 44. -/
theorem part44 (c : Dev nD) (v2 v5 v8 v14 v15 v16 v17 : BitVec 32) {κ : GSem nD τ sig → ℕ} {Q : _ → sProp (MT nD τ sig Unit (Elt F) ℕ U ℕ)}
    (h : ∀ x, (plan U m).St E κ c (order.drop 56) [(0, x13), (1, x8), (2, x8), (3, x8), (4, x8), (5, x8), (6, x8), (7, x8)] ⊢ Q x) :
    (plan U m).St E κ c (order.drop 56) [(0, x12), (1, x8), (2, x8), (3, x8), (4, x8), (5, x8), (6, x8), (7, x8)]
      ⊢ wp frame (wpE defs₀ 𝒱₀ (c.tc : Thread nD τ) none) Set.univ
        (onCall (k0_part44 (F := F)) c v2 v5 v8 v14 v15 v16 v17) Q := by
  unfold onCall
  rw [k0_part44_eq_skeleton]
  unfold k0_part44_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 45. -/
theorem part45 (c : Dev nD) (v2 v5 v8 v18 v19 v20 v1476 : BitVec 32) {κ : GSem nD τ sig → ℕ} {Q : _ → sProp (MT nD τ sig Unit (Elt F) ℕ U ℕ)}
    (h : ∀ x, (plan U m).St E κ c (order.drop 56) [(0, x15), (1, x8), (2, x8), (3, x8), (4, x8), (5, x8), (6, x8), (7, x8)] ⊢ Q x) :
    (plan U m).St E κ c (order.drop 56) [(0, x13), (1, x8), (2, x8), (3, x8), (4, x8), (5, x8), (6, x8), (7, x8)]
      ⊢ wp frame (wpE defs₀ 𝒱₀ (c.tc : Thread nD τ) none) Set.univ
        (onCall (k0_part45 (F := F)) c v2 v5 v8 v18 v19 v20 v1476) Q := by
  unfold onCall
  rw [k0_part45_eq_skeleton]
  unfold k0_part45_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  rw [wp_ret]
  exact (h _).trans fupd_intro

/-- The statements of part 46. -/
theorem part46 (c : Dev nD) (v2 v5 v8 v9 v10 : BitVec 32) {κ : GSem nD τ sig → ℕ} {Q : _ → sProp (MT nD τ sig Unit (Elt F) ℕ U ℕ)}
    (h : ∀ x, (plan U m).St E κ c (order.drop 56) [(1, x9), (2, x8), (3, x8), (4, x8), (5, x8), (6, x8), (7, x8), (0, x16)] ⊢ Q x) :
    (plan U m).St E κ c (order.drop 56) [(0, x15), (1, x8), (2, x8), (3, x8), (4, x8), (5, x8), (6, x8), (7, x8)]
      ⊢ wp frame (wpE defs₀ 𝒱₀ (c.tc : Thread nD τ) none) Set.univ
        (onCall (k0_part46 (F := F)) c v2 v5 v8 v9 v10) Q := by
  unfold onCall
  rw [k0_part46_eq_skeleton]
  unfold k0_part46_skel
  simp only [Prog.lift, Prog.bind_op, Prog.bind_ret, Prog.pure_eq_ret]
  refine Plan.wait _ E defs₀ 𝒱₀ jl (W' := [js 6, js 5, js 4, js 3, js 2, js 1, js 0]) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  rw [wp_ret]
  exact (h _).trans fupd_intro

/-- The statements of part 47. -/
theorem part47 (c : Dev nD) (v2 v5 v8 v10 v11 v12 v1540 : BitVec 32) {κ : GSem nD τ sig → ℕ} {Q : _ → sProp (MT nD τ sig Unit (Elt F) ℕ U ℕ)}
    (h : ∀ x, (plan U m).St E κ c (order.drop 56) [(1, x11), (2, x8), (3, x8), (4, x8), (5, x8), (6, x8), (7, x8), (0, x16)] ⊢ Q x) :
    (plan U m).St E κ c (order.drop 56) [(1, x9), (2, x8), (3, x8), (4, x8), (5, x8), (6, x8), (7, x8), (0, x16)]
      ⊢ wp frame (wpE defs₀ 𝒱₀ (c.tc : Thread nD τ) none) Set.univ
        (onCall (k0_part47 (F := F)) c v2 v5 v8 v10 v11 v12 v1540) Q := by
  unfold onCall
  rw [k0_part47_eq_skeleton]
  unfold k0_part47_skel
  simp only [Prog.lift, Prog.bind_op, Prog.bind_ret, Prog.pure_eq_ret]
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  rw [wp_ret]
  exact (h _).trans fupd_intro

/-- The statements of part 48. -/
theorem part48 (c : Dev nD) (v2 v5 v8 v13 v14 v15 : BitVec 32) {κ : GSem nD τ sig → ℕ} {Q : _ → sProp (MT nD τ sig Unit (Elt F) ℕ U ℕ)}
    (h : ∀ x, (plan U m).St E κ c (order.drop 56) [(1, x12), (2, x8), (3, x8), (4, x8), (5, x8), (6, x8), (7, x8), (0, x16)] ⊢ Q x) :
    (plan U m).St E κ c (order.drop 56) [(1, x11), (2, x8), (3, x8), (4, x8), (5, x8), (6, x8), (7, x8), (0, x16)]
      ⊢ wp frame (wpE defs₀ 𝒱₀ (c.tc : Thread nD τ) none) Set.univ
        (onCall (k0_part48 (F := F)) c v2 v5 v8 v13 v14 v15) Q := by
  unfold onCall
  rw [k0_part48_eq_skeleton]
  unfold k0_part48_skel
  simp only [Prog.lift, Prog.bind_op, Prog.bind_ret, Prog.pure_eq_ret]
  refine Plan.wait _ E defs₀ 𝒱₀ (jr 3) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 49. -/
theorem part49 (c : Dev nD) (v2 v5 v8 v16 v17 v18 v19 v20 : BitVec 32) {κ : GSem nD τ sig → ℕ} {Q : _ → sProp (MT nD τ sig Unit (Elt F) ℕ U ℕ)}
    (h : ∀ x, (plan U m).St E κ c (order.drop 56) [(1, x14), (2, x8), (3, x8), (4, x8), (5, x8), (6, x8), (7, x8), (0, x16)] ⊢ Q x) :
    (plan U m).St E κ c (order.drop 56) [(1, x12), (2, x8), (3, x8), (4, x8), (5, x8), (6, x8), (7, x8), (0, x16)]
      ⊢ wp frame (wpE defs₀ 𝒱₀ (c.tc : Thread nD τ) none) Set.univ
        (onCall (k0_part49 (F := F)) c v2 v5 v8 v16 v17 v18 v19 v20) Q := by
  unfold onCall
  rw [k0_part49_eq_skeleton]
  unfold k0_part49_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 50. -/
theorem part50 (c : Dev nD) (v2 v5 v8 v9 v18 v19 v20 : BitVec 32) {κ : GSem nD τ sig → ℕ} {Q : _ → sProp (MT nD τ sig Unit (Elt F) ℕ U ℕ)}
    (h : ∀ x, (plan U m).St E κ c (order.drop 56) [(1, x16), (2, x8), (3, x8), (4, x8), (5, x8), (6, x8), (7, x8), (0, x16)] ⊢ Q x) :
    (plan U m).St E κ c (order.drop 56) [(1, x14), (2, x8), (3, x8), (4, x8), (5, x8), (6, x8), (7, x8), (0, x16)]
      ⊢ wp frame (wpE defs₀ 𝒱₀ (c.tc : Thread nD τ) none) Set.univ
        (onCall (k0_part50 (F := F)) c v2 v5 v8 v9 v18 v19 v20) Q := by
  unfold onCall
  rw [k0_part50_eq_skeleton]
  unfold k0_part50_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  rw [wp_ret]
  exact (h _).trans fupd_intro

/-- The statements of part 51. -/
theorem part51 (c : Dev nD) (v2 v5 v8 v10 : BitVec 32) {κ : GSem nD τ sig → ℕ} {Q : _ → sProp (MT nD τ sig Unit (Elt F) ℕ U ℕ)}
    (h : ∀ x, (plan U m).St E κ c (order.drop 56) [(2, x10), (3, x8), (4, x8), (5, x8), (6, x8), (7, x8), (0, x16), (1, x16)] ⊢ Q x) :
    (plan U m).St E κ c (order.drop 56) [(1, x16), (2, x8), (3, x8), (4, x8), (5, x8), (6, x8), (7, x8), (0, x16)]
      ⊢ wp frame (wpE defs₀ 𝒱₀ (c.tc : Thread nD τ) none) Set.univ
        (onCall (k0_part51 (F := F)) c v2 v5 v8 v10) Q := by
  unfold onCall
  rw [k0_part51_eq_skeleton]
  unfold k0_part51_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  rw [wp_ret]
  exact (h _).trans fupd_intro

/-- The statements of part 52. -/
theorem part52 (c : Dev nD) (v2 v5 v8 v11 v12 v13 v1701 : BitVec 32) {κ : GSem nD τ sig → ℕ} {Q : _ → sProp (MT nD τ sig Unit (Elt F) ℕ U ℕ)}
    (h : ∀ x, (plan U m).St E κ c (order.drop 56) [(2, x11), (3, x8), (4, x8), (5, x8), (6, x8), (7, x8), (0, x16), (1, x16)] ⊢ Q x) :
    (plan U m).St E κ c (order.drop 56) [(2, x10), (3, x8), (4, x8), (5, x8), (6, x8), (7, x8), (0, x16), (1, x16)]
      ⊢ wp frame (wpE defs₀ 𝒱₀ (c.tc : Thread nD τ) none) Set.univ
        (onCall (k0_part52 (F := F)) c v2 v5 v8 v11 v12 v13 v1701) Q := by
  unfold onCall
  rw [k0_part52_eq_skeleton]
  unfold k0_part52_skel
  simp only [Prog.lift, Prog.bind_op, Prog.bind_ret, Prog.pure_eq_ret]
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  rw [wp_ret]
  exact (h _).trans fupd_intro

/-- The statements of part 53. -/
theorem part53 (c : Dev nD) (v2 v5 v8 v14 v15 v16 v17 : BitVec 32) {κ : GSem nD τ sig → ℕ} {Q : _ → sProp (MT nD τ sig Unit (Elt F) ℕ U ℕ)}
    (h : ∀ x, (plan U m).St E κ c (order.drop 56) [(2, x13), (3, x8), (4, x8), (5, x8), (6, x8), (7, x8), (0, x16), (1, x16)] ⊢ Q x) :
    (plan U m).St E κ c (order.drop 56) [(2, x11), (3, x8), (4, x8), (5, x8), (6, x8), (7, x8), (0, x16), (1, x16)]
      ⊢ wp frame (wpE defs₀ 𝒱₀ (c.tc : Thread nD τ) none) Set.univ
        (onCall (k0_part53 (F := F)) c v2 v5 v8 v14 v15 v16 v17) Q := by
  unfold onCall
  rw [k0_part53_eq_skeleton]
  unfold k0_part53_skel
  simp only [Prog.lift, Prog.bind_op, Prog.bind_ret, Prog.pure_eq_ret]
  refine Plan.wait _ E defs₀ 𝒱₀ (jr 3) (W' := [js 6, js 5, js 4, js 3, js 2, js 1, js 0, jl, jr 4, jr 5, jr 6]) (by decide) (fun _ h => absurd h List.not_mem_nil) rfl rfl ?_
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 54. -/
theorem part54 (c : Dev nD) (v2 v5 v8 v16 v17 v18 v19 v20 v1763 : BitVec 32) {κ : GSem nD τ sig → ℕ} {Q : _ → sProp (MT nD τ sig Unit (Elt F) ℕ U ℕ)}
    (h : ∀ x, (plan U m).St E κ c (order.drop 56) [(2, x14), (3, x8), (4, x8), (5, x8), (6, x8), (7, x8), (0, x16), (1, x16)] ⊢ Q x) :
    (plan U m).St E κ c (order.drop 56) [(2, x13), (3, x8), (4, x8), (5, x8), (6, x8), (7, x8), (0, x16), (1, x16)]
      ⊢ wp frame (wpE defs₀ 𝒱₀ (c.tc : Thread nD τ) none) Set.univ
        (onCall (k0_part54 (F := F)) c v2 v5 v8 v16 v17 v18 v19 v20 v1763) Q := by
  unfold onCall
  rw [k0_part54_eq_skeleton]
  unfold k0_part54_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 55. -/
theorem part55 (c : Dev nD) (v2 v5 v8 v9 : BitVec 32) {κ : GSem nD τ sig → ℕ} {Q : _ → sProp (MT nD τ sig Unit (Elt F) ℕ U ℕ)}
    (h : ∀ x, (plan U m).St E κ c (order.drop 56) [(3, x9), (4, x8), (5, x8), (6, x8), (7, x8), (0, x16), (1, x16), (2, x16)] ⊢ Q x) :
    (plan U m).St E κ c (order.drop 56) [(2, x14), (3, x8), (4, x8), (5, x8), (6, x8), (7, x8), (0, x16), (1, x16)]
      ⊢ wp frame (wpE defs₀ 𝒱₀ (c.tc : Thread nD τ) none) Set.univ
        (onCall (k0_part55 (F := F)) c v2 v5 v8 v9) Q := by
  unfold onCall
  rw [k0_part55_eq_skeleton]
  unfold k0_part55_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  rw [wp_ret]
  exact (h _).trans fupd_intro

/-- The statements of part 56. -/
theorem part56 (c : Dev nD) (v2 v5 v8 v10 v11 v12 v1823 : BitVec 32) {κ : GSem nD τ sig → ℕ} {Q : _ → sProp (MT nD τ sig Unit (Elt F) ℕ U ℕ)}
    (h : ∀ x, (plan U m).St E κ c (order.drop 56) [(3, x10), (4, x8), (5, x8), (6, x8), (7, x8), (0, x16), (1, x16), (2, x16)] ⊢ Q x) :
    (plan U m).St E κ c (order.drop 56) [(3, x9), (4, x8), (5, x8), (6, x8), (7, x8), (0, x16), (1, x16), (2, x16)]
      ⊢ wp frame (wpE defs₀ 𝒱₀ (c.tc : Thread nD τ) none) Set.univ
        (onCall (k0_part56 (F := F)) c v2 v5 v8 v10 v11 v12 v1823) Q := by
  unfold onCall
  rw [k0_part56_eq_skeleton]
  unfold k0_part56_skel
  simp only [Prog.lift, Prog.bind_op, Prog.bind_ret, Prog.pure_eq_ret]
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  rw [wp_ret]
  exact (h _).trans fupd_intro

/-- The statements of part 57. -/
theorem part57 (c : Dev nD) (v2 v5 v8 v13 v14 v1854 v1855 : BitVec 32) {κ : GSem nD τ sig → ℕ} {Q : _ → sProp (MT nD τ sig Unit (Elt F) ℕ U ℕ)}
    (h : ∀ x, (plan U m).St E κ c (order.drop 56) [(3, x12), (4, x8), (5, x8), (6, x8), (7, x8), (0, x16), (1, x16), (2, x16)] ⊢ Q x) :
    (plan U m).St E κ c (order.drop 56) [(3, x10), (4, x8), (5, x8), (6, x8), (7, x8), (0, x16), (1, x16), (2, x16)]
      ⊢ wp frame (wpE defs₀ 𝒱₀ (c.tc : Thread nD τ) none) Set.univ
        (onCall (k0_part57 (F := F)) c v2 v5 v8 v13 v14 v1854 v1855) Q := by
  unfold onCall
  rw [k0_part57_eq_skeleton]
  unfold k0_part57_skel
  simp only [Prog.lift, Prog.bind_op, Prog.bind_ret, Prog.pure_eq_ret]
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  refine Plan.wait _ E defs₀ 𝒱₀ (jr 3) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 58. -/
theorem part58 (c : Dev nD) (v2 v5 v8 v14 v15 v16 v17 v1889 : BitVec 32) {κ : GSem nD τ sig → ℕ} {Q : _ → sProp (MT nD τ sig Unit (Elt F) ℕ U ℕ)}
    (h : ∀ x, (plan U m).St E κ c (order.drop 56) [(3, x13), (4, x8), (5, x8), (6, x8), (7, x8), (0, x16), (1, x16), (2, x16)] ⊢ Q x) :
    (plan U m).St E κ c (order.drop 56) [(3, x12), (4, x8), (5, x8), (6, x8), (7, x8), (0, x16), (1, x16), (2, x16)]
      ⊢ wp frame (wpE defs₀ 𝒱₀ (c.tc : Thread nD τ) none) Set.univ
        (onCall (k0_part58 (F := F)) c v2 v5 v8 v14 v15 v16 v17 v1889) Q := by
  unfold onCall
  rw [k0_part58_eq_skeleton]
  unfold k0_part58_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 59. -/
theorem part59 (c : Dev nD) (v2 v5 v8 v18 v19 v20 : BitVec 32) {κ : GSem nD τ sig → ℕ} {Q : _ → sProp (MT nD τ sig Unit (Elt F) ℕ U ℕ)}
    (h : ∀ x, (plan U m).St E κ c (order.drop 56) [(3, x16), (4, x8), (5, x8), (6, x8), (7, x8), (0, x16), (1, x16), (2, x16)] ⊢ Q x) :
    (plan U m).St E κ c (order.drop 56) [(3, x13), (4, x8), (5, x8), (6, x8), (7, x8), (0, x16), (1, x16), (2, x16)]
      ⊢ wp frame (wpE defs₀ 𝒱₀ (c.tc : Thread nD τ) none) Set.univ
        (onCall (k0_part59 (F := F)) c v2 v5 v8 v18 v19 v20) Q := by
  unfold onCall
  rw [k0_part59_eq_skeleton]
  unfold k0_part59_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  rw [wp_ret]
  exact (h _).trans fupd_intro

/-- The statements of part 60. -/
theorem part60 (c : Dev nD) (v2 v5 v8 v9 v10 v1953 : BitVec 32) {κ : GSem nD τ sig → ℕ} {Q : _ → sProp (MT nD τ sig Unit (Elt F) ℕ U ℕ)}
    (h : ∀ x, (plan U m).St E κ c (order.drop 56) [(4, x9), (5, x8), (6, x8), (7, x8), (0, x16), (1, x16), (2, x16), (3, x16)] ⊢ Q x) :
    (plan U m).St E κ c (order.drop 56) [(3, x16), (4, x8), (5, x8), (6, x8), (7, x8), (0, x16), (1, x16), (2, x16)]
      ⊢ wp frame (wpE defs₀ 𝒱₀ (c.tc : Thread nD τ) none) Set.univ
        (onCall (k0_part60 (F := F)) c v2 v5 v8 v9 v10 v1953) Q := by
  unfold onCall
  rw [k0_part60_eq_skeleton]
  unfold k0_part60_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  rw [wp_ret]
  exact (h _).trans fupd_intro

/-- The statements of part 93. -/
theorem part93 (c : Dev nD) {κ : GSem nD τ sig → ℕ} {Q : _ → sProp (MT nD τ sig Unit (Elt F) ℕ U ℕ)}
    (h : ∀ x, x.1 = c → (plan U m).St E κ c (order.drop 56) [(4, x9), (5, x8), (6, x8), (7, x8), (0, x16), (1, x16), (2, x16), (3, x16)] ⊢ Q x) :
    (plan U m).St E κ c order [(0, x0), (1, x0), (2, x0), (3, x0), (4, x0), (5, x0), (6, x0), (7, x0)]
      ⊢ wp frame (wpE defs₀ 𝒱₀ (c.tc : Thread nD τ) none) Set.univ
        (onCall (k0_part93 (F := F))) Q := by
  unfold onCall
  rw [k0_part93_eq_skeleton]
  unfold k0_part93_skel
  rw [wp_bind]
  refine part1 E m c fun x hx => ?_
  obtain ⟨d0, v2, v5, v8, v9, v10, v11, v12, v13, v14, v15, v16, v17, v18, v19, v20⟩ := x
  subst hx
  dsimp only
  rw [wp_bind]
  refine part2 E m _ _ _ _ _ _ fun x => ?_
  rw [wp_bind]
  refine part3 E m _ _ _ _ _ _ _ _ fun x => ?_
  rw [wp_bind]
  refine part4 E m _ _ _ _ _ _ _ fun x => ?_
  rw [wp_bind]
  refine part5 E m _ _ _ _ _ _ _ _ _ fun x => ?_
  rw [wp_bind]
  refine part6 E m _ _ _ _ _ _ _ _ fun x => ?_
  rw [wp_bind]
  refine part7 E m _ _ _ _ _ _ fun x => ?_
  rw [wp_bind]
  refine part8 E m _ _ _ _ _ _ _ _ _ fun x => ?_
  rw [wp_bind]
  refine part9 E m _ _ _ _ _ _ _ _ fun x => ?_
  rw [wp_bind]
  refine part10 E m _ _ _ _ _ _ _ _ _ _ fun x => ?_
  rw [wp_bind]
  refine part11 E m _ _ _ _ _ _ _ _ fun x => ?_
  rw [wp_bind]
  refine part12 E m _ _ _ _ _ _ fun x => ?_
  rw [wp_bind]
  refine part13 E m _ _ _ _ _ _ _ _ _ fun x => ?_
  rw [wp_bind]
  refine part14 E m _ _ _ _ _ _ _ fun x => ?_
  rw [wp_bind]
  refine part15 E m _ _ _ _ _ _ _ _ fun x => ?_
  rw [wp_bind]
  refine part16 E m _ _ _ _ _ _ _ fun x => ?_
  rw [wp_bind]
  refine part17 E m _ _ _ _ _ _ fun x => ?_
  rw [wp_bind]
  refine part18 E m _ _ _ _ _ _ _ _ _ fun x => ?_
  rw [wp_bind]
  refine part19 E m _ _ _ _ _ _ _ fun x => ?_
  rw [wp_bind]
  refine part20 E m _ _ _ _ _ _ _ _ fun x => ?_
  rw [wp_bind]
  refine part21 E m _ _ _ _ _ _ _ fun x => ?_
  rw [wp_bind]
  refine part22 E m _ _ _ _ _ _ fun x => ?_
  rw [wp_bind]
  refine part23 E m _ _ _ _ _ _ _ fun x => ?_
  rw [wp_bind]
  refine part24 E m _ _ _ _ _ _ _ fun x => ?_
  rw [wp_bind]
  refine part25 E m _ _ _ _ _ _ _ _ fun x => ?_
  rw [wp_bind]
  refine part26 E m _ _ _ _ _ _ _ fun x => ?_
  rw [wp_bind]
  refine part27 E m _ _ _ _ _ _ fun x => ?_
  rw [wp_bind]
  refine part28 E m _ _ _ _ _ _ _ fun x => ?_
  rw [wp_bind]
  refine part29 E m _ _ _ _ _ _ _ fun x => ?_
  rw [wp_bind]
  refine part30 E m _ _ _ _ _ _ _ _ _ fun x => ?_
  rw [wp_bind]
  refine part31 E m _ _ _ _ _ _ _ _ fun x => ?_
  rw [wp_bind]
  refine part32 E m _ _ _ _ _ _ fun x => ?_
  rw [wp_bind]
  refine part33 E m _ _ _ _ _ _ _ _ _ fun x => ?_
  rw [wp_bind]
  refine part34 E m _ _ _ _ _ _ _ _ fun x => ?_
  rw [wp_bind]
  refine part35 E m _ _ _ _ _ _ _ _ _ _ _ fun x => ?_
  rw [wp_bind]
  refine part36 E m _ _ _ _ _ _ _ _ _ fun x => ?_
  rw [wp_bind]
  refine part37 E m _ _ _ _ _ _ _ fun x => ?_
  rw [wp_bind]
  refine part38 E m _ _ _ _ _ _ _ _ _ fun x => ?_
  rw [wp_bind]
  refine part39 E m _ _ _ _ _ _ _ _ _ fun x => ?_
  rw [wp_bind]
  refine part40 E m _ _ _ _ _ _ _ _ _ _ _ fun x => ?_
  rw [wp_bind]
  refine part41 E m _ _ _ _ _ _ _ _ _ fun x => ?_
  rw [wp_bind]
  refine part42 E m _ _ _ _ _ _ _ fun x => ?_
  rw [wp_bind]
  refine part43 E m _ _ _ _ _ _ _ fun x => ?_
  rw [wp_bind]
  refine part44 E m _ _ _ _ _ _ _ _ fun x => ?_
  rw [wp_bind]
  refine part45 E m _ _ _ _ _ _ _ _ fun x => ?_
  rw [wp_bind]
  refine part46 E m _ _ _ _ _ _ fun x => ?_
  rw [wp_bind]
  refine part47 E m _ _ _ _ _ _ _ _ fun x => ?_
  rw [wp_bind]
  refine part48 E m _ _ _ _ _ _ _ fun x => ?_
  rw [wp_bind]
  refine part49 E m _ _ _ _ _ _ _ _ _ fun x => ?_
  rw [wp_bind]
  refine part50 E m _ _ _ _ _ _ _ _ fun x => ?_
  rw [wp_bind]
  refine part51 E m _ _ _ _ _ fun x => ?_
  rw [wp_bind]
  refine part52 E m _ _ _ _ _ _ _ _ fun x => ?_
  rw [wp_bind]
  refine part53 E m _ _ _ _ _ _ _ _ fun x => ?_
  rw [wp_bind]
  refine part54 E m _ _ _ _ _ _ _ _ _ _ fun x => ?_
  rw [wp_bind]
  refine part55 E m _ _ _ _ _ fun x => ?_
  rw [wp_bind]
  refine part56 E m _ _ _ _ _ _ _ _ fun x => ?_
  rw [wp_bind]
  refine part57 E m _ _ _ _ _ _ _ _ fun x => ?_
  rw [wp_bind]
  refine part58 E m _ _ _ _ _ _ _ _ _ fun x => ?_
  rw [wp_bind]
  refine part59 E m _ _ _ _ _ _ _ fun x => ?_
  rw [wp_bind]
  refine part60 E m _ _ _ _ _ _ _ fun x => ?_
  simp only [Prog.lift, Prog.bind_op, Prog.bind_ret, Prog.pure_eq_ret]
  rw [wp_ret]
  exact (h _ rfl).trans fupd_intro

/-- The statements of part 61. -/
theorem part61 (c : Dev nD) (v2 v5 v8 v11 v12 v13 : BitVec 32) {κ : GSem nD τ sig → ℕ} {Q : _ → sProp (MT nD τ sig Unit (Elt F) ℕ U ℕ)}
    (h : ∀ x, (plan U m).St E κ c (order.drop 56) [(4, x11), (5, x8), (6, x8), (7, x8), (0, x16), (1, x16), (2, x16), (3, x16)] ⊢ Q x) :
    (plan U m).St E κ c (order.drop 56) [(4, x9), (5, x8), (6, x8), (7, x8), (0, x16), (1, x16), (2, x16), (3, x16)]
      ⊢ wp frame (wpE defs₀ 𝒱₀ (c.tc : Thread nD τ) none) Set.univ
        (onCall (k0_part61 (F := F)) c v2 v5 v8 v11 v12 v13) Q := by
  unfold onCall
  rw [k0_part61_eq_skeleton]
  unfold k0_part61_skel
  simp only [Prog.lift, Prog.bind_op, Prog.bind_ret, Prog.pure_eq_ret]
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  rw [wp_ret]
  exact (h _).trans fupd_intro

/-- The statements of part 62. -/
theorem part62 (c : Dev nD) (v2 v5 v8 v13 v14 v15 c4_i32_1534 : BitVec 32) {κ : GSem nD τ sig → ℕ} {Q : _ → sProp (MT nD τ sig Unit (Elt F) ℕ U ℕ)}
    (h : ∀ x, (plan U m).St E κ c (order.drop 56) [(4, x13), (5, x8), (6, x8), (7, x8), (0, x16), (1, x16), (2, x16), (3, x16)] ⊢ Q x) :
    (plan U m).St E κ c (order.drop 56) [(4, x11), (5, x8), (6, x8), (7, x8), (0, x16), (1, x16), (2, x16), (3, x16)]
      ⊢ wp frame (wpE defs₀ 𝒱₀ (c.tc : Thread nD τ) none) Set.univ
        (onCall (k0_part62 (F := F)) c v2 v5 v8 v13 v14 v15 c4_i32_1534) Q := by
  unfold onCall
  rw [k0_part62_eq_skeleton]
  unfold k0_part62_skel
  simp only [Prog.lift, Prog.bind_op, Prog.bind_ret, Prog.pure_eq_ret]
  refine Plan.wait _ E defs₀ 𝒱₀ (jr 3) (W' := [js 6, js 5, js 4, js 3, js 2, js 1, js 0, jl, jr 4, jr 5, jr 6]) (by decide) (fun _ h => absurd h List.not_mem_nil) rfl rfl ?_
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 63. -/
theorem part63 (c : Dev nD) (v2 v5 v8 v16 v17 v18 v19 v20 v2049 c2_i32_1559 : BitVec 32) {κ : GSem nD τ sig → ℕ} {Q : _ → sProp (MT nD τ sig Unit (Elt F) ℕ U ℕ)}
    (h : ∀ x, (plan U m).St E κ c (order.drop 56) [(4, x14), (5, x8), (6, x8), (7, x8), (0, x16), (1, x16), (2, x16), (3, x16)] ⊢ Q x) :
    (plan U m).St E κ c (order.drop 56) [(4, x13), (5, x8), (6, x8), (7, x8), (0, x16), (1, x16), (2, x16), (3, x16)]
      ⊢ wp frame (wpE defs₀ 𝒱₀ (c.tc : Thread nD τ) none) Set.univ
        (onCall (k0_part63 (F := F)) c v2 v5 v8 v16 v17 v18 v19 v20 v2049 c2_i32_1559) Q := by
  unfold onCall
  rw [k0_part63_eq_skeleton]
  unfold k0_part63_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 64. -/
theorem part64 (c : Dev nD) (v2 v5 v8 v9 : BitVec 32) {κ : GSem nD τ sig → ℕ} {Q : _ → sProp (MT nD τ sig Unit (Elt F) ℕ U ℕ)}
    (h : ∀ x, (plan U m).St E κ c (order.drop 56) [(5, x9), (6, x8), (7, x8), (0, x16), (1, x16), (2, x16), (3, x16), (4, x16)] ⊢ Q x) :
    (plan U m).St E κ c (order.drop 56) [(4, x14), (5, x8), (6, x8), (7, x8), (0, x16), (1, x16), (2, x16), (3, x16)]
      ⊢ wp frame (wpE defs₀ 𝒱₀ (c.tc : Thread nD τ) none) Set.univ
        (onCall (k0_part64 (F := F)) c v2 v5 v8 v9) Q := by
  unfold onCall
  rw [k0_part64_eq_skeleton]
  unfold k0_part64_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  rw [wp_ret]
  exact (h _).trans fupd_intro

/-- The statements of part 65. -/
theorem part65 (c : Dev nD) (v2 v5 v8 v10 v11 v12 : BitVec 32) {κ : GSem nD τ sig → ℕ} {Q : _ → sProp (MT nD τ sig Unit (Elt F) ℕ U ℕ)}
    (h : ∀ x, (plan U m).St E κ c (order.drop 56) [(5, x10), (6, x8), (7, x8), (0, x16), (1, x16), (2, x16), (3, x16), (4, x16)] ⊢ Q x) :
    (plan U m).St E κ c (order.drop 56) [(5, x9), (6, x8), (7, x8), (0, x16), (1, x16), (2, x16), (3, x16), (4, x16)]
      ⊢ wp frame (wpE defs₀ 𝒱₀ (c.tc : Thread nD τ) none) Set.univ
        (onCall (k0_part65 (F := F)) c v2 v5 v8 v10 v11 v12) Q := by
  unfold onCall
  rw [k0_part65_eq_skeleton]
  unfold k0_part65_skel
  simp only [Prog.lift, Prog.bind_op, Prog.bind_ret, Prog.pure_eq_ret]
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  rw [wp_ret]
  exact (h _).trans fupd_intro

/-- The statements of part 66. -/
theorem part66 (c : Dev nD) (v2 v5 v8 v12 v13 v14 v2146 : BitVec 32) {κ : GSem nD τ sig → ℕ} {Q : _ → sProp (MT nD τ sig Unit (Elt F) ℕ U ℕ)}
    (h : ∀ x, (plan U m).St E κ c (order.drop 56) [(5, x12), (6, x8), (7, x8), (0, x16), (1, x16), (2, x16), (3, x16), (4, x16)] ⊢ Q x) :
    (plan U m).St E κ c (order.drop 56) [(5, x10), (6, x8), (7, x8), (0, x16), (1, x16), (2, x16), (3, x16), (4, x16)]
      ⊢ wp frame (wpE defs₀ 𝒱₀ (c.tc : Thread nD τ) none) Set.univ
        (onCall (k0_part66 (F := F)) c v2 v5 v8 v12 v13 v14 v2146) Q := by
  unfold onCall
  rw [k0_part66_eq_skeleton]
  unfold k0_part66_skel
  simp only [Prog.lift, Prog.bind_op, Prog.bind_ret, Prog.pure_eq_ret]
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  refine Plan.wait _ E defs₀ 𝒱₀ (jr 3) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 67. -/
theorem part67 (c : Dev nD) (v2 v5 v8 v14 v15 v16 v17 v2179 c2_i32_1662 : BitVec 32) {κ : GSem nD τ sig → ℕ} {Q : _ → sProp (MT nD τ sig Unit (Elt F) ℕ U ℕ)}
    (h : ∀ x, (plan U m).St E κ c (order.drop 56) [(5, x13), (6, x8), (7, x8), (0, x16), (1, x16), (2, x16), (3, x16), (4, x16)] ⊢ Q x) :
    (plan U m).St E κ c (order.drop 56) [(5, x12), (6, x8), (7, x8), (0, x16), (1, x16), (2, x16), (3, x16), (4, x16)]
      ⊢ wp frame (wpE defs₀ 𝒱₀ (c.tc : Thread nD τ) none) Set.univ
        (onCall (k0_part67 (F := F)) c v2 v5 v8 v14 v15 v16 v17 v2179 c2_i32_1662) Q := by
  unfold onCall
  rw [k0_part67_eq_skeleton]
  unfold k0_part67_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 68. -/
theorem part68 (c : Dev nD) (v2 v5 v8 v18 v19 v20 : BitVec 32) {κ : GSem nD τ sig → ℕ} {Q : _ → sProp (MT nD τ sig Unit (Elt F) ℕ U ℕ)}
    (h : ∀ x, (plan U m).St E κ c (order.drop 56) [(5, x16), (6, x8), (7, x8), (0, x16), (1, x16), (2, x16), (3, x16), (4, x16)] ⊢ Q x) :
    (plan U m).St E κ c (order.drop 56) [(5, x13), (6, x8), (7, x8), (0, x16), (1, x16), (2, x16), (3, x16), (4, x16)]
      ⊢ wp frame (wpE defs₀ 𝒱₀ (c.tc : Thread nD τ) none) Set.univ
        (onCall (k0_part68 (F := F)) c v2 v5 v8 v18 v19 v20) Q := by
  unfold onCall
  rw [k0_part68_eq_skeleton]
  unfold k0_part68_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  rw [wp_ret]
  exact (h _).trans fupd_intro

/-- The statements of part 69. -/
theorem part69 (c : Dev nD) (v2 v5 v8 v9 v10 : BitVec 32) {κ : GSem nD τ sig → ℕ} {Q : _ → sProp (MT nD τ sig Unit (Elt F) ℕ U ℕ)}
    (h : ∀ x, (plan U m).St E κ c (order.drop 56) [(6, x9), (7, x8), (0, x16), (1, x16), (2, x16), (3, x16), (4, x16), (5, x16)] ⊢ Q x) :
    (plan U m).St E κ c (order.drop 56) [(5, x16), (6, x8), (7, x8), (0, x16), (1, x16), (2, x16), (3, x16), (4, x16)]
      ⊢ wp frame (wpE defs₀ 𝒱₀ (c.tc : Thread nD τ) none) Set.univ
        (onCall (k0_part69 (F := F)) c v2 v5 v8 v9 v10) Q := by
  unfold onCall
  rw [k0_part69_eq_skeleton]
  unfold k0_part69_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  rw [wp_ret]
  exact (h _).trans fupd_intro

/-- The statements of part 70. -/
theorem part70 (c : Dev nD) (v2 v5 v8 v11 v12 v13 : BitVec 32) {κ : GSem nD τ sig → ℕ} {Q : _ → sProp (MT nD τ sig Unit (Elt F) ℕ U ℕ)}
    (h : ∀ x, (plan U m).St E κ c (order.drop 56) [(6, x11), (7, x8), (0, x16), (1, x16), (2, x16), (3, x16), (4, x16), (5, x16)] ⊢ Q x) :
    (plan U m).St E κ c (order.drop 56) [(6, x9), (7, x8), (0, x16), (1, x16), (2, x16), (3, x16), (4, x16), (5, x16)]
      ⊢ wp frame (wpE defs₀ 𝒱₀ (c.tc : Thread nD τ) none) Set.univ
        (onCall (k0_part70 (F := F)) c v2 v5 v8 v11 v12 v13) Q := by
  unfold onCall
  rw [k0_part70_eq_skeleton]
  unfold k0_part70_skel
  simp only [Prog.lift, Prog.bind_op, Prog.bind_ret, Prog.pure_eq_ret]
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  rw [wp_ret]
  exact (h _).trans fupd_intro

/-- The statements of part 71. -/
theorem part71 (c : Dev nD) (v2 v5 v8 v13 v14 v15 : BitVec 32) {κ : GSem nD τ sig → ℕ} {Q : _ → sProp (MT nD τ sig Unit (Elt F) ℕ U ℕ)}
    (h : ∀ x, (plan U m).St E κ c (order.drop 56) [(6, x13), (7, x8), (0, x16), (1, x16), (2, x16), (3, x16), (4, x16), (5, x16)] ⊢ Q x) :
    (plan U m).St E κ c (order.drop 56) [(6, x11), (7, x8), (0, x16), (1, x16), (2, x16), (3, x16), (4, x16), (5, x16)]
      ⊢ wp frame (wpE defs₀ 𝒱₀ (c.tc : Thread nD τ) none) Set.univ
        (onCall (k0_part71 (F := F)) c v2 v5 v8 v13 v14 v15) Q := by
  unfold onCall
  rw [k0_part71_eq_skeleton]
  unfold k0_part71_skel
  simp only [Prog.lift, Prog.bind_op, Prog.bind_ret, Prog.pure_eq_ret]
  refine Plan.wait _ E defs₀ 𝒱₀ (jr 3) (W' := [js 6, js 5, js 4, js 3, js 2, js 1, js 0, jl, jr 4, jr 5, jr 6]) (by decide) (fun _ h => absurd h List.not_mem_nil) rfl rfl ?_
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 72. -/
theorem part72 (c : Dev nD) (v2 v5 v8 v16 v17 v18 v19 v20 c4_i32_1792 : BitVec 32) {κ : GSem nD τ sig → ℕ} {Q : _ → sProp (MT nD τ sig Unit (Elt F) ℕ U ℕ)}
    (h : ∀ x, (plan U m).St E κ c (order.drop 56) [(6, x14), (7, x8), (0, x16), (1, x16), (2, x16), (3, x16), (4, x16), (5, x16)] ⊢ Q x) :
    (plan U m).St E κ c (order.drop 56) [(6, x13), (7, x8), (0, x16), (1, x16), (2, x16), (3, x16), (4, x16), (5, x16)]
      ⊢ wp frame (wpE defs₀ 𝒱₀ (c.tc : Thread nD τ) none) Set.univ
        (onCall (k0_part72 (F := F)) c v2 v5 v8 v16 v17 v18 v19 v20 c4_i32_1792) Q := by
  unfold onCall
  rw [k0_part72_eq_skeleton]
  unfold k0_part72_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 73. -/
theorem part73 (c : Dev nD) (v2 v5 v8 v9 v20 v2372 c1_i32_1819 : BitVec 32) {κ : GSem nD τ sig → ℕ} {Q : _ → sProp (MT nD τ sig Unit (Elt F) ℕ U ℕ)}
    (h : ∀ x, (plan U m).St E κ c (order.drop 56) [(6, x16), (7, x8), (0, x16), (1, x16), (2, x16), (3, x16), (4, x16), (5, x16)] ⊢ Q x) :
    (plan U m).St E κ c (order.drop 56) [(6, x14), (7, x8), (0, x16), (1, x16), (2, x16), (3, x16), (4, x16), (5, x16)]
      ⊢ wp frame (wpE defs₀ 𝒱₀ (c.tc : Thread nD τ) none) Set.univ
        (onCall (k0_part73 (F := F)) c v2 v5 v8 v9 v20 v2372 c1_i32_1819) Q := by
  unfold onCall
  rw [k0_part73_eq_skeleton]
  unfold k0_part73_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  rw [wp_ret]
  exact (h _).trans fupd_intro

/-- The statements of part 74. -/
theorem part74 (c : Dev nD) (v2 v5 v8 v10 v11 v12 : BitVec 32) {κ : GSem nD τ sig → ℕ} {Q : _ → sProp (MT nD τ sig Unit (Elt F) ℕ U ℕ)}
    (h : ∀ x, (plan U m).St E κ c (order.drop 56) [(7, x10), (0, x16), (1, x16), (2, x16), (3, x16), (4, x16), (5, x16), (6, x16)] ⊢ Q x) :
    (plan U m).St E κ c (order.drop 56) [(6, x16), (7, x8), (0, x16), (1, x16), (2, x16), (3, x16), (4, x16), (5, x16)]
      ⊢ wp frame (wpE defs₀ 𝒱₀ (c.tc : Thread nD τ) none) Set.univ
        (onCall (k0_part74 (F := F)) c v2 v5 v8 v10 v11 v12) Q := by
  unfold onCall
  rw [k0_part74_eq_skeleton]
  unfold k0_part74_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 1, jr 2, jr 3, jr 4, jr 5, jr 6]) (by decide) (fun _ h => absurd h List.not_mem_nil) rfl rfl ?_
  refine Plan.wait _ E defs₀ 𝒱₀ (jr 1) (W' := [js 6, js 5, js 4, js 3, js 2, js 1, js 0, jl, jr 2, jr 3, jr 4, jr 5, jr 6]) (by decide) (fun _ h => absurd h List.not_mem_nil) rfl rfl ?_
  rw [wp_ret]
  exact (h _).trans fupd_intro

/-- The statements of part 75. -/
theorem part75 (c : Dev nD) (v2 v5 v8 v11 v12 v13 v2436 c2_i32_1871 : BitVec 32) {κ : GSem nD τ sig → ℕ} {Q : _ → sProp (MT nD τ sig Unit (Elt F) ℕ U ℕ)}
    (h : ∀ x, (plan U m).St E κ c (order.drop 56) [(7, x12), (0, x16), (1, x16), (2, x16), (3, x16), (4, x16), (5, x16), (6, x16)] ⊢ Q x) :
    (plan U m).St E κ c (order.drop 56) [(7, x10), (0, x16), (1, x16), (2, x16), (3, x16), (4, x16), (5, x16), (6, x16)]
      ⊢ wp frame (wpE defs₀ 𝒱₀ (c.tc : Thread nD τ) none) Set.univ
        (onCall (k0_part75 (F := F)) c v2 v5 v8 v11 v12 v13 v2436 c2_i32_1871) Q := by
  unfold onCall
  rw [k0_part75_eq_skeleton]
  unfold k0_part75_skel
  simp only [Prog.lift, Prog.bind_op, Prog.bind_ret, Prog.pure_eq_ret]
  refine Plan.wait _ E defs₀ 𝒱₀ (jr 2) (W' := [js 6, js 5, js 4, js 3, js 2, js 1, js 0, jl, jr 3, jr 4, jr 5, jr 6]) (by decide) (fun _ h => absurd h List.not_mem_nil) rfl rfl ?_
  refine Plan.wait _ E defs₀ 𝒱₀ (jr 3) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 76. -/
theorem part76 (c : Dev nD) (v2 v5 v8 v14 v15 v16 v17 c4_i32_1895 : BitVec 32) {κ : GSem nD τ sig → ℕ} {Q : _ → sProp (MT nD τ sig Unit (Elt F) ℕ U ℕ)}
    (h : ∀ x, (plan U m).St E κ c (order.drop 56) [(7, x13), (0, x16), (1, x16), (2, x16), (3, x16), (4, x16), (5, x16), (6, x16)] ⊢ Q x) :
    (plan U m).St E κ c (order.drop 56) [(7, x12), (0, x16), (1, x16), (2, x16), (3, x16), (4, x16), (5, x16), (6, x16)]
      ⊢ wp frame (wpE defs₀ 𝒱₀ (c.tc : Thread nD τ) none) Set.univ
        (onCall (k0_part76 (F := F)) c v2 v5 v8 v14 v15 v16 v17 c4_i32_1895) Q := by
  unfold onCall
  rw [k0_part76_eq_skeleton]
  unfold k0_part76_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 77. -/
theorem part77 (c : Dev nD) (v2 v5 v8 v18 v19 v20 : BitVec 32) {κ : GSem nD τ sig → ℕ} {Q : _ → sProp (MT nD τ sig Unit (Elt F) ℕ U ℕ)}
    (h : ∀ x, (plan U m).St E κ c (order.drop 56) [(7, x16), (0, x16), (1, x16), (2, x16), (3, x16), (4, x16), (5, x16), (6, x16)] ⊢ Q x) :
    (plan U m).St E κ c (order.drop 56) [(7, x13), (0, x16), (1, x16), (2, x16), (3, x16), (4, x16), (5, x16), (6, x16)]
      ⊢ wp frame (wpE defs₀ 𝒱₀ (c.tc : Thread nD τ) none) Set.univ
        (onCall (k0_part77 (F := F)) c v2 v5 v8 v18 v19 v20) Q := by
  unfold onCall
  rw [k0_part77_eq_skeleton]
  unfold k0_part77_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ jl (W' := [js 6, js 5, js 4, js 3, js 2, js 1, js 0]) (by decide) (fun _ h => absurd h List.not_mem_nil) rfl rfl ?_
  rw [wp_ret]
  exact (h _).trans fupd_intro

/-- The statements of part 78. -/
theorem part78 (c : Dev nD) {κ : GSem nD τ sig → ℕ} {Q : _ → sProp (MT nD τ sig Unit (Elt F) ℕ U ℕ)}
    (h : ∀ x, (plan U m).St E κ c (order.drop 56) [(0, x20), (1, x16), (2, x16), (3, x16), (4, x16), (5, x16), (6, x16), (7, x16)] ⊢ Q x) :
    (plan U m).St E κ c (order.drop 56) [(7, x16), (0, x16), (1, x16), (2, x16), (3, x16), (4, x16), (5, x16), (6, x16)]
      ⊢ wp frame (wpE defs₀ 𝒱₀ (c.tc : Thread nD τ) none) Set.univ
        (onCall (k0_part78 (F := F)) c) Q := by
  unfold onCall
  rw [k0_part78_eq_skeleton]
  unfold k0_part78_skel
  simp only [Prog.lift, Prog.bind_op, Prog.bind_ret, Prog.pure_eq_ret]
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  refine Plan.wait _ E defs₀ 𝒱₀ (js 1) (W' := [js 6, js 5, js 4, js 3, js 2]) (by decide) (fun _ h => absurd h List.not_mem_nil) rfl rfl ?_
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  rw [wp_ret]
  exact (h _).trans fupd_intro

/-- The statements of part 79. -/
theorem part79 (c : Dev nD) {κ : GSem nD τ sig → ℕ} {Q : _ → sProp (MT nD τ sig Unit (Elt F) ℕ U ℕ)}
    (h : ∀ x, (plan U m).St E κ c (order.drop 56) [(0, x23), (1, x16), (2, x16), (3, x16), (4, x16), (5, x16), (6, x16), (7, x16)] ⊢ Q x) :
    (plan U m).St E κ c (order.drop 56) [(0, x20), (1, x16), (2, x16), (3, x16), (4, x16), (5, x16), (6, x16), (7, x16)]
      ⊢ wp frame (wpE defs₀ 𝒱₀ (c.tc : Thread nD τ) none) Set.univ
        (onCall (k0_part79 (F := F)) c) Q := by
  unfold onCall
  rw [k0_part79_eq_skeleton]
  unfold k0_part79_skel
  simp only [Prog.lift, Prog.bind_op, Prog.bind_ret, Prog.pure_eq_ret]
  refine Plan.wait _ E defs₀ 𝒱₀ (js 4) (W' := [js 6, js 5]) (by decide) (fun _ h => absurd h List.not_mem_nil) rfl rfl ?_
  refine Plan.wait _ E defs₀ 𝒱₀ (js 5) (W' := [js 6]) (by decide) (fun _ h => absurd h List.not_mem_nil) rfl rfl ?_
  refine Plan.wait _ E defs₀ 𝒱₀ (js 6) (W' := []) (by decide) (fun _ h => absurd h List.not_mem_nil) rfl rfl ?_
  rw [wp_ret]
  exact (h _).trans fupd_intro

/-- The statements of part 80. -/
theorem part80 (c : Dev nD) {κ : GSem nD τ sig → ℕ} {Q : _ → sProp (MT nD τ sig Unit (Elt F) ℕ U ℕ)}
    (h : ∀ x, (plan U m).St E κ c (order.drop 56) [(1, x20), (2, x16), (3, x16), (4, x16), (5, x16), (6, x16), (7, x16), (0, x23)] ⊢ Q x) :
    (plan U m).St E κ c (order.drop 56) [(0, x23), (1, x16), (2, x16), (3, x16), (4, x16), (5, x16), (6, x16), (7, x16)]
      ⊢ wp frame (wpE defs₀ 𝒱₀ (c.tc : Thread nD τ) none) Set.univ
        (onCall (k0_part80 (F := F)) c) Q := by
  unfold onCall
  rw [k0_part80_eq_skeleton]
  unfold k0_part80_skel
  simp only [Prog.lift, Prog.bind_op, Prog.bind_ret, Prog.pure_eq_ret]
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  refine Plan.wait _ E defs₀ 𝒱₀ (js 1) (W' := [js 6, js 5, js 4, js 3, js 2]) (by decide) (fun _ h => absurd h List.not_mem_nil) rfl rfl ?_
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  rw [wp_ret]
  exact (h _).trans fupd_intro

/-- The statements of part 81. -/
theorem part81 (c : Dev nD) {κ : GSem nD τ sig → ℕ} {Q : _ → sProp (MT nD τ sig Unit (Elt F) ℕ U ℕ)}
    (h : ∀ x, (plan U m).St E κ c (order.drop 56) [(2, x17), (3, x16), (4, x16), (5, x16), (6, x16), (7, x16), (0, x23), (1, x23)] ⊢ Q x) :
    (plan U m).St E κ c (order.drop 56) [(1, x20), (2, x16), (3, x16), (4, x16), (5, x16), (6, x16), (7, x16), (0, x23)]
      ⊢ wp frame (wpE defs₀ 𝒱₀ (c.tc : Thread nD τ) none) Set.univ
        (onCall (k0_part81 (F := F)) c) Q := by
  unfold onCall
  rw [k0_part81_eq_skeleton]
  unfold k0_part81_skel
  simp only [Prog.lift, Prog.bind_op, Prog.bind_ret, Prog.pure_eq_ret]
  refine Plan.wait _ E defs₀ 𝒱₀ (js 4) (W' := [js 6, js 5]) (by decide) (fun _ h => absurd h List.not_mem_nil) rfl rfl ?_
  refine Plan.wait _ E defs₀ 𝒱₀ (js 5) (W' := [js 6]) (by decide) (fun _ h => absurd h List.not_mem_nil) rfl rfl ?_
  refine Plan.wait _ E defs₀ 𝒱₀ (js 6) (W' := []) (by decide) (fun _ h => absurd h List.not_mem_nil) rfl rfl ?_
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  rw [wp_ret]
  exact (h _).trans fupd_intro

/-- The statements of part 82. -/
theorem part82 (c : Dev nD) {κ : GSem nD τ sig → ℕ} {Q : _ → sProp (MT nD τ sig Unit (Elt F) ℕ U ℕ)}
    (h : ∀ x, (plan U m).St E κ c (order.drop 56) [(2, x20), (3, x16), (4, x16), (5, x16), (6, x16), (7, x16), (0, x23), (1, x23)] ⊢ Q x) :
    (plan U m).St E κ c (order.drop 56) [(2, x17), (3, x16), (4, x16), (5, x16), (6, x16), (7, x16), (0, x23), (1, x23)]
      ⊢ wp frame (wpE defs₀ 𝒱₀ (c.tc : Thread nD τ) none) Set.univ
        (onCall (k0_part82 (F := F)) c) Q := by
  unfold onCall
  rw [k0_part82_eq_skeleton]
  unfold k0_part82_skel
  simp only [Prog.lift, Prog.bind_op, Prog.bind_ret, Prog.pure_eq_ret]
  refine Plan.wait _ E defs₀ 𝒱₀ (js 1) (W' := [js 6, js 5, js 4, js 3, js 2]) (by decide) (fun _ h => absurd h List.not_mem_nil) rfl rfl ?_
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  rw [wp_ret]
  exact (h _).trans fupd_intro

/-- The statements of part 83. -/
theorem part83 (c : Dev nD) {κ : GSem nD τ sig → ℕ} {Q : _ → sProp (MT nD τ sig Unit (Elt F) ℕ U ℕ)}
    (h : ∀ x, (plan U m).St E κ c (order.drop 56) [(2, x23), (3, x16), (4, x16), (5, x16), (6, x16), (7, x16), (0, x23), (1, x23)] ⊢ Q x) :
    (plan U m).St E κ c (order.drop 56) [(2, x20), (3, x16), (4, x16), (5, x16), (6, x16), (7, x16), (0, x23), (1, x23)]
      ⊢ wp frame (wpE defs₀ 𝒱₀ (c.tc : Thread nD τ) none) Set.univ
        (onCall (k0_part83 (F := F)) c) Q := by
  unfold onCall
  rw [k0_part83_eq_skeleton]
  unfold k0_part83_skel
  simp only [Prog.lift, Prog.bind_op, Prog.bind_ret, Prog.pure_eq_ret]
  refine Plan.wait _ E defs₀ 𝒱₀ (js 4) (W' := [js 6, js 5]) (by decide) (fun _ h => absurd h List.not_mem_nil) rfl rfl ?_
  refine Plan.wait _ E defs₀ 𝒱₀ (js 5) (W' := [js 6]) (by decide) (fun _ h => absurd h List.not_mem_nil) rfl rfl ?_
  refine Plan.wait _ E defs₀ 𝒱₀ (js 6) (W' := []) (by decide) (fun _ h => absurd h List.not_mem_nil) rfl rfl ?_
  rw [wp_ret]
  exact (h _).trans fupd_intro

/-- The statements of part 84. -/
theorem part84 (c : Dev nD) {κ : GSem nD τ sig → ℕ} {Q : _ → sProp (MT nD τ sig Unit (Elt F) ℕ U ℕ)}
    (h : ∀ x, (plan U m).St E κ c (order.drop 56) [(3, x20), (4, x16), (5, x16), (6, x16), (7, x16), (0, x23), (1, x23), (2, x23)] ⊢ Q x) :
    (plan U m).St E κ c (order.drop 56) [(2, x23), (3, x16), (4, x16), (5, x16), (6, x16), (7, x16), (0, x23), (1, x23)]
      ⊢ wp frame (wpE defs₀ 𝒱₀ (c.tc : Thread nD τ) none) Set.univ
        (onCall (k0_part84 (F := F)) c) Q := by
  unfold onCall
  rw [k0_part84_eq_skeleton]
  unfold k0_part84_skel
  simp only [Prog.lift, Prog.bind_op, Prog.bind_ret, Prog.pure_eq_ret]
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  refine Plan.wait _ E defs₀ 𝒱₀ (js 1) (W' := [js 6, js 5, js 4, js 3, js 2]) (by decide) (fun _ h => absurd h List.not_mem_nil) rfl rfl ?_
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  rw [wp_ret]
  exact (h _).trans fupd_intro

/-- The statements of part 85. -/
theorem part85 (c : Dev nD) {κ : GSem nD τ sig → ℕ} {Q : _ → sProp (MT nD τ sig Unit (Elt F) ℕ U ℕ)}
    (h : ∀ x, (plan U m).St E κ c (order.drop 56) [(4, x17), (5, x16), (6, x16), (7, x16), (0, x23), (1, x23), (2, x23), (3, x23)] ⊢ Q x) :
    (plan U m).St E κ c (order.drop 56) [(3, x20), (4, x16), (5, x16), (6, x16), (7, x16), (0, x23), (1, x23), (2, x23)]
      ⊢ wp frame (wpE defs₀ 𝒱₀ (c.tc : Thread nD τ) none) Set.univ
        (onCall (k0_part85 (F := F)) c) Q := by
  unfold onCall
  rw [k0_part85_eq_skeleton]
  unfold k0_part85_skel
  simp only [Prog.lift, Prog.bind_op, Prog.bind_ret, Prog.pure_eq_ret]
  refine Plan.wait _ E defs₀ 𝒱₀ (js 4) (W' := [js 6, js 5]) (by decide) (fun _ h => absurd h List.not_mem_nil) rfl rfl ?_
  refine Plan.wait _ E defs₀ 𝒱₀ (js 5) (W' := [js 6]) (by decide) (fun _ h => absurd h List.not_mem_nil) rfl rfl ?_
  refine Plan.wait _ E defs₀ 𝒱₀ (js 6) (W' := []) (by decide) (fun _ h => absurd h List.not_mem_nil) rfl rfl ?_
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  rw [wp_ret]
  exact (h _).trans fupd_intro

/-- The statements of part 86. -/
theorem part86 (c : Dev nD) {κ : GSem nD τ sig → ℕ} {Q : _ → sProp (MT nD τ sig Unit (Elt F) ℕ U ℕ)}
    (h : ∀ x, (plan U m).St E κ c (order.drop 56) [(4, x21), (5, x16), (6, x16), (7, x16), (0, x23), (1, x23), (2, x23), (3, x23)] ⊢ Q x) :
    (plan U m).St E κ c (order.drop 56) [(4, x17), (5, x16), (6, x16), (7, x16), (0, x23), (1, x23), (2, x23), (3, x23)]
      ⊢ wp frame (wpE defs₀ 𝒱₀ (c.tc : Thread nD τ) none) Set.univ
        (onCall (k0_part86 (F := F)) c) Q := by
  unfold onCall
  rw [k0_part86_eq_skeleton]
  unfold k0_part86_skel
  simp only [Prog.lift, Prog.bind_op, Prog.bind_ret, Prog.pure_eq_ret]
  refine Plan.wait _ E defs₀ 𝒱₀ (js 1) (W' := [js 6, js 5, js 4, js 3, js 2]) (by decide) (fun _ h => absurd h List.not_mem_nil) rfl rfl ?_
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  refine Plan.wait _ E defs₀ 𝒱₀ (js 4) (W' := [js 6, js 5]) (by decide) (fun _ h => absurd h List.not_mem_nil) rfl rfl ?_
  rw [wp_ret]
  exact (h _).trans fupd_intro

/-- The statements of part 87. -/
theorem part87 (c : Dev nD) {κ : GSem nD τ sig → ℕ} {Q : _ → sProp (MT nD τ sig Unit (Elt F) ℕ U ℕ)}
    (h : ∀ x, (plan U m).St E κ c (order.drop 56) [(5, x17), (6, x16), (7, x16), (0, x23), (1, x23), (2, x23), (3, x23), (4, x23)] ⊢ Q x) :
    (plan U m).St E κ c (order.drop 56) [(4, x21), (5, x16), (6, x16), (7, x16), (0, x23), (1, x23), (2, x23), (3, x23)]
      ⊢ wp frame (wpE defs₀ 𝒱₀ (c.tc : Thread nD τ) none) Set.univ
        (onCall (k0_part87 (F := F)) c) Q := by
  unfold onCall
  rw [k0_part87_eq_skeleton]
  unfold k0_part87_skel
  simp only [Prog.lift, Prog.bind_op, Prog.bind_ret, Prog.pure_eq_ret]
  refine Plan.wait _ E defs₀ 𝒱₀ (js 5) (W' := [js 6]) (by decide) (fun _ h => absurd h List.not_mem_nil) rfl rfl ?_
  refine Plan.wait _ E defs₀ 𝒱₀ (js 6) (W' := []) (by decide) (fun _ h => absurd h List.not_mem_nil) rfl rfl ?_
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  rw [wp_ret]
  exact (h _).trans fupd_intro

/-- The statements of part 88. -/
theorem part88 (c : Dev nD) {κ : GSem nD τ sig → ℕ} {Q : _ → sProp (MT nD τ sig Unit (Elt F) ℕ U ℕ)}
    (h : ∀ x, (plan U m).St E κ c (order.drop 56) [(5, x21), (6, x16), (7, x16), (0, x23), (1, x23), (2, x23), (3, x23), (4, x23)] ⊢ Q x) :
    (plan U m).St E κ c (order.drop 56) [(5, x17), (6, x16), (7, x16), (0, x23), (1, x23), (2, x23), (3, x23), (4, x23)]
      ⊢ wp frame (wpE defs₀ 𝒱₀ (c.tc : Thread nD τ) none) Set.univ
        (onCall (k0_part88 (F := F)) c) Q := by
  unfold onCall
  rw [k0_part88_eq_skeleton]
  unfold k0_part88_skel
  simp only [Prog.lift, Prog.bind_op, Prog.bind_ret, Prog.pure_eq_ret]
  refine Plan.wait _ E defs₀ 𝒱₀ (js 1) (W' := [js 6, js 5, js 4, js 3, js 2]) (by decide) (fun _ h => absurd h List.not_mem_nil) rfl rfl ?_
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  refine Plan.wait _ E defs₀ 𝒱₀ (js 4) (W' := [js 6, js 5]) (by decide) (fun _ h => absurd h List.not_mem_nil) rfl rfl ?_
  rw [wp_ret]
  exact (h _).trans fupd_intro

/-- The statements of part 89. -/
theorem part89 (c : Dev nD) {κ : GSem nD τ sig → ℕ} {Q : _ → sProp (MT nD τ sig Unit (Elt F) ℕ U ℕ)}
    (h : ∀ x, (plan U m).St E κ c (order.drop 56) [(6, x18), (7, x16), (0, x23), (1, x23), (2, x23), (3, x23), (4, x23), (5, x23)] ⊢ Q x) :
    (plan U m).St E κ c (order.drop 56) [(5, x21), (6, x16), (7, x16), (0, x23), (1, x23), (2, x23), (3, x23), (4, x23)]
      ⊢ wp frame (wpE defs₀ 𝒱₀ (c.tc : Thread nD τ) none) Set.univ
        (onCall (k0_part89 (F := F)) c) Q := by
  unfold onCall
  rw [k0_part89_eq_skeleton]
  unfold k0_part89_skel
  simp only [Prog.lift, Prog.bind_op, Prog.bind_ret, Prog.pure_eq_ret]
  refine Plan.wait _ E defs₀ 𝒱₀ (js 5) (W' := [js 6]) (by decide) (fun _ h => absurd h List.not_mem_nil) rfl rfl ?_
  refine Plan.wait _ E defs₀ 𝒱₀ (js 6) (W' := []) (by decide) (fun _ h => absurd h List.not_mem_nil) rfl rfl ?_
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  refine Plan.wait _ E defs₀ 𝒱₀ (js 1) (W' := [js 6, js 5, js 4, js 3, js 2]) (by decide) (fun _ h => absurd h List.not_mem_nil) rfl rfl ?_
  rw [wp_ret]
  exact (h _).trans fupd_intro

/-- The statements of part 90. -/
theorem part90 (c : Dev nD) {κ : GSem nD τ sig → ℕ} {Q : _ → sProp (MT nD τ sig Unit (Elt F) ℕ U ℕ)}
    (h : ∀ x, (plan U m).St E κ c (order.drop 56) [(6, x22), (7, x16), (0, x23), (1, x23), (2, x23), (3, x23), (4, x23), (5, x23)] ⊢ Q x) :
    (plan U m).St E κ c (order.drop 56) [(6, x18), (7, x16), (0, x23), (1, x23), (2, x23), (3, x23), (4, x23), (5, x23)]
      ⊢ wp frame (wpE defs₀ 𝒱₀ (c.tc : Thread nD τ) none) Set.univ
        (onCall (k0_part90 (F := F)) c) Q := by
  unfold onCall
  rw [k0_part90_eq_skeleton]
  unfold k0_part90_skel
  simp only [Prog.lift, Prog.bind_op, Prog.bind_ret, Prog.pure_eq_ret]
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  refine Plan.wait _ E defs₀ 𝒱₀ (js 4) (W' := [js 6, js 5]) (by decide) (fun _ h => absurd h List.not_mem_nil) rfl rfl ?_
  refine Plan.wait _ E defs₀ 𝒱₀ (js 5) (W' := [js 6]) (by decide) (fun _ h => absurd h List.not_mem_nil) rfl rfl ?_
  rw [wp_ret]
  exact (h _).trans fupd_intro

/-- The statements of part 91. -/
theorem part91 (c : Dev nD) {κ : GSem nD τ sig → ℕ} {Q : _ → sProp (MT nD τ sig Unit (Elt F) ℕ U ℕ)}
    (h : ∀ x, (plan U m).St E κ c (order.drop 56) [(7, x18), (0, x23), (1, x23), (2, x23), (3, x23), (4, x23), (5, x23), (6, x23)] ⊢ Q x) :
    (plan U m).St E κ c (order.drop 56) [(6, x22), (7, x16), (0, x23), (1, x23), (2, x23), (3, x23), (4, x23), (5, x23)]
      ⊢ wp frame (wpE defs₀ 𝒱₀ (c.tc : Thread nD τ) none) Set.univ
        (onCall (k0_part91 (F := F)) c) Q := by
  unfold onCall
  rw [k0_part91_eq_skeleton]
  unfold k0_part91_skel
  simp only [Prog.lift, Prog.bind_op, Prog.bind_ret, Prog.pure_eq_ret]
  refine Plan.wait _ E defs₀ 𝒱₀ (js 6) (W' := []) (by decide) (fun _ h => absurd h List.not_mem_nil) rfl rfl ?_
  refine Plan.next _ E ?_
  simp only [List.cons_append, List.nil_append]
  refine Plan.wait _ E defs₀ 𝒱₀ (js 0) (W' := [js 6, js 5, js 4, js 3, js 2, js 1]) (by decide) (fun _ h => absurd h List.not_mem_nil) rfl rfl ?_
  refine Plan.wait _ E defs₀ 𝒱₀ (js 1) (W' := [js 6, js 5, js 4, js 3, js 2]) (by decide) (fun _ h => absurd h List.not_mem_nil) rfl rfl ?_
  rw [wp_ret]
  exact (h _).trans fupd_intro

/-- The statements of part 92. -/
theorem part92 (c : Dev nD) {κ : GSem nD τ sig → ℕ} {Q : _ → sProp (MT nD τ sig Unit (Elt F) ℕ U ℕ)}
    (h : ∀ x, (plan U m).St E κ c (order.drop 56) [(7, x22), (0, x23), (1, x23), (2, x23), (3, x23), (4, x23), (5, x23), (6, x23)] ⊢ Q x) :
    (plan U m).St E κ c (order.drop 56) [(7, x18), (0, x23), (1, x23), (2, x23), (3, x23), (4, x23), (5, x23), (6, x23)]
      ⊢ wp frame (wpE defs₀ 𝒱₀ (c.tc : Thread nD τ) none) Set.univ
        (onCall (k0_part92 (F := F)) c) Q := by
  unfold onCall
  rw [k0_part92_eq_skeleton]
  unfold k0_part92_skel
  simp only [Prog.lift, Prog.bind_op, Prog.bind_ret, Prog.pure_eq_ret]
  refine Plan.wait _ E defs₀ 𝒱₀ (js 2) (W' := [js 6, js 5, js 4, js 3]) (by decide) (fun _ h => absurd h List.not_mem_nil) rfl rfl ?_
  refine Plan.wait _ E defs₀ 𝒱₀ (js 3) (W' := [js 6, js 5, js 4]) (by decide) (fun _ h => absurd h List.not_mem_nil) rfl rfl ?_
  refine Plan.wait _ E defs₀ 𝒱₀ (js 4) (W' := [js 6, js 5]) (by decide) (fun _ h => absurd h List.not_mem_nil) rfl rfl ?_
  refine Plan.wait _ E defs₀ 𝒱₀ (js 5) (W' := [js 6]) (by decide) (fun _ h => absurd h List.not_mem_nil) rfl rfl ?_
  rw [wp_ret]
  exact (h _).trans fupd_intro

/-- The kernel on one device: it ends with nothing owed, holding what its copies brought back. -/
theorem body (c : Dev nD) {κ : GSem nD τ sig → ℕ} :
    (plan U m).St E κ c order [(0, x0), (1, x0), (2, x0), (3, x0), (4, x0), (5, x0), (6, x0), (7, x0)]
      ⊢ wp frame (wpE defs₀ 𝒱₀ (c.tc : Thread nD τ) none) Set.univ
        (onCall (cc0_comm_exchange_grads (F := F)))
        fun _ => (plan U m).St E κ c [] [(0, x23), (1, x23), (2, x23), (3, x23), (4, x23), (5, x23), (6, x23), (7, x23)] := by
  unfold onCall
  rw [cc0_comm_exchange_grads_eq_skeleton]
  unfold cc0_comm_exchange_grads_skel
  rw [wp_bind]
  refine part93 E m c fun x hx => ?_
  obtain ⟨d0, v2, v5, v8, v9, v10, v11, v12, v13, v14, v15, v16, v17, v18, v19, v20⟩ := x
  subst hx
  dsimp only
  rw [wp_bind]
  refine part61 E m _ _ _ _ _ _ _ fun x => ?_
  rw [wp_bind]
  refine part62 E m _ _ _ _ _ _ _ _ fun x => ?_
  rw [wp_bind]
  refine part63 E m _ _ _ _ _ _ _ _ _ _ _ fun x => ?_
  rw [wp_bind]
  refine part64 E m _ _ _ _ _ fun x => ?_
  rw [wp_bind]
  refine part65 E m _ _ _ _ _ _ _ fun x => ?_
  rw [wp_bind]
  refine part66 E m _ _ _ _ _ _ _ _ fun x => ?_
  rw [wp_bind]
  refine part67 E m _ _ _ _ _ _ _ _ _ _ fun x => ?_
  rw [wp_bind]
  refine part68 E m _ _ _ _ _ _ _ fun x => ?_
  rw [wp_bind]
  refine part69 E m _ _ _ _ _ _ fun x => ?_
  rw [wp_bind]
  refine part70 E m _ _ _ _ _ _ _ fun x => ?_
  rw [wp_bind]
  refine part71 E m _ _ _ _ _ _ _ fun x => ?_
  rw [wp_bind]
  refine part72 E m _ _ _ _ _ _ _ _ _ _ fun x => ?_
  rw [wp_bind]
  refine part73 E m _ _ _ _ _ _ _ _ fun x => ?_
  rw [wp_bind]
  refine part74 E m _ _ _ _ _ _ _ fun x => ?_
  rw [wp_bind]
  refine part75 E m _ _ _ _ _ _ _ _ _ fun x => ?_
  rw [wp_bind]
  refine part76 E m _ _ _ _ _ _ _ _ _ fun x => ?_
  rw [wp_bind]
  refine part77 E m _ _ _ _ _ _ _ fun x => ?_
  rw [wp_bind]
  refine part78 E m _ fun x => ?_
  rw [wp_bind]
  refine part79 E m _ fun x => ?_
  rw [wp_bind]
  refine part80 E m _ fun x => ?_
  rw [wp_bind]
  refine part81 E m _ fun x => ?_
  rw [wp_bind]
  refine part82 E m _ fun x => ?_
  rw [wp_bind]
  refine part83 E m _ fun x => ?_
  rw [wp_bind]
  refine part84 E m _ fun x => ?_
  rw [wp_bind]
  refine part85 E m _ fun x => ?_
  rw [wp_bind]
  refine part86 E m _ fun x => ?_
  rw [wp_bind]
  refine part87 E m _ fun x => ?_
  rw [wp_bind]
  refine part88 E m _ fun x => ?_
  rw [wp_bind]
  refine part89 E m _ fun x => ?_
  rw [wp_bind]
  refine part90 E m _ fun x => ?_
  rw [wp_bind]
  refine part91 E m _ fun x => ?_
  rw [wp_bind]
  refine part92 E m _ fun x => ?_
  simp only [Prog.lift, Prog.bind_op, Prog.bind_ret, Prog.pure_eq_ret]
  refine Plan.wait _ E defs₀ 𝒱₀ (js 6) (W' := []) (by decide) (fun _ h => absurd h List.not_mem_nil) rfl rfl ?_
  refine Plan.next _ E ?_
  simp only [List.cons_append, List.nil_append]
  rw [wp_ret]
  exact fupd_intro

end Cert.Grads

end
-- ==== Proof.Grads.Run.lean ====
/-
# The exchange of the gradients: the run

Every device ends with block `d` of the eight devices' arrays, where `d` is its own number.
-/
module

public import proofs.«01_k».proof.Proof.Comm.Alone
public import proofs.«01_k».proof.Proof.Grads.Body

@[expose] public section

set_option maxRecDepth 65536

noncomputable section

namespace Cert.Grads

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.ExchangeIdeal Cert.ExchangeIdeal.Gen

variable {F : FTy → Type} [FloatOps F]

/-- The ghost state: the launch's own part, and the copies' rounds. -/
abbrev UU := UR sig nD τ × URounds (GSem nD τ sig) Unit

/-- Where the copies' rounds live. -/
abbrev ER : Emb (URounds (GSem nD τ sig) Unit) (MT nD τ sig Unit (Elt F) ℕ UU ℕ) := embR

variable (m : (ℓ : Loc nD τ sig) → Buf (Elt F) ℓ) (ρ : Dev nD → PrngReg)

/-- What the launch's ghost state is. -/
def u₀ : UU := (initOf (Pipeline.cells cfgs cellOf_inj) (Pipeline.launchToks cfgs cellOf_inj), launchOf (plan UU m).cells ∅ (plan UU m).minted)

/-- The call's own semaphores are the plan's. -/
theorem ownSemFacts : OwnSemFacts cfg0.spec (fun k : Fin 8 × Jx => (.dma (semOf k) : SemLoc sig)) :=
  ⟨fun k => by revert k; decide, fun k k' h => semOf_inj (SemLoc.dma.inj h), fun k w => w.elim0⟩

/-- Every semaphore is taken and given back by the call. -/
theorem all_scoped : ∀ sm : SemLoc sig, sm.isScoped .tc = true := by decide

/-- The arrays of a device. -/
theorem arrays (c : Dev nD) (V : (b : Ref sig .tc) → Buf (Elt F) ((c.tc : Thread nD τ).loc b)) :
    (unscopedBufs c V : sProp (MT nD τ sig Unit (Elt F) ℕ UU ℕ))
      = iprop((((c : Thread nD τ).loc main_arg0) ↦{fullShare} V main_arg0) ∗ (((c : Thread nD τ).loc main_v1_0) ↦{fullShare} V main_v1_0) ∗ (((c : Thread nD τ).loc main_arg1) ↦{fullShare} V main_arg1) ∗ (((c : Thread nD τ).loc main_v1_1) ↦{fullShare} V main_v1_1) ∗ (((c : Thread nD τ).loc main_arg2) ↦{fullShare} V main_arg2) ∗ (((c : Thread nD τ).loc main_v1_2) ↦{fullShare} V main_v1_2) ∗ (((c : Thread nD τ).loc main_arg3) ↦{fullShare} V main_arg3) ∗ (((c : Thread nD τ).loc main_v1_3) ↦{fullShare} V main_v1_3) ∗ (((c : Thread nD τ).loc main_arg4) ↦{fullShare} V main_arg4) ∗ (((c : Thread nD τ).loc main_v1_4) ↦{fullShare} V main_v1_4) ∗ (((c : Thread nD τ).loc main_arg5) ↦{fullShare} V main_arg5) ∗ (((c : Thread nD τ).loc main_v1_5) ↦{fullShare} V main_v1_5) ∗ (((c : Thread nD τ).loc main_arg6) ↦{fullShare} V main_arg6) ∗ (((c : Thread nD τ).loc main_v1_6) ↦{fullShare} V main_v1_6) ∗ (((c : Thread nD τ).loc main_arg7) ↦{fullShare} V main_arg7) ∗ (((c : Thread nD τ).loc main_v1_7) ↦{fullShare} V main_v1_7)) := by
  unfold unscopedBufs
  exact bigSep_eq_bigSepL_of_eq [main_arg0, main_v1_0, main_arg1, main_v1_1, main_arg2, main_v1_2, main_arg3, main_v1_3, main_arg4, main_v1_4, main_arg5, main_v1_5, main_arg6, main_v1_6, main_arg7, main_v1_7] (by decide) (by decide) _

/-- A buffer holds something. -/
theorem whatever {ℓ : Loc nD τ sig} (f : Buf (Elt F) ℓ) :
    (ℓ ↦{fullShare} f : sProp (MT nD τ sig Unit (Elt F) ℕ UU ℕ)) ⊢ iprop(∃ f, ℓ ↦{fullShare} f) :=
  BIClass.exists_intro (Φ := fun f => (ℓ ↦{fullShare} f : sProp (MT nD τ sig Unit (Elt F) ℕ UU ℕ))) f

/-- The arrays of a device as the plan takes them. -/
theorem split_arrays (c : Dev nD) : (unscopedBufs c (fun b => m ((c.tc : Thread nD τ).loc b)) : sProp (MT nD τ sig Unit (Elt F) ℕ UU ℕ))
    ⊢ sepL (List.finRange 8) fun r => iprop((((data m).a r).view.loc (c.tc : Thread nD τ) ↦{fullShare} (data m).A r c)
        ∗ ∃ f, ((data m).o r).view.loc (c.tc : Thread nD τ) ↦{fullShare} f) := by
  rw [arrays, show List.finRange 8 = [0, 1, 2, 3, 4, 5, 6, 7] from rfl]
  refine pair_cons _ _ 0 _ .rfl (whatever _) ?_
  refine pair_cons _ _ 1 _ .rfl (whatever _) ?_
  refine pair_cons _ _ 2 _ .rfl (whatever _) ?_
  refine pair_cons _ _ 3 _ .rfl (whatever _) ?_
  refine pair_cons _ _ 4 _ .rfl (whatever _) ?_
  refine pair_cons _ _ 5 _ .rfl (whatever _) ?_
  refine pair_cons _ _ 6 _ .rfl (whatever _) ?_
  exact pair_last _ _ 7 .rfl (whatever _)

/-- The whole run: every argument as it was, every result filled, every semaphore at zero. -/
theorem run_main : θ_run defs (onTc (τ := τ) (main (F := F))) ⟨m, fun _ => 0, ρ⟩ (fun r =>
    (∀ (c : Dev nD) (k : Fin 8), r.2.mem ((a k).view.loc (c.tc : Thread nD τ)) = A m k c ∧ r.2.mem ((o k).view.loc (c.tc : Thread nD τ)) = D m k c)
      ∧ r.2.sem = fun _ => 0) := by
  haveI h1 : IsEmpty (Fin (pin (pcfgs (F := F)) (fun p => (cfgs p).toPCfg_adm) 0).W) := inferInstanceAs (IsEmpty (Fin 0))
  haveI h2 : IsEmpty (Fin (pcfgs (F := F) 0).pre.K) := inferInstanceAs (IsEmpty (Fin 0))
  refine plan_alone (pcfgs (F := F)) (fun p => (cfgs p).toPCfg_adm) cellOf_inj 0 winFacts0.to₀ ER defs₀ 𝒱₀ N_0 (plan UU m) ownSemFacts ER
    (u₀ m) ?_ [none, some 0, some 1, some 2, some 3, some 4, some 5, some 6] [] (by decide) order order_perm x23.G x23.Z (by decide)
    m ρ (fun r c => ((data m).a r).view.loc (c.tc : Thread nD τ)) (fun r c => ((data m).o r).view.loc (c.tc : Thread nD τ)) (data m).A (data m).D
    (split_arrays m) (exch_start (U := UU) (data m)) (fun c κ t => body ER m c)
    (fun r c => exch_end (U := UU) (data m) r c x23.G (by decide)) main (fun _ => rfl) all_scoped
  unfold u₀
  iintro Hu
  ihave H := (ownU_pair _ _) $$ Hu
  icases H with ⟨-, H⟩
  iexact H

end Cert.Grads

end
-- ==== Proof.Grads.Value.lean ====
/-
# The exchange of the gradients: its results are the reference's

What the run leaves, next to the reference's own term of the whole arrays.
-/
module

public import proofs.«01_k».proof.Proof.Comm.Values
public import proofs.«01_k».proof.Proof.Grads.Run
public import proofs.«01_k».proof.Proof.Gen.ExchangeRef

@[expose] public section

noncomputable section

namespace Cert.Grads

open Idealize.ShloMosaic Idealize.ShloMosaic.TcCoe Idealize.SL.Sem Cert.Comm Cert.ExchangeIdeal Cert.ExchangeIdeal.Gen

variable {F : FTy → Type} [FloatOps F]

/-- The run leaves every argument as it was and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c 0).1, (h.1 c 1).1, (h.1 c 2).1, (h.1 c 3).1, (h.1 c 4).1, (h.1 c 5).1, (h.1 c 6).1, (h.1 c 7).1⟩, h.2⟩) (run_main m ρ)

/-- When the devices start with the blocks of whole arrays, what the run leaves is what the reference makes of these. -/
theorem values (m w : (ℓ : Loc nD τ sig) → Buf (Elt F) ℓ)
    (m' : (ℓ : Loc Cert.ExchangeRef.nD Cert.ExchangeRef.τ Cert.ExchangeRef.sig) → Buf (Elt F) ℓ)
    (hm : ∀ c : Dev nD, m ((c.tc : Thread nD τ).loc main_arg0) = Layout.block ⟨3, ![8, 4096, 1536]⟩ ⟨3, ![64, 4096, 1536]⟩ 0 8 c (m' (((0 : Dev Cert.ExchangeRef.nD).tc : Thread Cert.ExchangeRef.nD Cert.ExchangeRef.τ).loc Cert.ExchangeRef.main_arg0))
      ∧ m ((c.tc : Thread nD τ).loc main_arg1) = Layout.block ⟨3, ![8, 256, 2048]⟩ ⟨3, ![64, 256, 2048]⟩ 0 8 c (m' (((0 : Dev Cert.ExchangeRef.nD).tc : Thread Cert.ExchangeRef.nD Cert.ExchangeRef.τ).loc Cert.ExchangeRef.main_arg1))
      ∧ m ((c.tc : Thread nD τ).loc main_arg2) = Layout.block ⟨4, ![8, 4, 64, 512]⟩ ⟨4, ![64, 4, 64, 512]⟩ 0 8 c (m' (((0 : Dev Cert.ExchangeRef.nD).tc : Thread Cert.ExchangeRef.nD Cert.ExchangeRef.τ).loc Cert.ExchangeRef.main_arg2))
      ∧ m ((c.tc : Thread nD τ).loc main_arg3) = Layout.block ⟨3, ![8, 2048, 512]⟩ ⟨3, ![64, 2048, 512]⟩ 0 8 c (m' (((0 : Dev Cert.ExchangeRef.nD).tc : Thread Cert.ExchangeRef.nD Cert.ExchangeRef.τ).loc Cert.ExchangeRef.main_arg3))
      ∧ m ((c.tc : Thread nD τ).loc main_arg4) = Layout.block ⟨3, ![8, 2048, 512]⟩ ⟨3, ![64, 2048, 512]⟩ 0 8 c (m' (((0 : Dev Cert.ExchangeRef.nD).tc : Thread Cert.ExchangeRef.nD Cert.ExchangeRef.τ).loc Cert.ExchangeRef.main_arg4))
      ∧ m ((c.tc : Thread nD τ).loc main_arg5) = Layout.block ⟨3, ![8, 512, 4096]⟩ ⟨3, ![64, 512, 4096]⟩ 0 8 c (m' (((0 : Dev Cert.ExchangeRef.nD).tc : Thread Cert.ExchangeRef.nD Cert.ExchangeRef.τ).loc Cert.ExchangeRef.main_arg5))
      ∧ m ((c.tc : Thread nD τ).loc main_arg6) = Layout.block ⟨3, ![8, 4096, 2752]⟩ ⟨3, ![64, 4096, 2752]⟩ 0 8 c (m' (((0 : Dev Cert.ExchangeRef.nD).tc : Thread Cert.ExchangeRef.nD Cert.ExchangeRef.τ).loc Cert.ExchangeRef.main_arg6))
      ∧ m ((c.tc : Thread nD τ).loc main_arg7) = Layout.block ⟨3, ![8, 1376, 4096]⟩ ⟨3, ![64, 1376, 4096]⟩ 0 8 c (m' (((0 : Dev Cert.ExchangeRef.nD).tc : Thread Cert.ExchangeRef.nD Cert.ExchangeRef.τ).loc Cert.ExchangeRef.main_arg7)))
    (h : ∀ (c : Dev nD) (k : Fin 8), w ((a k).view.loc (c.tc : Thread nD τ)) = A m k c ∧ w ((o k).view.loc (c.tc : Thread nD τ)) = D m k c)
    (c : Dev nD) :
    w ((c.tc : Thread nD τ).loc main_v1_0) = Layout.block ⟨3, ![8, 4096, 1536]⟩ ⟨3, ![64, 4096, 1536]⟩ 0 8 c (shapeCast _ (transpose Cert.ExchangeRef.S8x8x4096x1536 [1, 0, 2, 3] (shapeCast _ (m' (((0 : Dev Cert.ExchangeRef.nD).tc : Thread Cert.ExchangeRef.nD Cert.ExchangeRef.τ).loc Cert.ExchangeRef.main_arg0)) Cert.ExchangeRef.Gen.shapeCasts_S64x4096x1536_S8x8x4096x1536) Cert.ExchangeRef.Gen.transposes_S8x8x4096x1536_S8x8x4096x1536_1_0_2_3) Cert.ExchangeRef.Gen.shapeCasts_S8x8x4096x1536_S64x4096x1536)
      ∧ w ((c.tc : Thread nD τ).loc main_v1_1) = Layout.block ⟨3, ![8, 256, 2048]⟩ ⟨3, ![64, 256, 2048]⟩ 0 8 c (shapeCast _ (transpose Cert.ExchangeRef.S8x8x256x2048 [1, 0, 2, 3] (shapeCast _ (m' (((0 : Dev Cert.ExchangeRef.nD).tc : Thread Cert.ExchangeRef.nD Cert.ExchangeRef.τ).loc Cert.ExchangeRef.main_arg1)) Cert.ExchangeRef.Gen.shapeCasts_S64x256x2048_S8x8x256x2048) Cert.ExchangeRef.Gen.transposes_S8x8x256x2048_S8x8x256x2048_1_0_2_3) Cert.ExchangeRef.Gen.shapeCasts_S8x8x256x2048_S64x256x2048)
      ∧ w ((c.tc : Thread nD τ).loc main_v1_2) = Layout.block ⟨4, ![8, 4, 64, 512]⟩ ⟨4, ![64, 4, 64, 512]⟩ 0 8 c (shapeCast _ (transpose Cert.ExchangeRef.S8x8x4x64x512 [1, 0, 2, 3, 4] (shapeCast _ (m' (((0 : Dev Cert.ExchangeRef.nD).tc : Thread Cert.ExchangeRef.nD Cert.ExchangeRef.τ).loc Cert.ExchangeRef.main_arg2)) Cert.ExchangeRef.Gen.shapeCasts_S64x4x64x512_S8x8x4x64x512) Cert.ExchangeRef.Gen.transposes_S8x8x4x64x512_S8x8x4x64x512_1_0_2_3_4) Cert.ExchangeRef.Gen.shapeCasts_S8x8x4x64x512_S64x4x64x512)
      ∧ w ((c.tc : Thread nD τ).loc main_v1_3) = Layout.block ⟨3, ![8, 2048, 512]⟩ ⟨3, ![64, 2048, 512]⟩ 0 8 c (shapeCast _ (transpose Cert.ExchangeRef.S8x8x2048x512 [1, 0, 2, 3] (shapeCast _ (m' (((0 : Dev Cert.ExchangeRef.nD).tc : Thread Cert.ExchangeRef.nD Cert.ExchangeRef.τ).loc Cert.ExchangeRef.main_arg3)) Cert.ExchangeRef.Gen.shapeCasts_S64x2048x512_S8x8x2048x512) Cert.ExchangeRef.Gen.transposes_S8x8x2048x512_S8x8x2048x512_1_0_2_3) Cert.ExchangeRef.Gen.shapeCasts_S8x8x2048x512_S64x2048x512)
      ∧ w ((c.tc : Thread nD τ).loc main_v1_4) = Layout.block ⟨3, ![8, 2048, 512]⟩ ⟨3, ![64, 2048, 512]⟩ 0 8 c (shapeCast _ (transpose Cert.ExchangeRef.S8x8x2048x512 [1, 0, 2, 3] (shapeCast _ (m' (((0 : Dev Cert.ExchangeRef.nD).tc : Thread Cert.ExchangeRef.nD Cert.ExchangeRef.τ).loc Cert.ExchangeRef.main_arg4)) Cert.ExchangeRef.Gen.shapeCasts_S64x2048x512_S8x8x2048x512) Cert.ExchangeRef.Gen.transposes_S8x8x2048x512_S8x8x2048x512_1_0_2_3) Cert.ExchangeRef.Gen.shapeCasts_S8x8x2048x512_S64x2048x512)
      ∧ w ((c.tc : Thread nD τ).loc main_v1_5) = Layout.block ⟨3, ![8, 512, 4096]⟩ ⟨3, ![64, 512, 4096]⟩ 0 8 c (shapeCast _ (transpose Cert.ExchangeRef.S8x8x512x4096 [1, 0, 2, 3] (shapeCast _ (m' (((0 : Dev Cert.ExchangeRef.nD).tc : Thread Cert.ExchangeRef.nD Cert.ExchangeRef.τ).loc Cert.ExchangeRef.main_arg5)) Cert.ExchangeRef.Gen.shapeCasts_S64x512x4096_S8x8x512x4096) Cert.ExchangeRef.Gen.transposes_S8x8x512x4096_S8x8x512x4096_1_0_2_3) Cert.ExchangeRef.Gen.shapeCasts_S8x8x512x4096_S64x512x4096)
      ∧ w ((c.tc : Thread nD τ).loc main_v1_6) = Layout.block ⟨3, ![8, 4096, 2752]⟩ ⟨3, ![64, 4096, 2752]⟩ 0 8 c (shapeCast _ (transpose Cert.ExchangeRef.S8x8x4096x2752 [1, 0, 2, 3] (shapeCast _ (m' (((0 : Dev Cert.ExchangeRef.nD).tc : Thread Cert.ExchangeRef.nD Cert.ExchangeRef.τ).loc Cert.ExchangeRef.main_arg6)) Cert.ExchangeRef.Gen.shapeCasts_S64x4096x2752_S8x8x4096x2752) Cert.ExchangeRef.Gen.transposes_S8x8x4096x2752_S8x8x4096x2752_1_0_2_3) Cert.ExchangeRef.Gen.shapeCasts_S8x8x4096x2752_S64x4096x2752)
      ∧ w ((c.tc : Thread nD τ).loc main_v1_7) = Layout.block ⟨3, ![8, 1376, 4096]⟩ ⟨3, ![64, 1376, 4096]⟩ 0 8 c (shapeCast _ (transpose Cert.ExchangeRef.S8x8x1376x4096 [1, 0, 2, 3] (shapeCast _ (m' (((0 : Dev Cert.ExchangeRef.nD).tc : Thread Cert.ExchangeRef.nD Cert.ExchangeRef.τ).loc Cert.ExchangeRef.main_arg7)) Cert.ExchangeRef.Gen.shapeCasts_S64x1376x4096_S8x8x1376x4096) Cert.ExchangeRef.Gen.transposes_S8x8x1376x4096_S8x8x1376x4096_1_0_2_3) Cert.ExchangeRef.Gen.shapeCasts_S8x8x1376x4096_S64x1376x4096)
      ∧ w ((c.tc : Thread nD τ).loc main_arg0) = m ((c.tc : Thread nD τ).loc main_arg0)
      ∧ w ((c.tc : Thread nD τ).loc main_arg1) = m ((c.tc : Thread nD τ).loc main_arg1)
      ∧ w ((c.tc : Thread nD τ).loc main_arg2) = m ((c.tc : Thread nD τ).loc main_arg2)
      ∧ w ((c.tc : Thread nD τ).loc main_arg3) = m ((c.tc : Thread nD τ).loc main_arg3)
      ∧ w ((c.tc : Thread nD τ).loc main_arg4) = m ((c.tc : Thread nD τ).loc main_arg4)
      ∧ w ((c.tc : Thread nD τ).loc main_arg5) = m ((c.tc : Thread nD τ).loc main_arg5)
      ∧ w ((c.tc : Thread nD τ).loc main_arg6) = m ((c.tc : Thread nD τ).loc main_arg6)
      ∧ w ((c.tc : Thread nD τ).loc main_arg7) = m ((c.tc : Thread nD τ).loc main_arg7) :=
  ⟨(h c 0).2.trans (gswap_of ![4096, 1536] _ Cert.ExchangeRef.Gen.shapeCasts_S64x4096x1536_S8x8x4096x1536 Cert.ExchangeRef.Gen.shapeCasts_S8x8x4096x1536_S64x4096x1536 _ Cert.ExchangeRef.Gen.transposes_S8x8x4096x1536_S8x8x4096x1536_1_0_2_3 (by decide) _ c _ fun s => (hm s).1),
    (h c 1).2.trans (gswap_of ![256, 2048] _ Cert.ExchangeRef.Gen.shapeCasts_S64x256x2048_S8x8x256x2048 Cert.ExchangeRef.Gen.shapeCasts_S8x8x256x2048_S64x256x2048 _ Cert.ExchangeRef.Gen.transposes_S8x8x256x2048_S8x8x256x2048_1_0_2_3 (by decide) _ c _ fun s => (hm s).2.1),
    (h c 2).2.trans (gswap_of ![4, 64, 512] _ Cert.ExchangeRef.Gen.shapeCasts_S64x4x64x512_S8x8x4x64x512 Cert.ExchangeRef.Gen.shapeCasts_S8x8x4x64x512_S64x4x64x512 _ Cert.ExchangeRef.Gen.transposes_S8x8x4x64x512_S8x8x4x64x512_1_0_2_3_4 (by decide) _ c _ fun s => (hm s).2.2.1),
    (h c 3).2.trans (gswap_of ![2048, 512] _ Cert.ExchangeRef.Gen.shapeCasts_S64x2048x512_S8x8x2048x512 Cert.ExchangeRef.Gen.shapeCasts_S8x8x2048x512_S64x2048x512 _ Cert.ExchangeRef.Gen.transposes_S8x8x2048x512_S8x8x2048x512_1_0_2_3 (by decide) _ c _ fun s => (hm s).2.2.2.1),
    (h c 4).2.trans (gswap_of ![2048, 512] _ Cert.ExchangeRef.Gen.shapeCasts_S64x2048x512_S8x8x2048x512 Cert.ExchangeRef.Gen.shapeCasts_S8x8x2048x512_S64x2048x512 _ Cert.ExchangeRef.Gen.transposes_S8x8x2048x512_S8x8x2048x512_1_0_2_3 (by decide) _ c _ fun s => (hm s).2.2.2.2.1),
    (h c 5).2.trans (gswap_of ![512, 4096] _ Cert.ExchangeRef.Gen.shapeCasts_S64x512x4096_S8x8x512x4096 Cert.ExchangeRef.Gen.shapeCasts_S8x8x512x4096_S64x512x4096 _ Cert.ExchangeRef.Gen.transposes_S8x8x512x4096_S8x8x512x4096_1_0_2_3 (by decide) _ c _ fun s => (hm s).2.2.2.2.2.1),
    (h c 6).2.trans (gswap_of ![4096, 2752] _ Cert.ExchangeRef.Gen.shapeCasts_S64x4096x2752_S8x8x4096x2752 Cert.ExchangeRef.Gen.shapeCasts_S8x8x4096x2752_S64x4096x2752 _ Cert.ExchangeRef.Gen.transposes_S8x8x4096x2752_S8x8x4096x2752_1_0_2_3 (by decide) _ c _ fun s => (hm s).2.2.2.2.2.2.1),
    (h c 7).2.trans (gswap_of ![1376, 4096] _ Cert.ExchangeRef.Gen.shapeCasts_S64x1376x4096_S8x8x1376x4096 Cert.ExchangeRef.Gen.shapeCasts_S8x8x1376x4096_S64x1376x4096 _ Cert.ExchangeRef.Gen.transposes_S8x8x1376x4096_S8x8x1376x4096_1_0_2_3 (by decide) _ c _ fun s => (hm s).2.2.2.2.2.2.2),
    (h c 0).1, (h c 1).1, (h c 2).1, (h c 3).1, (h c 4).1, (h c 5).1, (h c 6).1, (h c 7).1⟩

end Cert.Grads

end
-- ==== Proof.Shards.Data.lean ====
/-
# The gather of the weights: its plan

Every device ends with all eight devices' blocks of ten arrays.
-/
module

public import proofs.«01_k».proof.Proof.Comm.Routes
public import proofs.«01_k».proof.Proof.Gen.WeightsIdeal.Skeleton
public import proofs.«01_k».proof.Proof.Gen.WeightsIdeal.Launch

@[expose] public section

noncomputable section

namespace Cert.Shards

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.WeightsIdeal Cert.WeightsIdeal.Gen

variable {F : FTy → Type} [FloatOps F]

/-- The semaphores: per array seven at the sender, seven at the receiver, one for the local copy. -/
def semOf (k : Fin 10 × Jx) : DmaSem sig := ⟨semNo 10 k, semNo_lt 10 k⟩

/-- No two duties share a semaphore. -/
theorem semOf_inj : Function.Injective semOf := fun k k' h => semNo_inj 10 (congrArg Fin.val h)

/-- A block of array `r`. -/
def S : Fin 10 → Shape
  | 0 => S4096x1536
  | 1 => S256x2048
  | 2 => S4x64x512
  | 3 => S2048x512
  | 4 => S2048x512
  | 5 => S512x4096
  | 6 => S4096x2752
  | 7 => S1376x4096
  | 8 => S4x64
  | 9 => S3x2752

/-- Eight blocks of array `r`. -/
def O : Fin 10 → Shape
  | 0 => S8x4096x1536
  | 1 => S8x256x2048
  | 2 => S8x4x64x512
  | 3 => S8x2048x512
  | 4 => S8x2048x512
  | 5 => S8x512x4096
  | 6 => S8x4096x2752
  | 7 => S8x1376x4096
  | 8 => S8x4x64
  | 9 => S8x3x2752

/-- The elements of array `r`. -/
def el : Fin 10 → EltTy
  | 0 => .bf16
  | 1 => .bf16
  | 2 => .bf16
  | 3 => .bf16
  | 4 => .bf16
  | 5 => .bf16
  | 6 => .bf16
  | 7 => .bf16
  | 8 => .f32
  | 9 => .f32

/-- The arrays that the call reads. -/
def a : (r : Fin 10) → Memref sig .tc .hbm (S r) (el r)
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7
  | 8 => Memref.whole main_arg8
  | 9 => Memref.whole main_arg9

/-- The arrays that the call fills. -/
def o : (r : Fin 10) → Memref sig .tc .hbm (O r) (el r)
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6
  | 7 => Memref.whole main_v1_7
  | 8 => Memref.whole main_v1_8
  | 9 => Memref.whole main_v1_9

/-- The slots of array 0. -/
def lay0 : Slots S4096x1536 S8x4096x1536 := lead ![4096, 1536] squeezes_S1x4096x1536_S4096x1536
/-- The slots of array 1. -/
def lay1 : Slots S256x2048 S8x256x2048 := lead ![256, 2048] squeezes_S1x256x2048_S256x2048
/-- The slots of array 2. -/
def lay2 : Slots S4x64x512 S8x4x64x512 := lead ![4, 64, 512] squeezes_S1x4x64x512_S4x64x512
/-- The slots of array 3. -/
def lay3 : Slots S2048x512 S8x2048x512 := lead ![2048, 512] squeezes_S1x2048x512_S2048x512
/-- The slots of array 4. -/
def lay4 : Slots S2048x512 S8x2048x512 := lead ![2048, 512] squeezes_S1x2048x512_S2048x512
/-- The slots of array 5. -/
def lay5 : Slots S512x4096 S8x512x4096 := lead ![512, 4096] squeezes_S1x512x4096_S512x4096
/-- The slots of array 6. -/
def lay6 : Slots S4096x2752 S8x4096x2752 := lead ![4096, 2752] squeezes_S1x4096x2752_S4096x2752
/-- The slots of array 7. -/
def lay7 : Slots S1376x4096 S8x1376x4096 := lead ![1376, 4096] squeezes_S1x1376x4096_S1376x4096
/-- The slots of array 8. -/
def lay8 : Slots S4x64 S8x4x64 := lead ![4, 64] squeezes_S1x4x64_S4x64
/-- The slots of array 9. -/
def lay9 : Slots S3x2752 S8x3x2752 := lead ![3, 2752] squeezes_S1x3x2752_S3x2752

/-- The slots of every array. -/
def lay : (r : Fin 10) → Slots (S r) (O r)
  | 0 => lay0
  | 1 => lay1
  | 2 => lay2
  | 3 => lay3
  | 4 => lay4
  | 5 => lay5
  | 6 => lay6
  | 7 => lay7
  | 8 => lay8
  | 9 => lay9

variable (m : (ℓ : Loc nD τ sig) → Buf (Elt F) ℓ)

/-- What the call reads. -/
def A : (r : Fin 10) → (d : Dev 8) → Buf (Elt F) ((a r).view.loc (d.tc : Thread nD τ))
  | 0, d => m ((d.tc : Thread nD τ).loc main_arg0)
  | 1, d => m ((d.tc : Thread nD τ).loc main_arg1)
  | 2, d => m ((d.tc : Thread nD τ).loc main_arg2)
  | 3, d => m ((d.tc : Thread nD τ).loc main_arg3)
  | 4, d => m ((d.tc : Thread nD τ).loc main_arg4)
  | 5, d => m ((d.tc : Thread nD τ).loc main_arg5)
  | 6, d => m ((d.tc : Thread nD τ).loc main_arg6)
  | 7, d => m ((d.tc : Thread nD τ).loc main_arg7)
  | 8, d => m ((d.tc : Thread nD τ).loc main_arg8)
  | 9, d => m ((d.tc : Thread nD τ).loc main_arg9)

/-- What the call leaves. -/
def D : (r : Fin 10) → (d : Dev 8) → Buf (Elt F) ((o r).view.loc (d.tc : Thread nD τ))
  | 0, d => gcat ![4096, 1536] fun s : Fin 8 => m ((Dev.tc (nD := nD) s : Thread nD τ).loc main_arg0)
  | 1, d => gcat ![256, 2048] fun s : Fin 8 => m ((Dev.tc (nD := nD) s : Thread nD τ).loc main_arg1)
  | 2, d => gcat ![4, 64, 512] fun s : Fin 8 => m ((Dev.tc (nD := nD) s : Thread nD τ).loc main_arg2)
  | 3, d => gcat ![2048, 512] fun s : Fin 8 => m ((Dev.tc (nD := nD) s : Thread nD τ).loc main_arg3)
  | 4, d => gcat ![2048, 512] fun s : Fin 8 => m ((Dev.tc (nD := nD) s : Thread nD τ).loc main_arg4)
  | 5, d => gcat ![512, 4096] fun s : Fin 8 => m ((Dev.tc (nD := nD) s : Thread nD τ).loc main_arg5)
  | 6, d => gcat ![4096, 2752] fun s : Fin 8 => m ((Dev.tc (nD := nD) s : Thread nD τ).loc main_arg6)
  | 7, d => gcat ![1376, 4096] fun s : Fin 8 => m ((Dev.tc (nD := nD) s : Thread nD τ).loc main_arg7)
  | 8, d => gcat ![4, 64] fun s : Fin 8 => m ((Dev.tc (nD := nD) s : Thread nD τ).loc main_arg8)
  | 9, d => gcat ![3, 2752] fun s : Fin 8 => m ((Dev.tc (nD := nD) s : Thread nD τ).loc main_arg9)

/-- A block that is sent is the block that arrives. -/
theorem hD : ∀ (r : Fin 10) (s d : Dev 8), (a r).view.read (Elt F) (A m r s) = (slot (lay r) (o r) s).view.read (Elt F) (D m r d)
  | 0, s, d => Eq.trans (by rfl) (lead_read ![4096, 1536] squeezes_S1x4096x1536_S4096x1536 (Memref.whole main_v1_0) s _).symm
  | 1, s, d => Eq.trans (by rfl) (lead_read ![256, 2048] squeezes_S1x256x2048_S256x2048 (Memref.whole main_v1_1) s _).symm
  | 2, s, d => Eq.trans (by rfl) (lead_read ![4, 64, 512] squeezes_S1x4x64x512_S4x64x512 (Memref.whole main_v1_2) s _).symm
  | 3, s, d => Eq.trans (by rfl) (lead_read ![2048, 512] squeezes_S1x2048x512_S2048x512 (Memref.whole main_v1_3) s _).symm
  | 4, s, d => Eq.trans (by rfl) (lead_read ![2048, 512] squeezes_S1x2048x512_S2048x512 (Memref.whole main_v1_4) s _).symm
  | 5, s, d => Eq.trans (by rfl) (lead_read ![512, 4096] squeezes_S1x512x4096_S512x4096 (Memref.whole main_v1_5) s _).symm
  | 6, s, d => Eq.trans (by rfl) (lead_read ![4096, 2752] squeezes_S1x4096x2752_S4096x2752 (Memref.whole main_v1_6) s _).symm
  | 7, s, d => Eq.trans (by rfl) (lead_read ![1376, 4096] squeezes_S1x1376x4096_S1376x4096 (Memref.whole main_v1_7) s _).symm
  | 8, s, d => Eq.trans (by rfl) (lead_read ![4, 64] squeezes_S1x4x64_S4x64 (Memref.whole main_v1_8) s _).symm
  | 9, s, d => Eq.trans (by rfl) (lead_read ![3, 2752] squeezes_S1x3x2752_S3x2752 (Memref.whole main_v1_9) s _).symm

/-- The units that a copy of array `r` is worth. -/
def amt : Fin 10 → ℕ
  | 0 => (Memref.whole main_arg0).view.dmaCredit
  | 1 => (Memref.whole main_arg1).view.dmaCredit
  | 2 => (Memref.whole main_arg2).view.dmaCredit
  | 3 => (Memref.whole main_arg3).view.dmaCredit
  | 4 => (Memref.whole main_arg4).view.dmaCredit
  | 5 => (Memref.whole main_arg5).view.dmaCredit
  | 6 => (Memref.whole main_arg6).view.dmaCredit
  | 7 => (Memref.whole main_arg7).view.dmaCredit
  | 8 => (Memref.whole main_arg8).view.dmaCredit
  | 9 => (Memref.whole main_arg9).view.dmaCredit

/-- Every copy is worth at least one unit. -/
theorem amt_pos : ∀ r, 0 < amt r
  | 0 => sig.dmaCredit_pos _ _ _ _ _ (by decide)
  | 1 => sig.dmaCredit_pos _ _ _ _ _ (by decide)
  | 2 => sig.dmaCredit_pos _ _ _ _ _ (by decide)
  | 3 => sig.dmaCredit_pos _ _ _ _ _ (by decide)
  | 4 => sig.dmaCredit_pos _ _ _ _ _ (by decide)
  | 5 => sig.dmaCredit_pos _ _ _ _ _ (by decide)
  | 6 => sig.dmaCredit_pos _ _ _ _ _ (by decide)
  | 7 => sig.dmaCredit_pos _ _ _ _ _ (by decide)
  | 8 => sig.dmaCredit_pos _ _ _ _ _ (by decide)
  | 9 => sig.dmaCredit_pos _ _ _ _ _ (by decide)

/-- What the kernel reads and what it leaves, from a launch memory. -/
def data : GData τ sig (Elt F) 10 where
  S := S
  O := O
  e := el
  lay := lay
  sem := semOf
  sem_inj := semOf_inj
  o := o
  wo r := match r with
    | 0 => Memref.isWhole_whole _
    | 1 => Memref.isWhole_whole _
    | 2 => Memref.isWhole_whole _
    | 3 => Memref.isWhole_whole _
    | 4 => Memref.isWhole_whole _
    | 5 => Memref.isWhole_whole _
    | 6 => Memref.isWhole_whole _
    | 7 => Memref.isWhole_whole _
    | 8 => Memref.isWhole_whole _
    | 9 => Memref.isWhole_whole _
  D := D m
  amt := amt
  hamt r s := match r with
    | 0 => rfl
    | 1 => rfl
    | 2 => rfl
    | 3 => rfl
    | 4 => rfl
    | 5 => rfl
    | 6 => rfl
    | 7 => rfl
    | 8 => rfl
    | 9 => rfl
  amt_pos := amt_pos
  a := a
  wa r := match r with
    | 0 => Memref.isWhole_whole _
    | 1 => Memref.isWhole_whole _
    | 2 => Memref.isWhole_whole _
    | 3 => Memref.isWhole_whole _
    | 4 => Memref.isWhole_whole _
    | 5 => Memref.isWhole_whole _
    | 6 => Memref.isWhole_whole _
    | 7 => Memref.isWhole_whole _
    | 8 => Memref.isWhole_whole _
    | 9 => Memref.isWhole_whole _
  A := A m
  hD := hD m

/-- The plan. -/
abbrev plan (U : Type) [URA U] (m : (ℓ : Loc nD τ sig) → Buf (Elt F) ℓ) : Plan nD τ sig (Elt F) U 10 := gatherPlan (data m)

/-- A part of the kernel, on the call's arrays and semaphores. -/
abbrev onCall {β : Type 1} (f : (arg0 : Memref sig .tc .hbm S4096x1536 .bf16) → (harg0 : arg0.IsWhole) → (arg1 : Memref sig .tc .hbm S256x2048 .bf16) → (harg1 : arg1.IsWhole) → (arg2 : Memref sig .tc .hbm S4x64x512 .bf16) → (harg2 : arg2.IsWhole) → (arg3 : Memref sig .tc .hbm S2048x512 .bf16) → (harg3 : arg3.IsWhole) → (arg4 : Memref sig .tc .hbm S2048x512 .bf16) → (harg4 : arg4.IsWhole) → (arg5 : Memref sig .tc .hbm S512x4096 .bf16) → (harg5 : arg5.IsWhole) → (arg6 : Memref sig .tc .hbm S4096x2752 .bf16) → (harg6 : arg6.IsWhole) → (arg7 : Memref sig .tc .hbm S1376x4096 .bf16) → (harg7 : arg7.IsWhole) → (arg8 : Memref sig .tc .hbm S4x64 .f32) → (harg8 : arg8.IsWhole) → (arg9 : Memref sig .tc .hbm S3x2752 .f32) → (harg9 : arg9.IsWhole) → (arg10 : Memref sig .tc .hbm S8x4096x1536 .bf16) → (harg10 : arg10.IsWhole) → (arg11 : Memref sig .tc .hbm S8x256x2048 .bf16) → (harg11 : arg11.IsWhole) → (arg12 : Memref sig .tc .hbm S8x4x64x512 .bf16) → (harg12 : arg12.IsWhole) → (arg13 : Memref sig .tc .hbm S8x2048x512 .bf16) → (harg13 : arg13.IsWhole) → (arg14 : Memref sig .tc .hbm S8x2048x512 .bf16) → (harg14 : arg14.IsWhole) → (arg15 : Memref sig .tc .hbm S8x512x4096 .bf16) → (harg15 : arg15.IsWhole) → (arg16 : Memref sig .tc .hbm S8x4096x2752 .bf16) → (harg16 : arg16.IsWhole) → (arg17 : Memref sig .tc .hbm S8x1376x4096 .bf16) → (harg17 : arg17.IsWhole) → (arg18 : Memref sig .tc .hbm S8x4x64 .f32) → (harg18 : arg18.IsWhole) → (arg19 : Memref sig .tc .hbm S8x3x2752 .f32) → (harg19 : arg19.IsWhole) → (arg20 : DmaSems sig S10x7) → (arg21 : DmaSems sig S10x7) → (arg22 : DmaSems sig S10) → β) : β :=
  f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) cc0_scratch0 cc0_scratch1 cc0_scratch2

end Cert.Shards

end
-- ==== Proof.Shards.Body.lean ====
/-
# The gather of the weights: the body

What a device holds after each part of the kernel.
-/
module

public import proofs.«01_k».proof.Proof.Comm.Order
public import proofs.«01_k».proof.Proof.Comm.PlanLaunch
public import proofs.«01_k».proof.Proof.Shards.Data

@[expose] public section

set_option maxRecDepth 65536

noncomputable section

namespace Cert.Shards

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.WeightsIdeal Cert.WeightsIdeal.Gen

variable {F : FTy → Type} [FloatOps F] {U : Type} [URA U]
variable (E : Emb (URounds (GSem nD τ sig) Unit) (MT nD τ sig Unit (Elt F) ℕ U ℕ)) (m : (ℓ : Loc nD τ sig) → Buf (Elt F) ℓ)

/-- No loop of the kernels needs a variant. -/
abbrev 𝒱₀ : Variants := Variants.none

/-- The copies in the order in which they are started. -/
def order : List (Fin 10 × Fin 7) :=
  [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3), (8, 0), (8, 1), (8, 2), (8, 3), (9, 0), (9, 1), (9, 2), (9, 3), (0, 4), (0, 5), (0, 6), (1, 4), (1, 5), (1, 6), (2, 4), (2, 5), (2, 6), (3, 4), (3, 5), (3, 6), (4, 4), (4, 5), (4, 6), (5, 4), (5, 5), (5, 6), (6, 4), (6, 5), (6, 6), (7, 4), (7, 5), (7, 6), (8, 4), (8, 5), (8, 6), (9, 4), (9, 5), (9, 6)]

theorem order_perm : order.Perm (Plan.allSends 10) := by decide

theorem to1 : ∀ c : Dev nD, (⟨k0_dev1 c, k0_dev1_lt c⟩ : Dev nD) = hop gk 0 c := by decide +kernel
theorem to2 : ∀ c : Dev nD, (⟨k0_dev2 c, k0_dev2_lt c⟩ : Dev nD) = hop gk 1 c := by decide +kernel
theorem to3 : ∀ c : Dev nD, (⟨k0_dev3 c, k0_dev3_lt c⟩ : Dev nD) = hop gk 2 c := by decide +kernel
theorem to4 : ∀ c : Dev nD, (⟨k0_dev4 c, k0_dev4_lt c⟩ : Dev nD) = hop gk 3 c := by decide +kernel
theorem to5 : ∀ c : Dev nD, (⟨k0_dev5 c, k0_dev5_lt c⟩ : Dev nD) = hop gk 0 c := by decide +kernel
theorem to6 : ∀ c : Dev nD, (⟨k0_dev6 c, k0_dev6_lt c⟩ : Dev nD) = hop gk 1 c := by decide +kernel
theorem to7 : ∀ c : Dev nD, (⟨k0_dev7 c, k0_dev7_lt c⟩ : Dev nD) = hop gk 2 c := by decide +kernel
theorem to8 : ∀ c : Dev nD, (⟨k0_dev8 c, k0_dev8_lt c⟩ : Dev nD) = hop gk 3 c := by decide +kernel
theorem to9 : ∀ c : Dev nD, (⟨k0_dev9 c, k0_dev9_lt c⟩ : Dev nD) = hop gk 0 c := by decide +kernel
theorem to10 : ∀ c : Dev nD, (⟨k0_dev10 c, k0_dev10_lt c⟩ : Dev nD) = hop gk 1 c := by decide +kernel
theorem to11 : ∀ c : Dev nD, (⟨k0_dev11 c, k0_dev11_lt c⟩ : Dev nD) = hop gk 2 c := by decide +kernel
theorem to12 : ∀ c : Dev nD, (⟨k0_dev12 c, k0_dev12_lt c⟩ : Dev nD) = hop gk 3 c := by decide +kernel
theorem to13 : ∀ c : Dev nD, (⟨k0_dev13 c, k0_dev13_lt c⟩ : Dev nD) = hop gk 0 c := by decide +kernel
theorem to14 : ∀ c : Dev nD, (⟨k0_dev14 c, k0_dev14_lt c⟩ : Dev nD) = hop gk 1 c := by decide +kernel
theorem to15 : ∀ c : Dev nD, (⟨k0_dev15 c, k0_dev15_lt c⟩ : Dev nD) = hop gk 2 c := by decide +kernel
theorem to16 : ∀ c : Dev nD, (⟨k0_dev16 c, k0_dev16_lt c⟩ : Dev nD) = hop gk 3 c := by decide +kernel
theorem to17 : ∀ c : Dev nD, (⟨k0_dev17 c, k0_dev17_lt c⟩ : Dev nD) = hop gk 0 c := by decide +kernel
theorem to18 : ∀ c : Dev nD, (⟨k0_dev18 c, k0_dev18_lt c⟩ : Dev nD) = hop gk 1 c := by decide +kernel
theorem to19 : ∀ c : Dev nD, (⟨k0_dev19 c, k0_dev19_lt c⟩ : Dev nD) = hop gk 2 c := by decide +kernel
theorem to20 : ∀ c : Dev nD, (⟨k0_dev20 c, k0_dev20_lt c⟩ : Dev nD) = hop gk 3 c := by decide +kernel
theorem to21 : ∀ c : Dev nD, (⟨k0_dev21 c, k0_dev21_lt c⟩ : Dev nD) = hop gk 0 c := by decide +kernel
theorem to22 : ∀ c : Dev nD, (⟨k0_dev22 c, k0_dev22_lt c⟩ : Dev nD) = hop gk 1 c := by decide +kernel
theorem to23 : ∀ c : Dev nD, (⟨k0_dev23 c, k0_dev23_lt c⟩ : Dev nD) = hop gk 2 c := by decide +kernel
theorem to24 : ∀ c : Dev nD, (⟨k0_dev24 c, k0_dev24_lt c⟩ : Dev nD) = hop gk 3 c := by decide +kernel
theorem to25 : ∀ c : Dev nD, (⟨k0_dev25 c, k0_dev25_lt c⟩ : Dev nD) = hop gk 0 c := by decide +kernel
theorem to26 : ∀ c : Dev nD, (⟨k0_dev26 c, k0_dev26_lt c⟩ : Dev nD) = hop gk 1 c := by decide +kernel
theorem to27 : ∀ c : Dev nD, (⟨k0_dev27 c, k0_dev27_lt c⟩ : Dev nD) = hop gk 2 c := by decide +kernel
theorem to28 : ∀ c : Dev nD, (⟨k0_dev28 c, k0_dev28_lt c⟩ : Dev nD) = hop gk 3 c := by decide +kernel
theorem to29 : ∀ c : Dev nD, (⟨k0_dev29 c, k0_dev29_lt c⟩ : Dev nD) = hop gk 0 c := by decide +kernel
theorem to30 : ∀ c : Dev nD, (⟨k0_dev30 c, k0_dev30_lt c⟩ : Dev nD) = hop gk 1 c := by decide +kernel
theorem to31 : ∀ c : Dev nD, (⟨k0_dev31 c, k0_dev31_lt c⟩ : Dev nD) = hop gk 2 c := by decide +kernel
theorem to32 : ∀ c : Dev nD, (⟨k0_dev32 c, k0_dev32_lt c⟩ : Dev nD) = hop gk 3 c := by decide +kernel
theorem to33 : ∀ c : Dev nD, (⟨k0_dev33 c, k0_dev33_lt c⟩ : Dev nD) = hop gk 0 c := by decide +kernel
theorem to34 : ∀ c : Dev nD, (⟨k0_dev34 c, k0_dev34_lt c⟩ : Dev nD) = hop gk 1 c := by decide +kernel
theorem to35 : ∀ c : Dev nD, (⟨k0_dev35 c, k0_dev35_lt c⟩ : Dev nD) = hop gk 2 c := by decide +kernel
theorem to36 : ∀ c : Dev nD, (⟨k0_dev36 c, k0_dev36_lt c⟩ : Dev nD) = hop gk 3 c := by decide +kernel
theorem to37 : ∀ c : Dev nD, (⟨k0_dev37 c, k0_dev37_lt c⟩ : Dev nD) = hop gk 0 c := by decide +kernel
theorem to38 : ∀ c : Dev nD, (⟨k0_dev38 c, k0_dev38_lt c⟩ : Dev nD) = hop gk 1 c := by decide +kernel
theorem to39 : ∀ c : Dev nD, (⟨k0_dev39 c, k0_dev39_lt c⟩ : Dev nD) = hop gk 2 c := by decide +kernel
theorem to40 : ∀ c : Dev nD, (⟨k0_dev40 c, k0_dev40_lt c⟩ : Dev nD) = hop gk 3 c := by decide +kernel
theorem to41 : ∀ c : Dev nD, (⟨k0_dev41 c, k0_dev41_lt c⟩ : Dev nD) = hop gk 4 c := by decide +kernel
theorem to42 : ∀ c : Dev nD, (⟨k0_dev42 c, k0_dev42_lt c⟩ : Dev nD) = hop gk 5 c := by decide +kernel
theorem to43 : ∀ c : Dev nD, (⟨k0_dev43 c, k0_dev43_lt c⟩ : Dev nD) = hop gk 6 c := by decide +kernel
theorem to44 : ∀ c : Dev nD, (⟨k0_dev44 c, k0_dev44_lt c⟩ : Dev nD) = hop gk 4 c := by decide +kernel
theorem to45 : ∀ c : Dev nD, (⟨k0_dev45 c, k0_dev45_lt c⟩ : Dev nD) = hop gk 5 c := by decide +kernel
theorem to46 : ∀ c : Dev nD, (⟨k0_dev46 c, k0_dev46_lt c⟩ : Dev nD) = hop gk 6 c := by decide +kernel
theorem to47 : ∀ c : Dev nD, (⟨k0_dev47 c, k0_dev47_lt c⟩ : Dev nD) = hop gk 4 c := by decide +kernel
theorem to48 : ∀ c : Dev nD, (⟨k0_dev48 c, k0_dev48_lt c⟩ : Dev nD) = hop gk 5 c := by decide +kernel
theorem to49 : ∀ c : Dev nD, (⟨k0_dev49 c, k0_dev49_lt c⟩ : Dev nD) = hop gk 6 c := by decide +kernel
theorem to50 : ∀ c : Dev nD, (⟨k0_dev50 c, k0_dev50_lt c⟩ : Dev nD) = hop gk 4 c := by decide +kernel
theorem to51 : ∀ c : Dev nD, (⟨k0_dev51 c, k0_dev51_lt c⟩ : Dev nD) = hop gk 5 c := by decide +kernel
theorem to52 : ∀ c : Dev nD, (⟨k0_dev52 c, k0_dev52_lt c⟩ : Dev nD) = hop gk 6 c := by decide +kernel
theorem to53 : ∀ c : Dev nD, (⟨k0_dev53 c, k0_dev53_lt c⟩ : Dev nD) = hop gk 4 c := by decide +kernel
theorem to54 : ∀ c : Dev nD, (⟨k0_dev54 c, k0_dev54_lt c⟩ : Dev nD) = hop gk 5 c := by decide +kernel
theorem to55 : ∀ c : Dev nD, (⟨k0_dev55 c, k0_dev55_lt c⟩ : Dev nD) = hop gk 6 c := by decide +kernel
theorem to56 : ∀ c : Dev nD, (⟨k0_dev56 c, k0_dev56_lt c⟩ : Dev nD) = hop gk 4 c := by decide +kernel
theorem to57 : ∀ c : Dev nD, (⟨k0_dev57 c, k0_dev57_lt c⟩ : Dev nD) = hop gk 5 c := by decide +kernel
theorem to58 : ∀ c : Dev nD, (⟨k0_dev58 c, k0_dev58_lt c⟩ : Dev nD) = hop gk 6 c := by decide +kernel
theorem to59 : ∀ c : Dev nD, (⟨k0_dev59 c, k0_dev59_lt c⟩ : Dev nD) = hop gk 4 c := by decide +kernel
theorem to60 : ∀ c : Dev nD, (⟨k0_dev60 c, k0_dev60_lt c⟩ : Dev nD) = hop gk 5 c := by decide +kernel
theorem to61 : ∀ c : Dev nD, (⟨k0_dev61 c, k0_dev61_lt c⟩ : Dev nD) = hop gk 6 c := by decide +kernel
theorem to62 : ∀ c : Dev nD, (⟨k0_dev62 c, k0_dev62_lt c⟩ : Dev nD) = hop gk 4 c := by decide +kernel
theorem to63 : ∀ c : Dev nD, (⟨k0_dev63 c, k0_dev63_lt c⟩ : Dev nD) = hop gk 5 c := by decide +kernel
theorem to64 : ∀ c : Dev nD, (⟨k0_dev64 c, k0_dev64_lt c⟩ : Dev nD) = hop gk 6 c := by decide +kernel
theorem to65 : ∀ c : Dev nD, (⟨k0_dev65 c, k0_dev65_lt c⟩ : Dev nD) = hop gk 4 c := by decide +kernel
theorem to66 : ∀ c : Dev nD, (⟨k0_dev66 c, k0_dev66_lt c⟩ : Dev nD) = hop gk 5 c := by decide +kernel
theorem to67 : ∀ c : Dev nD, (⟨k0_dev67 c, k0_dev67_lt c⟩ : Dev nD) = hop gk 6 c := by decide +kernel
theorem to68 : ∀ c : Dev nD, (⟨k0_dev68 c, k0_dev68_lt c⟩ : Dev nD) = hop gk 4 c := by decide +kernel
theorem to69 : ∀ c : Dev nD, (⟨k0_dev69 c, k0_dev69_lt c⟩ : Dev nD) = hop gk 5 c := by decide +kernel
theorem to70 : ∀ c : Dev nD, (⟨k0_dev70 c, k0_dev70_lt c⟩ : Dev nD) = hop gk 6 c := by decide +kernel

theorem at1 : ∀ c : Dev nD, k0_off1 c = lay0.off (gblk none c) := by decide +kernel
theorem at2 : ∀ c : Dev nD, k0_off1 c = lay0.off (gblk (some 0) c) := by decide +kernel
theorem at3 : ∀ c : Dev nD, k0_off1 c = lay0.off (gblk (some 1) c) := by decide +kernel
theorem at4 : ∀ c : Dev nD, k0_off1 c = lay0.off (gblk (some 2) c) := by decide +kernel
theorem at5 : ∀ c : Dev nD, k0_off1 c = lay0.off (gblk (some 3) c) := by decide +kernel
theorem at6 : ∀ c : Dev nD, k0_off2 c = lay1.off (gblk none c) := by decide +kernel
theorem at7 : ∀ c : Dev nD, k0_off2 c = lay1.off (gblk (some 0) c) := by decide +kernel
theorem at8 : ∀ c : Dev nD, k0_off2 c = lay1.off (gblk (some 1) c) := by decide +kernel
theorem at9 : ∀ c : Dev nD, k0_off2 c = lay1.off (gblk (some 2) c) := by decide +kernel
theorem at10 : ∀ c : Dev nD, k0_off2 c = lay1.off (gblk (some 3) c) := by decide +kernel
theorem at11 : ∀ c : Dev nD, k0_off3 c = lay2.off (gblk none c) := by decide +kernel
theorem at12 : ∀ c : Dev nD, k0_off3 c = lay2.off (gblk (some 0) c) := by decide +kernel
theorem at13 : ∀ c : Dev nD, k0_off3 c = lay2.off (gblk (some 1) c) := by decide +kernel
theorem at14 : ∀ c : Dev nD, k0_off3 c = lay2.off (gblk (some 2) c) := by decide +kernel
theorem at15 : ∀ c : Dev nD, k0_off3 c = lay2.off (gblk (some 3) c) := by decide +kernel
theorem at16 : ∀ c : Dev nD, k0_off4 c = lay3.off (gblk none c) := by decide +kernel
theorem at17 : ∀ c : Dev nD, k0_off4 c = lay3.off (gblk (some 0) c) := by decide +kernel
theorem at18 : ∀ c : Dev nD, k0_off4 c = lay3.off (gblk (some 1) c) := by decide +kernel
theorem at19 : ∀ c : Dev nD, k0_off4 c = lay3.off (gblk (some 2) c) := by decide +kernel
theorem at20 : ∀ c : Dev nD, k0_off4 c = lay3.off (gblk (some 3) c) := by decide +kernel
theorem at21 : ∀ c : Dev nD, k0_off4 c = lay4.off (gblk none c) := by decide +kernel
theorem at22 : ∀ c : Dev nD, k0_off4 c = lay4.off (gblk (some 0) c) := by decide +kernel
theorem at23 : ∀ c : Dev nD, k0_off4 c = lay4.off (gblk (some 1) c) := by decide +kernel
theorem at24 : ∀ c : Dev nD, k0_off4 c = lay4.off (gblk (some 2) c) := by decide +kernel
theorem at25 : ∀ c : Dev nD, k0_off4 c = lay4.off (gblk (some 3) c) := by decide +kernel
theorem at26 : ∀ c : Dev nD, k0_off5 c = lay5.off (gblk none c) := by decide +kernel
theorem at27 : ∀ c : Dev nD, k0_off5 c = lay5.off (gblk (some 0) c) := by decide +kernel
theorem at28 : ∀ c : Dev nD, k0_off5 c = lay5.off (gblk (some 1) c) := by decide +kernel
theorem at29 : ∀ c : Dev nD, k0_off5 c = lay5.off (gblk (some 2) c) := by decide +kernel
theorem at30 : ∀ c : Dev nD, k0_off5 c = lay5.off (gblk (some 3) c) := by decide +kernel
theorem at31 : ∀ c : Dev nD, k0_off6 c = lay6.off (gblk none c) := by decide +kernel
theorem at32 : ∀ c : Dev nD, k0_off6 c = lay6.off (gblk (some 0) c) := by decide +kernel
theorem at33 : ∀ c : Dev nD, k0_off6 c = lay6.off (gblk (some 1) c) := by decide +kernel
theorem at34 : ∀ c : Dev nD, k0_off6 c = lay6.off (gblk (some 2) c) := by decide +kernel
theorem at35 : ∀ c : Dev nD, k0_off6 c = lay6.off (gblk (some 3) c) := by decide +kernel
theorem at36 : ∀ c : Dev nD, k0_off7 c = lay7.off (gblk none c) := by decide +kernel
theorem at37 : ∀ c : Dev nD, k0_off7 c = lay7.off (gblk (some 0) c) := by decide +kernel
theorem at38 : ∀ c : Dev nD, k0_off7 c = lay7.off (gblk (some 1) c) := by decide +kernel
theorem at39 : ∀ c : Dev nD, k0_off7 c = lay7.off (gblk (some 2) c) := by decide +kernel
theorem at40 : ∀ c : Dev nD, k0_off7 c = lay7.off (gblk (some 3) c) := by decide +kernel
theorem at41 : ∀ c : Dev nD, k0_off8 c = lay8.off (gblk none c) := by decide +kernel
theorem at42 : ∀ c : Dev nD, k0_off8 c = lay8.off (gblk (some 0) c) := by decide +kernel
theorem at43 : ∀ c : Dev nD, k0_off8 c = lay8.off (gblk (some 1) c) := by decide +kernel
theorem at44 : ∀ c : Dev nD, k0_off8 c = lay8.off (gblk (some 2) c) := by decide +kernel
theorem at45 : ∀ c : Dev nD, k0_off8 c = lay8.off (gblk (some 3) c) := by decide +kernel
theorem at46 : ∀ c : Dev nD, k0_off9 c = lay9.off (gblk none c) := by decide +kernel
theorem at47 : ∀ c : Dev nD, k0_off9 c = lay9.off (gblk (some 0) c) := by decide +kernel
theorem at48 : ∀ c : Dev nD, k0_off9 c = lay9.off (gblk (some 1) c) := by decide +kernel
theorem at49 : ∀ c : Dev nD, k0_off9 c = lay9.off (gblk (some 2) c) := by decide +kernel
theorem at50 : ∀ c : Dev nD, k0_off9 c = lay9.off (gblk (some 3) c) := by decide +kernel
theorem at51 : ∀ c : Dev nD, k0_off10 c = lay0.off (gblk (some 4) c) := by decide +kernel
theorem at52 : ∀ c : Dev nD, k0_off11 c = lay0.off (gblk (some 5) c) := by decide +kernel
theorem at53 : ∀ c : Dev nD, k0_off12 c = lay0.off (gblk (some 6) c) := by decide +kernel
theorem at54 : ∀ c : Dev nD, k0_off13 c = lay1.off (gblk (some 4) c) := by decide +kernel
theorem at55 : ∀ c : Dev nD, k0_off14 c = lay1.off (gblk (some 5) c) := by decide +kernel
theorem at56 : ∀ c : Dev nD, k0_off15 c = lay1.off (gblk (some 6) c) := by decide +kernel
theorem at57 : ∀ c : Dev nD, k0_off16 c = lay2.off (gblk (some 4) c) := by decide +kernel
theorem at58 : ∀ c : Dev nD, k0_off17 c = lay2.off (gblk (some 5) c) := by decide +kernel
theorem at59 : ∀ c : Dev nD, k0_off18 c = lay2.off (gblk (some 6) c) := by decide +kernel
theorem at60 : ∀ c : Dev nD, k0_off19 c = lay3.off (gblk (some 4) c) := by decide +kernel
theorem at61 : ∀ c : Dev nD, k0_off20 c = lay3.off (gblk (some 5) c) := by decide +kernel
theorem at62 : ∀ c : Dev nD, k0_off21 c = lay3.off (gblk (some 6) c) := by decide +kernel
theorem at63 : ∀ c : Dev nD, k0_off19 c = lay4.off (gblk (some 4) c) := by decide +kernel
theorem at64 : ∀ c : Dev nD, k0_off20 c = lay4.off (gblk (some 5) c) := by decide +kernel
theorem at65 : ∀ c : Dev nD, k0_off21 c = lay4.off (gblk (some 6) c) := by decide +kernel
theorem at66 : ∀ c : Dev nD, k0_off22 c = lay5.off (gblk (some 4) c) := by decide +kernel
theorem at67 : ∀ c : Dev nD, k0_off23 c = lay5.off (gblk (some 5) c) := by decide +kernel
theorem at68 : ∀ c : Dev nD, k0_off24 c = lay5.off (gblk (some 6) c) := by decide +kernel
theorem at69 : ∀ c : Dev nD, k0_off25 c = lay6.off (gblk (some 4) c) := by decide +kernel
theorem at70 : ∀ c : Dev nD, k0_off26 c = lay6.off (gblk (some 5) c) := by decide +kernel
theorem at71 : ∀ c : Dev nD, k0_off27 c = lay6.off (gblk (some 6) c) := by decide +kernel
theorem at72 : ∀ c : Dev nD, k0_off28 c = lay7.off (gblk (some 4) c) := by decide +kernel
theorem at73 : ∀ c : Dev nD, k0_off29 c = lay7.off (gblk (some 5) c) := by decide +kernel
theorem at74 : ∀ c : Dev nD, k0_off30 c = lay7.off (gblk (some 6) c) := by decide +kernel
theorem at75 : ∀ c : Dev nD, k0_off31 c = lay8.off (gblk (some 4) c) := by decide +kernel
theorem at76 : ∀ c : Dev nD, k0_off32 c = lay8.off (gblk (some 5) c) := by decide +kernel
theorem at77 : ∀ c : Dev nD, k0_off33 c = lay8.off (gblk (some 6) c) := by decide +kernel
theorem at78 : ∀ c : Dev nD, k0_off34 c = lay9.off (gblk (some 4) c) := by decide +kernel
theorem at79 : ∀ c : Dev nD, k0_off35 c = lay9.off (gblk (some 5) c) := by decide +kernel
theorem at80 : ∀ c : Dev nD, k0_off36 c = lay9.off (gblk (some 6) c) := by decide +kernel

/-- The statements of part 1. -/
theorem part1 (c : Dev nD) {κ : GSem nD τ sig → ℕ} {Q : _ → sProp (MT nD τ sig Unit (Elt F) ℕ U ℕ)}
    (h : ∀ x, x.1 = c → (plan U m).St E κ c order [(0, g1), (1, g0), (2, g0), (3, g0), (4, g0), (5, g0), (6, g0), (7, g0), (8, g0), (9, g0)] ⊢ Q x) :
    (plan U m).St E κ c order [(0, g0), (1, g0), (2, g0), (3, g0), (4, g0), (5, g0), (6, g0), (7, g0), (8, g0), (9, g0)]
      ⊢ wp frame (wpE defs₀ 𝒱₀ (c.tc : Thread nD τ) none) Set.univ
        (onCall (k0_part1 (F := F))) Q := by
  unfold onCall
  rw [k0_part1_eq_skeleton]
  unfold k0_part1_skel
  simp only [Prog.lift, Prog.bind_op, Prog.bind_ret, Prog.pure_eq_ret, wp_deviceId]
  refine Plan.start_local _ E defs₀ 𝒱₀ rfl (slot_eq (lay0) _ _ (at1 c) _ _) rfl ?_
  rw [wp_ret]
  exact (h _ rfl).trans fupd_intro

/-- The statements of part 2. -/
theorem part2 (c : Dev nD) (v2 v5 v8 v9 v10 v11 v34 : BitVec 32) {κ : GSem nD τ sig → ℕ} {Q : _ → sProp (MT nD τ sig Unit (Elt F) ℕ U ℕ)}
    (h : ∀ x, (plan U m).St E κ c (order.drop 2) [(0, g3), (1, g0), (2, g0), (3, g0), (4, g0), (5, g0), (6, g0), (7, g0), (8, g0), (9, g0)] ⊢ Q x) :
    (plan U m).St E κ c order [(0, g1), (1, g0), (2, g0), (3, g0), (4, g0), (5, g0), (6, g0), (7, g0), (8, g0), (9, g0)]
      ⊢ wp frame (wpE defs₀ 𝒱₀ (c.tc : Thread nD τ) none) Set.univ
        (onCall (k0_part2 (F := F)) c v2 v5 v8 v9 v10 v11 v34) Q := by
  unfold onCall
  rw [k0_part2_eq_skeleton]
  unfold k0_part2_skel
  simp only [Prog.lift, Prog.bind_op, Prog.bind_ret, Prog.pure_eq_ret]
  refine Plan.start_send _ E defs₀ 𝒱₀ 0 (to1 c) rfl (slot_eq (lay0) _ _ (at2 c) _ _) rfl rfl ?_
  refine Plan.start_send _ E defs₀ 𝒱₀ 1 (to2 c) rfl (slot_eq (lay0) _ _ (at3 c) _ _) rfl rfl ?_
  rw [wp_ret]
  exact (h _).trans fupd_intro

/-- The statements of part 3. -/
theorem part3 (c : Dev nD) (v2 v5 v8 v12 v13 v63 v64 : BitVec 32) {κ : GSem nD τ sig → ℕ} {Q : _ → sProp (MT nD τ sig Unit (Elt F) ℕ U ℕ)}
    (h : ∀ x, (plan U m).St E κ c (order.drop 4) [(1, g1), (2, g0), (3, g0), (4, g0), (5, g0), (6, g0), (7, g0), (8, g0), (9, g0), (0, g5)] ⊢ Q x) :
    (plan U m).St E κ c (order.drop 2) [(0, g3), (1, g0), (2, g0), (3, g0), (4, g0), (5, g0), (6, g0), (7, g0), (8, g0), (9, g0)]
      ⊢ wp frame (wpE defs₀ 𝒱₀ (c.tc : Thread nD τ) none) Set.univ
        (onCall (k0_part3 (F := F)) c v2 v5 v8 v12 v13 v63 v64) Q := by
  unfold onCall
  rw [k0_part3_eq_skeleton]
  unfold k0_part3_skel
  simp only [Prog.lift, Prog.bind_op, Prog.bind_ret, Prog.pure_eq_ret]
  refine Plan.start_send _ E defs₀ 𝒱₀ 2 (to3 c) rfl (slot_eq (lay0) _ _ (at4 c) _ _) rfl rfl ?_
  refine Plan.start_send _ E defs₀ 𝒱₀ 3 (to4 c) rfl (slot_eq (lay0) _ _ (at5 c) _ _) rfl rfl ?_
  refine Plan.next _ E ?_
  simp only [List.cons_append, List.nil_append]
  refine Plan.start_local _ E defs₀ 𝒱₀ rfl (slot_eq (lay1) _ _ (at6 c) _ _) rfl ?_
  rw [wp_ret]
  exact (h _).trans fupd_intro

/-- The statements of part 4. -/
theorem part4 (c : Dev nD) (v2 v5 v8 v9 v10 v98 v99 : BitVec 32) {κ : GSem nD τ sig → ℕ} {Q : _ → sProp (MT nD τ sig Unit (Elt F) ℕ U ℕ)}
    (h : ∀ x, (plan U m).St E κ c (order.drop 6) [(1, g3), (2, g0), (3, g0), (4, g0), (5, g0), (6, g0), (7, g0), (8, g0), (9, g0), (0, g5)] ⊢ Q x) :
    (plan U m).St E κ c (order.drop 4) [(1, g1), (2, g0), (3, g0), (4, g0), (5, g0), (6, g0), (7, g0), (8, g0), (9, g0), (0, g5)]
      ⊢ wp frame (wpE defs₀ 𝒱₀ (c.tc : Thread nD τ) none) Set.univ
        (onCall (k0_part4 (F := F)) c v2 v5 v8 v9 v10 v98 v99) Q := by
  unfold onCall
  rw [k0_part4_eq_skeleton]
  unfold k0_part4_skel
  simp only [Prog.lift, Prog.bind_op, Prog.bind_ret, Prog.pure_eq_ret]
  refine Plan.start_send _ E defs₀ 𝒱₀ 0 (to5 c) rfl (slot_eq (lay1) _ _ (at7 c) _ _) rfl rfl ?_
  refine Plan.start_send _ E defs₀ 𝒱₀ 1 (to6 c) rfl (slot_eq (lay1) _ _ (at8 c) _ _) rfl rfl ?_
  rw [wp_ret]
  exact (h _).trans fupd_intro

/-- The statements of part 5. -/
theorem part5 (c : Dev nD) (v2 v5 v8 v11 v12 v13 : BitVec 32) {κ : GSem nD τ sig → ℕ} {Q : _ → sProp (MT nD τ sig Unit (Elt F) ℕ U ℕ)}
    (h : ∀ x, (plan U m).St E κ c (order.drop 8) [(1, g5), (2, g0), (3, g0), (4, g0), (5, g0), (6, g0), (7, g0), (8, g0), (9, g0), (0, g5)] ⊢ Q x) :
    (plan U m).St E κ c (order.drop 6) [(1, g3), (2, g0), (3, g0), (4, g0), (5, g0), (6, g0), (7, g0), (8, g0), (9, g0), (0, g5)]
      ⊢ wp frame (wpE defs₀ 𝒱₀ (c.tc : Thread nD τ) none) Set.univ
        (onCall (k0_part5 (F := F)) c v2 v5 v8 v11 v12 v13) Q := by
  unfold onCall
  rw [k0_part5_eq_skeleton]
  unfold k0_part5_skel
  simp only [Prog.lift, Prog.bind_op, Prog.bind_ret, Prog.pure_eq_ret]
  refine Plan.start_send _ E defs₀ 𝒱₀ 2 (to7 c) rfl (slot_eq (lay1) _ _ (at9 c) _ _) rfl rfl ?_
  refine Plan.start_send _ E defs₀ 𝒱₀ 3 (to8 c) rfl (slot_eq (lay1) _ _ (at10 c) _ _) rfl rfl ?_
  rw [wp_ret]
  exact (h _).trans fupd_intro

/-- The statements of part 6. -/
theorem part6 (c : Dev nD) (v2 v5 v8 v9 v10 : BitVec 32) {κ : GSem nD τ sig → ℕ} {Q : _ → sProp (MT nD τ sig Unit (Elt F) ℕ U ℕ)}
    (h : ∀ x, (plan U m).St E κ c (order.drop 9) [(2, g2), (3, g0), (4, g0), (5, g0), (6, g0), (7, g0), (8, g0), (9, g0), (0, g5), (1, g5)] ⊢ Q x) :
    (plan U m).St E κ c (order.drop 8) [(1, g5), (2, g0), (3, g0), (4, g0), (5, g0), (6, g0), (7, g0), (8, g0), (9, g0), (0, g5)]
      ⊢ wp frame (wpE defs₀ 𝒱₀ (c.tc : Thread nD τ) none) Set.univ
        (onCall (k0_part6 (F := F)) c v2 v5 v8 v9 v10) Q := by
  unfold onCall
  rw [k0_part6_eq_skeleton]
  unfold k0_part6_skel
  simp only [Prog.lift, Prog.bind_op, Prog.bind_ret, Prog.pure_eq_ret]
  refine Plan.next _ E ?_
  simp only [List.cons_append, List.nil_append]
  refine Plan.start_local _ E defs₀ 𝒱₀ rfl (slot_eq (lay2) _ _ (at11 c) _ _) rfl ?_
  refine Plan.start_send _ E defs₀ 𝒱₀ 0 (to9 c) rfl (slot_eq (lay2) _ _ (at12 c) _ _) rfl rfl ?_
  rw [wp_ret]
  exact (h _).trans fupd_intro

/-- The statements of part 7. -/
theorem part7 (c : Dev nD) (v2 v8 v11 v12 v13 v197 : BitVec 32) {κ : GSem nD τ sig → ℕ} {Q : _ → sProp (MT nD τ sig Unit (Elt F) ℕ U ℕ)}
    (h : ∀ x, (plan U m).St E κ c (order.drop 11) [(2, g4), (3, g0), (4, g0), (5, g0), (6, g0), (7, g0), (8, g0), (9, g0), (0, g5), (1, g5)] ⊢ Q x) :
    (plan U m).St E κ c (order.drop 9) [(2, g2), (3, g0), (4, g0), (5, g0), (6, g0), (7, g0), (8, g0), (9, g0), (0, g5), (1, g5)]
      ⊢ wp frame (wpE defs₀ 𝒱₀ (c.tc : Thread nD τ) none) Set.univ
        (onCall (k0_part7 (F := F)) c v2 v8 v11 v12 v13 v197) Q := by
  unfold onCall
  rw [k0_part7_eq_skeleton]
  unfold k0_part7_skel
  simp only [Prog.lift, Prog.bind_op, Prog.bind_ret, Prog.pure_eq_ret]
  refine Plan.start_send _ E defs₀ 𝒱₀ 1 (to10 c) rfl (slot_eq (lay2) _ _ (at13 c) _ _) rfl rfl ?_
  refine Plan.start_send _ E defs₀ 𝒱₀ 2 (to11 c) rfl (slot_eq (lay2) _ _ (at14 c) _ _) rfl rfl ?_
  rw [wp_ret]
  exact (h _).trans fupd_intro

/-- The statements of part 8. -/
theorem part8 (c : Dev nD) (v2 v5 v8 v9 : BitVec 32) {κ : GSem nD τ sig → ℕ} {Q : _ → sProp (MT nD τ sig Unit (Elt F) ℕ U ℕ)}
    (h : ∀ x, (plan U m).St E κ c (order.drop 12) [(3, g1), (4, g0), (5, g0), (6, g0), (7, g0), (8, g0), (9, g0), (0, g5), (1, g5), (2, g5)] ⊢ Q x) :
    (plan U m).St E κ c (order.drop 11) [(2, g4), (3, g0), (4, g0), (5, g0), (6, g0), (7, g0), (8, g0), (9, g0), (0, g5), (1, g5)]
      ⊢ wp frame (wpE defs₀ 𝒱₀ (c.tc : Thread nD τ) none) Set.univ
        (onCall (k0_part8 (F := F)) c v2 v5 v8 v9) Q := by
  unfold onCall
  rw [k0_part8_eq_skeleton]
  unfold k0_part8_skel
  simp only [Prog.lift, Prog.bind_op, Prog.bind_ret, Prog.pure_eq_ret]
  refine Plan.start_send _ E defs₀ 𝒱₀ 3 (to12 c) rfl (slot_eq (lay2) _ _ (at15 c) _ _) rfl rfl ?_
  refine Plan.next _ E ?_
  simp only [List.cons_append, List.nil_append]
  refine Plan.start_local _ E defs₀ 𝒱₀ rfl (slot_eq (lay3) _ _ (at16 c) _ _) rfl ?_
  rw [wp_ret]
  exact (h _).trans fupd_intro

/-- The statements of part 9. -/
theorem part9 (c : Dev nD) (v2 v5 v8 v10 v11 v12 v13 : BitVec 32) {κ : GSem nD τ sig → ℕ} {Q : _ → sProp (MT nD τ sig Unit (Elt F) ℕ U ℕ)}
    (h : ∀ x, (plan U m).St E κ c (order.drop 15) [(3, g4), (4, g0), (5, g0), (6, g0), (7, g0), (8, g0), (9, g0), (0, g5), (1, g5), (2, g5)] ⊢ Q x) :
    (plan U m).St E κ c (order.drop 12) [(3, g1), (4, g0), (5, g0), (6, g0), (7, g0), (8, g0), (9, g0), (0, g5), (1, g5), (2, g5)]
      ⊢ wp frame (wpE defs₀ 𝒱₀ (c.tc : Thread nD τ) none) Set.univ
        (onCall (k0_part9 (F := F)) c v2 v5 v8 v10 v11 v12 v13) Q := by
  unfold onCall
  rw [k0_part9_eq_skeleton]
  unfold k0_part9_skel
  simp only [Prog.lift, Prog.bind_op, Prog.bind_ret, Prog.pure_eq_ret]
  refine Plan.start_send _ E defs₀ 𝒱₀ 0 (to13 c) rfl (slot_eq (lay3) _ _ (at17 c) _ _) rfl rfl ?_
  refine Plan.start_send _ E defs₀ 𝒱₀ 1 (to14 c) rfl (slot_eq (lay3) _ _ (at18 c) _ _) rfl rfl ?_
  refine Plan.start_send _ E defs₀ 𝒱₀ 2 (to15 c) rfl (slot_eq (lay3) _ _ (at19 c) _ _) rfl rfl ?_
  rw [wp_ret]
  exact (h _).trans fupd_intro

/-- The statements of part 10. -/
theorem part10 (c : Dev nD) (v2 v5 v8 v293 c1_i32_220 : BitVec 32) {κ : GSem nD τ sig → ℕ} {Q : _ → sProp (MT nD τ sig Unit (Elt F) ℕ U ℕ)}
    (h : ∀ x, (plan U m).St E κ c (order.drop 16) [(4, g1), (5, g0), (6, g0), (7, g0), (8, g0), (9, g0), (0, g5), (1, g5), (2, g5), (3, g5)] ⊢ Q x) :
    (plan U m).St E κ c (order.drop 15) [(3, g4), (4, g0), (5, g0), (6, g0), (7, g0), (8, g0), (9, g0), (0, g5), (1, g5), (2, g5)]
      ⊢ wp frame (wpE defs₀ 𝒱₀ (c.tc : Thread nD τ) none) Set.univ
        (onCall (k0_part10 (F := F)) c v2 v5 v8 v293 c1_i32_220) Q := by
  unfold onCall
  rw [k0_part10_eq_skeleton]
  unfold k0_part10_skel
  simp only [Prog.lift, Prog.bind_op, Prog.bind_ret, Prog.pure_eq_ret]
  refine Plan.start_send _ E defs₀ 𝒱₀ 3 (to16 c) rfl (slot_eq (lay3) _ _ (at20 c) _ _) rfl rfl ?_
  refine Plan.next _ E ?_
  simp only [List.cons_append, List.nil_append]
  refine Plan.start_local _ E defs₀ 𝒱₀ rfl (slot_eq (lay4) _ _ (at21 c) _ _) rfl ?_
  rw [wp_ret]
  exact (h _).trans fupd_intro

/-- The statements of part 11. -/
theorem part11 (c : Dev nD) (v2 v5 v8 v9 v10 v11 v329 : BitVec 32) {κ : GSem nD τ sig → ℕ} {Q : _ → sProp (MT nD τ sig Unit (Elt F) ℕ U ℕ)}
    (h : ∀ x, (plan U m).St E κ c (order.drop 19) [(4, g4), (5, g0), (6, g0), (7, g0), (8, g0), (9, g0), (0, g5), (1, g5), (2, g5), (3, g5)] ⊢ Q x) :
    (plan U m).St E κ c (order.drop 16) [(4, g1), (5, g0), (6, g0), (7, g0), (8, g0), (9, g0), (0, g5), (1, g5), (2, g5), (3, g5)]
      ⊢ wp frame (wpE defs₀ 𝒱₀ (c.tc : Thread nD τ) none) Set.univ
        (onCall (k0_part11 (F := F)) c v2 v5 v8 v9 v10 v11 v329) Q := by
  unfold onCall
  rw [k0_part11_eq_skeleton]
  unfold k0_part11_skel
  simp only [Prog.lift, Prog.bind_op, Prog.bind_ret, Prog.pure_eq_ret]
  refine Plan.start_send _ E defs₀ 𝒱₀ 0 (to17 c) rfl (slot_eq (lay4) _ _ (at22 c) _ _) rfl rfl ?_
  refine Plan.start_send _ E defs₀ 𝒱₀ 1 (to18 c) rfl (slot_eq (lay4) _ _ (at23 c) _ _) rfl rfl ?_
  refine Plan.start_send _ E defs₀ 𝒱₀ 2 (to19 c) rfl (slot_eq (lay4) _ _ (at24 c) _ _) rfl rfl ?_
  rw [wp_ret]
  exact (h _).trans fupd_intro

/-- The statements of part 12. -/
theorem part12 (c : Dev nD) (v2 v5 v8 v12 v13 : BitVec 32) {κ : GSem nD τ sig → ℕ} {Q : _ → sProp (MT nD τ sig Unit (Elt F) ℕ U ℕ)}
    (h : ∀ x, (plan U m).St E κ c (order.drop 20) [(5, g1), (6, g0), (7, g0), (8, g0), (9, g0), (0, g5), (1, g5), (2, g5), (3, g5), (4, g5)] ⊢ Q x) :
    (plan U m).St E κ c (order.drop 19) [(4, g4), (5, g0), (6, g0), (7, g0), (8, g0), (9, g0), (0, g5), (1, g5), (2, g5), (3, g5)]
      ⊢ wp frame (wpE defs₀ 𝒱₀ (c.tc : Thread nD τ) none) Set.univ
        (onCall (k0_part12 (F := F)) c v2 v5 v8 v12 v13) Q := by
  unfold onCall
  rw [k0_part12_eq_skeleton]
  unfold k0_part12_skel
  simp only [Prog.lift, Prog.bind_op, Prog.bind_ret, Prog.pure_eq_ret]
  refine Plan.start_send _ E defs₀ 𝒱₀ 3 (to20 c) rfl (slot_eq (lay4) _ _ (at25 c) _ _) rfl rfl ?_
  refine Plan.next _ E ?_
  simp only [List.cons_append, List.nil_append]
  refine Plan.start_local _ E defs₀ 𝒱₀ rfl (slot_eq (lay5) _ _ (at26 c) _ _) rfl ?_
  rw [wp_ret]
  exact (h _).trans fupd_intro

/-- The statements of part 13. -/
theorem part13 (c : Dev nD) (v2 v5 v8 v9 v10 v11 : BitVec 32) {κ : GSem nD τ sig → ℕ} {Q : _ → sProp (MT nD τ sig Unit (Elt F) ℕ U ℕ)}
    (h : ∀ x, (plan U m).St E κ c (order.drop 22) [(5, g3), (6, g0), (7, g0), (8, g0), (9, g0), (0, g5), (1, g5), (2, g5), (3, g5), (4, g5)] ⊢ Q x) :
    (plan U m).St E κ c (order.drop 20) [(5, g1), (6, g0), (7, g0), (8, g0), (9, g0), (0, g5), (1, g5), (2, g5), (3, g5), (4, g5)]
      ⊢ wp frame (wpE defs₀ 𝒱₀ (c.tc : Thread nD τ) none) Set.univ
        (onCall (k0_part13 (F := F)) c v2 v5 v8 v9 v10 v11) Q := by
  unfold onCall
  rw [k0_part13_eq_skeleton]
  unfold k0_part13_skel
  simp only [Prog.lift, Prog.bind_op, Prog.bind_ret, Prog.pure_eq_ret]
  refine Plan.start_send _ E defs₀ 𝒱₀ 0 (to21 c) rfl (slot_eq (lay5) _ _ (at27 c) _ _) rfl rfl ?_
  refine Plan.start_send _ E defs₀ 𝒱₀ 1 (to22 c) rfl (slot_eq (lay5) _ _ (at28 c) _ _) rfl rfl ?_
  rw [wp_ret]
  exact (h _).trans fupd_intro

/-- The statements of part 14. -/
theorem part14 (c : Dev nD) (v2 v5 v8 v12 v13 : BitVec 32) {κ : GSem nD τ sig → ℕ} {Q : _ → sProp (MT nD τ sig Unit (Elt F) ℕ U ℕ)}
    (h : ∀ x, (plan U m).St E κ c (order.drop 24) [(6, g1), (7, g0), (8, g0), (9, g0), (0, g5), (1, g5), (2, g5), (3, g5), (4, g5), (5, g5)] ⊢ Q x) :
    (plan U m).St E κ c (order.drop 22) [(5, g3), (6, g0), (7, g0), (8, g0), (9, g0), (0, g5), (1, g5), (2, g5), (3, g5), (4, g5)]
      ⊢ wp frame (wpE defs₀ 𝒱₀ (c.tc : Thread nD τ) none) Set.univ
        (onCall (k0_part14 (F := F)) c v2 v5 v8 v12 v13) Q := by
  unfold onCall
  rw [k0_part14_eq_skeleton]
  unfold k0_part14_skel
  simp only [Prog.lift, Prog.bind_op, Prog.bind_ret, Prog.pure_eq_ret]
  refine Plan.start_send _ E defs₀ 𝒱₀ 2 (to23 c) rfl (slot_eq (lay5) _ _ (at29 c) _ _) rfl rfl ?_
  refine Plan.start_send _ E defs₀ 𝒱₀ 3 (to24 c) rfl (slot_eq (lay5) _ _ (at30 c) _ _) rfl rfl ?_
  refine Plan.next _ E ?_
  simp only [List.cons_append, List.nil_append]
  refine Plan.start_local _ E defs₀ 𝒱₀ rfl (slot_eq (lay6) _ _ (at31 c) _ _) rfl ?_
  rw [wp_ret]
  exact (h _).trans fupd_intro

/-- The statements of part 15. -/
theorem part15 (c : Dev nD) (v2 v5 v8 v9 v10 v462 c2_i32_337 : BitVec 32) {κ : GSem nD τ sig → ℕ} {Q : _ → sProp (MT nD τ sig Unit (Elt F) ℕ U ℕ)}
    (h : ∀ x, (plan U m).St E κ c (order.drop 26) [(6, g3), (7, g0), (8, g0), (9, g0), (0, g5), (1, g5), (2, g5), (3, g5), (4, g5), (5, g5)] ⊢ Q x) :
    (plan U m).St E κ c (order.drop 24) [(6, g1), (7, g0), (8, g0), (9, g0), (0, g5), (1, g5), (2, g5), (3, g5), (4, g5), (5, g5)]
      ⊢ wp frame (wpE defs₀ 𝒱₀ (c.tc : Thread nD τ) none) Set.univ
        (onCall (k0_part15 (F := F)) c v2 v5 v8 v9 v10 v462 c2_i32_337) Q := by
  unfold onCall
  rw [k0_part15_eq_skeleton]
  unfold k0_part15_skel
  simp only [Prog.lift, Prog.bind_op, Prog.bind_ret, Prog.pure_eq_ret]
  refine Plan.start_send _ E defs₀ 𝒱₀ 0 (to25 c) rfl (slot_eq (lay6) _ _ (at32 c) _ _) rfl rfl ?_
  refine Plan.start_send _ E defs₀ 𝒱₀ 1 (to26 c) rfl (slot_eq (lay6) _ _ (at33 c) _ _) rfl rfl ?_
  rw [wp_ret]
  exact (h _).trans fupd_intro

/-- The statements of part 16. -/
theorem part16 (c : Dev nD) (v2 v5 v8 v11 v12 v13 c4_i32_364 : BitVec 32) {κ : GSem nD τ sig → ℕ} {Q : _ → sProp (MT nD τ sig Unit (Elt F) ℕ U ℕ)}
    (h : ∀ x, (plan U m).St E κ c (order.drop 28) [(7, g1), (8, g0), (9, g0), (0, g5), (1, g5), (2, g5), (3, g5), (4, g5), (5, g5), (6, g5)] ⊢ Q x) :
    (plan U m).St E κ c (order.drop 26) [(6, g3), (7, g0), (8, g0), (9, g0), (0, g5), (1, g5), (2, g5), (3, g5), (4, g5), (5, g5)]
      ⊢ wp frame (wpE defs₀ 𝒱₀ (c.tc : Thread nD τ) none) Set.univ
        (onCall (k0_part16 (F := F)) c v2 v5 v8 v11 v12 v13 c4_i32_364) Q := by
  unfold onCall
  rw [k0_part16_eq_skeleton]
  unfold k0_part16_skel
  simp only [Prog.lift, Prog.bind_op, Prog.bind_ret, Prog.pure_eq_ret]
  refine Plan.start_send _ E defs₀ 𝒱₀ 2 (to27 c) rfl (slot_eq (lay6) _ _ (at34 c) _ _) rfl rfl ?_
  refine Plan.start_send _ E defs₀ 𝒱₀ 3 (to28 c) rfl (slot_eq (lay6) _ _ (at35 c) _ _) rfl rfl ?_
  refine Plan.next _ E ?_
  simp only [List.cons_append, List.nil_append]
  refine Plan.start_local _ E defs₀ 𝒱₀ rfl (slot_eq (lay7) _ _ (at36 c) _ _) rfl ?_
  rw [wp_ret]
  exact (h _).trans fupd_intro

/-- The statements of part 17. -/
theorem part17 (c : Dev nD) (v2 v5 v8 v9 v10 v528 : BitVec 32) {κ : GSem nD τ sig → ℕ} {Q : _ → sProp (MT nD τ sig Unit (Elt F) ℕ U ℕ)}
    (h : ∀ x, (plan U m).St E κ c (order.drop 29) [(7, g2), (8, g0), (9, g0), (0, g5), (1, g5), (2, g5), (3, g5), (4, g5), (5, g5), (6, g5)] ⊢ Q x) :
    (plan U m).St E κ c (order.drop 28) [(7, g1), (8, g0), (9, g0), (0, g5), (1, g5), (2, g5), (3, g5), (4, g5), (5, g5), (6, g5)]
      ⊢ wp frame (wpE defs₀ 𝒱₀ (c.tc : Thread nD τ) none) Set.univ
        (onCall (k0_part17 (F := F)) c v2 v5 v8 v9 v10 v528) Q := by
  unfold onCall
  rw [k0_part17_eq_skeleton]
  unfold k0_part17_skel
  simp only [Prog.lift, Prog.bind_op, Prog.bind_ret, Prog.pure_eq_ret]
  refine Plan.start_send _ E defs₀ 𝒱₀ 0 (to29 c) rfl (slot_eq (lay7) _ _ (at37 c) _ _) rfl rfl ?_
  rw [wp_ret]
  exact (h _).trans fupd_intro

/-- The statements of part 18. -/
theorem part18 (c : Dev nD) (v2 v5 v8 v11 v12 v13 : BitVec 32) {κ : GSem nD τ sig → ℕ} {Q : _ → sProp (MT nD τ sig Unit (Elt F) ℕ U ℕ)}
    (h : ∀ x, (plan U m).St E κ c (order.drop 32) [(7, g5), (8, g0), (9, g0), (0, g5), (1, g5), (2, g5), (3, g5), (4, g5), (5, g5), (6, g5)] ⊢ Q x) :
    (plan U m).St E κ c (order.drop 29) [(7, g2), (8, g0), (9, g0), (0, g5), (1, g5), (2, g5), (3, g5), (4, g5), (5, g5), (6, g5)]
      ⊢ wp frame (wpE defs₀ 𝒱₀ (c.tc : Thread nD τ) none) Set.univ
        (onCall (k0_part18 (F := F)) c v2 v5 v8 v11 v12 v13) Q := by
  unfold onCall
  rw [k0_part18_eq_skeleton]
  unfold k0_part18_skel
  simp only [Prog.lift, Prog.bind_op, Prog.bind_ret, Prog.pure_eq_ret]
  refine Plan.start_send _ E defs₀ 𝒱₀ 1 (to30 c) rfl (slot_eq (lay7) _ _ (at38 c) _ _) rfl rfl ?_
  refine Plan.start_send _ E defs₀ 𝒱₀ 2 (to31 c) rfl (slot_eq (lay7) _ _ (at39 c) _ _) rfl rfl ?_
  refine Plan.start_send _ E defs₀ 𝒱₀ 3 (to32 c) rfl (slot_eq (lay7) _ _ (at40 c) _ _) rfl rfl ?_
  rw [wp_ret]
  exact (h _).trans fupd_intro

/-- The statements of part 19. -/
theorem part19 (c : Dev nD) (v2 v5 v8 v9 v10 : BitVec 32) {κ : GSem nD τ sig → ℕ} {Q : _ → sProp (MT nD τ sig Unit (Elt F) ℕ U ℕ)}
    (h : ∀ x, (plan U m).St E κ c (order.drop 33) [(8, g2), (9, g0), (0, g5), (1, g5), (2, g5), (3, g5), (4, g5), (5, g5), (6, g5), (7, g5)] ⊢ Q x) :
    (plan U m).St E κ c (order.drop 32) [(7, g5), (8, g0), (9, g0), (0, g5), (1, g5), (2, g5), (3, g5), (4, g5), (5, g5), (6, g5)]
      ⊢ wp frame (wpE defs₀ 𝒱₀ (c.tc : Thread nD τ) none) Set.univ
        (onCall (k0_part19 (F := F)) c v2 v5 v8 v9 v10) Q := by
  unfold onCall
  rw [k0_part19_eq_skeleton]
  unfold k0_part19_skel
  simp only [Prog.lift, Prog.bind_op, Prog.bind_ret, Prog.pure_eq_ret]
  refine Plan.next _ E ?_
  simp only [List.cons_append, List.nil_append]
  refine Plan.start_local _ E defs₀ 𝒱₀ rfl (slot_eq (lay8) _ _ (at41 c) _ _) rfl ?_
  refine Plan.start_send _ E defs₀ 𝒱₀ 0 (to33 c) rfl (slot_eq (lay8) _ _ (at42 c) _ _) rfl rfl ?_
  rw [wp_ret]
  exact (h _).trans fupd_intro

/-- The statements of part 20. -/
theorem part20 (c : Dev nD) (v2 v5 v8 v11 v12 v13 v627 : BitVec 32) {κ : GSem nD τ sig → ℕ} {Q : _ → sProp (MT nD τ sig Unit (Elt F) ℕ U ℕ)}
    (h : ∀ x, (plan U m).St E κ c (order.drop 35) [(8, g4), (9, g0), (0, g5), (1, g5), (2, g5), (3, g5), (4, g5), (5, g5), (6, g5), (7, g5)] ⊢ Q x) :
    (plan U m).St E κ c (order.drop 33) [(8, g2), (9, g0), (0, g5), (1, g5), (2, g5), (3, g5), (4, g5), (5, g5), (6, g5), (7, g5)]
      ⊢ wp frame (wpE defs₀ 𝒱₀ (c.tc : Thread nD τ) none) Set.univ
        (onCall (k0_part20 (F := F)) c v2 v5 v8 v11 v12 v13 v627) Q := by
  unfold onCall
  rw [k0_part20_eq_skeleton]
  unfold k0_part20_skel
  simp only [Prog.lift, Prog.bind_op, Prog.bind_ret, Prog.pure_eq_ret]
  refine Plan.start_send _ E defs₀ 𝒱₀ 1 (to34 c) rfl (slot_eq (lay8) _ _ (at43 c) _ _) rfl rfl ?_
  refine Plan.start_send _ E defs₀ 𝒱₀ 2 (to35 c) rfl (slot_eq (lay8) _ _ (at44 c) _ _) rfl rfl ?_
  rw [wp_ret]
  exact (h _).trans fupd_intro

/-- The statements of part 21. -/
theorem part21 (c : Dev nD) (v2 v5 v8 v9 : BitVec 32) {κ : GSem nD τ sig → ℕ} {Q : _ → sProp (MT nD τ sig Unit (Elt F) ℕ U ℕ)}
    (h : ∀ x, (plan U m).St E κ c (order.drop 36) [(9, g1), (0, g5), (1, g5), (2, g5), (3, g5), (4, g5), (5, g5), (6, g5), (7, g5), (8, g5)] ⊢ Q x) :
    (plan U m).St E κ c (order.drop 35) [(8, g4), (9, g0), (0, g5), (1, g5), (2, g5), (3, g5), (4, g5), (5, g5), (6, g5), (7, g5)]
      ⊢ wp frame (wpE defs₀ 𝒱₀ (c.tc : Thread nD τ) none) Set.univ
        (onCall (k0_part21 (F := F)) c v2 v5 v8 v9) Q := by
  unfold onCall
  rw [k0_part21_eq_skeleton]
  unfold k0_part21_skel
  simp only [Prog.lift, Prog.bind_op, Prog.bind_ret, Prog.pure_eq_ret]
  refine Plan.start_send _ E defs₀ 𝒱₀ 3 (to36 c) rfl (slot_eq (lay8) _ _ (at45 c) _ _) rfl rfl ?_
  refine Plan.next _ E ?_
  simp only [List.cons_append, List.nil_append]
  refine Plan.start_local _ E defs₀ 𝒱₀ rfl (slot_eq (lay9) _ _ (at46 c) _ _) rfl ?_
  rw [wp_ret]
  exact (h _).trans fupd_intro

/-- The statements of part 22. -/
theorem part22 (c : Dev nD) (v2 v5 v8 v10 v11 v12 v13 : BitVec 32) {κ : GSem nD τ sig → ℕ} {Q : _ → sProp (MT nD τ sig Unit (Elt F) ℕ U ℕ)}
    (h : ∀ x, (plan U m).St E κ c (order.drop 39) [(9, g4), (0, g5), (1, g5), (2, g5), (3, g5), (4, g5), (5, g5), (6, g5), (7, g5), (8, g5)] ⊢ Q x) :
    (plan U m).St E κ c (order.drop 36) [(9, g1), (0, g5), (1, g5), (2, g5), (3, g5), (4, g5), (5, g5), (6, g5), (7, g5), (8, g5)]
      ⊢ wp frame (wpE defs₀ 𝒱₀ (c.tc : Thread nD τ) none) Set.univ
        (onCall (k0_part22 (F := F)) c v2 v5 v8 v10 v11 v12 v13) Q := by
  unfold onCall
  rw [k0_part22_eq_skeleton]
  unfold k0_part22_skel
  simp only [Prog.lift, Prog.bind_op, Prog.bind_ret, Prog.pure_eq_ret]
  refine Plan.start_send _ E defs₀ 𝒱₀ 0 (to37 c) rfl (slot_eq (lay9) _ _ (at47 c) _ _) rfl rfl ?_
  refine Plan.start_send _ E defs₀ 𝒱₀ 1 (to38 c) rfl (slot_eq (lay9) _ _ (at48 c) _ _) rfl rfl ?_
  refine Plan.start_send _ E defs₀ 𝒱₀ 2 (to39 c) rfl (slot_eq (lay9) _ _ (at49 c) _ _) rfl rfl ?_
  rw [wp_ret]
  exact (h _).trans fupd_intro

/-- The statements of part 23. -/
theorem part23 (c : Dev nD) (v2 v5 v8 v10 v11 v12 v13 v725 c1_i32_533 : BitVec 32) {κ : GSem nD τ sig → ℕ} {Q : _ → sProp (MT nD τ sig Unit (Elt F) ℕ U ℕ)}
    (h : ∀ x, (plan U m).St E κ c (order.drop 40) [(0, g6), (1, g5), (2, g5), (3, g5), (4, g5), (5, g5), (6, g5), (7, g5), (8, g5), (9, g5)] ⊢ Q x) :
    (plan U m).St E κ c (order.drop 39) [(9, g4), (0, g5), (1, g5), (2, g5), (3, g5), (4, g5), (5, g5), (6, g5), (7, g5), (8, g5)]
      ⊢ wp frame (wpE defs₀ 𝒱₀ (c.tc : Thread nD τ) none) Set.univ
        (onCall (k0_part23 (F := F)) c v2 v5 v8 v10 v11 v12 v13 v725 c1_i32_533) Q := by
  unfold onCall
  rw [k0_part23_eq_skeleton]
  unfold k0_part23_skel
  simp only [Prog.lift, Prog.bind_op, Prog.bind_ret, Prog.pure_eq_ret]
  refine Plan.start_send _ E defs₀ 𝒱₀ 3 (to40 c) rfl (slot_eq (lay9) _ _ (at50 c) _ _) rfl rfl ?_
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  rw [wp_ret]
  exact (h _).trans fupd_intro

/-- The statements of part 24. -/
theorem part24 (c : Dev nD) (v2 v5 v8 v9 v11 : BitVec 32) {κ : GSem nD τ sig → ℕ} {Q : _ → sProp (MT nD τ sig Unit (Elt F) ℕ U ℕ)}
    (h : ∀ x, (plan U m).St E κ c (order.drop 41) [(0, g8), (1, g5), (2, g5), (3, g5), (4, g5), (5, g5), (6, g5), (7, g5), (8, g5), (9, g5)] ⊢ Q x) :
    (plan U m).St E κ c (order.drop 40) [(0, g6), (1, g5), (2, g5), (3, g5), (4, g5), (5, g5), (6, g5), (7, g5), (8, g5), (9, g5)]
      ⊢ wp frame (wpE defs₀ 𝒱₀ (c.tc : Thread nD τ) none) Set.univ
        (onCall (k0_part24 (F := F)) c v2 v5 v8 v9 v11) Q := by
  unfold onCall
  rw [k0_part24_eq_skeleton]
  unfold k0_part24_skel
  simp only [Prog.lift, Prog.bind_op, Prog.bind_ret, Prog.pure_eq_ret]
  refine Plan.start_fwd _ E defs₀ 𝒱₀ 4 1 (G' := []) (by decide) (gather_fwd _ _ c 4 1 rfl gblk4 rfl) (to41 c) (slot_eq (lay0) _ _ (at51 c) _ _) (slot_eq (lay0) _ _ (at51 c) _ _) rfl rfl ?_
  refine Plan.wait _ E defs₀ 𝒱₀ (jr 2) (W' := [js 4, js 3, js 2, js 1, js 0, jl, jr 0, jr 3, jr 4, jr 5, jr 6]) (by decide) (gather_low _ 1 (by decide)) rfl rfl ?_
  rw [wp_ret]
  exact (h _).trans fupd_intro

/-- The statements of part 25. -/
theorem part25 (c : Dev nD) (v2 v5 v8 v9 v12 v13 : BitVec 32) {κ : GSem nD τ sig → ℕ} {Q : _ → sProp (MT nD τ sig Unit (Elt F) ℕ U ℕ)}
    (h : ∀ x, (plan U m).St E κ c (order.drop 42) [(0, g10), (1, g5), (2, g5), (3, g5), (4, g5), (5, g5), (6, g5), (7, g5), (8, g5), (9, g5)] ⊢ Q x) :
    (plan U m).St E κ c (order.drop 41) [(0, g8), (1, g5), (2, g5), (3, g5), (4, g5), (5, g5), (6, g5), (7, g5), (8, g5), (9, g5)]
      ⊢ wp frame (wpE defs₀ 𝒱₀ (c.tc : Thread nD τ) none) Set.univ
        (onCall (k0_part25 (F := F)) c v2 v5 v8 v9 v12 v13) Q := by
  unfold onCall
  rw [k0_part25_eq_skeleton]
  unfold k0_part25_skel
  simp only [Prog.lift, Prog.bind_op, Prog.bind_ret, Prog.pure_eq_ret]
  refine Plan.start_fwd _ E defs₀ 𝒱₀ 5 2 (G' := []) (by decide) (gather_fwd _ _ c 5 2 rfl gblk5 rfl) (to42 c) (slot_eq (lay0) _ _ (at52 c) _ _) (slot_eq (lay0) _ _ (at52 c) _ _) rfl rfl ?_
  refine Plan.wait _ E defs₀ 𝒱₀ (jr 3) (W' := [js 5, js 4, js 3, js 2, js 1, js 0, jl, jr 0, jr 4, jr 5, jr 6]) (by decide) (gather_low _ 2 (by decide)) rfl rfl ?_
  rw [wp_ret]
  exact (h _).trans fupd_intro

/-- The statements of part 26. -/
theorem part26 (c : Dev nD) (v2 v5 v8 v9 v10 v11 v12 v13 : BitVec 32) {κ : GSem nD τ sig → ℕ} {Q : _ → sProp (MT nD τ sig Unit (Elt F) ℕ U ℕ)}
    (h : ∀ x, (plan U m).St E κ c (order.drop 43) [(0, g11), (1, g5), (2, g5), (3, g5), (4, g5), (5, g5), (6, g5), (7, g5), (8, g5), (9, g5)] ⊢ Q x) :
    (plan U m).St E κ c (order.drop 42) [(0, g10), (1, g5), (2, g5), (3, g5), (4, g5), (5, g5), (6, g5), (7, g5), (8, g5), (9, g5)]
      ⊢ wp frame (wpE defs₀ 𝒱₀ (c.tc : Thread nD τ) none) Set.univ
        (onCall (k0_part26 (F := F)) c v2 v5 v8 v9 v10 v11 v12 v13) Q := by
  unfold onCall
  rw [k0_part26_eq_skeleton]
  unfold k0_part26_skel
  simp only [Prog.lift, Prog.bind_op, Prog.bind_ret, Prog.pure_eq_ret]
  refine Plan.start_fwd _ E defs₀ 𝒱₀ 6 3 (G' := []) (by decide) (gather_fwd _ _ c 6 3 rfl gblk6 rfl) (to43 c) (slot_eq (lay0) _ _ (at53 c) _ _) (slot_eq (lay0) _ _ (at53 c) _ _) rfl rfl ?_
  rw [wp_ret]
  exact (h _).trans fupd_intro

/-- The statements of part 27. -/
theorem part27 (c : Dev nD) (v2 v5 v8 v9 v11 v855 v856 : BitVec 32) {κ : GSem nD τ sig → ℕ} {Q : _ → sProp (MT nD τ sig Unit (Elt F) ℕ U ℕ)}
    (h : ∀ x, (plan U m).St E κ c (order.drop 44) [(1, g7), (2, g5), (3, g5), (4, g5), (5, g5), (6, g5), (7, g5), (8, g5), (9, g5), (0, g11)] ⊢ Q x) :
    (plan U m).St E κ c (order.drop 43) [(0, g11), (1, g5), (2, g5), (3, g5), (4, g5), (5, g5), (6, g5), (7, g5), (8, g5), (9, g5)]
      ⊢ wp frame (wpE defs₀ 𝒱₀ (c.tc : Thread nD τ) none) Set.univ
        (onCall (k0_part27 (F := F)) c v2 v5 v8 v9 v11 v855 v856) Q := by
  unfold onCall
  rw [k0_part27_eq_skeleton]
  unfold k0_part27_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  refine Plan.start_fwd _ E defs₀ 𝒱₀ 4 1 (G' := []) (by decide) (gather_fwd _ _ c 4 1 rfl gblk4 rfl) (to44 c) (slot_eq (lay1) _ _ (at54 c) _ _) (slot_eq (lay1) _ _ (at54 c) _ _) rfl rfl ?_
  rw [wp_ret]
  exact (h _).trans fupd_intro

/-- The statements of part 28. -/
theorem part28 (c : Dev nD) (v2 v5 v8 v9 v12 v13 : BitVec 32) {κ : GSem nD τ sig → ℕ} {Q : _ → sProp (MT nD τ sig Unit (Elt F) ℕ U ℕ)}
    (h : ∀ x, (plan U m).St E κ c (order.drop 45) [(1, g9), (2, g5), (3, g5), (4, g5), (5, g5), (6, g5), (7, g5), (8, g5), (9, g5), (0, g11)] ⊢ Q x) :
    (plan U m).St E κ c (order.drop 44) [(1, g7), (2, g5), (3, g5), (4, g5), (5, g5), (6, g5), (7, g5), (8, g5), (9, g5), (0, g11)]
      ⊢ wp frame (wpE defs₀ 𝒱₀ (c.tc : Thread nD τ) none) Set.univ
        (onCall (k0_part28 (F := F)) c v2 v5 v8 v9 v12 v13) Q := by
  unfold onCall
  rw [k0_part28_eq_skeleton]
  unfold k0_part28_skel
  simp only [Prog.lift, Prog.bind_op, Prog.bind_ret, Prog.pure_eq_ret]
  refine Plan.wait _ E defs₀ 𝒱₀ (jr 2) (W' := [js 4, js 3, js 2, js 1, js 0, jl, jr 0, jr 3, jr 4, jr 5, jr 6]) (by decide) (gather_low _ 1 (by decide)) rfl rfl ?_
  refine Plan.start_fwd _ E defs₀ 𝒱₀ 5 2 (G' := []) (by decide) (gather_fwd _ _ c 5 2 rfl gblk5 rfl) (to45 c) (slot_eq (lay1) _ _ (at55 c) _ _) (slot_eq (lay1) _ _ (at55 c) _ _) rfl rfl ?_
  rw [wp_ret]
  exact (h _).trans fupd_intro

/-- The statements of part 29. -/
theorem part29 (c : Dev nD) (v2 v5 v8 v9 v10 v11 v12 v13 : BitVec 32) {κ : GSem nD τ sig → ℕ} {Q : _ → sProp (MT nD τ sig Unit (Elt F) ℕ U ℕ)}
    (h : ∀ x, (plan U m).St E κ c (order.drop 46) [(1, g11), (2, g5), (3, g5), (4, g5), (5, g5), (6, g5), (7, g5), (8, g5), (9, g5), (0, g11)] ⊢ Q x) :
    (plan U m).St E κ c (order.drop 45) [(1, g9), (2, g5), (3, g5), (4, g5), (5, g5), (6, g5), (7, g5), (8, g5), (9, g5), (0, g11)]
      ⊢ wp frame (wpE defs₀ 𝒱₀ (c.tc : Thread nD τ) none) Set.univ
        (onCall (k0_part29 (F := F)) c v2 v5 v8 v9 v10 v11 v12 v13) Q := by
  unfold onCall
  rw [k0_part29_eq_skeleton]
  unfold k0_part29_skel
  simp only [Prog.lift, Prog.bind_op, Prog.bind_ret, Prog.pure_eq_ret]
  refine Plan.wait _ E defs₀ 𝒱₀ (jr 3) (W' := [js 5, js 4, js 3, js 2, js 1, js 0, jl, jr 0, jr 4, jr 5, jr 6]) (by decide) (gather_low _ 2 (by decide)) rfl rfl ?_
  refine Plan.start_fwd _ E defs₀ 𝒱₀ 6 3 (G' := []) (by decide) (gather_fwd _ _ c 6 3 rfl gblk6 rfl) (to46 c) (slot_eq (lay1) _ _ (at56 c) _ _) (slot_eq (lay1) _ _ (at56 c) _ _) rfl rfl ?_
  rw [wp_ret]
  exact (h _).trans fupd_intro

/-- The statements of part 30. -/
theorem part30 (c : Dev nD) (v2 v5 v8 v9 v11 : BitVec 32) {κ : GSem nD τ sig → ℕ} {Q : _ → sProp (MT nD τ sig Unit (Elt F) ℕ U ℕ)}
    (h : ∀ x, (plan U m).St E κ c (order.drop 47) [(2, g7), (3, g5), (4, g5), (5, g5), (6, g5), (7, g5), (8, g5), (9, g5), (0, g11), (1, g11)] ⊢ Q x) :
    (plan U m).St E κ c (order.drop 46) [(1, g11), (2, g5), (3, g5), (4, g5), (5, g5), (6, g5), (7, g5), (8, g5), (9, g5), (0, g11)]
      ⊢ wp frame (wpE defs₀ 𝒱₀ (c.tc : Thread nD τ) none) Set.univ
        (onCall (k0_part30 (F := F)) c v2 v5 v8 v9 v11) Q := by
  unfold onCall
  rw [k0_part30_eq_skeleton]
  unfold k0_part30_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  refine Plan.start_fwd _ E defs₀ 𝒱₀ 4 1 (G' := []) (by decide) (gather_fwd _ _ c 4 1 rfl gblk4 rfl) (to47 c) (slot_eq (lay2) _ _ (at57 c) _ _) (slot_eq (lay2) _ _ (at57 c) _ _) rfl rfl ?_
  rw [wp_ret]
  exact (h _).trans fupd_intro

/-- The statements of part 31. -/
theorem part31 (c : Dev nD) (v2 v5 v8 v9 v12 v982 : BitVec 32) {κ : GSem nD τ sig → ℕ} {Q : _ → sProp (MT nD τ sig Unit (Elt F) ℕ U ℕ)}
    (h : ∀ x, (plan U m).St E κ c (order.drop 48) [(2, g9), (3, g5), (4, g5), (5, g5), (6, g5), (7, g5), (8, g5), (9, g5), (0, g11), (1, g11)] ⊢ Q x) :
    (plan U m).St E κ c (order.drop 47) [(2, g7), (3, g5), (4, g5), (5, g5), (6, g5), (7, g5), (8, g5), (9, g5), (0, g11), (1, g11)]
      ⊢ wp frame (wpE defs₀ 𝒱₀ (c.tc : Thread nD τ) none) Set.univ
        (onCall (k0_part31 (F := F)) c v2 v5 v8 v9 v12 v982) Q := by
  unfold onCall
  rw [k0_part31_eq_skeleton]
  unfold k0_part31_skel
  simp only [Prog.lift, Prog.bind_op, Prog.bind_ret, Prog.pure_eq_ret]
  refine Plan.wait _ E defs₀ 𝒱₀ (jr 2) (W' := [js 4, js 3, js 2, js 1, js 0, jl, jr 0, jr 3, jr 4, jr 5, jr 6]) (by decide) (gather_low _ 1 (by decide)) rfl rfl ?_
  refine Plan.start_fwd _ E defs₀ 𝒱₀ 5 2 (G' := []) (by decide) (gather_fwd _ _ c 5 2 rfl gblk5 rfl) (to48 c) (slot_eq (lay2) _ _ (at58 c) _ _) (slot_eq (lay2) _ _ (at58 c) _ _) rfl rfl ?_
  rw [wp_ret]
  exact (h _).trans fupd_intro

/-- The statements of part 32. -/
theorem part32 (c : Dev nD) (v2 v5 v8 v9 v13 v1010 c2_i32_771 : BitVec 32) {κ : GSem nD τ sig → ℕ} {Q : _ → sProp (MT nD τ sig Unit (Elt F) ℕ U ℕ)}
    (h : ∀ x, (plan U m).St E κ c (order.drop 49) [(2, g11), (3, g5), (4, g5), (5, g5), (6, g5), (7, g5), (8, g5), (9, g5), (0, g11), (1, g11)] ⊢ Q x) :
    (plan U m).St E κ c (order.drop 48) [(2, g9), (3, g5), (4, g5), (5, g5), (6, g5), (7, g5), (8, g5), (9, g5), (0, g11), (1, g11)]
      ⊢ wp frame (wpE defs₀ 𝒱₀ (c.tc : Thread nD τ) none) Set.univ
        (onCall (k0_part32 (F := F)) c v2 v5 v8 v9 v13 v1010 c2_i32_771) Q := by
  unfold onCall
  rw [k0_part32_eq_skeleton]
  unfold k0_part32_skel
  simp only [Prog.lift, Prog.bind_op, Prog.bind_ret, Prog.pure_eq_ret]
  refine Plan.wait _ E defs₀ 𝒱₀ (jr 3) (W' := [js 5, js 4, js 3, js 2, js 1, js 0, jl, jr 0, jr 4, jr 5, jr 6]) (by decide) (gather_low _ 2 (by decide)) rfl rfl ?_
  refine Plan.start_fwd _ E defs₀ 𝒱₀ 6 3 (G' := []) (by decide) (gather_fwd _ _ c 6 3 rfl gblk6 rfl) (to49 c) (slot_eq (lay2) _ _ (at59 c) _ _) (slot_eq (lay2) _ _ (at59 c) _ _) rfl rfl ?_
  rw [wp_ret]
  exact (h _).trans fupd_intro

/-- The statements of part 33. -/
theorem part33 (c : Dev nD) (v2 v5 v8 v10 v11 v12 v13 c4_i32_800 : BitVec 32) {κ : GSem nD τ sig → ℕ} {Q : _ → sProp (MT nD τ sig Unit (Elt F) ℕ U ℕ)}
    (h : ∀ x, (plan U m).St E κ c (order.drop 49) [(3, g6), (4, g5), (5, g5), (6, g5), (7, g5), (8, g5), (9, g5), (0, g11), (1, g11), (2, g11)] ⊢ Q x) :
    (plan U m).St E κ c (order.drop 49) [(2, g11), (3, g5), (4, g5), (5, g5), (6, g5), (7, g5), (8, g5), (9, g5), (0, g11), (1, g11)]
      ⊢ wp frame (wpE defs₀ 𝒱₀ (c.tc : Thread nD τ) none) Set.univ
        (onCall (k0_part33 (F := F)) c v2 v5 v8 v10 v11 v12 v13 c4_i32_800) Q := by
  unfold onCall
  rw [k0_part33_eq_skeleton]
  unfold k0_part33_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  rw [wp_ret]
  exact (h _).trans fupd_intro

/-- The statements of part 34. -/
theorem part34 (c : Dev nD) (v2 v5 v8 v9 v11 v1071 c1_i32_827 : BitVec 32) {κ : GSem nD τ sig → ℕ} {Q : _ → sProp (MT nD τ sig Unit (Elt F) ℕ U ℕ)}
    (h : ∀ x, (plan U m).St E κ c (order.drop 50) [(3, g8), (4, g5), (5, g5), (6, g5), (7, g5), (8, g5), (9, g5), (0, g11), (1, g11), (2, g11)] ⊢ Q x) :
    (plan U m).St E κ c (order.drop 49) [(3, g6), (4, g5), (5, g5), (6, g5), (7, g5), (8, g5), (9, g5), (0, g11), (1, g11), (2, g11)]
      ⊢ wp frame (wpE defs₀ 𝒱₀ (c.tc : Thread nD τ) none) Set.univ
        (onCall (k0_part34 (F := F)) c v2 v5 v8 v9 v11 v1071 c1_i32_827) Q := by
  unfold onCall
  rw [k0_part34_eq_skeleton]
  unfold k0_part34_skel
  simp only [Prog.lift, Prog.bind_op, Prog.bind_ret, Prog.pure_eq_ret]
  refine Plan.start_fwd _ E defs₀ 𝒱₀ 4 1 (G' := []) (by decide) (gather_fwd _ _ c 4 1 rfl gblk4 rfl) (to50 c) (slot_eq (lay3) _ _ (at60 c) _ _) (slot_eq (lay3) _ _ (at60 c) _ _) rfl rfl ?_
  refine Plan.wait _ E defs₀ 𝒱₀ (jr 2) (W' := [js 4, js 3, js 2, js 1, js 0, jl, jr 0, jr 3, jr 4, jr 5, jr 6]) (by decide) (gather_low _ 1 (by decide)) rfl rfl ?_
  rw [wp_ret]
  exact (h _).trans fupd_intro

/-- The statements of part 35. -/
theorem part35 (c : Dev nD) (v2 v5 v8 v9 v12 v13 : BitVec 32) {κ : GSem nD τ sig → ℕ} {Q : _ → sProp (MT nD τ sig Unit (Elt F) ℕ U ℕ)}
    (h : ∀ x, (plan U m).St E κ c (order.drop 51) [(3, g10), (4, g5), (5, g5), (6, g5), (7, g5), (8, g5), (9, g5), (0, g11), (1, g11), (2, g11)] ⊢ Q x) :
    (plan U m).St E κ c (order.drop 50) [(3, g8), (4, g5), (5, g5), (6, g5), (7, g5), (8, g5), (9, g5), (0, g11), (1, g11), (2, g11)]
      ⊢ wp frame (wpE defs₀ 𝒱₀ (c.tc : Thread nD τ) none) Set.univ
        (onCall (k0_part35 (F := F)) c v2 v5 v8 v9 v12 v13) Q := by
  unfold onCall
  rw [k0_part35_eq_skeleton]
  unfold k0_part35_skel
  simp only [Prog.lift, Prog.bind_op, Prog.bind_ret, Prog.pure_eq_ret]
  refine Plan.start_fwd _ E defs₀ 𝒱₀ 5 2 (G' := []) (by decide) (gather_fwd _ _ c 5 2 rfl gblk5 rfl) (to51 c) (slot_eq (lay3) _ _ (at61 c) _ _) (slot_eq (lay3) _ _ (at61 c) _ _) rfl rfl ?_
  refine Plan.wait _ E defs₀ 𝒱₀ (jr 3) (W' := [js 5, js 4, js 3, js 2, js 1, js 0, jl, jr 0, jr 4, jr 5, jr 6]) (by decide) (gather_low _ 2 (by decide)) rfl rfl ?_
  rw [wp_ret]
  exact (h _).trans fupd_intro

/-- The statements of part 36. -/
theorem part36 (c : Dev nD) (v2 v5 v8 v10 v11 v12 v13 : BitVec 32) {κ : GSem nD τ sig → ℕ} {Q : _ → sProp (MT nD τ sig Unit (Elt F) ℕ U ℕ)}
    (h : ∀ x, (plan U m).St E κ c (order.drop 52) [(4, g6), (5, g5), (6, g5), (7, g5), (8, g5), (9, g5), (0, g11), (1, g11), (2, g11), (3, g11)] ⊢ Q x) :
    (plan U m).St E κ c (order.drop 51) [(3, g10), (4, g5), (5, g5), (6, g5), (7, g5), (8, g5), (9, g5), (0, g11), (1, g11), (2, g11)]
      ⊢ wp frame (wpE defs₀ 𝒱₀ (c.tc : Thread nD τ) none) Set.univ
        (onCall (k0_part36 (F := F)) c v2 v5 v8 v10 v11 v12 v13) Q := by
  unfold onCall
  rw [k0_part36_eq_skeleton]
  unfold k0_part36_skel
  simp only [Prog.lift, Prog.bind_op, Prog.bind_ret, Prog.pure_eq_ret]
  refine Plan.start_fwd _ E defs₀ 𝒱₀ 6 3 (G' := []) (by decide) (gather_fwd _ _ c 6 3 rfl gblk6 rfl) (to52 c) (slot_eq (lay3) _ _ (at62 c) _ _) (slot_eq (lay3) _ _ (at62 c) _ _) rfl rfl ?_
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  rw [wp_ret]
  exact (h _).trans fupd_intro

/-- The statements of part 37. -/
theorem part37 (c : Dev nD) (v2 v5 v8 v9 v11 : BitVec 32) {κ : GSem nD τ sig → ℕ} {Q : _ → sProp (MT nD τ sig Unit (Elt F) ℕ U ℕ)}
    (h : ∀ x, (plan U m).St E κ c (order.drop 53) [(4, g8), (5, g5), (6, g5), (7, g5), (8, g5), (9, g5), (0, g11), (1, g11), (2, g11), (3, g11)] ⊢ Q x) :
    (plan U m).St E κ c (order.drop 52) [(4, g6), (5, g5), (6, g5), (7, g5), (8, g5), (9, g5), (0, g11), (1, g11), (2, g11), (3, g11)]
      ⊢ wp frame (wpE defs₀ 𝒱₀ (c.tc : Thread nD τ) none) Set.univ
        (onCall (k0_part37 (F := F)) c v2 v5 v8 v9 v11) Q := by
  unfold onCall
  rw [k0_part37_eq_skeleton]
  unfold k0_part37_skel
  simp only [Prog.lift, Prog.bind_op, Prog.bind_ret, Prog.pure_eq_ret]
  refine Plan.start_fwd _ E defs₀ 𝒱₀ 4 1 (G' := []) (by decide) (gather_fwd _ _ c 4 1 rfl gblk4 rfl) (to53 c) (slot_eq (lay4) _ _ (at63 c) _ _) (slot_eq (lay4) _ _ (at63 c) _ _) rfl rfl ?_
  refine Plan.wait _ E defs₀ 𝒱₀ (jr 2) (W' := [js 4, js 3, js 2, js 1, js 0, jl, jr 0, jr 3, jr 4, jr 5, jr 6]) (by decide) (gather_low _ 1 (by decide)) rfl rfl ?_
  rw [wp_ret]
  exact (h _).trans fupd_intro

/-- The statements of part 38. -/
theorem part38 (c : Dev nD) (v2 v5 v8 v9 v12 v13 : BitVec 32) {κ : GSem nD τ sig → ℕ} {Q : _ → sProp (MT nD τ sig Unit (Elt F) ℕ U ℕ)}
    (h : ∀ x, (plan U m).St E κ c (order.drop 54) [(4, g10), (5, g5), (6, g5), (7, g5), (8, g5), (9, g5), (0, g11), (1, g11), (2, g11), (3, g11)] ⊢ Q x) :
    (plan U m).St E κ c (order.drop 53) [(4, g8), (5, g5), (6, g5), (7, g5), (8, g5), (9, g5), (0, g11), (1, g11), (2, g11), (3, g11)]
      ⊢ wp frame (wpE defs₀ 𝒱₀ (c.tc : Thread nD τ) none) Set.univ
        (onCall (k0_part38 (F := F)) c v2 v5 v8 v9 v12 v13) Q := by
  unfold onCall
  rw [k0_part38_eq_skeleton]
  unfold k0_part38_skel
  simp only [Prog.lift, Prog.bind_op, Prog.bind_ret, Prog.pure_eq_ret]
  refine Plan.start_fwd _ E defs₀ 𝒱₀ 5 2 (G' := []) (by decide) (gather_fwd _ _ c 5 2 rfl gblk5 rfl) (to54 c) (slot_eq (lay4) _ _ (at64 c) _ _) (slot_eq (lay4) _ _ (at64 c) _ _) rfl rfl ?_
  refine Plan.wait _ E defs₀ 𝒱₀ (jr 3) (W' := [js 5, js 4, js 3, js 2, js 1, js 0, jl, jr 0, jr 4, jr 5, jr 6]) (by decide) (gather_low _ 2 (by decide)) rfl rfl ?_
  rw [wp_ret]
  exact (h _).trans fupd_intro

/-- The statements of part 39. -/
theorem part39 (c : Dev nD) (v2 v5 v8 v9 v10 v11 v12 v13 : BitVec 32) {κ : GSem nD τ sig → ℕ} {Q : _ → sProp (MT nD τ sig Unit (Elt F) ℕ U ℕ)}
    (h : ∀ x, (plan U m).St E κ c (order.drop 55) [(4, g11), (5, g5), (6, g5), (7, g5), (8, g5), (9, g5), (0, g11), (1, g11), (2, g11), (3, g11)] ⊢ Q x) :
    (plan U m).St E κ c (order.drop 54) [(4, g10), (5, g5), (6, g5), (7, g5), (8, g5), (9, g5), (0, g11), (1, g11), (2, g11), (3, g11)]
      ⊢ wp frame (wpE defs₀ 𝒱₀ (c.tc : Thread nD τ) none) Set.univ
        (onCall (k0_part39 (F := F)) c v2 v5 v8 v9 v10 v11 v12 v13) Q := by
  unfold onCall
  rw [k0_part39_eq_skeleton]
  unfold k0_part39_skel
  simp only [Prog.lift, Prog.bind_op, Prog.bind_ret, Prog.pure_eq_ret]
  refine Plan.start_fwd _ E defs₀ 𝒱₀ 6 3 (G' := []) (by decide) (gather_fwd _ _ c 6 3 rfl gblk6 rfl) (to55 c) (slot_eq (lay4) _ _ (at65 c) _ _) (slot_eq (lay4) _ _ (at65 c) _ _) rfl rfl ?_
  rw [wp_ret]
  exact (h _).trans fupd_intro

/-- The statements of part 40. -/
theorem part40 (c : Dev nD) (v2 v5 v8 v9 v11 v1263 v1264 : BitVec 32) {κ : GSem nD τ sig → ℕ} {Q : _ → sProp (MT nD τ sig Unit (Elt F) ℕ U ℕ)}
    (h : ∀ x, (plan U m).St E κ c (order.drop 56) [(5, g7), (6, g5), (7, g5), (8, g5), (9, g5), (0, g11), (1, g11), (2, g11), (3, g11), (4, g11)] ⊢ Q x) :
    (plan U m).St E κ c (order.drop 55) [(4, g11), (5, g5), (6, g5), (7, g5), (8, g5), (9, g5), (0, g11), (1, g11), (2, g11), (3, g11)]
      ⊢ wp frame (wpE defs₀ 𝒱₀ (c.tc : Thread nD τ) none) Set.univ
        (onCall (k0_part40 (F := F)) c v2 v5 v8 v9 v11 v1263 v1264) Q := by
  unfold onCall
  rw [k0_part40_eq_skeleton]
  unfold k0_part40_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  refine Plan.start_fwd _ E defs₀ 𝒱₀ 4 1 (G' := []) (by decide) (gather_fwd _ _ c 4 1 rfl gblk4 rfl) (to56 c) (slot_eq (lay5) _ _ (at66 c) _ _) (slot_eq (lay5) _ _ (at66 c) _ _) rfl rfl ?_
  rw [wp_ret]
  exact (h _).trans fupd_intro

/-- The statements of part 41. -/
theorem part41 (c : Dev nD) (v2 v5 v8 v9 v12 v13 : BitVec 32) {κ : GSem nD τ sig → ℕ} {Q : _ → sProp (MT nD τ sig Unit (Elt F) ℕ U ℕ)}
    (h : ∀ x, (plan U m).St E κ c (order.drop 57) [(5, g9), (6, g5), (7, g5), (8, g5), (9, g5), (0, g11), (1, g11), (2, g11), (3, g11), (4, g11)] ⊢ Q x) :
    (plan U m).St E κ c (order.drop 56) [(5, g7), (6, g5), (7, g5), (8, g5), (9, g5), (0, g11), (1, g11), (2, g11), (3, g11), (4, g11)]
      ⊢ wp frame (wpE defs₀ 𝒱₀ (c.tc : Thread nD τ) none) Set.univ
        (onCall (k0_part41 (F := F)) c v2 v5 v8 v9 v12 v13) Q := by
  unfold onCall
  rw [k0_part41_eq_skeleton]
  unfold k0_part41_skel
  simp only [Prog.lift, Prog.bind_op, Prog.bind_ret, Prog.pure_eq_ret]
  refine Plan.wait _ E defs₀ 𝒱₀ (jr 2) (W' := [js 4, js 3, js 2, js 1, js 0, jl, jr 0, jr 3, jr 4, jr 5, jr 6]) (by decide) (gather_low _ 1 (by decide)) rfl rfl ?_
  refine Plan.start_fwd _ E defs₀ 𝒱₀ 5 2 (G' := []) (by decide) (gather_fwd _ _ c 5 2 rfl gblk5 rfl) (to57 c) (slot_eq (lay5) _ _ (at67 c) _ _) (slot_eq (lay5) _ _ (at67 c) _ _) rfl rfl ?_
  rw [wp_ret]
  exact (h _).trans fupd_intro

/-- The statements of part 42. -/
theorem part42 (c : Dev nD) (v2 v5 v8 v9 v10 v11 v12 v13 : BitVec 32) {κ : GSem nD τ sig → ℕ} {Q : _ → sProp (MT nD τ sig Unit (Elt F) ℕ U ℕ)}
    (h : ∀ x, (plan U m).St E κ c (order.drop 58) [(5, g11), (6, g5), (7, g5), (8, g5), (9, g5), (0, g11), (1, g11), (2, g11), (3, g11), (4, g11)] ⊢ Q x) :
    (plan U m).St E κ c (order.drop 57) [(5, g9), (6, g5), (7, g5), (8, g5), (9, g5), (0, g11), (1, g11), (2, g11), (3, g11), (4, g11)]
      ⊢ wp frame (wpE defs₀ 𝒱₀ (c.tc : Thread nD τ) none) Set.univ
        (onCall (k0_part42 (F := F)) c v2 v5 v8 v9 v10 v11 v12 v13) Q := by
  unfold onCall
  rw [k0_part42_eq_skeleton]
  unfold k0_part42_skel
  simp only [Prog.lift, Prog.bind_op, Prog.bind_ret, Prog.pure_eq_ret]
  refine Plan.wait _ E defs₀ 𝒱₀ (jr 3) (W' := [js 5, js 4, js 3, js 2, js 1, js 0, jl, jr 0, jr 4, jr 5, jr 6]) (by decide) (gather_low _ 2 (by decide)) rfl rfl ?_
  refine Plan.start_fwd _ E defs₀ 𝒱₀ 6 3 (G' := []) (by decide) (gather_fwd _ _ c 6 3 rfl gblk6 rfl) (to58 c) (slot_eq (lay5) _ _ (at68 c) _ _) (slot_eq (lay5) _ _ (at68 c) _ _) rfl rfl ?_
  rw [wp_ret]
  exact (h _).trans fupd_intro

/-- The statements of part 43. -/
theorem part43 (c : Dev nD) (v2 v5 v8 v9 v11 : BitVec 32) {κ : GSem nD τ sig → ℕ} {Q : _ → sProp (MT nD τ sig Unit (Elt F) ℕ U ℕ)}
    (h : ∀ x, (plan U m).St E κ c (order.drop 59) [(6, g7), (7, g5), (8, g5), (9, g5), (0, g11), (1, g11), (2, g11), (3, g11), (4, g11), (5, g11)] ⊢ Q x) :
    (plan U m).St E κ c (order.drop 58) [(5, g11), (6, g5), (7, g5), (8, g5), (9, g5), (0, g11), (1, g11), (2, g11), (3, g11), (4, g11)]
      ⊢ wp frame (wpE defs₀ 𝒱₀ (c.tc : Thread nD τ) none) Set.univ
        (onCall (k0_part43 (F := F)) c v2 v5 v8 v9 v11) Q := by
  unfold onCall
  rw [k0_part43_eq_skeleton]
  unfold k0_part43_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  refine Plan.start_fwd _ E defs₀ 𝒱₀ 4 1 (G' := []) (by decide) (gather_fwd _ _ c 4 1 rfl gblk4 rfl) (to59 c) (slot_eq (lay6) _ _ (at69 c) _ _) (slot_eq (lay6) _ _ (at69 c) _ _) rfl rfl ?_
  rw [wp_ret]
  exact (h _).trans fupd_intro

/-- The statements of part 44. -/
theorem part44 (c : Dev nD) (v2 v5 v8 v9 v12 v13 : BitVec 32) {κ : GSem nD τ sig → ℕ} {Q : _ → sProp (MT nD τ sig Unit (Elt F) ℕ U ℕ)}
    (h : ∀ x, (plan U m).St E κ c (order.drop 60) [(6, g9), (7, g5), (8, g5), (9, g5), (0, g11), (1, g11), (2, g11), (3, g11), (4, g11), (5, g11)] ⊢ Q x) :
    (plan U m).St E κ c (order.drop 59) [(6, g7), (7, g5), (8, g5), (9, g5), (0, g11), (1, g11), (2, g11), (3, g11), (4, g11), (5, g11)]
      ⊢ wp frame (wpE defs₀ 𝒱₀ (c.tc : Thread nD τ) none) Set.univ
        (onCall (k0_part44 (F := F)) c v2 v5 v8 v9 v12 v13) Q := by
  unfold onCall
  rw [k0_part44_eq_skeleton]
  unfold k0_part44_skel
  simp only [Prog.lift, Prog.bind_op, Prog.bind_ret, Prog.pure_eq_ret]
  refine Plan.wait _ E defs₀ 𝒱₀ (jr 2) (W' := [js 4, js 3, js 2, js 1, js 0, jl, jr 0, jr 3, jr 4, jr 5, jr 6]) (by decide) (gather_low _ 1 (by decide)) rfl rfl ?_
  refine Plan.start_fwd _ E defs₀ 𝒱₀ 5 2 (G' := []) (by decide) (gather_fwd _ _ c 5 2 rfl gblk5 rfl) (to60 c) (slot_eq (lay6) _ _ (at70 c) _ _) (slot_eq (lay6) _ _ (at70 c) _ _) rfl rfl ?_
  rw [wp_ret]
  exact (h _).trans fupd_intro

/-- The statements of part 45. -/
theorem part45 (c : Dev nD) (v2 v5 v8 v9 v10 v11 c4_i32_1116 : BitVec 32) {κ : GSem nD τ sig → ℕ} {Q : _ → sProp (MT nD τ sig Unit (Elt F) ℕ U ℕ)}
    (h : ∀ x, (plan U m).St E κ c (order.drop 61) [(6, g11), (7, g5), (8, g5), (9, g5), (0, g11), (1, g11), (2, g11), (3, g11), (4, g11), (5, g11)] ⊢ Q x) :
    (plan U m).St E κ c (order.drop 60) [(6, g9), (7, g5), (8, g5), (9, g5), (0, g11), (1, g11), (2, g11), (3, g11), (4, g11), (5, g11)]
      ⊢ wp frame (wpE defs₀ 𝒱₀ (c.tc : Thread nD τ) none) Set.univ
        (onCall (k0_part45 (F := F)) c v2 v5 v8 v9 v10 v11 c4_i32_1116) Q := by
  unfold onCall
  rw [k0_part45_eq_skeleton]
  unfold k0_part45_skel
  simp only [Prog.lift, Prog.bind_op, Prog.bind_ret, Prog.pure_eq_ret]
  refine Plan.wait _ E defs₀ 𝒱₀ (jr 3) (W' := [js 5, js 4, js 3, js 2, js 1, js 0, jl, jr 0, jr 4, jr 5, jr 6]) (by decide) (gather_low _ 2 (by decide)) rfl rfl ?_
  refine Plan.start_fwd _ E defs₀ 𝒱₀ 6 3 (G' := []) (by decide) (gather_fwd _ _ c 6 3 rfl gblk6 rfl) (to61 c) (slot_eq (lay6) _ _ (at71 c) _ _) (slot_eq (lay6) _ _ (at71 c) _ _) rfl rfl ?_
  rw [wp_ret]
  exact (h _).trans fupd_intro

/-- The statements of part 46. -/
theorem part46 (c : Dev nD) (v2 v5 v8 v9 v10 v12 v13 c4_i32_1140 : BitVec 32) {κ : GSem nD τ sig → ℕ} {Q : _ → sProp (MT nD τ sig Unit (Elt F) ℕ U ℕ)}
    (h : ∀ x, (plan U m).St E κ c (order.drop 61) [(7, g6), (8, g5), (9, g5), (0, g11), (1, g11), (2, g11), (3, g11), (4, g11), (5, g11), (6, g11)] ⊢ Q x) :
    (plan U m).St E κ c (order.drop 61) [(6, g11), (7, g5), (8, g5), (9, g5), (0, g11), (1, g11), (2, g11), (3, g11), (4, g11), (5, g11)]
      ⊢ wp frame (wpE defs₀ 𝒱₀ (c.tc : Thread nD τ) none) Set.univ
        (onCall (k0_part46 (F := F)) c v2 v5 v8 v9 v10 v12 v13 c4_i32_1140) Q := by
  unfold onCall
  rw [k0_part46_eq_skeleton]
  unfold k0_part46_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  rw [wp_ret]
  exact (h _).trans fupd_intro

/-- The statements of part 47. -/
theorem part47 (c : Dev nD) (v2 v5 v8 v9 v11 : BitVec 32) {κ : GSem nD τ sig → ℕ} {Q : _ → sProp (MT nD τ sig Unit (Elt F) ℕ U ℕ)}
    (h : ∀ x, (plan U m).St E κ c (order.drop 62) [(7, g8), (8, g5), (9, g5), (0, g11), (1, g11), (2, g11), (3, g11), (4, g11), (5, g11), (6, g11)] ⊢ Q x) :
    (plan U m).St E κ c (order.drop 61) [(7, g6), (8, g5), (9, g5), (0, g11), (1, g11), (2, g11), (3, g11), (4, g11), (5, g11), (6, g11)]
      ⊢ wp frame (wpE defs₀ 𝒱₀ (c.tc : Thread nD τ) none) Set.univ
        (onCall (k0_part47 (F := F)) c v2 v5 v8 v9 v11) Q := by
  unfold onCall
  rw [k0_part47_eq_skeleton]
  unfold k0_part47_skel
  simp only [Prog.lift, Prog.bind_op, Prog.bind_ret, Prog.pure_eq_ret]
  refine Plan.start_fwd _ E defs₀ 𝒱₀ 4 1 (G' := []) (by decide) (gather_fwd _ _ c 4 1 rfl gblk4 rfl) (to62 c) (slot_eq (lay7) _ _ (at72 c) _ _) (slot_eq (lay7) _ _ (at72 c) _ _) rfl rfl ?_
  refine Plan.wait _ E defs₀ 𝒱₀ (jr 2) (W' := [js 4, js 3, js 2, js 1, js 0, jl, jr 0, jr 3, jr 4, jr 5, jr 6]) (by decide) (gather_low _ 1 (by decide)) rfl rfl ?_
  rw [wp_ret]
  exact (h _).trans fupd_intro

/-- The statements of part 48. -/
theorem part48 (c : Dev nD) (v2 v5 v8 v9 v12 v13 : BitVec 32) {κ : GSem nD τ sig → ℕ} {Q : _ → sProp (MT nD τ sig Unit (Elt F) ℕ U ℕ)}
    (h : ∀ x, (plan U m).St E κ c (order.drop 64) [(7, g11), (8, g5), (9, g5), (0, g11), (1, g11), (2, g11), (3, g11), (4, g11), (5, g11), (6, g11)] ⊢ Q x) :
    (plan U m).St E κ c (order.drop 62) [(7, g8), (8, g5), (9, g5), (0, g11), (1, g11), (2, g11), (3, g11), (4, g11), (5, g11), (6, g11)]
      ⊢ wp frame (wpE defs₀ 𝒱₀ (c.tc : Thread nD τ) none) Set.univ
        (onCall (k0_part48 (F := F)) c v2 v5 v8 v9 v12 v13) Q := by
  unfold onCall
  rw [k0_part48_eq_skeleton]
  unfold k0_part48_skel
  simp only [Prog.lift, Prog.bind_op, Prog.bind_ret, Prog.pure_eq_ret]
  refine Plan.start_fwd _ E defs₀ 𝒱₀ 5 2 (G' := []) (by decide) (gather_fwd _ _ c 5 2 rfl gblk5 rfl) (to63 c) (slot_eq (lay7) _ _ (at73 c) _ _) (slot_eq (lay7) _ _ (at73 c) _ _) rfl rfl ?_
  refine Plan.wait _ E defs₀ 𝒱₀ (jr 3) (W' := [js 5, js 4, js 3, js 2, js 1, js 0, jl, jr 0, jr 4, jr 5, jr 6]) (by decide) (gather_low _ 2 (by decide)) rfl rfl ?_
  refine Plan.start_fwd _ E defs₀ 𝒱₀ 6 3 (G' := []) (by decide) (gather_fwd _ _ c 6 3 rfl gblk6 rfl) (to64 c) (slot_eq (lay7) _ _ (at74 c) _ _) (slot_eq (lay7) _ _ (at74 c) _ _) rfl rfl ?_
  rw [wp_ret]
  exact (h _).trans fupd_intro

/-- The statements of part 49. -/
theorem part49 (c : Dev nD) (v2 v5 v8 v10 v11 v12 v13 c4_i32_1220 : BitVec 32) {κ : GSem nD τ sig → ℕ} {Q : _ → sProp (MT nD τ sig Unit (Elt F) ℕ U ℕ)}
    (h : ∀ x, (plan U m).St E κ c (order.drop 64) [(8, g6), (9, g5), (0, g11), (1, g11), (2, g11), (3, g11), (4, g11), (5, g11), (6, g11), (7, g11)] ⊢ Q x) :
    (plan U m).St E κ c (order.drop 64) [(7, g11), (8, g5), (9, g5), (0, g11), (1, g11), (2, g11), (3, g11), (4, g11), (5, g11), (6, g11)]
      ⊢ wp frame (wpE defs₀ 𝒱₀ (c.tc : Thread nD τ) none) Set.univ
        (onCall (k0_part49 (F := F)) c v2 v5 v8 v10 v11 v12 v13 c4_i32_1220) Q := by
  unfold onCall
  rw [k0_part49_eq_skeleton]
  unfold k0_part49_skel
  simp only [Prog.lift, Prog.bind_op, Prog.bind_ret, Prog.pure_eq_ret]
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  rw [wp_ret]
  exact (h _).trans fupd_intro

/-- The statements of part 50. -/
theorem part50 (c : Dev nD) (v2 v5 v8 v9 v11 v1581 c1_i32_1247 : BitVec 32) {κ : GSem nD τ sig → ℕ} {Q : _ → sProp (MT nD τ sig Unit (Elt F) ℕ U ℕ)}
    (h : ∀ x, (plan U m).St E κ c (order.drop 65) [(8, g8), (9, g5), (0, g11), (1, g11), (2, g11), (3, g11), (4, g11), (5, g11), (6, g11), (7, g11)] ⊢ Q x) :
    (plan U m).St E κ c (order.drop 64) [(8, g6), (9, g5), (0, g11), (1, g11), (2, g11), (3, g11), (4, g11), (5, g11), (6, g11), (7, g11)]
      ⊢ wp frame (wpE defs₀ 𝒱₀ (c.tc : Thread nD τ) none) Set.univ
        (onCall (k0_part50 (F := F)) c v2 v5 v8 v9 v11 v1581 c1_i32_1247) Q := by
  unfold onCall
  rw [k0_part50_eq_skeleton]
  unfold k0_part50_skel
  simp only [Prog.lift, Prog.bind_op, Prog.bind_ret, Prog.pure_eq_ret]
  refine Plan.start_fwd _ E defs₀ 𝒱₀ 4 1 (G' := []) (by decide) (gather_fwd _ _ c 4 1 rfl gblk4 rfl) (to65 c) (slot_eq (lay8) _ _ (at75 c) _ _) (slot_eq (lay8) _ _ (at75 c) _ _) rfl rfl ?_
  refine Plan.wait _ E defs₀ 𝒱₀ (jr 2) (W' := [js 4, js 3, js 2, js 1, js 0, jl, jr 0, jr 3, jr 4, jr 5, jr 6]) (by decide) (gather_low _ 1 (by decide)) rfl rfl ?_
  rw [wp_ret]
  exact (h _).trans fupd_intro

/-- The statements of part 51. -/
theorem part51 (c : Dev nD) (v2 v5 v8 v9 v12 v13 : BitVec 32) {κ : GSem nD τ sig → ℕ} {Q : _ → sProp (MT nD τ sig Unit (Elt F) ℕ U ℕ)}
    (h : ∀ x, (plan U m).St E κ c (order.drop 66) [(8, g10), (9, g5), (0, g11), (1, g11), (2, g11), (3, g11), (4, g11), (5, g11), (6, g11), (7, g11)] ⊢ Q x) :
    (plan U m).St E κ c (order.drop 65) [(8, g8), (9, g5), (0, g11), (1, g11), (2, g11), (3, g11), (4, g11), (5, g11), (6, g11), (7, g11)]
      ⊢ wp frame (wpE defs₀ 𝒱₀ (c.tc : Thread nD τ) none) Set.univ
        (onCall (k0_part51 (F := F)) c v2 v5 v8 v9 v12 v13) Q := by
  unfold onCall
  rw [k0_part51_eq_skeleton]
  unfold k0_part51_skel
  simp only [Prog.lift, Prog.bind_op, Prog.bind_ret, Prog.pure_eq_ret]
  refine Plan.start_fwd _ E defs₀ 𝒱₀ 5 2 (G' := []) (by decide) (gather_fwd _ _ c 5 2 rfl gblk5 rfl) (to66 c) (slot_eq (lay8) _ _ (at76 c) _ _) (slot_eq (lay8) _ _ (at76 c) _ _) rfl rfl ?_
  refine Plan.wait _ E defs₀ 𝒱₀ (jr 3) (W' := [js 5, js 4, js 3, js 2, js 1, js 0, jl, jr 0, jr 4, jr 5, jr 6]) (by decide) (gather_low _ 2 (by decide)) rfl rfl ?_
  rw [wp_ret]
  exact (h _).trans fupd_intro

/-- The statements of part 52. -/
theorem part52 (c : Dev nD) (v2 v5 v8 v10 v11 v12 v13 : BitVec 32) {κ : GSem nD τ sig → ℕ} {Q : _ → sProp (MT nD τ sig Unit (Elt F) ℕ U ℕ)}
    (h : ∀ x, (plan U m).St E κ c (order.drop 67) [(9, g6), (0, g11), (1, g11), (2, g11), (3, g11), (4, g11), (5, g11), (6, g11), (7, g11), (8, g11)] ⊢ Q x) :
    (plan U m).St E κ c (order.drop 66) [(8, g10), (9, g5), (0, g11), (1, g11), (2, g11), (3, g11), (4, g11), (5, g11), (6, g11), (7, g11)]
      ⊢ wp frame (wpE defs₀ 𝒱₀ (c.tc : Thread nD τ) none) Set.univ
        (onCall (k0_part52 (F := F)) c v2 v5 v8 v10 v11 v12 v13) Q := by
  unfold onCall
  rw [k0_part52_eq_skeleton]
  unfold k0_part52_skel
  simp only [Prog.lift, Prog.bind_op, Prog.bind_ret, Prog.pure_eq_ret]
  refine Plan.start_fwd _ E defs₀ 𝒱₀ 6 3 (G' := []) (by decide) (gather_fwd _ _ c 6 3 rfl gblk6 rfl) (to67 c) (slot_eq (lay8) _ _ (at77 c) _ _) (slot_eq (lay8) _ _ (at77 c) _ _) rfl rfl ?_
  refine Plan.next _ E ?_
  simp only [List.cons_append, List.nil_append]
  refine Plan.wait _ E defs₀ 𝒱₀ (jr 1) (W' := [js 3, js 2, js 1, js 0, jl, jr 0, jr 2, jr 3, jr 4, jr 5, jr 6]) (by decide) (gather_low _ 0 (by decide)) rfl rfl ?_
  rw [wp_ret]
  exact (h _).trans fupd_intro

/-- The statements of part 53. -/
theorem part53 (c : Dev nD) (v2 v5 v8 v9 v11 : BitVec 32) {κ : GSem nD τ sig → ℕ} {Q : _ → sProp (MT nD τ sig Unit (Elt F) ℕ U ℕ)}
    (h : ∀ x, (plan U m).St E κ c (order.drop 68) [(9, g8), (0, g11), (1, g11), (2, g11), (3, g11), (4, g11), (5, g11), (6, g11), (7, g11), (8, g11)] ⊢ Q x) :
    (plan U m).St E κ c (order.drop 67) [(9, g6), (0, g11), (1, g11), (2, g11), (3, g11), (4, g11), (5, g11), (6, g11), (7, g11), (8, g11)]
      ⊢ wp frame (wpE defs₀ 𝒱₀ (c.tc : Thread nD τ) none) Set.univ
        (onCall (k0_part53 (F := F)) c v2 v5 v8 v9 v11) Q := by
  unfold onCall
  rw [k0_part53_eq_skeleton]
  unfold k0_part53_skel
  simp only [Prog.lift, Prog.bind_op, Prog.bind_ret, Prog.pure_eq_ret]
  refine Plan.start_fwd _ E defs₀ 𝒱₀ 4 1 (G' := []) (by decide) (gather_fwd _ _ c 4 1 rfl gblk4 rfl) (to68 c) (slot_eq (lay9) _ _ (at78 c) _ _) (slot_eq (lay9) _ _ (at78 c) _ _) rfl rfl ?_
  refine Plan.wait _ E defs₀ 𝒱₀ (jr 2) (W' := [js 4, js 3, js 2, js 1, js 0, jl, jr 0, jr 3, jr 4, jr 5, jr 6]) (by decide) (gather_low _ 1 (by decide)) rfl rfl ?_
  rw [wp_ret]
  exact (h _).trans fupd_intro

/-- The statements of part 54. -/
theorem part54 (c : Dev nD) (v2 v5 v8 v9 v12 v13 : BitVec 32) {κ : GSem nD τ sig → ℕ} {Q : _ → sProp (MT nD τ sig Unit (Elt F) ℕ U ℕ)}
    (h : ∀ x, (plan U m).St E κ c (order.drop 69) [(9, g10), (0, g11), (1, g11), (2, g11), (3, g11), (4, g11), (5, g11), (6, g11), (7, g11), (8, g11)] ⊢ Q x) :
    (plan U m).St E κ c (order.drop 68) [(9, g8), (0, g11), (1, g11), (2, g11), (3, g11), (4, g11), (5, g11), (6, g11), (7, g11), (8, g11)]
      ⊢ wp frame (wpE defs₀ 𝒱₀ (c.tc : Thread nD τ) none) Set.univ
        (onCall (k0_part54 (F := F)) c v2 v5 v8 v9 v12 v13) Q := by
  unfold onCall
  rw [k0_part54_eq_skeleton]
  unfold k0_part54_skel
  simp only [Prog.lift, Prog.bind_op, Prog.bind_ret, Prog.pure_eq_ret]
  refine Plan.start_fwd _ E defs₀ 𝒱₀ 5 2 (G' := []) (by decide) (gather_fwd _ _ c 5 2 rfl gblk5 rfl) (to69 c) (slot_eq (lay9) _ _ (at79 c) _ _) (slot_eq (lay9) _ _ (at79 c) _ _) rfl rfl ?_
  refine Plan.wait _ E defs₀ 𝒱₀ (jr 3) (W' := [js 5, js 4, js 3, js 2, js 1, js 0, jl, jr 0, jr 4, jr 5, jr 6]) (by decide) (gather_low _ 2 (by decide)) rfl rfl ?_
  rw [wp_ret]
  exact (h _).trans fupd_intro

/-- The statements of part 55. -/
theorem part55 (c : Dev nD) (v2 v5 v8 v9 v10 : BitVec 32) {κ : GSem nD τ sig → ℕ} {Q : _ → sProp (MT nD τ sig Unit (Elt F) ℕ U ℕ)}
    (h : ∀ x, (plan U m).St E κ c (order.drop 70) [(0, g12), (1, g11), (2, g11), (3, g11), (4, g11), (5, g11), (6, g11), (7, g11), (8, g11), (9, g11)] ⊢ Q x) :
    (plan U m).St E κ c (order.drop 69) [(9, g10), (0, g11), (1, g11), (2, g11), (3, g11), (4, g11), (5, g11), (6, g11), (7, g11), (8, g11)]
      ⊢ wp frame (wpE defs₀ 𝒱₀ (c.tc : Thread nD τ) none) Set.univ
        (onCall (k0_part55 (F := F)) c v2 v5 v8 v9 v10) Q := by
  unfold onCall
  rw [k0_part55_eq_skeleton]
  unfold k0_part55_skel
  simp only [Prog.lift, Prog.bind_op, Prog.bind_ret, Prog.pure_eq_ret]
  refine Plan.start_fwd _ E defs₀ 𝒱₀ 6 3 (G' := []) (by decide) (gather_fwd _ _ c 6 3 rfl gblk6 rfl) (to70 c) (slot_eq (lay9) _ _ (at80 c) _ _) (slot_eq (lay9) _ _ (at80 c) _ _) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 56. -/
theorem part56 (c : Dev nD) (v2 v5 v8 v11 v1770 v1771 v1772 : BitVec 32) {κ : GSem nD τ sig → ℕ} {Q : _ → sProp (MT nD τ sig Unit (Elt F) ℕ U ℕ)}
    (h : ∀ x, (plan U m).St E κ c (order.drop 70) [(0, g14), (1, g11), (2, g11), (3, g11), (4, g11), (5, g11), (6, g11), (7, g11), (8, g11), (9, g11)] ⊢ Q x) :
    (plan U m).St E κ c (order.drop 70) [(0, g12), (1, g11), (2, g11), (3, g11), (4, g11), (5, g11), (6, g11), (7, g11), (8, g11), (9, g11)]
      ⊢ wp frame (wpE defs₀ 𝒱₀ (c.tc : Thread nD τ) none) Set.univ
        (onCall (k0_part56 (F := F)) c v2 v5 v8 v11 v1770 v1771 v1772) Q := by
  unfold onCall
  rw [k0_part56_eq_skeleton]
  unfold k0_part56_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 57. -/
theorem part57 (c : Dev nD) (v2 v5 v8 v12 v13 : BitVec 32) {κ : GSem nD τ sig → ℕ} {Q : _ → sProp (MT nD τ sig Unit (Elt F) ℕ U ℕ)}
    (h : ∀ x, (plan U m).St E κ c (order.drop 70) [(0, g17), (1, g11), (2, g11), (3, g11), (4, g11), (5, g11), (6, g11), (7, g11), (8, g11), (9, g11)] ⊢ Q x) :
    (plan U m).St E κ c (order.drop 70) [(0, g14), (1, g11), (2, g11), (3, g11), (4, g11), (5, g11), (6, g11), (7, g11), (8, g11), (9, g11)]
      ⊢ wp frame (wpE defs₀ 𝒱₀ (c.tc : Thread nD τ) none) Set.univ
        (onCall (k0_part57 (F := F)) c v2 v5 v8 v12 v13) Q := by
  unfold onCall
  rw [k0_part57_eq_skeleton]
  unfold k0_part57_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  rw [wp_ret]
  exact (h _).trans fupd_intro

/-- The statements of part 58. -/
theorem part58 (c : Dev nD) {κ : GSem nD τ sig → ℕ} {Q : _ → sProp (MT nD τ sig Unit (Elt F) ℕ U ℕ)}
    (h : ∀ x, (plan U m).St E κ c (order.drop 70) [(0, g21), (1, g11), (2, g11), (3, g11), (4, g11), (5, g11), (6, g11), (7, g11), (8, g11), (9, g11)] ⊢ Q x) :
    (plan U m).St E κ c (order.drop 70) [(0, g17), (1, g11), (2, g11), (3, g11), (4, g11), (5, g11), (6, g11), (7, g11), (8, g11), (9, g11)]
      ⊢ wp frame (wpE defs₀ 𝒱₀ (c.tc : Thread nD τ) none) Set.univ
        (onCall (k0_part58 (F := F)) c) Q := by
  unfold onCall
  rw [k0_part58_eq_skeleton]
  unfold k0_part58_skel
  simp only [Prog.lift, Prog.bind_op, Prog.bind_ret, Prog.pure_eq_ret]
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  rw [wp_ret]
  exact (h _).trans fupd_intro

/-- The statements of part 59. -/
theorem part59 (c : Dev nD) (v2 v5 v8 v9 v10 : BitVec 32) {κ : GSem nD τ sig → ℕ} {Q : _ → sProp (MT nD τ sig Unit (Elt F) ℕ U ℕ)}
    (h : ∀ x, (plan U m).St E κ c (order.drop 70) [(1, g12), (2, g11), (3, g11), (4, g11), (5, g11), (6, g11), (7, g11), (8, g11), (9, g11), (0, g23)] ⊢ Q x) :
    (plan U m).St E κ c (order.drop 70) [(0, g21), (1, g11), (2, g11), (3, g11), (4, g11), (5, g11), (6, g11), (7, g11), (8, g11), (9, g11)]
      ⊢ wp frame (wpE defs₀ 𝒱₀ (c.tc : Thread nD τ) none) Set.univ
        (onCall (k0_part59 (F := F)) c v2 v5 v8 v9 v10) Q := by
  unfold onCall
  rw [k0_part59_eq_skeleton]
  unfold k0_part59_skel
  simp only [Prog.lift, Prog.bind_op, Prog.bind_ret, Prog.pure_eq_ret]
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 60. -/
theorem part60 (c : Dev nD) (v2 v5 v8 v11 v12 v13 : BitVec 32) {κ : GSem nD τ sig → ℕ} {Q : _ → sProp (MT nD τ sig Unit (Elt F) ℕ U ℕ)}
    (h : ∀ x, (plan U m).St E κ c (order.drop 70) [(1, g14), (2, g11), (3, g11), (4, g11), (5, g11), (6, g11), (7, g11), (8, g11), (9, g11), (0, g23)] ⊢ Q x) :
    (plan U m).St E κ c (order.drop 70) [(1, g12), (2, g11), (3, g11), (4, g11), (5, g11), (6, g11), (7, g11), (8, g11), (9, g11), (0, g23)]
      ⊢ wp frame (wpE defs₀ 𝒱₀ (c.tc : Thread nD τ) none) Set.univ
        (onCall (k0_part60 (F := F)) c v2 v5 v8 v11 v12 v13) Q := by
  unfold onCall
  rw [k0_part60_eq_skeleton]
  unfold k0_part60_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 94. -/
theorem part94 (c : Dev nD) {κ : GSem nD τ sig → ℕ} {Q : _ → sProp (MT nD τ sig Unit (Elt F) ℕ U ℕ)}
    (h : ∀ x, x.1 = c → (plan U m).St E κ c (order.drop 70) [(1, g14), (2, g11), (3, g11), (4, g11), (5, g11), (6, g11), (7, g11), (8, g11), (9, g11), (0, g23)] ⊢ Q x) :
    (plan U m).St E κ c order [(0, g0), (1, g0), (2, g0), (3, g0), (4, g0), (5, g0), (6, g0), (7, g0), (8, g0), (9, g0)]
      ⊢ wp frame (wpE defs₀ 𝒱₀ (c.tc : Thread nD τ) none) Set.univ
        (onCall (k0_part94 (F := F))) Q := by
  unfold onCall
  rw [k0_part94_eq_skeleton]
  unfold k0_part94_skel
  rw [wp_bind]
  refine part1 E m c fun x hx => ?_
  obtain ⟨d0, v2, v5, v8, v9, v10, v11, v12, v13, v34⟩ := x
  subst hx
  dsimp only
  rw [wp_bind]
  refine part2 E m _ _ _ _ _ _ _ _ fun x => ?_
  rw [wp_bind]
  refine part3 E m _ _ _ _ _ _ _ _ fun x => ?_
  rw [wp_bind]
  refine part4 E m _ _ _ _ _ _ _ _ fun x => ?_
  rw [wp_bind]
  refine part5 E m _ _ _ _ _ _ _ fun x => ?_
  rw [wp_bind]
  refine part6 E m _ _ _ _ _ _ fun x => ?_
  rw [wp_bind]
  refine part7 E m _ _ _ _ _ _ _ fun x => ?_
  rw [wp_bind]
  refine part8 E m _ _ _ _ _ fun x => ?_
  rw [wp_bind]
  refine part9 E m _ _ _ _ _ _ _ _ fun x => ?_
  rw [wp_bind]
  refine part10 E m _ _ _ _ _ _ fun x => ?_
  rw [wp_bind]
  refine part11 E m _ _ _ _ _ _ _ _ fun x => ?_
  rw [wp_bind]
  refine part12 E m _ _ _ _ _ _ fun x => ?_
  rw [wp_bind]
  refine part13 E m _ _ _ _ _ _ _ fun x => ?_
  rw [wp_bind]
  refine part14 E m _ _ _ _ _ _ fun x => ?_
  rw [wp_bind]
  refine part15 E m _ _ _ _ _ _ _ _ fun x => ?_
  rw [wp_bind]
  refine part16 E m _ _ _ _ _ _ _ _ fun x => ?_
  rw [wp_bind]
  refine part17 E m _ _ _ _ _ _ _ fun x => ?_
  rw [wp_bind]
  refine part18 E m _ _ _ _ _ _ _ fun x => ?_
  rw [wp_bind]
  refine part19 E m _ _ _ _ _ _ fun x => ?_
  rw [wp_bind]
  refine part20 E m _ _ _ _ _ _ _ _ fun x => ?_
  rw [wp_bind]
  refine part21 E m _ _ _ _ _ fun x => ?_
  rw [wp_bind]
  refine part22 E m _ _ _ _ _ _ _ _ fun x => ?_
  rw [wp_bind]
  refine part23 E m _ _ _ _ _ _ _ _ _ _ fun x => ?_
  rw [wp_bind]
  refine part24 E m _ _ _ _ _ _ fun x => ?_
  rw [wp_bind]
  refine part25 E m _ _ _ _ _ _ _ fun x => ?_
  rw [wp_bind]
  refine part26 E m _ _ _ _ _ _ _ _ _ fun x => ?_
  rw [wp_bind]
  refine part27 E m _ _ _ _ _ _ _ _ fun x => ?_
  rw [wp_bind]
  refine part28 E m _ _ _ _ _ _ _ fun x => ?_
  rw [wp_bind]
  refine part29 E m _ _ _ _ _ _ _ _ _ fun x => ?_
  rw [wp_bind]
  refine part30 E m _ _ _ _ _ _ fun x => ?_
  rw [wp_bind]
  refine part31 E m _ _ _ _ _ _ _ fun x => ?_
  rw [wp_bind]
  refine part32 E m _ _ _ _ _ _ _ _ fun x => ?_
  rw [wp_bind]
  refine part33 E m _ _ _ _ _ _ _ _ _ fun x => ?_
  rw [wp_bind]
  refine part34 E m _ _ _ _ _ _ _ _ fun x => ?_
  rw [wp_bind]
  refine part35 E m _ _ _ _ _ _ _ fun x => ?_
  rw [wp_bind]
  refine part36 E m _ _ _ _ _ _ _ _ fun x => ?_
  rw [wp_bind]
  refine part37 E m _ _ _ _ _ _ fun x => ?_
  rw [wp_bind]
  refine part38 E m _ _ _ _ _ _ _ fun x => ?_
  rw [wp_bind]
  refine part39 E m _ _ _ _ _ _ _ _ _ fun x => ?_
  rw [wp_bind]
  refine part40 E m _ _ _ _ _ _ _ _ fun x => ?_
  rw [wp_bind]
  refine part41 E m _ _ _ _ _ _ _ fun x => ?_
  rw [wp_bind]
  refine part42 E m _ _ _ _ _ _ _ _ _ fun x => ?_
  rw [wp_bind]
  refine part43 E m _ _ _ _ _ _ fun x => ?_
  rw [wp_bind]
  refine part44 E m _ _ _ _ _ _ _ fun x => ?_
  rw [wp_bind]
  refine part45 E m _ _ _ _ _ _ _ _ fun x => ?_
  rw [wp_bind]
  refine part46 E m _ _ _ _ _ _ _ _ _ fun x => ?_
  rw [wp_bind]
  refine part47 E m _ _ _ _ _ _ fun x => ?_
  rw [wp_bind]
  refine part48 E m _ _ _ _ _ _ _ fun x => ?_
  rw [wp_bind]
  refine part49 E m _ _ _ _ _ _ _ _ _ fun x => ?_
  rw [wp_bind]
  refine part50 E m _ _ _ _ _ _ _ _ fun x => ?_
  rw [wp_bind]
  refine part51 E m _ _ _ _ _ _ _ fun x => ?_
  rw [wp_bind]
  refine part52 E m _ _ _ _ _ _ _ _ fun x => ?_
  rw [wp_bind]
  refine part53 E m _ _ _ _ _ _ fun x => ?_
  rw [wp_bind]
  refine part54 E m _ _ _ _ _ _ _ fun x => ?_
  rw [wp_bind]
  refine part55 E m _ _ _ _ _ _ fun x => ?_
  rw [wp_bind]
  refine part56 E m _ _ _ _ _ _ _ _ fun x => ?_
  rw [wp_bind]
  refine part57 E m _ _ _ _ _ _ fun x => ?_
  rw [wp_bind]
  refine part58 E m _ fun x => ?_
  rw [wp_bind]
  refine part59 E m _ _ _ _ _ _ fun x => ?_
  rw [wp_bind]
  refine part60 E m _ _ _ _ _ _ _ fun x => ?_
  simp only [Prog.lift, Prog.bind_op, Prog.bind_ret, Prog.pure_eq_ret]
  rw [wp_ret]
  exact (h _ rfl).trans fupd_intro

/-- The statements of part 61. -/
theorem part61 (c : Dev nD) (v2 v5 v8 v1909 v1910 v1911 : BitVec 32) {κ : GSem nD τ sig → ℕ} {Q : _ → sProp (MT nD τ sig Unit (Elt F) ℕ U ℕ)}
    (h : ∀ x, (plan U m).St E κ c (order.drop 70) [(1, g17), (2, g11), (3, g11), (4, g11), (5, g11), (6, g11), (7, g11), (8, g11), (9, g11), (0, g23)] ⊢ Q x) :
    (plan U m).St E κ c (order.drop 70) [(1, g14), (2, g11), (3, g11), (4, g11), (5, g11), (6, g11), (7, g11), (8, g11), (9, g11), (0, g23)]
      ⊢ wp frame (wpE defs₀ 𝒱₀ (c.tc : Thread nD τ) none) Set.univ
        (onCall (k0_part61 (F := F)) c v2 v5 v8 v1909 v1910 v1911) Q := by
  unfold onCall
  rw [k0_part61_eq_skeleton]
  unfold k0_part61_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  rw [wp_ret]
  exact (h _).trans fupd_intro

/-- The statements of part 62. -/
theorem part62 (c : Dev nD) {κ : GSem nD τ sig → ℕ} {Q : _ → sProp (MT nD τ sig Unit (Elt F) ℕ U ℕ)}
    (h : ∀ x, (plan U m).St E κ c (order.drop 70) [(1, g21), (2, g11), (3, g11), (4, g11), (5, g11), (6, g11), (7, g11), (8, g11), (9, g11), (0, g23)] ⊢ Q x) :
    (plan U m).St E κ c (order.drop 70) [(1, g17), (2, g11), (3, g11), (4, g11), (5, g11), (6, g11), (7, g11), (8, g11), (9, g11), (0, g23)]
      ⊢ wp frame (wpE defs₀ 𝒱₀ (c.tc : Thread nD τ) none) Set.univ
        (onCall (k0_part62 (F := F)) c) Q := by
  unfold onCall
  rw [k0_part62_eq_skeleton]
  unfold k0_part62_skel
  simp only [Prog.lift, Prog.bind_op, Prog.bind_ret, Prog.pure_eq_ret]
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  rw [wp_ret]
  exact (h _).trans fupd_intro

/-- The statements of part 63. -/
theorem part63 (c : Dev nD) (v2 v5 v8 v9 v10 : BitVec 32) {κ : GSem nD τ sig → ℕ} {Q : _ → sProp (MT nD τ sig Unit (Elt F) ℕ U ℕ)}
    (h : ∀ x, (plan U m).St E κ c (order.drop 70) [(2, g12), (3, g11), (4, g11), (5, g11), (6, g11), (7, g11), (8, g11), (9, g11), (0, g23), (1, g23)] ⊢ Q x) :
    (plan U m).St E κ c (order.drop 70) [(1, g21), (2, g11), (3, g11), (4, g11), (5, g11), (6, g11), (7, g11), (8, g11), (9, g11), (0, g23)]
      ⊢ wp frame (wpE defs₀ 𝒱₀ (c.tc : Thread nD τ) none) Set.univ
        (onCall (k0_part63 (F := F)) c v2 v5 v8 v9 v10) Q := by
  unfold onCall
  rw [k0_part63_eq_skeleton]
  unfold k0_part63_skel
  simp only [Prog.lift, Prog.bind_op, Prog.bind_ret, Prog.pure_eq_ret]
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 64. -/
theorem part64 (c : Dev nD) (v2 v5 v8 v11 v12 v13 v1986 : BitVec 32) {κ : GSem nD τ sig → ℕ} {Q : _ → sProp (MT nD τ sig Unit (Elt F) ℕ U ℕ)}
    (h : ∀ x, (plan U m).St E κ c (order.drop 70) [(2, g14), (3, g11), (4, g11), (5, g11), (6, g11), (7, g11), (8, g11), (9, g11), (0, g23), (1, g23)] ⊢ Q x) :
    (plan U m).St E κ c (order.drop 70) [(2, g12), (3, g11), (4, g11), (5, g11), (6, g11), (7, g11), (8, g11), (9, g11), (0, g23), (1, g23)]
      ⊢ wp frame (wpE defs₀ 𝒱₀ (c.tc : Thread nD τ) none) Set.univ
        (onCall (k0_part64 (F := F)) c v2 v5 v8 v11 v12 v13 v1986) Q := by
  unfold onCall
  rw [k0_part64_eq_skeleton]
  unfold k0_part64_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 65. -/
theorem part65 (c : Dev nD) (v2 v5 v8 v2014 v2015 v2016 : BitVec 32) {κ : GSem nD τ sig → ℕ} {Q : _ → sProp (MT nD τ sig Unit (Elt F) ℕ U ℕ)}
    (h : ∀ x, (plan U m).St E κ c (order.drop 70) [(2, g17), (3, g11), (4, g11), (5, g11), (6, g11), (7, g11), (8, g11), (9, g11), (0, g23), (1, g23)] ⊢ Q x) :
    (plan U m).St E κ c (order.drop 70) [(2, g14), (3, g11), (4, g11), (5, g11), (6, g11), (7, g11), (8, g11), (9, g11), (0, g23), (1, g23)]
      ⊢ wp frame (wpE defs₀ 𝒱₀ (c.tc : Thread nD τ) none) Set.univ
        (onCall (k0_part65 (F := F)) c v2 v5 v8 v2014 v2015 v2016) Q := by
  unfold onCall
  rw [k0_part65_eq_skeleton]
  unfold k0_part65_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  rw [wp_ret]
  exact (h _).trans fupd_intro

/-- The statements of part 66. -/
theorem part66 (c : Dev nD) {κ : GSem nD τ sig → ℕ} {Q : _ → sProp (MT nD τ sig Unit (Elt F) ℕ U ℕ)}
    (h : ∀ x, (plan U m).St E κ c (order.drop 70) [(2, g21), (3, g11), (4, g11), (5, g11), (6, g11), (7, g11), (8, g11), (9, g11), (0, g23), (1, g23)] ⊢ Q x) :
    (plan U m).St E κ c (order.drop 70) [(2, g17), (3, g11), (4, g11), (5, g11), (6, g11), (7, g11), (8, g11), (9, g11), (0, g23), (1, g23)]
      ⊢ wp frame (wpE defs₀ 𝒱₀ (c.tc : Thread nD τ) none) Set.univ
        (onCall (k0_part66 (F := F)) c) Q := by
  unfold onCall
  rw [k0_part66_eq_skeleton]
  unfold k0_part66_skel
  simp only [Prog.lift, Prog.bind_op, Prog.bind_ret, Prog.pure_eq_ret]
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  rw [wp_ret]
  exact (h _).trans fupd_intro

/-- The statements of part 67. -/
theorem part67 (c : Dev nD) (v2 v5 v8 v9 v10 : BitVec 32) {κ : GSem nD τ sig → ℕ} {Q : _ → sProp (MT nD τ sig Unit (Elt F) ℕ U ℕ)}
    (h : ∀ x, (plan U m).St E κ c (order.drop 70) [(3, g12), (4, g11), (5, g11), (6, g11), (7, g11), (8, g11), (9, g11), (0, g23), (1, g23), (2, g23)] ⊢ Q x) :
    (plan U m).St E κ c (order.drop 70) [(2, g21), (3, g11), (4, g11), (5, g11), (6, g11), (7, g11), (8, g11), (9, g11), (0, g23), (1, g23)]
      ⊢ wp frame (wpE defs₀ 𝒱₀ (c.tc : Thread nD τ) none) Set.univ
        (onCall (k0_part67 (F := F)) c v2 v5 v8 v9 v10) Q := by
  unfold onCall
  rw [k0_part67_eq_skeleton]
  unfold k0_part67_skel
  simp only [Prog.lift, Prog.bind_op, Prog.bind_ret, Prog.pure_eq_ret]
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 68. -/
theorem part68 (c : Dev nD) (v2 v5 v8 v11 v2085 v2086 c2_i32_1774 : BitVec 32) {κ : GSem nD τ sig → ℕ} {Q : _ → sProp (MT nD τ sig Unit (Elt F) ℕ U ℕ)}
    (h : ∀ x, (plan U m).St E κ c (order.drop 70) [(3, g13), (4, g11), (5, g11), (6, g11), (7, g11), (8, g11), (9, g11), (0, g23), (1, g23), (2, g23)] ⊢ Q x) :
    (plan U m).St E κ c (order.drop 70) [(3, g12), (4, g11), (5, g11), (6, g11), (7, g11), (8, g11), (9, g11), (0, g23), (1, g23), (2, g23)]
      ⊢ wp frame (wpE defs₀ 𝒱₀ (c.tc : Thread nD τ) none) Set.univ
        (onCall (k0_part68 (F := F)) c v2 v5 v8 v11 v2085 v2086 c2_i32_1774) Q := by
  unfold onCall
  rw [k0_part68_eq_skeleton]
  unfold k0_part68_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 69. -/
theorem part69 (c : Dev nD) (v2 v5 v8 v12 v13 : BitVec 32) {κ : GSem nD τ sig → ℕ} {Q : _ → sProp (MT nD τ sig Unit (Elt F) ℕ U ℕ)}
    (h : ∀ x, (plan U m).St E κ c (order.drop 70) [(3, g17), (4, g11), (5, g11), (6, g11), (7, g11), (8, g11), (9, g11), (0, g23), (1, g23), (2, g23)] ⊢ Q x) :
    (plan U m).St E κ c (order.drop 70) [(3, g13), (4, g11), (5, g11), (6, g11), (7, g11), (8, g11), (9, g11), (0, g23), (1, g23), (2, g23)]
      ⊢ wp frame (wpE defs₀ 𝒱₀ (c.tc : Thread nD τ) none) Set.univ
        (onCall (k0_part69 (F := F)) c v2 v5 v8 v12 v13) Q := by
  unfold onCall
  rw [k0_part69_eq_skeleton]
  unfold k0_part69_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  rw [wp_ret]
  exact (h _).trans fupd_intro

/-- The statements of part 70. -/
theorem part70 (c : Dev nD) {κ : GSem nD τ sig → ℕ} {Q : _ → sProp (MT nD τ sig Unit (Elt F) ℕ U ℕ)}
    (h : ∀ x, (plan U m).St E κ c (order.drop 70) [(3, g21), (4, g11), (5, g11), (6, g11), (7, g11), (8, g11), (9, g11), (0, g23), (1, g23), (2, g23)] ⊢ Q x) :
    (plan U m).St E κ c (order.drop 70) [(3, g17), (4, g11), (5, g11), (6, g11), (7, g11), (8, g11), (9, g11), (0, g23), (1, g23), (2, g23)]
      ⊢ wp frame (wpE defs₀ 𝒱₀ (c.tc : Thread nD τ) none) Set.univ
        (onCall (k0_part70 (F := F)) c) Q := by
  unfold onCall
  rw [k0_part70_eq_skeleton]
  unfold k0_part70_skel
  simp only [Prog.lift, Prog.bind_op, Prog.bind_ret, Prog.pure_eq_ret]
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  rw [wp_ret]
  exact (h _).trans fupd_intro

/-- The statements of part 71. -/
theorem part71 (c : Dev nD) (v2 v5 v8 v9 v10 : BitVec 32) {κ : GSem nD τ sig → ℕ} {Q : _ → sProp (MT nD τ sig Unit (Elt F) ℕ U ℕ)}
    (h : ∀ x, (plan U m).St E κ c (order.drop 70) [(4, g12), (5, g11), (6, g11), (7, g11), (8, g11), (9, g11), (0, g23), (1, g23), (2, g23), (3, g23)] ⊢ Q x) :
    (plan U m).St E κ c (order.drop 70) [(3, g21), (4, g11), (5, g11), (6, g11), (7, g11), (8, g11), (9, g11), (0, g23), (1, g23), (2, g23)]
      ⊢ wp frame (wpE defs₀ 𝒱₀ (c.tc : Thread nD τ) none) Set.univ
        (onCall (k0_part71 (F := F)) c v2 v5 v8 v9 v10) Q := by
  unfold onCall
  rw [k0_part71_eq_skeleton]
  unfold k0_part71_skel
  simp only [Prog.lift, Prog.bind_op, Prog.bind_ret, Prog.pure_eq_ret]
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 72. -/
theorem part72 (c : Dev nD) (v2 v5 v8 v11 v12 : BitVec 32) {κ : GSem nD τ sig → ℕ} {Q : _ → sProp (MT nD τ sig Unit (Elt F) ℕ U ℕ)}
    (h : ∀ x, (plan U m).St E κ c (order.drop 70) [(4, g14), (5, g11), (6, g11), (7, g11), (8, g11), (9, g11), (0, g23), (1, g23), (2, g23), (3, g23)] ⊢ Q x) :
    (plan U m).St E κ c (order.drop 70) [(4, g12), (5, g11), (6, g11), (7, g11), (8, g11), (9, g11), (0, g23), (1, g23), (2, g23), (3, g23)]
      ⊢ wp frame (wpE defs₀ 𝒱₀ (c.tc : Thread nD τ) none) Set.univ
        (onCall (k0_part72 (F := F)) c v2 v5 v8 v11 v12) Q := by
  unfold onCall
  rw [k0_part72_eq_skeleton]
  unfold k0_part72_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 73. -/
theorem part73 (c : Dev nD) (v2 v5 v8 v13 v2224 v2225 c2_i32_1921 : BitVec 32) {κ : GSem nD τ sig → ℕ} {Q : _ → sProp (MT nD τ sig Unit (Elt F) ℕ U ℕ)}
    (h : ∀ x, (plan U m).St E κ c (order.drop 70) [(4, g17), (5, g11), (6, g11), (7, g11), (8, g11), (9, g11), (0, g23), (1, g23), (2, g23), (3, g23)] ⊢ Q x) :
    (plan U m).St E κ c (order.drop 70) [(4, g14), (5, g11), (6, g11), (7, g11), (8, g11), (9, g11), (0, g23), (1, g23), (2, g23), (3, g23)]
      ⊢ wp frame (wpE defs₀ 𝒱₀ (c.tc : Thread nD τ) none) Set.univ
        (onCall (k0_part73 (F := F)) c v2 v5 v8 v13 v2224 v2225 c2_i32_1921) Q := by
  unfold onCall
  rw [k0_part73_eq_skeleton]
  unfold k0_part73_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  rw [wp_ret]
  exact (h _).trans fupd_intro

/-- The statements of part 74. -/
theorem part74 (c : Dev nD) {κ : GSem nD τ sig → ℕ} {Q : _ → sProp (MT nD τ sig Unit (Elt F) ℕ U ℕ)}
    (h : ∀ x, (plan U m).St E κ c (order.drop 70) [(4, g21), (5, g11), (6, g11), (7, g11), (8, g11), (9, g11), (0, g23), (1, g23), (2, g23), (3, g23)] ⊢ Q x) :
    (plan U m).St E κ c (order.drop 70) [(4, g17), (5, g11), (6, g11), (7, g11), (8, g11), (9, g11), (0, g23), (1, g23), (2, g23), (3, g23)]
      ⊢ wp frame (wpE defs₀ 𝒱₀ (c.tc : Thread nD τ) none) Set.univ
        (onCall (k0_part74 (F := F)) c) Q := by
  unfold onCall
  rw [k0_part74_eq_skeleton]
  unfold k0_part74_skel
  simp only [Prog.lift, Prog.bind_op, Prog.bind_ret, Prog.pure_eq_ret]
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  rw [wp_ret]
  exact (h _).trans fupd_intro

/-- The statements of part 75. -/
theorem part75 (c : Dev nD) (v2 v5 v8 v9 v10 : BitVec 32) {κ : GSem nD τ sig → ℕ} {Q : _ → sProp (MT nD τ sig Unit (Elt F) ℕ U ℕ)}
    (h : ∀ x, (plan U m).St E κ c (order.drop 70) [(5, g12), (6, g11), (7, g11), (8, g11), (9, g11), (0, g23), (1, g23), (2, g23), (3, g23), (4, g23)] ⊢ Q x) :
    (plan U m).St E κ c (order.drop 70) [(4, g21), (5, g11), (6, g11), (7, g11), (8, g11), (9, g11), (0, g23), (1, g23), (2, g23), (3, g23)]
      ⊢ wp frame (wpE defs₀ 𝒱₀ (c.tc : Thread nD τ) none) Set.univ
        (onCall (k0_part75 (F := F)) c v2 v5 v8 v9 v10) Q := by
  unfold onCall
  rw [k0_part75_eq_skeleton]
  unfold k0_part75_skel
  simp only [Prog.lift, Prog.bind_op, Prog.bind_ret, Prog.pure_eq_ret]
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 76. -/
theorem part76 (c : Dev nD) (v2 v5 v8 v11 v12 v13 v2301 c2_i32_2015 : BitVec 32) {κ : GSem nD τ sig → ℕ} {Q : _ → sProp (MT nD τ sig Unit (Elt F) ℕ U ℕ)}
    (h : ∀ x, (plan U m).St E κ c (order.drop 70) [(5, g14), (6, g11), (7, g11), (8, g11), (9, g11), (0, g23), (1, g23), (2, g23), (3, g23), (4, g23)] ⊢ Q x) :
    (plan U m).St E κ c (order.drop 70) [(5, g12), (6, g11), (7, g11), (8, g11), (9, g11), (0, g23), (1, g23), (2, g23), (3, g23), (4, g23)]
      ⊢ wp frame (wpE defs₀ 𝒱₀ (c.tc : Thread nD τ) none) Set.univ
        (onCall (k0_part76 (F := F)) c v2 v5 v8 v11 v12 v13 v2301 c2_i32_2015) Q := by
  unfold onCall
  rw [k0_part76_eq_skeleton]
  unfold k0_part76_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 77. -/
theorem part77 (c : Dev nD) (v2 v5 v8 : BitVec 32) {κ : GSem nD τ sig → ℕ} {Q : _ → sProp (MT nD τ sig Unit (Elt F) ℕ U ℕ)}
    (h : ∀ x, (plan U m).St E κ c (order.drop 70) [(5, g18), (6, g11), (7, g11), (8, g11), (9, g11), (0, g23), (1, g23), (2, g23), (3, g23), (4, g23)] ⊢ Q x) :
    (plan U m).St E κ c (order.drop 70) [(5, g14), (6, g11), (7, g11), (8, g11), (9, g11), (0, g23), (1, g23), (2, g23), (3, g23), (4, g23)]
      ⊢ wp frame (wpE defs₀ 𝒱₀ (c.tc : Thread nD τ) none) Set.univ
        (onCall (k0_part77 (F := F)) c v2 v5 v8) Q := by
  unfold onCall
  rw [k0_part77_eq_skeleton]
  unfold k0_part77_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  refine Plan.wait _ E defs₀ 𝒱₀ (js 2) (W' := [js 6, js 5, js 4, js 3, jl]) (by decide) (fun _ h => absurd h List.not_mem_nil) rfl rfl ?_
  rw [wp_ret]
  exact (h _).trans fupd_intro

/-- The statements of part 78. -/
theorem part78 (c : Dev nD) {κ : GSem nD τ sig → ℕ} {Q : _ → sProp (MT nD τ sig Unit (Elt F) ℕ U ℕ)}
    (h : ∀ x, (plan U m).St E κ c (order.drop 70) [(5, g22), (6, g11), (7, g11), (8, g11), (9, g11), (0, g23), (1, g23), (2, g23), (3, g23), (4, g23)] ⊢ Q x) :
    (plan U m).St E κ c (order.drop 70) [(5, g18), (6, g11), (7, g11), (8, g11), (9, g11), (0, g23), (1, g23), (2, g23), (3, g23), (4, g23)]
      ⊢ wp frame (wpE defs₀ 𝒱₀ (c.tc : Thread nD τ) none) Set.univ
        (onCall (k0_part78 (F := F)) c) Q := by
  unfold onCall
  rw [k0_part78_eq_skeleton]
  unfold k0_part78_skel
  simp only [Prog.lift, Prog.bind_op, Prog.bind_ret, Prog.pure_eq_ret]
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  refine Plan.wait _ E defs₀ 𝒱₀ (js 6) (W' := [jl]) (by decide) (fun _ h => absurd h List.not_mem_nil) rfl rfl ?_
  rw [wp_ret]
  exact (h _).trans fupd_intro

/-- The statements of part 79. -/
theorem part79 (c : Dev nD) (v2 v5 v8 v9 v10 : BitVec 32) {κ : GSem nD τ sig → ℕ} {Q : _ → sProp (MT nD τ sig Unit (Elt F) ℕ U ℕ)}
    (h : ∀ x, (plan U m).St E κ c (order.drop 70) [(6, g12), (7, g11), (8, g11), (9, g11), (0, g23), (1, g23), (2, g23), (3, g23), (4, g23), (5, g23)] ⊢ Q x) :
    (plan U m).St E κ c (order.drop 70) [(5, g22), (6, g11), (7, g11), (8, g11), (9, g11), (0, g23), (1, g23), (2, g23), (3, g23), (4, g23)]
      ⊢ wp frame (wpE defs₀ 𝒱₀ (c.tc : Thread nD τ) none) Set.univ
        (onCall (k0_part79 (F := F)) c v2 v5 v8 v9 v10) Q := by
  unfold onCall
  rw [k0_part79_eq_skeleton]
  unfold k0_part79_skel
  simp only [Prog.lift, Prog.bind_op, Prog.bind_ret, Prog.pure_eq_ret]
  refine Plan.wait _ E defs₀ 𝒱₀ jl (W' := []) (by decide) (fun _ h => absurd h List.not_mem_nil) rfl rfl ?_
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 80. -/
theorem part80 (c : Dev nD) (v2 v5 v8 v11 v12 v13 : BitVec 32) {κ : GSem nD τ sig → ℕ} {Q : _ → sProp (MT nD τ sig Unit (Elt F) ℕ U ℕ)}
    (h : ∀ x, (plan U m).St E κ c (order.drop 70) [(6, g14), (7, g11), (8, g11), (9, g11), (0, g23), (1, g23), (2, g23), (3, g23), (4, g23), (5, g23)] ⊢ Q x) :
    (plan U m).St E κ c (order.drop 70) [(6, g12), (7, g11), (8, g11), (9, g11), (0, g23), (1, g23), (2, g23), (3, g23), (4, g23), (5, g23)]
      ⊢ wp frame (wpE defs₀ 𝒱₀ (c.tc : Thread nD τ) none) Set.univ
        (onCall (k0_part80 (F := F)) c v2 v5 v8 v11 v12 v13) Q := by
  unfold onCall
  rw [k0_part80_eq_skeleton]
  unfold k0_part80_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 81. -/
theorem part81 (c : Dev nD) (v5 v8 v2440 c2_i32_2162 : BitVec 32) {κ : GSem nD τ sig → ℕ} {Q : _ → sProp (MT nD τ sig Unit (Elt F) ℕ U ℕ)}
    (h : ∀ x, (plan U m).St E κ c (order.drop 70) [(6, g18), (7, g11), (8, g11), (9, g11), (0, g23), (1, g23), (2, g23), (3, g23), (4, g23), (5, g23)] ⊢ Q x) :
    (plan U m).St E κ c (order.drop 70) [(6, g14), (7, g11), (8, g11), (9, g11), (0, g23), (1, g23), (2, g23), (3, g23), (4, g23), (5, g23)]
      ⊢ wp frame (wpE defs₀ 𝒱₀ (c.tc : Thread nD τ) none) Set.univ
        (onCall (k0_part81 (F := F)) c v5 v8 v2440 c2_i32_2162) Q := by
  unfold onCall
  rw [k0_part81_eq_skeleton]
  unfold k0_part81_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  refine Plan.wait _ E defs₀ 𝒱₀ (js 2) (W' := [js 6, js 5, js 4, js 3, jl]) (by decide) (fun _ h => absurd h List.not_mem_nil) rfl rfl ?_
  rw [wp_ret]
  exact (h _).trans fupd_intro

/-- The statements of part 82. -/
theorem part82 (c : Dev nD) {κ : GSem nD τ sig → ℕ} {Q : _ → sProp (MT nD τ sig Unit (Elt F) ℕ U ℕ)}
    (h : ∀ x, (plan U m).St E κ c (order.drop 70) [(6, g23), (7, g11), (8, g11), (9, g11), (0, g23), (1, g23), (2, g23), (3, g23), (4, g23), (5, g23)] ⊢ Q x) :
    (plan U m).St E κ c (order.drop 70) [(6, g18), (7, g11), (8, g11), (9, g11), (0, g23), (1, g23), (2, g23), (3, g23), (4, g23), (5, g23)]
      ⊢ wp frame (wpE defs₀ 𝒱₀ (c.tc : Thread nD τ) none) Set.univ
        (onCall (k0_part82 (F := F)) c) Q := by
  unfold onCall
  rw [k0_part82_eq_skeleton]
  unfold k0_part82_skel
  simp only [Prog.lift, Prog.bind_op, Prog.bind_ret, Prog.pure_eq_ret]
  refine Plan.wait _ E defs₀ 𝒱₀ (js 3) (W' := [js 6, js 5, js 4, jl]) (by decide) (fun _ h => absurd h List.not_mem_nil) rfl rfl ?_
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  rw [wp_ret]
  exact (h _).trans fupd_intro

/-- The statements of part 83. -/
theorem part83 (c : Dev nD) (v2 v5 v8 v9 v10 : BitVec 32) {κ : GSem nD τ sig → ℕ} {Q : _ → sProp (MT nD τ sig Unit (Elt F) ℕ U ℕ)}
    (h : ∀ x, (plan U m).St E κ c (order.drop 70) [(7, g12), (8, g11), (9, g11), (0, g23), (1, g23), (2, g23), (3, g23), (4, g23), (5, g23), (6, g23)] ⊢ Q x) :
    (plan U m).St E κ c (order.drop 70) [(6, g23), (7, g11), (8, g11), (9, g11), (0, g23), (1, g23), (2, g23), (3, g23), (4, g23), (5, g23)]
      ⊢ wp frame (wpE defs₀ 𝒱₀ (c.tc : Thread nD τ) none) Set.univ
        (onCall (k0_part83 (F := F)) c v2 v5 v8 v9 v10) Q := by
  unfold onCall
  rw [k0_part83_eq_skeleton]
  unfold k0_part83_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  rw [wp_ret]
  exact (h _).trans fupd_intro

/-- The statements of part 84. -/
theorem part84 (c : Dev nD) (v2 v5 v8 v11 v12 v13 : BitVec 32) {κ : GSem nD τ sig → ℕ} {Q : _ → sProp (MT nD τ sig Unit (Elt F) ℕ U ℕ)}
    (h : ∀ x, (plan U m).St E κ c (order.drop 70) [(7, g14), (8, g11), (9, g11), (0, g23), (1, g23), (2, g23), (3, g23), (4, g23), (5, g23), (6, g23)] ⊢ Q x) :
    (plan U m).St E κ c (order.drop 70) [(7, g12), (8, g11), (9, g11), (0, g23), (1, g23), (2, g23), (3, g23), (4, g23), (5, g23), (6, g23)]
      ⊢ wp frame (wpE defs₀ 𝒱₀ (c.tc : Thread nD τ) none) Set.univ
        (onCall (k0_part84 (F := F)) c v2 v5 v8 v11 v12 v13) Q := by
  unfold onCall
  rw [k0_part84_eq_skeleton]
  unfold k0_part84_skel
  simp only [Prog.lift, Prog.bind_op, Prog.bind_ret, Prog.pure_eq_ret]
  refine Plan.wait _ E defs₀ 𝒱₀ (jr 4) (W' := [js 6, js 5, js 4, js 3, js 2, js 1, js 0, jl, jr 5, jr 6]) (by decide) (fun _ h => absurd h List.not_mem_nil) rfl rfl ?_
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 85. -/
theorem part85 (c : Dev nD) {κ : GSem nD τ sig → ℕ} {Q : _ → sProp (MT nD τ sig Unit (Elt F) ℕ U ℕ)}
    (h : ∀ x, (plan U m).St E κ c (order.drop 70) [(7, g19), (8, g11), (9, g11), (0, g23), (1, g23), (2, g23), (3, g23), (4, g23), (5, g23), (6, g23)] ⊢ Q x) :
    (plan U m).St E κ c (order.drop 70) [(7, g14), (8, g11), (9, g11), (0, g23), (1, g23), (2, g23), (3, g23), (4, g23), (5, g23), (6, g23)]
      ⊢ wp frame (wpE defs₀ 𝒱₀ (c.tc : Thread nD τ) none) Set.univ
        (onCall (k0_part85 (F := F)) c) Q := by
  unfold onCall
  rw [k0_part85_eq_skeleton]
  unfold k0_part85_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  rw [wp_ret]
  exact (h _).trans fupd_intro

/-- The statements of part 86. -/
theorem part86 (c : Dev nD) (v2 v5 v9 : BitVec 32) {κ : GSem nD τ sig → ℕ} {Q : _ → sProp (MT nD τ sig Unit (Elt F) ℕ U ℕ)}
    (h : ∀ x, (plan U m).St E κ c (order.drop 70) [(7, g23), (8, g11), (9, g11), (0, g23), (1, g23), (2, g23), (3, g23), (4, g23), (5, g23), (6, g23)] ⊢ Q x) :
    (plan U m).St E κ c (order.drop 70) [(7, g19), (8, g11), (9, g11), (0, g23), (1, g23), (2, g23), (3, g23), (4, g23), (5, g23), (6, g23)]
      ⊢ wp frame (wpE defs₀ 𝒱₀ (c.tc : Thread nD τ) none) Set.univ
        (onCall (k0_part86 (F := F)) c v2 v5 v9) Q := by
  unfold onCall
  rw [k0_part86_eq_skeleton]
  unfold k0_part86_skel
  simp only [Prog.lift, Prog.bind_op, Prog.bind_ret, Prog.pure_eq_ret]
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  rw [wp_ret]
  exact (h _).trans fupd_intro

/-- The statements of part 87. -/
theorem part87 (c : Dev nD) (v2 v5 v8 v10 : BitVec 32) {κ : GSem nD τ sig → ℕ} {Q : _ → sProp (MT nD τ sig Unit (Elt F) ℕ U ℕ)}
    (h : ∀ x, (plan U m).St E κ c (order.drop 70) [(8, g13), (9, g11), (0, g23), (1, g23), (2, g23), (3, g23), (4, g23), (5, g23), (6, g23), (7, g23)] ⊢ Q x) :
    (plan U m).St E κ c (order.drop 70) [(7, g23), (8, g11), (9, g11), (0, g23), (1, g23), (2, g23), (3, g23), (4, g23), (5, g23), (6, g23)]
      ⊢ wp frame (wpE defs₀ 𝒱₀ (c.tc : Thread nD τ) none) Set.univ
        (onCall (k0_part87 (F := F)) c v2 v5 v8 v10) Q := by
  unfold onCall
  rw [k0_part87_eq_skeleton]
  unfold k0_part87_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 88. -/
theorem part88 (c : Dev nD) (v2 v5 v8 v11 v12 v13 v2627 : BitVec 32) {κ : GSem nD τ sig → ℕ} {Q : _ → sProp (MT nD τ sig Unit (Elt F) ℕ U ℕ)}
    (h : ∀ x, (plan U m).St E κ c (order.drop 70) [(8, g14), (9, g11), (0, g23), (1, g23), (2, g23), (3, g23), (4, g23), (5, g23), (6, g23), (7, g23)] ⊢ Q x) :
    (plan U m).St E κ c (order.drop 70) [(8, g13), (9, g11), (0, g23), (1, g23), (2, g23), (3, g23), (4, g23), (5, g23), (6, g23), (7, g23)]
      ⊢ wp frame (wpE defs₀ 𝒱₀ (c.tc : Thread nD τ) none) Set.univ
        (onCall (k0_part88 (F := F)) c v2 v5 v8 v11 v12 v13 v2627) Q := by
  unfold onCall
  rw [k0_part88_eq_skeleton]
  unfold k0_part88_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  rw [wp_ret]
  exact (h _).trans fupd_intro

/-- The statements of part 89. -/
theorem part89 (c : Dev nD) {κ : GSem nD τ sig → ℕ} {Q : _ → sProp (MT nD τ sig Unit (Elt F) ℕ U ℕ)}
    (h : ∀ x, (plan U m).St E κ c (order.drop 70) [(8, g19), (9, g11), (0, g23), (1, g23), (2, g23), (3, g23), (4, g23), (5, g23), (6, g23), (7, g23)] ⊢ Q x) :
    (plan U m).St E κ c (order.drop 70) [(8, g14), (9, g11), (0, g23), (1, g23), (2, g23), (3, g23), (4, g23), (5, g23), (6, g23), (7, g23)]
      ⊢ wp frame (wpE defs₀ 𝒱₀ (c.tc : Thread nD τ) none) Set.univ
        (onCall (k0_part89 (F := F)) c) Q := by
  unfold onCall
  rw [k0_part89_eq_skeleton]
  unfold k0_part89_skel
  simp only [Prog.lift, Prog.bind_op, Prog.bind_ret, Prog.pure_eq_ret]
  refine Plan.wait _ E defs₀ 𝒱₀ (jr 6) (W' := [js 6, js 5, js 4, js 3, js 2, js 1, js 0, jl]) (by decide) (fun _ h => absurd h List.not_mem_nil) rfl rfl ?_
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  rw [wp_ret]
  exact (h _).trans fupd_intro

/-- The statements of part 90. -/
theorem part90 (c : Dev nD) (v2 v5 v9 : BitVec 32) {κ : GSem nD τ sig → ℕ} {Q : _ → sProp (MT nD τ sig Unit (Elt F) ℕ U ℕ)}
    (h : ∀ x, (plan U m).St E κ c (order.drop 70) [(8, g23), (9, g11), (0, g23), (1, g23), (2, g23), (3, g23), (4, g23), (5, g23), (6, g23), (7, g23)] ⊢ Q x) :
    (plan U m).St E κ c (order.drop 70) [(8, g19), (9, g11), (0, g23), (1, g23), (2, g23), (3, g23), (4, g23), (5, g23), (6, g23), (7, g23)]
      ⊢ wp frame (wpE defs₀ 𝒱₀ (c.tc : Thread nD τ) none) Set.univ
        (onCall (k0_part90 (F := F)) c v2 v5 v9) Q := by
  unfold onCall
  rw [k0_part90_eq_skeleton]
  unfold k0_part90_skel
  simp only [Prog.lift, Prog.bind_op, Prog.bind_ret, Prog.pure_eq_ret]
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  rw [wp_ret]
  exact (h _).trans fupd_intro

/-- The statements of part 91. -/
theorem part91 (c : Dev nD) (v2 v5 v8 v10 v11 v2703 : BitVec 32) {κ : GSem nD τ sig → ℕ} {Q : _ → sProp (MT nD τ sig Unit (Elt F) ℕ U ℕ)}
    (h : ∀ x, (plan U m).St E κ c (order.drop 70) [(9, g13), (0, g23), (1, g23), (2, g23), (3, g23), (4, g23), (5, g23), (6, g23), (7, g23), (8, g23)] ⊢ Q x) :
    (plan U m).St E κ c (order.drop 70) [(8, g23), (9, g11), (0, g23), (1, g23), (2, g23), (3, g23), (4, g23), (5, g23), (6, g23), (7, g23)]
      ⊢ wp frame (wpE defs₀ 𝒱₀ (c.tc : Thread nD τ) none) Set.univ
        (onCall (k0_part91 (F := F)) c v2 v5 v8 v10 v11 v2703) Q := by
  unfold onCall
  rw [k0_part91_eq_skeleton]
  unfold k0_part91_skel
  simp only [Prog.lift, Prog.bind_op, Prog.bind_ret, Prog.pure_eq_ret]
  refine Plan.next _ E ?_
  simp only [List.cons_append, List.nil_append]
  refine Plan.wait _ E defs₀ 𝒱₀ (jr 0) (W' := [js 6, js 5, js 4, js 3, js 2, js 1, js 0, jl, jr 4, jr 5, jr 6]) (by decide) (fun _ h => absurd h List.not_mem_nil) rfl rfl ?_
  refine Plan.wait _ E defs₀ 𝒱₀ (jr 4) (W' := [js 6, js 5, js 4, js 3, js 2, js 1, js 0, jl, jr 5, jr 6]) (by decide) (fun _ h => absurd h List.not_mem_nil) rfl rfl ?_
  rw [wp_ret]
  exact (h _).trans fupd_intro

/-- The statements of part 92. -/
theorem part92 (c : Dev nD) (v2 v5 v8 v12 v13 : BitVec 32) {κ : GSem nD τ sig → ℕ} {Q : _ → sProp (MT nD τ sig Unit (Elt F) ℕ U ℕ)}
    (h : ∀ x, (plan U m).St E κ c (order.drop 70) [(9, g15), (0, g23), (1, g23), (2, g23), (3, g23), (4, g23), (5, g23), (6, g23), (7, g23), (8, g23)] ⊢ Q x) :
    (plan U m).St E κ c (order.drop 70) [(9, g13), (0, g23), (1, g23), (2, g23), (3, g23), (4, g23), (5, g23), (6, g23), (7, g23), (8, g23)]
      ⊢ wp frame (wpE defs₀ 𝒱₀ (c.tc : Thread nD τ) none) Set.univ
        (onCall (k0_part92 (F := F)) c v2 v5 v8 v12 v13) Q := by
  unfold onCall
  rw [k0_part92_eq_skeleton]
  unfold k0_part92_skel
  simp only [Prog.lift, Prog.bind_op, Prog.bind_ret, Prog.pure_eq_ret]
  refine Plan.wait _ E defs₀ 𝒱₀ (jr 5) (W' := [js 6, js 5, js 4, js 3, js 2, js 1, js 0, jl, jr 6]) (by decide) (fun _ h => absurd h List.not_mem_nil) rfl rfl ?_
  refine Plan.wait _ E defs₀ 𝒱₀ (jr 6) (W' := [js 6, js 5, js 4, js 3, js 2, js 1, js 0, jl]) (by decide) (fun _ h => absurd h List.not_mem_nil) rfl rfl ?_
  rw [wp_ret]
  exact (h _).trans fupd_intro

/-- The statements of part 93. -/
theorem part93 (c : Dev nD) {κ : GSem nD τ sig → ℕ} {Q : _ → sProp (MT nD τ sig Unit (Elt F) ℕ U ℕ)}
    (h : ∀ x, (plan U m).St E κ c (order.drop 70) [(9, g19), (0, g23), (1, g23), (2, g23), (3, g23), (4, g23), (5, g23), (6, g23), (7, g23), (8, g23)] ⊢ Q x) :
    (plan U m).St E κ c (order.drop 70) [(9, g15), (0, g23), (1, g23), (2, g23), (3, g23), (4, g23), (5, g23), (6, g23), (7, g23), (8, g23)]
      ⊢ wp frame (wpE defs₀ 𝒱₀ (c.tc : Thread nD τ) none) Set.univ
        (onCall (k0_part93 (F := F)) c) Q := by
  unfold onCall
  rw [k0_part93_eq_skeleton]
  unfold k0_part93_skel
  simp only [Prog.lift, Prog.bind_op, Prog.bind_ret, Prog.pure_eq_ret]
  refine Plan.wait _ E defs₀ 𝒱₀ (js 0) (W' := [js 6, js 5, js 4, js 3, js 2, js 1, jl]) (by decide) (fun _ h => absurd h List.not_mem_nil) rfl rfl ?_
  refine Plan.wait _ E defs₀ 𝒱₀ (js 1) (W' := [js 6, js 5, js 4, js 3, js 2, jl]) (by decide) (fun _ h => absurd h List.not_mem_nil) rfl rfl ?_
  refine Plan.wait _ E defs₀ 𝒱₀ (js 2) (W' := [js 6, js 5, js 4, js 3, jl]) (by decide) (fun _ h => absurd h List.not_mem_nil) rfl rfl ?_
  refine Plan.wait _ E defs₀ 𝒱₀ (js 3) (W' := [js 6, js 5, js 4, jl]) (by decide) (fun _ h => absurd h List.not_mem_nil) rfl rfl ?_
  rw [wp_ret]
  exact (h _).trans fupd_intro

/-- The statements of part 95. -/
theorem part95 (c : Dev nD) (v2 v5 v8 v9 v10 v11 v12 v13 v1909 v1910 v1911 : BitVec 32) {κ : GSem nD τ sig → ℕ} {Q : _ → sProp (MT nD τ sig Unit (Elt F) ℕ U ℕ)}
    (h : ∀ x, (plan U m).St E κ c (order.drop 70) [(9, g21), (0, g23), (1, g23), (2, g23), (3, g23), (4, g23), (5, g23), (6, g23), (7, g23), (8, g23)] ⊢ Q x) :
    (plan U m).St E κ c (order.drop 70) [(1, g14), (2, g11), (3, g11), (4, g11), (5, g11), (6, g11), (7, g11), (8, g11), (9, g11), (0, g23)]
      ⊢ wp frame (wpE defs₀ 𝒱₀ (c.tc : Thread nD τ) none) Set.univ
        (onCall (k0_part95 (F := F)) c v2 v5 v8 v9 v10 v11 v12 v13 v1909 v1910 v1911) Q := by
  unfold onCall
  rw [k0_part95_eq_skeleton]
  unfold k0_part95_skel
  rw [wp_bind]
  refine part61 E m _ _ _ _ _ _ _ fun x => ?_
  rw [wp_bind]
  refine part62 E m _ fun x => ?_
  rw [wp_bind]
  refine part63 E m _ _ _ _ _ _ fun x => ?_
  rw [wp_bind]
  refine part64 E m _ _ _ _ _ _ _ _ fun x => ?_
  rw [wp_bind]
  refine part65 E m _ _ _ _ _ _ _ fun x => ?_
  rw [wp_bind]
  refine part66 E m _ fun x => ?_
  rw [wp_bind]
  refine part67 E m _ _ _ _ _ _ fun x => ?_
  rw [wp_bind]
  refine part68 E m _ _ _ _ _ _ _ _ fun x => ?_
  rw [wp_bind]
  refine part69 E m _ _ _ _ _ _ fun x => ?_
  rw [wp_bind]
  refine part70 E m _ fun x => ?_
  rw [wp_bind]
  refine part71 E m _ _ _ _ _ _ fun x => ?_
  rw [wp_bind]
  refine part72 E m _ _ _ _ _ _ fun x => ?_
  rw [wp_bind]
  refine part73 E m _ _ _ _ _ _ _ _ fun x => ?_
  rw [wp_bind]
  refine part74 E m _ fun x => ?_
  rw [wp_bind]
  refine part75 E m _ _ _ _ _ _ fun x => ?_
  rw [wp_bind]
  refine part76 E m _ _ _ _ _ _ _ _ _ fun x => ?_
  rw [wp_bind]
  refine part77 E m _ _ _ _ fun x => ?_
  rw [wp_bind]
  refine part78 E m _ fun x => ?_
  rw [wp_bind]
  refine part79 E m _ _ _ _ _ _ fun x => ?_
  rw [wp_bind]
  refine part80 E m _ _ _ _ _ _ _ fun x => ?_
  rw [wp_bind]
  refine part81 E m _ _ _ _ _ fun x => ?_
  rw [wp_bind]
  refine part82 E m _ fun x => ?_
  rw [wp_bind]
  refine part83 E m _ _ _ _ _ _ fun x => ?_
  rw [wp_bind]
  refine part84 E m _ _ _ _ _ _ _ fun x => ?_
  rw [wp_bind]
  refine part85 E m _ fun x => ?_
  rw [wp_bind]
  refine part86 E m _ _ _ _ fun x => ?_
  rw [wp_bind]
  refine part87 E m _ _ _ _ _ fun x => ?_
  rw [wp_bind]
  refine part88 E m _ _ _ _ _ _ _ _ fun x => ?_
  rw [wp_bind]
  refine part89 E m _ fun x => ?_
  rw [wp_bind]
  refine part90 E m _ _ _ _ fun x => ?_
  rw [wp_bind]
  refine part91 E m _ _ _ _ _ _ _ fun x => ?_
  rw [wp_bind]
  refine part92 E m _ _ _ _ _ _ fun x => ?_
  rw [wp_bind]
  refine part93 E m _ fun x => ?_
  simp only [Prog.lift, Prog.bind_op, Prog.bind_ret, Prog.pure_eq_ret]
  refine Plan.wait _ E defs₀ 𝒱₀ (js 4) (W' := [js 6, js 5, jl]) (by decide) (fun _ h => absurd h List.not_mem_nil) rfl rfl ?_
  refine Plan.wait _ E defs₀ 𝒱₀ (js 5) (W' := [js 6, jl]) (by decide) (fun _ h => absurd h List.not_mem_nil) rfl rfl ?_
  rw [wp_ret]
  exact (h _).trans fupd_intro

/-- The kernel on one device: it ends with nothing owed, holding what its copies brought back. -/
theorem body (c : Dev nD) {κ : GSem nD τ sig → ℕ} :
    (plan U m).St E κ c order [(0, g0), (1, g0), (2, g0), (3, g0), (4, g0), (5, g0), (6, g0), (7, g0), (8, g0), (9, g0)]
      ⊢ wp frame (wpE defs₀ 𝒱₀ (c.tc : Thread nD τ) none) Set.univ
        (onCall (cc0_comm_gather_weights (F := F)))
        fun _ => (plan U m).St E κ c [] [(0, g23), (1, g23), (2, g23), (3, g23), (4, g23), (5, g23), (6, g23), (7, g23), (8, g23), (9, g23)] := by
  unfold onCall
  rw [cc0_comm_gather_weights_eq_skeleton]
  unfold cc0_comm_gather_weights_skel
  rw [wp_bind]
  refine part94 E m c fun x hx => ?_
  obtain ⟨d0, v2, v5, v8, v9, v10, v11, v12, v13, v1909, v1910, v1911⟩ := x
  subst hx
  dsimp only
  rw [wp_bind]
  refine part95 E m _ _ _ _ _ _ _ _ _ _ _ _ fun x => ?_
  simp only [Prog.lift, Prog.bind_op, Prog.bind_ret, Prog.pure_eq_ret]
  refine Plan.wait _ E defs₀ 𝒱₀ (js 6) (W' := [jl]) (by decide) (fun _ h => absurd h List.not_mem_nil) rfl rfl ?_
  refine Plan.wait _ E defs₀ 𝒱₀ jl (W' := []) (by decide) (fun _ h => absurd h List.not_mem_nil) rfl rfl ?_
  refine Plan.next _ E ?_
  simp only [List.cons_append, List.nil_append]
  rw [wp_ret]
  exact fupd_intro

end Cert.Shards

end
-- ==== Proof.Shards.Run.lean ====
/-
# The gather of the weights: the run

Every device ends with all eight devices' blocks, one after the other, of each of the ten arrays.
-/
module

public import proofs.«01_k».proof.Proof.Comm.Alone
public import proofs.«01_k».proof.Proof.Shards.Body

@[expose] public section

set_option maxRecDepth 65536

noncomputable section

namespace Cert.Shards

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Comm Cert.WeightsIdeal Cert.WeightsIdeal.Gen

variable {F : FTy → Type} [FloatOps F]

/-- The ghost state: the launch's own part, and the copies' rounds. -/
abbrev UU := UR sig nD τ × URounds (GSem nD τ sig) Unit

/-- Where the copies' rounds live. -/
abbrev ER : Emb (URounds (GSem nD τ sig) Unit) (MT nD τ sig Unit (Elt F) ℕ UU ℕ) := embR

variable (m : (ℓ : Loc nD τ sig) → Buf (Elt F) ℓ) (ρ : Dev nD → PrngReg)

/-- What the launch's ghost state is. -/
def u₀ : UU := (initOf (Pipeline.cells cfgs cellOf_inj) (Pipeline.launchToks cfgs cellOf_inj), launchOf (plan UU m).cells ∅ (plan UU m).minted)

/-- The call's own semaphores are the plan's. -/
theorem ownSemFacts : OwnSemFacts cfg0.spec (fun k : Fin 10 × Jx => (.dma (semOf k) : SemLoc sig)) :=
  ⟨fun k => by revert k; decide, fun k k' h => semOf_inj (SemLoc.dma.inj h), fun k w => w.elim0⟩

/-- Every semaphore is taken and given back by the call. -/
theorem all_scoped : ∀ sm : SemLoc sig, sm.isScoped .tc = true := by decide

/-- The arrays of a device. -/
theorem arrays (c : Dev nD) (V : (b : Ref sig .tc) → Buf (Elt F) ((c.tc : Thread nD τ).loc b)) :
    (unscopedBufs c V : sProp (MT nD τ sig Unit (Elt F) ℕ UU ℕ))
      = iprop((((c : Thread nD τ).loc main_arg0) ↦{fullShare} V main_arg0) ∗ (((c : Thread nD τ).loc main_v1_0) ↦{fullShare} V main_v1_0) ∗ (((c : Thread nD τ).loc main_arg1) ↦{fullShare} V main_arg1) ∗ (((c : Thread nD τ).loc main_v1_1) ↦{fullShare} V main_v1_1) ∗ (((c : Thread nD τ).loc main_arg2) ↦{fullShare} V main_arg2) ∗ (((c : Thread nD τ).loc main_v1_2) ↦{fullShare} V main_v1_2) ∗ (((c : Thread nD τ).loc main_arg3) ↦{fullShare} V main_arg3) ∗ (((c : Thread nD τ).loc main_v1_3) ↦{fullShare} V main_v1_3) ∗ (((c : Thread nD τ).loc main_arg4) ↦{fullShare} V main_arg4) ∗ (((c : Thread nD τ).loc main_v1_4) ↦{fullShare} V main_v1_4) ∗ (((c : Thread nD τ).loc main_arg5) ↦{fullShare} V main_arg5) ∗ (((c : Thread nD τ).loc main_v1_5) ↦{fullShare} V main_v1_5) ∗ (((c : Thread nD τ).loc main_arg6) ↦{fullShare} V main_arg6) ∗ (((c : Thread nD τ).loc main_v1_6) ↦{fullShare} V main_v1_6) ∗ (((c : Thread nD τ).loc main_arg7) ↦{fullShare} V main_arg7) ∗ (((c : Thread nD τ).loc main_v1_7) ↦{fullShare} V main_v1_7) ∗ (((c : Thread nD τ).loc main_arg8) ↦{fullShare} V main_arg8) ∗ (((c : Thread nD τ).loc main_v1_8) ↦{fullShare} V main_v1_8) ∗ (((c : Thread nD τ).loc main_arg9) ↦{fullShare} V main_arg9) ∗ (((c : Thread nD τ).loc main_v1_9) ↦{fullShare} V main_v1_9)) := by
  unfold unscopedBufs
  exact bigSep_eq_bigSepL_of_eq [main_arg0, main_v1_0, main_arg1, main_v1_1, main_arg2, main_v1_2, main_arg3, main_v1_3, main_arg4, main_v1_4, main_arg5, main_v1_5, main_arg6, main_v1_6, main_arg7, main_v1_7, main_arg8, main_v1_8, main_arg9, main_v1_9] (by decide) (by decide) _

/-- A buffer holds something. -/
theorem whatever {ℓ : Loc nD τ sig} (f : Buf (Elt F) ℓ) :
    (ℓ ↦{fullShare} f : sProp (MT nD τ sig Unit (Elt F) ℕ UU ℕ)) ⊢ iprop(∃ f, ℓ ↦{fullShare} f) :=
  BIClass.exists_intro (Φ := fun f => (ℓ ↦{fullShare} f : sProp (MT nD τ sig Unit (Elt F) ℕ UU ℕ))) f

/-- The arrays of a device as the plan takes them. -/
theorem split_arrays (c : Dev nD) : (unscopedBufs c (fun b => m ((c.tc : Thread nD τ).loc b)) : sProp (MT nD τ sig Unit (Elt F) ℕ UU ℕ))
    ⊢ sepL (List.finRange 10) fun r => iprop((((data m).a r).view.loc (c.tc : Thread nD τ) ↦{fullShare} (data m).A r c)
        ∗ ∃ f, ((data m).o r).view.loc (c.tc : Thread nD τ) ↦{fullShare} f) := by
  rw [arrays, show List.finRange 10 = [0, 1, 2, 3, 4, 5, 6, 7, 8, 9] from rfl]
  refine pair_cons _ _ 0 _ .rfl (whatever _) ?_
  refine pair_cons _ _ 1 _ .rfl (whatever _) ?_
  refine pair_cons _ _ 2 _ .rfl (whatever _) ?_
  refine pair_cons _ _ 3 _ .rfl (whatever _) ?_
  refine pair_cons _ _ 4 _ .rfl (whatever _) ?_
  refine pair_cons _ _ 5 _ .rfl (whatever _) ?_
  refine pair_cons _ _ 6 _ .rfl (whatever _) ?_
  refine pair_cons _ _ 7 _ .rfl (whatever _) ?_
  refine pair_cons _ _ 8 _ .rfl (whatever _) ?_
  exact pair_last _ _ 9 .rfl (whatever _)

/-- The whole run: every argument as it was, every result filled, every semaphore at zero. -/
theorem run_main : θ_run defs (onTc (τ := τ) (main (F := F))) ⟨m, fun _ => 0, ρ⟩ (fun r =>
    (∀ (c : Dev nD) (k : Fin 10), r.2.mem ((a k).view.loc (c.tc : Thread nD τ)) = A m k c ∧ r.2.mem ((o k).view.loc (c.tc : Thread nD τ)) = D m k c)
      ∧ r.2.sem = fun _ => 0) := by
  haveI h1 : IsEmpty (Fin (pin (pcfgs (F := F)) (fun p => (cfgs p).toPCfg_adm) 0).W) := inferInstanceAs (IsEmpty (Fin 0))
  haveI h2 : IsEmpty (Fin (pcfgs (F := F) 0).pre.K) := inferInstanceAs (IsEmpty (Fin 0))
  refine plan_alone (pcfgs (F := F)) (fun p => (cfgs p).toPCfg_adm) cellOf_inj 0 winFacts0.to₀ ER defs₀ 𝒱₀ N_0 (plan UU m) ownSemFacts ER
    (u₀ m) ?_ [none, some 0, some 1, some 2, some 3] [some 4, some 5, some 6] (by decide) order order_perm g23.G g23.Z (by decide)
    m ρ (fun r c => ((data m).a r).view.loc (c.tc : Thread nD τ)) (fun r c => ((data m).o r).view.loc (c.tc : Thread nD τ)) (data m).A (data m).D
    (split_arrays m) (gather_start (U := UU) (data m)) (fun c κ t => body ER m c)
    (fun r c => gather_end (U := UU) (data m) r c g23.G (by decide)) main (fun _ => rfl) all_scoped
  unfold u₀
  iintro Hu
  ihave H := (ownU_pair _ _) $$ Hu
  icases H with ⟨-, H⟩
  iexact H

end Cert.Shards

end
-- ==== Proof.Shards.Value.lean ====
/-
# The gather of the weights: its results are the reference's

What the run leaves, next to the reference's own term of the whole arrays.
-/
module

public import proofs.«01_k».proof.Proof.Comm.Values
public import proofs.«01_k».proof.Proof.Shards.Run
public import proofs.«01_k».proof.Proof.Gen.WeightsRef

@[expose] public section

noncomputable section

namespace Cert.Shards

open Idealize.ShloMosaic Idealize.ShloMosaic.TcCoe Idealize.SL.Sem Cert.Comm Cert.WeightsIdeal Cert.WeightsIdeal.Gen

variable {F : FTy → Type} [FloatOps F]

/-- The run leaves every argument as it was and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c 0).1, (h.1 c 1).1, (h.1 c 2).1, (h.1 c 3).1, (h.1 c 4).1, (h.1 c 5).1, (h.1 c 6).1, (h.1 c 7).1, (h.1 c 8).1, (h.1 c 9).1⟩, h.2⟩) (run_main m ρ)

/-- When the devices start with the blocks of whole arrays, what the run leaves is what the reference makes of these. -/
theorem values (m w : (ℓ : Loc nD τ sig) → Buf (Elt F) ℓ)
    (m' : (ℓ : Loc Cert.WeightsRef.nD Cert.WeightsRef.τ Cert.WeightsRef.sig) → Buf (Elt F) ℓ)
    (hm : ∀ c : Dev nD, m ((c.tc : Thread nD τ).loc main_arg0) = Layout.block ⟨2, ![4096, 1536]⟩ ⟨2, ![4096, 12288]⟩ 1 8 c (m' (((0 : Dev Cert.WeightsRef.nD).tc : Thread Cert.WeightsRef.nD Cert.WeightsRef.τ).loc Cert.WeightsRef.main_arg0))
      ∧ m ((c.tc : Thread nD τ).loc main_arg1) = Layout.block ⟨2, ![256, 2048]⟩ ⟨2, ![2048, 2048]⟩ 0 8 c (m' (((0 : Dev Cert.WeightsRef.nD).tc : Thread Cert.WeightsRef.nD Cert.WeightsRef.τ).loc Cert.WeightsRef.main_arg1))
      ∧ m ((c.tc : Thread nD τ).loc main_arg2) = Layout.block ⟨3, ![4, 64, 512]⟩ ⟨3, ![4, 512, 512]⟩ 1 8 c (m' (((0 : Dev Cert.WeightsRef.nD).tc : Thread Cert.WeightsRef.nD Cert.WeightsRef.τ).loc Cert.WeightsRef.main_arg2))
      ∧ m ((c.tc : Thread nD τ).loc main_arg3) = Layout.block ⟨2, ![2048, 512]⟩ ⟨2, ![2048, 4096]⟩ 1 8 c (m' (((0 : Dev Cert.WeightsRef.nD).tc : Thread Cert.WeightsRef.nD Cert.WeightsRef.τ).loc Cert.WeightsRef.main_arg3))
      ∧ m ((c.tc : Thread nD τ).loc main_arg4) = Layout.block ⟨2, ![2048, 512]⟩ ⟨2, ![2048, 4096]⟩ 1 8 c (m' (((0 : Dev Cert.WeightsRef.nD).tc : Thread Cert.WeightsRef.nD Cert.WeightsRef.τ).loc Cert.WeightsRef.main_arg4))
      ∧ m ((c.tc : Thread nD τ).loc main_arg5) = Layout.block ⟨2, ![512, 4096]⟩ ⟨2, ![4096, 4096]⟩ 0 8 c (m' (((0 : Dev Cert.WeightsRef.nD).tc : Thread Cert.WeightsRef.nD Cert.WeightsRef.τ).loc Cert.WeightsRef.main_arg5))
      ∧ m ((c.tc : Thread nD τ).loc main_arg6) = Layout.block ⟨2, ![4096, 2752]⟩ ⟨2, ![4096, 22016]⟩ 1 8 c (m' (((0 : Dev Cert.WeightsRef.nD).tc : Thread Cert.WeightsRef.nD Cert.WeightsRef.τ).loc Cert.WeightsRef.main_arg6))
      ∧ m ((c.tc : Thread nD τ).loc main_arg7) = Layout.block ⟨2, ![1376, 4096]⟩ ⟨2, ![11008, 4096]⟩ 0 8 c (m' (((0 : Dev Cert.WeightsRef.nD).tc : Thread Cert.WeightsRef.nD Cert.WeightsRef.τ).loc Cert.WeightsRef.main_arg7))
      ∧ m ((c.tc : Thread nD τ).loc main_arg8) = Layout.block ⟨2, ![4, 64]⟩ ⟨2, ![4, 512]⟩ 1 8 c (m' (((0 : Dev Cert.WeightsRef.nD).tc : Thread Cert.WeightsRef.nD Cert.WeightsRef.τ).loc Cert.WeightsRef.main_arg8))
      ∧ m ((c.tc : Thread nD τ).loc main_arg9) = Layout.block ⟨2, ![3, 2752]⟩ ⟨2, ![3, 22016]⟩ 1 8 c (m' (((0 : Dev Cert.WeightsRef.nD).tc : Thread Cert.WeightsRef.nD Cert.WeightsRef.τ).loc Cert.WeightsRef.main_arg9)))
    (h : ∀ (c : Dev nD) (k : Fin 10), w ((a k).view.loc (c.tc : Thread nD τ)) = A m k c ∧ w ((o k).view.loc (c.tc : Thread nD τ)) = D m k c)
    (c : Dev nD) :
    w ((c.tc : Thread nD τ).loc main_v1_0) = transpose Cert.WeightsRef.S8x4096x1536 [1, 0, 2] (shapeCast _ (m' (((0 : Dev Cert.WeightsRef.nD).tc : Thread Cert.WeightsRef.nD Cert.WeightsRef.τ).loc Cert.WeightsRef.main_arg0)) Cert.WeightsRef.Gen.shapeCasts_S4096x12288_S4096x8x1536) Cert.WeightsRef.Gen.transposes_S4096x8x1536_S8x4096x1536_1_0_2
      ∧ w ((c.tc : Thread nD τ).loc main_v1_1) = shapeCast _ (m' (((0 : Dev Cert.WeightsRef.nD).tc : Thread Cert.WeightsRef.nD Cert.WeightsRef.τ).loc Cert.WeightsRef.main_arg1)) Cert.WeightsRef.Gen.shapeCasts_S2048x2048_S8x256x2048
      ∧ w ((c.tc : Thread nD τ).loc main_v1_2) = transpose Cert.WeightsRef.S8x4x64x512 [1, 0, 2, 3] (shapeCast _ (m' (((0 : Dev Cert.WeightsRef.nD).tc : Thread Cert.WeightsRef.nD Cert.WeightsRef.τ).loc Cert.WeightsRef.main_arg2)) Cert.WeightsRef.Gen.shapeCasts_S4x512x512_S4x8x64x512) Cert.WeightsRef.Gen.transposes_S4x8x64x512_S8x4x64x512_1_0_2_3
      ∧ w ((c.tc : Thread nD τ).loc main_v1_3) = transpose Cert.WeightsRef.S8x2048x512 [1, 0, 2] (shapeCast _ (m' (((0 : Dev Cert.WeightsRef.nD).tc : Thread Cert.WeightsRef.nD Cert.WeightsRef.τ).loc Cert.WeightsRef.main_arg3)) Cert.WeightsRef.Gen.shapeCasts_S2048x4096_S2048x8x512) Cert.WeightsRef.Gen.transposes_S2048x8x512_S8x2048x512_1_0_2
      ∧ w ((c.tc : Thread nD τ).loc main_v1_4) = transpose Cert.WeightsRef.S8x2048x512 [1, 0, 2] (shapeCast _ (m' (((0 : Dev Cert.WeightsRef.nD).tc : Thread Cert.WeightsRef.nD Cert.WeightsRef.τ).loc Cert.WeightsRef.main_arg4)) Cert.WeightsRef.Gen.shapeCasts_S2048x4096_S2048x8x512) Cert.WeightsRef.Gen.transposes_S2048x8x512_S8x2048x512_1_0_2
      ∧ w ((c.tc : Thread nD τ).loc main_v1_5) = shapeCast _ (m' (((0 : Dev Cert.WeightsRef.nD).tc : Thread Cert.WeightsRef.nD Cert.WeightsRef.τ).loc Cert.WeightsRef.main_arg5)) Cert.WeightsRef.Gen.shapeCasts_S4096x4096_S8x512x4096
      ∧ w ((c.tc : Thread nD τ).loc main_v1_6) = transpose Cert.WeightsRef.S8x4096x2752 [1, 0, 2] (shapeCast _ (m' (((0 : Dev Cert.WeightsRef.nD).tc : Thread Cert.WeightsRef.nD Cert.WeightsRef.τ).loc Cert.WeightsRef.main_arg6)) Cert.WeightsRef.Gen.shapeCasts_S4096x22016_S4096x8x2752) Cert.WeightsRef.Gen.transposes_S4096x8x2752_S8x4096x2752_1_0_2
      ∧ w ((c.tc : Thread nD τ).loc main_v1_7) = shapeCast _ (m' (((0 : Dev Cert.WeightsRef.nD).tc : Thread Cert.WeightsRef.nD Cert.WeightsRef.τ).loc Cert.WeightsRef.main_arg7)) Cert.WeightsRef.Gen.shapeCasts_S11008x4096_S8x1376x4096
      ∧ w ((c.tc : Thread nD τ).loc main_v1_8) = transpose Cert.WeightsRef.S8x4x64 [1, 0, 2] (shapeCast _ (m' (((0 : Dev Cert.WeightsRef.nD).tc : Thread Cert.WeightsRef.nD Cert.WeightsRef.τ).loc Cert.WeightsRef.main_arg8)) Cert.WeightsRef.Gen.shapeCasts_S4x512_S4x8x64) Cert.WeightsRef.Gen.transposes_S4x8x64_S8x4x64_1_0_2
      ∧ w ((c.tc : Thread nD τ).loc main_v1_9) = transpose Cert.WeightsRef.S8x3x2752 [1, 0, 2] (shapeCast _ (m' (((0 : Dev Cert.WeightsRef.nD).tc : Thread Cert.WeightsRef.nD Cert.WeightsRef.τ).loc Cert.WeightsRef.main_arg9)) Cert.WeightsRef.Gen.shapeCasts_S3x22016_S3x8x2752) Cert.WeightsRef.Gen.transposes_S3x8x2752_S8x3x2752_1_0_2
      ∧ w ((c.tc : Thread nD τ).loc main_arg0) = m ((c.tc : Thread nD τ).loc main_arg0)
      ∧ w ((c.tc : Thread nD τ).loc main_arg1) = m ((c.tc : Thread nD τ).loc main_arg1)
      ∧ w ((c.tc : Thread nD τ).loc main_arg2) = m ((c.tc : Thread nD τ).loc main_arg2)
      ∧ w ((c.tc : Thread nD τ).loc main_arg3) = m ((c.tc : Thread nD τ).loc main_arg3)
      ∧ w ((c.tc : Thread nD τ).loc main_arg4) = m ((c.tc : Thread nD τ).loc main_arg4)
      ∧ w ((c.tc : Thread nD τ).loc main_arg5) = m ((c.tc : Thread nD τ).loc main_arg5)
      ∧ w ((c.tc : Thread nD τ).loc main_arg6) = m ((c.tc : Thread nD τ).loc main_arg6)
      ∧ w ((c.tc : Thread nD τ).loc main_arg7) = m ((c.tc : Thread nD τ).loc main_arg7)
      ∧ w ((c.tc : Thread nD τ).loc main_arg8) = m ((c.tc : Thread nD τ).loc main_arg8)
      ∧ w ((c.tc : Thread nD τ).loc main_arg9) = m ((c.tc : Thread nD τ).loc main_arg9) :=
  ⟨(h c 0).2.trans (gcat_cols_of 4096 1536 12288 ![] rfl _ Cert.WeightsRef.Gen.shapeCasts_S4096x12288_S4096x8x1536 _ Cert.WeightsRef.Gen.transposes_S4096x8x1536_S8x4096x1536_1_0_2 (by decide) _ _ fun s => (hm s).1),
    (h c 1).2.trans (gcat_of 256 2048 ![2048] rfl _ Cert.WeightsRef.Gen.shapeCasts_S2048x2048_S8x256x2048 _ _ fun s => (hm s).2.1),
    (h c 2).2.trans (gcat_cols_of 4 64 512 ![512] rfl _ Cert.WeightsRef.Gen.shapeCasts_S4x512x512_S4x8x64x512 _ Cert.WeightsRef.Gen.transposes_S4x8x64x512_S8x4x64x512_1_0_2_3 (by decide) _ _ fun s => (hm s).2.2.1),
    (h c 3).2.trans (gcat_cols_of 2048 512 4096 ![] rfl _ Cert.WeightsRef.Gen.shapeCasts_S2048x4096_S2048x8x512 _ Cert.WeightsRef.Gen.transposes_S2048x8x512_S8x2048x512_1_0_2 (by decide) _ _ fun s => (hm s).2.2.2.1),
    (h c 4).2.trans (gcat_cols_of 2048 512 4096 ![] rfl _ Cert.WeightsRef.Gen.shapeCasts_S2048x4096_S2048x8x512 _ Cert.WeightsRef.Gen.transposes_S2048x8x512_S8x2048x512_1_0_2 (by decide) _ _ fun s => (hm s).2.2.2.2.1),
    (h c 5).2.trans (gcat_of 512 4096 ![4096] rfl _ Cert.WeightsRef.Gen.shapeCasts_S4096x4096_S8x512x4096 _ _ fun s => (hm s).2.2.2.2.2.1),
    (h c 6).2.trans (gcat_cols_of 4096 2752 22016 ![] rfl _ Cert.WeightsRef.Gen.shapeCasts_S4096x22016_S4096x8x2752 _ Cert.WeightsRef.Gen.transposes_S4096x8x2752_S8x4096x2752_1_0_2 (by decide) _ _ fun s => (hm s).2.2.2.2.2.2.1),
    (h c 7).2.trans (gcat_of 1376 11008 ![4096] rfl _ Cert.WeightsRef.Gen.shapeCasts_S11008x4096_S8x1376x4096 _ _ fun s => (hm s).2.2.2.2.2.2.2.1),
    (h c 8).2.trans (gcat_cols_of 4 64 512 ![] rfl _ Cert.WeightsRef.Gen.shapeCasts_S4x512_S4x8x64 _ Cert.WeightsRef.Gen.transposes_S4x8x64_S8x4x64_1_0_2 (by decide) _ _ fun s => (hm s).2.2.2.2.2.2.2.2.1),
    (h c 9).2.trans (gcat_cols_of 3 2752 22016 ![] rfl _ Cert.WeightsRef.Gen.shapeCasts_S3x22016_S3x8x2752 _ Cert.WeightsRef.Gen.transposes_S3x8x2752_S8x3x2752_1_0_2 (by decide) _ _ fun s => (hm s).2.2.2.2.2.2.2.2.2),
    (h c 0).1, (h c 1).1, (h c 2).1, (h c 3).1, (h c 4).1, (h c 5).1, (h c 6).1, (h c 7).1, (h c 8).1, (h c 9).1⟩

end Cert.Shards

end
-- ==== Proof.Adam.Rule.lean ====
/-
# One AdamW step

The step as functions of whole arrays, the sum of the eight devices' parts, and how each reads at an index.
-/
module

public import proofs.«01_k».proof.Defs
public import Idealize.ShloMosaic.Lib.Pipeline.ValueKit

@[expose] public section

noncomputable section

namespace Cert.Adam

open Idealize.ShloMosaic

variable {F : FTy → Type} [FloatOps F]

/-! ## The step -/

section Step
variable {S T : Shape}

/-- The array that holds one word everywhere. -/
def word (S : Shape) (w : BitVec 32) : FVec F S .f32 := broadcast S (Scalar.ofBits .f32 w)

/-- The new first moment, of the old one and the gradient. -/
def newM (m g : FVec F S .f32) : FVec F S .f32 := addf (mulf (word S 0x3F666666#32) m) (mulf (word S 0x3DCCCCCD#32) g)

/-- The new second moment, of the old one and the gradient. -/
def newV (v g : FVec F S .f32) : FVec F S .f32 := addf (mulf (word S 0x3F7FBE77#32) v) (mulf (word S 0x3A83126F#32) (mulf g g))

/-- What the step adds to the weight: both new moments without their bias, their quotient, and the weight's decay. -/
def delta (w m v g : FVec F S .f32) : FVec F S .f32 :=
  mulf (word S 0xBA83126F#32) (addf (divf (divf (newM m g) (word S 0x3F26BD02#32))
    (addf (sqrt (divf (newV v g) (word S 0x3C231ACC#32))) (word S 0x322BCC77#32))) (mulf (word S 0x3C23D70A#32) w))

/-- The new first moment at an index is made of the old one and the gradient at that index. -/
theorem newM_at (m g : FVec F S .f32) (M G : FVec F T .f32) (i : S.Idx) (j : T.Idx) (hm : m i = M j) (hg : g i = G j) :
    newM m g i = newM M G j := by
  show FloatOps.addf (FloatOps.mulf _ (m i)) (FloatOps.mulf _ (g i)) = FloatOps.addf (FloatOps.mulf _ (M j)) (FloatOps.mulf _ (G j))
  rw [hm, hg]; rfl

/-- The new second moment at an index is made of the old one and the gradient at that index. -/
theorem newV_at (v g : FVec F S .f32) (V G : FVec F T .f32) (i : S.Idx) (j : T.Idx) (hv : v i = V j) (hg : g i = G j) :
    newV v g i = newV V G j := by
  show FloatOps.addf (FloatOps.mulf _ (v i)) (FloatOps.mulf _ (FloatOps.mulf (g i) (g i)))
    = FloatOps.addf (FloatOps.mulf _ (V j)) (FloatOps.mulf _ (FloatOps.mulf (G j) (G j)))
  rw [hv, hg]; rfl

/-- What is added to the weight at an index is made of the four arrays at that index. -/
theorem delta_at (w m v g : FVec F S .f32) (W M V G : FVec F T .f32) (i : S.Idx) (j : T.Idx)
    (hw : w i = W j) (hm : m i = M j) (hv : v i = V j) (hg : g i = G j) : delta w m v g i = delta W M V G j := by
  have h1 := newM_at m g M G i j hm hg
  have h2 := newV_at v g V G i j hv hg
  show FloatOps.mulf _ (FloatOps.addf (FloatOps.divf (FloatOps.divf (newM m g i) _)
      (FloatOps.addf (FloatOps.sqrt (FloatOps.divf (newV v g i) _)) _)) (FloatOps.mulf _ (w i))) = _
  rw [h1, h2, hw]; rfl

end Step

/-! ## The parts -/

section Parts
variable {α : Type} {R C : Nat}

/-- The index of entry `i` of part `s`. -/
def at3 {n : Nat} (s : Fin n) (i : (⟨2, ![R, C]⟩ : Shape).Idx) : (⟨3, ![n, R, C]⟩ : Shape).Idx := Fin.cons s i

/-- One part of a stack. -/
def part {n : Nat} (p : (⟨3, ![n, R, C]⟩ : Shape).Idx → α) (s : Fin n) : (⟨2, ![R, C]⟩ : Shape).Idx → α := fun i => p (at3 s i)

/-- The eight parts' sum, in the devices' order. -/
def total (p : FVec F ⟨3, ![8, R, C]⟩ .bf16) (h : FTy.bits .bf16 < FTy.bits .f32) : FVec F ⟨2, ![R, C]⟩ .f32 :=
  addf (addf (addf (addf (addf (addf (addf (extf .f32 (part p 0) h) (extf .f32 (part p 1) h)) (extf .f32 (part p 2) h)) (extf .f32 (part p 3) h))
    (extf .f32 (part p 4) h)) (extf .f32 (part p 5) h)) (extf .f32 (part p 6) h)) (extf .f32 (part p 7) h)

/-- The sum at an index is the sum of the parts at that index. -/
theorem total_at {R' C' : Nat} (p : FVec F ⟨3, ![8, R, C]⟩ .bf16) (q : FVec F ⟨3, ![8, R', C']⟩ .bf16) (h)
    (i : (⟨2, ![R, C]⟩ : Shape).Idx) (j : (⟨2, ![R', C']⟩ : Shape).Idx) (e : ∀ s, p (at3 s i) = q (at3 s j)) :
    total p h i = total q h j := by
  have k : ∀ s, part p s i = part q s j := e
  simp only [total, addf, extf, k]

/-- A part that is loaded as a stack of one and then cast is that part. -/
theorem load_part {Val : EltTy → Type} {e : EltTy} {n : Nat} (p : (⟨3, ![n, R, C]⟩ : Shape).Idx → Val e) (s : Fin n)
    (inb : ∀ a, (![s.val, 0, 0] : Fin 3 → Nat) a + (![1, R, C] : Fin 3 → Nat) a ≤ (⟨3, ![n, R, C]⟩ : Shape).size a)
    (h : (⟨3, ![1, R, C]⟩ : Shape).ShapeCasts ⟨2, ![R, C]⟩) :
    shapeCast ⟨2, ![R, C]⟩ (View.ld p (Rect.unit (s := ⟨3, ![n, R, C]⟩) ![s.val, 0, 0] ![1, R, C] inb)) h = part p s := by
  funext i
  refine (shapeCast_dropUnit_apply ![R, C] _ h i).trans ?_
  rw [View.ld_unit]
  unfold part
  refine congrArg p (funext fun a => Fin.ext ?_)
  show (![s.val, 0, 0] : Fin 3 → Nat) a + ((Fin.cons ⟨0, Nat.one_pos⟩ i : (⟨3, ![1, R, C]⟩ : Shape).Idx) a).val = (at3 s i a).val
  match a with
  | ⟨0, _⟩ => rfl
  | ⟨1, _⟩ => exact Nat.zero_add _
  | ⟨2, _⟩ => exact Nat.zero_add _

/-- The parts loaded one by one, widened and added up are their sum. -/
theorem sum_loads (p : FVec F ⟨3, ![8, R, C]⟩ .bf16) (inb : ∀ (s : Fin 8) (a), (![s.val, 0, 0] : Fin 3 → Nat) a + (![1, R, C] : Fin 3 → Nat) a ≤ (⟨3, ![8, R, C]⟩ : Shape).size a)
    (hc : (⟨3, ![1, R, C]⟩ : Shape).ShapeCasts ⟨2, ![R, C]⟩) (h) :
    addf (addf (addf (addf (addf (addf (addf (extf .f32 (shapeCast ⟨2, ![R, C]⟩ (View.ld (Val := Elt F) (e' := .bf16) p (Rect.unit (s := ⟨3, ![8, R, C]⟩) ![0, 0, 0] ![1, R, C] (inb 0))) hc) h)
      (extf .f32 (shapeCast ⟨2, ![R, C]⟩ (View.ld (Val := Elt F) (e' := .bf16) p (Rect.unit (s := ⟨3, ![8, R, C]⟩) ![1, 0, 0] ![1, R, C] (inb 1))) hc) h))
      (extf .f32 (shapeCast ⟨2, ![R, C]⟩ (View.ld (Val := Elt F) (e' := .bf16) p (Rect.unit (s := ⟨3, ![8, R, C]⟩) ![2, 0, 0] ![1, R, C] (inb 2))) hc) h))
      (extf .f32 (shapeCast ⟨2, ![R, C]⟩ (View.ld (Val := Elt F) (e' := .bf16) p (Rect.unit (s := ⟨3, ![8, R, C]⟩) ![3, 0, 0] ![1, R, C] (inb 3))) hc) h))
      (extf .f32 (shapeCast ⟨2, ![R, C]⟩ (View.ld (Val := Elt F) (e' := .bf16) p (Rect.unit (s := ⟨3, ![8, R, C]⟩) ![4, 0, 0] ![1, R, C] (inb 4))) hc) h))
      (extf .f32 (shapeCast ⟨2, ![R, C]⟩ (View.ld (Val := Elt F) (e' := .bf16) p (Rect.unit (s := ⟨3, ![8, R, C]⟩) ![5, 0, 0] ![1, R, C] (inb 5))) hc) h))
      (extf .f32 (shapeCast ⟨2, ![R, C]⟩ (View.ld (Val := Elt F) (e' := .bf16) p (Rect.unit (s := ⟨3, ![8, R, C]⟩) ![6, 0, 0] ![1, R, C] (inb 6))) hc) h))
      (extf .f32 (shapeCast ⟨2, ![R, C]⟩ (View.ld (Val := Elt F) (e' := .bf16) p (Rect.unit (s := ⟨3, ![8, R, C]⟩) ![7, 0, 0] ![1, R, C] (inb 7))) hc) h) = total p h := by
  have k := fun s => load_part (Val := Elt F) (e := .bf16) p s (inb s) hc
  unfold total
  rw [← k 0, ← k 1, ← k 2, ← k 3, ← k 4, ← k 5, ← k 6, ← k 7]
  rfl

/-- Each part lies inside the stack. -/
theorem inb8 {n : Nat} (s : Fin n) (a : Fin 3) : (![s.val, 0, 0] : Fin 3 → Nat) a + (![1, R, C] : Fin 3 → Nat) a ≤ (⟨3, ![n, R, C]⟩ : Shape).size a :=
  match a with
  | ⟨0, _⟩ => s.isLt
  | ⟨1, _⟩ => (Nat.zero_add R).le
  | ⟨2, _⟩ => (Nat.zero_add C).le

end Parts

/-! ## At exact floats -/

section Exact
variable {R C : Nat}

/-- At exact floats the host's sum over the leading axis is, at an index, the sum of the parts there. -/
theorem hostSum_at {n : Nat} (x : FVec Ideal ⟨3, ![n, R, C]⟩ .f32) (h : (⟨3, ![n, R, C]⟩ : Shape).ReducesTo [0] ⟨2, ![R, C]⟩)
    {U : Shape} (hu : 0 < U.numel) (j : (⟨2, ![R, C]⟩ : Shape).Idx) :
    Host.reduceAdd x (constant U .f32 0x00000000#32) h hu j = (∑ s : Fin n, part x s j : EReal) := by
  have hr : (⟨3, ![n, R, C]⟩ : Shape).Reduces [0] ⟨2, ![R, C]⟩ := ⟨h.1, Nat.zero_lt_two, h.2⟩
  refine (Ideal.hostReduceAdd_single h hr x _ j).trans ?_
  have z : (constant (F := Ideal) U .f32 0x00000000#32 (Shape.Idx.first hu) : EReal) = 0 := Ideal.ofBits_zero_f32
  rw [z, zero_add]
  refine Finset.sum_congr rfl fun s _ => congrArg x (funext fun a => Fin.ext ?_)
  match a with
  | ⟨0, _⟩ => rfl
  | ⟨1, _⟩ => rfl
  | ⟨2, _⟩ => rfl

/-- At exact floats the host's sum over the eight parts is their sum in the devices' order. -/
theorem hostSum (p : FVec Ideal ⟨3, ![8, R, C]⟩ .bf16) (h) (h' : (⟨3, ![8, R, C]⟩ : Shape).ReducesTo [0] ⟨2, ![R, C]⟩) {U : Shape} (hu : 0 < U.numel) :
    Host.reduceAdd (extf .f32 p h) (constant U .f32 0x00000000#32) h' hu = total p h := by
  funext j
  rw [hostSum_at, Fin.sum_univ_eight]
  rfl

/-- At exact floats the host's sum over one part is that part. -/
theorem hostSum_one (p : FVec Ideal ⟨3, ![1, R, C]⟩ .f32) (h' : (⟨3, ![1, R, C]⟩ : Shape).ReducesTo [0] ⟨2, ![R, C]⟩) {U : Shape} (hu : 0 < U.numel) :
    Host.reduceAdd p (constant U .f32 0x00000000#32) h' hu = part p 0 := by
  funext j
  rw [hostSum_at, Fin.sum_univ_one]

end Exact

end Cert.Adam

end
-- ==== Proof.Adam.In.lean ====
/-
# AdamW of the input projection's weight

The update is tiled: each grid point sums up its block of the eight parts and steps its block of the weight.
-/
module

public import proofs.«01_k».proof.Proof.Adam.Rule
public import proofs.«01_k».proof.Proof.Gen.AdamIn
public import proofs.«01_k».proof.Proof.Gen.AdamIn.Frame
public import proofs.«01_k».proof.Proof.Gen.AdamInIdeal.Frame
public import proofs.«01_k».proof.Proof.Gen.AdamInRefIdeal.Run

@[expose] public section

noncomputable section

namespace Cert.Adam.In

open Idealize.ShloMosaic Idealize.ShloMosaic.TcCoe Idealize.SL.Sem Cert.AdamInIdeal Cert.AdamInIdeal.Gen

section Run
variable {F : FTy → Type} [FloatOps F] (m : (ℓ : Loc nD τ sig) → Buf (Elt F) ℓ)

/-- The gradient: the sum of the devices' parts. -/
abbrev grad (c : Dev nD) : FVec F ⟨2, ![4096, 1536]⟩ .f32 := total (R := 4096) (C := 1536) (m ((c.tc : Thread nD τ).loc main_arg3)) bitsLt_bf16_f32

/-- What a grid point sums up is its block of the gradient. -/
theorem grad_at (c : Dev nD) (t : Fin cfg0.N) (y : S128x1536.Idx) :
    k0_pay5 (iblk m c 0 t) (iblk m c 1 t) (iblk m c 2 t) (iblk m c 3 t) y = grad m c (((cfg0.win 4).blk t).view.emb y) :=
  (congrFun (sum_loads (R := 128) (C := 1536) (iblk m c 3 t) (fun s => inb8 s) shapeCasts_S1x128x1536_S128x1536 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamInIdeal_AdamInRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamInRefIdeal.defs _ _).mono (fun r h c => ?_) (Cert.AdamInRefIdeal.Value.run (F := Ideal) m' g')⟩
  have s : _ = grad m c := (hostSum _ bitsLt_bf16_f32 Cert.AdamInRefIdeal.Gen.reducesTo_S8x4096x1536_S4096x1536_d0 Cert.AdamInRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamIn := fun m g _ => Cert.AdamIn.Gen.frame (F := Bits) m g

/-- The call runs, at exact floats. -/
theorem frame_ideal : Cert.quiescent_AdamInIdeal := fun m g _ => Cert.AdamInIdeal.Gen.frame (F := Ideal) m g

/-- The reference runs, at exact floats. -/
theorem frame_ref : Cert.quiescent_AdamInRefIdeal := fun m g _ =>
  (θ_run Cert.AdamInRefIdeal.defs _ _).mono (fun r h => ⟨fun c => (h c).2.2.2.2, sem_eq_zero_of_no_sems (by decide) r.2⟩)
    (Cert.AdamInRefIdeal.Value.run (F := Ideal) m g)

end Cert.Adam.In

end
-- ==== Proof.Adam.Glu.lean ====
/-
# AdamW of the state space branch's gate weight

The update is tiled: each grid point sums up its block of the eight parts and steps its block of the weight.
-/
module

public import proofs.«01_k».proof.Proof.Adam.Rule
public import proofs.«01_k».proof.Proof.Gen.AdamGlu
public import proofs.«01_k».proof.Proof.Gen.AdamGlu.Frame
public import proofs.«01_k».proof.Proof.Gen.AdamGluIdeal.Frame
public import proofs.«01_k».proof.Proof.Gen.AdamGluRefIdeal.Run

@[expose] public section

noncomputable section

namespace Cert.Adam.Glu

open Idealize.ShloMosaic Idealize.ShloMosaic.TcCoe Idealize.SL.Sem Cert.AdamGluIdeal Cert.AdamGluIdeal.Gen

section Run
variable {F : FTy → Type} [FloatOps F] (m : (ℓ : Loc nD τ sig) → Buf (Elt F) ℓ)

/-- The gradient: the sum of the devices' parts. -/
abbrev grad (c : Dev nD) : FVec F ⟨2, ![256, 2048]⟩ .f32 := total (R := 256) (C := 2048) (m ((c.tc : Thread nD τ).loc main_arg3)) bitsLt_bf16_f32

/-- What a grid point sums up is its block of the gradient. -/
theorem grad_at (c : Dev nD) (t : Fin cfg0.N) (y : S128x2048.Idx) :
    k0_pay5 (iblk m c 0 t) (iblk m c 1 t) (iblk m c 2 t) (iblk m c 3 t) y = grad m c (((cfg0.win 4).blk t).view.emb y) :=
  (congrFun (sum_loads (R := 128) (C := 2048) (iblk m c 3 t) (fun s => inb8 s) shapeCasts_S1x128x2048_S128x2048 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamGluIdeal_AdamGluRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamGluRefIdeal.defs _ _).mono (fun r h c => ?_) (Cert.AdamGluRefIdeal.Value.run (F := Ideal) m' g')⟩
  have s : _ = grad m c := (hostSum _ bitsLt_bf16_f32 Cert.AdamGluRefIdeal.Gen.reducesTo_S8x256x2048_S256x2048_d0 Cert.AdamGluRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamGlu := fun m g _ => Cert.AdamGlu.Gen.frame (F := Bits) m g

/-- The call runs, at exact floats. -/
theorem frame_ideal : Cert.quiescent_AdamGluIdeal := fun m g _ => Cert.AdamGluIdeal.Gen.frame (F := Ideal) m g

/-- The reference runs, at exact floats. -/
theorem frame_ref : Cert.quiescent_AdamGluRefIdeal := fun m g _ =>
  (θ_run Cert.AdamGluRefIdeal.defs _ _).mono (fun r h => ⟨fun c => (h c).2.2.2.2, sem_eq_zero_of_no_sems (by decide) r.2⟩)
    (Cert.AdamGluRefIdeal.Value.run (F := Ideal) m g)

end Cert.Adam.Glu

end
-- ==== Proof.Adam.Pool.lean ====
/-
# AdamW of the pooling branch's weight

The update is tiled: each grid point sums up its block of the eight parts and steps its block of the weight.
-/
module

public import proofs.«01_k».proof.Proof.Adam.Rule
public import proofs.«01_k».proof.Proof.Gen.AdamPool
public import proofs.«01_k».proof.Proof.Gen.AdamPool.Frame
public import proofs.«01_k».proof.Proof.Gen.AdamPoolIdeal.Frame
public import proofs.«01_k».proof.Proof.Gen.AdamPoolRefIdeal.Run

@[expose] public section

noncomputable section

namespace Cert.Adam.Pool

open Idealize.ShloMosaic Idealize.ShloMosaic.TcCoe Idealize.SL.Sem Cert.AdamPoolIdeal Cert.AdamPoolIdeal.Gen

section Run
variable {F : FTy → Type} [FloatOps F] (m : (ℓ : Loc nD τ sig) → Buf (Elt F) ℓ)

/-- The gradient: the sum of the devices' parts. -/
abbrev grad (c : Dev nD) : FVec F ⟨2, ![256, 512]⟩ .f32 := total (R := 256) (C := 512) (m ((c.tc : Thread nD τ).loc main_arg3)) bitsLt_bf16_f32

/-- What a grid point sums up is its block of the gradient. -/
theorem grad_at (c : Dev nD) (t : Fin cfg0.N) (y : S256x512.Idx) :
    k0_pay5 (iblk m c 0 t) (iblk m c 1 t) (iblk m c 2 t) (iblk m c 3 t) y = grad m c (((cfg0.win 4).blk t).view.emb y) :=
  (congrFun (sum_loads (R := 256) (C := 512) (iblk m c 3 t) (fun s => inb8 s) shapeCasts_S1x256x512_S256x512 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamPoolIdeal_AdamPoolRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamPoolRefIdeal.defs _ _).mono (fun r h c => ?_) (Cert.AdamPoolRefIdeal.Value.run (F := Ideal) m' g')⟩
  have s : _ = grad m c := (hostSum _ bitsLt_bf16_f32 Cert.AdamPoolRefIdeal.Gen.reducesTo_S8x256x512_S256x512_d0 Cert.AdamPoolRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamPool := fun m g _ => Cert.AdamPool.Gen.frame (F := Bits) m g

/-- The call runs, at exact floats. -/
theorem frame_ideal : Cert.quiescent_AdamPoolIdeal := fun m g _ => Cert.AdamPoolIdeal.Gen.frame (F := Ideal) m g

/-- The reference runs, at exact floats. -/
theorem frame_ref : Cert.quiescent_AdamPoolRefIdeal := fun m g _ =>
  (θ_run Cert.AdamPoolRefIdeal.defs _ _).mono (fun r h => ⟨fun c => (h c).2.2.2.2, sem_eq_zero_of_no_sems (by decide) r.2⟩)
    (Cert.AdamPoolRefIdeal.Value.run (F := Ideal) m g)

end Cert.Adam.Pool

end
-- ==== Proof.Adam.Bs.lean ====
/-
# AdamW of the state space branch's output weight

The update is tiled: each grid point sums up its block of the eight parts and steps its block of the weight.
-/
module

public import proofs.«01_k».proof.Proof.Adam.Rule
public import proofs.«01_k».proof.Proof.Gen.AdamBs
public import proofs.«01_k».proof.Proof.Gen.AdamBs.Frame
public import proofs.«01_k».proof.Proof.Gen.AdamBsIdeal.Frame
public import proofs.«01_k».proof.Proof.Gen.AdamBsRefIdeal.Run

@[expose] public section

noncomputable section

namespace Cert.Adam.Bs

open Idealize.ShloMosaic Idealize.ShloMosaic.TcCoe Idealize.SL.Sem Cert.AdamBsIdeal Cert.AdamBsIdeal.Gen

section Run
variable {F : FTy → Type} [FloatOps F] (m : (ℓ : Loc nD τ sig) → Buf (Elt F) ℓ)

/-- The gradient: the sum of the devices' parts. -/
abbrev grad (c : Dev nD) : FVec F ⟨2, ![2048, 512]⟩ .f32 := total (R := 2048) (C := 512) (m ((c.tc : Thread nD τ).loc main_arg3)) bitsLt_bf16_f32

/-- What a grid point sums up is its block of the gradient. -/
theorem grad_at (c : Dev nD) (t : Fin cfg0.N) (y : S512x512.Idx) :
    k0_pay5 (iblk m c 0 t) (iblk m c 1 t) (iblk m c 2 t) (iblk m c 3 t) y = grad m c (((cfg0.win 4).blk t).view.emb y) :=
  (congrFun (sum_loads (R := 512) (C := 512) (iblk m c 3 t) (fun s => inb8 s) shapeCasts_S1x512x512_S512x512 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamBsIdeal_AdamBsRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamBsRefIdeal.defs _ _).mono (fun r h c => ?_) (Cert.AdamBsRefIdeal.Value.run (F := Ideal) m' g')⟩
  have s : _ = grad m c := (hostSum _ bitsLt_bf16_f32 Cert.AdamBsRefIdeal.Gen.reducesTo_S8x2048x512_S2048x512_d0 Cert.AdamBsRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamBs := fun m g _ => Cert.AdamBs.Gen.frame (F := Bits) m g

/-- The call runs, at exact floats. -/
theorem frame_ideal : Cert.quiescent_AdamBsIdeal := fun m g _ => Cert.AdamBsIdeal.Gen.frame (F := Ideal) m g

/-- The reference runs, at exact floats. -/
theorem frame_ref : Cert.quiescent_AdamBsRefIdeal := fun m g _ =>
  (θ_run Cert.AdamBsRefIdeal.defs _ _).mono (fun r h => ⟨fun c => (h c).2.2.2.2, sem_eq_zero_of_no_sems (by decide) r.2⟩)
    (Cert.AdamBsRefIdeal.Value.run (F := Ideal) m g)

end Cert.Adam.Bs

end
-- ==== Proof.Adam.Bp.lean ====
/-
# AdamW of the pooling branch's output weight

The update is tiled: each grid point sums up its block of the eight parts and steps its block of the weight.
-/
module

public import proofs.«01_k».proof.Proof.Adam.Rule
public import proofs.«01_k».proof.Proof.Gen.AdamBp
public import proofs.«01_k».proof.Proof.Gen.AdamBp.Frame
public import proofs.«01_k».proof.Proof.Gen.AdamBpIdeal.Frame
public import proofs.«01_k».proof.Proof.Gen.AdamBpRefIdeal.Run

@[expose] public section

noncomputable section

namespace Cert.Adam.Bp

open Idealize.ShloMosaic Idealize.ShloMosaic.TcCoe Idealize.SL.Sem Cert.AdamBpIdeal Cert.AdamBpIdeal.Gen

section Run
variable {F : FTy → Type} [FloatOps F] (m : (ℓ : Loc nD τ sig) → Buf (Elt F) ℓ)

/-- The gradient: the sum of the devices' parts. -/
abbrev grad (c : Dev nD) : FVec F ⟨2, ![2048, 512]⟩ .f32 := total (R := 2048) (C := 512) (m ((c.tc : Thread nD τ).loc main_arg3)) bitsLt_bf16_f32

/-- What a grid point sums up is its block of the gradient. -/
theorem grad_at (c : Dev nD) (t : Fin cfg0.N) (y : S512x512.Idx) :
    k0_pay5 (iblk m c 0 t) (iblk m c 1 t) (iblk m c 2 t) (iblk m c 3 t) y = grad m c (((cfg0.win 4).blk t).view.emb y) :=
  (congrFun (sum_loads (R := 512) (C := 512) (iblk m c 3 t) (fun s => inb8 s) shapeCasts_S1x512x512_S512x512 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamBpIdeal_AdamBpRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamBpRefIdeal.defs _ _).mono (fun r h c => ?_) (Cert.AdamBpRefIdeal.Value.run (F := Ideal) m' g')⟩
  have s : _ = grad m c := (hostSum _ bitsLt_bf16_f32 Cert.AdamBpRefIdeal.Gen.reducesTo_S8x2048x512_S2048x512_d0 Cert.AdamBpRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamBp := fun m g _ => Cert.AdamBp.Gen.frame (F := Bits) m g

/-- The call runs, at exact floats. -/
theorem frame_ideal : Cert.quiescent_AdamBpIdeal := fun m g _ => Cert.AdamBpIdeal.Gen.frame (F := Ideal) m g

/-- The reference runs, at exact floats. -/
theorem frame_ref : Cert.quiescent_AdamBpRefIdeal := fun m g _ =>
  (θ_run Cert.AdamBpRefIdeal.defs _ _).mono (fun r h => ⟨fun c => (h c).2.2.2.2, sem_eq_zero_of_no_sems (by decide) r.2⟩)
    (Cert.AdamBpRefIdeal.Value.run (F := Ideal) m g)

end Cert.Adam.Bp

end
-- ==== Proof.Adam.Out.lean ====
/-
# AdamW of the mixer's output weight

The update is tiled: each grid point sums up its block of the eight parts and steps its block of the weight.
-/
module

public import proofs.«01_k».proof.Proof.Adam.Rule
public import proofs.«01_k».proof.Proof.Gen.AdamOut
public import proofs.«01_k».proof.Proof.Gen.AdamOut.Frame
public import proofs.«01_k».proof.Proof.Gen.AdamOutIdeal.Frame
public import proofs.«01_k».proof.Proof.Gen.AdamOutRefIdeal.Run

@[expose] public section

noncomputable section

namespace Cert.Adam.Out

open Idealize.ShloMosaic Idealize.ShloMosaic.TcCoe Idealize.SL.Sem Cert.AdamOutIdeal Cert.AdamOutIdeal.Gen

section Run
variable {F : FTy → Type} [FloatOps F] (m : (ℓ : Loc nD τ sig) → Buf (Elt F) ℓ)

/-- The gradient: the sum of the devices' parts. -/
abbrev grad (c : Dev nD) : FVec F ⟨2, ![512, 4096]⟩ .f32 := total (R := 512) (C := 4096) (m ((c.tc : Thread nD τ).loc main_arg3)) bitsLt_bf16_f32

/-- What a grid point sums up is its block of the gradient. -/
theorem grad_at (c : Dev nD) (t : Fin cfg0.N) (y : S64x4096.Idx) :
    k0_pay5 (iblk m c 0 t) (iblk m c 1 t) (iblk m c 2 t) (iblk m c 3 t) y = grad m c (((cfg0.win 4).blk t).view.emb y) :=
  (congrFun (sum_loads (R := 64) (C := 4096) (iblk m c 3 t) (fun s => inb8 s) shapeCasts_S1x64x4096_S64x4096 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamOutIdeal_AdamOutRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamOutRefIdeal.defs _ _).mono (fun r h c => ?_) (Cert.AdamOutRefIdeal.Value.run (F := Ideal) m' g')⟩
  have s : _ = grad m c := (hostSum _ bitsLt_bf16_f32 Cert.AdamOutRefIdeal.Gen.reducesTo_S8x512x4096_S512x4096_d0 Cert.AdamOutRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamOut := fun m g _ => Cert.AdamOut.Gen.frame (F := Bits) m g

/-- The call runs, at exact floats. -/
theorem frame_ideal : Cert.quiescent_AdamOutIdeal := fun m g _ => Cert.AdamOutIdeal.Gen.frame (F := Ideal) m g

/-- The reference runs, at exact floats. -/
theorem frame_ref : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run (F := Ideal) m g)

end Cert.Adam.Out

end
-- ==== Proof.Adam.Up.lean ====
/-
# AdamW of the MLP's first weight

The update is tiled: each grid point sums up its block of the eight parts and steps its block of the weight.
-/
module

public import proofs.«01_k».proof.Proof.Adam.Rule
public import proofs.«01_k».proof.Proof.Gen.AdamUp
public import proofs.«01_k».proof.Proof.Gen.AdamUp.Frame
public import proofs.«01_k».proof.Proof.Gen.AdamUpIdeal.Frame
public import proofs.«01_k».proof.Proof.Gen.AdamUpRefIdeal.Run

@[expose] public section

noncomputable section

namespace Cert.Adam.Up

open Idealize.ShloMosaic Idealize.ShloMosaic.TcCoe Idealize.SL.Sem Cert.AdamUpIdeal Cert.AdamUpIdeal.Gen

section Run
variable {F : FTy → Type} [FloatOps F] (m : (ℓ : Loc nD τ sig) → Buf (Elt F) ℓ)

/-- The gradient: the sum of the devices' parts. -/
abbrev grad (c : Dev nD) : FVec F ⟨2, ![4096, 2752]⟩ .f32 := total (R := 4096) (C := 2752) (m ((c.tc : Thread nD τ).loc main_arg3)) bitsLt_bf16_f32

/-- What a grid point sums up is its block of the gradient. -/
theorem grad_at (c : Dev nD) (t : Fin cfg0.N) (y : S64x2752.Idx) :
    k0_pay5 (iblk m c 0 t) (iblk m c 1 t) (iblk m c 2 t) (iblk m c 3 t) y = grad m c (((cfg0.win 4).blk t).view.emb y) :=
  (congrFun (sum_loads (R := 64) (C := 2752) (iblk m c 3 t) (fun s => inb8 s) shapeCasts_S1x64x2752_S64x2752 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamUpIdeal_AdamUpRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamUpRefIdeal.defs _ _).mono (fun r h c => ?_) (Cert.AdamUpRefIdeal.Value.run (F := Ideal) m' g')⟩
  have s : _ = grad m c := (hostSum _ bitsLt_bf16_f32 Cert.AdamUpRefIdeal.Gen.reducesTo_S8x4096x2752_S4096x2752_d0 Cert.AdamUpRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamUp := fun m g _ => Cert.AdamUp.Gen.frame (F := Bits) m g

/-- The call runs, at exact floats. -/
theorem frame_ideal : Cert.quiescent_AdamUpIdeal := fun m g _ => Cert.AdamUpIdeal.Gen.frame (F := Ideal) m g

/-- The reference runs, at exact floats. -/
theorem frame_ref : Cert.quiescent_AdamUpRefIdeal := fun m g _ =>
  (θ_run Cert.AdamUpRefIdeal.defs _ _).mono (fun r h => ⟨fun c => (h c).2.2.2.2, sem_eq_zero_of_no_sems (by decide) r.2⟩)
    (Cert.AdamUpRefIdeal.Value.run (F := Ideal) m g)

end Cert.Adam.Up

end
-- ==== Proof.Adam.Down.lean ====
/-
# AdamW of the MLP's second weight

The update is tiled: each grid point sums up its block of the eight parts and steps its block of the weight.
-/
module

public import proofs.«01_k».proof.Proof.Adam.Rule
public import proofs.«01_k».proof.Proof.Gen.AdamDown
public import proofs.«01_k».proof.Proof.Gen.AdamDown.Frame
public import proofs.«01_k».proof.Proof.Gen.AdamDownIdeal.Frame
public import proofs.«01_k».proof.Proof.Gen.AdamDownRefIdeal.Run

@[expose] public section

noncomputable section

namespace Cert.Adam.Down

open Idealize.ShloMosaic Idealize.ShloMosaic.TcCoe Idealize.SL.Sem Cert.AdamDownIdeal Cert.AdamDownIdeal.Gen

section Run
variable {F : FTy → Type} [FloatOps F] (m : (ℓ : Loc nD τ sig) → Buf (Elt F) ℓ)

/-- The gradient: the sum of the devices' parts. -/
abbrev grad (c : Dev nD) : FVec F ⟨2, ![1376, 4096]⟩ .f32 := total (R := 1376) (C := 4096) (m ((c.tc : Thread nD τ).loc main_arg3)) bitsLt_bf16_f32

/-- What a grid point sums up is its block of the gradient. -/
theorem grad_at (c : Dev nD) (t : Fin cfg0.N) (y : S32x4096.Idx) :
    k0_pay5 (iblk m c 0 t) (iblk m c 1 t) (iblk m c 2 t) (iblk m c 3 t) y = grad m c (((cfg0.win 4).blk t).view.emb y) :=
  (congrFun (sum_loads (R := 32) (C := 4096) (iblk m c 3 t) (fun s => inb8 s) shapeCasts_S1x32x4096_S32x4096 bitsLt_bf16_f32) y).trans
    (total_at _ _ _ _ _ fun s => congrArg (m _) (funext fun a => Fin.ext (match a with
      | ⟨0, _⟩ => (Nat.zero_add _).trans (Nat.one_mul s.val)
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (by decide), View.ld_unit_zero (by decide), View.ld_unit_zero (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (by decide)]
    exact newV_at _ _ _ _ _ _ rfl (grad_at m c t y))

end Run

/-- At exact floats the tiled update computes what the reference computes. -/
theorem exact : Cert.algebraic_AdamDownIdeal_AdamDownRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamDownRefIdeal.defs _ _).mono (fun r h c => ?_) (Cert.AdamDownRefIdeal.Value.run (F := Ideal) m' g')⟩
  have s : _ = grad m c := (hostSum _ bitsLt_bf16_f32 Cert.AdamDownRefIdeal.Gen.reducesTo_S8x1376x4096_S1376x4096_d0 Cert.AdamDownRefIdeal.Gen.h_S_).trans
    (congrArg (fun p => total p bitsLt_bf16_f32) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamDown := fun m g _ => Cert.AdamDown.Gen.frame (F := Bits) m g

/-- The call runs, at exact floats. -/
theorem frame_ideal : Cert.quiescent_AdamDownIdeal := fun m g _ => Cert.AdamDownIdeal.Gen.frame (F := Ideal) m g

/-- The reference runs, at exact floats. -/
theorem frame_ref : Cert.quiescent_AdamDownRefIdeal := fun m g _ =>
  (θ_run Cert.AdamDownRefIdeal.defs _ _).mono (fun r h => ⟨fun c => (h c).2.2.2.2, sem_eq_zero_of_no_sems (by decide) r.2⟩)
    (Cert.AdamDownRefIdeal.Value.run (F := Ideal) m g)

end Cert.Adam.Down

end
-- ==== Proof.Adam.Small.lean ====
/-
# AdamW of the small weights

The small weights are packed into one array, and their gradient comes as one part, summed up before.
-/
module

public import proofs.«01_k».proof.Proof.Adam.Rule
public import proofs.«01_k».proof.Proof.Gen.AdamSmall
public import proofs.«01_k».proof.Proof.Gen.AdamSmall.Frame
public import proofs.«01_k».proof.Proof.Gen.AdamSmallIdeal.Frame
public import proofs.«01_k».proof.Proof.Gen.AdamSmallRefIdeal.Run

@[expose] public section

noncomputable section

namespace Cert.Adam.Small

open Idealize.ShloMosaic Idealize.ShloMosaic.TcCoe Idealize.SL.Sem Cert.AdamSmallIdeal Cert.AdamSmallIdeal.Gen

section Run
variable {F : FTy → Type} [FloatOps F] (m : (ℓ : Loc nD τ sig) → Buf (Elt F) ℓ)

/-- The gradient: the one part. -/
abbrev grad (c : Dev nD) : FVec F ⟨2, ![4664, 128]⟩ .f32 := part (R := 4664) (C := 128) (m ((c.tc : Thread nD τ).loc main_arg3)) (0 : Fin 1)

/-- What a grid point reads of the part is its block of the gradient. -/
theorem grad_at (c : Dev nD) (t : Fin cfg0.N) (y : S424x128.Idx) :
    k0_pay1 (View.ld (iblk m c 3 t) r0_0) y = grad m c (((cfg0.win 4).blk t).view.emb y) :=
  (congrFun (load_part (R := 424) (C := 128) (n := 1) (Val := Elt F) (e := .f32) (iblk m c 3 t) 0 (inb8 0) shapeCasts_S1x424x128_S424x128) y).trans
    (congrArg (m _) (funext fun a => Fin.ext (match a with
      | ⟨0, _⟩ => rfl
      | ⟨1, _⟩ => rfl
      | ⟨2, _⟩ => rfl)))

/-- The first result is the gradient. -/
theorem out_grad (c : Dev nD) : (dats m 0 c).arrAt 4 cfg0.N = grad m c :=
  (dats m 0 c).arrAt_eq_of_covers 4 _ (by decide +kernel) fun t _ y => (congrFun (after0_4 m c t) y).trans (by
    unfold out0_4; rw [View.canon_unit_zero (by decide)]; exact grad_at m c t y)

/-- The second result is what the step adds to the weight. -/
theorem out_delta (c : Dev nD) : (dats m 0 c).arrAt 5 cfg0.N = delta (m ((c.tc : Thread nD τ).loc main_arg0)) (m ((c.tc : Thread nD τ).loc main_arg1))
    (m ((c.tc : Thread nD τ).loc main_arg2)) (grad m c) :=
  (dats m 0 c).arrAt_eq_of_covers 5 _ (by decide +kernel) fun t _ y => (congrFun (after0_5 m c t) y).trans (by
    unfold out0_5
    rw [View.canon_unit_zero (by decide), View.ld_unit_zero (S := S424x128) (by decide), View.ld_unit_zero (S := S424x128) (by decide), View.ld_unit_zero (S := S424x128) (by decide)]
    exact delta_at _ _ _ _ _ _ _ _ _ _ rfl rfl rfl (grad_at m c t y))

/-- The third result is the new first moment. -/
theorem out_m (c : Dev nD) : (dats m 0 c).arrAt 6 cfg0.N = newM (m ((c.tc : Thread nD τ).loc main_arg1)) (grad m c) :=
  (dats m 0 c).arrAt_eq_of_covers 6 _ (by decide +kernel) fun t _ y => (congrFun (after0_6 m c t) y).trans (by
    unfold out0_6; rw [View.canon_unit_zero (by decide), View.ld_unit_zero (S := S424x128) (by decide)]
    exact newM_at _ _ _ _ _ _ rfl (grad_at m c t y))

/-- The fourth result is the new second moment. -/
theorem out_v (c : Dev nD) : (dats m 0 c).arrAt 7 cfg0.N = newV (m ((c.tc : Thread nD τ).loc main_arg2)) (grad m c) :=
  (dats m 0 c).arrAt_eq_of_covers 7 _ (by decide +kernel) fun t _ y => (congrFun (after0_7 m c t) y).trans (by
    unfold out0_7; rw [View.canon_unit_zero (by decide), View.ld_unit_zero (S := S424x128) (by decide)]
    exact newV_at _ _ _ _ _ _ rfl (grad_at m c t y))

end Run

/-- At exact floats the tiled update computes what the reference computes. -/
theorem exact : Cert.algebraic_AdamSmallIdeal_AdamSmallRefIdeal := by
  intro m g m' g' _ hm
  refine ⟨fun c => grad m c, fun c => delta (m ((c.tc : Thread nD τ).loc main_arg0)) (m ((c.tc : Thread nD τ).loc main_arg1))
      (m ((c.tc : Thread nD τ).loc main_arg2)) (grad m c), fun c => newM (m ((c.tc : Thread nD τ).loc main_arg1)) (grad m c),
    fun c => newV (m ((c.tc : Thread nD τ).loc main_arg2)) (grad m c),
    (θ_run defs _ _).mono (fun r h c => ⟨(h.2.out_eq c 4).trans (out_grad m c), (h.2.out_eq c 5).trans (out_delta m c),
      (h.2.out_eq c 6).trans (out_m m c), (h.2.out_eq c 7).trans (out_v m c), h.1 c⟩) (θ_run_and (unchanged m g) (run_main m g)),
    (θ_run Cert.AdamSmallRefIdeal.defs _ _).mono (fun r h c => ?_) (Cert.AdamSmallRefIdeal.Value.run (F := Ideal) m' g')⟩
  have s : _ = grad m c := (hostSum_one _ Cert.AdamSmallRefIdeal.Gen.reducesTo_S1x4664x128_S4664x128_d0 Cert.AdamSmallRefIdeal.Gen.h_S_).trans
    (congrArg (fun p => part p 0) (hm c).2.2.2)
  obtain ⟨h1, h2, h3, h4, h5⟩ := h c
  rw [s, (hm c).1, (hm c).2.1, (hm c).2.2.1] at h2
  rw [s, (hm c).2.1] at h3
  rw [s, (hm c).2.2.1] at h4
  exact ⟨h1.trans s, h2, h3, h4, h5⟩

/-- The call runs, over the floats' bits. -/
theorem frame_bits : Cert.quiescent_AdamSmall := fun m g _ => Cert.AdamSmall.Gen.frame (F := Bits) m g

/-- The call runs, at exact floats. -/
theorem frame_ideal : Cert.quiescent_AdamSmallIdeal := fun m g _ => Cert.AdamSmallIdeal.Gen.frame (F := Ideal) m g

/-- The reference runs, at exact floats. -/
theorem frame_ref : Cert.quiescent_AdamSmallRefIdeal := fun m g _ =>
  (θ_run Cert.AdamSmallRefIdeal.defs _ _).mono (fun r h => ⟨fun c => (h c).2.2.2.2, sem_eq_zero_of_no_sems (by decide) r.2⟩)
    (Cert.AdamSmallRefIdeal.Value.run (F := Ideal) m g)

end Cert.Adam.Small

end
-- ==== Proof.Adam.Totals.lean ====
/-
# The small gradients' totals and the loss

One grid point sums up the eight devices' packed arrays. The loss is a multiple of the sum over the first 32 rows, which hold the squared errors.
-/
module

public import proofs.«01_k».proof.Proof.Adam.Rule
public import proofs.«01_k».proof.Proof.Gen.Totals
public import proofs.«01_k».proof.Proof.Gen.Totals.Frame
public import proofs.«01_k».proof.Proof.Gen.TotalsIdeal.Frame
public import proofs.«01_k».proof.Proof.Gen.TotalsRefIdeal.Run
public import Idealize.ShloMosaic.Lib.Pointwise.Reduce

@[expose] public section

noncomputable section

namespace Cert.Adam.Totals

open Idealize.ShloMosaic Idealize.ShloMosaic.TcCoe Idealize.SL.Sem Cert.TotalsIdeal Cert.TotalsIdeal.Gen

section Run
variable {F : FTy → Type} [FloatOps F]

/-- The eight packed arrays' sum, in the devices' order. -/
def sum8 (p : Vec F S8x5152x128 .f32) : FVec F S5152x128 .f32 :=
  addf (addf (addf (addf (addf (addf (addf (part (R := 5152) (C := 128) p (0 : Fin 8)) (part (R := 5152) (C := 128) p (1 : Fin 8)))
    (part (R := 5152) (C := 128) p (2 : Fin 8))) (part (R := 5152) (C := 128) p (3 : Fin 8))) (part (R := 5152) (C := 128) p (4 : Fin 8)))
    (part (R := 5152) (C := 128) p (5 : Fin 8))) (part (R := 5152) (C := 128) p (6 : Fin 8))) (part (R := 5152) (C := 128) p (7 : Fin 8))

/-- What the grid point stores first is the sum. -/
theorem pay_sum (p : Vec F S8x5152x128 .f32) :
    k0_pay2 (View.ld p r0_0) (View.ld p r0_1) (View.ld p r0_2) (View.ld p r0_3) (View.ld p r0_4) (View.ld p r0_5) (View.ld p r0_6) (View.ld p r0_7)
      = sum8 p := by
  have k := fun s : Fin 8 => load_part (R := 5152) (C := 128) (Val := Elt F) (e := .f32) p s (inb8 s) shapeCasts_S1x5152x128_S5152x128
  unfold sum8
  rw [← k 0, ← k 1, ← k 2, ← k 3, ← k 4, ← k 5, ← k 6, ← k 7]
  rfl

/-- The loss of the summed up array: a multiple of the sum over its first 32 rows. -/
def loss (t : FVec F S5152x128 .f32) : FVec F S1x1 .f32 :=
  k0_pay1 k0_pay3 (extractAt ![0, 0, 0] (shapeCast S1x1x1 (multiReduction .add [1, 2] S1
    (shapeCast S1x32x128 (extractStridedSlice S32x128 ![0, 0] t slices_S5152x128_o0_0_S32x128) shapeCasts_S32x128_S1x32x128)
    0x00000000#32 reduces_S1x32x128_S1 (.inl rfl) rfl) shapeCasts_S1_S1x1x1) inpos_S1x1x1_p0_0_0)

/-- What the grid point stores second is the loss of the sum. -/
theorem pay_loss (p : Vec F S8x5152x128 .f32) :
    k0_pay1 k0_pay3 (k0_pay4 (View.ld p r0_0) (View.ld p r0_1) (View.ld p r0_2) (View.ld p r0_3) (View.ld p r0_4) (View.ld p r0_5) (View.ld p r0_6) (View.ld p r0_7))
      = loss (sum8 p) := by
  rw [← pay_sum p]
  rfl

variable (m : (ℓ : Loc nD τ sig) → Buf (Elt F) ℓ)

/-- The one grid point sees the whole stack of packed arrays. -/
theorem blk_in (c : Dev nD) (t : Fin cfg0.N) : iblk m c 0 t = m ((c.tc : Thread nD τ).loc main_arg0) :=
  funext fun x => congrArg (m _) (funext fun a => Fin.ext (match a with
    | ⟨0, _⟩ => (cfg0.win 0).rect_emb_val_of_index_zero t 0 rfl x
    | ⟨1, _⟩ => (cfg0.win 0).rect_emb_val_of_index_zero t 1 rfl x
    | ⟨2, _⟩ => (cfg0.win 0).rect_emb_val_of_index_zero t 2 rfl x))

/-- The first result is the sum. -/
theorem out_sum (c : Dev nD) : (dats m 0 c).arrAt 1 cfg0.N = sum8 (m ((c.tc : Thread nD τ).loc main_arg0)) :=
  (dats m 0 c).arrAt_eq_of_covers 1 _ (by decide +kernel) fun t _ y => (congrFun (after0_1 m c t) y).trans (by
    unfold out0_1; rw [View.canon_unit_zero (by decide), pay_sum, blk_in]
    exact congrArg (sum8 _) (funext fun a => Fin.ext (match a with
      | ⟨0, _⟩ => ((cfg0.win 1).rect_emb_val_of_index_zero t 0 rfl y).symm
      | ⟨1, _⟩ => ((cfg0.win 1).rect_emb_val_of_index_zero t 1 rfl y).symm)))

/-- The second result is the loss. -/
theorem out_loss (c : Dev nD) : (dats m 0 c).arrAt 2 cfg0.N = loss (sum8 (m ((c.tc : Thread nD τ).loc main_arg0))) :=
  (dats m 0 c).arrAt_eq_of_covers 2 _ (by decide +kernel) fun t _ y => (congrFun (after0_2 m c t) y).trans (by
    unfold out0_2; rw [View.canon_unit_zero (by decide), pay_loss, blk_in]
    exact congrArg (loss _) (funext fun a => Fin.ext (match a with
      | ⟨0, _⟩ => ((cfg0.win 2).rect_emb_val_of_index_zero t 0 rfl y).symm
      | ⟨1, _⟩ => ((cfg0.win 2).rect_emb_val_of_index_zero t 1 rfl y).symm)))

end Run

/-! ## At exact floats -/

/-- The host's sum over the eight packed arrays is their sum. -/
theorem host_sum (p : Vec Ideal S8x5152x128 .f32) (h' : S8x5152x128.ReducesTo [0] S5152x128) {U : Shape} (hu : 0 < U.numel) :
    Host.reduceAdd p (constant U .f32 0x00000000#32) h' hu = sum8 p := by
  funext j
  refine (hostSum_at (R := 5152) (C := 128) p h' hu j).trans ?_
  rw [Fin.sum_univ_eight]
  rfl

/-- The kernel's factor. -/
theorem word_loss : Ideal.ofBits .f32 0x39000000#32 = ((1 / 8192 : ℝ) : EReal) := by
  simp [Ideal.ofBits, Ideal.ieee, -EReal.coe_mul]; norm_num
/-- The reference's half. -/
theorem word_half : Ideal.ofBits .f32 0x3F000000#32 = ((1 / 2 : ℝ) : EReal) := by
  simp [Ideal.ofBits, Ideal.ieee, -EReal.coe_mul]; norm_num
/-- The reference's number of features. -/
theorem word_width : Ideal.ofBits .f32 0x45800000#32 = ((4096 : ℝ) : EReal) := by
  simp [Ideal.ofBits, Ideal.ieee, -EReal.coe_mul]; norm_num

/-- A multiple of a sum, or half of its mean. -/
theorem half_mean (s : EReal) : ((1 / 8192 : ℝ) : EReal) * s = ((1 / 2 : ℝ) : EReal) * Ideal.div s ((4096 : ℝ) : EReal) := by
  rw [Ideal.div_coe (by norm_num), mul_comm s, ← mul_assoc, ← EReal.coe_mul]
  norm_num

/-- The loss is a multiple of the double sum over the first 32 rows. -/
theorem loss_at (t : FVec Ideal S5152x128 .f32) (j : S1x1.Idx) : loss t j = (Ideal.ofBits .f32 0x39000000#32 *
    ∑ a : Fin 32, ∑ b : Fin 128, extractStridedSlice S32x128 ![0, 0] t slices_S5152x128_o0_0_S32x128 (ix2 a b) : EReal) := by
  refine congrArg (Ideal.ofBits .f32 0x39000000#32 * ·) ((Ideal.reduceAdd_r3_a12 _ _ _).trans ?_)
  refine Finset.sum_congr rfl fun a _ => Finset.sum_congr rfl fun b _ => ?_
  refine (shapeCast_addUnit_apply ![32, 128] _ _ _).trans (congrArg _ (funext fun i => ?_))
  match i with
  | ⟨0, _⟩ => rfl
  | ⟨1, _⟩ => rfl

/-- The host's loss is half of the mean of the same sum. -/
theorem host_loss (t : FVec Ideal S5152x128 .f32) : shapeCast S1x1 (mulf (constant Cert.TotalsRefIdeal.S_ .f32 0x3F000000#32)
    (Host.divf (Host.reduceAdd (extractStridedSlice S32x128 ![0, 0] t Cert.TotalsRefIdeal.Gen.slices_S5152x128_S32x128_0_0)
      (constant Cert.TotalsRefIdeal.S_ .f32 0x00000000#32) Cert.TotalsRefIdeal.Gen.reducesTo_S32x128_S_d0_1 Cert.TotalsRefIdeal.Gen.h_S_)
      (constant Cert.TotalsRefIdeal.S_ .f32 0x45800000#32))) Cert.TotalsRefIdeal.Gen.shapeCasts_S_S1x1 = loss t := by
  funext j
  rw [loss_at, word_loss, half_mean]
  show Ideal.ofBits .f32 0x3F000000#32 * Ideal.div (Ideal.hostReduceAdd Cert.TotalsRefIdeal.Gen.reducesTo_S32x128_S_d0_1
    (extractStridedSlice S32x128 ![0, 0] t Cert.TotalsRefIdeal.Gen.slices_S5152x128_S32x128_0_0) (Ideal.ofBits .f32 0x00000000#32) _)
    (Ideal.ofBits .f32 0x45800000#32) = _
  rw [word_half, word_width, Ideal.ofBits_zero_f32, Ideal.hostReduceAdd_r2_a01, zero_add]

/-- At exact floats the call computes what the reference computes. -/
theorem exact : Cert.algebraic_TotalsIdeal_TotalsRefIdeal := by
  intro m g m' g' _ hm
  refine ⟨fun c => sum8 (m ((c.tc : Thread nD τ).loc main_arg0)), fun c => loss (sum8 (m ((c.tc : Thread nD τ).loc main_arg0))),
    (θ_run defs _ _).mono (fun r h c => ⟨(h.2.out_eq c 1).trans (out_sum m c), (h.2.out_eq c 2).trans (out_loss m c), h.1 c⟩)
      (θ_run_and (unchanged m g) (run_main m g)),
    (θ_run Cert.TotalsRefIdeal.defs _ _).mono (fun r h c => ?_) (Cert.TotalsRefIdeal.Value.run (F := Ideal) m' g')⟩
  have s : _ = sum8 (m ((c.tc : Thread nD τ).loc main_arg0)) :=
    (host_sum _ Cert.TotalsRefIdeal.Gen.reducesTo_S8x5152x128_S5152x128_d0 Cert.TotalsRefIdeal.Gen.h_S_).trans (congrArg sum8 (hm c))
  obtain ⟨h1, h2, h3⟩ := h c
  rw [s, host_loss] at h2
  exact ⟨h1.trans s, h2, h3⟩

/-- The call runs, over the floats' bits. -/
theorem frame_bits : Cert.quiescent_Totals := fun m g _ => Cert.Totals.Gen.frame (F := Bits) m g

/-- The call runs, at exact floats. -/
theorem frame_ideal : Cert.quiescent_TotalsIdeal := fun m g _ => Cert.TotalsIdeal.Gen.frame (F := Ideal) m g

/-- The reference runs, at exact floats. -/
theorem frame_ref : Cert.quiescent_TotalsRefIdeal := fun m g _ =>
  (θ_run Cert.TotalsRefIdeal.defs _ _).mono (fun r h => ⟨fun c => (h c).2.2, sem_eq_zero_of_no_sems (by decide) r.2⟩)
    (Cert.TotalsRefIdeal.Value.run (F := Ideal) m g)

end Cert.Adam.Totals

end
-- ==== Proof.Norms.Rows.lean ====
/-
# Rows of 4096 features, normed

The calls at the norms share their arithmetic. Each takes 128 rows at a grid point, and makes a row of a result from that row of its
arguments. The gradient of a scale is a sum over all rows: every point adds its rows' share to one block. Here is the arithmetic, at exact
floats and for any number of rows, and what it is on a point's rows.
-/
module

public import Idealize.ShloMosaic.Lib.Pipeline.ValueKit

@[expose] public section

noncomputable section

namespace Cert.Norms

open Idealize.ShloMosaic

/-- Rows of 4096 features. -/
abbrev Mat (R : ℕ) := (⟨2, ![R, 4096]⟩ : Shape).Idx → EReal

section
variable {R : ℕ}

/-- The number of features, as the calls write it. -/
abbrev width : EReal := Ideal.ofBits .f32 0x45800000#32

/-- The factor that norms a row: one over the root of its mean square. -/
def rstd (X : Mat R) (i : Fin R) : EReal :=
  Ideal.rsqrt (Ideal.div (∑ k : Fin 4096, X (ix2 i k) * X (ix2 i k)) width + Ideal.ofBits .f32 0x358637BD#32)

/-- The rows normed. -/
def unit (X : Mat R) : Mat R := fun j => X j * rstd X (j 0)

/-- The rows times a scale. -/
def scaled (X : Mat R) (G : Mat 1) : Mat R := fun j => X j * G (ix2 0 (j 1))

/-- The gradient D of the rows normed, brought back to the rows. -/
def pull (X D : Mat R) : Mat R := fun j => rstd X (j 0) * (D j - unit X j * Ideal.div (∑ k : Fin 4096, D (ix2 (j 0) k) * unit X (ix2 (j 0) k)) width)

/-- The gradient at rows that a norm takes: what reaches them past the norm, and the gradient E of the norm's output brought back. -/
def grad (D E X : Mat R) (G : Mat 1) : Mat R := fun j => D j + pull X (scaled E G) j

/-- The sum over the rows of a product, by feature. -/
def colSum (A B : Mat R) : Mat 1 := fun j => ∑ i : Fin R, A (ix2 i (j 1)) * B (ix2 i (j 1))

end

/-- The rows that a grid point takes. -/
def rows (t : ℕ) (ht : t < 32) (X : Mat 4096) : Mat 128 := fun j => X (ix2 ⟨t * 128 + (j 0).val, by have h : (j 0).val < 128 := (j 0).isLt; omega⟩ (j 1))

/-- The points' shares make the sum over all rows. -/
theorem sum_rows {N : ℕ} (hN : N = 32) (A B : Mat 4096) (j : (⟨2, ![1, 4096]⟩ : Shape).Idx) :
    ∑ t : Fin N, colSum (rows t.val (hN ▸ t.isLt) A) (rows t.val (hN ▸ t.isLt) B) j = colSum A B j := by
  subst hN
  exact Fin.sum_mul_add_fin (S := 32) (n := 128) (fun i : Fin 4096 => A (ix2 i (j 1)) * B (ix2 i (j 1)))

/-- A block that the first point sets to its rows' share, and every later one adds its share to, ends as the sum over all rows. -/
theorem sum_points {N : ℕ} (hN : N = 32) (o : (n : ℕ) → n < N → Mat 1) (A B : Mat 4096)
    (h0 : ∀ t : Fin N, t.val % 32 = 0 → ∀ j, o t.val t.isLt j = colSum (rows t.val (hN ▸ t.isLt) A) (rows t.val (hN ▸ t.isLt) B) j)
    (hs : ∀ t : Fin N, ¬t.val % 32 = 0 → ∀ j, o t.val t.isLt j = o (t.val - 1) (Nat.lt_of_le_of_lt (Nat.sub_le _ _) t.isLt) j
      + colSum (rows t.val (hN ▸ t.isLt) A) (rows t.val (hN ▸ t.isLt) B) j)
    (t : Fin N) (ht : t.val % 32 = 31) (j : (⟨2, ![1, 4096]⟩ : Shape).Idx) : o t.val t.isLt j = colSum A B j := by
  rw [Pipeline.eq_sum_fin_of_reset_step_apply_last o 32 (fun _ => (0 : EReal))
    (fun t => colSum (rows t.val (hN ▸ t.isLt) A) (rows t.val (hN ▸ t.isLt) B)) (fun t h j => (h0 t h j).trans (zero_add _).symm) hs (le_of_eq hN) t
    (by have := t.isLt; omega) j, zero_add, sum_rows hN]

end Cert.Norms

end
-- ==== Proof.Norms.First.lean ====
/-
# The gradients at the first norm
-/
module

public import proofs.«01_k».proof.Defs
public import proofs.«01_k».proof.Proof.Norms.Rows
public import proofs.«01_k».proof.Proof.Gen.Norm
public import proofs.«01_k».proof.Proof.Gen.Norm.Frame
public import proofs.«01_k».proof.Proof.Gen.NormIdeal.Frame
public import proofs.«01_k».proof.Proof.Gen.NormRefIdeal.Run

@[expose] public section

noncomputable section

namespace Cert.Norms.First

open Idealize.ShloMosaic Idealize.ShloMosaic.TcCoe Idealize.SL.Sem Cert.NormIdeal Cert.NormIdeal.Gen

section Pay
variable (x e d : Mat 128) (g : Mat 1)

/-- A point's rows normed. -/
theorem pay_unit : k0_pay3 (F := Ideal) x = unit x := by
  funext j
  unfold unit rstd
  pointwise [k0_pay3, k0_pay2]

/-- The gradient at the input that a point stores. -/
theorem pay_grad : k0_pay4 (F := Ideal) x e d g = grad d e x g := by
  unfold k0_pay4
  rw [pay_unit]
  funext j
  unfold grad pull scaled rstd
  pointwise [k0_pay2]

/-- A point's share of the scale's gradient. -/
theorem pay_scale : k0_pay5 (F := Ideal) x e = colSum e (unit x) := by
  unfold k0_pay5
  rw [pay_unit]
  funext j
  unfold colSum
  pointwise

/-- A share, added to those of the points before. -/
theorem add_scale (p q : Mat 1) (j : S1x4096.Idx) : k0_pay1 (F := Ideal) p q j = q j + p j := by
  pointwise [k0_pay1]

end Pay

section Run
variable (m : (ℓ : Loc nD τ sig) → Buf (Elt Ideal) ℓ) (c : Dev nD)

/-- Where a point's blocks lie. -/
theorem places : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0])

/-- There are 32 points. -/
theorem lt (t : Fin cfg0.N) : t.val < 32 := lt_of_lt_of_eq t.isLt N_0

/-- The argument 0. -/
abbrev a0 : Mat 4096 := m ((c.tc : Thread nD τ).loc main_arg0)

/-- The argument 1. -/
abbrev a1 : Mat 4096 := m ((c.tc : Thread nD τ).loc main_arg1)

/-- The argument 2. -/
abbrev a2 : Mat 4096 := m ((c.tc : Thread nD τ).loc main_arg2)

/-- The argument 3. -/
abbrev a3 : Mat 1 := m ((c.tc : Thread nD τ).loc main_arg3)

/-- A point sees its rows of the argument 0. -/
theorem blk0 (t : Fin cfg0.N) : iblk m c 0 t = rows t.val (lt t) (a0 m c) := by
  funext y
  unfold rows
  blk_ext! [iblk, V, places]

/-- A point sees its rows of the argument 1. -/
theorem blk1 (t : Fin cfg0.N) : iblk m c 1 t = rows t.val (lt t) (a1 m c) := by
  funext y
  unfold rows
  blk_ext! [iblk, V, places]

/-- A point sees its rows of the argument 2. -/
theorem blk2 (t : Fin cfg0.N) : iblk m c 2 t = rows t.val (lt t) (a2 m c) := by
  funext y
  unfold rows
  blk_ext! [iblk, V, places]

/-- A point sees the whole scale 3. -/
theorem blk3 (t : Fin cfg0.N) : iblk m c 3 t = a3 m c := by
  funext y
  blk_ext! [iblk, V, places]

/-- Where a point's rows of the array 4 lie. -/
theorem emb4 (t : Fin cfg0.N) (X : Mat 4096) (y : S128x4096.Idx) : rows t.val (lt t) X y = X (((cfg0.win 4).blk t).view.emb y) := by
  unfold rows
  blk_ext! [places]

/-- The block of the array 5 is the whole of it. -/
theorem emb5 (t : Fin cfg0.N) (y : S1x4096.Idx) : ((cfg0.win 5).blk t).view.emb y = y := by
  blk_ext [places]

/-- The gradient at the input, over all rows. -/
def vGrad : Mat 4096 := grad (a2 m c) (a1 m c) (a0 m c) (a3 m c)

/-- The input normed, over all rows. -/
def vUnit : Mat 4096 := unit (a0 m c)

/-- The scale's gradient. -/
def vScale : Mat 1 := colSum (a1 m c) (vUnit m c)

/-- The first result is the gradient at the input, at a point. -/
theorem point4 (t : Fin cfg0.N) : (outsAt0 m c t.val t.isLt).1 = rows t.val (lt t) (vGrad m c) := by
  have e : (outsAt0 m c t.val t.isLt).1 = k0_pay4 (iblk m c 0 t) (iblk m c 1 t) (iblk m c 2 t) (iblk m c 3 t) := by
    by_cases h : t.val % 32 = 0
    · rw [outsAt0_A m c t h (by have := lt t; omega)]
      frame_out
    · rw [outsAt0_B m c t h (by omega)]
      frame_out
  rw [e, pay_grad, blk0, blk1, blk2, blk3]
  rfl

/-- The first result is the gradient at the input. -/
theorem out4 : (dats m 0 c).arrAt 4 cfg0.N = vGrad m c :=
  (dats m 0 c).arrAt_eq_of_covers 4 _ (by decide +kernel) fun t _ y =>
    (congrFun ((after0_4 m c t).trans (point4 m c t)) y).trans (emb4 t (vGrad m c) y)

/-- The second is the scale's gradient. -/
theorem out5 : (dats m 0 c).arrAt 5 cfg0.N = vScale m c :=
  (dats m 0 c).arrAt_eq_of_covers 5 _ (by decide +kernel) fun t hf y => (congrFun (after0_5 m c t) y).trans (by
    rw [emb5]
    refine sum_points N_0 (fun n h => (outsAt0 m c n h).2) (a1 m c) (vUnit m c) (fun t h j => ?_) (fun t h j => ?_) t ((flush0_5 t).mp hf) y
    · rw [outsAt0_A m c t h (by have := lt t; omega)]
      frame_out
      rw [pay_scale, blk0, blk1]
      rfl
    · rw [outsAt0_B m c t h (by omega)]
      frame_out
      rw [add_scale, pay_scale, blk0, blk1]
      rfl)

end Run

/-- At exact floats the call computes what the reference computes. -/
theorem exact : Cert.algebraic_NormIdeal_NormRefIdeal := by
  intro m g m' g' _ hm
  refine ⟨fun c => vGrad m c, fun c => vScale m c,
    (θ_run defs _ _).mono (fun r h c => ⟨(h.2.out_eq c 4).trans (out4 m c), (h.2.out_eq c 5).trans (out5 m c), h.1 c⟩)
      (θ_run_and (unchanged m g) (run_main m g)),
    (θ_run Cert.NormRefIdeal.defs _ _).mono (fun r h c => ?_) (Cert.NormRefIdeal.Value.run (F := Ideal) m' g')⟩
  obtain ⟨h1, h2, h3⟩ := h c
  refine ⟨h1.trans (funext fun j => ?_), h2.trans (funext fun j => ?_), h3⟩
  · unfold vGrad grad pull scaled unit rstd
    simp only [(hm c).1, (hm c).2.1, (hm c).2.2.1, (hm c).2.2.2]
    pointwise
  · unfold vScale vUnit colSum unit rstd
    simp only [(hm c).1, (hm c).2.1, (hm c).2.2.1, (hm c).2.2.2]
    pointwise

/-- The call runs, on floats as bits. -/
theorem frame_bits : Cert.quiescent_Norm := fun m g _ => Cert.Norm.Gen.frame (F := Bits) m g

/-- The call runs, at exact floats. -/
theorem frame_ideal : Cert.quiescent_NormIdeal := fun m g _ => Cert.NormIdeal.Gen.frame (F := Ideal) m g

/-- The reference runs, at exact floats. -/
theorem frame_ref : Cert.quiescent_NormRefIdeal := fun m g _ =>
  (θ_run Cert.NormRefIdeal.defs _ _).mono (fun r h => ⟨fun c => (h c).2.2, sem_eq_zero_of_no_sems (by decide) r.2⟩)
    (Cert.NormRefIdeal.Value.run (F := Ideal) m g)

end Cert.Norms.First

end
-- ==== Proof.Norms.Pre.lean ====
/-
# The first norm
-/
module

public import proofs.«01_k».proof.Defs
public import proofs.«01_k».proof.Proof.Norms.Rows
public import proofs.«01_k».proof.Proof.Gen.PreNorm
public import proofs.«01_k».proof.Proof.Gen.PreNorm.Frame
public import proofs.«01_k».proof.Proof.Gen.PreNormIdeal.Frame
public import proofs.«01_k».proof.Proof.Gen.PreNormRefIdeal.Run

@[expose] public section

noncomputable section

namespace Cert.Norms.Pre

open Idealize.ShloMosaic Idealize.ShloMosaic.TcCoe Idealize.SL.Sem Cert.PreNormIdeal Cert.PreNormIdeal.Gen

/-- What a point stores. -/
theorem pay (x : Mat 128) (g : Mat 1) : k0_pay1 (F := Ideal) x g = scaled (unit x) g := by
  funext j
  unfold scaled unit rstd
  pointwise [k0_pay1]

section Run
variable (m : (ℓ : Loc nD τ sig) → Buf (Elt Ideal) ℓ) (c : Dev nD)

/-- Where a point's blocks lie. -/
theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- There are 32 points. -/
theorem lt (t : Fin cfg0.N) : t.val < 32 := lt_of_lt_of_eq t.isLt N_0

/-- A point sees its rows. -/
theorem blk_rows (t : Fin cfg0.N) : iblk m c 0 t = rows t.val (lt t) (m ((c.tc : Thread nD τ).loc main_arg0)) := by
  funext y
  unfold rows
  blk_ext! [iblk, V, places]

/-- A point sees the whole scale. -/
theorem blk_scale (t : Fin cfg0.N) : iblk m c 1 t = m ((c.tc : Thread nD τ).loc main_arg1) := by
  funext y
  blk_ext! [iblk, V, places]

/-- Where a point's rows lie. -/
theorem emb (t : Fin cfg0.N) (X : Mat 4096) (y : S128x4096.Idx) : rows t.val (lt t) X y = X (((cfg0.win 2).blk t).view.emb y) := by
  unfold rows
  blk_ext! [places]

/-- The result. -/
theorem out (X : Mat 4096) (G : Mat 1) (hX : m ((c.tc : Thread nD τ).loc main_arg0) = X) (hG : m ((c.tc : Thread nD τ).loc main_arg1) = G) :
    (dats m 0 c).arrAt 2 cfg0.N = scaled (unit X) G :=
  (dats m 0 c).arrAt_eq_of_covers 2 _ (by decide +kernel) fun t _ y => (congrFun (after0_2 m c t) y).trans (by
    frame_out
    rw [pay, blk_rows, blk_scale, hX, hG]
    exact emb t (scaled (unit X) G) y)

end Run

/-- At exact floats the call computes what the reference computes. -/
theorem exact : Cert.algebraic_PreNormIdeal_PreNormRefIdeal := by
  intro m g m' g' _ hm
  refine ⟨fun c => scaled (unit (m ((c.tc : Thread nD τ).loc main_arg0))) (m ((c.tc : Thread nD τ).loc main_arg1)),
    (θ_run defs _ _).mono (fun r h c => ⟨(h.2.out_eq c 2).trans (out m c _ _ rfl rfl), h.1 c⟩) (θ_run_and (unchanged m g) (run_main m g)),
    (θ_run Cert.PreNormRefIdeal.defs _ _).mono (fun r h c => ?_) (Cert.PreNormRefIdeal.Value.run (F := Ideal) m' g')⟩
  obtain ⟨h1, h2⟩ := h c
  rw [(hm c).1, (hm c).2] at h1
  refine ⟨h1.trans (funext fun j => ?_), h2⟩
  unfold scaled unit rstd
  pointwise

/-- The call runs, on floats as bits. -/
theorem frame_bits : Cert.quiescent_PreNorm := fun m g _ => Cert.PreNorm.Gen.frame (F := Bits) m g

/-- The call runs, at exact floats. -/
theorem frame_ideal : Cert.quiescent_PreNormIdeal := fun m g _ => Cert.PreNormIdeal.Gen.frame (F := Ideal) m g

/-- The reference runs, at exact floats. -/
theorem frame_ref : Cert.quiescent_PreNormRefIdeal := fun m g _ =>
  (θ_run Cert.PreNormRefIdeal.defs _ _).mono (fun r h => ⟨fun c => (h c).2, sem_eq_zero_of_no_sems (by decide) r.2⟩)
    (Cert.PreNormRefIdeal.Value.run (F := Ideal) m g)

end Cert.Norms.Pre

end
-- ==== Proof.Norms.Mid.lean ====
/-
# The norms around the mixer's residual
-/
module

public import proofs.«01_k».proof.Defs
public import proofs.«01_k».proof.Proof.Norms.Rows
public import proofs.«01_k».proof.Proof.Gen.MidNorm
public import proofs.«01_k».proof.Proof.Gen.MidNorm.Frame
public import proofs.«01_k».proof.Proof.Gen.MidNormIdeal.Frame
public import proofs.«01_k».proof.Proof.Gen.MidNormRefIdeal.Run

@[expose] public section

noncomputable section

namespace Cert.Norms.Mid

open Idealize.ShloMosaic Idealize.ShloMosaic.TcCoe Idealize.SL.Sem Cert.MidNormIdeal Cert.MidNormIdeal.Gen

/-- The mixer's output normed, and added. -/
def res {R : ℕ} (x o : Mat R) (g2 : Mat 1) : Mat R := fun j => x j + scaled (unit o) g2 j

/-- The residual that a point stores. -/
theorem pay_res (o x : Mat 128) (g2 : Mat 1) : k0_pay1 (F := Ideal) o x g2 = res x o g2 := by
  funext j
  unfold res scaled unit rstd
  pointwise [k0_pay1]

/-- The residual normed, that a point stores. -/
theorem pay_norm (o x : Mat 128) (g2 g3 : Mat 1) : k0_pay2 (F := Ideal) o x g2 g3 = scaled (unit (res x o g2)) g3 := by
  rw [← pay_res]
  funext j
  unfold scaled unit rstd
  pointwise [k0_pay2]

section Run
variable (m : (ℓ : Loc nD τ sig) → Buf (Elt Ideal) ℓ) (c : Dev nD)

/-- Where a point's blocks lie. -/
theorem places : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val, 0])

/-- There are 32 points. -/
theorem lt (t : Fin cfg0.N) : t.val < 32 := lt_of_lt_of_eq t.isLt N_0

/-- The argument 0. -/
abbrev a0 : Mat 4096 := m ((c.tc : Thread nD τ).loc main_arg0)

/-- The argument 1. -/
abbrev a1 : Mat 4096 := m ((c.tc : Thread nD τ).loc main_arg1)

/-- The argument 2. -/
abbrev a2 : Mat 1 := m ((c.tc : Thread nD τ).loc main_arg2)

/-- The argument 3. -/
abbrev a3 : Mat 1 := m ((c.tc : Thread nD τ).loc main_arg3)

/-- A point sees its rows of the argument 0. -/
theorem blk0 (t : Fin cfg0.N) : iblk m c 0 t = rows t.val (lt t) (a0 m c) := by
  funext y
  unfold rows
  blk_ext! [iblk, V, places]

/-- A point sees its rows of the argument 1. -/
theorem blk1 (t : Fin cfg0.N) : iblk m c 1 t = rows t.val (lt t) (a1 m c) := by
  funext y
  unfold rows
  blk_ext! [iblk, V, places]

/-- A point sees the whole scale 2. -/
theorem blk2 (t : Fin cfg0.N) : iblk m c 2 t = a2 m c := by
  funext y
  blk_ext! [iblk, V, places]

/-- A point sees the whole scale 3. -/
theorem blk3 (t : Fin cfg0.N) : iblk m c 3 t = a3 m c := by
  funext y
  blk_ext! [iblk, V, places]

/-- Where a point's rows of the array 4 lie. -/
theorem emb4 (t : Fin cfg0.N) (X : Mat 4096) (y : S128x4096.Idx) : rows t.val (lt t) X y = X (((cfg0.win 4).blk t).view.emb y) := by
  unfold rows
  blk_ext! [places]

/-- Where a point's rows of the array 5 lie. -/
theorem emb5 (t : Fin cfg0.N) (X : Mat 4096) (y : S128x4096.Idx) : rows t.val (lt t) X y = X (((cfg0.win 5).blk t).view.emb y) := by
  unfold rows
  blk_ext! [places]

/-- The first result is the residual. -/
theorem out4 : (dats m 0 c).arrAt 4 cfg0.N = res (a0 m c) (a1 m c) (a2 m c) :=
  (dats m 0 c).arrAt_eq_of_covers 4 _ (by decide +kernel) fun t _ y => (congrFun (after0_4 m c t) y).trans (by
    frame_out
    rw [pay_res, blk0, blk1, blk2]
    exact emb4 t (res (a0 m c) (a1 m c) (a2 m c)) y)

/-- The second is the residual normed. -/
theorem out5 : (dats m 0 c).arrAt 5 cfg0.N = scaled (unit (res (a0 m c) (a1 m c) (a2 m c))) (a3 m c) :=
  (dats m 0 c).arrAt_eq_of_covers 5 _ (by decide +kernel) fun t _ y => (congrFun (after0_5 m c t) y).trans (by
    frame_out
    rw [pay_norm, blk0, blk1, blk2, blk3]
    exact emb5 t (scaled (unit (res (a0 m c) (a1 m c) (a2 m c))) (a3 m c)) y)

end Run

/-- At exact floats the call computes what the reference computes. -/
theorem exact : Cert.algebraic_MidNormIdeal_MidNormRefIdeal := by
  intro m g m' g' _ hm
  refine ⟨fun c => res (a0 m c) (a1 m c) (a2 m c), fun c => scaled (unit (res (a0 m c) (a1 m c) (a2 m c))) (a3 m c),
    (θ_run defs _ _).mono (fun r h c => ⟨(h.2.out_eq c 4).trans (out4 m c), (h.2.out_eq c 5).trans (out5 m c), h.1 c⟩)
      (θ_run_and (unchanged m g) (run_main m g)),
    (θ_run Cert.MidNormRefIdeal.defs _ _).mono (fun r h c => ?_) (Cert.MidNormRefIdeal.Value.run (F := Ideal) m' g')⟩
  obtain ⟨h1, h2, h3⟩ := h c
  refine ⟨h1.trans (funext fun j => ?_), h2.trans (funext fun j => ?_), h3⟩
  · unfold res scaled unit rstd
    simp only [(hm c).1, (hm c).2.1, (hm c).2.2.1, (hm c).2.2.2]
    pointwise
  · unfold res scaled unit rstd
    simp only [(hm c).1, (hm c).2.1, (hm c).2.2.1, (hm c).2.2.2]
    pointwise

/-- The call runs, on floats as bits. -/
theorem frame_bits : Cert.quiescent_MidNorm := fun m g _ => Cert.MidNorm.Gen.frame (F := Bits) m g

/-- The call runs, at exact floats. -/
theorem frame_ideal : Cert.quiescent_MidNormIdeal := fun m g _ => Cert.MidNormIdeal.Gen.frame (F := Ideal) m g

/-- The reference runs, at exact floats. -/
theorem frame_ref : Cert.quiescent_MidNormRefIdeal := fun m g _ =>
  (θ_run Cert.MidNormRefIdeal.defs _ _).mono (fun r h => ⟨fun c => (h c).2.2, sem_eq_zero_of_no_sems (by decide) r.2⟩)
    (Cert.MidNormRefIdeal.Value.run (F := Ideal) m g)

end Cert.Norms.Mid

end
-- ==== Proof.Norms.Post.lean ====
/-
# The last norm, the error and its gradient
-/
module

public import proofs.«01_k».proof.Defs
public import proofs.«01_k».proof.Proof.Norms.Rows
public import proofs.«01_k».proof.Proof.Gen.PostFfn
public import proofs.«01_k».proof.Proof.Gen.PostFfn.Frame
public import proofs.«01_k».proof.Proof.Gen.PostFfnIdeal.Frame
public import proofs.«01_k».proof.Proof.Gen.PostFfnRefIdeal.Run

@[expose] public section

noncomputable section

namespace Cert.Norms.Post

open Idealize.ShloMosaic Idealize.ShloMosaic.TcCoe Idealize.SL.Sem Cert.PostFfnIdeal Cert.PostFfnIdeal.Gen

section Math
variable {R : ℕ} (h d t : Mat R) (g : Mat 1)

/-- The error: the last norm added to the residual, less the target. -/
def err : Mat R := fun j => h j + scaled (unit d) g j - t j

/-- The loss's gradient at the output. -/
def grad : Mat R := fun j => Ideal.div (err h d t g j) width

/-- The gradient through the last norm. -/
def back : Mat R := pull d (scaled (grad h d t g) g)

end Math

section Pay
variable (h d t : Mat 128) (g : Mat 1)

/-- A point's error. -/
theorem pay_err : k0_pay7 (F := Ideal) d g h t = err h d t g := by
  funext j
  unfold err scaled unit rstd
  pointwise [k0_pay7, k0_pay6, k0_pay5]

/-- The gradient that a point stores. -/
theorem pay_grad : k0_pay8 (F := Ideal) d g h t = grad h d t g := by
  unfold grad k0_pay8
  rw [pay_err]
  rfl

/-- A point's rows normed. -/
theorem pay_unit : k0_pay6 (F := Ideal) d = unit d := by
  funext j
  unfold unit rstd
  pointwise [k0_pay6, k0_pay5]

/-- The gradient through the norm that a point stores. -/
theorem pay_back : k0_pay9 (F := Ideal) d g h t = back h d t g := by
  unfold k0_pay9
  rw [pay_grad, pay_unit]
  funext j
  unfold back pull scaled rstd
  pointwise [k0_pay5]

/-- A point's share of the squared errors. -/
theorem pay_loss : k0_pay1 (k0_pay10 (F := Ideal) d g h t) = colSum (err h d t g) (err h d t g) := by
  unfold k0_pay10
  rw [pay_err]
  funext j
  unfold colSum
  pointwise [k0_pay1]

/-- The squared errors, added to those of the points before. -/
theorem add_loss (v : FVec Ideal S128x4096 .f32) (p : Mat 1) (j : S1x4096.Idx) : k0_pay2 (F := Ideal) v p j = p j + k0_pay1 (F := Ideal) v j := by
  unfold k0_pay2
  pointwise

/-- A point's share of the scale's gradient. -/
theorem pay_scale (u v : Mat 128) : k0_pay3 (F := Ideal) u v = colSum v u := by
  funext j
  unfold colSum
  pointwise [k0_pay3]

/-- The scale's gradient, added to that of the points before. -/
theorem add_scale (u v : Mat 128) (p : Mat 1) (j : S1x4096.Idx) : k0_pay4 (F := Ideal) u v p j = p j + k0_pay3 (F := Ideal) u v j := by
  unfold k0_pay4
  pointwise

end Pay

section Run
variable (m : (ℓ : Loc nD τ sig) → Buf (Elt Ideal) ℓ) (c : Dev nD)

/-- Where a point's blocks lie. -/
theorem places : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] ∧ win0_7.index t = ![0, 0])

/-- There are 32 points. -/
theorem lt (t : Fin cfg0.N) : t.val < 32 := lt_of_lt_of_eq t.isLt N_0

/-- The argument 0. -/
abbrev a0 : Mat 4096 := m ((c.tc : Thread nD τ).loc main_arg0)

/-- The argument 1. -/
abbrev a1 : Mat 4096 := m ((c.tc : Thread nD τ).loc main_arg1)

/-- The argument 2. -/
abbrev a2 : Mat 4096 := m ((c.tc : Thread nD τ).loc main_arg2)

/-- The argument 3. -/
abbrev a3 : Mat 1 := m ((c.tc : Thread nD τ).loc main_arg3)

/-- A point sees its rows of the argument 0. -/
theorem blk0 (t : Fin cfg0.N) : iblk m c 0 t = rows t.val (lt t) (a0 m c) := by
  funext y
  unfold rows
  blk_ext! [iblk, V, places]

/-- A point sees its rows of the argument 1. -/
theorem blk1 (t : Fin cfg0.N) : iblk m c 1 t = rows t.val (lt t) (a1 m c) := by
  funext y
  unfold rows
  blk_ext! [iblk, V, places]

/-- A point sees its rows of the argument 2. -/
theorem blk2 (t : Fin cfg0.N) : iblk m c 2 t = rows t.val (lt t) (a2 m c) := by
  funext y
  unfold rows
  blk_ext! [iblk, V, places]

/-- A point sees the whole scale 3. -/
theorem blk3 (t : Fin cfg0.N) : iblk m c 3 t = a3 m c := by
  funext y
  blk_ext! [iblk, V, places]

/-- Where a point's rows of the array 4 lie. -/
theorem emb4 (t : Fin cfg0.N) (X : Mat 4096) (y : S128x4096.Idx) : rows t.val (lt t) X y = X (((cfg0.win 4).blk t).view.emb y) := by
  unfold rows
  blk_ext! [places]

/-- Where a point's rows of the array 5 lie. -/
theorem emb5 (t : Fin cfg0.N) (X : Mat 4096) (y : S128x4096.Idx) : rows t.val (lt t) X y = X (((cfg0.win 5).blk t).view.emb y) := by
  unfold rows
  blk_ext! [places]

/-- The block of the array 6 is the whole of it. -/
theorem emb6 (t : Fin cfg0.N) (y : S1x4096.Idx) : ((cfg0.win 6).blk t).view.emb y = y := by
  blk_ext [places]

/-- The block of the array 7 is the whole of it. -/
theorem emb7 (t : Fin cfg0.N) (y : S1x4096.Idx) : ((cfg0.win 7).blk t).view.emb y = y := by
  blk_ext [places]

/-- The error over all rows. -/
def vErr : Mat 4096 := err (a0 m c) (a1 m c) (a2 m c) (a3 m c)

/-- The gradient at the output, over all rows. -/
def vGrad : Mat 4096 := grad (a0 m c) (a1 m c) (a2 m c) (a3 m c)

/-- The gradient through the norm, over all rows. -/
def vBack : Mat 4096 := back (a0 m c) (a1 m c) (a2 m c) (a3 m c)

/-- The output normed, over all rows. -/
def vUnit : Mat 4096 := unit (a1 m c)

/-- The squared errors, by feature. -/
def vLoss : Mat 1 := colSum (vErr m c) (vErr m c)

/-- The scale's gradient. -/
def vScale : Mat 1 := colSum (vGrad m c) (vUnit m c)

/-- The first result is the gradient at the output, at a point. -/
theorem point4 (t : Fin cfg0.N) : (outsAt0 m c t.val t.isLt).1 = rows t.val (lt t) (vGrad m c) := by
  have e : (outsAt0 m c t.val t.isLt).1 = k0_pay8 (iblk m c 1 t) (iblk m c 3 t) (iblk m c 0 t) (iblk m c 2 t) := by
    by_cases h : t.val % 32 = 0
    · rw [outsAt0_A m c t h (by have := lt t; omega) h (by have := lt t; omega)]
      frame_out
    · rw [outsAt0_B m c t h (by omega) h (by omega)]
      frame_out
  rw [e, pay_grad, blk0, blk1, blk2, blk3]
  rfl

/-- The first result is the gradient at the output. -/
theorem out4 : (dats m 0 c).arrAt 4 cfg0.N = vGrad m c :=
  (dats m 0 c).arrAt_eq_of_covers 4 _ (by decide +kernel) fun t _ y =>
    (congrFun ((after0_4 m c t).trans (point4 m c t)) y).trans (emb4 t (vGrad m c) y)

/-- The second is the gradient through the norm, at a point. -/
theorem point5 (t : Fin cfg0.N) : (outsAt0 m c t.val t.isLt).2.1 = rows t.val (lt t) (vBack m c) := by
  have e : (outsAt0 m c t.val t.isLt).2.1 = k0_pay9 (iblk m c 1 t) (iblk m c 3 t) (iblk m c 0 t) (iblk m c 2 t) := by
    by_cases h : t.val % 32 = 0
    · rw [outsAt0_A m c t h (by have := lt t; omega) h (by have := lt t; omega)]
      frame_out
    · rw [outsAt0_B m c t h (by omega) h (by omega)]
      frame_out
  rw [e, pay_back, blk0, blk1, blk2, blk3]
  rfl

/-- The second is the gradient through the norm. -/
theorem out5 : (dats m 0 c).arrAt 5 cfg0.N = vBack m c :=
  (dats m 0 c).arrAt_eq_of_covers 5 _ (by decide +kernel) fun t _ y =>
    (congrFun ((after0_5 m c t).trans (point5 m c t)) y).trans (emb5 t (vBack m c) y)

/-- The third is the squared errors. -/
theorem out6 : (dats m 0 c).arrAt 6 cfg0.N = vLoss m c :=
  (dats m 0 c).arrAt_eq_of_covers 6 _ (by decide +kernel) fun t hf y => (congrFun (after0_6 m c t) y).trans (by
    rw [emb6]
    refine sum_points N_0 (fun n h => (outsAt0 m c n h).2.2.1) (vErr m c) (vErr m c) (fun t h j => ?_) (fun t h j => ?_) t ((flush0_6 t).mp hf) y
    · rw [outsAt0_A m c t h (by have := lt t; omega) h (by have := lt t; omega)]
      frame_out
      rw [pay_loss, blk0, blk1, blk2, blk3]
      rfl
    · rw [outsAt0_B m c t h (by omega) h (by omega)]
      frame_out
      rw [add_loss, pay_loss, blk0, blk1, blk2, blk3]
      rfl)

/-- The fourth is the scale's gradient. -/
theorem out7 : (dats m 0 c).arrAt 7 cfg0.N = vScale m c :=
  (dats m 0 c).arrAt_eq_of_covers 7 _ (by decide +kernel) fun t hf y => (congrFun (after0_7 m c t) y).trans (by
    rw [emb7]
    refine sum_points N_0 (fun n h => (outsAt0 m c n h).2.2.2) (vGrad m c) (vUnit m c) (fun t h j => ?_) (fun t h j => ?_) t ((flush0_7 t).mp hf) y
    · rw [outsAt0_A m c t h (by have := lt t; omega) h (by have := lt t; omega)]
      frame_out
      rw [pay_scale, pay_unit, pay_grad, blk0, blk1, blk2, blk3]
      rfl
    · rw [outsAt0_B m c t h (by omega) h (by omega)]
      frame_out
      rw [add_scale, pay_scale, pay_unit, pay_grad, blk0, blk1, blk2, blk3]
      rfl)

end Run

/-- At exact floats the call computes what the reference computes. -/
theorem exact : Cert.algebraic_PostFfnIdeal_PostFfnRefIdeal := by
  intro m g m' g' _ hm
  refine ⟨fun c => vGrad m c, fun c => vBack m c, fun c => vLoss m c, fun c => vScale m c,
    (θ_run defs _ _).mono (fun r h c => ⟨(h.2.out_eq c 4).trans (out4 m c), (h.2.out_eq c 5).trans (out5 m c), (h.2.out_eq c 6).trans (out6 m c), (h.2.out_eq c 7).trans (out7 m c), h.1 c⟩)
      (θ_run_and (unchanged m g) (run_main m g)),
    (θ_run Cert.PostFfnRefIdeal.defs _ _).mono (fun r h c => ?_) (Cert.PostFfnRefIdeal.Value.run (F := Ideal) m' g')⟩
  obtain ⟨h1, h2, h3, h4, h5⟩ := h c
  refine ⟨h1.trans (funext fun j => ?_), h2.trans (funext fun j => ?_), h3.trans (funext fun j => ?_), h4.trans (funext fun j => ?_), h5⟩
  · unfold vGrad grad err scaled unit rstd
    simp only [(hm c).1, (hm c).2.1, (hm c).2.2.1, (hm c).2.2.2]
    pointwise
  · unfold vBack back pull grad err scaled unit rstd
    simp only [(hm c).1, (hm c).2.1, (hm c).2.2.1, (hm c).2.2.2]
    pointwise
  · unfold vLoss vErr colSum err scaled unit rstd
    simp only [(hm c).1, (hm c).2.1, (hm c).2.2.1, (hm c).2.2.2]
    pointwise
  · unfold vScale vGrad vUnit colSum grad err scaled unit rstd
    simp only [(hm c).1, (hm c).2.1, (hm c).2.2.1, (hm c).2.2.2]
    pointwise

/-- The call runs, on floats as bits. -/
theorem frame_bits : Cert.quiescent_PostFfn := fun m g _ => Cert.PostFfn.Gen.frame (F := Bits) m g

/-- The call runs, at exact floats. -/
theorem frame_ideal : Cert.quiescent_PostFfnIdeal := fun m g _ => Cert.PostFfnIdeal.Gen.frame (F := Ideal) m g

/-- The reference runs, at exact floats. -/
theorem frame_ref : Cert.quiescent_PostFfnRefIdeal := fun m g _ =>
  (θ_run Cert.PostFfnRefIdeal.defs _ _).mono (fun r h => ⟨fun c => (h c).2.2.2.2, sem_eq_zero_of_no_sems (by decide) r.2⟩)
    (Cert.PostFfnRefIdeal.Value.run (F := Ideal) m g)

end Cert.Norms.Post

end
-- ==== Proof.Norms.Back.lean ====
/-
# The gradients at the norms around the mixer's residual
-/
module

public import proofs.«01_k».proof.Defs
public import proofs.«01_k».proof.Proof.Norms.Rows
public import proofs.«01_k».proof.Proof.Gen.MidBwd
public import proofs.«01_k».proof.Proof.Gen.MidBwd.Frame
public import proofs.«01_k».proof.Proof.Gen.MidBwdIdeal.Frame
public import proofs.«01_k».proof.Proof.Gen.MidBwdRefIdeal.Run

@[expose] public section

noncomputable section

namespace Cert.Norms.Back

open Idealize.ShloMosaic Idealize.ShloMosaic.TcCoe Idealize.SL.Sem Cert.MidBwdIdeal Cert.MidBwdIdeal.Gen

/-- The gradient through the norm of the mixer's output. -/
def back {R : ℕ} (d e h o : Mat R) (g2 g3 : Mat 1) : Mat R := pull o (scaled (grad d e h g3) g2)

section Pay
variable (d e h o : Mat 128) (g2 g3 : Mat 1)

/-- A point's rows of the residual normed. -/
theorem pay_unit : k0_pay9 (F := Ideal) h = unit h := by
  funext j
  unfold unit rstd
  pointwise [k0_pay9, k0_pay8]

/-- The gradient at the residual that a point stores. -/
theorem pay_grad : k0_pay10 (F := Ideal) h e d g3 = grad d e h g3 := by
  unfold k0_pay10
  rw [pay_unit]
  funext j
  unfold grad pull scaled rstd
  pointwise [k0_pay8]

/-- A point's rows of the mixer's output normed. -/
theorem pay_unit' : k0_pay2 (F := Ideal) o (k0_pay11 (F := Ideal) o) = unit o := by
  funext j
  unfold unit rstd
  pointwise [k0_pay2, k0_pay1, k0_pay11]

/-- The gradient through the norm that a point stores. -/
theorem pay_back : k0_pay3 (F := Ideal) d o (k0_pay11 (F := Ideal) o) g2 = pull o (scaled d g2) := by
  unfold k0_pay3
  rw [pay_unit']
  funext j
  unfold pull scaled rstd
  pointwise [k0_pay1, k0_pay11]

/-- A point's share of the gradient of the mixer's scale. -/
theorem pay_scale2 : k0_pay6 (F := Ideal) d o (k0_pay11 (F := Ideal) o) = colSum d (unit o) := by
  unfold k0_pay6
  rw [pay_unit']
  funext j
  unfold colSum
  pointwise

/-- That gradient, added to that of the points before. -/
theorem add_scale2 (v : FVec Ideal S128x1 .f32) (p : Mat 1) (j : S1x4096.Idx) : k0_pay7 (F := Ideal) d o v p j = p j + k0_pay6 (F := Ideal) d o v j := by
  unfold k0_pay7
  pointwise

/-- A point's share of the gradient of the residual's scale. -/
theorem pay_scale3 : k0_pay4 (F := Ideal) h d = colSum d h := by
  funext j
  unfold colSum
  pointwise [k0_pay4]

/-- That gradient, added to that of the points before. -/
theorem add_scale3 (p : Mat 1) (j : S1x4096.Idx) : k0_pay5 (F := Ideal) h d p j = p j + k0_pay4 (F := Ideal) h d j := by
  unfold k0_pay5
  pointwise

end Pay

section Run
variable (m : (ℓ : Loc nD τ sig) → Buf (Elt Ideal) ℓ) (c : Dev nD)

/-- Where a point's blocks lie. -/
theorem places : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![0, 0] ∧ win0_9.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![0, 0] ∧ win0_9.index t = ![0, 0])

/-- There are 32 points. -/
theorem lt (t : Fin cfg0.N) : t.val < 32 := lt_of_lt_of_eq t.isLt N_0

/-- The argument 0. -/
abbrev a0 : Mat 4096 := m ((c.tc : Thread nD τ).loc main_arg0)

/-- The argument 1. -/
abbrev a1 : Mat 4096 := m ((c.tc : Thread nD τ).loc main_arg1)

/-- The argument 2. -/
abbrev a2 : Mat 4096 := m ((c.tc : Thread nD τ).loc main_arg2)

/-- The argument 3. -/
abbrev a3 : Mat 4096 := m ((c.tc : Thread nD τ).loc main_arg3)

/-- The argument 4. -/
abbrev a4 : Mat 1 := m ((c.tc : Thread nD τ).loc main_arg4)

/-- The argument 5. -/
abbrev a5 : Mat 1 := m ((c.tc : Thread nD τ).loc main_arg5)

/-- A point sees its rows of the argument 0. -/
theorem blk0 (t : Fin cfg0.N) : iblk m c 0 t = rows t.val (lt t) (a0 m c) := by
  funext y
  unfold rows
  blk_ext! [iblk, V, places]

/-- A point sees its rows of the argument 1. -/
theorem blk1 (t : Fin cfg0.N) : iblk m c 1 t = rows t.val (lt t) (a1 m c) := by
  funext y
  unfold rows
  blk_ext! [iblk, V, places]

/-- A point sees its rows of the argument 2. -/
theorem blk2 (t : Fin cfg0.N) : iblk m c 2 t = rows t.val (lt t) (a2 m c) := by
  funext y
  unfold rows
  blk_ext! [iblk, V, places]

/-- A point sees its rows of the argument 3. -/
theorem blk3 (t : Fin cfg0.N) : iblk m c 3 t = rows t.val (lt t) (a3 m c) := by
  funext y
  unfold rows
  blk_ext! [iblk, V, places]

/-- A point sees the whole scale 4. -/
theorem blk4 (t : Fin cfg0.N) : iblk m c 4 t = a4 m c := by
  funext y
  blk_ext! [iblk, V, places]

/-- A point sees the whole scale 5. -/
theorem blk5 (t : Fin cfg0.N) : iblk m c 5 t = a5 m c := by
  funext y
  blk_ext! [iblk, V, places]

/-- Where a point's rows of the array 6 lie. -/
theorem emb6 (t : Fin cfg0.N) (X : Mat 4096) (y : S128x4096.Idx) : rows t.val (lt t) X y = X (((cfg0.win 6).blk t).view.emb y) := by
  unfold rows
  blk_ext! [places]

/-- Where a point's rows of the array 7 lie. -/
theorem emb7 (t : Fin cfg0.N) (X : Mat 4096) (y : S128x4096.Idx) : rows t.val (lt t) X y = X (((cfg0.win 7).blk t).view.emb y) := by
  unfold rows
  blk_ext! [places]

/-- The block of the array 8 is the whole of it. -/
theorem emb8 (t : Fin cfg0.N) (y : S1x4096.Idx) : ((cfg0.win 8).blk t).view.emb y = y := by
  blk_ext [places]

/-- The block of the array 9 is the whole of it. -/
theorem emb9 (t : Fin cfg0.N) (y : S1x4096.Idx) : ((cfg0.win 9).blk t).view.emb y = y := by
  blk_ext [places]

/-- The gradient at the residual, over all rows. -/
def vGrad : Mat 4096 := grad (a0 m c) (a1 m c) (a2 m c) (a5 m c)

/-- The gradient through the norm of the mixer's output, over all rows. -/
def vBack : Mat 4096 := back (a0 m c) (a1 m c) (a2 m c) (a3 m c) (a4 m c) (a5 m c)

/-- The mixer's output normed, over all rows. -/
def vUnit2 : Mat 4096 := unit (a3 m c)

/-- The residual normed, over all rows. -/
def vUnit3 : Mat 4096 := unit (a2 m c)

/-- The gradient of the mixer's scale. -/
def vScale2 : Mat 1 := colSum (vGrad m c) (vUnit2 m c)

/-- The gradient of the residual's scale. -/
def vScale3 : Mat 1 := colSum (a1 m c) (vUnit3 m c)

/-- The first result is the gradient at the residual, at a point. -/
theorem point6 (t : Fin cfg0.N) : (outsAt0 m c t.val t.isLt).1 = rows t.val (lt t) (vGrad m c) := by
  have e : (outsAt0 m c t.val t.isLt).1 = k0_pay10 (iblk m c 2 t) (iblk m c 1 t) (iblk m c 0 t) (iblk m c 5 t) := by
    by_cases h : t.val % 32 = 0
    · rw [outsAt0_A m c t h (by have := lt t; omega) h (by have := lt t; omega)]
      frame_out
    · rw [outsAt0_B m c t h (by omega) h (by omega)]
      frame_out
  rw [e, pay_grad, blk0, blk1, blk2, blk5]
  rfl

/-- The first result is the gradient at the residual. -/
theorem out6 : (dats m 0 c).arrAt 6 cfg0.N = vGrad m c :=
  (dats m 0 c).arrAt_eq_of_covers 6 _ (by decide +kernel) fun t _ y =>
    (congrFun ((after0_6 m c t).trans (point6 m c t)) y).trans (emb6 t (vGrad m c) y)

/-- The second is the gradient through the norm, at a point. -/
theorem point7 (t : Fin cfg0.N) : (outsAt0 m c t.val t.isLt).2.1 = rows t.val (lt t) (vBack m c) := by
  have e : (outsAt0 m c t.val t.isLt).2.1 = k0_pay3 (k0_pay10 (iblk m c 2 t) (iblk m c 1 t) (iblk m c 0 t) (iblk m c 5 t)) (iblk m c 3 t) (k0_pay11 (iblk m c 3 t)) (iblk m c 4 t) := by
    by_cases h : t.val % 32 = 0
    · rw [outsAt0_A m c t h (by have := lt t; omega) h (by have := lt t; omega)]
      frame_out
    · rw [outsAt0_B m c t h (by omega) h (by omega)]
      frame_out
  rw [e, pay_grad, pay_back, blk0, blk1, blk2, blk3, blk4, blk5]
  rfl

/-- The second is the gradient through the norm. -/
theorem out7 : (dats m 0 c).arrAt 7 cfg0.N = vBack m c :=
  (dats m 0 c).arrAt_eq_of_covers 7 _ (by decide +kernel) fun t _ y =>
    (congrFun ((after0_7 m c t).trans (point7 m c t)) y).trans (emb7 t (vBack m c) y)

/-- The third is the gradient of the mixer's scale. -/
theorem out8 : (dats m 0 c).arrAt 8 cfg0.N = vScale2 m c :=
  (dats m 0 c).arrAt_eq_of_covers 8 _ (by decide +kernel) fun t hf y => (congrFun (after0_8 m c t) y).trans (by
    rw [emb8]
    refine sum_points N_0 (fun n h => (outsAt0 m c n h).2.2.1) (vGrad m c) (vUnit2 m c) (fun t h j => ?_) (fun t h j => ?_) t ((flush0_8 t).mp hf) y
    · rw [outsAt0_A m c t h (by have := lt t; omega) h (by have := lt t; omega)]
      frame_out
      rw [pay_grad, pay_scale2, blk0, blk1, blk2, blk3, blk5]
      rfl
    · rw [outsAt0_B m c t h (by omega) h (by omega)]
      frame_out
      rw [add_scale2, pay_grad, pay_scale2, blk0, blk1, blk2, blk3, blk5]
      rfl)

/-- The fourth is the gradient of the residual's scale. -/
theorem out9 : (dats m 0 c).arrAt 9 cfg0.N = vScale3 m c :=
  (dats m 0 c).arrAt_eq_of_covers 9 _ (by decide +kernel) fun t hf y => (congrFun (after0_9 m c t) y).trans (by
    rw [emb9]
    refine sum_points N_0 (fun n h => (outsAt0 m c n h).2.2.2) (a1 m c) (vUnit3 m c) (fun t h j => ?_) (fun t h j => ?_) t ((flush0_9 t).mp hf) y
    · rw [outsAt0_A m c t h (by have := lt t; omega) h (by have := lt t; omega)]
      frame_out
      rw [pay_unit, pay_scale3, blk1, blk2]
      rfl
    · rw [outsAt0_B m c t h (by omega) h (by omega)]
      frame_out
      rw [add_scale3, pay_unit, pay_scale3, blk1, blk2]
      rfl)

end Run

/-- At exact floats the call computes what the reference computes. -/
theorem exact : Cert.algebraic_MidBwdIdeal_MidBwdRefIdeal := by
  intro m g m' g' _ hm
  refine ⟨fun c => vGrad m c, fun c => vBack m c, fun c => vScale2 m c, fun c => vScale3 m c,
    (θ_run defs _ _).mono (fun r h c => ⟨(h.2.out_eq c 6).trans (out6 m c), (h.2.out_eq c 7).trans (out7 m c), (h.2.out_eq c 8).trans (out8 m c), (h.2.out_eq c 9).trans (out9 m c), h.1 c⟩)
      (θ_run_and (unchanged m g) (run_main m g)),
    (θ_run Cert.MidBwdRefIdeal.defs _ _).mono (fun r h c => ?_) (Cert.MidBwdRefIdeal.Value.run (F := Ideal) m' g')⟩
  obtain ⟨h1, h2, h3, h4, h5⟩ := h c
  refine ⟨h1.trans (funext fun j => ?_), h2.trans (funext fun j => ?_), h3.trans (funext fun j => ?_), h4.trans (funext fun j => ?_), h5⟩
  · unfold vGrad grad pull scaled unit rstd
    simp only [(hm c).1, (hm c).2.1, (hm c).2.2.1, (hm c).2.2.2.1, (hm c).2.2.2.2.1, (hm c).2.2.2.2.2]
    pointwise
  · unfold Cert.MidBwdRefIdeal.Value.res_main_v45
    unfold vBack back grad pull scaled unit rstd
    simp only [(hm c).1, (hm c).2.1, (hm c).2.2.1, (hm c).2.2.2.1, (hm c).2.2.2.2.1, (hm c).2.2.2.2.2]
    pointwise
  · unfold vScale2 vGrad vUnit2 colSum grad pull scaled unit rstd
    simp only [(hm c).1, (hm c).2.1, (hm c).2.2.1, (hm c).2.2.2.1, (hm c).2.2.2.2.1, (hm c).2.2.2.2.2]
    pointwise
  · unfold vScale3 vUnit3 colSum unit rstd
    simp only [(hm c).1, (hm c).2.1, (hm c).2.2.1, (hm c).2.2.2.1, (hm c).2.2.2.2.1, (hm c).2.2.2.2.2]
    pointwise

/-- The call runs, on floats as bits. -/
theorem frame_bits : Cert.quiescent_MidBwd := fun m g _ => Cert.MidBwd.Gen.frame (F := Bits) m g

/-- The call runs, at exact floats. -/
theorem frame_ideal : Cert.quiescent_MidBwdIdeal := fun m g _ => Cert.MidBwdIdeal.Gen.frame (F := Ideal) m g

/-- The reference runs, at exact floats. -/
theorem frame_ref : Cert.quiescent_MidBwdRefIdeal := fun m g _ =>
  (θ_run Cert.MidBwdRefIdeal.defs _ _).mono (fun r h => ⟨fun c => (h c).2.2.2.2, sem_eq_zero_of_no_sems (by decide) r.2⟩)
    (Cert.MidBwdRefIdeal.Value.run (F := Ideal) m g)

end Cert.Norms.Back

end
-- ==== Proof.Products.Dot.lean ====
/-
# Sums of products

What the calls that multiply share: every entry of a result is a sum of products over the axis that the factors share.
-/
module

public import Idealize.ShloMosaic.Lib.Pipeline.ValueKit
public import Idealize.ShloMosaic.Lib.Pipeline.ReadBack

@[expose] public section

noncomputable section

namespace Cert.Products

open Idealize.ShloMosaic

/-- An array of two axes. -/
abbrev Arr (n k : ℕ) := (⟨2, ![n, k]⟩ : Shape).Idx → EReal

/-- An array of three axes. -/
abbrev Arr3 (b n k : ℕ) := (⟨3, ![b, n, k]⟩ : Shape).Idx → EReal

/-- Two sums of products are equal if the factors are. -/
theorem sum_congr {K : ℕ} {f g f' g' : Fin K → EReal} (hf : ∀ x, f x = f' x) (hg : ∀ x, g x = g' x) :
    ∑ x, f x * g x = ∑ x, f' x * g' x := Finset.sum_congr rfl fun x _ => congrArg₂ (· * ·) (hf x) (hg x)

/-- The same of sums over blocks. -/
theorem sum_congr₂ {J K : ℕ} {f g f' g' : Fin J → Fin K → EReal} (hf : ∀ s x, f s x = f' s x) (hg : ∀ s x, g s x = g' s x) :
    ∑ s, ∑ x, f s x * g s x = ∑ s, ∑ x, f' s x * g' s x := Finset.sum_congr rfl fun s _ => sum_congr (hf s) (hg s)

/-- The same of two products in one sum. -/
theorem sum_congr₂_add {J K : ℕ} {f g f' g' p q p' q' : Fin J → Fin K → EReal} (hf : ∀ s x, f s x = f' s x) (hg : ∀ s x, g s x = g' s x)
    (hp : ∀ s x, p s x = p' s x) (hq : ∀ s x, q s x = q' s x) :
    ∑ s, (∑ x, f s x * g s x + ∑ x, p s x * q s x) = ∑ s, ∑ x, f' s x * g' s x + ∑ s, ∑ x, p' s x * q' s x :=
  Finset.sum_add_distrib.trans (congrArg₂ (· + ·) (sum_congr₂ hf hg) (sum_congr₂ hp hq))

/-- Sums over the blocks of an axis make the sum over the axis. -/
theorem sum_blocks {J K L : ℕ} {f g : Fin J → Fin K → EReal} {f' g' : Fin L → EReal}
    (hf : ∀ s x (h : s.val * K + x.val < L), f s x = f' ⟨s.val * K + x.val, h⟩)
    (hg : ∀ s x (h : s.val * K + x.val < L), g s x = g' ⟨s.val * K + x.val, h⟩) (hL : L = J * K := by first | rfl | decide) :
    ∑ s, ∑ x, f s x * g s x = ∑ l, f' l * g' l :=
  Fin.sum_mul_add_congr (fun s x h => congrArg₂ (· * ·) (hf s x h) (hg s x h)) hL

end Cert.Products

end
-- ==== Proof.Products.Mixer.lean ====
/-
# The mixer's products with its large weights

The projections into the mixer and out of it, and the gradients through them and of their weights. The device of a block of columns is the quotient of its index.
-/
module

public import proofs.«01_k».proof.Defs
public import proofs.«01_k».proof.Proof.Gen.InProjIdeal.Frame
public import proofs.«01_k».proof.Proof.Gen.InProjRefIdeal.Run
public import proofs.«01_k».proof.Proof.Gen.OutProjIdeal.Frame
public import proofs.«01_k».proof.Proof.Gen.OutProjRefIdeal.Run
public import proofs.«01_k».proof.Proof.Gen.InDxIdeal.Frame
public import proofs.«01_k».proof.Proof.Gen.InDxRefIdeal.Run
public import proofs.«01_k».proof.Proof.Gen.InDwIdeal.Frame
public import proofs.«01_k».proof.Proof.Gen.InDwRefIdeal.Run
public import proofs.«01_k».proof.Proof.Gen.OutDwIdeal.Frame
public import proofs.«01_k».proof.Proof.Gen.OutDwRefIdeal.Run
public import proofs.«01_k».proof.Proof.Products.Dot

@[expose] public section

noncomputable section

namespace Cert.Products

open Idealize.ShloMosaic Idealize.ShloMosaic.TcCoe Idealize.SL.Sem

namespace InProj

open Cert.InProjIdeal Cert.InProjIdeal.Gen

/-- What a point adds to its sums. -/
theorem pay (A : Arr 1024 4096) (B : Arr3 1 4096 512) (S : Arr 1024 512) (j : (⟨2, ![1024, 512]⟩ : Shape).Idx) :
    k0_pay2 (F := Ideal) A B S j = S j + ∑ x : Fin 4096, A (ix2 (j 0) x) * B (ix3 0 x (j 1)) := by
  pointwise [k0_pay2]

/-- The sums start at nothing. -/
theorem start (j : (⟨2, ![1024, 512]⟩ : Shape).Idx) : k0_pay1 (F := Ideal) j = 0 := by pointwise [k0_pay1]

/-- The product. -/
def whole (A : Arr 4096 4096) (B : Arr3 8 4096 1536) : Arr 4096 12288 := fun y =>
  have h : (y 1).val < 12288 := (y 1).isLt
  ∑ x : Fin 4096, A (ix2 (y 0) x) * B (ix3 ⟨(y 1).val / 1536, by omega⟩ x ⟨(y 1).val % 1536, by omega⟩)

section Run
variable (m : (ℓ : Loc nD τ sig) → Buf (Elt Ideal) ℓ) (c : Dev nD)

/-- Where a point's blocks lie. -/
theorem places : ∀ t : Fin cfg0.N, win0_0.index t = ![t.val / 24, 0] ∧ win0_1.index t = ![t.val % 24 / 3, 0, t.val % 24 % 3] ∧ win0_2.index t = ![t.val / 24, t.val % 24] :=
  (by decide +kernel : ∀ t : Fin grid0.N, win0_0.index t = ![t.val / 24, 0] ∧ win0_1.index t = ![t.val % 24 / 3, 0, t.val % 24 % 3] ∧ win0_2.index t = ![t.val / 24, t.val % 24])

/-- Argument 0. -/
abbrev a0 : Arr 4096 4096 := m ((c.tc : Thread nD τ).loc main_arg0)

/-- Argument 1. -/
abbrev a1 : Arr3 8 4096 1536 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t _ y => (congrFun (after0_2 m c t) y).trans (by
    unfold outsAt0
    frame_out
    rw [pay, start, zero_add]
    exact sum_congr (fun x => by blk_ext! [iblk, V, places]) (fun x => by blk_ext! [iblk, V, places]))

end Run

/-- At exact floats the call computes what the reference computes. -/
theorem exact : Cert.algebraic_InProjIdeal_InProjRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.InProjRefIdeal.defs _ _).mono (fun r h c => ?_) (Cert.InProjRefIdeal.Value.run (F := Ideal) m' g')⟩
  obtain ⟨h1, h2⟩ := h c
  refine ⟨h1.trans (funext fun j => ?_), h2⟩
  simp only [(hm c).1, (hm c).2]
  unfold whole
  pointwise

end InProj

namespace OutProj

open Cert.OutProjIdeal Cert.OutProjIdeal.Gen

/-- What a point adds to its sums. -/
theorem pay (A : Arr 1024 4096) (B : Arr 4096 512) (S : Arr 1024 512) (j : (⟨2, ![1024, 512]⟩ : Shape).Idx) :
    k0_pay2 (F := Ideal) A B S j = S j + ∑ x : Fin 4096, A (ix2 (j 0) x) * B (ix2 x (j 1)) := by
  pointwise [k0_pay2]

/-- The sums start at nothing. -/
theorem start (j : (⟨2, ![1024, 512]⟩ : Shape).Idx) : k0_pay1 (F := Ideal) j = 0 := by pointwise [k0_pay1]

/-- The product. -/
def whole (A : Arr 4096 4096) (B : Arr 4096 4096) : Arr 4096 4096 := fun y => ∑ x : Fin 4096, A (ix2 (y 0) x) * B (ix2 x (y 1))

section Run
variable (m : (ℓ : Loc nD τ sig) → Buf (Elt Ideal) ℓ) (c : Dev nD)

/-- Where a point's blocks lie. -/
theorem places : ∀ t : Fin cfg0.N, win0_0.index t = ![t.val / 8, 0] ∧ win0_1.index t = ![0, t.val % 8] ∧ win0_2.index t = ![t.val / 8, t.val % 8] :=
  (by decide +kernel : ∀ t : Fin grid0.N, win0_0.index t = ![t.val / 8, 0] ∧ win0_1.index t = ![0, t.val % 8] ∧ win0_2.index t = ![t.val / 8, t.val % 8])

/-- Argument 0. -/
abbrev a0 : Arr 4096 4096 := m ((c.tc : Thread nD τ).loc main_arg0)

/-- Argument 1. -/
abbrev a1 : Arr 4096 4096 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t _ y => (congrFun (after0_2 m c t) y).trans (by
    unfold outsAt0
    frame_out
    rw [pay, start, zero_add]
    exact sum_congr (fun x => by blk_ext! [iblk, V, places]) (fun x => by blk_ext! [iblk, V, places]))

end Run

/-- At exact floats the call computes what the reference computes. -/
theorem exact : Cert.algebraic_OutProjIdeal_OutProjRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.OutProjRefIdeal.defs _ _).mono (fun r h c => ?_) (Cert.OutProjRefIdeal.Value.run (F := Ideal) m' g')⟩
  obtain ⟨h1, h2⟩ := h c
  refine ⟨h1.trans (funext fun j => ?_), h2⟩
  simp only [(hm c).1, (hm c).2]
  unfold whole
  pointwise

end OutProj

namespace InDx

open Cert.InDxIdeal Cert.InDxIdeal.Gen

/-- What a point adds to its sums. -/
theorem pay (A : Arr 1024 512) (B : Arr3 1 1024 512) (S : Arr 1024 1024) (j : (⟨2, ![1024, 1024]⟩ : Shape).Idx) :
    k0_pay2 (F := Ideal) A B S j = S j + ∑ x : Fin 512, A (ix2 (j 0) x) * B (ix3 0 (j 1) x) := by
  pointwise [k0_pay2]

/-- The sums start at nothing. -/
theorem start (j : (⟨2, ![1024, 1024]⟩ : Shape).Idx) : k0_pay1 (F := Ideal) j = 0 := by pointwise [k0_pay1]

/-- The product. -/
def whole (A : Arr 4096 12288) (B : Arr3 8 4096 1536) : Arr 4096 4096 := fun y => ∑ x : Fin 12288, A (ix2 (y 0) x) * B (ix3 ⟨x.val / 1536, by omega⟩ (y 1) ⟨x.val % 1536, by omega⟩)

section Run
variable (m : (ℓ : Loc nD τ sig) → Buf (Elt Ideal) ℓ) (c : Dev nD)

/-- Where a point's blocks lie. -/
theorem places : ∀ t : Fin cfg0.N, win0_0.index t = ![t.val / 96, t.val % 24] ∧ win0_1.index t = ![t.val % 24 / 3, t.val / 24 % 4, t.val % 24 % 3] ∧ win0_2.index t = ![t.val / 96, t.val / 24 % 4] :=
  (by decide +kernel : ∀ t : Fin grid0.N, win0_0.index t = ![t.val / 96, t.val % 24] ∧ win0_1.index t = ![t.val % 24 / 3, t.val / 24 % 4, t.val % 24 % 3] ∧ win0_2.index t = ![t.val / 96, t.val / 24 % 4])

/-- Argument 0. -/
abbrev a0 : Arr 4096 12288 := m ((c.tc : Thread nD τ).loc main_arg0)

/-- Argument 1. -/
abbrev a1 : Arr3 8 4096 1536 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t hf y => (congrFun (after0_2 m c t) y).trans (by
    have hl := (flush0_2 t).mp hf
    have hs : (outsAt0 m c t.val t.isLt).1 = (outsAt0 m c t.val t.isLt).2 := by
      rw [outsAt0_C m c t (by omega) (by omega)]
      frame_out
    rw [hs, Pipeline.eq_sum_fin_of_reset_step_apply_of_flush (fun n h => (outsAt0 m c n h).2) 24 (fun _ => 0) _
      (fun t h j => by rw [outsAt0_A m c t h (by omega)]; frame_out; rw [pay, start])
      (fun t h j => by
        by_cases h' : t.val % 24 = 23
        · rw [outsAt0_C m c t h h']; frame_out; rw [pay, read_unread_whole]
        · rw [outsAt0_B m c t h h']; frame_out; rw [pay, read_unread_whole]) t (by omega) y, zero_add]
    exact sum_blocks (fun s x h => by blk_ext! [iblk, V, places]) (fun s x h => by blk_ext! [iblk, V, places]))

end Run

/-- At exact floats the call computes what the reference computes. -/
theorem exact : Cert.algebraic_InDxIdeal_InDxRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.InDxRefIdeal.defs _ _).mono (fun r h c => ?_) (Cert.InDxRefIdeal.Value.run (F := Ideal) m' g')⟩
  obtain ⟨h1, h2⟩ := h c
  refine ⟨h1.trans (funext fun j => ?_), h2⟩
  simp only [(hm c).1, (hm c).2]
  unfold whole
  pointwise

end InDx

namespace InDw

open Cert.InDwIdeal Cert.InDwIdeal.Gen

/-- What a point adds to its sums. -/
theorem pay (A : Arr 4096 512) (B : Arr 4096 512) (S : Arr 512 512) (j : (⟨2, ![512, 512]⟩ : Shape).Idx) :
    k0_pay2 (F := Ideal) A B S j = S j + ∑ x : Fin 4096, A (ix2 x (j 0)) * B (ix2 x (j 1)) := by
  pointwise [k0_pay2]

/-- The sums start at nothing. -/
theorem start (j : (⟨2, ![512, 512]⟩ : Shape).Idx) : k0_pay1 (F := Ideal) j = 0 := by pointwise [k0_pay1]

/-- What the last point of a run stores. -/
theorem store (S : Arr 512 512) (j : (⟨3, ![1, 512, 512]⟩ : Shape).Idx) : k0_pay3 (F := Ideal) S j = S (ix2 (j 1) (j 2)) := by pointwise [k0_pay3]

/-- The product. -/
def whole (A : Arr 4096 4096) (B : Arr 4096 12288) : Arr3 8 4096 1536 := fun y =>
  have h : (y 0).val < 8 := (y 0).isLt
  have h' : (y 2).val < 1536 := (y 2).isLt
  ∑ x : Fin 4096, A (ix2 x (y 1)) * B (ix2 x ⟨(y 0).val * 1536 + (y 2).val, by omega⟩)

section Run
variable (m : (ℓ : Loc nD τ sig) → Buf (Elt Ideal) ℓ) (c : Dev nD)

/-- Where a point's blocks lie. -/
theorem places : ∀ t : Fin cfg0.N, win0_0.index t = ![0, t.val / 24] ∧ win0_1.index t = ![0, t.val % 24] ∧ win0_2.index t = ![t.val % 24 / 3, t.val / 24, t.val % 24 % 3] :=
  (by decide +kernel : ∀ t : Fin grid0.N, win0_0.index t = ![0, t.val / 24] ∧ win0_1.index t = ![0, t.val % 24] ∧ win0_2.index t = ![t.val % 24 / 3, t.val / 24, t.val % 24 % 3])

/-- Argument 0. -/
abbrev a0 : Arr 4096 4096 := m ((c.tc : Thread nD τ).loc main_arg0)

/-- Argument 1. -/
abbrev a1 : Arr 4096 12288 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t _ y => (congrFun (after0_2 m c t) y).trans (by
    unfold outsAt0
    frame_out
    rw [store, pay, start, zero_add]
    exact sum_congr (fun x => by blk_ext! [iblk, V, places]) (fun x => by blk_ext! [iblk, V, places]))

end Run

/-- At exact floats the call computes what the reference computes. -/
theorem exact : Cert.algebraic_InDwIdeal_InDwRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.InDwRefIdeal.defs _ _).mono (fun r h c => ?_) (Cert.InDwRefIdeal.Value.run (F := Ideal) m' g')⟩
  obtain ⟨h1, h2⟩ := h c
  refine ⟨h1.trans (funext fun j => ?_), h2⟩
  simp only [(hm c).1, (hm c).2]
  unfold whole
  pointwise

end InDw

namespace OutDw

open Cert.OutDwIdeal Cert.OutDwIdeal.Gen

/-- What a point adds to its sums. -/
theorem pay (A : Arr 4096 512) (B : Arr 4096 512) (S : Arr 512 512) (j : (⟨2, ![512, 512]⟩ : Shape).Idx) :
    k0_pay2 (F := Ideal) A B S j = S j + ∑ x : Fin 4096, A (ix2 x (j 0)) * B (ix2 x (j 1)) := by
  pointwise [k0_pay2]

/-- The sums start at nothing. -/
theorem start (j : (⟨2, ![512, 512]⟩ : Shape).Idx) : k0_pay1 (F := Ideal) j = 0 := by pointwise [k0_pay1]

/-- What the last point of a run stores. -/
theorem store (S : Arr 512 512) (j : (⟨2, ![512, 512]⟩ : Shape).Idx) : k0_pay3 (F := Ideal) S j = S j := by pointwise [k0_pay3]

/-- The product. -/
def whole (A : Arr 4096 4096) (B : Arr 4096 4096) : Arr 4096 4096 := fun y => ∑ x : Fin 4096, A (ix2 x (y 0)) * B (ix2 x (y 1))

section Run
variable (m : (ℓ : Loc nD τ sig) → Buf (Elt Ideal) ℓ) (c : Dev nD)

/-- Where a point's blocks lie. -/
theorem places : ∀ t : Fin cfg0.N, win0_0.index t = ![0, t.val / 8] ∧ win0_1.index t = ![0, t.val % 8] ∧ win0_2.index t = ![t.val / 8, t.val % 8] :=
  (by decide +kernel : ∀ t : Fin grid0.N, win0_0.index t = ![0, t.val / 8] ∧ win0_1.index t = ![0, t.val % 8] ∧ win0_2.index t = ![t.val / 8, t.val % 8])

/-- Argument 0. -/
abbrev a0 : Arr 4096 4096 := m ((c.tc : Thread nD τ).loc main_arg0)

/-- Argument 1. -/
abbrev a1 : Arr 4096 4096 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t _ y => (congrFun (after0_2 m c t) y).trans (by
    unfold outsAt0
    frame_out
    rw [store, pay, start, zero_add]
    exact sum_congr (fun x => by blk_ext! [iblk, V, places]) (fun x => by blk_ext! [iblk, V, places]))

end Run

/-- At exact floats the call computes what the reference computes. -/
theorem exact : Cert.algebraic_OutDwIdeal_OutDwRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.OutDwRefIdeal.defs _ _).mono (fun r h c => ?_) (Cert.OutDwRefIdeal.Value.run (F := Ideal) m' g')⟩
  obtain ⟨h1, h2⟩ := h c
  refine ⟨h1.trans (funext fun j => ?_), h2⟩
  simp only [(hm c).1, (hm c).2]
  unfold whole
  pointwise

end OutDw

end Cert.Products

end
-- ==== Proof.Products.Ffn.lean ====
/-
# The feed-forward block's products

Both products, and the gradients through them and of their weights. The grid's last axis walks the shared axis in blocks, which a scratch block sums.
-/
module

public import proofs.«01_k».proof.Defs
public import proofs.«01_k».proof.Proof.Gen.FfnUpIdeal.Frame
public import proofs.«01_k».proof.Proof.Gen.FfnUpRefIdeal.Run
public import proofs.«01_k».proof.Proof.Gen.FfnDownIdeal.Frame
public import proofs.«01_k».proof.Proof.Gen.FfnDownRefIdeal.Run
public import proofs.«01_k».proof.Proof.Gen.FfnDownDxIdeal.Frame
public import proofs.«01_k».proof.Proof.Gen.FfnDownDxRefIdeal.Run
public import proofs.«01_k».proof.Proof.Gen.FfnDownDwIdeal.Frame
public import proofs.«01_k».proof.Proof.Gen.FfnDownDwRefIdeal.Run
public import proofs.«01_k».proof.Proof.Gen.FfnUpDxIdeal.Frame
public import proofs.«01_k».proof.Proof.Gen.FfnUpDxRefIdeal.Run
public import proofs.«01_k».proof.Proof.Gen.FfnUpDwIdeal.Frame
public import proofs.«01_k».proof.Proof.Gen.FfnUpDwRefIdeal.Run
public import proofs.«01_k».proof.Proof.Products.Dot

@[expose] public section

noncomputable section

namespace Cert.Products

open Idealize.ShloMosaic Idealize.ShloMosaic.TcCoe Idealize.SL.Sem

namespace FfnUp

open Cert.FfnUpIdeal Cert.FfnUpIdeal.Gen

/-- What a point adds to its sums. -/
theorem pay (A : Arr 512 1024) (B : Arr3 1 1024 2752) (S : Arr 512 2752) (j : (⟨2, ![512, 2752]⟩ : Shape).Idx) :
    k0_pay2 (F := Ideal) A B S j = S j + ∑ x : Fin 1024, A (ix2 (j 0) x) * B (ix3 0 x (j 1)) := by
  pointwise [k0_pay2]

/-- The sums start at nothing. -/
theorem start (j : (⟨2, ![512, 2752]⟩ : Shape).Idx) : k0_pay1 (F := Ideal) j = 0 := by pointwise [k0_pay1]

/-- What the last point of a run stores. -/
theorem store (S : Arr 512 2752) (j : (⟨3, ![1, 512, 2752]⟩ : Shape).Idx) : k0_pay3 (F := Ideal) S j = S (ix2 (j 1) (j 2)) := by pointwise [k0_pay3]

/-- The product. -/
def whole (A : Arr 4096 4096) (B : Arr3 8 4096 2752) : Arr3 8 4096 2752 := fun y => ∑ x : Fin 4096, A (ix2 (y 1) x) * B (ix3 (y 0) x (y 2))

section Run
variable (m : (ℓ : Loc nD τ sig) → Buf (Elt Ideal) ℓ) (c : Dev nD)

/-- Where a point's blocks lie. -/
theorem places : ∀ t : Fin cfg0.N, win0_0.index t = ![t.val / 32, t.val % 4] ∧ win0_1.index t = ![t.val / 4 % 8, t.val % 4, 0] ∧ win0_2.index t = ![t.val / 4 % 8, t.val / 32, 0] :=
  (by decide +kernel : ∀ t : Fin grid0.N, win0_0.index t = ![t.val / 32, t.val % 4] ∧ win0_1.index t = ![t.val / 4 % 8, t.val % 4, 0] ∧ win0_2.index t = ![t.val / 4 % 8, t.val / 32, 0])

/-- Argument 0. -/
abbrev a0 : Arr 4096 4096 := m ((c.tc : Thread nD τ).loc main_arg0)

/-- Argument 1. -/
abbrev a1 : Arr3 8 4096 2752 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t hf y => (congrFun (after0_2 m c t) y).trans (by
    have hl := (flush0_2 t).mp hf
    have hs : (outsAt0 m c t.val t.isLt).1 = k0_pay3 (F := Ideal) (outsAt0 m c t.val t.isLt).2 := by
      rw [outsAt0_C m c t (by omega) (by omega)]
      frame_out
    rw [hs, store, Pipeline.eq_sum_fin_of_reset_step_apply_of_flush (fun n h => (outsAt0 m c n h).2) 4 (fun _ => 0) _
      (fun t h j => by rw [outsAt0_A m c t h (by omega)]; frame_out; rw [pay, start])
      (fun t h j => by
        by_cases h' : t.val % 4 = 3
        · rw [outsAt0_C m c t h h']; frame_out; rw [pay, read_unread_whole]
        · rw [outsAt0_B m c t h h']; frame_out; rw [pay, read_unread_whole]) t (by omega) (ix2 (y 1) (y 2)), zero_add]
    exact sum_blocks (fun s x h => by blk_ext! [iblk, V, places]) (fun s x h => by blk_ext! [iblk, V, places]))

end Run

/-- At exact floats the call computes what the reference computes. -/
theorem exact : Cert.algebraic_FfnUpIdeal_FfnUpRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.FfnUpRefIdeal.defs _ _).mono (fun r h c => ?_) (Cert.FfnUpRefIdeal.Value.run (F := Ideal) m' g')⟩
  obtain ⟨h1, h2⟩ := h c
  refine ⟨h1.trans (funext fun j => ?_), h2⟩
  simp only [(hm c).1, (hm c).2]
  unfold whole
  pointwise

end FfnUp

namespace FfnDown

open Cert.FfnDownIdeal Cert.FfnDownIdeal.Gen

/-- What a point adds to its sums. -/
theorem pay (A : Arr3 1 512 2752) (B : Arr3 1 2752 1024) (S : Arr 512 1024) (j : (⟨2, ![512, 1024]⟩ : Shape).Idx) :
    k0_pay2 (F := Ideal) A B S j = S j + ∑ x : Fin 2752, A (ix3 0 (j 0) x) * B (ix3 0 x (j 1)) := by
  pointwise [k0_pay2]

/-- The sums start at nothing. -/
theorem start (j : (⟨2, ![512, 1024]⟩ : Shape).Idx) : k0_pay1 (F := Ideal) j = 0 := by pointwise [k0_pay1]

/-- The product, block by block of the shared axis. -/
def whole (A : Arr3 4 4096 2752) (B : Arr3 4 2752 4096) : Arr 4096 4096 := fun y => ∑ s : Fin 4, ∑ x : Fin 2752, A (ix3 s (y 0) x) * B (ix3 s x (y 1))

section Run
variable (m : (ℓ : Loc nD τ sig) → Buf (Elt Ideal) ℓ) (c : Dev nD)

/-- Where a point's blocks lie. -/
theorem places : ∀ t : Fin cfg0.N, win0_0.index t = ![t.val % 4, t.val / 16, 0] ∧ win0_1.index t = ![t.val % 4, 0, t.val / 4 % 4] ∧ win0_2.index t = ![t.val / 16, t.val / 4 % 4] :=
  (by decide +kernel : ∀ t : Fin grid0.N, win0_0.index t = ![t.val % 4, t.val / 16, 0] ∧ win0_1.index t = ![t.val % 4, 0, t.val / 4 % 4] ∧ win0_2.index t = ![t.val / 16, t.val / 4 % 4])

/-- Argument 0. -/
abbrev a0 : Arr3 4 4096 2752 := m ((c.tc : Thread nD τ).loc main_arg0)

/-- Argument 1. -/
abbrev a1 : Arr3 4 2752 4096 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t hf y => (congrFun (after0_2 m c t) y).trans (by
    have hl := (flush0_2 t).mp hf
    have hs : (outsAt0 m c t.val t.isLt).1 = (outsAt0 m c t.val t.isLt).2 := by
      rw [outsAt0_C m c t (by omega) (by omega)]
      frame_out
    rw [hs, Pipeline.eq_sum_fin_of_reset_step_apply_of_flush (fun n h => (outsAt0 m c n h).2) 4 (fun _ => 0) _
      (fun t h j => by rw [outsAt0_A m c t h (by omega)]; frame_out; rw [pay, start])
      (fun t h j => by
        by_cases h' : t.val % 4 = 3
        · rw [outsAt0_C m c t h h']; frame_out; rw [pay, read_unread_whole]
        · rw [outsAt0_B m c t h h']; frame_out; rw [pay, read_unread_whole]) t (by omega) y, zero_add]
    exact sum_congr₂ (fun s x => by blk_ext! [iblk, V, places]) (fun s x => by blk_ext! [iblk, V, places]))

end Run

/-- At exact floats the call computes what the reference computes. -/
theorem exact : Cert.algebraic_FfnDownIdeal_FfnDownRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.FfnDownRefIdeal.defs _ _).mono (fun r h c => ?_) (Cert.FfnDownRefIdeal.Value.run (F := Ideal) m' g')⟩
  obtain ⟨h1, h2⟩ := h c
  refine ⟨h1.trans (funext fun j => ?_), h2⟩
  simp only [(hm c).1, (hm c).2]
  unfold whole
  pointwise

end FfnDown

namespace FfnDownDx

open Cert.FfnDownDxIdeal Cert.FfnDownDxIdeal.Gen

/-- What a point adds to its sums. -/
theorem pay (A : Arr 512 1024) (B : Arr3 1 2752 1024) (S : Arr 512 2752) (j : (⟨2, ![512, 2752]⟩ : Shape).Idx) :
    k0_pay2 (F := Ideal) A B S j = S j + ∑ x : Fin 1024, A (ix2 (j 0) x) * B (ix3 0 (j 1) x) := by
  pointwise [k0_pay2]

/-- The sums start at nothing. -/
theorem start (j : (⟨2, ![512, 2752]⟩ : Shape).Idx) : k0_pay1 (F := Ideal) j = 0 := by pointwise [k0_pay1]

/-- What the last point of a run stores. -/
theorem store (S : Arr 512 2752) (j : (⟨3, ![1, 512, 2752]⟩ : Shape).Idx) : k0_pay3 (F := Ideal) S j = S (ix2 (j 1) (j 2)) := by pointwise [k0_pay3]

/-- The product. -/
def whole (A : Arr 4096 4096) (B : Arr3 4 2752 4096) : Arr3 4 4096 2752 := fun y => ∑ x : Fin 4096, A (ix2 (y 1) x) * B (ix3 (y 0) (y 2) x)

section Run
variable (m : (ℓ : Loc nD τ sig) → Buf (Elt Ideal) ℓ) (c : Dev nD)

/-- Where a point's blocks lie. -/
theorem places : ∀ t : Fin cfg0.N, win0_0.index t = ![t.val / 16, t.val % 4] ∧ win0_1.index t = ![t.val / 4 % 4, 0, t.val % 4] ∧ win0_2.index t = ![t.val / 4 % 4, t.val / 16, 0] :=
  (by decide +kernel : ∀ t : Fin grid0.N, win0_0.index t = ![t.val / 16, t.val % 4] ∧ win0_1.index t = ![t.val / 4 % 4, 0, t.val % 4] ∧ win0_2.index t = ![t.val / 4 % 4, t.val / 16, 0])

/-- Argument 0. -/
abbrev a0 : Arr 4096 4096 := m ((c.tc : Thread nD τ).loc main_arg0)

/-- Argument 1. -/
abbrev a1 : Arr3 4 2752 4096 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t hf y => (congrFun (after0_2 m c t) y).trans (by
    have hl := (flush0_2 t).mp hf
    have hs : (outsAt0 m c t.val t.isLt).1 = k0_pay3 (F := Ideal) (outsAt0 m c t.val t.isLt).2 := by
      rw [outsAt0_C m c t (by omega) (by omega)]
      frame_out
    rw [hs, store, Pipeline.eq_sum_fin_of_reset_step_apply_of_flush (fun n h => (outsAt0 m c n h).2) 4 (fun _ => 0) _
      (fun t h j => by rw [outsAt0_A m c t h (by omega)]; frame_out; rw [pay, start])
      (fun t h j => by
        by_cases h' : t.val % 4 = 3
        · rw [outsAt0_C m c t h h']; frame_out; rw [pay, read_unread_whole]
        · rw [outsAt0_B m c t h h']; frame_out; rw [pay, read_unread_whole]) t (by omega) (ix2 (y 1) (y 2)), zero_add]
    exact sum_blocks (fun s x h => by blk_ext! [iblk, V, places]) (fun s x h => by blk_ext! [iblk, V, places]))

end Run

/-- At exact floats the call computes what the reference computes. -/
theorem exact : Cert.algebraic_FfnDownDxIdeal_FfnDownDxRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.FfnDownDxRefIdeal.defs _ _).mono (fun r h c => ?_) (Cert.FfnDownDxRefIdeal.Value.run (F := Ideal) m' g')⟩
  obtain ⟨h1, h2⟩ := h c
  refine ⟨h1.trans (funext fun j => ?_), h2⟩
  simp only [(hm c).1, (hm c).2]
  unfold whole
  pointwise
  exact Finset.sum_congr rfl fun x _ => mul_comm _ _

end FfnDownDx

namespace FfnDownDw

open Cert.FfnDownDwIdeal Cert.FfnDownDwIdeal.Gen

/-- What a point adds to its sums. -/
theorem pay (A : Arr3 1 1024 2752) (B : Arr 1024 512) (S : Arr 2752 512) (j : (⟨2, ![2752, 512]⟩ : Shape).Idx) :
    k0_pay2 (F := Ideal) A B S j = S j + ∑ x : Fin 1024, A (ix3 0 x (j 0)) * B (ix2 x (j 1)) := by
  pointwise [k0_pay2]

/-- The sums start at nothing. -/
theorem start (j : (⟨2, ![2752, 512]⟩ : Shape).Idx) : k0_pay1 (F := Ideal) j = 0 := by pointwise [k0_pay1]

/-- What the last point of a run stores. -/
theorem store (S : Arr 2752 512) (j : (⟨3, ![1, 2752, 512]⟩ : Shape).Idx) : k0_pay3 (F := Ideal) S j = S (ix2 (j 1) (j 2)) := by pointwise [k0_pay3]

/-- The product. -/
def whole (A : Arr3 4 4096 2752) (B : Arr 4096 4096) : Arr3 4 2752 4096 := fun y => ∑ x : Fin 4096, A (ix3 (y 0) x (y 1)) * B (ix2 x (y 2))

section Run
variable (m : (ℓ : Loc nD τ sig) → Buf (Elt Ideal) ℓ) (c : Dev nD)

/-- Where a point's blocks lie. -/
theorem places : ∀ t : Fin cfg0.N, win0_0.index t = ![t.val / 32, t.val % 4, 0] ∧ win0_1.index t = ![t.val % 4, t.val / 4 % 8] ∧ win0_2.index t = ![t.val / 32, 0, t.val / 4 % 8] :=
  (by decide +kernel : ∀ t : Fin grid0.N, win0_0.index t = ![t.val / 32, t.val % 4, 0] ∧ win0_1.index t = ![t.val % 4, t.val / 4 % 8] ∧ win0_2.index t = ![t.val / 32, 0, t.val / 4 % 8])

/-- Argument 0. -/
abbrev a0 : Arr3 4 4096 2752 := m ((c.tc : Thread nD τ).loc main_arg0)

/-- Argument 1. -/
abbrev a1 : Arr 4096 4096 := m ((c.tc : Thread nD τ).loc main_arg1)

/-- The result is the product. -/
theorem out : (dats m 0 c).arrAt 2 cfg0.N = whole (a0 m c) (a1 m c) :=
  (dats m 0 c).arrAt_eq_of_covers 2 _ (by decide +kernel) fun t hf y => (congrFun (after0_2 m c t) y).trans (by
    have hl := (flush0_2 t).mp hf
    have hs : (outsAt0 m c t.val t.isLt).1 = k0_pay3 (F := Ideal) (outsAt0 m c t.val t.isLt).2 := by
      rw [outsAt0_C m c t (by omega) (by omega)]
      frame_out
    rw [hs, store, Pipeline.eq_sum_fin_of_reset_step_apply_of_flush (fun n h => (outsAt0 m c n h).2) 4 (fun _ => 0) _
      (fun t h j => by rw [outsAt0_A m c t h (by omega)]; frame_out; rw [pay, start])
      (fun t h j => by
        by_cases h' : t.val % 4 = 3
        · rw [outsAt0_C m c t h h']; frame_out; rw [pay, read_unread_whole]
        · rw [outsAt0_B m c t h h']; frame_out; rw [pay, read_unread_whole]) t (by omega) (ix2 (y 1) (y 2)), zero_add]
    exact sum_blocks (fun s x h => by blk_ext! [iblk, V, places]) (fun s x h => by blk_ext! [iblk, V, places]))

end Run

/-- At exact floats the call computes what the reference computes. -/
theorem exact : Cert.algebraic_FfnDownDwIdeal_FfnDownDwRefIdeal := by
  intro m g m' g' _ hm
  refine ⟨fun c => whole (a0 m c) (a1 m c),
    (θ_run defs _ _).mono (fun r h c => ⟨(h.2.out_eq c 2).trans (out m c), h.1 c⟩) (θ_run_and (unchanged m g) (run_main m g)),
    (θ_run Cert.FfnDownDwRefIdeal.defs _ _).mono (fun r h c => ?_) (Cert.FfnDownDwRefIdeal.Value.run (F := Ideal) m' g')⟩
  obtain ⟨h1, h2⟩ := h c
  refine ⟨h1.trans (funext fun j => ?_), h2⟩
  simp only [(hm c).1, (hm c).2]
  unfold whole
  pointwise

end FfnDownDw

namespace FfnUpDx

open Cert.FfnUpDxIdeal Cert.FfnUpDxIdeal.Gen

/-- What a point adds to its sums. -/
theorem pay1 (A : Arr3 1 512 2752) (B : Arr3 1 512 2752) (S : Arr 512 512) (j : (⟨2, ![512, 512]⟩ : Shape).Idx) :
    k0_pay2 (F := Ideal) A B S j = S j + ∑ x : Fin 2752, A (ix3 0 (j 0) x) * B (ix3 0 (j 1) x) := by
  pointwise [k0_pay2]

/-- What a point adds to its sums. -/
theorem pay2 (A : Arr3 1 512 2752) (B : Arr3 1 512 2752) (S : Arr 512 512) (j : (⟨2, ![512, 512]⟩ : Shape).Idx) :
    k0_pay3 (F := Ideal) A B S j = S j + ∑ x : Fin 2752, A (ix3 0 (j 0) x) * B (ix3 0 (j 1) x) := by
  pointwise [k0_pay3]

/-- The sums start at nothing. -/
theorem start (j : (⟨2, ![512, 512]⟩ : Shape).Idx) : k0_pay1 (F := Ideal) j = 0 := by pointwise [k0_pay1]

/-- The products of the two halves, block by block of the shared axis. -/
def whole (A : Arr3 4 4096 2752) (B : Arr3 4 4096 2752) (C : Arr3 8 4096 2752) : Arr 4096 4096 := fun y => (∑ s : Fin 4, ∑ x : Fin 2752, A (ix3 s (y 0) x) * C (ix3 ⟨s.val, by omega⟩ (y 1) x)) + ∑ s : Fin 4, ∑ x : Fin 2752, B (ix3 s (y 0) x) * C (ix3 ⟨4 + s.val, by omega⟩ (y 1) x)

section Run
variable (m : (ℓ : Loc nD τ sig) → Buf (Elt Ideal) ℓ) (c : Dev nD)

/-- Where a point's blocks lie. -/
theorem places : ∀ t : Fin cfg0.N, win0_0.index t = ![t.val % 4, t.val / 32, 0] ∧ win0_1.index t = ![t.val % 4, t.val / 4 % 8, 0] ∧ win0_2.index t = ![t.val % 4, t.val / 32, 0] ∧ win0_3.index t = ![t.val % 4 + 4, t.val / 4 % 8, 0] ∧ win0_4.index t = ![t.val / 32, t.val / 4 % 8] :=
  (by decide +kernel : ∀ t : Fin grid0.N, win0_0.index t = ![t.val % 4, t.val / 32, 0] ∧ win0_1.index t = ![t.val % 4, t.val / 4 % 8, 0] ∧ win0_2.index t = ![t.val % 4, t.val / 32, 0] ∧ win0_3.index t = ![t.val % 4 + 4, t.val / 4 % 8, 0] ∧ win0_4.index t = ![t.val / 32, t.val / 4 % 8])

/-- Argument 0. -/
abbrev a0 : Arr3 4 4096 2752 := m ((c.tc : Thread nD τ).loc main_arg0)

/-- Argument 1. -/
abbrev a1 : Arr3 4 4096 2752 := m ((c.tc : Thread nD τ).loc main_arg1)

/-- Argument 2. -/
abbrev a2 : Arr3 8 4096 2752 := m ((c.tc : Thread nD τ).loc main_arg2)

/-- The result is the product. -/
theorem out : (dats m 0 c).arrAt 4 cfg0.N = whole (a0 m c) (a1 m c) (a2 m c) :=
  (dats m 0 c).arrAt_eq_of_covers 4 _ (by decide +kernel) fun t hf y => (congrFun (after0_4 m c t) y).trans (by
    have hl := (flush0_4 t).mp hf
    have hs : (outsAt0 m c t.val t.isLt).1 = (outsAt0 m c t.val t.isLt).2 := by
      rw [outsAt0_C m c t (by omega) (by omega)]
      frame_out
    rw [hs, Pipeline.eq_sum_fin_of_reset_step_apply_of_flush (fun n h => (outsAt0 m c n h).2) 4 (fun _ => 0) _
      (fun t h j => by rw [outsAt0_A m c t h (by omega)]; frame_out; rw [pay2, pay1, add_assoc, start])
      (fun t h j => by
        by_cases h' : t.val % 4 = 3
        · rw [outsAt0_C m c t h h']; frame_out; rw [pay2, pay1, add_assoc, read_unread_whole]
        · rw [outsAt0_B m c t h h']; frame_out; rw [pay2, pay1, add_assoc, read_unread_whole]) t (by omega) y, zero_add]
    exact sum_congr₂_add (fun s x => by blk_ext! [iblk, V, places]) (fun s x => by blk_ext! [iblk, V, places]) (fun s x => by blk_ext! [iblk, V, places]) (fun s x => by blk_ext! [iblk, V, places]))

end Run

/-- At exact floats the call computes what the reference computes. -/
theorem exact : Cert.algebraic_FfnUpDxIdeal_FfnUpDxRefIdeal := by
  intro m g m' g' _ hm
  refine ⟨fun c => whole (a0 m c) (a1 m c) (a2 m c),
    (θ_run defs _ _).mono (fun r h c => ⟨(h.2.out_eq c 4).trans (out m c), h.1 c⟩) (θ_run_and (unchanged m g) (run_main m g)),
    (θ_run Cert.FfnUpDxRefIdeal.defs _ _).mono (fun r h c => ?_) (Cert.FfnUpDxRefIdeal.Value.run (F := Ideal) m' g')⟩
  obtain ⟨h1, h2⟩ := h c
  refine ⟨h1.trans (funext fun j => ?_), h2⟩
  simp only [(hm c).1, (hm c).2.1, (hm c).2.2]
  unfold whole
  pointwise

end FfnUpDx

namespace FfnUpDw

open Cert.FfnUpDwIdeal Cert.FfnUpDwIdeal.Gen

/-- What a point adds to its sums. -/
theorem pay1 (A : Arr 512 512) (B : Arr3 1 512 2752) (S : Arr 512 2752) (j : (⟨2, ![512, 2752]⟩ : Shape).Idx) :
    k0_pay3 (F := Ideal) A B S j = S j + ∑ x : Fin 512, A (ix2 x (j 0)) * B (ix3 0 x (j 1)) := by
  pointwise [k0_pay3]

/-- What a point adds to its sums. -/
theorem pay2 (A : Arr 512 512) (B : Arr3 1 512 2752) (S : Arr 512 2752) (j : (⟨2, ![512, 2752]⟩ : Shape).Idx) :
    k0_pay4 (F := Ideal) A B S j = S j + ∑ x : Fin 512, A (ix2 x (j 0)) * B (ix3 0 x (j 1)) := by
  pointwise [k0_pay4]

/-- The sums start at nothing. -/
theorem start1 (j : (⟨2, ![512, 2752]⟩ : Shape).Idx) : k0_pay1 (F := Ideal) j = 0 := by pointwise [k0_pay1]

/-- The sums start at nothing. -/
theorem start2 (j : (⟨2, ![512, 2752]⟩ : Shape).Idx) : k0_pay2 (F := Ideal) j = 0 := by pointwise [k0_pay2]

/-- What the last point of a run stores. -/
theorem store1 (S : Arr 512 2752) (j : (⟨3, ![1, 512, 2752]⟩ : Shape).Idx) : k0_pay5 (F := Ideal) S j = S (ix2 (j 1) (j 2)) := by pointwise [k0_pay5]

/-- What the last point of a run stores. -/
theorem store2 (S : Arr 512 2752) (j : (⟨3, ![1, 512, 2752]⟩ : Shape).Idx) : k0_pay6 (F := Ideal) S j = S (ix2 (j 1) (j 2)) := by pointwise [k0_pay6]

/-- The product. -/
def whole (A : Arr 4096 4096) (B : Arr3 4 4096 2752) : Arr3 4 4096 2752 := fun y => ∑ x : Fin 4096, A (ix2 x (y 1)) * B (ix3 (y 0) x (y 2))

section Run
variable (m : (ℓ : Loc nD τ sig) → Buf (Elt Ideal) ℓ) (c : Dev nD)

/-- Where a point's blocks lie. -/
theorem places : ∀ t : Fin cfg0.N, win0_0.index t = ![t.val % 8, t.val / 8 % 8] ∧ win0_1.index t = ![t.val / 64, t.val % 8, 0] ∧ win0_2.index t = ![t.val % 8, t.val / 8 % 8] ∧ win0_3.index t = ![t.val / 64, t.val % 8, 0] ∧ win0_4.index t = ![t.val / 64, t.val / 8 % 8, 0] ∧ win0_5.index t = ![t.val / 64, t.val / 8 % 8, 0] :=
  (by decide +kernel : ∀ t : Fin grid0.N, win0_0.index t = ![t.val % 8, t.val / 8 % 8] ∧ win0_1.index t = ![t.val / 64, t.val % 8, 0] ∧ win0_2.index t = ![t.val % 8, t.val / 8 % 8] ∧ win0_3.index t = ![t.val / 64, t.val % 8, 0] ∧ win0_4.index t = ![t.val / 64, t.val / 8 % 8, 0] ∧ win0_5.index t = ![t.val / 64, t.val / 8 % 8, 0])

/-- Argument 0. -/
abbrev a0 : Arr 4096 4096 := m ((c.tc : Thread nD τ).loc main_arg0)

/-- Argument 1. -/
abbrev a1 : Arr3 4 4096 2752 := m ((c.tc : Thread nD τ).loc main_arg1)

/-- Argument 2. -/
abbrev a2 : Arr3 4 4096 2752 := m ((c.tc : Thread nD τ).loc main_arg2)

/-- The result is the product. -/
theorem out1 : (dats m 0 c).arrAt 4 cfg0.N = whole (a0 m c) (a1 m c) :=
  (dats m 0 c).arrAt_eq_of_covers 4 _ (by decide +kernel) fun t hf y => (congrFun (after0_4 m c t) y).trans (by
    have hl := (flush0_4 t).mp hf
    have hs : (outsAt0 m c t.val t.isLt).1 = k0_pay5 (F := Ideal) (outsAt0 m c t.val t.isLt).2.2.1 := by
      rw [outsAt0_C m c t (by omega) (by omega)]
      frame_out
    rw [hs, store1, Pipeline.eq_sum_fin_of_reset_step_apply_of_flush (fun n h => (outsAt0 m c n h).2.2.1) 8 (fun _ => 0) _
      (fun t h j => by rw [outsAt0_A m c t h (by omega)]; frame_out; rw [pay1, start1])
      (fun t h j => by
        by_cases h' : t.val % 8 = 7
        · rw [outsAt0_C m c t h h']; frame_out; rw [pay1, read_unread_whole]
        · rw [outsAt0_B m c t h h']; frame_out; rw [pay1, read_unread_whole]) t (by omega) (ix2 (y 1) (y 2)), zero_add]
    exact sum_blocks (fun s x h => by blk_ext! [iblk, V, places]) (fun s x h => by blk_ext! [iblk, V, places]))

/-- The result is the product. -/
theorem out2 : (dats m 0 c).arrAt 5 cfg0.N = whole (a0 m c) (a2 m c) :=
  (dats m 0 c).arrAt_eq_of_covers 5 _ (by decide +kernel) fun t hf y => (congrFun (after0_5 m c t) y).trans (by
    have hl := (flush0_5 t).mp hf
    have hs : (outsAt0 m c t.val t.isLt).2.1 = k0_pay6 (F := Ideal) (outsAt0 m c t.val t.isLt).2.2.2 := by
      rw [outsAt0_C m c t (by omega) (by omega)]
      frame_out
    rw [hs, store2, Pipeline.eq_sum_fin_of_reset_step_apply_of_flush (fun n h => (outsAt0 m c n h).2.2.2) 8 (fun _ => 0) _
      (fun t h j => by rw [outsAt0_A m c t h (by omega)]; frame_out; rw [pay2, start2])
      (fun t h j => by
        by_cases h' : t.val % 8 = 7
        · rw [outsAt0_C m c t h h']; frame_out; rw [pay2, read_unread_whole]
        · rw [outsAt0_B m c t h h']; frame_out; rw [pay2, read_unread_whole]) t (by omega) (ix2 (y 1) (y 2)), zero_add]
    exact sum_blocks (fun s x h => by blk_ext! [iblk, V, places]) (fun s x h => by blk_ext! [iblk, V, places]))

end Run

/-- At exact floats the call computes what the reference computes. -/
theorem exact : Cert.algebraic_FfnUpDwIdeal_FfnUpDwRefIdeal := by
  intro m g m' g' _ hm
  refine ⟨fun c => whole (a0 m c) (a1 m c), fun c => whole (a0 m c) (a2 m c),
    (θ_run defs _ _).mono (fun r h c => ⟨(h.2.out_eq c 4).trans (out1 m c), (h.2.out_eq c 5).trans (out2 m c), h.1 c⟩) (θ_run_and (unchanged m g) (run_main m g)),
    (θ_run Cert.FfnUpDwRefIdeal.defs _ _).mono (fun r h c => ?_) (Cert.FfnUpDwRefIdeal.Value.run (F := Ideal) m' g')⟩
  obtain ⟨h1, h2, h3⟩ := h c
  refine ⟨h1.trans (funext fun j => ?_), h2.trans (funext fun j => ?_), h3⟩ <;>
  (simp only [(hm c).1, (hm c).2.1, (hm c).2.2]; unfold whole; pointwise)

end FfnUpDw

end Cert.Products

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.ExchangeRef.Run
public import proofs.«01_k».proof.Proof.Gen.ExchangeRefIdeal.Run
public import proofs.«01_k».proof.Proof.Gen.WeightsRef.Run
public import proofs.«01_k».proof.Proof.Gen.WeightsRefIdeal.Run
public import proofs.«01_k».proof.Proof.Gen.Exchange
public import proofs.«01_k».proof.Proof.Gen.ExchangeIdeal
public import proofs.«01_k».proof.Proof.Gen.Weights
public import proofs.«01_k».proof.Proof.Gen.WeightsIdeal
public import proofs.«01_k».proof.Proof.Gen.ExchangeIdeal.Launch
public import proofs.«01_k».proof.Proof.Gen.WeightsIdeal.Launch
public import proofs.«01_k».proof.Proof.Gen.ExchangeIdeal.Skeleton
public import proofs.«01_k».proof.Proof.Gen.WeightsIdeal.Skeleton
public import proofs.«01_k».proof.Proof.Small.Run
public import proofs.«01_k».proof.Proof.Comm.Values
public import proofs.«01_k».proof.Proof.Grads.Value
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluRefIdeal
public import proofs.«01_k».proof.Proof.Gen.AdamGluRefIdeal.Run
public import proofs.«01_k».proof.Proof.Gen.AdamPool
public import proofs.«01_k».proof.Proof.Gen.AdamPool.Frame
public import proofs.«01_k».proof.Proof.Gen.AdamPoolIdeal
public import proofs.«01_k».proof.Proof.Gen.AdamPoolIdeal.Frame
public import proofs.«01_k».proof.Proof.Gen.AdamPoolRefIdeal
public import proofs.«01_k».proof.Proof.Gen.AdamPoolRefIdeal.Run
public import proofs.«01_k».proof.Proof.Gen.AdamBs
public import proofs.«01_k».proof.Proof.Gen.AdamBs.Frame
public import proofs.«01_k».proof.Proof.Gen.AdamBsIdeal
public import proofs.«01_k».proof.Proof.Gen.AdamBsIdeal.Frame
public import proofs.«01_k».proof.Proof.Gen.AdamBsRefIdeal
public import proofs.«01_k».proof.Proof.Gen.AdamBsRefIdeal.Run
public import proofs.«01_k».proof.Proof.Gen.AdamBp
public import proofs.«01_k».proof.Proof.Gen.AdamBp.Frame
public import proofs.«01_k».proof.Proof.Gen.AdamBpIdeal
public import proofs.«01_k».proof.Proof.Gen.AdamBpIdeal.Frame
public import proofs.«01_k».proof.Proof.Gen.AdamBpRefIdeal
public import proofs.«01_k».proof.Proof.Gen.AdamBpRefIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.Totals
public import proofs.«01_k».proof.Proof.Gen.Totals.Frame
public import proofs.«01_k».proof.Proof.Gen.TotalsIdeal
public import proofs.«01_k».proof.Proof.Gen.TotalsIdeal.Frame
public import proofs.«01_k».proof.Proof.Gen.TotalsRefIdeal
public import proofs.«01_k».proof.Proof.Gen.TotalsRefIdeal.Run
public import proofs.«01_k».proof.Proof.Shards.Value
public import proofs.«01_k».proof.Proof.Adam.In
public import proofs.«01_k».proof.Proof.Adam.Glu
public import proofs.«01_k».proof.Proof.Adam.Pool
public import proofs.«01_k».proof.Proof.Adam.Bs
public import proofs.«01_k».proof.Proof.Adam.Bp
public import proofs.«01_k».proof.Proof.Adam.Out
public import proofs.«01_k».proof.Proof.Adam.Up
public import proofs.«01_k».proof.Proof.Adam.Down
public import proofs.«01_k».proof.Proof.Adam.Small
public import proofs.«01_k».proof.Proof.Adam.Totals
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Norms.First
public import proofs.«01_k».proof.Proof.Gen.PreNorm
public import proofs.«01_k».proof.Proof.Gen.PreNorm.Frame
public import proofs.«01_k».proof.Proof.Gen.PreNormIdeal
public import proofs.«01_k».proof.Proof.Gen.PreNormIdeal.Frame
public import proofs.«01_k».proof.Proof.Gen.PreNormRefIdeal
public import proofs.«01_k».proof.Proof.Gen.PreNormRefIdeal.Run
public import proofs.«01_k».proof.Proof.Norms.Pre
public import proofs.«01_k».proof.Proof.Gen.MidNorm
public import proofs.«01_k».proof.Proof.Gen.MidNorm.Frame
public import proofs.«01_k».proof.Proof.Gen.MidNormIdeal
public import proofs.«01_k».proof.Proof.Gen.MidNormIdeal.Frame
public import proofs.«01_k».proof.Proof.Gen.MidNormRefIdeal
public import proofs.«01_k».proof.Proof.Gen.MidNormRefIdeal.Run
public import proofs.«01_k».proof.Proof.Norms.Mid
public import proofs.«01_k».proof.Proof.Gen.PostFfn
public import proofs.«01_k».proof.Proof.Gen.PostFfn.Frame
public import proofs.«01_k».proof.Proof.Gen.PostFfnIdeal
public import proofs.«01_k».proof.Proof.Gen.PostFfnIdeal.Frame
public import proofs.«01_k».proof.Proof.Gen.PostFfnRefIdeal
public import proofs.«01_k».proof.Proof.Gen.PostFfnRefIdeal.Run
public import proofs.«01_k».proof.Proof.Norms.Post
public import proofs.«01_k».proof.Proof.Gen.MidBwd
public import proofs.«01_k».proof.Proof.Gen.MidBwd.Frame
public import proofs.«01_k».proof.Proof.Gen.MidBwdIdeal
public import proofs.«01_k».proof.Proof.Gen.MidBwdIdeal.Frame
public import proofs.«01_k».proof.Proof.Gen.MidBwdRefIdeal
public import proofs.«01_k».proof.Proof.Gen.MidBwdRefIdeal.Run
public import proofs.«01_k».proof.Proof.Norms.Back
public import proofs.«01_k».proof.Proof.Gen.InProj.Frame
public import proofs.«01_k».proof.Proof.Gen.OutProj.Frame
public import proofs.«01_k».proof.Proof.Gen.InDx.Frame
public import proofs.«01_k».proof.Proof.Gen.InDw.Frame
public import proofs.«01_k».proof.Proof.Gen.OutDw.Frame
public import proofs.«01_k».proof.Proof.Gen.FfnUp.Frame
public import proofs.«01_k».proof.Proof.Gen.FfnDown.Frame
public import proofs.«01_k».proof.Proof.Gen.FfnDownDx.Frame
public import proofs.«01_k».proof.Proof.Gen.FfnDownDw.Frame
public import proofs.«01_k».proof.Proof.Gen.FfnUpDx.Frame
public import proofs.«01_k».proof.Proof.Gen.FfnUpDw.Frame
public import proofs.«01_k».proof.Proof.Products.Mixer
public import proofs.«01_k».proof.Proof.Products.Ffn

@[expose] public section

noncomputable section

namespace Cert.Proof

open Idealize.ShloMosaic Idealize.ShloMosaic.TcCoe Idealize.SL.Sem Cert.Comm

/-- The kernel runs, over the floats' bits. -/
theorem frame_kernel : Cert.quiescent_Kernel := fun m ρ _ =>
  (θ_run Cert.KernelIdeal.defs _ _).mono (fun _ h => ⟨fun c => (h.1 c).1, h.2⟩) (Cert.Small.run_main (F := Bits) m ρ)

/-- The kernel runs, at exact floats. -/
theorem frame_ideal : Cert.quiescent_KernelIdeal := fun m ρ _ =>
  (θ_run Cert.KernelIdeal.defs _ _).mono (fun _ h => ⟨fun c => (h.1 c).1, h.2⟩) (Cert.Small.run_main (F := Ideal) m ρ)

/-- The reference runs, at exact floats. -/
theorem frame_ref_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs, over the floats' bits. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The gathered blocks are the whole array, reshaped. -/
theorem small_value {α : Type} (v : (⟨2, ![41216, 128]⟩ : Shape).Idx → α) (h : (⟨2, ![41216, 128]⟩ : Shape).ShapeCasts ⟨3, ![8, 5152, 128]⟩) :
    (gcat ![5152, 128] fun s => Layout.block ⟨2, ![5152, 128]⟩ ⟨2, ![41216, 128]⟩ 0 8 s v) = shapeCast ⟨3, ![8, 5152, 128]⟩ v h :=
  gcat_block 5152 41216 ![128] rfl _ h v

/-- Kernel and reference agree bit for bit. -/
theorem bits : Cert.bitexact_Kernel_Reference := fun m g m' g' _ hm =>
  ⟨shapeCast _ (m' ((0 : Dev Cert.Reference.nD).tc.loc Cert.Reference.main_arg0)) Cert.Reference.Gen.shapeCasts_S41216x128_S8x5152x128,
    (θ_run Cert.KernelIdeal.defs _ _).mono (fun _ h c => ⟨(h.1 c).2.trans ((congrArg (gcat ![5152, 128]) (funext hm)).trans (small_value _ _)), (h.1 c).1⟩)
      (Cert.Small.run_main (F := Bits) m g),
    (θ_run Cert.Reference.defs _ _).mono (fun _ h => h 0) (Cert.Reference.Value.run (F := Bits) m' g')⟩

/-- Kernel and reference agree at exact floats. -/
theorem exact_values : Cert.algebraic_KernelIdeal_ReferenceIdeal := fun m g m' g' _ hm =>
  ⟨shapeCast _ (m' ((0 : Dev Cert.ReferenceIdeal.nD).tc.loc Cert.ReferenceIdeal.main_arg0)) Cert.ReferenceIdeal.Gen.shapeCasts_S41216x128_S8x5152x128,
    (θ_run Cert.KernelIdeal.defs _ _).mono (fun _ h c => ⟨(h.1 c).2.trans ((congrArg (gcat ![5152, 128]) (funext hm)).trans (small_value _ _)), (h.1 c).1⟩)
      (Cert.Small.run_main (F := Ideal) m g),
    (θ_run Cert.ReferenceIdeal.defs _ _).mono (fun _ h => h 0) (Cert.ReferenceIdeal.Value.run (F := Ideal) m' g')⟩

/-- The exchange of the gradients runs, over the floats' bits. -/
theorem frame_grads_kernel : Cert.quiescent_Exchange := fun m ρ _ => Cert.Grads.frame (F := Bits) m ρ

/-- The exchange of the gradients runs, at exact floats. -/
theorem frame_grads_ideal : Cert.quiescent_ExchangeIdeal := fun m ρ _ => Cert.Grads.frame (F := Ideal) m ρ

/-- The reference of the exchange of the gradients runs, over the floats' bits. -/
theorem frame_grads_ref : Cert.quiescent_ExchangeRef := fun m ρ _ =>
  (θ_run Cert.ExchangeRef.defs _ _).mono (fun r h => ⟨fun c => (h c).2.2.2.2.2.2.2.2, sem_eq_zero_of_no_sems (by decide) r.2⟩)
    (Cert.ExchangeRef.Value.run (F := Bits) m ρ)

/-- The reference of the exchange of the gradients runs, at exact floats. -/
theorem frame_grads_ref_ideal : Cert.quiescent_ExchangeRefIdeal := fun m ρ _ =>
  (θ_run Cert.ExchangeRefIdeal.defs _ _).mono (fun r h => ⟨fun c => (h c).2.2.2.2.2.2.2.2, sem_eq_zero_of_no_sems (by decide) r.2⟩)
    (Cert.ExchangeRefIdeal.Value.run (F := Ideal) m ρ)

/-- The exchange of the gradients and its reference agree bit for bit. -/
theorem grads_bits : Cert.bitexact_Exchange_ExchangeRef := by
  intro m g m' g' _ hm
  refine ⟨_, _, _, _, _, _, _, _, ?_, (θ_run Cert.ExchangeRef.defs _ _).mono (fun _ h => h 0) (Cert.ExchangeRef.Value.run (F := Bits) m' g')⟩
  exact (θ_run Cert.ExchangeIdeal.defs _ _).mono (fun r h c => Cert.Grads.values m r.2.mem m' hm h.1 c) (Cert.Grads.run_main (F := Bits) m g)

/-- The exchange of the gradients and its reference agree at exact floats. -/
theorem grads_exact : Cert.algebraic_ExchangeIdeal_ExchangeRefIdeal := by
  intro m g m' g' _ hm
  refine ⟨_, _, _, _, _, _, _, _, ?_, (θ_run Cert.ExchangeRefIdeal.defs _ _).mono (fun _ h => h 0) (Cert.ExchangeRefIdeal.Value.run (F := Ideal) m' g')⟩
  exact (θ_run Cert.ExchangeIdeal.defs _ _).mono (fun r h c => Cert.Grads.values m r.2.mem m' hm h.1 c) (Cert.Grads.run_main (F := Ideal) m g)

/-- The gather of the weights runs, over the floats' bits. -/
theorem frame_shards_kernel : Cert.quiescent_Weights := fun m ρ _ => Cert.Shards.frame (F := Bits) m ρ

/-- The gather of the weights runs, at exact floats. -/
theorem frame_shards_ideal : Cert.quiescent_WeightsIdeal := fun m ρ _ => Cert.Shards.frame (F := Ideal) m ρ

/-- The reference of the gather of the weights runs, over the floats' bits. -/
theorem frame_shards_ref : Cert.quiescent_WeightsRef := fun m ρ _ =>
  (θ_run Cert.WeightsRef.defs _ _).mono (fun r h => ⟨fun c => (h c).2.2.2.2.2.2.2.2.2.2, sem_eq_zero_of_no_sems (by decide) r.2⟩)
    (Cert.WeightsRef.Value.run (F := Bits) m ρ)

/-- The reference of the gather of the weights runs, at exact floats. -/
theorem frame_shards_ref_ideal : Cert.quiescent_WeightsRefIdeal := fun m ρ _ =>
  (θ_run Cert.WeightsRefIdeal.defs _ _).mono (fun r h => ⟨fun c => (h c).2.2.2.2.2.2.2.2.2.2, sem_eq_zero_of_no_sems (by decide) r.2⟩)
    (Cert.WeightsRefIdeal.Value.run (F := Ideal) m ρ)

/-- The gather of the weights and its reference agree bit for bit. -/
theorem shards_bits : Cert.bitexact_Weights_WeightsRef := by
  intro m g m' g' _ hm
  refine ⟨_, _, _, _, _, _, _, _, _, _, ?_, (θ_run Cert.WeightsRef.defs _ _).mono (fun _ h => h 0) (Cert.WeightsRef.Value.run (F := Bits) m' g')⟩
  exact (θ_run Cert.WeightsIdeal.defs _ _).mono (fun r h c => Cert.Shards.values m r.2.mem m' hm h.1 c) (Cert.Shards.run_main (F := Bits) m g)

/-- The gather of the weights and its reference agree at exact floats. -/
theorem shards_exact : Cert.algebraic_WeightsIdeal_WeightsRefIdeal := by
  intro m g m' g' _ hm
  refine ⟨_, _, _, _, _, _, _, _, _, _, ?_, (θ_run Cert.WeightsRefIdeal.defs _ _).mono (fun _ h => h 0) (Cert.WeightsRefIdeal.Value.run (F := Ideal) m' g')⟩
  exact (θ_run Cert.WeightsIdeal.defs _ _).mono (fun r h c => Cert.Shards.values m r.2.mem m' hm h.1 c) (Cert.Shards.run_main (F := Ideal) m g)

/-- The whole claim. -/
theorem claim : Cert.Claim := ⟨Cert.Kernel.Gen.facts, Cert.KernelIdeal.Gen.facts, Cert.ReferenceIdeal.Gen.facts, Cert.Reference.Gen.facts,
  Cert.Exchange.Gen.facts, Cert.ExchangeIdeal.Gen.facts, Cert.ExchangeRefIdeal.Gen.facts, Cert.ExchangeRef.Gen.facts,
  Cert.Weights.Gen.facts, Cert.WeightsIdeal.Gen.facts, Cert.WeightsRefIdeal.Gen.facts, Cert.WeightsRef.Gen.facts,
  Cert.AdamIn.Gen.facts, Cert.AdamInIdeal.Gen.facts, Cert.AdamInRefIdeal.Gen.facts,
  Cert.AdamGlu.Gen.facts, Cert.AdamGluIdeal.Gen.facts, Cert.AdamGluRefIdeal.Gen.facts,
  Cert.AdamPool.Gen.facts, Cert.AdamPoolIdeal.Gen.facts, Cert.AdamPoolRefIdeal.Gen.facts,
  Cert.AdamBs.Gen.facts, Cert.AdamBsIdeal.Gen.facts, Cert.AdamBsRefIdeal.Gen.facts,
  Cert.AdamBp.Gen.facts, Cert.AdamBpIdeal.Gen.facts, Cert.AdamBpRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.Totals.Gen.facts, Cert.TotalsIdeal.Gen.facts, Cert.TotalsRefIdeal.Gen.facts,
  Cert.Norm.Gen.facts, Cert.NormIdeal.Gen.facts, Cert.NormRefIdeal.Gen.facts,
  Cert.PreNorm.Gen.facts, Cert.PreNormIdeal.Gen.facts, Cert.PreNormRefIdeal.Gen.facts,
  Cert.MidNorm.Gen.facts, Cert.MidNormIdeal.Gen.facts, Cert.MidNormRefIdeal.Gen.facts,
  Cert.PostFfn.Gen.facts, Cert.PostFfnIdeal.Gen.facts, Cert.PostFfnRefIdeal.Gen.facts,
  Cert.MidBwd.Gen.facts, Cert.MidBwdIdeal.Gen.facts, Cert.MidBwdRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.OutDw.Gen.facts, Cert.OutDwIdeal.Gen.facts, Cert.OutDwRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.FfnDownDx.Gen.facts, Cert.FfnDownDxIdeal.Gen.facts, Cert.FfnDownDxRefIdeal.Gen.facts,
  Cert.FfnDownDw.Gen.facts, Cert.FfnDownDwIdeal.Gen.facts, Cert.FfnDownDwRefIdeal.Gen.facts,
  Cert.FfnUpDx.Gen.facts, Cert.FfnUpDxIdeal.Gen.facts, Cert.FfnUpDxRefIdeal.Gen.facts,
  Cert.FfnUpDw.Gen.facts, Cert.FfnUpDwIdeal.Gen.facts, Cert.FfnUpDwRefIdeal.Gen.facts,
  frame_kernel, frame_ideal, frame_ref_ideal, frame_ref,
  frame_grads_kernel, frame_grads_ideal, frame_grads_ref_ideal, frame_grads_ref,
  frame_shards_kernel, frame_shards_ideal, frame_shards_ref_ideal, frame_shards_ref,
  Cert.Adam.In.frame_bits, Cert.Adam.In.frame_ideal, Cert.Adam.In.frame_ref,
  Cert.Adam.Glu.frame_bits, Cert.Adam.Glu.frame_ideal, Cert.Adam.Glu.frame_ref,
  Cert.Adam.Pool.frame_bits, Cert.Adam.Pool.frame_ideal, Cert.Adam.Pool.frame_ref,
  Cert.Adam.Bs.frame_bits, Cert.Adam.Bs.frame_ideal, Cert.Adam.Bs.frame_ref,
  Cert.Adam.Bp.frame_bits, Cert.Adam.Bp.frame_ideal, Cert.Adam.Bp.frame_ref,
  Cert.Adam.Out.frame_bits, Cert.Adam.Out.frame_ideal, Cert.Adam.Out.frame_ref,
  Cert.Adam.Up.frame_bits, Cert.Adam.Up.frame_ideal, Cert.Adam.Up.frame_ref,
  Cert.Adam.Down.frame_bits, Cert.Adam.Down.frame_ideal, Cert.Adam.Down.frame_ref,
  Cert.Adam.Small.frame_bits, Cert.Adam.Small.frame_ideal, Cert.Adam.Small.frame_ref,
  Cert.Adam.Totals.frame_bits, Cert.Adam.Totals.frame_ideal, Cert.Adam.Totals.frame_ref,
  Cert.Norms.First.frame_bits, Cert.Norms.First.frame_ideal, Cert.Norms.First.frame_ref,
  Cert.Norms.Pre.frame_bits, Cert.Norms.Pre.frame_ideal, Cert.Norms.Pre.frame_ref,
  Cert.Norms.Mid.frame_bits, Cert.Norms.Mid.frame_ideal, Cert.Norms.Mid.frame_ref,
  Cert.Norms.Post.frame_bits, Cert.Norms.Post.frame_ideal, Cert.Norms.Post.frame_ref,
  Cert.Norms.Back.frame_bits, Cert.Norms.Back.frame_ideal, Cert.Norms.Back.frame_ref,
  fun m g _ => Cert.InProj.Gen.frame (F := Bits) m g, fun m g _ => Cert.InProjIdeal.Gen.frame (F := Ideal) m g, fun m g _ =>
    (θ_run Cert.InProjRefIdeal.defs _ _).mono (fun r h => ⟨fun c => (h c).2, sem_eq_zero_of_no_sems (by decide) r.2⟩) (Cert.InProjRefIdeal.Value.run (F := Ideal) m g),
  fun m g _ => Cert.OutProj.Gen.frame (F := Bits) m g, fun m g _ => Cert.OutProjIdeal.Gen.frame (F := Ideal) m g, fun m g _ =>
    (θ_run Cert.OutProjRefIdeal.defs _ _).mono (fun r h => ⟨fun c => (h c).2, sem_eq_zero_of_no_sems (by decide) r.2⟩) (Cert.OutProjRefIdeal.Value.run (F := Ideal) m g),
  fun m g _ => Cert.InDx.Gen.frame (F := Bits) m g, fun m g _ => Cert.InDxIdeal.Gen.frame (F := Ideal) m g, fun m g _ =>
    (θ_run Cert.InDxRefIdeal.defs _ _).mono (fun r h => ⟨fun c => (h c).2, sem_eq_zero_of_no_sems (by decide) r.2⟩) (Cert.InDxRefIdeal.Value.run (F := Ideal) m g),
  fun m g _ => Cert.InDw.Gen.frame (F := Bits) m g, fun m g _ => Cert.InDwIdeal.Gen.frame (F := Ideal) m g, fun m g _ =>
    (θ_run Cert.InDwRefIdeal.defs _ _).mono (fun r h => ⟨fun c => (h c).2, sem_eq_zero_of_no_sems (by decide) r.2⟩) (Cert.InDwRefIdeal.Value.run (F := Ideal) m g),
  fun m g _ => Cert.OutDw.Gen.frame (F := Bits) m g, fun m g _ => Cert.OutDwIdeal.Gen.frame (F := Ideal) m g, fun m g _ =>
    (θ_run Cert.OutDwRefIdeal.defs _ _).mono (fun r h => ⟨fun c => (h c).2, sem_eq_zero_of_no_sems (by decide) r.2⟩) (Cert.OutDwRefIdeal.Value.run (F := Ideal) m g),
  fun m g _ => Cert.FfnUp.Gen.frame (F := Bits) m g, fun m g _ => Cert.FfnUpIdeal.Gen.frame (F := Ideal) m g, fun m g _ =>
    (θ_run Cert.FfnUpRefIdeal.defs _ _).mono (fun r h => ⟨fun c => (h c).2, sem_eq_zero_of_no_sems (by decide) r.2⟩) (Cert.FfnUpRefIdeal.Value.run (F := Ideal) m g),
  fun m g _ => Cert.FfnDown.Gen.frame (F := Bits) m g, fun m g _ => Cert.FfnDownIdeal.Gen.frame (F := Ideal) m g, fun m g _ =>
    (θ_run Cert.FfnDownRefIdeal.defs _ _).mono (fun r h => ⟨fun c => (h c).2, sem_eq_zero_of_no_sems (by decide) r.2⟩) (Cert.FfnDownRefIdeal.Value.run (F := Ideal) m g),
  fun m g _ => Cert.FfnDownDx.Gen.frame (F := Bits) m g, fun m g _ => Cert.FfnDownDxIdeal.Gen.frame (F := Ideal) m g, fun m g _ =>
    (θ_run Cert.FfnDownDxRefIdeal.defs _ _).mono (fun r h => ⟨fun c => (h c).2, sem_eq_zero_of_no_sems (by decide) r.2⟩) (Cert.FfnDownDxRefIdeal.Value.run (F := Ideal) m g),
  fun m g _ => Cert.FfnDownDw.Gen.frame (F := Bits) m g, fun m g _ => Cert.FfnDownDwIdeal.Gen.frame (F := Ideal) m g, fun m g _ =>
    (θ_run Cert.FfnDownDwRefIdeal.defs _ _).mono (fun r h => ⟨fun c => (h c).2, sem_eq_zero_of_no_sems (by decide) r.2⟩) (Cert.FfnDownDwRefIdeal.Value.run (F := Ideal) m g),
  fun m g _ => Cert.FfnUpDx.Gen.frame (F := Bits) m g, fun m g _ => Cert.FfnUpDxIdeal.Gen.frame (F := Ideal) m g, fun m g _ =>
    (θ_run Cert.FfnUpDxRefIdeal.defs _ _).mono (fun r h => ⟨fun c => (h c).2, sem_eq_zero_of_no_sems (by decide) r.2⟩) (Cert.FfnUpDxRefIdeal.Value.run (F := Ideal) m g),
  fun m g _ => Cert.FfnUpDw.Gen.frame (F := Bits) m g, fun m g _ => Cert.FfnUpDwIdeal.Gen.frame (F := Ideal) m g, fun m g _ =>
    (θ_run Cert.FfnUpDwRefIdeal.defs _ _).mono (fun r h => ⟨fun c => (h c).2.2, sem_eq_zero_of_no_sems (by decide) r.2⟩) (Cert.FfnUpDwRefIdeal.Value.run (F := Ideal) m g),
  trivial, bits, exact_values, trivial, grads_bits, grads_exact, trivial, shards_bits, shards_exact,
  trivial, Cert.Adam.In.exact,
  trivial, Cert.Adam.Glu.exact,
  trivial, Cert.Adam.Pool.exact,
  trivial, Cert.Adam.Bs.exact,
  trivial, Cert.Adam.Bp.exact,
  trivial, Cert.Adam.Out.exact,
  trivial, Cert.Adam.Up.exact,
  trivial, Cert.Adam.Down.exact,
  trivial, Cert.Adam.Small.exact,
  trivial, Cert.Adam.Totals.exact,
  trivial, Cert.Norms.First.exact,
  trivial, Cert.Norms.Pre.exact,
  trivial, Cert.Norms.Mid.exact,
  trivial, Cert.Norms.Post.exact,
  trivial, Cert.Norms.Back.exact,
  trivial, Cert.Products.InProj.exact,
  trivial, Cert.Products.OutProj.exact,
  trivial, Cert.Products.InDx.exact,
  trivial, Cert.Products.InDw.exact,
  trivial, Cert.Products.OutDw.exact,
  trivial, Cert.Products.FfnUp.exact,
  trivial, Cert.Products.FfnDown.exact,
  trivial, Cert.Products.FfnDownDx.exact,
  trivial, Cert.Products.FfnDownDw.exact,
  trivial, Cert.Products.FfnUpDx.exact,
  trivial, Cert.Products.FfnUpDw.exact⟩

end Cert.Proof

end
